-- ==== Defs.lean ====
def Pre_Kernel [hPre_table_fits : Cert.Pre_table_fits.Facts] (m : (ℓ : Loc Cert.Kernel.nD Cert.Kernel.τ Cert.Kernel.sig) → Buf (Elt Bits) ℓ) : Prop :=
  ∀ c : Dev Cert.Kernel.nD,
    (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.1 = (fun _ => 1#1)
    ∧ (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2.1 = (fun _ => 1#1)
    ∧ (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2.2.1 = (fun _ => 1#1)
    ∧ (Cert.Pre_table_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2.2.2.2 = (fun _ => 1#1)

def Pre_KernelIdeal [hPre_table_fits : Cert.Pre_table_fits.Facts] (m : (ℓ : Loc Cert.KernelIdeal.nD Cert.KernelIdeal.τ Cert.KernelIdeal.sig) → Buf (Elt Ideal) ℓ) : Prop :=
  ∀ c : Dev Cert.KernelIdeal.nD,
    (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_table_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_KernelIdeal_rows_placed [hPre_rows_placed : Cert.Pre_rows_placed.Facts] (m : (ℓ : Loc Cert.KernelIdeal.nD Cert.KernelIdeal.τ Cert.KernelIdeal.sig) → Buf (Elt Ideal) ℓ) : Prop :=
  ∀ c : Dev Cert.KernelIdeal.nD,
    (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_rows_placed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_placed [hPre_rows_placed : Cert.Pre_rows_placed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_rows_placed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2 = (fun _ => 1#1)

def quiescent_Kernel [hKernel : Cert.Kernel.Facts] [hPre_table_fits : Cert.Pre_table_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_table_fits : Cert.Pre_table_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_placed [hKernelIdeal : Cert.KernelIdeal.Facts] [hPre_rows_placed : Cert.Pre_rows_placed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_placed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_placed [hReferenceIdeal : Cert.ReferenceIdeal.Facts] [hPre_rows_placed : Cert.Pre_rows_placed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_placed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_placed [hKernelIdeal : Cert.KernelIdeal.Facts] [hReferenceIdeal : Cert.ReferenceIdeal.Facts] [hPre_rows_placed : Cert.Pre_rows_placed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_placed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_table_fits : Cert.Pre_table_fits.Facts) (hPre_rows_placed : Cert.Pre_rows_placed.Facts),
    quiescent_Kernel (hKernel := hKernel) (hPre_table_fits := hPre_table_fits)
    ∧ quiescent_KernelIdeal (hKernelIdeal := hKernelIdeal) (hPre_table_fits := hPre_table_fits)
    ∧ quiescent_KernelIdeal_pre_rows_placed (hKernelIdeal := hKernelIdeal) (hPre_rows_placed := hPre_rows_placed)
    ∧ quiescent_ReferenceIdeal (hReferenceIdeal := hReferenceIdeal)
    ∧ quiescent_ReferenceIdeal_pre_rows_placed (hReferenceIdeal := hReferenceIdeal) (hPre_rows_placed := hPre_rows_placed)
    ∧ preserves_Kernel_KernelIdeal
    ∧ algebraic_KernelIdeal_ReferenceIdeal_pre_rows_placed (hKernelIdeal := hKernelIdeal) (hReferenceIdeal := hReferenceIdeal) (hPre_rows_placed := hPre_rows_placed)
-- ==== Pre_rows_placed.lean ====
abbrev S9088x3584 : Shape := ⟨2, ![9088, 3584]⟩
abbrev S9088x128 : Shape := ⟨2, ![9088, 128]⟩
abbrev S1536x128 : Shape := ⟨2, ![1536, 128]⟩
abbrev S8x1536 : Shape := ⟨2, ![8, 1536]⟩
abbrev S2x1536 : Shape := ⟨2, ![2, 1536]⟩
abbrev S4x1536 : Shape := ⟨2, ![4, 1536]⟩
abbrev S1536x4x256 : Shape := ⟨3, ![1536, 4, 256]⟩
abbrev S2x48x32 : Shape := ⟨3, ![2, 48, 32]⟩
abbrev S48x2x32 : Shape := ⟨3, ![48, 2, 32]⟩
abbrev S48x1x64x1 : Shape := ⟨4, ![48, 1, 64, 1]⟩
abbrev S_ : Shape := ⟨0, ![]⟩
abbrev S48x32x64x4 : Shape := ⟨4, ![48, 32, 64, 4]⟩
abbrev S1536x1x256 : Shape := ⟨3, ![1536, 1, 256]⟩
abbrev S1536x4 : Shape := ⟨2, ![1536, 4]⟩
abbrev S1536x4x1 : Shape := ⟨3, ![1536, 4, 1]⟩
abbrev S48x64 : Shape := ⟨2, ![48, 64]⟩
abbrev S1x1536 : Shape := ⟨2, ![1, 1536]⟩
abbrev S1536 : Shape := ⟨1, ![1536]⟩
abbrev S48x32 : Shape := ⟨2, ![48, 32]⟩
abbrev S48x1 : Shape := ⟨2, ![48, 1]⟩
abbrev S1536x1 : Shape := ⟨2, ![1536, 1]⟩
abbrev S1536x1536 : Shape := ⟨2, ![1536, 1536]⟩
abbrev S48x64x1 : Shape := ⟨3, ![48, 64, 1]⟩
abbrev S1x1x1536 : Shape := ⟨3, ![1, 1, 1536]⟩
abbrev S48x64x1536 : Shape := ⟨3, ![48, 64, 1536]⟩

class Facts : Prop where
  slices_S8x1536_S2x1536_0_0 : S8x1536.Slices ![0, 0] S2x1536
  slices_S8x1536_S4x1536_4_0 : S8x1536.Slices ![4, 0] S4x1536
  shapeCasts_S2x1536_S2x48x32 : S2x1536.ShapeCasts S2x48x32
  transposes_S2x48x32_S48x2x32_1_0_2 : S2x48x32.Transposes [1, 0, 2] S48x2x32
  shapeCasts_S48x2x32_S48x1x64x1 : S48x2x32.ShapeCasts S48x1x64x1
  bcast_S_S48x1x64x1 : S_.BroadcastsInDim S48x1x64x1 (![] : Fin 0 → Fin S48x1x64x1.rank)
  bcast_S48x1x64x1_S48x32x64x4_0_1_2_3 : S48x1x64x1.BroadcastsInDim S48x32x64x4 (![0, 1, 2, 3] : Fin 4 → Fin S48x32x64x4.rank)
  shapeCasts_S48x32x64x4_S1536x1x256 : S48x32x64x4.ShapeCasts S1536x1x256
  transposes_S4x1536_S1536x4_1_0 : S4x1536.Transposes [1, 0] S1536x4
  bcast_S1536x4_S1536x4x1_0_1 : S1536x4.BroadcastsInDim S1536x4x1 (![0, 1] : Fin 2 → Fin S1536x4x1.rank)
  bcast_S1536x1x256_S1536x4x256_0_1_2 : S1536x1x256.BroadcastsInDim S1536x4x256 (![0, 1, 2] : Fin 3 → Fin S1536x4x256.rank)
  bcast_S1536x4x1_S1536x4x256_0_1_2 : S1536x4x1.BroadcastsInDim S1536x4x256 (![0, 1, 2] : Fin 3 → Fin S1536x4x256.rank)
  slices_S1536x128_S1536x4_0_0 : S1536x128.Slices ![0, 0] S1536x4
  shapeCasts_S48x2x32_S48x64 : S48x2x32.ShapeCasts S48x64
  slices_S8x1536_S1x1536_2_0 : S8x1536.Slices ![2, 0] S1x1536
  shapeCasts_S1x1536_S1536 : S1x1536.ShapeCasts S1536
  shapeCasts_S1536_S48x32 : S1536.ShapeCasts S48x32
  slices_S8x1536_S1x1536_3_0 : S8x1536.Slices ![3, 0] S1x1536
  slices_S48x32_S48x1_0_0 : S48x32.Slices ![0, 0] S48x1
  bcast_S48x1_S48x32_0_1 : S48x1.BroadcastsInDim S48x32 (![0, 1] : Fin 2 → Fin S48x32.rank)
  shapeCasts_S48x32_S1536 : S48x32.ShapeCasts S1536
  bcast_S1536_S1536x1_0 : S1536.BroadcastsInDim S1536x1 (![0] : Fin 1 → Fin S1536x1.rank)
  bcast_S1536_S1x1536_1 : S1536.BroadcastsInDim S1x1536 (![1] : Fin 1 → Fin S1x1536.rank)
  bcast_S1536x1_S1536x1536_0_1 : S1536x1.BroadcastsInDim S1536x1536 (![0, 1] : Fin 2 → Fin S1536x1536.rank)
  bcast_S1x1536_S1536x1536_0_1 : S1x1536.BroadcastsInDim S1536x1536 (![0, 1] : Fin 2 → Fin S1536x1536.rank)
  bcast_S_S1536 : S_.BroadcastsInDim S1536 (![] : Fin 0 → Fin S1536.rank)
  bcast_S48x64_S48x64x1_0_1 : S48x64.BroadcastsInDim S48x64x1 (![0, 1] : Fin 2 → Fin S48x64x1.rank)
  bcast_S1536_S1x1x1536_2 : S1536.BroadcastsInDim S1x1x1536 (![2] : Fin 1 → Fin S1x1x1536.rank)
  bcast_S48x64x1_S48x64x1536_0_1_2 : S48x64x1.BroadcastsInDim S48x64x1536 (![0, 1, 2] : Fin 3 → Fin S48x64x1536.rank)
  bcast_S1x1x1536_S48x64x1536_0_1_2 : S1x1x1536.BroadcastsInDim S48x64x1536 (![0, 1, 2] : Fin 3 → Fin S48x64x1536.rank)
  bcast_S_S48x64x1536 : S_.BroadcastsInDim S48x64x1536 (![] : Fin 0 → Fin S48x64x1536.rank)
  bcast_S_S48x64 : S_.BroadcastsInDim S48x64 (![] : Fin 0 → Fin S48x64.rank)
  bcast_S_S4x1536 : S_.BroadcastsInDim S4x1536 (![] : Fin 0 → Fin S4x1536.rank)
  bcast_S_S48x1 : S_.BroadcastsInDim S48x1 (![] : Fin 0 → Fin S48x1.rank)
  bcast_S_S48x32 : S_.BroadcastsInDim S48x32 (![] : Fin 0 → Fin S48x32.rank)
  reducesTo_S48x64x1536_S48x64_d2 : S48x64x1536.ReducesTo [2] S48x64
  h_S_ : 0 < S_.numel
  reducesTo_S1536x4x256_S1536x4_d2 : S1536x4x256.ReducesTo [2] S1536x4

variable [Facts]

def fn_part5 {F : FTy → Type} [FloatOps F] (main_v22 : IVec S1536x4x256 1) (main_v80 : IVec S48x64 1) (main_v85 : IVec S4x1536 1) (main_v90 : IVec S48x1 1) (main_v97 : IVec S48x32 1) (main_v102 : IVec S1536x1536 1) (main_v104 : IVec S48x64 1) (main_c_13 : IVec S_ 1) : IVec S48x64 1 × IVec S4x1536 1 × IVec S48x1 1 × IVec S48x32 1 × IVec S1536x1536 1 × IVec S48x64 1 × IVec S1536x4 1 :=
  let main_v105 : IVec S1536x4 1 := (fun x v => Host.reduce IntOp.ori x v reducesTo_S1536x4x256_S1536x4_d2 h_S_) main_v22 main_c_13
  (main_v80, main_v85, main_v90, main_v97, main_v102, main_v104, main_v105)

def fn_part4 {F : FTy → Type} [FloatOps F] (main_v22 : IVec S1536x4x256 1) (main_v29 : IVec S48x32 32) (main_v33 : IVec S48x1 32) (main_v37 : IVec S48x32 1) (main_v50 : IVec S1536x1536 1) (main_v68 : IVec S48x64x1536 1) (main_v75 : IVec S48x64x1536 1) (main_v80 : IVec S48x64 1) (main_v85 : IVec S4x1536 1) (main_c_8 : IVec S_ 32) : IVec S48x64 1 × IVec S4x1536 1 × IVec S48x1 1 × IVec S48x32 1 × IVec S1536x1536 1 × IVec S48x64 1 × IVec S1536x4 1 :=
  let main_v86 : IVec S48x1 32 := broadcastInDim S48x1 ![] bcast_S_S48x1 main_c_8
  let main_v87 : IVec S48x1 1 := cmpi .sge main_v33 main_v86
  let main_c_9 : IVec S_ 32 := constantI S_ 32 32#32
  let main_v88 : IVec S48x1 32 := broadcastInDim S48x1 ![] bcast_S_S48x1 main_c_9
  let main_v89 : IVec S48x1 1 := cmpi .sle main_v33 main_v88
  let main_v90 : IVec S48x1 1 := andi main_v87 main_v89
  let main_v91 : IVec S48x32 1 := noti main_v37
  let main_c_10 : IVec S_ 32 := constantI S_ 32 0#32
  let main_v92 : IVec S48x32 32 := broadcastInDim S48x32 ![] bcast_S_S48x32 main_c_10
  let main_v93 : IVec S48x32 1 := cmpi .sge main_v29 main_v92
  let main_c_11 : IVec S_ 32 := constantI S_ 32 284#32
  let main_v94 : IVec S48x32 32 := broadcastInDim S48x32 ![] bcast_S_S48x32 main_c_11
  let main_v95 : IVec S48x32 1 := cmpi .slt main_v29 main_v94
  let main_v96 : IVec S48x32 1 := andi main_v93 main_v95
  let main_v97 : IVec S48x32 1 := ori main_v91 main_v96
  let main_v98 : IVec S1536x1536 1 := noti main_v50
  let main_v99 : IVec S1536x1536 32 := iotaInDim S1536x1536 32 0
  let main_v100 : IVec S1536x1536 32 := iotaInDim S1536x1536 32 1
  let main_v101 : IVec S1536x1536 1 := cmpi .eq main_v99 main_v100
  let main_v102 : IVec S1536x1536 1 := ori main_v98 main_v101
  let main_v103 : IVec S48x64x1536 1 := andi main_v68 main_v75
  let main_c_12 : IVec S_ 1 := constantI S_ 1 0#1
  let main_v104 : IVec S48x64 1 := (fun x v => Host.reduce IntOp.ori x v reducesTo_S48x64x1536_S48x64_d2 h_S_) main_v103 main_c_12
  let main_c_13 : IVec S_ 1 := constantI S_ 1 0#1
  fn_part5 (F := F) main_v22 main_v80 main_v85 main_v90 main_v97 main_v102 main_v104 main_c_13

def fn_part3 {F : FTy → Type} [FloatOps F] (main_v22 : IVec S1536x4x256 1) (main_v26 : IVec S48x64 32) (main_v29 : IVec S48x32 32) (main_v33 : IVec S48x1 32) (main_v34 : IVec S4x1536 32) (main_v37 : IVec S48x32 1) (main_v50 : IVec S1536x1536 1) (main_v68 : IVec S48x64x1536 1) : IVec S48x64 1 × IVec S4x1536 1 × IVec S48x1 1 × IVec S48x32 1 × IVec S1536x1536 1 × IVec S48x64 1 × IVec S1536x4 1 :=
  let main_v69 : IVec S48x64x1536 32 := iotaInDim S48x64x1536 32 2
  let main_v70 : IVec S48x64x1536 32 := iotaInDim S48x64x1536 32 0
  let main_c_2 : IVec S_ 32 := constantI S_ 32 1#32
  let main_v71 : IVec S48x64x1536 32 := broadcastInDim S48x64x1536 ![] bcast_S_S48x64x1536 main_c_2
  let main_v72 : IVec S48x64x1536 32 := addi main_v70 main_v71
  let main_c_3 : IVec S_ 32 := constantI S_ 32 32#32
  let main_v73 : IVec S48x64x1536 32 := broadcastInDim S48x64x1536 ![] bcast_S_S48x64x1536 main_c_3
  let main_v74 : IVec S48x64x1536 32 := muli main_v72 main_v73
  let main_v75 : IVec S48x64x1536 1 := cmpi .slt main_v69 main_v74
  let main_c_4 : IVec S_ 32 := constantI S_ 32 0#32
  let main_v76 : IVec S48x64 32 := broadcastInDim S48x64 ![] bcast_S_S48x64 main_c_4
  let main_v77 : IVec S48x64 1 := cmpi .sge main_v26 main_v76
  let main_c_5 : IVec S_ 32 := constantI S_ 32 2272#32
  let main_v78 : IVec S48x64 32 := broadcastInDim S48x64 ![] bcast_S_S48x64 main_c_5
  let main_v79 : IVec S48x64 1 := cmpi .slt main_v26 main_v78
  let main_v80 : IVec S48x64 1 := andi main_v77 main_v79
  let main_c_6 : IVec S_ 32 := constantI S_ 32 0#32
  let main_v81 : IVec S4x1536 32 := broadcastInDim S4x1536 ![] bcast_S_S4x1536 main_c_6
  let main_v82 : IVec S4x1536 1 := cmpi .sge main_v34 main_v81
  let main_c_7 : IVec S_ 32 := constantI S_ 32 9088#32
  let main_v83 : IVec S4x1536 32 := broadcastInDim S4x1536 ![] bcast_S_S4x1536 main_c_7
  let main_v84 : IVec S4x1536 1 := cmpi .slt main_v34 main_v83
  let main_v85 : IVec S4x1536 1 := andi main_v82 main_v84
  let main_c_8 : IVec S_ 32 := constantI S_ 32 0#32
  fn_part4 (F := F) main_v22 main_v29 main_v33 main_v37 main_v50 main_v68 main_v75 main_v80 main_v85 main_c_8

def fn_part2 {F : FTy → Type} [FloatOps F] (main_v22 : IVec S1536x4x256 1) (main_v26 : IVec S48x64 32) (main_v29 : IVec S48x32 32) (main_v33 : IVec S48x1 32) (main_v34 : IVec S4x1536 32) (main_v37 : IVec S48x32 1) (main_v38 : IVec S1536 32) (main_v39 : IVec S1536 1) (main_v44 : IVec S1536x1536 1) (main_v45 : IVec S1536x1 32) (main_v46 : IVec S1x1536 32) : IVec S48x64 1 × IVec S4x1536 1 × IVec S48x1 1 × IVec S48x32 1 × IVec S1536x1536 1 × IVec S48x64 1 × IVec S1536x4 1 :=
  let main_v47 : IVec S1536x1536 32 := broadcastInDim S1536x1536 ![0, 1] bcast_S1536x1_S1536x1536_0_1 main_v45
  let main_v48 : IVec S1536x1536 32 := broadcastInDim S1536x1536 ![0, 1] bcast_S1x1536_S1536x1536_0_1 main_v46
  let main_v49 : IVec S1536x1536 1 := cmpi .eq main_v47 main_v48
  let main_v50 : IVec S1536x1536 1 := andi main_v44 main_v49
  let main_c_0 : IVec S_ 32 := constantI S_ 32 8#32
  let main_v51 : IVec S1536 32 := broadcastInDim S1536 ![] bcast_S_S1536 main_c_0
  let main_v52 : IVec S1536 32 := muli main_v51 main_v38
  let main_v53 : IVec S48x64x1 32 := broadcastInDim S48x64x1 ![0, 1] bcast_S48x64_S48x64x1_0_1 main_v26
  let main_v54 : IVec S1x1x1536 32 := broadcastInDim S1x1x1536 ![2] bcast_S1536_S1x1x1536_2 main_v52
  let main_v55 : IVec S48x64x1536 32 := broadcastInDim S48x64x1536 ![0, 1, 2] bcast_S48x64x1_S48x64x1536_0_1_2 main_v53
  let main_v56 : IVec S48x64x1536 32 := broadcastInDim S48x64x1536 ![0, 1, 2] bcast_S1x1x1536_S48x64x1536_0_1_2 main_v54
  let main_v57 : IVec S48x64x1536 1 := cmpi .sge main_v55 main_v56
  let main_v58 : IVec S48x64x1 32 := broadcastInDim S48x64x1 ![0, 1] bcast_S48x64_S48x64x1_0_1 main_v26
  let main_c_1 : IVec S_ 32 := constantI S_ 32 8#32
  let main_v59 : IVec S1536 32 := broadcastInDim S1536 ![] bcast_S_S1536 main_c_1
  let main_v60 : IVec S1536 32 := addi main_v52 main_v59
  let main_v61 : IVec S1x1x1536 32 := broadcastInDim S1x1x1536 ![2] bcast_S1536_S1x1x1536_2 main_v60
  let main_v62 : IVec S48x64x1536 32 := broadcastInDim S48x64x1536 ![0, 1, 2] bcast_S48x64x1_S48x64x1536_0_1_2 main_v58
  let main_v63 : IVec S48x64x1536 32 := broadcastInDim S48x64x1536 ![0, 1, 2] bcast_S1x1x1536_S48x64x1536_0_1_2 main_v61
  let main_v64 : IVec S48x64x1536 1 := cmpi .slt main_v62 main_v63
  let main_v65 : IVec S48x64x1536 1 := andi main_v57 main_v64
  let main_v66 : IVec S1x1x1536 1 := broadcastInDim S1x1x1536 ![2] bcast_S1536_S1x1x1536_2 main_v39
  let main_v67 : IVec S48x64x1536 1 := broadcastInDim S48x64x1536 ![0, 1, 2] bcast_S1x1x1536_S48x64x1536_0_1_2 main_v66
  let main_v68 : IVec S48x64x1536 1 := andi main_v65 main_v67
  fn_part3 (F := F) main_v22 main_v26 main_v29 main_v33 main_v34 main_v37 main_v50 main_v68

def fn_part1 {F : FTy → Type} [FloatOps F] (main_arg3 : IVec S8x1536 32) (main_v22 : IVec S1536x4x256 1) : IVec S48x64 1 × IVec S4x1536 1 × IVec S48x1 1 × IVec S48x32 1 × IVec S1536x1536 1 × IVec S48x64 1 × IVec S1536x4 1 :=
  let main_v23 : IVec S2x1536 32 := (extractStridedSlice S2x1536 ![0, 0] · slices_S8x1536_S2x1536_0_0) main_arg3
  let main_v24 : IVec S2x48x32 32 := shapeCast S2x48x32 main_v23 shapeCasts_S2x1536_S2x48x32
  let main_v25 : IVec S48x2x32 32 := (transpose S48x2x32 [1, 0, 2] · transposes_S2x48x32_S48x2x32_1_0_2) main_v24
  let main_v26 : IVec S48x64 32 := shapeCast S48x64 main_v25 shapeCasts_S48x2x32_S48x64
  let main_v27 : IVec S1x1536 32 := (extractStridedSlice S1x1536 ![2, 0] · slices_S8x1536_S1x1536_2_0) main_arg3
  let main_v28 : IVec S1536 32 := shapeCast S1536 main_v27 shapeCasts_S1x1536_S1536
  let main_v29 : IVec S48x32 32 := shapeCast S48x32 main_v28 shapeCasts_S1536_S48x32
  let main_v30 : IVec S1x1536 32 := (extractStridedSlice S1x1536 ![3, 0] · slices_S8x1536_S1x1536_3_0) main_arg3
  let main_v31 : IVec S1536 32 := shapeCast S1536 main_v30 shapeCasts_S1x1536_S1536
  let main_v32 : IVec S48x32 32 := shapeCast S48x32 main_v31 shapeCasts_S1536_S48x32
  let main_v33 : IVec S48x1 32 := (extractStridedSlice S48x1 ![0, 0] · slices_S48x32_S48x1_0_0) main_v32
  let main_v34 : IVec S4x1536 32 := (extractStridedSlice S4x1536 ![4, 0] · slices_S8x1536_S4x1536_4_0) main_arg3
  let main_v35 : IVec S48x32 32 := iotaInDim S48x32 32 1
  let main_v36 : IVec S48x32 32 := broadcastInDim S48x32 ![0, 1] bcast_S48x1_S48x32_0_1 main_v33
  let main_v37 : IVec S48x32 1 := cmpi .slt main_v35 main_v36
  let main_v38 : IVec S1536 32 := shapeCast S1536 main_v29 shapeCasts_S48x32_S1536
  let main_v39 : IVec S1536 1 := shapeCast S1536 main_v37 shapeCasts_S48x32_S1536
  let main_v40 : IVec S1536x1 1 := broadcastInDim S1536x1 ![0] bcast_S1536_S1536x1_0 main_v39
  let main_v41 : IVec S1x1536 1 := broadcastInDim S1x1536 ![1] bcast_S1536_S1x1536_1 main_v39
  let main_v42 : IVec S1536x1536 1 := broadcastInDim S1536x1536 ![0, 1] bcast_S1536x1_S1536x1536_0_1 main_v40
  let main_v43 : IVec S1536x1536 1 := broadcastInDim S1536x1536 ![0, 1] bcast_S1x1536_S1536x1536_0_1 main_v41
  let main_v44 : IVec S1536x1536 1 := andi main_v42 main_v43
  let main_v45 : IVec S1536x1 32 := broadcastInDim S1536x1 ![0] bcast_S1536_S1536x1_0 main_v38
  let main_v46 : IVec S1x1536 32 := broadcastInDim S1x1536 ![1] bcast_S1536_S1x1536_1 main_v38
  fn_part2 (F := F) main_v22 main_v26 main_v29 main_v33 main_v34 main_v37 main_v38 main_v39 main_v44 main_v45 main_v46

def fn {F : FTy → Type} [FloatOps F] (main_arg0 : IVec S9088x3584 8) (main_arg1 : FVec F S9088x128 .f32) (main_arg2 : FVec F S1536x128 .f32) (main_arg3 : IVec S8x1536 32) : IVec S48x64 1 × IVec S4x1536 1 × IVec S48x1 1 × IVec S48x32 1 × IVec S1536x1536 1 × IVec S48x64 1 × IVec S1536x4 1 :=
  let main_v0 : IVec S2x1536 32 := (extractStridedSlice S2x1536 ![0, 0] · slices_S8x1536_S2x1536_0_0) main_arg3
  let main_v1 : IVec S4x1536 32 := (extractStridedSlice S4x1536 ![4, 0] · slices_S8x1536_S4x1536_4_0) main_arg3
  let main_v2 : IVec S1536x4x256 32 := iotaInDim S1536x4x256 32 2
  let main_v3 : IVec S2x48x32 32 := shapeCast S2x48x32 main_v0 shapeCasts_S2x1536_S2x48x32
  let main_v4 : IVec S48x2x32 32 := (transpose S48x2x32 [1, 0, 2] · transposes_S2x48x32_S48x2x32_1_0_2) main_v3
  let main_v5 : IVec S48x1x64x1 32 := shapeCast S48x1x64x1 main_v4 shapeCasts_S48x2x32_S48x1x64x1
  let main_c : IVec S_ 32 := constantI S_ 32 4#32
  let main_v6 : IVec S48x1x64x1 32 := broadcastInDim S48x1x64x1 ![] bcast_S_S48x1x64x1 main_c
  let main_v7 : IVec S48x1x64x1 32 := muli main_v5 main_v6
  let main_v8 : IVec S48x32x64x4 32 := iotaInDim S48x32x64x4 32 3
  let main_v9 : IVec S48x32x64x4 32 := broadcastInDim S48x32x64x4 ![0, 1, 2, 3] bcast_S48x1x64x1_S48x32x64x4_0_1_2_3 main_v7
  let main_v10 : IVec S48x32x64x4 32 := addi main_v9 main_v8
  let main_v11 : IVec S1536x1x256 32 := shapeCast S1536x1x256 main_v10 shapeCasts_S48x32x64x4_S1536x1x256
  let main_v12 : IVec S1536x4 32 := (transpose S1536x4 [1, 0] · transposes_S4x1536_S1536x4_1_0) main_v1
  let main_v13 : IVec S1536x4x1 32 := broadcastInDim S1536x4x1 ![0, 1] bcast_S1536x4_S1536x4x1_0_1 main_v12
  let main_v14 : IVec S1536x4x256 32 := broadcastInDim S1536x4x256 ![0, 1, 2] bcast_S1536x1x256_S1536x4x256_0_1_2 main_v11
  let main_v15 : IVec S1536x4x256 32 := broadcastInDim S1536x4x256 ![0, 1, 2] bcast_S1536x4x1_S1536x4x256_0_1_2 main_v13
  let main_v16 : IVec S1536x4x256 1 := cmpi .eq main_v14 main_v15
  let main_v17 : FVec F S1536x4 .f32 := (extractStridedSlice S1536x4 ![0, 0] · slices_S1536x128_S1536x4_0_0) main_arg2
  let main_v18 : FVec F S1536x4x1 .f32 := broadcastInDim S1536x4x1 ![0, 1] bcast_S1536x4_S1536x4x1_0_1 main_v17
  let main_v19 : FVec F S1536x4x256 .f32 := sitofp .f32 main_v2
  let main_v20 : FVec F S1536x4x256 .f32 := broadcastInDim S1536x4x256 ![0, 1, 2] bcast_S1536x4x1_S1536x4x256_0_1_2 main_v18
  let main_v21 : IVec S1536x4x256 1 := cmpf .oeq main_v20 main_v19
  let main_v22 : IVec S1536x4x256 1 := andi main_v16 main_v21
  fn_part1 (F := F) main_arg3 main_v22
-- ==== Pre_table_fits.lean ====
abbrev S9088x3584 : Shape := ⟨2, ![9088, 3584]⟩
abbrev S9088x128 : Shape := ⟨2, ![9088, 128]⟩
abbrev S1536x128 : Shape := ⟨2, ![1536, 128]⟩
abbrev S8x1536 : Shape := ⟨2, ![8, 1536]⟩
abbrev S2x1536 : Shape := ⟨2, ![2, 1536]⟩
abbrev S2x48x32 : Shape := ⟨3, ![2, 48, 32]⟩
abbrev S48x2x32 : Shape := ⟨3, ![48, 2, 32]⟩
abbrev S48x64 : Shape := ⟨2, ![48, 64]⟩
abbrev S1x1536 : Shape := ⟨2, ![1, 1536]⟩
abbrev S1536 : Shape := ⟨1, ![1536]⟩
abbrev S48x32 : Shape := ⟨2, ![48, 32]⟩
abbrev S48x1 : Shape := ⟨2, ![48, 1]⟩
abbrev S4x1536 : Shape := ⟨2, ![4, 1536]⟩
abbrev S1536x1 : Shape := ⟨2, ![1536, 1]⟩
abbrev S1536x1536 : Shape := ⟨2, ![1536, 1536]⟩
abbrev S_ : Shape := ⟨0, ![]⟩
abbrev S48x64x1 : Shape := ⟨3, ![48, 64, 1]⟩
abbrev S1x1x1536 : Shape := ⟨3, ![1, 1, 1536]⟩
abbrev S48x64x1536 : Shape := ⟨3, ![48, 64, 1536]⟩

class Facts : Prop where
  slices_S8x1536_S2x1536_0_0 : S8x1536.Slices ![0, 0] S2x1536
  shapeCasts_S2x1536_S2x48x32 : S2x1536.ShapeCasts S2x48x32
  transposes_S2x48x32_S48x2x32_1_0_2 : S2x48x32.Transposes [1, 0, 2] S48x2x32
  shapeCasts_S48x2x32_S48x64 : S48x2x32.ShapeCasts S48x64
  slices_S8x1536_S1x1536_2_0 : S8x1536.Slices ![2, 0] S1x1536
  shapeCasts_S1x1536_S1536 : S1x1536.ShapeCasts S1536
  shapeCasts_S1536_S48x32 : S1536.ShapeCasts S48x32
  slices_S8x1536_S1x1536_3_0 : S8x1536.Slices ![3, 0] S1x1536
  slices_S48x32_S48x1_0_0 : S48x32.Slices ![0, 0] S48x1
  slices_S8x1536_S4x1536_4_0 : S8x1536.Slices ![4, 0] S4x1536
  bcast_S48x1_S48x32_0_1 : S48x1.BroadcastsInDim S48x32 (![0, 1] : Fin 2 → Fin S48x32.rank)
  shapeCasts_S48x32_S1536 : S48x32.ShapeCasts S1536
  bcast_S1536_S1536x1_0 : S1536.BroadcastsInDim S1536x1 (![0] : Fin 1 → Fin S1536x1.rank)
  bcast_S1536_S1x1536_1 : S1536.BroadcastsInDim S1x1536 (![1] : Fin 1 → Fin S1x1536.rank)
  bcast_S1536x1_S1536x1536_0_1 : S1536x1.BroadcastsInDim S1536x1536 (![0, 1] : Fin 2 → Fin S1536x1536.rank)
  bcast_S1x1536_S1536x1536_0_1 : S1x1536.BroadcastsInDim S1536x1536 (![0, 1] : Fin 2 → Fin S1536x1536.rank)
  bcast_S_S1536 : S_.BroadcastsInDim S1536 (![] : Fin 0 → Fin S1536.rank)
  bcast_S48x64_S48x64x1_0_1 : S48x64.BroadcastsInDim S48x64x1 (![0, 1] : Fin 2 → Fin S48x64x1.rank)
  bcast_S1536_S1x1x1536_2 : S1536.BroadcastsInDim S1x1x1536 (![2] : Fin 1 → Fin S1x1x1536.rank)
  bcast_S48x64x1_S48x64x1536_0_1_2 : S48x64x1.BroadcastsInDim S48x64x1536 (![0, 1, 2] : Fin 3 → Fin S48x64x1536.rank)
  bcast_S1x1x1536_S48x64x1536_0_1_2 : S1x1x1536.BroadcastsInDim S48x64x1536 (![0, 1, 2] : Fin 3 → Fin S48x64x1536.rank)
  bcast_S_S48x64x1536 : S_.BroadcastsInDim S48x64x1536 (![] : Fin 0 → Fin S48x64x1536.rank)
  bcast_S_S48x64 : S_.BroadcastsInDim S48x64 (![] : Fin 0 → Fin S48x64.rank)
  bcast_S_S4x1536 : S_.BroadcastsInDim S4x1536 (![] : Fin 0 → Fin S4x1536.rank)
  bcast_S_S48x1 : S_.BroadcastsInDim S48x1 (![] : Fin 0 → Fin S48x1.rank)
  bcast_S_S48x32 : S_.BroadcastsInDim S48x32 (![] : Fin 0 → Fin S48x32.rank)
  reducesTo_S48x64x1536_S48x64_d2 : S48x64x1536.ReducesTo [2] S48x64
  h_S_ : 0 < S_.numel

variable [Facts]

def fn_part3 {F : FTy → Type} [FloatOps F] (main_v6 : IVec S48x32 32) (main_v10 : IVec S48x1 32) (main_v14 : IVec S48x32 1) (main_v27 : IVec S1536x1536 1) (main_v45 : IVec S48x64x1536 1) (main_v52 : IVec S48x64x1536 1) (main_v57 : IVec S48x64 1) (main_v62 : IVec S4x1536 1) (main_c_7 : IVec S_ 32) : IVec S48x64 1 × IVec S4x1536 1 × IVec S48x1 1 × IVec S48x32 1 × IVec S1536x1536 1 × IVec S48x64 1 :=
  let main_v63 : IVec S48x1 32 := broadcastInDim S48x1 ![] bcast_S_S48x1 main_c_7
  let main_v64 : IVec S48x1 1 := cmpi .sge main_v10 main_v63
  let main_c_8 : IVec S_ 32 := constantI S_ 32 32#32
  let main_v65 : IVec S48x1 32 := broadcastInDim S48x1 ![] bcast_S_S48x1 main_c_8
  let main_v66 : IVec S48x1 1 := cmpi .sle main_v10 main_v65
  let main_v67 : IVec S48x1 1 := andi main_v64 main_v66
  let main_v68 : IVec S48x32 1 := noti main_v14
  let main_c_9 : IVec S_ 32 := constantI S_ 32 0#32
  let main_v69 : IVec S48x32 32 := broadcastInDim S48x32 ![] bcast_S_S48x32 main_c_9
  let main_v70 : IVec S48x32 1 := cmpi .sge main_v6 main_v69
  let main_c_10 : IVec S_ 32 := constantI S_ 32 284#32
  let main_v71 : IVec S48x32 32 := broadcastInDim S48x32 ![] bcast_S_S48x32 main_c_10
  let main_v72 : IVec S48x32 1 := cmpi .slt main_v6 main_v71
  let main_v73 : IVec S48x32 1 := andi main_v70 main_v72
  let main_v74 : IVec S48x32 1 := ori main_v68 main_v73
  let main_v75 : IVec S1536x1536 1 := noti main_v27
  let main_v76 : IVec S1536x1536 32 := iotaInDim S1536x1536 32 0
  let main_v77 : IVec S1536x1536 32 := iotaInDim S1536x1536 32 1
  let main_v78 : IVec S1536x1536 1 := cmpi .eq main_v76 main_v77
  let main_v79 : IVec S1536x1536 1 := ori main_v75 main_v78
  let main_v80 : IVec S48x64x1536 1 := andi main_v45 main_v52
  let main_c_11 : IVec S_ 1 := constantI S_ 1 0#1
  let main_v81 : IVec S48x64 1 := (fun x v => Host.reduce IntOp.ori x v reducesTo_S48x64x1536_S48x64_d2 h_S_) main_v80 main_c_11
  (main_v57, main_v62, main_v67, main_v74, main_v79, main_v81)

def fn_part2 {F : FTy → Type} [FloatOps F] (main_v3 : IVec S48x64 32) (main_v6 : IVec S48x32 32) (main_v10 : IVec S48x1 32) (main_v11 : IVec S4x1536 32) (main_v14 : IVec S48x32 1) (main_v27 : IVec S1536x1536 1) (main_v45 : IVec S48x64x1536 1) : IVec S48x64 1 × IVec S4x1536 1 × IVec S48x1 1 × IVec S48x32 1 × IVec S1536x1536 1 × IVec S48x64 1 :=
  let main_v46 : IVec S48x64x1536 32 := iotaInDim S48x64x1536 32 2
  let main_v47 : IVec S48x64x1536 32 := iotaInDim S48x64x1536 32 0
  let main_c_1 : IVec S_ 32 := constantI S_ 32 1#32
  let main_v48 : IVec S48x64x1536 32 := broadcastInDim S48x64x1536 ![] bcast_S_S48x64x1536 main_c_1
  let main_v49 : IVec S48x64x1536 32 := addi main_v47 main_v48
  let main_c_2 : IVec S_ 32 := constantI S_ 32 32#32
  let main_v50 : IVec S48x64x1536 32 := broadcastInDim S48x64x1536 ![] bcast_S_S48x64x1536 main_c_2
  let main_v51 : IVec S48x64x1536 32 := muli main_v49 main_v50
  let main_v52 : IVec S48x64x1536 1 := cmpi .slt main_v46 main_v51
  let main_c_3 : IVec S_ 32 := constantI S_ 32 0#32
  let main_v53 : IVec S48x64 32 := broadcastInDim S48x64 ![] bcast_S_S48x64 main_c_3
  let main_v54 : IVec S48x64 1 := cmpi .sge main_v3 main_v53
  let main_c_4 : IVec S_ 32 := constantI S_ 32 2272#32
  let main_v55 : IVec S48x64 32 := broadcastInDim S48x64 ![] bcast_S_S48x64 main_c_4
  let main_v56 : IVec S48x64 1 := cmpi .slt main_v3 main_v55
  let main_v57 : IVec S48x64 1 := andi main_v54 main_v56
  let main_c_5 : IVec S_ 32 := constantI S_ 32 0#32
  let main_v58 : IVec S4x1536 32 := broadcastInDim S4x1536 ![] bcast_S_S4x1536 main_c_5
  let main_v59 : IVec S4x1536 1 := cmpi .sge main_v11 main_v58
  let main_c_6 : IVec S_ 32 := constantI S_ 32 9088#32
  let main_v60 : IVec S4x1536 32 := broadcastInDim S4x1536 ![] bcast_S_S4x1536 main_c_6
  let main_v61 : IVec S4x1536 1 := cmpi .slt main_v11 main_v60
  let main_v62 : IVec S4x1536 1 := andi main_v59 main_v61
  let main_c_7 : IVec S_ 32 := constantI S_ 32 0#32
  fn_part3 (F := F) main_v6 main_v10 main_v14 main_v27 main_v45 main_v52 main_v57 main_v62 main_c_7

def fn_part1 {F : FTy → Type} [FloatOps F] (main_v3 : IVec S48x64 32) (main_v6 : IVec S48x32 32) (main_v10 : IVec S48x1 32) (main_v11 : IVec S4x1536 32) (main_v14 : IVec S48x32 1) (main_v15 : IVec S1536 32) (main_v16 : IVec S1536 1) (main_v21 : IVec S1536x1536 1) (main_v22 : IVec S1536x1 32) (main_v23 : IVec S1x1536 32) : IVec S48x64 1 × IVec S4x1536 1 × IVec S48x1 1 × IVec S48x32 1 × IVec S1536x1536 1 × IVec S48x64 1 :=
  let main_v24 : IVec S1536x1536 32 := broadcastInDim S1536x1536 ![0, 1] bcast_S1536x1_S1536x1536_0_1 main_v22
  let main_v25 : IVec S1536x1536 32 := broadcastInDim S1536x1536 ![0, 1] bcast_S1x1536_S1536x1536_0_1 main_v23
  let main_v26 : IVec S1536x1536 1 := cmpi .eq main_v24 main_v25
  let main_v27 : IVec S1536x1536 1 := andi main_v21 main_v26
  let main_c : IVec S_ 32 := constantI S_ 32 8#32
  let main_v28 : IVec S1536 32 := broadcastInDim S1536 ![] bcast_S_S1536 main_c
  let main_v29 : IVec S1536 32 := muli main_v28 main_v15
  let main_v30 : IVec S48x64x1 32 := broadcastInDim S48x64x1 ![0, 1] bcast_S48x64_S48x64x1_0_1 main_v3
  let main_v31 : IVec S1x1x1536 32 := broadcastInDim S1x1x1536 ![2] bcast_S1536_S1x1x1536_2 main_v29
  let main_v32 : IVec S48x64x1536 32 := broadcastInDim S48x64x1536 ![0, 1, 2] bcast_S48x64x1_S48x64x1536_0_1_2 main_v30
  let main_v33 : IVec S48x64x1536 32 := broadcastInDim S48x64x1536 ![0, 1, 2] bcast_S1x1x1536_S48x64x1536_0_1_2 main_v31
  let main_v34 : IVec S48x64x1536 1 := cmpi .sge main_v32 main_v33
  let main_v35 : IVec S48x64x1 32 := broadcastInDim S48x64x1 ![0, 1] bcast_S48x64_S48x64x1_0_1 main_v3
  let main_c_0 : IVec S_ 32 := constantI S_ 32 8#32
  let main_v36 : IVec S1536 32 := broadcastInDim S1536 ![] bcast_S_S1536 main_c_0
  let main_v37 : IVec S1536 32 := addi main_v29 main_v36
  let main_v38 : IVec S1x1x1536 32 := broadcastInDim S1x1x1536 ![2] bcast_S1536_S1x1x1536_2 main_v37
  let main_v39 : IVec S48x64x1536 32 := broadcastInDim S48x64x1536 ![0, 1, 2] bcast_S48x64x1_S48x64x1536_0_1_2 main_v35
  let main_v40 : IVec S48x64x1536 32 := broadcastInDim S48x64x1536 ![0, 1, 2] bcast_S1x1x1536_S48x64x1536_0_1_2 main_v38
  let main_v41 : IVec S48x64x1536 1 := cmpi .slt main_v39 main_v40
  let main_v42 : IVec S48x64x1536 1 := andi main_v34 main_v41
  let main_v43 : IVec S1x1x1536 1 := broadcastInDim S1x1x1536 ![2] bcast_S1536_S1x1x1536_2 main_v16
  let main_v44 : IVec S48x64x1536 1 := broadcastInDim S48x64x1536 ![0, 1, 2] bcast_S1x1x1536_S48x64x1536_0_1_2 main_v43
  let main_v45 : IVec S48x64x1536 1 := andi main_v42 main_v44
  fn_part2 (F := F) main_v3 main_v6 main_v10 main_v11 main_v14 main_v27 main_v45

def fn {F : FTy → Type} [FloatOps F] (main_arg0 : IVec S9088x3584 8) (main_arg1 : FVec F S9088x128 .f32) (main_arg2 : FVec F S1536x128 .f32) (main_arg3 : IVec S8x1536 32) : IVec S48x64 1 × IVec S4x1536 1 × IVec S48x1 1 × IVec S48x32 1 × IVec S1536x1536 1 × IVec S48x64 1 :=
  let main_v0 : IVec S2x1536 32 := (extractStridedSlice S2x1536 ![0, 0] · slices_S8x1536_S2x1536_0_0) main_arg3
  let main_v1 : IVec S2x48x32 32 := shapeCast S2x48x32 main_v0 shapeCasts_S2x1536_S2x48x32
  let main_v2 : IVec S48x2x32 32 := (transpose S48x2x32 [1, 0, 2] · transposes_S2x48x32_S48x2x32_1_0_2) main_v1
  let main_v3 : IVec S48x64 32 := shapeCast S48x64 main_v2 shapeCasts_S48x2x32_S48x64
  let main_v4 : IVec S1x1536 32 := (extractStridedSlice S1x1536 ![2, 0] · slices_S8x1536_S1x1536_2_0) main_arg3
  let main_v5 : IVec S1536 32 := shapeCast S1536 main_v4 shapeCasts_S1x1536_S1536
  let main_v6 : IVec S48x32 32 := shapeCast S48x32 main_v5 shapeCasts_S1536_S48x32
  let main_v7 : IVec S1x1536 32 := (extractStridedSlice S1x1536 ![3, 0] · slices_S8x1536_S1x1536_3_0) main_arg3
  let main_v8 : IVec S1536 32 := shapeCast S1536 main_v7 shapeCasts_S1x1536_S1536
  let main_v9 : IVec S48x32 32 := shapeCast S48x32 main_v8 shapeCasts_S1536_S48x32
  let main_v10 : IVec S48x1 32 := (extractStridedSlice S48x1 ![0, 0] · slices_S48x32_S48x1_0_0) main_v9
  let main_v11 : IVec S4x1536 32 := (extractStridedSlice S4x1536 ![4, 0] · slices_S8x1536_S4x1536_4_0) main_arg3
  let main_v12 : IVec S48x32 32 := iotaInDim S48x32 32 1
  let main_v13 : IVec S48x32 32 := broadcastInDim S48x32 ![0, 1] bcast_S48x1_S48x32_0_1 main_v10
  let main_v14 : IVec S48x32 1 := cmpi .slt main_v12 main_v13
  let main_v15 : IVec S1536 32 := shapeCast S1536 main_v6 shapeCasts_S48x32_S1536
  let main_v16 : IVec S1536 1 := shapeCast S1536 main_v14 shapeCasts_S48x32_S1536
  let main_v17 : IVec S1536x1 1 := broadcastInDim S1536x1 ![0] bcast_S1536_S1536x1_0 main_v16
  let main_v18 : IVec S1x1536 1 := broadcastInDim S1x1536 ![1] bcast_S1536_S1x1536_1 main_v16
  let main_v19 : IVec S1536x1536 1 := broadcastInDim S1536x1536 ![0, 1] bcast_S1536x1_S1536x1536_0_1 main_v17
  let main_v20 : IVec S1536x1536 1 := broadcastInDim S1536x1536 ![0, 1] bcast_S1x1536_S1536x1536_0_1 main_v18
  let main_v21 : IVec S1536x1536 1 := andi main_v19 main_v20
  let main_v22 : IVec S1536x1 32 := broadcastInDim S1536x1 ![0] bcast_S1536_S1536x1_0 main_v15
  let main_v23 : IVec S1x1536 32 := broadcastInDim S1x1536 ![1] bcast_S1536_S1x1536_1 main_v15
  fn_part1 (F := F) main_v3 main_v6 main_v10 main_v11 main_v14 main_v15 main_v16 main_v21 main_v22 main_v23
-- ==== Kernel.lean ====
abbrev S9088x3584 : Shape := ⟨2, ![9088, 3584]⟩
abbrev S9088x128 : Shape := ⟨2, ![9088, 128]⟩
abbrev S1536x128 : Shape := ⟨2, ![1536, 128]⟩
abbrev S8x1536 : Shape := ⟨2, ![8, 1536]⟩
abbrev S2272x4x28x128 : Shape := ⟨4, ![2272, 4, 28, 128]⟩
abbrev S2272x28x128x4 : Shape := ⟨4, ![2272, 28, 128, 4]⟩
abbrev S2272x28x128 : Shape := ⟨3, ![2272, 28, 128]⟩
abbrev S1536x3584 : Shape := ⟨2, ![1536, 3584]⟩
abbrev S1904x128 : Shape := ⟨2, ![1904, 128]⟩
abbrev S128x256 : Shape := ⟨2, ![128, 256]⟩
abbrev S128x128 : Shape := ⟨2, ![128, 128]⟩
abbrev S2x32x3584 : Shape := ⟨3, ![2, 32, 3584]⟩
abbrev S48 : Shape := ⟨1, ![48]⟩
abbrev S2 : Shape := ⟨1, ![2]⟩
abbrev S1x1 : Shape := ⟨2, ![1, 1]⟩
abbrev S1 : Shape := ⟨1, ![1]⟩
abbrev S_ : Shape := ⟨0, ![]⟩
abbrev S8x28x128 : Shape := ⟨3, ![8, 28, 128]⟩
abbrev S1x28x128 : Shape := ⟨3, ![1, 28, 128]⟩
abbrev S28x128 : Shape := ⟨2, ![28, 128]⟩
abbrev S32x128 : Shape := ⟨2, ![32, 128]⟩
abbrev S32x256 : Shape := ⟨2, ![32, 256]⟩
abbrev S1x128 : Shape := ⟨2, ![1, 128]⟩
abbrev S32x1 : Shape := ⟨2, ![32, 1]⟩
abbrev S32x3584 : Shape := ⟨2, ![32, 3584]⟩
abbrev S1x32x3584 : Shape := ⟨3, ![1, 32, 3584]⟩
abbrev S64x128 : Shape := ⟨2, ![64, 128]⟩
abbrev S256x128 : Shape := ⟨2, ![256, 128]⟩
abbrev S256x256 : Shape := ⟨2, ![256, 256]⟩
abbrev S1x32x256 : Shape := ⟨3, ![1, 32, 256]⟩

abbrev nBuf : Space → Nat
  | .hbm => 8
  | .vmem => 11
  | .smem => 1
  | _ => 0

abbrev bufTy : (tb : Table) → Fin (tcTables nBuf tb) → BufTy
  | .hbm, ⟨0, _⟩ => ⟨S9088x3584, .i8⟩
  | .hbm, ⟨1, _⟩ => ⟨S9088x128, .f32⟩
  | .hbm, ⟨2, _⟩ => ⟨S1536x128, .f32⟩
  | .hbm, ⟨3, _⟩ => ⟨S8x1536, .i32⟩
  | .hbm, ⟨4, _⟩ => ⟨S2272x4x28x128, .i8⟩
  | .hbm, ⟨5, _⟩ => ⟨S2272x28x128x4, .i8⟩
  | .hbm, ⟨6, _⟩ => ⟨S2272x28x128, .i32⟩
  | .hbm, ⟨7, _⟩ => ⟨S1536x3584, .bf16⟩
  | .local _ .vmem, ⟨0, _⟩ => ⟨S9088x128, .f32⟩
  | .local _ .vmem, ⟨1, _⟩ => ⟨S1536x128, .f32⟩
  | .local _ .vmem, ⟨2, _⟩ => ⟨S2272x28x128, .i32⟩
  | .local _ .vmem, ⟨3, _⟩ => ⟨S1904x128, .i32⟩
  | .local _ .vmem, ⟨4, _⟩ => ⟨S1904x128, .i32⟩
  | .local _ .vmem, ⟨5, _⟩ => ⟨S128x256, .fp8e4m3⟩
  | .local _ .vmem, ⟨6, _⟩ => ⟨S128x256, .fp8e4m3⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2x32x3584, .bf16⟩
  | .local _ .smem, ⟨0, _⟩ => ⟨S8x1536, .i32⟩
  | _, _ => ⟨S9088x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c3_957 : Index := 3#32
  let c0_i32_956 : BitVec 32 := 0#32
  let c0_i32 : BitVec 32 := 0#32
  let c1_i32 : BitVec 32 := 1#32
  let arg16 : BitVec 32 := Scf.iv c0_i32 c1_i32 k0_t1
  let c1_i32_955 : BitVec 32 := 1#32
  let v1313 : BitVec 32 := Scalar.muli arg16 c1_i32_955
  let v1314 : BitVec 32 := Scalar.addi c0_i32_956 v1313
  let c32_i32 : BitVec 32 := 32#32
  let v1315 : BitVec 32 := Scalar.muli v1314 c32_i32
  let v1316 : Index := Scalar.indexCast v1315
  ![3, v1316.toNat]
@[reducible] def k0_t2_loop (v1317 : BitVec 32) : Scf.Loop 32 :=
  let c0_i32_964 : BitVec 32 := 0#32
  let c0_i32_958 : BitVec 32 := 0#32
  let v1318 : BitVec 32 := Scalar.subi v1317 c0_i32_958
  let c1_i32_959 : BitVec 32 := 1#32
  let c1_i32_960 : BitVec 32 := 1#32
  let v1319 : BitVec 32 := Scalar.subi c1_i32_959 c1_i32_960
  let v1320 : BitVec 32 := Scalar.addi v1318 v1319
  let c1_i32_961 : BitVec 32 := 1#32
  let v1321 : BitVec 32 := Scalar.divsi v1320 c1_i32_961
  let v1322 : BitVec 32 := Scalar.subi v1321 c0_i32_964
  let c1_i32_965 : BitVec 32 := 1#32
  let v1324 : BitVec 32 := Scalar.divsi v1322 c1_i32_965
  let v1325 : BitVec 32 := Scalar.muli v1324 c1_i32_965
  let v1326 : BitVec 32 := Scalar.addi c0_i32_964 v1325
  let c1_i32_966 : BitVec 32 := 1#32
  ⟨c0_i32_964, v1326, c1_i32_966⟩

def k0_off2 (k0_t1 : Fin k0_t1_loop.trips) (v1317 : BitVec 32) (k0_t2 : Fin (k0_t2_loop v1317).trips) : Fin 2 → Nat :=
  let c2_969 : Index := 2#32
  let c0_i32_956 : BitVec 32 := 0#32
  let c0_i32 : BitVec 32 := 0#32
  let c1_i32 : BitVec 32 := 1#32
  let arg16 : BitVec 32 := Scf.iv c0_i32 c1_i32 k0_t1
  let c1_i32_955 : BitVec 32 := 1#32
  let v1313 : BitVec 32 := Scalar.muli arg16 c1_i32_955
  let v1314 : BitVec 32 := Scalar.addi c0_i32_956 v1313
  let c32_i32_968 : BitVec 32 := 32#32
  let v1329 : BitVec 32 := Scalar.muli v1314 c32_i32_968
  let c0_i32_963 : BitVec 32 := 0#32
  let c0_i32_964 : BitVec 32 := 0#32
  let c1_i32_966 : BitVec 32 := 1#32
  let arg17 : BitVec 32 := Scf.iv c0_i32_964 c1_i32_966 k0_t2
  let c1_i32_962 : BitVec 32 := 1#32
  let v1327 : BitVec 32 := Scalar.muli arg17 c1_i32_962
  let v1328 : BitVec 32 := Scalar.addi c0_i32_963 v1327
  let v1330 : BitVec 32 := Scalar.addi v1329 v1328
  let v1331 : Index := Scalar.indexCast v1330
  ![2, v1331.toNat]
def k0_mult1 (v1332 : BitVec 32) : BitVec 32 :=
  let c8_i32_970 : BitVec 32 := 8#32
  let v1333 : BitVec 32 := Scalar.muli v1332 c8_i32_970
  v1333

def k0_off3 (k0_t1 : Fin k0_t1_loop.trips) : Fin 1 → Nat :=
  let c0_i32_956 : BitVec 32 := 0#32
  let c0_i32 : BitVec 32 := 0#32
  let c1_i32 : BitVec 32 := 1#32
  let arg16 : BitVec 32 := Scf.iv c0_i32 c1_i32 k0_t1
  let c1_i32_955 : BitVec 32 := 1#32
  let v1313 : BitVec 32 := Scalar.muli arg16 c1_i32_955
  let v1314 : BitVec 32 := Scalar.addi c0_i32_956 v1313
  ![v1314.toNat]
def k0_off4 (v1332 : BitVec 32) : Fin 3 → Nat :=
  let c8_i32_970 : BitVec 32 := 8#32
  let v1333 : BitVec 32 := Scalar.muli v1332 c8_i32_970
  let v1334 : BitVec 32 := v1333
  let c0_i32_971 : BitVec 32 := 0#32
  let c0_i32_972 : BitVec 32 := 0#32
  ![v1334.toNat, 0, 0]

def k0_chk2 (v1332 : BitVec 32) : Prop :=
  (8 ∣ (k0_mult1 v1332).toNat) ∧
  (∀ a, (k0_off4 v1332) a + S8x28x128.size a ≤ S2272x28x128.size a)
theorem k0_mult1_dvd : ∀ (v1332 : BitVec 32) (k0_hw2 : k0_chk2 v1332), 8 ∣ (k0_mult1 v1332).toNat := fun v1332 k0_hw2 => k0_hw2.1
theorem k0_off4_inb : ∀ (v1332 : BitVec 32) (k0_hw2 : k0_chk2 v1332), ∀ a, (k0_off4 v1332) a + S8x28x128.size a ≤ S2272x28x128.size a := fun v1332 k0_hw2 => k0_hw2.2

@[reducible] def k0_t3_loop (v1317 : BitVec 32) : Scf.Loop 32 :=
  let c0_i32_964 : BitVec 32 := 0#32
  let c0_i32_958 : BitVec 32 := 0#32
  let v1318 : BitVec 32 := Scalar.subi v1317 c0_i32_958
  let c1_i32_959 : BitVec 32 := 1#32
  let c1_i32_960 : BitVec 32 := 1#32
  let v1319 : BitVec 32 := Scalar.subi c1_i32_959 c1_i32_960
  let v1320 : BitVec 32 := Scalar.addi v1318 v1319
  let c1_i32_961 : BitVec 32 := 1#32
  let v1321 : BitVec 32 := Scalar.divsi v1320 c1_i32_961
  let v1322 : BitVec 32 := Scalar.subi v1321 c0_i32_964
  let c1_i32_965 : BitVec 32 := 1#32
  let v1324 : BitVec 32 := Scalar.divsi v1322 c1_i32_965
  let v1325 : BitVec 32 := Scalar.muli v1324 c1_i32_965
  let v1326 : BitVec 32 := Scalar.addi c0_i32_964 v1325
  let v1323 : BitVec 32 := Scalar.addi c0_i32_964 v1322
  let c1_i32_967 : BitVec 32 := 1#32
  ⟨v1326, v1323, c1_i32_967⟩
def k0_off5 (k0_t1 : Fin k0_t1_loop.trips) (v1317 : BitVec 32) (k0_t3 : Fin (k0_t3_loop v1317).trips) : Fin 2 → Nat :=
  let c2_969 : Index := 2#32
  let c0_i32_956 : BitVec 32 := 0#32
  let c0_i32 : BitVec 32 := 0#32
  let c1_i32 : BitVec 32 := 1#32
  let arg16 : BitVec 32 := Scf.iv c0_i32 c1_i32 k0_t1
  let c1_i32_955 : BitVec 32 := 1#32
  let v1313 : BitVec 32 := Scalar.muli arg16 c1_i32_955
  let v1314 : BitVec 32 := Scalar.addi c0_i32_956 v1313
  let c32_i32_968 : BitVec 32 := 32#32
  let v1329 : BitVec 32 := Scalar.muli v1314 c32_i32_968
  let c0_i32_963 : BitVec 32 := 0#32
  let c0_i32_964 : BitVec 32 := 0#32
  let c0_i32_958 : BitVec 32 := 0#32
  let v1318 : BitVec 32 := Scalar.subi v1317 c0_i32_958
  let c1_i32_959 : BitVec 32 := 1#32
  let c1_i32_960 : BitVec 32 := 1#32
  let v1319 : BitVec 32 := Scalar.subi c1_i32_959 c1_i32_960
  let v1320 : BitVec 32 := Scalar.addi v1318 v1319
  let c1_i32_961 : BitVec 32 := 1#32
  let v1321 : BitVec 32 := Scalar.divsi v1320 c1_i32_961
  let v1322 : BitVec 32 := Scalar.subi v1321 c0_i32_964
  let c1_i32_965 : BitVec 32 := 1#32
  let v1324 : BitVec 32 := Scalar.divsi v1322 c1_i32_965
  let v1325 : BitVec 32 := Scalar.muli v1324 c1_i32_965
  let v1326 : BitVec 32 := Scalar.addi c0_i32_964 v1325
  let c1_i32_967 : BitVec 32 := 1#32
  let arg17 : BitVec 32 := Scf.iv v1326 c1_i32_967 k0_t3
  let c1_i32_962 : BitVec 32 := 1#32
  let v1327 : BitVec 32 := Scalar.muli arg17 c1_i32_962
  let v1328 : BitVec 32 := Scalar.addi c0_i32_963 v1327
  let v1330 : BitVec 32 := Scalar.addi v1329 v1328
  let v1331 : Index := Scalar.indexCast v1330
  ![2, v1331.toNat]

def k0_chk1 (k0_t1 : Fin k0_t1_loop.trips) (v1317 : BitVec 32) : Prop :=
  ((k0_t2_loop v1317).OK) ∧
  (∀ k0_t2 : Fin (k0_t2_loop v1317).trips, ∀ a, (k0_off2 k0_t1 v1317 k0_t2) a + S1x1.size a ≤ S8x1536.size a) ∧
  ((k0_t3_loop v1317).OK) ∧
  (∀ k0_t3 : Fin (k0_t3_loop v1317).trips, ∀ a, (k0_off5 k0_t1 v1317 k0_t3) a + S1x1.size a ≤ S8x1536.size a)
theorem k0_t2_ok : ∀ (k0_t1 : Fin k0_t1_loop.trips) (v1317 : BitVec 32) (k0_hw1 : k0_chk1 k0_t1 v1317), (k0_t2_loop v1317).OK := fun k0_t1 v1317 k0_hw1 => k0_hw1.1
theorem k0_off2_inb : ∀ (k0_t1 : Fin k0_t1_loop.trips) (v1317 : BitVec 32) (k0_hw1 : k0_chk1 k0_t1 v1317) (k0_t2 : Fin (k0_t2_loop v1317).trips), ∀ a, (k0_off2 k0_t1 v1317 k0_t2) a + S1x1.size a ≤ S8x1536.size a := fun k0_t1 v1317 k0_hw1 k0_t2 => k0_hw1.2.1 k0_t2
theorem k0_t3_ok : ∀ (k0_t1 : Fin k0_t1_loop.trips) (v1317 : BitVec 32) (k0_hw1 : k0_chk1 k0_t1 v1317), (k0_t3_loop v1317).OK := fun k0_t1 v1317 k0_hw1 => k0_hw1.2.2.1
theorem k0_off5_inb : ∀ (k0_t1 : Fin k0_t1_loop.trips) (v1317 : BitVec 32) (k0_hw1 : k0_chk1 k0_t1 v1317) (k0_t3 : Fin (k0_t3_loop v1317).trips), ∀ a, (k0_off5 k0_t1 v1317 k0_t3) a + S1x1.size a ≤ S8x1536.size a := fun k0_t1 v1317 k0_hw1 k0_t3 => k0_hw1.2.2.2 k0_t3

def k0_mult2 (v1332 : BitVec 32) : BitVec 32 :=
  let c8_i32_970 : BitVec 32 := 8#32
  let v1333 : BitVec 32 := Scalar.muli v1332 c8_i32_970
  v1333

def k0_off6 (k0_t1 : Fin k0_t1_loop.trips) : Fin 1 → Nat :=
  let c0_i32_956 : BitVec 32 := 0#32
  let c0_i32 : BitVec 32 := 0#32
  let c1_i32 : BitVec 32 := 1#32
  let arg16 : BitVec 32 := Scf.iv c0_i32 c1_i32 k0_t1
  let c1_i32_955 : BitVec 32 := 1#32
  let v1313 : BitVec 32 := Scalar.muli arg16 c1_i32_955
  let v1314 : BitVec 32 := Scalar.addi c0_i32_956 v1313
  ![v1314.toNat]
def k0_off7 (v1332 : BitVec 32) : Fin 3 → Nat :=
  let c8_i32_970 : BitVec 32 := 8#32
  let v1333 : BitVec 32 := Scalar.muli v1332 c8_i32_970
  let v1334 : BitVec 32 := v1333
  let c0_i32_971 : BitVec 32 := 0#32
  let c0_i32_972 : BitVec 32 := 0#32
  ![v1334.toNat, 0, 0]

def k0_chk3 (v1332 : BitVec 32) : Prop :=
  (8 ∣ (k0_mult2 v1332).toNat) ∧
  (∀ a, (k0_off7 v1332) a + S8x28x128.size a ≤ S2272x28x128.size a)
theorem k0_mult2_dvd : ∀ (v1332 : BitVec 32) (k0_hw3 : k0_chk3 v1332), 8 ∣ (k0_mult2 v1332).toNat := fun v1332 k0_hw3 => k0_hw3.1
theorem k0_off7_inb : ∀ (v1332 : BitVec 32) (k0_hw3 : k0_chk3 v1332), ∀ a, (k0_off7 v1332) a + S8x28x128.size a ≤ S2272x28x128.size a := fun v1332 k0_hw3 => k0_hw3.2

@[reducible] def k0_t4_loop (v1 : BitVec 32) : Scf.Loop 32 :=
  let c0_i32_7 : BitVec 32 := 0#32
  let c0_i32_1 : BitVec 32 := 0#32
  let v2 : BitVec 32 := Scalar.subi v1 c0_i32_1
  let c1_i32_2 : BitVec 32 := 1#32
  let c1_i32_3 : BitVec 32 := 1#32
  let v3 : BitVec 32 := Scalar.subi c1_i32_2 c1_i32_3
  let v4 : BitVec 32 := Scalar.addi v2 v3
  let c1_i32_4 : BitVec 32 := 1#32
  let v5 : BitVec 32 := Scalar.divsi v4 c1_i32_4
  let v6 : BitVec 32 := Scalar.subi v5 c0_i32_7
  let c1_i32_8 : BitVec 32 := 1#32
  let v8 : BitVec 32 := Scalar.divsi v6 c1_i32_8
  let v9 : BitVec 32 := Scalar.muli v8 c1_i32_8
  let v10 : BitVec 32 := Scalar.addi c0_i32_7 v9
  let c1_i32_9 : BitVec 32 := 1#32
  ⟨c0_i32_7, v10, c1_i32_9⟩

def k0_mult3 : BitVec 32 :=
  let c0_i32_955 : BitVec 32 := 0#32
  c0_i32_955
@[reducible] def k0_t5_loop (v1 : BitVec 32) : Scf.Loop 32 :=
  let c0_i32_7 : BitVec 32 := 0#32
  let c0_i32_1 : BitVec 32 := 0#32
  let v2 : BitVec 32 := Scalar.subi v1 c0_i32_1
  let c1_i32_2 : BitVec 32 := 1#32
  let c1_i32_3 : BitVec 32 := 1#32
  let v3 : BitVec 32 := Scalar.subi c1_i32_2 c1_i32_3
  let v4 : BitVec 32 := Scalar.addi v2 v3
  let c1_i32_4 : BitVec 32 := 1#32
  let v5 : BitVec 32 := Scalar.divsi v4 c1_i32_4
  let v6 : BitVec 32 := Scalar.subi v5 c0_i32_7
  let c1_i32_8 : BitVec 32 := 1#32
  let v8 : BitVec 32 := Scalar.divsi v6 c1_i32_8
  let v9 : BitVec 32 := Scalar.muli v8 c1_i32_8
  let v10 : BitVec 32 := Scalar.addi c0_i32_7 v9
  let v7 : BitVec 32 := Scalar.addi c0_i32_7 v6
  let c1_i32_10 : BitVec 32 := 1#32
  ⟨v10, v7, c1_i32_10⟩

def k0_chk4 (v1 : BitVec 32) : Prop :=
  ((k0_t4_loop v1).OK) ∧
  ((k0_t5_loop v1).OK)
theorem k0_t4_ok : ∀ (v1 : BitVec 32) (k0_hw4 : k0_chk4 v1), (k0_t4_loop v1).OK := fun v1 k0_hw4 => k0_hw4.1
theorem k0_t5_ok : ∀ (v1 : BitVec 32) (k0_hw4 : k0_chk4 v1), (k0_t5_loop v1).OK := fun v1 k0_hw4 => k0_hw4.2

def k0_mult4 : BitVec 32 :=
  let c0_i32_955 : BitVec 32 := 0#32
  c0_i32_955
def k0_off8 (v11 : BitVec 32) : Fin 3 → Nat :=
  let v12 : Index := Scalar.indexCast v11
  let c0_13 : Index := 0#32
  let c0_14 : Index := 0#32
  ![v12.toNat, 0, 0]

def k0_chk5 (v11 : BitVec 32) : Prop :=
  (∀ a, (k0_off8 v11) a + S1x28x128.size a ≤ S2272x28x128.size a)
theorem k0_off8_inb : ∀ (v11 : BitVec 32) (k0_hw5 : k0_chk5 v11), ∀ a, (k0_off8 v11) a + S1x28x128.size a ≤ S2272x28x128.size a := fun v11 k0_hw5 => k0_hw5

def k0_off9 (v18 : BitVec 32) : Fin 3 → Nat :=
  let v19 : Index := Scalar.indexCast v18
  let c0_18 : Index := 0#32
  let c0_19 : Index := 0#32
  ![v19.toNat, 0, 0]

def k0_chk6 (v18 : BitVec 32) : Prop :=
  (∀ a, (k0_off9 v18) a + S1x28x128.size a ≤ S2272x28x128.size a)
theorem k0_off9_inb : ∀ (v18 : BitVec 32) (k0_hw6 : k0_chk6 v18), ∀ a, (k0_off9 v18) a + S1x28x128.size a ≤ S2272x28x128.size a := fun v18 k0_hw6 => k0_hw6

def k0_off10 (v25 : BitVec 32) : Fin 3 → Nat :=
  let v26 : Index := Scalar.indexCast v25
  let c0_23 : Index := 0#32
  let c0_24 : Index := 0#32
  ![v26.toNat, 0, 0]

def k0_chk7 (v25 : BitVec 32) : Prop :=
  (∀ a, (k0_off10 v25) a + S1x28x128.size a ≤ S2272x28x128.size a)
theorem k0_off10_inb : ∀ (v25 : BitVec 32) (k0_hw7 : k0_chk7 v25), ∀ a, (k0_off10 v25) a + S1x28x128.size a ≤ S2272x28x128.size a := fun v25 k0_hw7 => k0_hw7

def k0_off11 (v32 : BitVec 32) : Fin 3 → Nat :=
  let v33 : Index := Scalar.indexCast v32
  let c0_29 : Index := 0#32
  let c0_30 : Index := 0#32
  ![v33.toNat, 0, 0]

def k0_chk8 (v32 : BitVec 32) : Prop :=
  (∀ a, (k0_off11 v32) a + S1x28x128.size a ≤ S2272x28x128.size a)
theorem k0_off11_inb : ∀ (v32 : BitVec 32) (k0_hw8 : k0_chk8 v32), ∀ a, (k0_off11 v32) a + S1x28x128.size a ≤ S2272x28x128.size a := fun v32 k0_hw8 => k0_hw8

def k0_off12 (v39 : BitVec 32) : Fin 3 → Nat :=
  let v40 : Index := Scalar.indexCast v39
  let c0_34 : Index := 0#32
  let c0_35 : Index := 0#32
  ![v40.toNat, 0, 0]

def k0_chk9 (v39 : BitVec 32) : Prop :=
  (∀ a, (k0_off12 v39) a + S1x28x128.size a ≤ S2272x28x128.size a)
theorem k0_off12_inb : ∀ (v39 : BitVec 32) (k0_hw9 : k0_chk9 v39), ∀ a, (k0_off12 v39) a + S1x28x128.size a ≤ S2272x28x128.size a := fun v39 k0_hw9 => k0_hw9

def k0_off13 (v46 : BitVec 32) : Fin 3 → Nat :=
  let v47 : Index := Scalar.indexCast v46
  let c0_39 : Index := 0#32
  let c0_40 : Index := 0#32
  ![v47.toNat, 0, 0]

def k0_chk10 (v46 : BitVec 32) : Prop :=
  (∀ a, (k0_off13 v46) a + S1x28x128.size a ≤ S2272x28x128.size a)
theorem k0_off13_inb : ∀ (v46 : BitVec 32) (k0_hw10 : k0_chk10 v46), ∀ a, (k0_off13 v46) a + S1x28x128.size a ≤ S2272x28x128.size a := fun v46 k0_hw10 => k0_hw10

def k0_off14 (v53 : BitVec 32) : Fin 3 → Nat :=
  let v54 : Index := Scalar.indexCast v53
  let c0_44 : Index := 0#32
  let c0_45 : Index := 0#32
  ![v54.toNat, 0, 0]

def k0_chk11 (v53 : BitVec 32) : Prop :=
  (∀ a, (k0_off14 v53) a + S1x28x128.size a ≤ S2272x28x128.size a)
theorem k0_off14_inb : ∀ (v53 : BitVec 32) (k0_hw11 : k0_chk11 v53), ∀ a, (k0_off14 v53) a + S1x28x128.size a ≤ S2272x28x128.size a := fun v53 k0_hw11 => k0_hw11

def k0_off15 (v60 : BitVec 32) : Fin 3 → Nat :=
  let v61 : Index := Scalar.indexCast v60
  let c0_49 : Index := 0#32
  let c0_50 : Index := 0#32
  ![v61.toNat, 0, 0]

def k0_chk12 (v60 : BitVec 32) : Prop :=
  (∀ a, (k0_off15 v60) a + S1x28x128.size a ≤ S2272x28x128.size a)
theorem k0_off15_inb : ∀ (v60 : BitVec 32) (k0_hw12 : k0_chk12 v60), ∀ a, (k0_off15 v60) a + S1x28x128.size a ≤ S2272x28x128.size a := fun v60 k0_hw12 => k0_hw12

def k0_off16 (v67 : BitVec 32) : Fin 3 → Nat :=
  let v68 : Index := Scalar.indexCast v67
  let c0_54 : Index := 0#32
  let c0_55 : Index := 0#32
  ![v68.toNat, 0, 0]

def k0_chk13 (v67 : BitVec 32) : Prop :=
  (∀ a, (k0_off16 v67) a + S1x28x128.size a ≤ S2272x28x128.size a)
theorem k0_off16_inb : ∀ (v67 : BitVec 32) (k0_hw13 : k0_chk13 v67), ∀ a, (k0_off16 v67) a + S1x28x128.size a ≤ S2272x28x128.size a := fun v67 k0_hw13 => k0_hw13

def k0_off17 (v74 : BitVec 32) : Fin 3 → Nat :=
  let v75 : Index := Scalar.indexCast v74
  let c0_59 : Index := 0#32
  let c0_60 : Index := 0#32
  ![v75.toNat, 0, 0]

def k0_chk14 (v74 : BitVec 32) : Prop :=
  (∀ a, (k0_off17 v74) a + S1x28x128.size a ≤ S2272x28x128.size a)
theorem k0_off17_inb : ∀ (v74 : BitVec 32) (k0_hw14 : k0_chk14 v74), ∀ a, (k0_off17 v74) a + S1x28x128.size a ≤ S2272x28x128.size a := fun v74 k0_hw14 => k0_hw14

def k0_off18 (v81 : BitVec 32) : Fin 3 → Nat :=
  let v82 : Index := Scalar.indexCast v81
  let c0_64 : Index := 0#32
  let c0_65 : Index := 0#32
  ![v82.toNat, 0, 0]

def k0_chk15 (v81 : BitVec 32) : Prop :=
  (∀ a, (k0_off18 v81) a + S1x28x128.size a ≤ S2272x28x128.size a)
theorem k0_off18_inb : ∀ (v81 : BitVec 32) (k0_hw15 : k0_chk15 v81), ∀ a, (k0_off18 v81) a + S1x28x128.size a ≤ S2272x28x128.size a := fun v81 k0_hw15 => k0_hw15

def k0_off19 (v88 : BitVec 32) : Fin 3 → Nat :=
  let v89 : Index := Scalar.indexCast v88
  let c0_69 : Index := 0#32
  let c0_70 : Index := 0#32
  ![v89.toNat, 0, 0]

def k0_chk16 (v88 : BitVec 32) : Prop :=
  (∀ a, (k0_off19 v88) a + S1x28x128.size a ≤ S2272x28x128.size a)
theorem k0_off19_inb : ∀ (v88 : BitVec 32) (k0_hw16 : k0_chk16 v88), ∀ a, (k0_off19 v88) a + S1x28x128.size a ≤ S2272x28x128.size a := fun v88 k0_hw16 => k0_hw16

def k0_off20 (v95 : BitVec 32) : Fin 3 → Nat :=
  let v96 : Index := Scalar.indexCast v95
  let c0_74 : Index := 0#32
  let c0_75 : Index := 0#32
  ![v96.toNat, 0, 0]

def k0_chk17 (v95 : BitVec 32) : Prop :=
  (∀ a, (k0_off20 v95) a + S1x28x128.size a ≤ S2272x28x128.size a)
theorem k0_off20_inb : ∀ (v95 : BitVec 32) (k0_hw17 : k0_chk17 v95), ∀ a, (k0_off20 v95) a + S1x28x128.size a ≤ S2272x28x128.size a := fun v95 k0_hw17 => k0_hw17

def k0_off21 (v102 : BitVec 32) : Fin 3 → Nat :=
  let v103 : Index := Scalar.indexCast v102
  let c0_79 : Index := 0#32
  let c0_80 : Index := 0#32
  ![v103.toNat, 0, 0]

def k0_chk18 (v102 : BitVec 32) : Prop :=
  (∀ a, (k0_off21 v102) a + S1x28x128.size a ≤ S2272x28x128.size a)
theorem k0_off21_inb : ∀ (v102 : BitVec 32) (k0_hw18 : k0_chk18 v102), ∀ a, (k0_off21 v102) a + S1x28x128.size a ≤ S2272x28x128.size a := fun v102 k0_hw18 => k0_hw18

def k0_off22 (v109 : BitVec 32) : Fin 3 → Nat :=
  let v110 : Index := Scalar.indexCast v109
  let c0_84 : Index := 0#32
  let c0_85 : Index := 0#32
  ![v110.toNat, 0, 0]

def k0_chk19 (v109 : BitVec 32) : Prop :=
  (∀ a, (k0_off22 v109) a + S1x28x128.size a ≤ S2272x28x128.size a)
theorem k0_off22_inb : ∀ (v109 : BitVec 32) (k0_hw19 : k0_chk19 v109), ∀ a, (k0_off22 v109) a + S1x28x128.size a ≤ S2272x28x128.size a := fun v109 k0_hw19 => k0_hw19

def k0_off23 (v116 : BitVec 32) : Fin 3 → Nat :=
  let v117 : Index := Scalar.indexCast v116
  let c0_89 : Index := 0#32
  let c0_90 : Index := 0#32
  ![v117.toNat, 0, 0]

def k0_chk20 (v116 : BitVec 32) : Prop :=
  (∀ a, (k0_off23 v116) a + S1x28x128.size a ≤ S2272x28x128.size a)
theorem k0_off23_inb : ∀ (v116 : BitVec 32) (k0_hw20 : k0_chk20 v116), ∀ a, (k0_off23 v116) a + S1x28x128.size a ≤ S2272x28x128.size a := fun v116 k0_hw20 => k0_hw20

def k0_off24 (v123 : BitVec 32) : Fin 3 → Nat :=
  let v124 : Index := Scalar.indexCast v123
  let c0_94 : Index := 0#32
  let c0_95 : Index := 0#32
  ![v124.toNat, 0, 0]

def k0_chk21 (v123 : BitVec 32) : Prop :=
  (∀ a, (k0_off24 v123) a + S1x28x128.size a ≤ S2272x28x128.size a)
theorem k0_off24_inb : ∀ (v123 : BitVec 32) (k0_hw21 : k0_chk21 v123), ∀ a, (k0_off24 v123) a + S1x28x128.size a ≤ S2272x28x128.size a := fun v123 k0_hw21 => k0_hw21

def k0_off25 (v130 : BitVec 32) : Fin 3 → Nat :=
  let v131 : Index := Scalar.indexCast v130
  let c0_99 : Index := 0#32
  let c0_100 : Index := 0#32
  ![v131.toNat, 0, 0]

def k0_chk22 (v130 : BitVec 32) : Prop :=
  (∀ a, (k0_off25 v130) a + S1x28x128.size a ≤ S2272x28x128.size a)
theorem k0_off25_inb : ∀ (v130 : BitVec 32) (k0_hw22 : k0_chk22 v130), ∀ a, (k0_off25 v130) a + S1x28x128.size a ≤ S2272x28x128.size a := fun v130 k0_hw22 => k0_hw22

def k0_off26 (v137 : BitVec 32) : Fin 3 → Nat :=
  let v138 : Index := Scalar.indexCast v137
  let c0_104 : Index := 0#32
  let c0_105 : Index := 0#32
  ![v138.toNat, 0, 0]

def k0_chk23 (v137 : BitVec 32) : Prop :=
  (∀ a, (k0_off26 v137) a + S1x28x128.size a ≤ S2272x28x128.size a)
theorem k0_off26_inb : ∀ (v137 : BitVec 32) (k0_hw23 : k0_chk23 v137), ∀ a, (k0_off26 v137) a + S1x28x128.size a ≤ S2272x28x128.size a := fun v137 k0_hw23 => k0_hw23

def k0_off27 (v144 : BitVec 32) : Fin 3 → Nat :=
  let v145 : Index := Scalar.indexCast v144
  let c0_109 : Index := 0#32
  let c0_110 : Index := 0#32
  ![v145.toNat, 0, 0]

def k0_chk24 (v144 : BitVec 32) : Prop :=
  (∀ a, (k0_off27 v144) a + S1x28x128.size a ≤ S2272x28x128.size a)
theorem k0_off27_inb : ∀ (v144 : BitVec 32) (k0_hw24 : k0_chk24 v144), ∀ a, (k0_off27 v144) a + S1x28x128.size a ≤ S2272x28x128.size a := fun v144 k0_hw24 => k0_hw24

def k0_off28 (v151 : BitVec 32) : Fin 3 → Nat :=
  let v152 : Index := Scalar.indexCast v151
  let c0_114 : Index := 0#32
  let c0_115 : Index := 0#32
  ![v152.toNat, 0, 0]

def k0_chk25 (v151 : BitVec 32) : Prop :=
  (∀ a, (k0_off28 v151) a + S1x28x128.size a ≤ S2272x28x128.size a)
theorem k0_off28_inb : ∀ (v151 : BitVec 32) (k0_hw25 : k0_chk25 v151), ∀ a, (k0_off28 v151) a + S1x28x128.size a ≤ S2272x28x128.size a := fun v151 k0_hw25 => k0_hw25

def k0_off29 (v158 : BitVec 32) : Fin 3 → Nat :=
  let v159 : Index := Scalar.indexCast v158
  let c0_119 : Index := 0#32
  let c0_120 : Index := 0#32
  ![v159.toNat, 0, 0]

def k0_chk26 (v158 : BitVec 32) : Prop :=
  (∀ a, (k0_off29 v158) a + S1x28x128.size a ≤ S2272x28x128.size a)
theorem k0_off29_inb : ∀ (v158 : BitVec 32) (k0_hw26 : k0_chk26 v158), ∀ a, (k0_off29 v158) a + S1x28x128.size a ≤ S2272x28x128.size a := fun v158 k0_hw26 => k0_hw26

def k0_off30 (v165 : BitVec 32) : Fin 3 → Nat :=
  let v166 : Index := Scalar.indexCast v165
  let c0_124 : Index := 0#32
  let c0_125 : Index := 0#32
  ![v166.toNat, 0, 0]

def k0_chk27 (v165 : BitVec 32) : Prop :=
  (∀ a, (k0_off30 v165) a + S1x28x128.size a ≤ S2272x28x128.size a)
theorem k0_off30_inb : ∀ (v165 : BitVec 32) (k0_hw27 : k0_chk27 v165), ∀ a, (k0_off30 v165) a + S1x28x128.size a ≤ S2272x28x128.size a := fun v165 k0_hw27 => k0_hw27

def k0_off31 (v172 : BitVec 32) : Fin 3 → Nat :=
  let v173 : Index := Scalar.indexCast v172
  let c0_129 : Index := 0#32
  let c0_130 : Index := 0#32
  ![v173.toNat, 0, 0]

def k0_chk28 (v172 : BitVec 32) : Prop :=
  (∀ a, (k0_off31 v172) a + S1x28x128.size a ≤ S2272x28x128.size a)
theorem k0_off31_inb : ∀ (v172 : BitVec 32) (k0_hw28 : k0_chk28 v172), ∀ a, (k0_off31 v172) a + S1x28x128.size a ≤ S2272x28x128.size a := fun v172 k0_hw28 => k0_hw28

def k0_off32 (v179 : BitVec 32) : Fin 3 → Nat :=
  let v180 : Index := Scalar.indexCast v179
  let c0_134 : Index := 0#32
  let c0_135 : Index := 0#32
  ![v180.toNat, 0, 0]

def k0_chk29 (v179 : BitVec 32) : Prop :=
  (∀ a, (k0_off32 v179) a + S1x28x128.size a ≤ S2272x28x128.size a)
theorem k0_off32_inb : ∀ (v179 : BitVec 32) (k0_hw29 : k0_chk29 v179), ∀ a, (k0_off32 v179) a + S1x28x128.size a ≤ S2272x28x128.size a := fun v179 k0_hw29 => k0_hw29

def k0_off33 (v186 : BitVec 32) : Fin 3 → Nat :=
  let v187 : Index := Scalar.indexCast v186
  let c0_139 : Index := 0#32
  let c0_140 : Index := 0#32
  ![v187.toNat, 0, 0]

def k0_chk30 (v186 : BitVec 32) : Prop :=
  (∀ a, (k0_off33 v186) a + S1x28x128.size a ≤ S2272x28x128.size a)
theorem k0_off33_inb : ∀ (v186 : BitVec 32) (k0_hw30 : k0_chk30 v186), ∀ a, (k0_off33 v186) a + S1x28x128.size a ≤ S2272x28x128.size a := fun v186 k0_hw30 => k0_hw30

def k0_off34 (v193 : BitVec 32) : Fin 3 → Nat :=
  let v194 : Index := Scalar.indexCast v193
  let c0_144 : Index := 0#32
  let c0_145 : Index := 0#32
  ![v194.toNat, 0, 0]

def k0_chk31 (v193 : BitVec 32) : Prop :=
  (∀ a, (k0_off34 v193) a + S1x28x128.size a ≤ S2272x28x128.size a)
theorem k0_off34_inb : ∀ (v193 : BitVec 32) (k0_hw31 : k0_chk31 v193), ∀ a, (k0_off34 v193) a + S1x28x128.size a ≤ S2272x28x128.size a := fun v193 k0_hw31 => k0_hw31

def k0_off35 (v200 : BitVec 32) : Fin 3 → Nat :=
  let v201 : Index := Scalar.indexCast v200
  let c0_149 : Index := 0#32
  let c0_150 : Index := 0#32
  ![v201.toNat, 0, 0]

def k0_chk32 (v200 : BitVec 32) : Prop :=
  (∀ a, (k0_off35 v200) a + S1x28x128.size a ≤ S2272x28x128.size a)
theorem k0_off35_inb : ∀ (v200 : BitVec 32) (k0_hw32 : k0_chk32 v200), ∀ a, (k0_off35 v200) a + S1x28x128.size a ≤ S2272x28x128.size a := fun v200 k0_hw32 => k0_hw32

def k0_off36 (v207 : BitVec 32) : Fin 3 → Nat :=
  let v208 : Index := Scalar.indexCast v207
  let c0_154 : Index := 0#32
  let c0_155 : Index := 0#32
  ![v208.toNat, 0, 0]

def k0_chk33 (v207 : BitVec 32) : Prop :=
  (∀ a, (k0_off36 v207) a + S1x28x128.size a ≤ S2272x28x128.size a)
theorem k0_off36_inb : ∀ (v207 : BitVec 32) (k0_hw33 : k0_chk33 v207), ∀ a, (k0_off36 v207) a + S1x28x128.size a ≤ S2272x28x128.size a := fun v207 k0_hw33 => k0_hw33

def k0_off37 (v214 : BitVec 32) : Fin 3 → Nat :=
  let v215 : Index := Scalar.indexCast v214
  let c0_159 : Index := 0#32
  let c0_160 : Index := 0#32
  ![v215.toNat, 0, 0]

def k0_chk34 (v214 : BitVec 32) : Prop :=
  (∀ a, (k0_off37 v214) a + S1x28x128.size a ≤ S2272x28x128.size a)
theorem k0_off37_inb : ∀ (v214 : BitVec 32) (k0_hw34 : k0_chk34 v214), ∀ a, (k0_off37 v214) a + S1x28x128.size a ≤ S2272x28x128.size a := fun v214 k0_hw34 => k0_hw34

def k0_off38 (v221 : BitVec 32) : Fin 3 → Nat :=
  let v222 : Index := Scalar.indexCast v221
  let c0_164 : Index := 0#32
  let c0_165 : Index := 0#32
  ![v222.toNat, 0, 0]

def k0_chk35 (v221 : BitVec 32) : Prop :=
  (∀ a, (k0_off38 v221) a + S1x28x128.size a ≤ S2272x28x128.size a)
theorem k0_off38_inb : ∀ (v221 : BitVec 32) (k0_hw35 : k0_chk35 v221), ∀ a, (k0_off38 v221) a + S1x28x128.size a ≤ S2272x28x128.size a := fun v221 k0_hw35 => k0_hw35

def k0_off39 (v228 : BitVec 32) : Fin 3 → Nat :=
  let v229 : Index := Scalar.indexCast v228
  let c0_169 : Index := 0#32
  let c0_170 : Index := 0#32
  ![v229.toNat, 0, 0]

def k0_chk36 (v228 : BitVec 32) : Prop :=
  (∀ a, (k0_off39 v228) a + S1x28x128.size a ≤ S2272x28x128.size a)
theorem k0_off39_inb : ∀ (v228 : BitVec 32) (k0_hw36 : k0_chk36 v228), ∀ a, (k0_off39 v228) a + S1x28x128.size a ≤ S2272x28x128.size a := fun v228 k0_hw36 => k0_hw36

def k0_off40 (v235 : BitVec 32) : Fin 3 → Nat :=
  let v236 : Index := Scalar.indexCast v235
  let c0_175 : Index := 0#32
  let c0_176 : Index := 0#32
  ![v236.toNat, 0, 0]

def k0_chk37 (v235 : BitVec 32) : Prop :=
  (∀ a, (k0_off40 v235) a + S1x28x128.size a ≤ S2272x28x128.size a)
theorem k0_off40_inb : ∀ (v235 : BitVec 32) (k0_hw37 : k0_chk37 v235), ∀ a, (k0_off40 v235) a + S1x28x128.size a ≤ S2272x28x128.size a := fun v235 k0_hw37 => k0_hw37

def k0_off41 (v242 : BitVec 32) : Fin 3 → Nat :=
  let v243 : Index := Scalar.indexCast v242
  let c0_180 : Index := 0#32
  let c0_181 : Index := 0#32
  ![v243.toNat, 0, 0]

def k0_chk38 (v242 : BitVec 32) : Prop :=
  (∀ a, (k0_off41 v242) a + S1x28x128.size a ≤ S2272x28x128.size a)
theorem k0_off41_inb : ∀ (v242 : BitVec 32) (k0_hw38 : k0_chk38 v242), ∀ a, (k0_off41 v242) a + S1x28x128.size a ≤ S2272x28x128.size a := fun v242 k0_hw38 => k0_hw38

def k0_off42 (v249 : BitVec 32) : Fin 3 → Nat :=
  let v250 : Index := Scalar.indexCast v249
  let c0_185 : Index := 0#32
  let c0_186 : Index := 0#32
  ![v250.toNat, 0, 0]

def k0_chk39 (v249 : BitVec 32) : Prop :=
  (∀ a, (k0_off42 v249) a + S1x28x128.size a ≤ S2272x28x128.size a)
theorem k0_off42_inb : ∀ (v249 : BitVec 32) (k0_hw39 : k0_chk39 v249), ∀ a, (k0_off42 v249) a + S1x28x128.size a ≤ S2272x28x128.size a := fun v249 k0_hw39 => k0_hw39

def k0_off43 (v256 : BitVec 32) : Fin 3 → Nat :=
  let v257 : Index := Scalar.indexCast v256
  let c0_190 : Index := 0#32
  let c0_191 : Index := 0#32
  ![v257.toNat, 0, 0]

def k0_chk40 (v256 : BitVec 32) : Prop :=
  (∀ a, (k0_off43 v256) a + S1x28x128.size a ≤ S2272x28x128.size a)
theorem k0_off43_inb : ∀ (v256 : BitVec 32) (k0_hw40 : k0_chk40 v256), ∀ a, (k0_off43 v256) a + S1x28x128.size a ≤ S2272x28x128.size a := fun v256 k0_hw40 => k0_hw40

def k0_off44 (v263 : BitVec 32) : Fin 3 → Nat :=
  let v264 : Index := Scalar.indexCast v263
  let c0_195 : Index := 0#32
  let c0_196 : Index := 0#32
  ![v264.toNat, 0, 0]

def k0_chk41 (v263 : BitVec 32) : Prop :=
  (∀ a, (k0_off44 v263) a + S1x28x128.size a ≤ S2272x28x128.size a)
theorem k0_off44_inb : ∀ (v263 : BitVec 32) (k0_hw41 : k0_chk41 v263), ∀ a, (k0_off44 v263) a + S1x28x128.size a ≤ S2272x28x128.size a := fun v263 k0_hw41 => k0_hw41

def k0_off45 (v270 : BitVec 32) : Fin 3 → Nat :=
  let v271 : Index := Scalar.indexCast v270
  let c0_200 : Index := 0#32
  let c0_201 : Index := 0#32
  ![v271.toNat, 0, 0]

def k0_chk42 (v270 : BitVec 32) : Prop :=
  (∀ a, (k0_off45 v270) a + S1x28x128.size a ≤ S2272x28x128.size a)
theorem k0_off45_inb : ∀ (v270 : BitVec 32) (k0_hw42 : k0_chk42 v270), ∀ a, (k0_off45 v270) a + S1x28x128.size a ≤ S2272x28x128.size a := fun v270 k0_hw42 => k0_hw42

def k0_off46 (v277 : BitVec 32) : Fin 3 → Nat :=
  let v278 : Index := Scalar.indexCast v277
  let c0_205 : Index := 0#32
  let c0_206 : Index := 0#32
  ![v278.toNat, 0, 0]

def k0_chk43 (v277 : BitVec 32) : Prop :=
  (∀ a, (k0_off46 v277) a + S1x28x128.size a ≤ S2272x28x128.size a)
theorem k0_off46_inb : ∀ (v277 : BitVec 32) (k0_hw43 : k0_chk43 v277), ∀ a, (k0_off46 v277) a + S1x28x128.size a ≤ S2272x28x128.size a := fun v277 k0_hw43 => k0_hw43

def k0_off47 (v284 : BitVec 32) : Fin 3 → Nat :=
  let v285 : Index := Scalar.indexCast v284
  let c0_210 : Index := 0#32
  let c0_211 : Index := 0#32
  ![v285.toNat, 0, 0]

def k0_chk44 (v284 : BitVec 32) : Prop :=
  (∀ a, (k0_off47 v284) a + S1x28x128.size a ≤ S2272x28x128.size a)
theorem k0_off47_inb : ∀ (v284 : BitVec 32) (k0_hw44 : k0_chk44 v284), ∀ a, (k0_off47 v284) a + S1x28x128.size a ≤ S2272x28x128.size a := fun v284 k0_hw44 => k0_hw44

def k0_off48 (v291 : BitVec 32) : Fin 3 → Nat :=
  let v292 : Index := Scalar.indexCast v291
  let c0_215 : Index := 0#32
  let c0_216 : Index := 0#32
  ![v292.toNat, 0, 0]

def k0_chk45 (v291 : BitVec 32) : Prop :=
  (∀ a, (k0_off48 v291) a + S1x28x128.size a ≤ S2272x28x128.size a)
theorem k0_off48_inb : ∀ (v291 : BitVec 32) (k0_hw45 : k0_chk45 v291), ∀ a, (k0_off48 v291) a + S1x28x128.size a ≤ S2272x28x128.size a := fun v291 k0_hw45 => k0_hw45

def k0_off49 (v298 : BitVec 32) : Fin 3 → Nat :=
  let v299 : Index := Scalar.indexCast v298
  let c0_220 : Index := 0#32
  let c0_221 : Index := 0#32
  ![v299.toNat, 0, 0]

def k0_chk46 (v298 : BitVec 32) : Prop :=
  (∀ a, (k0_off49 v298) a + S1x28x128.size a ≤ S2272x28x128.size a)
theorem k0_off49_inb : ∀ (v298 : BitVec 32) (k0_hw46 : k0_chk46 v298), ∀ a, (k0_off49 v298) a + S1x28x128.size a ≤ S2272x28x128.size a := fun v298 k0_hw46 => k0_hw46

def k0_off50 (v305 : BitVec 32) : Fin 3 → Nat :=
  let v306 : Index := Scalar.indexCast v305
  let c0_225 : Index := 0#32
  let c0_226 : Index := 0#32
  ![v306.toNat, 0, 0]

def k0_chk47 (v305 : BitVec 32) : Prop :=
  (∀ a, (k0_off50 v305) a + S1x28x128.size a ≤ S2272x28x128.size a)
theorem k0_off50_inb : ∀ (v305 : BitVec 32) (k0_hw47 : k0_chk47 v305), ∀ a, (k0_off50 v305) a + S1x28x128.size a ≤ S2272x28x128.size a := fun v305 k0_hw47 => k0_hw47

def k0_off51 (v312 : BitVec 32) : Fin 3 → Nat :=
  let v313 : Index := Scalar.indexCast v312
  let c0_230 : Index := 0#32
  let c0_231 : Index := 0#32
  ![v313.toNat, 0, 0]

def k0_chk48 (v312 : BitVec 32) : Prop :=
  (∀ a, (k0_off51 v312) a + S1x28x128.size a ≤ S2272x28x128.size a)
theorem k0_off51_inb : ∀ (v312 : BitVec 32) (k0_hw48 : k0_chk48 v312), ∀ a, (k0_off51 v312) a + S1x28x128.size a ≤ S2272x28x128.size a := fun v312 k0_hw48 => k0_hw48

def k0_off52 (v319 : BitVec 32) : Fin 3 → Nat :=
  let v320 : Index := Scalar.indexCast v319
  let c0_235 : Index := 0#32
  let c0_236 : Index := 0#32
  ![v320.toNat, 0, 0]

def k0_chk49 (v319 : BitVec 32) : Prop :=
  (∀ a, (k0_off52 v319) a + S1x28x128.size a ≤ S2272x28x128.size a)
theorem k0_off52_inb : ∀ (v319 : BitVec 32) (k0_hw49 : k0_chk49 v319), ∀ a, (k0_off52 v319) a + S1x28x128.size a ≤ S2272x28x128.size a := fun v319 k0_hw49 => k0_hw49

def k0_off53 (v326 : BitVec 32) : Fin 3 → Nat :=
  let v327 : Index := Scalar.indexCast v326
  let c0_240 : Index := 0#32
  let c0_241 : Index := 0#32
  ![v327.toNat, 0, 0]

def k0_chk50 (v326 : BitVec 32) : Prop :=
  (∀ a, (k0_off53 v326) a + S1x28x128.size a ≤ S2272x28x128.size a)
theorem k0_off53_inb : ∀ (v326 : BitVec 32) (k0_hw50 : k0_chk50 v326), ∀ a, (k0_off53 v326) a + S1x28x128.size a ≤ S2272x28x128.size a := fun v326 k0_hw50 => k0_hw50

def k0_off54 (v333 : BitVec 32) : Fin 3 → Nat :=
  let v334 : Index := Scalar.indexCast v333
  let c0_245 : Index := 0#32
  let c0_246 : Index := 0#32
  ![v334.toNat, 0, 0]

def k0_chk51 (v333 : BitVec 32) : Prop :=
  (∀ a, (k0_off54 v333) a + S1x28x128.size a ≤ S2272x28x128.size a)
theorem k0_off54_inb : ∀ (v333 : BitVec 32) (k0_hw51 : k0_chk51 v333), ∀ a, (k0_off54 v333) a + S1x28x128.size a ≤ S2272x28x128.size a := fun v333 k0_hw51 => k0_hw51

def k0_off55 (v340 : BitVec 32) : Fin 3 → Nat :=
  let v341 : Index := Scalar.indexCast v340
  let c0_250 : Index := 0#32
  let c0_251 : Index := 0#32
  ![v341.toNat, 0, 0]

def k0_chk52 (v340 : BitVec 32) : Prop :=
  (∀ a, (k0_off55 v340) a + S1x28x128.size a ≤ S2272x28x128.size a)
theorem k0_off55_inb : ∀ (v340 : BitVec 32) (k0_hw52 : k0_chk52 v340), ∀ a, (k0_off55 v340) a + S1x28x128.size a ≤ S2272x28x128.size a := fun v340 k0_hw52 => k0_hw52

def k0_off56 (v347 : BitVec 32) : Fin 3 → Nat :=
  let v348 : Index := Scalar.indexCast v347
  let c0_255 : Index := 0#32
  let c0_256 : Index := 0#32
  ![v348.toNat, 0, 0]

def k0_chk53 (v347 : BitVec 32) : Prop :=
  (∀ a, (k0_off56 v347) a + S1x28x128.size a ≤ S2272x28x128.size a)
theorem k0_off56_inb : ∀ (v347 : BitVec 32) (k0_hw53 : k0_chk53 v347), ∀ a, (k0_off56 v347) a + S1x28x128.size a ≤ S2272x28x128.size a := fun v347 k0_hw53 => k0_hw53

def k0_off57 (v354 : BitVec 32) : Fin 3 → Nat :=
  let v355 : Index := Scalar.indexCast v354
  let c0_260 : Index := 0#32
  let c0_261 : Index := 0#32
  ![v355.toNat, 0, 0]

def k0_chk54 (v354 : BitVec 32) : Prop :=
  (∀ a, (k0_off57 v354) a + S1x28x128.size a ≤ S2272x28x128.size a)
theorem k0_off57_inb : ∀ (v354 : BitVec 32) (k0_hw54 : k0_chk54 v354), ∀ a, (k0_off57 v354) a + S1x28x128.size a ≤ S2272x28x128.size a := fun v354 k0_hw54 => k0_hw54

def k0_off58 (v361 : BitVec 32) : Fin 3 → Nat :=
  let v362 : Index := Scalar.indexCast v361
  let c0_265 : Index := 0#32
  let c0_266 : Index := 0#32
  ![v362.toNat, 0, 0]

def k0_chk55 (v361 : BitVec 32) : Prop :=
  (∀ a, (k0_off58 v361) a + S1x28x128.size a ≤ S2272x28x128.size a)
theorem k0_off58_inb : ∀ (v361 : BitVec 32) (k0_hw55 : k0_chk55 v361), ∀ a, (k0_off58 v361) a + S1x28x128.size a ≤ S2272x28x128.size a := fun v361 k0_hw55 => k0_hw55

def k0_off59 (v368 : BitVec 32) : Fin 3 → Nat :=
  let v369 : Index := Scalar.indexCast v368
  let c0_270 : Index := 0#32
  let c0_271 : Index := 0#32
  ![v369.toNat, 0, 0]

def k0_chk56 (v368 : BitVec 32) : Prop :=
  (∀ a, (k0_off59 v368) a + S1x28x128.size a ≤ S2272x28x128.size a)
theorem k0_off59_inb : ∀ (v368 : BitVec 32) (k0_hw56 : k0_chk56 v368), ∀ a, (k0_off59 v368) a + S1x28x128.size a ≤ S2272x28x128.size a := fun v368 k0_hw56 => k0_hw56

def k0_off60 (v375 : BitVec 32) : Fin 3 → Nat :=
  let v376 : Index := Scalar.indexCast v375
  let c0_275 : Index := 0#32
  let c0_276 : Index := 0#32
  ![v376.toNat, 0, 0]

def k0_chk57 (v375 : BitVec 32) : Prop :=
  (∀ a, (k0_off60 v375) a + S1x28x128.size a ≤ S2272x28x128.size a)
theorem k0_off60_inb : ∀ (v375 : BitVec 32) (k0_hw57 : k0_chk57 v375), ∀ a, (k0_off60 v375) a + S1x28x128.size a ≤ S2272x28x128.size a := fun v375 k0_hw57 => k0_hw57

def k0_off61 (v382 : BitVec 32) : Fin 3 → Nat :=
  let v383 : Index := Scalar.indexCast v382
  let c0_280 : Index := 0#32
  let c0_281 : Index := 0#32
  ![v383.toNat, 0, 0]

def k0_chk58 (v382 : BitVec 32) : Prop :=
  (∀ a, (k0_off61 v382) a + S1x28x128.size a ≤ S2272x28x128.size a)
theorem k0_off61_inb : ∀ (v382 : BitVec 32) (k0_hw58 : k0_chk58 v382), ∀ a, (k0_off61 v382) a + S1x28x128.size a ≤ S2272x28x128.size a := fun v382 k0_hw58 => k0_hw58

def k0_off62 (v389 : BitVec 32) : Fin 3 → Nat :=
  let v390 : Index := Scalar.indexCast v389
  let c0_285 : Index := 0#32
  let c0_286 : Index := 0#32
  ![v390.toNat, 0, 0]

def k0_chk59 (v389 : BitVec 32) : Prop :=
  (∀ a, (k0_off62 v389) a + S1x28x128.size a ≤ S2272x28x128.size a)
theorem k0_off62_inb : ∀ (v389 : BitVec 32) (k0_hw59 : k0_chk59 v389), ∀ a, (k0_off62 v389) a + S1x28x128.size a ≤ S2272x28x128.size a := fun v389 k0_hw59 => k0_hw59

def k0_off63 (v396 : BitVec 32) : Fin 3 → Nat :=
  let v397 : Index := Scalar.indexCast v396
  let c0_290 : Index := 0#32
  let c0_291 : Index := 0#32
  ![v397.toNat, 0, 0]

def k0_chk60 (v396 : BitVec 32) : Prop :=
  (∀ a, (k0_off63 v396) a + S1x28x128.size a ≤ S2272x28x128.size a)
theorem k0_off63_inb : ∀ (v396 : BitVec 32) (k0_hw60 : k0_chk60 v396), ∀ a, (k0_off63 v396) a + S1x28x128.size a ≤ S2272x28x128.size a := fun v396 k0_hw60 => k0_hw60

def k0_off64 (v403 : BitVec 32) : Fin 3 → Nat :=
  let v404 : Index := Scalar.indexCast v403
  let c0_295 : Index := 0#32
  let c0_296 : Index := 0#32
  ![v404.toNat, 0, 0]

def k0_chk61 (v403 : BitVec 32) : Prop :=
  (∀ a, (k0_off64 v403) a + S1x28x128.size a ≤ S2272x28x128.size a)
theorem k0_off64_inb : ∀ (v403 : BitVec 32) (k0_hw61 : k0_chk61 v403), ∀ a, (k0_off64 v403) a + S1x28x128.size a ≤ S2272x28x128.size a := fun v403 k0_hw61 => k0_hw61

def k0_off65 (v410 : BitVec 32) : Fin 3 → Nat :=
  let v411 : Index := Scalar.indexCast v410
  let c0_300 : Index := 0#32
  let c0_301 : Index := 0#32
  ![v411.toNat, 0, 0]

def k0_chk62 (v410 : BitVec 32) : Prop :=
  (∀ a, (k0_off65 v410) a + S1x28x128.size a ≤ S2272x28x128.size a)
theorem k0_off65_inb : ∀ (v410 : BitVec 32) (k0_hw62 : k0_chk62 v410), ∀ a, (k0_off65 v410) a + S1x28x128.size a ≤ S2272x28x128.size a := fun v410 k0_hw62 => k0_hw62

def k0_off66 (v417 : BitVec 32) : Fin 3 → Nat :=
  let v418 : Index := Scalar.indexCast v417
  let c0_305 : Index := 0#32
  let c0_306 : Index := 0#32
  ![v418.toNat, 0, 0]

def k0_chk63 (v417 : BitVec 32) : Prop :=
  (∀ a, (k0_off66 v417) a + S1x28x128.size a ≤ S2272x28x128.size a)
theorem k0_off66_inb : ∀ (v417 : BitVec 32) (k0_hw63 : k0_chk63 v417), ∀ a, (k0_off66 v417) a + S1x28x128.size a ≤ S2272x28x128.size a := fun v417 k0_hw63 => k0_hw63

def k0_off67 (v424 : BitVec 32) : Fin 3 → Nat :=
  let v425 : Index := Scalar.indexCast v424
  let c0_310 : Index := 0#32
  let c0_311 : Index := 0#32
  ![v425.toNat, 0, 0]

def k0_chk64 (v424 : BitVec 32) : Prop :=
  (∀ a, (k0_off67 v424) a + S1x28x128.size a ≤ S2272x28x128.size a)
theorem k0_off67_inb : ∀ (v424 : BitVec 32) (k0_hw64 : k0_chk64 v424), ∀ a, (k0_off67 v424) a + S1x28x128.size a ≤ S2272x28x128.size a := fun v424 k0_hw64 => k0_hw64

def k0_off68 (v431 : BitVec 32) : Fin 3 → Nat :=
  let v432 : Index := Scalar.indexCast v431
  let c0_315 : Index := 0#32
  let c0_316 : Index := 0#32
  ![v432.toNat, 0, 0]

def k0_chk65 (v431 : BitVec 32) : Prop :=
  (∀ a, (k0_off68 v431) a + S1x28x128.size a ≤ S2272x28x128.size a)
theorem k0_off68_inb : ∀ (v431 : BitVec 32) (k0_hw65 : k0_chk65 v431), ∀ a, (k0_off68 v431) a + S1x28x128.size a ≤ S2272x28x128.size a := fun v431 k0_hw65 => k0_hw65

def k0_off69 (v438 : BitVec 32) : Fin 3 → Nat :=
  let v439 : Index := Scalar.indexCast v438
  let c0_320 : Index := 0#32
  let c0_321 : Index := 0#32
  ![v439.toNat, 0, 0]

def k0_chk66 (v438 : BitVec 32) : Prop :=
  (∀ a, (k0_off69 v438) a + S1x28x128.size a ≤ S2272x28x128.size a)
theorem k0_off69_inb : ∀ (v438 : BitVec 32) (k0_hw66 : k0_chk66 v438), ∀ a, (k0_off69 v438) a + S1x28x128.size a ≤ S2272x28x128.size a := fun v438 k0_hw66 => k0_hw66

def k0_off70 (v445 : BitVec 32) : Fin 3 → Nat :=
  let v446 : Index := Scalar.indexCast v445
  let c0_325 : Index := 0#32
  let c0_326 : Index := 0#32
  ![v446.toNat, 0, 0]

def k0_chk67 (v445 : BitVec 32) : Prop :=
  (∀ a, (k0_off70 v445) a + S1x28x128.size a ≤ S2272x28x128.size a)
theorem k0_off70_inb : ∀ (v445 : BitVec 32) (k0_hw67 : k0_chk67 v445), ∀ a, (k0_off70 v445) a + S1x28x128.size a ≤ S2272x28x128.size a := fun v445 k0_hw67 => k0_hw67

def k0_off71 (v452 : BitVec 32) : Fin 3 → Nat :=
  let v453 : Index := Scalar.indexCast v452
  let c0_330 : Index := 0#32
  let c0_331 : Index := 0#32
  ![v453.toNat, 0, 0]

def k0_chk68 (v452 : BitVec 32) : Prop :=
  (∀ a, (k0_off71 v452) a + S1x28x128.size a ≤ S2272x28x128.size a)
theorem k0_off71_inb : ∀ (v452 : BitVec 32) (k0_hw68 : k0_chk68 v452), ∀ a, (k0_off71 v452) a + S1x28x128.size a ≤ S2272x28x128.size a := fun v452 k0_hw68 => k0_hw68

def k0_mult5 : BitVec 32 :=
  let c0_i32_333 : BitVec 32 := 0#32
  c0_i32_333
def k0_off72 (v464 : BitVec 32) : Fin 2 → Nat :=
  let v465 : Index := Scalar.indexCast v464
  let c0_337 : Index := 0#32
  ![v465.toNat, 0]

def k0_chk69 (v464 : BitVec 32) : Prop :=
  (∀ a, (k0_off72 v464) a + S1x128.size a ≤ S9088x128.size a)
theorem k0_off72_inb : ∀ (v464 : BitVec 32) (k0_hw69 : k0_chk69 v464), ∀ a, (k0_off72 v464) a + S1x128.size a ≤ S9088x128.size a := fun v464 k0_hw69 => k0_hw69

def k0_off73 (v470 : BitVec 32) : Fin 2 → Nat :=
  let v471 : Index := Scalar.indexCast v470
  let c0_342 : Index := 0#32
  ![v471.toNat, 0]

def k0_chk70 (v470 : BitVec 32) : Prop :=
  (∀ a, (k0_off73 v470) a + S1x128.size a ≤ S9088x128.size a)
theorem k0_off73_inb : ∀ (v470 : BitVec 32) (k0_hw70 : k0_chk70 v470), ∀ a, (k0_off73 v470) a + S1x128.size a ≤ S9088x128.size a := fun v470 k0_hw70 => k0_hw70

def k0_off74 (v476 : BitVec 32) : Fin 2 → Nat :=
  let v477 : Index := Scalar.indexCast v476
  let c0_347 : Index := 0#32
  ![v477.toNat, 0]

def k0_chk71 (v476 : BitVec 32) : Prop :=
  (∀ a, (k0_off74 v476) a + S1x128.size a ≤ S9088x128.size a)
theorem k0_off74_inb : ∀ (v476 : BitVec 32) (k0_hw71 : k0_chk71 v476), ∀ a, (k0_off74 v476) a + S1x128.size a ≤ S9088x128.size a := fun v476 k0_hw71 => k0_hw71

def k0_off75 (v482 : BitVec 32) : Fin 2 → Nat :=
  let v483 : Index := Scalar.indexCast v482
  let c0_352 : Index := 0#32
  ![v483.toNat, 0]

def k0_chk72 (v482 : BitVec 32) : Prop :=
  (∀ a, (k0_off75 v482) a + S1x128.size a ≤ S9088x128.size a)
theorem k0_off75_inb : ∀ (v482 : BitVec 32) (k0_hw72 : k0_chk72 v482), ∀ a, (k0_off75 v482) a + S1x128.size a ≤ S9088x128.size a := fun v482 k0_hw72 => k0_hw72

def k0_off76 (v488 : BitVec 32) : Fin 2 → Nat :=
  let v489 : Index := Scalar.indexCast v488
  let c0_357 : Index := 0#32
  ![v489.toNat, 0]

def k0_chk73 (v488 : BitVec 32) : Prop :=
  (∀ a, (k0_off76 v488) a + S1x128.size a ≤ S9088x128.size a)
theorem k0_off76_inb : ∀ (v488 : BitVec 32) (k0_hw73 : k0_chk73 v488), ∀ a, (k0_off76 v488) a + S1x128.size a ≤ S9088x128.size a := fun v488 k0_hw73 => k0_hw73

def k0_off77 (v494 : BitVec 32) : Fin 2 → Nat :=
  let v495 : Index := Scalar.indexCast v494
  let c0_362 : Index := 0#32
  ![v495.toNat, 0]

def k0_chk74 (v494 : BitVec 32) : Prop :=
  (∀ a, (k0_off77 v494) a + S1x128.size a ≤ S9088x128.size a)
theorem k0_off77_inb : ∀ (v494 : BitVec 32) (k0_hw74 : k0_chk74 v494), ∀ a, (k0_off77 v494) a + S1x128.size a ≤ S9088x128.size a := fun v494 k0_hw74 => k0_hw74

def k0_off78 (v500 : BitVec 32) : Fin 2 → Nat :=
  let v501 : Index := Scalar.indexCast v500
  let c0_367 : Index := 0#32
  ![v501.toNat, 0]

def k0_chk75 (v500 : BitVec 32) : Prop :=
  (∀ a, (k0_off78 v500) a + S1x128.size a ≤ S9088x128.size a)
theorem k0_off78_inb : ∀ (v500 : BitVec 32) (k0_hw75 : k0_chk75 v500), ∀ a, (k0_off78 v500) a + S1x128.size a ≤ S9088x128.size a := fun v500 k0_hw75 => k0_hw75

def k0_off79 (v506 : BitVec 32) : Fin 2 → Nat :=
  let v507 : Index := Scalar.indexCast v506
  let c0_372 : Index := 0#32
  ![v507.toNat, 0]

def k0_chk76 (v506 : BitVec 32) : Prop :=
  (∀ a, (k0_off79 v506) a + S1x128.size a ≤ S9088x128.size a)
theorem k0_off79_inb : ∀ (v506 : BitVec 32) (k0_hw76 : k0_chk76 v506), ∀ a, (k0_off79 v506) a + S1x128.size a ≤ S9088x128.size a := fun v506 k0_hw76 => k0_hw76

def k0_off80 (v512 : BitVec 32) : Fin 2 → Nat :=
  let v513 : Index := Scalar.indexCast v512
  let c0_377 : Index := 0#32
  ![v513.toNat, 0]

def k0_chk77 (v512 : BitVec 32) : Prop :=
  (∀ a, (k0_off80 v512) a + S1x128.size a ≤ S9088x128.size a)
theorem k0_off80_inb : ∀ (v512 : BitVec 32) (k0_hw77 : k0_chk77 v512), ∀ a, (k0_off80 v512) a + S1x128.size a ≤ S9088x128.size a := fun v512 k0_hw77 => k0_hw77

def k0_off81 (v518 : BitVec 32) : Fin 2 → Nat :=
  let v519 : Index := Scalar.indexCast v518
  let c0_382 : Index := 0#32
  ![v519.toNat, 0]

def k0_chk78 (v518 : BitVec 32) : Prop :=
  (∀ a, (k0_off81 v518) a + S1x128.size a ≤ S9088x128.size a)
theorem k0_off81_inb : ∀ (v518 : BitVec 32) (k0_hw78 : k0_chk78 v518), ∀ a, (k0_off81 v518) a + S1x128.size a ≤ S9088x128.size a := fun v518 k0_hw78 => k0_hw78

def k0_off82 (v524 : BitVec 32) : Fin 2 → Nat :=
  let v525 : Index := Scalar.indexCast v524
  let c0_387 : Index := 0#32
  ![v525.toNat, 0]

def k0_chk79 (v524 : BitVec 32) : Prop :=
  (∀ a, (k0_off82 v524) a + S1x128.size a ≤ S9088x128.size a)
theorem k0_off82_inb : ∀ (v524 : BitVec 32) (k0_hw79 : k0_chk79 v524), ∀ a, (k0_off82 v524) a + S1x128.size a ≤ S9088x128.size a := fun v524 k0_hw79 => k0_hw79

def k0_off83 (v530 : BitVec 32) : Fin 2 → Nat :=
  let v531 : Index := Scalar.indexCast v530
  let c0_392 : Index := 0#32
  ![v531.toNat, 0]

def k0_chk80 (v530 : BitVec 32) : Prop :=
  (∀ a, (k0_off83 v530) a + S1x128.size a ≤ S9088x128.size a)
theorem k0_off83_inb : ∀ (v530 : BitVec 32) (k0_hw80 : k0_chk80 v530), ∀ a, (k0_off83 v530) a + S1x128.size a ≤ S9088x128.size a := fun v530 k0_hw80 => k0_hw80

def k0_off84 (v536 : BitVec 32) : Fin 2 → Nat :=
  let v537 : Index := Scalar.indexCast v536
  let c0_397 : Index := 0#32
  ![v537.toNat, 0]

def k0_chk81 (v536 : BitVec 32) : Prop :=
  (∀ a, (k0_off84 v536) a + S1x128.size a ≤ S9088x128.size a)
theorem k0_off84_inb : ∀ (v536 : BitVec 32) (k0_hw81 : k0_chk81 v536), ∀ a, (k0_off84 v536) a + S1x128.size a ≤ S9088x128.size a := fun v536 k0_hw81 => k0_hw81

def k0_off85 (v542 : BitVec 32) : Fin 2 → Nat :=
  let v543 : Index := Scalar.indexCast v542
  let c0_402 : Index := 0#32
  ![v543.toNat, 0]

def k0_chk82 (v542 : BitVec 32) : Prop :=
  (∀ a, (k0_off85 v542) a + S1x128.size a ≤ S9088x128.size a)
theorem k0_off85_inb : ∀ (v542 : BitVec 32) (k0_hw82 : k0_chk82 v542), ∀ a, (k0_off85 v542) a + S1x128.size a ≤ S9088x128.size a := fun v542 k0_hw82 => k0_hw82

def k0_off86 (v548 : BitVec 32) : Fin 2 → Nat :=
  let v549 : Index := Scalar.indexCast v548
  let c0_407 : Index := 0#32
  ![v549.toNat, 0]

def k0_chk83 (v548 : BitVec 32) : Prop :=
  (∀ a, (k0_off86 v548) a + S1x128.size a ≤ S9088x128.size a)
theorem k0_off86_inb : ∀ (v548 : BitVec 32) (k0_hw83 : k0_chk83 v548), ∀ a, (k0_off86 v548) a + S1x128.size a ≤ S9088x128.size a := fun v548 k0_hw83 => k0_hw83

def k0_off87 (v554 : BitVec 32) : Fin 2 → Nat :=
  let v555 : Index := Scalar.indexCast v554
  let c0_412 : Index := 0#32
  ![v555.toNat, 0]

def k0_chk84 (v554 : BitVec 32) : Prop :=
  (∀ a, (k0_off87 v554) a + S1x128.size a ≤ S9088x128.size a)
theorem k0_off87_inb : ∀ (v554 : BitVec 32) (k0_hw84 : k0_chk84 v554), ∀ a, (k0_off87 v554) a + S1x128.size a ≤ S9088x128.size a := fun v554 k0_hw84 => k0_hw84

def k0_off88 (v560 : BitVec 32) : Fin 2 → Nat :=
  let v561 : Index := Scalar.indexCast v560
  let c0_417 : Index := 0#32
  ![v561.toNat, 0]

def k0_chk85 (v560 : BitVec 32) : Prop :=
  (∀ a, (k0_off88 v560) a + S1x128.size a ≤ S9088x128.size a)
theorem k0_off88_inb : ∀ (v560 : BitVec 32) (k0_hw85 : k0_chk85 v560), ∀ a, (k0_off88 v560) a + S1x128.size a ≤ S9088x128.size a := fun v560 k0_hw85 => k0_hw85

def k0_off89 (v566 : BitVec 32) : Fin 2 → Nat :=
  let v567 : Index := Scalar.indexCast v566
  let c0_422 : Index := 0#32
  ![v567.toNat, 0]

def k0_chk86 (v566 : BitVec 32) : Prop :=
  (∀ a, (k0_off89 v566) a + S1x128.size a ≤ S9088x128.size a)
theorem k0_off89_inb : ∀ (v566 : BitVec 32) (k0_hw86 : k0_chk86 v566), ∀ a, (k0_off89 v566) a + S1x128.size a ≤ S9088x128.size a := fun v566 k0_hw86 => k0_hw86

def k0_off90 (v572 : BitVec 32) : Fin 2 → Nat :=
  let v573 : Index := Scalar.indexCast v572
  let c0_427 : Index := 0#32
  ![v573.toNat, 0]

def k0_chk87 (v572 : BitVec 32) : Prop :=
  (∀ a, (k0_off90 v572) a + S1x128.size a ≤ S9088x128.size a)
theorem k0_off90_inb : ∀ (v572 : BitVec 32) (k0_hw87 : k0_chk87 v572), ∀ a, (k0_off90 v572) a + S1x128.size a ≤ S9088x128.size a := fun v572 k0_hw87 => k0_hw87

def k0_off91 (v578 : BitVec 32) : Fin 2 → Nat :=
  let v579 : Index := Scalar.indexCast v578
  let c0_432 : Index := 0#32
  ![v579.toNat, 0]

def k0_chk88 (v578 : BitVec 32) : Prop :=
  (∀ a, (k0_off91 v578) a + S1x128.size a ≤ S9088x128.size a)
theorem k0_off91_inb : ∀ (v578 : BitVec 32) (k0_hw88 : k0_chk88 v578), ∀ a, (k0_off91 v578) a + S1x128.size a ≤ S9088x128.size a := fun v578 k0_hw88 => k0_hw88

def k0_off92 (v584 : BitVec 32) : Fin 2 → Nat :=
  let v585 : Index := Scalar.indexCast v584
  let c0_437 : Index := 0#32
  ![v585.toNat, 0]

def k0_chk89 (v584 : BitVec 32) : Prop :=
  (∀ a, (k0_off92 v584) a + S1x128.size a ≤ S9088x128.size a)
theorem k0_off92_inb : ∀ (v584 : BitVec 32) (k0_hw89 : k0_chk89 v584), ∀ a, (k0_off92 v584) a + S1x128.size a ≤ S9088x128.size a := fun v584 k0_hw89 => k0_hw89

def k0_off93 (v590 : BitVec 32) : Fin 2 → Nat :=
  let v591 : Index := Scalar.indexCast v590
  let c0_442 : Index := 0#32
  ![v591.toNat, 0]

def k0_chk90 (v590 : BitVec 32) : Prop :=
  (∀ a, (k0_off93 v590) a + S1x128.size a ≤ S9088x128.size a)
theorem k0_off93_inb : ∀ (v590 : BitVec 32) (k0_hw90 : k0_chk90 v590), ∀ a, (k0_off93 v590) a + S1x128.size a ≤ S9088x128.size a := fun v590 k0_hw90 => k0_hw90

def k0_off94 (v596 : BitVec 32) : Fin 2 → Nat :=
  let v597 : Index := Scalar.indexCast v596
  let c0_447 : Index := 0#32
  ![v597.toNat, 0]

def k0_chk91 (v596 : BitVec 32) : Prop :=
  (∀ a, (k0_off94 v596) a + S1x128.size a ≤ S9088x128.size a)
theorem k0_off94_inb : ∀ (v596 : BitVec 32) (k0_hw91 : k0_chk91 v596), ∀ a, (k0_off94 v596) a + S1x128.size a ≤ S9088x128.size a := fun v596 k0_hw91 => k0_hw91

def k0_off95 (v602 : BitVec 32) : Fin 2 → Nat :=
  let v603 : Index := Scalar.indexCast v602
  let c0_452 : Index := 0#32
  ![v603.toNat, 0]

def k0_chk92 (v602 : BitVec 32) : Prop :=
  (∀ a, (k0_off95 v602) a + S1x128.size a ≤ S9088x128.size a)
theorem k0_off95_inb : ∀ (v602 : BitVec 32) (k0_hw92 : k0_chk92 v602), ∀ a, (k0_off95 v602) a + S1x128.size a ≤ S9088x128.size a := fun v602 k0_hw92 => k0_hw92

def k0_off96 (v608 : BitVec 32) : Fin 2 → Nat :=
  let v609 : Index := Scalar.indexCast v608
  let c0_457 : Index := 0#32
  ![v609.toNat, 0]

def k0_chk93 (v608 : BitVec 32) : Prop :=
  (∀ a, (k0_off96 v608) a + S1x128.size a ≤ S9088x128.size a)
theorem k0_off96_inb : ∀ (v608 : BitVec 32) (k0_hw93 : k0_chk93 v608), ∀ a, (k0_off96 v608) a + S1x128.size a ≤ S9088x128.size a := fun v608 k0_hw93 => k0_hw93

def k0_off97 (v614 : BitVec 32) : Fin 2 → Nat :=
  let v615 : Index := Scalar.indexCast v614
  let c0_462 : Index := 0#32
  ![v615.toNat, 0]

def k0_chk94 (v614 : BitVec 32) : Prop :=
  (∀ a, (k0_off97 v614) a + S1x128.size a ≤ S9088x128.size a)
theorem k0_off97_inb : ∀ (v614 : BitVec 32) (k0_hw94 : k0_chk94 v614), ∀ a, (k0_off97 v614) a + S1x128.size a ≤ S9088x128.size a := fun v614 k0_hw94 => k0_hw94

def k0_off98 (v620 : BitVec 32) : Fin 2 → Nat :=
  let v621 : Index := Scalar.indexCast v620
  let c0_467 : Index := 0#32
  ![v621.toNat, 0]

def k0_chk95 (v620 : BitVec 32) : Prop :=
  (∀ a, (k0_off98 v620) a + S1x128.size a ≤ S9088x128.size a)
theorem k0_off98_inb : ∀ (v620 : BitVec 32) (k0_hw95 : k0_chk95 v620), ∀ a, (k0_off98 v620) a + S1x128.size a ≤ S9088x128.size a := fun v620 k0_hw95 => k0_hw95

def k0_off99 (v626 : BitVec 32) : Fin 2 → Nat :=
  let v627 : Index := Scalar.indexCast v626
  let c0_472 : Index := 0#32
  ![v627.toNat, 0]

def k0_chk96 (v626 : BitVec 32) : Prop :=
  (∀ a, (k0_off99 v626) a + S1x128.size a ≤ S9088x128.size a)
theorem k0_off99_inb : ∀ (v626 : BitVec 32) (k0_hw96 : k0_chk96 v626), ∀ a, (k0_off99 v626) a + S1x128.size a ≤ S9088x128.size a := fun v626 k0_hw96 => k0_hw96

def k0_off100 (v632 : BitVec 32) : Fin 2 → Nat :=
  let v633 : Index := Scalar.indexCast v632
  let c0_477 : Index := 0#32
  ![v633.toNat, 0]

def k0_chk97 (v632 : BitVec 32) : Prop :=
  (∀ a, (k0_off100 v632) a + S1x128.size a ≤ S9088x128.size a)
theorem k0_off100_inb : ∀ (v632 : BitVec 32) (k0_hw97 : k0_chk97 v632), ∀ a, (k0_off100 v632) a + S1x128.size a ≤ S9088x128.size a := fun v632 k0_hw97 => k0_hw97

def k0_off101 (v638 : BitVec 32) : Fin 2 → Nat :=
  let v639 : Index := Scalar.indexCast v638
  let c0_482 : Index := 0#32
  ![v639.toNat, 0]

def k0_chk98 (v638 : BitVec 32) : Prop :=
  (∀ a, (k0_off101 v638) a + S1x128.size a ≤ S9088x128.size a)
theorem k0_off101_inb : ∀ (v638 : BitVec 32) (k0_hw98 : k0_chk98 v638), ∀ a, (k0_off101 v638) a + S1x128.size a ≤ S9088x128.size a := fun v638 k0_hw98 => k0_hw98

def k0_off102 (v644 : BitVec 32) : Fin 2 → Nat :=
  let v645 : Index := Scalar.indexCast v644
  let c0_487 : Index := 0#32
  ![v645.toNat, 0]

def k0_chk99 (v644 : BitVec 32) : Prop :=
  (∀ a, (k0_off102 v644) a + S1x128.size a ≤ S9088x128.size a)
theorem k0_off102_inb : ∀ (v644 : BitVec 32) (k0_hw99 : k0_chk99 v644), ∀ a, (k0_off102 v644) a + S1x128.size a ≤ S9088x128.size a := fun v644 k0_hw99 => k0_hw99

def k0_off103 (v650 : BitVec 32) : Fin 2 → Nat :=
  let v651 : Index := Scalar.indexCast v650
  let c0_492 : Index := 0#32
  ![v651.toNat, 0]

def k0_chk100 (v650 : BitVec 32) : Prop :=
  (∀ a, (k0_off103 v650) a + S1x128.size a ≤ S9088x128.size a)
theorem k0_off103_inb : ∀ (v650 : BitVec 32) (k0_hw100 : k0_chk100 v650), ∀ a, (k0_off103 v650) a + S1x128.size a ≤ S9088x128.size a := fun v650 k0_hw100 => k0_hw100

def k0_off104 (v673 : BitVec 32) : Fin 2 → Nat :=
  let v674 : Index := Scalar.indexCast v673
  let c0_504 : Index := 0#32
  ![v674.toNat, 0]

def k0_chk101 (v673 : BitVec 32) : Prop :=
  (∀ a, (k0_off104 v673) a + S1x128.size a ≤ S9088x128.size a)
theorem k0_off104_inb : ∀ (v673 : BitVec 32) (k0_hw101 : k0_chk101 v673), ∀ a, (k0_off104 v673) a + S1x128.size a ≤ S9088x128.size a := fun v673 k0_hw101 => k0_hw101

def k0_off105 (v679 : BitVec 32) : Fin 2 → Nat :=
  let v680 : Index := Scalar.indexCast v679
  let c0_509 : Index := 0#32
  ![v680.toNat, 0]

def k0_chk102 (v679 : BitVec 32) : Prop :=
  (∀ a, (k0_off105 v679) a + S1x128.size a ≤ S9088x128.size a)
theorem k0_off105_inb : ∀ (v679 : BitVec 32) (k0_hw102 : k0_chk102 v679), ∀ a, (k0_off105 v679) a + S1x128.size a ≤ S9088x128.size a := fun v679 k0_hw102 => k0_hw102

def k0_off106 (v685 : BitVec 32) : Fin 2 → Nat :=
  let v686 : Index := Scalar.indexCast v685
  let c0_514 : Index := 0#32
  ![v686.toNat, 0]

def k0_chk103 (v685 : BitVec 32) : Prop :=
  (∀ a, (k0_off106 v685) a + S1x128.size a ≤ S9088x128.size a)
theorem k0_off106_inb : ∀ (v685 : BitVec 32) (k0_hw103 : k0_chk103 v685), ∀ a, (k0_off106 v685) a + S1x128.size a ≤ S9088x128.size a := fun v685 k0_hw103 => k0_hw103

def k0_off107 (v691 : BitVec 32) : Fin 2 → Nat :=
  let v692 : Index := Scalar.indexCast v691
  let c0_519 : Index := 0#32
  ![v692.toNat, 0]

def k0_chk104 (v691 : BitVec 32) : Prop :=
  (∀ a, (k0_off107 v691) a + S1x128.size a ≤ S9088x128.size a)
theorem k0_off107_inb : ∀ (v691 : BitVec 32) (k0_hw104 : k0_chk104 v691), ∀ a, (k0_off107 v691) a + S1x128.size a ≤ S9088x128.size a := fun v691 k0_hw104 => k0_hw104

def k0_off108 (v697 : BitVec 32) : Fin 2 → Nat :=
  let v698 : Index := Scalar.indexCast v697
  let c0_524 : Index := 0#32
  ![v698.toNat, 0]

def k0_chk105 (v697 : BitVec 32) : Prop :=
  (∀ a, (k0_off108 v697) a + S1x128.size a ≤ S9088x128.size a)
theorem k0_off108_inb : ∀ (v697 : BitVec 32) (k0_hw105 : k0_chk105 v697), ∀ a, (k0_off108 v697) a + S1x128.size a ≤ S9088x128.size a := fun v697 k0_hw105 => k0_hw105

def k0_off109 (v703 : BitVec 32) : Fin 2 → Nat :=
  let v704 : Index := Scalar.indexCast v703
  let c0_529 : Index := 0#32
  ![v704.toNat, 0]

def k0_chk106 (v703 : BitVec 32) : Prop :=
  (∀ a, (k0_off109 v703) a + S1x128.size a ≤ S9088x128.size a)
theorem k0_off109_inb : ∀ (v703 : BitVec 32) (k0_hw106 : k0_chk106 v703), ∀ a, (k0_off109 v703) a + S1x128.size a ≤ S9088x128.size a := fun v703 k0_hw106 => k0_hw106

def k0_off110 (v709 : BitVec 32) : Fin 2 → Nat :=
  let v710 : Index := Scalar.indexCast v709
  let c0_534 : Index := 0#32
  ![v710.toNat, 0]

def k0_chk107 (v709 : BitVec 32) : Prop :=
  (∀ a, (k0_off110 v709) a + S1x128.size a ≤ S9088x128.size a)
theorem k0_off110_inb : ∀ (v709 : BitVec 32) (k0_hw107 : k0_chk107 v709), ∀ a, (k0_off110 v709) a + S1x128.size a ≤ S9088x128.size a := fun v709 k0_hw107 => k0_hw107

def k0_off111 (v715 : BitVec 32) : Fin 2 → Nat :=
  let v716 : Index := Scalar.indexCast v715
  let c0_539 : Index := 0#32
  ![v716.toNat, 0]

def k0_chk108 (v715 : BitVec 32) : Prop :=
  (∀ a, (k0_off111 v715) a + S1x128.size a ≤ S9088x128.size a)
theorem k0_off111_inb : ∀ (v715 : BitVec 32) (k0_hw108 : k0_chk108 v715), ∀ a, (k0_off111 v715) a + S1x128.size a ≤ S9088x128.size a := fun v715 k0_hw108 => k0_hw108

def k0_off112 (v721 : BitVec 32) : Fin 2 → Nat :=
  let v722 : Index := Scalar.indexCast v721
  let c0_544 : Index := 0#32
  ![v722.toNat, 0]

def k0_chk109 (v721 : BitVec 32) : Prop :=
  (∀ a, (k0_off112 v721) a + S1x128.size a ≤ S9088x128.size a)
theorem k0_off112_inb : ∀ (v721 : BitVec 32) (k0_hw109 : k0_chk109 v721), ∀ a, (k0_off112 v721) a + S1x128.size a ≤ S9088x128.size a := fun v721 k0_hw109 => k0_hw109

def k0_off113 (v727 : BitVec 32) : Fin 2 → Nat :=
  let v728 : Index := Scalar.indexCast v727
  let c0_549 : Index := 0#32
  ![v728.toNat, 0]

def k0_chk110 (v727 : BitVec 32) : Prop :=
  (∀ a, (k0_off113 v727) a + S1x128.size a ≤ S9088x128.size a)
theorem k0_off113_inb : ∀ (v727 : BitVec 32) (k0_hw110 : k0_chk110 v727), ∀ a, (k0_off113 v727) a + S1x128.size a ≤ S9088x128.size a := fun v727 k0_hw110 => k0_hw110

def k0_off114 (v733 : BitVec 32) : Fin 2 → Nat :=
  let v734 : Index := Scalar.indexCast v733
  let c0_554 : Index := 0#32
  ![v734.toNat, 0]

def k0_chk111 (v733 : BitVec 32) : Prop :=
  (∀ a, (k0_off114 v733) a + S1x128.size a ≤ S9088x128.size a)
theorem k0_off114_inb : ∀ (v733 : BitVec 32) (k0_hw111 : k0_chk111 v733), ∀ a, (k0_off114 v733) a + S1x128.size a ≤ S9088x128.size a := fun v733 k0_hw111 => k0_hw111

def k0_off115 (v739 : BitVec 32) : Fin 2 → Nat :=
  let v740 : Index := Scalar.indexCast v739
  let c0_559 : Index := 0#32
  ![v740.toNat, 0]

def k0_chk112 (v739 : BitVec 32) : Prop :=
  (∀ a, (k0_off115 v739) a + S1x128.size a ≤ S9088x128.size a)
theorem k0_off115_inb : ∀ (v739 : BitVec 32) (k0_hw112 : k0_chk112 v739), ∀ a, (k0_off115 v739) a + S1x128.size a ≤ S9088x128.size a := fun v739 k0_hw112 => k0_hw112

def k0_off116 (v745 : BitVec 32) : Fin 2 → Nat :=
  let v746 : Index := Scalar.indexCast v745
  let c0_564 : Index := 0#32
  ![v746.toNat, 0]

def k0_chk113 (v745 : BitVec 32) : Prop :=
  (∀ a, (k0_off116 v745) a + S1x128.size a ≤ S9088x128.size a)
theorem k0_off116_inb : ∀ (v745 : BitVec 32) (k0_hw113 : k0_chk113 v745), ∀ a, (k0_off116 v745) a + S1x128.size a ≤ S9088x128.size a := fun v745 k0_hw113 => k0_hw113

def k0_off117 (v751 : BitVec 32) : Fin 2 → Nat :=
  let v752 : Index := Scalar.indexCast v751
  let c0_569 : Index := 0#32
  ![v752.toNat, 0]

def k0_chk114 (v751 : BitVec 32) : Prop :=
  (∀ a, (k0_off117 v751) a + S1x128.size a ≤ S9088x128.size a)
theorem k0_off117_inb : ∀ (v751 : BitVec 32) (k0_hw114 : k0_chk114 v751), ∀ a, (k0_off117 v751) a + S1x128.size a ≤ S9088x128.size a := fun v751 k0_hw114 => k0_hw114

def k0_off118 (v757 : BitVec 32) : Fin 2 → Nat :=
  let v758 : Index := Scalar.indexCast v757
  let c0_574 : Index := 0#32
  ![v758.toNat, 0]

def k0_chk115 (v757 : BitVec 32) : Prop :=
  (∀ a, (k0_off118 v757) a + S1x128.size a ≤ S9088x128.size a)
theorem k0_off118_inb : ∀ (v757 : BitVec 32) (k0_hw115 : k0_chk115 v757), ∀ a, (k0_off118 v757) a + S1x128.size a ≤ S9088x128.size a := fun v757 k0_hw115 => k0_hw115

def k0_off119 (v763 : BitVec 32) : Fin 2 → Nat :=
  let v764 : Index := Scalar.indexCast v763
  let c0_579 : Index := 0#32
  ![v764.toNat, 0]

def k0_chk116 (v763 : BitVec 32) : Prop :=
  (∀ a, (k0_off119 v763) a + S1x128.size a ≤ S9088x128.size a)
theorem k0_off119_inb : ∀ (v763 : BitVec 32) (k0_hw116 : k0_chk116 v763), ∀ a, (k0_off119 v763) a + S1x128.size a ≤ S9088x128.size a := fun v763 k0_hw116 => k0_hw116

def k0_off120 (v769 : BitVec 32) : Fin 2 → Nat :=
  let v770 : Index := Scalar.indexCast v769
  let c0_584 : Index := 0#32
  ![v770.toNat, 0]

def k0_chk117 (v769 : BitVec 32) : Prop :=
  (∀ a, (k0_off120 v769) a + S1x128.size a ≤ S9088x128.size a)
theorem k0_off120_inb : ∀ (v769 : BitVec 32) (k0_hw117 : k0_chk117 v769), ∀ a, (k0_off120 v769) a + S1x128.size a ≤ S9088x128.size a := fun v769 k0_hw117 => k0_hw117

def k0_off121 (v775 : BitVec 32) : Fin 2 → Nat :=
  let v776 : Index := Scalar.indexCast v775
  let c0_589 : Index := 0#32
  ![v776.toNat, 0]

def k0_chk118 (v775 : BitVec 32) : Prop :=
  (∀ a, (k0_off121 v775) a + S1x128.size a ≤ S9088x128.size a)
theorem k0_off121_inb : ∀ (v775 : BitVec 32) (k0_hw118 : k0_chk118 v775), ∀ a, (k0_off121 v775) a + S1x128.size a ≤ S9088x128.size a := fun v775 k0_hw118 => k0_hw118

def k0_off122 (v781 : BitVec 32) : Fin 2 → Nat :=
  let v782 : Index := Scalar.indexCast v781
  let c0_594 : Index := 0#32
  ![v782.toNat, 0]

def k0_chk119 (v781 : BitVec 32) : Prop :=
  (∀ a, (k0_off122 v781) a + S1x128.size a ≤ S9088x128.size a)
theorem k0_off122_inb : ∀ (v781 : BitVec 32) (k0_hw119 : k0_chk119 v781), ∀ a, (k0_off122 v781) a + S1x128.size a ≤ S9088x128.size a := fun v781 k0_hw119 => k0_hw119

def k0_off123 (v787 : BitVec 32) : Fin 2 → Nat :=
  let v788 : Index := Scalar.indexCast v787
  let c0_599 : Index := 0#32
  ![v788.toNat, 0]

def k0_chk120 (v787 : BitVec 32) : Prop :=
  (∀ a, (k0_off123 v787) a + S1x128.size a ≤ S9088x128.size a)
theorem k0_off123_inb : ∀ (v787 : BitVec 32) (k0_hw120 : k0_chk120 v787), ∀ a, (k0_off123 v787) a + S1x128.size a ≤ S9088x128.size a := fun v787 k0_hw120 => k0_hw120

def k0_off124 (v793 : BitVec 32) : Fin 2 → Nat :=
  let v794 : Index := Scalar.indexCast v793
  let c0_604 : Index := 0#32
  ![v794.toNat, 0]

def k0_chk121 (v793 : BitVec 32) : Prop :=
  (∀ a, (k0_off124 v793) a + S1x128.size a ≤ S9088x128.size a)
theorem k0_off124_inb : ∀ (v793 : BitVec 32) (k0_hw121 : k0_chk121 v793), ∀ a, (k0_off124 v793) a + S1x128.size a ≤ S9088x128.size a := fun v793 k0_hw121 => k0_hw121

def k0_off125 (v799 : BitVec 32) : Fin 2 → Nat :=
  let v800 : Index := Scalar.indexCast v799
  let c0_609 : Index := 0#32
  ![v800.toNat, 0]

def k0_chk122 (v799 : BitVec 32) : Prop :=
  (∀ a, (k0_off125 v799) a + S1x128.size a ≤ S9088x128.size a)
theorem k0_off125_inb : ∀ (v799 : BitVec 32) (k0_hw122 : k0_chk122 v799), ∀ a, (k0_off125 v799) a + S1x128.size a ≤ S9088x128.size a := fun v799 k0_hw122 => k0_hw122

def k0_off126 (v805 : BitVec 32) : Fin 2 → Nat :=
  let v806 : Index := Scalar.indexCast v805
  let c0_614 : Index := 0#32
  ![v806.toNat, 0]

def k0_chk123 (v805 : BitVec 32) : Prop :=
  (∀ a, (k0_off126 v805) a + S1x128.size a ≤ S9088x128.size a)
theorem k0_off126_inb : ∀ (v805 : BitVec 32) (k0_hw123 : k0_chk123 v805), ∀ a, (k0_off126 v805) a + S1x128.size a ≤ S9088x128.size a := fun v805 k0_hw123 => k0_hw123

def k0_off127 (v811 : BitVec 32) : Fin 2 → Nat :=
  let v812 : Index := Scalar.indexCast v811
  let c0_619 : Index := 0#32
  ![v812.toNat, 0]

def k0_chk124 (v811 : BitVec 32) : Prop :=
  (∀ a, (k0_off127 v811) a + S1x128.size a ≤ S9088x128.size a)
theorem k0_off127_inb : ∀ (v811 : BitVec 32) (k0_hw124 : k0_chk124 v811), ∀ a, (k0_off127 v811) a + S1x128.size a ≤ S9088x128.size a := fun v811 k0_hw124 => k0_hw124

def k0_off128 (v817 : BitVec 32) : Fin 2 → Nat :=
  let v818 : Index := Scalar.indexCast v817
  let c0_624 : Index := 0#32
  ![v818.toNat, 0]

def k0_chk125 (v817 : BitVec 32) : Prop :=
  (∀ a, (k0_off128 v817) a + S1x128.size a ≤ S9088x128.size a)
theorem k0_off128_inb : ∀ (v817 : BitVec 32) (k0_hw125 : k0_chk125 v817), ∀ a, (k0_off128 v817) a + S1x128.size a ≤ S9088x128.size a := fun v817 k0_hw125 => k0_hw125

def k0_off129 (v823 : BitVec 32) : Fin 2 → Nat :=
  let v824 : Index := Scalar.indexCast v823
  let c0_629 : Index := 0#32
  ![v824.toNat, 0]

def k0_chk126 (v823 : BitVec 32) : Prop :=
  (∀ a, (k0_off129 v823) a + S1x128.size a ≤ S9088x128.size a)
theorem k0_off129_inb : ∀ (v823 : BitVec 32) (k0_hw126 : k0_chk126 v823), ∀ a, (k0_off129 v823) a + S1x128.size a ≤ S9088x128.size a := fun v823 k0_hw126 => k0_hw126

def k0_off130 (v829 : BitVec 32) : Fin 2 → Nat :=
  let v830 : Index := Scalar.indexCast v829
  let c0_634 : Index := 0#32
  ![v830.toNat, 0]

def k0_chk127 (v829 : BitVec 32) : Prop :=
  (∀ a, (k0_off130 v829) a + S1x128.size a ≤ S9088x128.size a)
theorem k0_off130_inb : ∀ (v829 : BitVec 32) (k0_hw127 : k0_chk127 v829), ∀ a, (k0_off130 v829) a + S1x128.size a ≤ S9088x128.size a := fun v829 k0_hw127 => k0_hw127

def k0_off131 (v835 : BitVec 32) : Fin 2 → Nat :=
  let v836 : Index := Scalar.indexCast v835
  let c0_639 : Index := 0#32
  ![v836.toNat, 0]

def k0_chk128 (v835 : BitVec 32) : Prop :=
  (∀ a, (k0_off131 v835) a + S1x128.size a ≤ S9088x128.size a)
theorem k0_off131_inb : ∀ (v835 : BitVec 32) (k0_hw128 : k0_chk128 v835), ∀ a, (k0_off131 v835) a + S1x128.size a ≤ S9088x128.size a := fun v835 k0_hw128 => k0_hw128

def k0_off132 (v841 : BitVec 32) : Fin 2 → Nat :=
  let v842 : Index := Scalar.indexCast v841
  let c0_644 : Index := 0#32
  ![v842.toNat, 0]

def k0_chk129 (v841 : BitVec 32) : Prop :=
  (∀ a, (k0_off132 v841) a + S1x128.size a ≤ S9088x128.size a)
theorem k0_off132_inb : ∀ (v841 : BitVec 32) (k0_hw129 : k0_chk129 v841), ∀ a, (k0_off132 v841) a + S1x128.size a ≤ S9088x128.size a := fun v841 k0_hw129 => k0_hw129

def k0_off133 (v847 : BitVec 32) : Fin 2 → Nat :=
  let v848 : Index := Scalar.indexCast v847
  let c0_649 : Index := 0#32
  ![v848.toNat, 0]

def k0_chk130 (v847 : BitVec 32) : Prop :=
  (∀ a, (k0_off133 v847) a + S1x128.size a ≤ S9088x128.size a)
theorem k0_off133_inb : ∀ (v847 : BitVec 32) (k0_hw130 : k0_chk130 v847), ∀ a, (k0_off133 v847) a + S1x128.size a ≤ S9088x128.size a := fun v847 k0_hw130 => k0_hw130

def k0_off134 (v853 : BitVec 32) : Fin 2 → Nat :=
  let v854 : Index := Scalar.indexCast v853
  let c0_654 : Index := 0#32
  ![v854.toNat, 0]

def k0_chk131 (v853 : BitVec 32) : Prop :=
  (∀ a, (k0_off134 v853) a + S1x128.size a ≤ S9088x128.size a)
theorem k0_off134_inb : ∀ (v853 : BitVec 32) (k0_hw131 : k0_chk131 v853), ∀ a, (k0_off134 v853) a + S1x128.size a ≤ S9088x128.size a := fun v853 k0_hw131 => k0_hw131

def k0_off135 (v859 : BitVec 32) : Fin 2 → Nat :=
  let v860 : Index := Scalar.indexCast v859
  let c0_659 : Index := 0#32
  ![v860.toNat, 0]

def k0_chk132 (v859 : BitVec 32) : Prop :=
  (∀ a, (k0_off135 v859) a + S1x128.size a ≤ S9088x128.size a)
theorem k0_off135_inb : ∀ (v859 : BitVec 32) (k0_hw132 : k0_chk132 v859), ∀ a, (k0_off135 v859) a + S1x128.size a ≤ S9088x128.size a := fun v859 k0_hw132 => k0_hw132

def k0_off136 (v882 : BitVec 32) : Fin 2 → Nat :=
  let v883 : Index := Scalar.indexCast v882
  let c0_672 : Index := 0#32
  ![v883.toNat, 0]

def k0_chk133 (v882 : BitVec 32) : Prop :=
  (∀ a, (k0_off136 v882) a + S1x128.size a ≤ S9088x128.size a)
theorem k0_off136_inb : ∀ (v882 : BitVec 32) (k0_hw133 : k0_chk133 v882), ∀ a, (k0_off136 v882) a + S1x128.size a ≤ S9088x128.size a := fun v882 k0_hw133 => k0_hw133

def k0_off137 (v888 : BitVec 32) : Fin 2 → Nat :=
  let v889 : Index := Scalar.indexCast v888
  let c0_676 : Index := 0#32
  ![v889.toNat, 0]

def k0_chk134 (v888 : BitVec 32) : Prop :=
  (∀ a, (k0_off137 v888) a + S1x128.size a ≤ S9088x128.size a)
theorem k0_off137_inb : ∀ (v888 : BitVec 32) (k0_hw134 : k0_chk134 v888), ∀ a, (k0_off137 v888) a + S1x128.size a ≤ S9088x128.size a := fun v888 k0_hw134 => k0_hw134

def k0_off138 (v894 : BitVec 32) : Fin 2 → Nat :=
  let v895 : Index := Scalar.indexCast v894
  let c0_680 : Index := 0#32
  ![v895.toNat, 0]

def k0_chk135 (v894 : BitVec 32) : Prop :=
  (∀ a, (k0_off138 v894) a + S1x128.size a ≤ S9088x128.size a)
theorem k0_off138_inb : ∀ (v894 : BitVec 32) (k0_hw135 : k0_chk135 v894), ∀ a, (k0_off138 v894) a + S1x128.size a ≤ S9088x128.size a := fun v894 k0_hw135 => k0_hw135

def k0_off139 (v900 : BitVec 32) : Fin 2 → Nat :=
  let v901 : Index := Scalar.indexCast v900
  let c0_684 : Index := 0#32
  ![v901.toNat, 0]

def k0_chk136 (v900 : BitVec 32) : Prop :=
  (∀ a, (k0_off139 v900) a + S1x128.size a ≤ S9088x128.size a)
theorem k0_off139_inb : ∀ (v900 : BitVec 32) (k0_hw136 : k0_chk136 v900), ∀ a, (k0_off139 v900) a + S1x128.size a ≤ S9088x128.size a := fun v900 k0_hw136 => k0_hw136

def k0_off140 (v906 : BitVec 32) : Fin 2 → Nat :=
  let v907 : Index := Scalar.indexCast v906
  let c0_688 : Index := 0#32
  ![v907.toNat, 0]

def k0_chk137 (v906 : BitVec 32) : Prop :=
  (∀ a, (k0_off140 v906) a + S1x128.size a ≤ S9088x128.size a)
theorem k0_off140_inb : ∀ (v906 : BitVec 32) (k0_hw137 : k0_chk137 v906), ∀ a, (k0_off140 v906) a + S1x128.size a ≤ S9088x128.size a := fun v906 k0_hw137 => k0_hw137

def k0_off141 (v912 : BitVec 32) : Fin 2 → Nat :=
  let v913 : Index := Scalar.indexCast v912
  let c0_692 : Index := 0#32
  ![v913.toNat, 0]

def k0_chk138 (v912 : BitVec 32) : Prop :=
  (∀ a, (k0_off141 v912) a + S1x128.size a ≤ S9088x128.size a)
theorem k0_off141_inb : ∀ (v912 : BitVec 32) (k0_hw138 : k0_chk138 v912), ∀ a, (k0_off141 v912) a + S1x128.size a ≤ S9088x128.size a := fun v912 k0_hw138 => k0_hw138

def k0_off142 (v918 : BitVec 32) : Fin 2 → Nat :=
  let v919 : Index := Scalar.indexCast v918
  let c0_696 : Index := 0#32
  ![v919.toNat, 0]

def k0_chk139 (v918 : BitVec 32) : Prop :=
  (∀ a, (k0_off142 v918) a + S1x128.size a ≤ S9088x128.size a)
theorem k0_off142_inb : ∀ (v918 : BitVec 32) (k0_hw139 : k0_chk139 v918), ∀ a, (k0_off142 v918) a + S1x128.size a ≤ S9088x128.size a := fun v918 k0_hw139 => k0_hw139

def k0_off143 (v924 : BitVec 32) : Fin 2 → Nat :=
  let v925 : Index := Scalar.indexCast v924
  let c0_700 : Index := 0#32
  ![v925.toNat, 0]

def k0_chk140 (v924 : BitVec 32) : Prop :=
  (∀ a, (k0_off143 v924) a + S1x128.size a ≤ S9088x128.size a)
theorem k0_off143_inb : ∀ (v924 : BitVec 32) (k0_hw140 : k0_chk140 v924), ∀ a, (k0_off143 v924) a + S1x128.size a ≤ S9088x128.size a := fun v924 k0_hw140 => k0_hw140

def k0_off144 (v930 : BitVec 32) : Fin 2 → Nat :=
  let v931 : Index := Scalar.indexCast v930
  let c0_704 : Index := 0#32
  ![v931.toNat, 0]

def k0_chk141 (v930 : BitVec 32) : Prop :=
  (∀ a, (k0_off144 v930) a + S1x128.size a ≤ S9088x128.size a)
theorem k0_off144_inb : ∀ (v930 : BitVec 32) (k0_hw141 : k0_chk141 v930), ∀ a, (k0_off144 v930) a + S1x128.size a ≤ S9088x128.size a := fun v930 k0_hw141 => k0_hw141

def k0_off145 (v936 : BitVec 32) : Fin 2 → Nat :=
  let v937 : Index := Scalar.indexCast v936
  let c0_708 : Index := 0#32
  ![v937.toNat, 0]

def k0_chk142 (v936 : BitVec 32) : Prop :=
  (∀ a, (k0_off145 v936) a + S1x128.size a ≤ S9088x128.size a)
theorem k0_off145_inb : ∀ (v936 : BitVec 32) (k0_hw142 : k0_chk142 v936), ∀ a, (k0_off145 v936) a + S1x128.size a ≤ S9088x128.size a := fun v936 k0_hw142 => k0_hw142

def k0_off146 (v942 : BitVec 32) : Fin 2 → Nat :=
  let v943 : Index := Scalar.indexCast v942
  let c0_712 : Index := 0#32
  ![v943.toNat, 0]

def k0_chk143 (v942 : BitVec 32) : Prop :=
  (∀ a, (k0_off146 v942) a + S1x128.size a ≤ S9088x128.size a)
theorem k0_off146_inb : ∀ (v942 : BitVec 32) (k0_hw143 : k0_chk143 v942), ∀ a, (k0_off146 v942) a + S1x128.size a ≤ S9088x128.size a := fun v942 k0_hw143 => k0_hw143

def k0_off147 (v948 : BitVec 32) : Fin 2 → Nat :=
  let v949 : Index := Scalar.indexCast v948
  let c0_716 : Index := 0#32
  ![v949.toNat, 0]

def k0_chk144 (v948 : BitVec 32) : Prop :=
  (∀ a, (k0_off147 v948) a + S1x128.size a ≤ S9088x128.size a)
theorem k0_off147_inb : ∀ (v948 : BitVec 32) (k0_hw144 : k0_chk144 v948), ∀ a, (k0_off147 v948) a + S1x128.size a ≤ S9088x128.size a := fun v948 k0_hw144 => k0_hw144

def k0_off148 (v954 : BitVec 32) : Fin 2 → Nat :=
  let v955 : Index := Scalar.indexCast v954
  let c0_720 : Index := 0#32
  ![v955.toNat, 0]

def k0_chk145 (v954 : BitVec 32) : Prop :=
  (∀ a, (k0_off148 v954) a + S1x128.size a ≤ S9088x128.size a)
theorem k0_off148_inb : ∀ (v954 : BitVec 32) (k0_hw145 : k0_chk145 v954), ∀ a, (k0_off148 v954) a + S1x128.size a ≤ S9088x128.size a := fun v954 k0_hw145 => k0_hw145

def k0_off149 (v960 : BitVec 32) : Fin 2 → Nat :=
  let v961 : Index := Scalar.indexCast v960
  let c0_724 : Index := 0#32
  ![v961.toNat, 0]

def k0_chk146 (v960 : BitVec 32) : Prop :=
  (∀ a, (k0_off149 v960) a + S1x128.size a ≤ S9088x128.size a)
theorem k0_off149_inb : ∀ (v960 : BitVec 32) (k0_hw146 : k0_chk146 v960), ∀ a, (k0_off149 v960) a + S1x128.size a ≤ S9088x128.size a := fun v960 k0_hw146 => k0_hw146

def k0_off150 (v966 : BitVec 32) : Fin 2 → Nat :=
  let v967 : Index := Scalar.indexCast v966
  let c0_728 : Index := 0#32
  ![v967.toNat, 0]

def k0_chk147 (v966 : BitVec 32) : Prop :=
  (∀ a, (k0_off150 v966) a + S1x128.size a ≤ S9088x128.size a)
theorem k0_off150_inb : ∀ (v966 : BitVec 32) (k0_hw147 : k0_chk147 v966), ∀ a, (k0_off150 v966) a + S1x128.size a ≤ S9088x128.size a := fun v966 k0_hw147 => k0_hw147

def k0_off151 (v972 : BitVec 32) : Fin 2 → Nat :=
  let v973 : Index := Scalar.indexCast v972
  let c0_732 : Index := 0#32
  ![v973.toNat, 0]

def k0_chk148 (v972 : BitVec 32) : Prop :=
  (∀ a, (k0_off151 v972) a + S1x128.size a ≤ S9088x128.size a)
theorem k0_off151_inb : ∀ (v972 : BitVec 32) (k0_hw148 : k0_chk148 v972), ∀ a, (k0_off151 v972) a + S1x128.size a ≤ S9088x128.size a := fun v972 k0_hw148 => k0_hw148

def k0_off152 (v978 : BitVec 32) : Fin 2 → Nat :=
  let v979 : Index := Scalar.indexCast v978
  let c0_736 : Index := 0#32
  ![v979.toNat, 0]

def k0_chk149 (v978 : BitVec 32) : Prop :=
  (∀ a, (k0_off152 v978) a + S1x128.size a ≤ S9088x128.size a)
theorem k0_off152_inb : ∀ (v978 : BitVec 32) (k0_hw149 : k0_chk149 v978), ∀ a, (k0_off152 v978) a + S1x128.size a ≤ S9088x128.size a := fun v978 k0_hw149 => k0_hw149

def k0_off153 (v984 : BitVec 32) : Fin 2 → Nat :=
  let v985 : Index := Scalar.indexCast v984
  let c0_740 : Index := 0#32
  ![v985.toNat, 0]

def k0_chk150 (v984 : BitVec 32) : Prop :=
  (∀ a, (k0_off153 v984) a + S1x128.size a ≤ S9088x128.size a)
theorem k0_off153_inb : ∀ (v984 : BitVec 32) (k0_hw150 : k0_chk150 v984), ∀ a, (k0_off153 v984) a + S1x128.size a ≤ S9088x128.size a := fun v984 k0_hw150 => k0_hw150

def k0_off154 (v990 : BitVec 32) : Fin 2 → Nat :=
  let v991 : Index := Scalar.indexCast v990
  let c0_744 : Index := 0#32
  ![v991.toNat, 0]

def k0_chk151 (v990 : BitVec 32) : Prop :=
  (∀ a, (k0_off154 v990) a + S1x128.size a ≤ S9088x128.size a)
theorem k0_off154_inb : ∀ (v990 : BitVec 32) (k0_hw151 : k0_chk151 v990), ∀ a, (k0_off154 v990) a + S1x128.size a ≤ S9088x128.size a := fun v990 k0_hw151 => k0_hw151

def k0_off155 (v996 : BitVec 32) : Fin 2 → Nat :=
  let v997 : Index := Scalar.indexCast v996
  let c0_748 : Index := 0#32
  ![v997.toNat, 0]

def k0_chk152 (v996 : BitVec 32) : Prop :=
  (∀ a, (k0_off155 v996) a + S1x128.size a ≤ S9088x128.size a)
theorem k0_off155_inb : ∀ (v996 : BitVec 32) (k0_hw152 : k0_chk152 v996), ∀ a, (k0_off155 v996) a + S1x128.size a ≤ S9088x128.size a := fun v996 k0_hw152 => k0_hw152

def k0_off156 (v1002 : BitVec 32) : Fin 2 → Nat :=
  let v1003 : Index := Scalar.indexCast v1002
  let c0_752 : Index := 0#32
  ![v1003.toNat, 0]

def k0_chk153 (v1002 : BitVec 32) : Prop :=
  (∀ a, (k0_off156 v1002) a + S1x128.size a ≤ S9088x128.size a)
theorem k0_off156_inb : ∀ (v1002 : BitVec 32) (k0_hw153 : k0_chk153 v1002), ∀ a, (k0_off156 v1002) a + S1x128.size a ≤ S9088x128.size a := fun v1002 k0_hw153 => k0_hw153

def k0_off157 (v1008 : BitVec 32) : Fin 2 → Nat :=
  let v1009 : Index := Scalar.indexCast v1008
  let c0_756 : Index := 0#32
  ![v1009.toNat, 0]

def k0_chk154 (v1008 : BitVec 32) : Prop :=
  (∀ a, (k0_off157 v1008) a + S1x128.size a ≤ S9088x128.size a)
theorem k0_off157_inb : ∀ (v1008 : BitVec 32) (k0_hw154 : k0_chk154 v1008), ∀ a, (k0_off157 v1008) a + S1x128.size a ≤ S9088x128.size a := fun v1008 k0_hw154 => k0_hw154

def k0_off158 (v1014 : BitVec 32) : Fin 2 → Nat :=
  let v1015 : Index := Scalar.indexCast v1014
  let c0_760 : Index := 0#32
  ![v1015.toNat, 0]

def k0_chk155 (v1014 : BitVec 32) : Prop :=
  (∀ a, (k0_off158 v1014) a + S1x128.size a ≤ S9088x128.size a)
theorem k0_off158_inb : ∀ (v1014 : BitVec 32) (k0_hw155 : k0_chk155 v1014), ∀ a, (k0_off158 v1014) a + S1x128.size a ≤ S9088x128.size a := fun v1014 k0_hw155 => k0_hw155

def k0_off159 (v1020 : BitVec 32) : Fin 2 → Nat :=
  let v1021 : Index := Scalar.indexCast v1020
  let c0_764 : Index := 0#32
  ![v1021.toNat, 0]

def k0_chk156 (v1020 : BitVec 32) : Prop :=
  (∀ a, (k0_off159 v1020) a + S1x128.size a ≤ S9088x128.size a)
theorem k0_off159_inb : ∀ (v1020 : BitVec 32) (k0_hw156 : k0_chk156 v1020), ∀ a, (k0_off159 v1020) a + S1x128.size a ≤ S9088x128.size a := fun v1020 k0_hw156 => k0_hw156

def k0_off160 (v1026 : BitVec 32) : Fin 2 → Nat :=
  let v1027 : Index := Scalar.indexCast v1026
  let c0_768 : Index := 0#32
  ![v1027.toNat, 0]

def k0_chk157 (v1026 : BitVec 32) : Prop :=
  (∀ a, (k0_off160 v1026) a + S1x128.size a ≤ S9088x128.size a)
theorem k0_off160_inb : ∀ (v1026 : BitVec 32) (k0_hw157 : k0_chk157 v1026), ∀ a, (k0_off160 v1026) a + S1x128.size a ≤ S9088x128.size a := fun v1026 k0_hw157 => k0_hw157

def k0_off161 (v1032 : BitVec 32) : Fin 2 → Nat :=
  let v1033 : Index := Scalar.indexCast v1032
  let c0_772 : Index := 0#32
  ![v1033.toNat, 0]

def k0_chk158 (v1032 : BitVec 32) : Prop :=
  (∀ a, (k0_off161 v1032) a + S1x128.size a ≤ S9088x128.size a)
theorem k0_off161_inb : ∀ (v1032 : BitVec 32) (k0_hw158 : k0_chk158 v1032), ∀ a, (k0_off161 v1032) a + S1x128.size a ≤ S9088x128.size a := fun v1032 k0_hw158 => k0_hw158

def k0_off162 (v1038 : BitVec 32) : Fin 2 → Nat :=
  let v1039 : Index := Scalar.indexCast v1038
  let c0_776 : Index := 0#32
  ![v1039.toNat, 0]

def k0_chk159 (v1038 : BitVec 32) : Prop :=
  (∀ a, (k0_off162 v1038) a + S1x128.size a ≤ S9088x128.size a)
theorem k0_off162_inb : ∀ (v1038 : BitVec 32) (k0_hw159 : k0_chk159 v1038), ∀ a, (k0_off162 v1038) a + S1x128.size a ≤ S9088x128.size a := fun v1038 k0_hw159 => k0_hw159

def k0_off163 (v1044 : BitVec 32) : Fin 2 → Nat :=
  let v1045 : Index := Scalar.indexCast v1044
  let c0_780 : Index := 0#32
  ![v1045.toNat, 0]

def k0_chk160 (v1044 : BitVec 32) : Prop :=
  (∀ a, (k0_off163 v1044) a + S1x128.size a ≤ S9088x128.size a)
theorem k0_off163_inb : ∀ (v1044 : BitVec 32) (k0_hw160 : k0_chk160 v1044), ∀ a, (k0_off163 v1044) a + S1x128.size a ≤ S9088x128.size a := fun v1044 k0_hw160 => k0_hw160

def k0_off164 (v1050 : BitVec 32) : Fin 2 → Nat :=
  let v1051 : Index := Scalar.indexCast v1050
  let c0_784 : Index := 0#32
  ![v1051.toNat, 0]

def k0_chk161 (v1050 : BitVec 32) : Prop :=
  (∀ a, (k0_off164 v1050) a + S1x128.size a ≤ S9088x128.size a)
theorem k0_off164_inb : ∀ (v1050 : BitVec 32) (k0_hw161 : k0_chk161 v1050), ∀ a, (k0_off164 v1050) a + S1x128.size a ≤ S9088x128.size a := fun v1050 k0_hw161 => k0_hw161

def k0_off165 (v1056 : BitVec 32) : Fin 2 → Nat :=
  let v1057 : Index := Scalar.indexCast v1056
  let c0_788 : Index := 0#32
  ![v1057.toNat, 0]

def k0_chk162 (v1056 : BitVec 32) : Prop :=
  (∀ a, (k0_off165 v1056) a + S1x128.size a ≤ S9088x128.size a)
theorem k0_off165_inb : ∀ (v1056 : BitVec 32) (k0_hw162 : k0_chk162 v1056), ∀ a, (k0_off165 v1056) a + S1x128.size a ≤ S9088x128.size a := fun v1056 k0_hw162 => k0_hw162

def k0_off166 (v1062 : BitVec 32) : Fin 2 → Nat :=
  let v1063 : Index := Scalar.indexCast v1062
  let c0_792 : Index := 0#32
  ![v1063.toNat, 0]

def k0_chk163 (v1062 : BitVec 32) : Prop :=
  (∀ a, (k0_off166 v1062) a + S1x128.size a ≤ S9088x128.size a)
theorem k0_off166_inb : ∀ (v1062 : BitVec 32) (k0_hw163 : k0_chk163 v1062), ∀ a, (k0_off166 v1062) a + S1x128.size a ≤ S9088x128.size a := fun v1062 k0_hw163 => k0_hw163

def k0_off167 (v1068 : BitVec 32) : Fin 2 → Nat :=
  let v1069 : Index := Scalar.indexCast v1068
  let c0_796 : Index := 0#32
  ![v1069.toNat, 0]

def k0_chk164 (v1068 : BitVec 32) : Prop :=
  (∀ a, (k0_off167 v1068) a + S1x128.size a ≤ S9088x128.size a)
theorem k0_off167_inb : ∀ (v1068 : BitVec 32) (k0_hw164 : k0_chk164 v1068), ∀ a, (k0_off167 v1068) a + S1x128.size a ≤ S9088x128.size a := fun v1068 k0_hw164 => k0_hw164

def k0_off168 (v1091 : BitVec 32) : Fin 2 → Nat :=
  let v1092 : Index := Scalar.indexCast v1091
  let c0_808 : Index := 0#32
  ![v1092.toNat, 0]

def k0_chk165 (v1091 : BitVec 32) : Prop :=
  (∀ a, (k0_off168 v1091) a + S1x128.size a ≤ S9088x128.size a)
theorem k0_off168_inb : ∀ (v1091 : BitVec 32) (k0_hw165 : k0_chk165 v1091), ∀ a, (k0_off168 v1091) a + S1x128.size a ≤ S9088x128.size a := fun v1091 k0_hw165 => k0_hw165

def k0_off169 (v1097 : BitVec 32) : Fin 2 → Nat :=
  let v1098 : Index := Scalar.indexCast v1097
  let c0_812 : Index := 0#32
  ![v1098.toNat, 0]

def k0_chk166 (v1097 : BitVec 32) : Prop :=
  (∀ a, (k0_off169 v1097) a + S1x128.size a ≤ S9088x128.size a)
theorem k0_off169_inb : ∀ (v1097 : BitVec 32) (k0_hw166 : k0_chk166 v1097), ∀ a, (k0_off169 v1097) a + S1x128.size a ≤ S9088x128.size a := fun v1097 k0_hw166 => k0_hw166

def k0_off170 (v1103 : BitVec 32) : Fin 2 → Nat :=
  let v1104 : Index := Scalar.indexCast v1103
  let c0_816 : Index := 0#32
  ![v1104.toNat, 0]

def k0_chk167 (v1103 : BitVec 32) : Prop :=
  (∀ a, (k0_off170 v1103) a + S1x128.size a ≤ S9088x128.size a)
theorem k0_off170_inb : ∀ (v1103 : BitVec 32) (k0_hw167 : k0_chk167 v1103), ∀ a, (k0_off170 v1103) a + S1x128.size a ≤ S9088x128.size a := fun v1103 k0_hw167 => k0_hw167

def k0_off171 (v1109 : BitVec 32) : Fin 2 → Nat :=
  let v1110 : Index := Scalar.indexCast v1109
  let c0_820 : Index := 0#32
  ![v1110.toNat, 0]

def k0_chk168 (v1109 : BitVec 32) : Prop :=
  (∀ a, (k0_off171 v1109) a + S1x128.size a ≤ S9088x128.size a)
theorem k0_off171_inb : ∀ (v1109 : BitVec 32) (k0_hw168 : k0_chk168 v1109), ∀ a, (k0_off171 v1109) a + S1x128.size a ≤ S9088x128.size a := fun v1109 k0_hw168 => k0_hw168

def k0_off172 (v1115 : BitVec 32) : Fin 2 → Nat :=
  let v1116 : Index := Scalar.indexCast v1115
  let c0_824 : Index := 0#32
  ![v1116.toNat, 0]

def k0_chk169 (v1115 : BitVec 32) : Prop :=
  (∀ a, (k0_off172 v1115) a + S1x128.size a ≤ S9088x128.size a)
theorem k0_off172_inb : ∀ (v1115 : BitVec 32) (k0_hw169 : k0_chk169 v1115), ∀ a, (k0_off172 v1115) a + S1x128.size a ≤ S9088x128.size a := fun v1115 k0_hw169 => k0_hw169

def k0_off173 (v1121 : BitVec 32) : Fin 2 → Nat :=
  let v1122 : Index := Scalar.indexCast v1121
  let c0_828 : Index := 0#32
  ![v1122.toNat, 0]

def k0_chk170 (v1121 : BitVec 32) : Prop :=
  (∀ a, (k0_off173 v1121) a + S1x128.size a ≤ S9088x128.size a)
theorem k0_off173_inb : ∀ (v1121 : BitVec 32) (k0_hw170 : k0_chk170 v1121), ∀ a, (k0_off173 v1121) a + S1x128.size a ≤ S9088x128.size a := fun v1121 k0_hw170 => k0_hw170

def k0_off174 (v1127 : BitVec 32) : Fin 2 → Nat :=
  let v1128 : Index := Scalar.indexCast v1127
  let c0_832 : Index := 0#32
  ![v1128.toNat, 0]

def k0_chk171 (v1127 : BitVec 32) : Prop :=
  (∀ a, (k0_off174 v1127) a + S1x128.size a ≤ S9088x128.size a)
theorem k0_off174_inb : ∀ (v1127 : BitVec 32) (k0_hw171 : k0_chk171 v1127), ∀ a, (k0_off174 v1127) a + S1x128.size a ≤ S9088x128.size a := fun v1127 k0_hw171 => k0_hw171

def k0_off175 (v1133 : BitVec 32) : Fin 2 → Nat :=
  let v1134 : Index := Scalar.indexCast v1133
  let c0_836 : Index := 0#32
  ![v1134.toNat, 0]

def k0_chk172 (v1133 : BitVec 32) : Prop :=
  (∀ a, (k0_off175 v1133) a + S1x128.size a ≤ S9088x128.size a)
theorem k0_off175_inb : ∀ (v1133 : BitVec 32) (k0_hw172 : k0_chk172 v1133), ∀ a, (k0_off175 v1133) a + S1x128.size a ≤ S9088x128.size a := fun v1133 k0_hw172 => k0_hw172

def k0_off176 (v1139 : BitVec 32) : Fin 2 → Nat :=
  let v1140 : Index := Scalar.indexCast v1139
  let c0_840 : Index := 0#32
  ![v1140.toNat, 0]

def k0_chk173 (v1139 : BitVec 32) : Prop :=
  (∀ a, (k0_off176 v1139) a + S1x128.size a ≤ S9088x128.size a)
theorem k0_off176_inb : ∀ (v1139 : BitVec 32) (k0_hw173 : k0_chk173 v1139), ∀ a, (k0_off176 v1139) a + S1x128.size a ≤ S9088x128.size a := fun v1139 k0_hw173 => k0_hw173

def k0_off177 (v1145 : BitVec 32) : Fin 2 → Nat :=
  let v1146 : Index := Scalar.indexCast v1145
  let c0_844 : Index := 0#32
  ![v1146.toNat, 0]

def k0_chk174 (v1145 : BitVec 32) : Prop :=
  (∀ a, (k0_off177 v1145) a + S1x128.size a ≤ S9088x128.size a)
theorem k0_off177_inb : ∀ (v1145 : BitVec 32) (k0_hw174 : k0_chk174 v1145), ∀ a, (k0_off177 v1145) a + S1x128.size a ≤ S9088x128.size a := fun v1145 k0_hw174 => k0_hw174

def k0_off178 (v1151 : BitVec 32) : Fin 2 → Nat :=
  let v1152 : Index := Scalar.indexCast v1151
  let c0_848 : Index := 0#32
  ![v1152.toNat, 0]

def k0_chk175 (v1151 : BitVec 32) : Prop :=
  (∀ a, (k0_off178 v1151) a + S1x128.size a ≤ S9088x128.size a)
theorem k0_off178_inb : ∀ (v1151 : BitVec 32) (k0_hw175 : k0_chk175 v1151), ∀ a, (k0_off178 v1151) a + S1x128.size a ≤ S9088x128.size a := fun v1151 k0_hw175 => k0_hw175

def k0_off179 (v1157 : BitVec 32) : Fin 2 → Nat :=
  let v1158 : Index := Scalar.indexCast v1157
  let c0_852 : Index := 0#32
  ![v1158.toNat, 0]

def k0_chk176 (v1157 : BitVec 32) : Prop :=
  (∀ a, (k0_off179 v1157) a + S1x128.size a ≤ S9088x128.size a)
theorem k0_off179_inb : ∀ (v1157 : BitVec 32) (k0_hw176 : k0_chk176 v1157), ∀ a, (k0_off179 v1157) a + S1x128.size a ≤ S9088x128.size a := fun v1157 k0_hw176 => k0_hw176

def k0_off180 (v1163 : BitVec 32) : Fin 2 → Nat :=
  let v1164 : Index := Scalar.indexCast v1163
  let c0_856 : Index := 0#32
  ![v1164.toNat, 0]

def k0_chk177 (v1163 : BitVec 32) : Prop :=
  (∀ a, (k0_off180 v1163) a + S1x128.size a ≤ S9088x128.size a)
theorem k0_off180_inb : ∀ (v1163 : BitVec 32) (k0_hw177 : k0_chk177 v1163), ∀ a, (k0_off180 v1163) a + S1x128.size a ≤ S9088x128.size a := fun v1163 k0_hw177 => k0_hw177

def k0_off181 (v1169 : BitVec 32) : Fin 2 → Nat :=
  let v1170 : Index := Scalar.indexCast v1169
  let c0_860 : Index := 0#32
  ![v1170.toNat, 0]

def k0_chk178 (v1169 : BitVec 32) : Prop :=
  (∀ a, (k0_off181 v1169) a + S1x128.size a ≤ S9088x128.size a)
theorem k0_off181_inb : ∀ (v1169 : BitVec 32) (k0_hw178 : k0_chk178 v1169), ∀ a, (k0_off181 v1169) a + S1x128.size a ≤ S9088x128.size a := fun v1169 k0_hw178 => k0_hw178

def k0_off182 (v1175 : BitVec 32) : Fin 2 → Nat :=
  let v1176 : Index := Scalar.indexCast v1175
  let c0_864 : Index := 0#32
  ![v1176.toNat, 0]

def k0_chk179 (v1175 : BitVec 32) : Prop :=
  (∀ a, (k0_off182 v1175) a + S1x128.size a ≤ S9088x128.size a)
theorem k0_off182_inb : ∀ (v1175 : BitVec 32) (k0_hw179 : k0_chk179 v1175), ∀ a, (k0_off182 v1175) a + S1x128.size a ≤ S9088x128.size a := fun v1175 k0_hw179 => k0_hw179

def k0_off183 (v1181 : BitVec 32) : Fin 2 → Nat :=
  let v1182 : Index := Scalar.indexCast v1181
  let c0_868 : Index := 0#32
  ![v1182.toNat, 0]

def k0_chk180 (v1181 : BitVec 32) : Prop :=
  (∀ a, (k0_off183 v1181) a + S1x128.size a ≤ S9088x128.size a)
theorem k0_off183_inb : ∀ (v1181 : BitVec 32) (k0_hw180 : k0_chk180 v1181), ∀ a, (k0_off183 v1181) a + S1x128.size a ≤ S9088x128.size a := fun v1181 k0_hw180 => k0_hw180

def k0_off184 (v1187 : BitVec 32) : Fin 2 → Nat :=
  let v1188 : Index := Scalar.indexCast v1187
  let c0_872 : Index := 0#32
  ![v1188.toNat, 0]

def k0_chk181 (v1187 : BitVec 32) : Prop :=
  (∀ a, (k0_off184 v1187) a + S1x128.size a ≤ S9088x128.size a)
theorem k0_off184_inb : ∀ (v1187 : BitVec 32) (k0_hw181 : k0_chk181 v1187), ∀ a, (k0_off184 v1187) a + S1x128.size a ≤ S9088x128.size a := fun v1187 k0_hw181 => k0_hw181

def k0_off185 (v1193 : BitVec 32) : Fin 2 → Nat :=
  let v1194 : Index := Scalar.indexCast v1193
  let c0_876 : Index := 0#32
  ![v1194.toNat, 0]

def k0_chk182 (v1193 : BitVec 32) : Prop :=
  (∀ a, (k0_off185 v1193) a + S1x128.size a ≤ S9088x128.size a)
theorem k0_off185_inb : ∀ (v1193 : BitVec 32) (k0_hw182 : k0_chk182 v1193), ∀ a, (k0_off185 v1193) a + S1x128.size a ≤ S9088x128.size a := fun v1193 k0_hw182 => k0_hw182

def k0_off186 (v1199 : BitVec 32) : Fin 2 → Nat :=
  let v1200 : Index := Scalar.indexCast v1199
  let c0_880 : Index := 0#32
  ![v1200.toNat, 0]

def k0_chk183 (v1199 : BitVec 32) : Prop :=
  (∀ a, (k0_off186 v1199) a + S1x128.size a ≤ S9088x128.size a)
theorem k0_off186_inb : ∀ (v1199 : BitVec 32) (k0_hw183 : k0_chk183 v1199), ∀ a, (k0_off186 v1199) a + S1x128.size a ≤ S9088x128.size a := fun v1199 k0_hw183 => k0_hw183

def k0_off187 (v1205 : BitVec 32) : Fin 2 → Nat :=
  let v1206 : Index := Scalar.indexCast v1205
  let c0_884 : Index := 0#32
  ![v1206.toNat, 0]

def k0_chk184 (v1205 : BitVec 32) : Prop :=
  (∀ a, (k0_off187 v1205) a + S1x128.size a ≤ S9088x128.size a)
theorem k0_off187_inb : ∀ (v1205 : BitVec 32) (k0_hw184 : k0_chk184 v1205), ∀ a, (k0_off187 v1205) a + S1x128.size a ≤ S9088x128.size a := fun v1205 k0_hw184 => k0_hw184

def k0_off188 (v1211 : BitVec 32) : Fin 2 → Nat :=
  let v1212 : Index := Scalar.indexCast v1211
  let c0_888 : Index := 0#32
  ![v1212.toNat, 0]

def k0_chk185 (v1211 : BitVec 32) : Prop :=
  (∀ a, (k0_off188 v1211) a + S1x128.size a ≤ S9088x128.size a)
theorem k0_off188_inb : ∀ (v1211 : BitVec 32) (k0_hw185 : k0_chk185 v1211), ∀ a, (k0_off188 v1211) a + S1x128.size a ≤ S9088x128.size a := fun v1211 k0_hw185 => k0_hw185

def k0_off189 (v1217 : BitVec 32) : Fin 2 → Nat :=
  let v1218 : Index := Scalar.indexCast v1217
  let c0_892 : Index := 0#32
  ![v1218.toNat, 0]

def k0_chk186 (v1217 : BitVec 32) : Prop :=
  (∀ a, (k0_off189 v1217) a + S1x128.size a ≤ S9088x128.size a)
theorem k0_off189_inb : ∀ (v1217 : BitVec 32) (k0_hw186 : k0_chk186 v1217), ∀ a, (k0_off189 v1217) a + S1x128.size a ≤ S9088x128.size a := fun v1217 k0_hw186 => k0_hw186

def k0_off190 (v1223 : BitVec 32) : Fin 2 → Nat :=
  let v1224 : Index := Scalar.indexCast v1223
  let c0_896 : Index := 0#32
  ![v1224.toNat, 0]

def k0_chk187 (v1223 : BitVec 32) : Prop :=
  (∀ a, (k0_off190 v1223) a + S1x128.size a ≤ S9088x128.size a)
theorem k0_off190_inb : ∀ (v1223 : BitVec 32) (k0_hw187 : k0_chk187 v1223), ∀ a, (k0_off190 v1223) a + S1x128.size a ≤ S9088x128.size a := fun v1223 k0_hw187 => k0_hw187

def k0_off191 (v1229 : BitVec 32) : Fin 2 → Nat :=
  let v1230 : Index := Scalar.indexCast v1229
  let c0_900 : Index := 0#32
  ![v1230.toNat, 0]

def k0_chk188 (v1229 : BitVec 32) : Prop :=
  (∀ a, (k0_off191 v1229) a + S1x128.size a ≤ S9088x128.size a)
theorem k0_off191_inb : ∀ (v1229 : BitVec 32) (k0_hw188 : k0_chk188 v1229), ∀ a, (k0_off191 v1229) a + S1x128.size a ≤ S9088x128.size a := fun v1229 k0_hw188 => k0_hw188

def k0_off192 (v1235 : BitVec 32) : Fin 2 → Nat :=
  let v1236 : Index := Scalar.indexCast v1235
  let c0_904 : Index := 0#32
  ![v1236.toNat, 0]

def k0_chk189 (v1235 : BitVec 32) : Prop :=
  (∀ a, (k0_off192 v1235) a + S1x128.size a ≤ S9088x128.size a)
theorem k0_off192_inb : ∀ (v1235 : BitVec 32) (k0_hw189 : k0_chk189 v1235), ∀ a, (k0_off192 v1235) a + S1x128.size a ≤ S9088x128.size a := fun v1235 k0_hw189 => k0_hw189

def k0_off193 (v1241 : BitVec 32) : Fin 2 → Nat :=
  let v1242 : Index := Scalar.indexCast v1241
  let c0_908 : Index := 0#32
  ![v1242.toNat, 0]

def k0_chk190 (v1241 : BitVec 32) : Prop :=
  (∀ a, (k0_off193 v1241) a + S1x128.size a ≤ S9088x128.size a)
theorem k0_off193_inb : ∀ (v1241 : BitVec 32) (k0_hw190 : k0_chk190 v1241), ∀ a, (k0_off193 v1241) a + S1x128.size a ≤ S9088x128.size a := fun v1241 k0_hw190 => k0_hw190

def k0_off194 (v1247 : BitVec 32) : Fin 2 → Nat :=
  let v1248 : Index := Scalar.indexCast v1247
  let c0_912 : Index := 0#32
  ![v1248.toNat, 0]

def k0_chk191 (v1247 : BitVec 32) : Prop :=
  (∀ a, (k0_off194 v1247) a + S1x128.size a ≤ S9088x128.size a)
theorem k0_off194_inb : ∀ (v1247 : BitVec 32) (k0_hw191 : k0_chk191 v1247), ∀ a, (k0_off194 v1247) a + S1x128.size a ≤ S9088x128.size a := fun v1247 k0_hw191 => k0_hw191

def k0_off195 (v1253 : BitVec 32) : Fin 2 → Nat :=
  let v1254 : Index := Scalar.indexCast v1253
  let c0_916 : Index := 0#32
  ![v1254.toNat, 0]

def k0_chk192 (v1253 : BitVec 32) : Prop :=
  (∀ a, (k0_off195 v1253) a + S1x128.size a ≤ S9088x128.size a)
theorem k0_off195_inb : ∀ (v1253 : BitVec 32) (k0_hw192 : k0_chk192 v1253), ∀ a, (k0_off195 v1253) a + S1x128.size a ≤ S9088x128.size a := fun v1253 k0_hw192 => k0_hw192

def k0_off196 (v1259 : BitVec 32) : Fin 2 → Nat :=
  let v1260 : Index := Scalar.indexCast v1259
  let c0_920 : Index := 0#32
  ![v1260.toNat, 0]

def k0_chk193 (v1259 : BitVec 32) : Prop :=
  (∀ a, (k0_off196 v1259) a + S1x128.size a ≤ S9088x128.size a)
theorem k0_off196_inb : ∀ (v1259 : BitVec 32) (k0_hw193 : k0_chk193 v1259), ∀ a, (k0_off196 v1259) a + S1x128.size a ≤ S9088x128.size a := fun v1259 k0_hw193 => k0_hw193

def k0_off197 (v1265 : BitVec 32) : Fin 2 → Nat :=
  let v1266 : Index := Scalar.indexCast v1265
  let c0_924 : Index := 0#32
  ![v1266.toNat, 0]

def k0_chk194 (v1265 : BitVec 32) : Prop :=
  (∀ a, (k0_off197 v1265) a + S1x128.size a ≤ S9088x128.size a)
theorem k0_off197_inb : ∀ (v1265 : BitVec 32) (k0_hw194 : k0_chk194 v1265), ∀ a, (k0_off197 v1265) a + S1x128.size a ≤ S9088x128.size a := fun v1265 k0_hw194 => k0_hw194

def k0_off198 (v1271 : BitVec 32) : Fin 2 → Nat :=
  let v1272 : Index := Scalar.indexCast v1271
  let c0_928 : Index := 0#32
  ![v1272.toNat, 0]

def k0_chk195 (v1271 : BitVec 32) : Prop :=
  (∀ a, (k0_off198 v1271) a + S1x128.size a ≤ S9088x128.size a)
theorem k0_off198_inb : ∀ (v1271 : BitVec 32) (k0_hw195 : k0_chk195 v1271), ∀ a, (k0_off198 v1271) a + S1x128.size a ≤ S9088x128.size a := fun v1271 k0_hw195 => k0_hw195

def k0_off199 (v1277 : BitVec 32) : Fin 2 → Nat :=
  let v1278 : Index := Scalar.indexCast v1277
  let c0_932 : Index := 0#32
  ![v1278.toNat, 0]

def k0_chk196 (v1277 : BitVec 32) : Prop :=
  (∀ a, (k0_off199 v1277) a + S1x128.size a ≤ S9088x128.size a)
theorem k0_off199_inb : ∀ (v1277 : BitVec 32) (k0_hw196 : k0_chk196 v1277), ∀ a, (k0_off199 v1277) a + S1x128.size a ≤ S9088x128.size a := fun v1277 k0_hw196 => k0_hw196

@[reducible] def k0_t6_loop : Scf.Loop 32 :=
  let c0_i32_942 : BitVec 32 := 0#32
  let c24_i32 : BitVec 32 := 24#32
  let v1300 : BitVec 32 := Scalar.addi c0_i32_942 c24_i32
  let c1_i32_943 : BitVec 32 := 1#32
  ⟨c0_i32_942, v1300, c1_i32_943⟩
def k0_cond1 (k0_t6 : Fin k0_t6_loop.trips) : BitVec 1 :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_959 : BitVec 32 := 8#32
  let v1319 : BitVec 32 := Scalar.addi v1316 c8_i32_959
  let c48_i32 : BitVec 32 := 48#32
  let v1320 : BitVec 1 := Scalar.cmpi .slt v1319 c48_i32
  let v1321 : BitVec 32 := Scalar.extui v1320
  let c0_i32_960 : BitVec 32 := 0#32
  let v1322 : BitVec 1 := Scalar.cmpi .ne v1321 c0_i32_960
  v1322

def k0_off200 (k0_t6 : Fin k0_t6_loop.trips) : Fin 2 → Nat :=
  let c3_3713 : Index := 3#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_3711 : BitVec 32 := 8#32
  let v6579 : BitVec 32 := Scalar.addi v1316 c8_i32_3711
  let c32_i32_3712 : BitVec 32 := 32#32
  let v6580 : BitVec 32 := Scalar.muli v6579 c32_i32_3712
  let v6581 : Index := Scalar.indexCast v6580
  ![3, v6581.toNat]
@[reducible] def k0_t7_loop (v6582 : BitVec 32) : Scf.Loop 32 :=
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let c1_i32_3722 : BitVec 32 := 1#32
  ⟨c0_i32_3720, v6591, c1_i32_3722⟩

def k0_off201 (k0_t6 : Fin k0_t6_loop.trips) (v6582 : BitVec 32) (k0_t7 : Fin (k0_t7_loop v6582).trips) : Fin 2 → Nat :=
  let c2_3725 : Index := 2#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_3711 : BitVec 32 := 8#32
  let v6579 : BitVec 32 := Scalar.addi v1316 c8_i32_3711
  let c32_i32_3724 : BitVec 32 := 32#32
  let v6594 : BitVec 32 := Scalar.muli v6579 c32_i32_3724
  let c0_i32_3719 : BitVec 32 := 0#32
  let c0_i32_3720 : BitVec 32 := 0#32
  let c1_i32_3722 : BitVec 32 := 1#32
  let arg17 : BitVec 32 := Scf.iv c0_i32_3720 c1_i32_3722 k0_t7
  let c1_i32_3718 : BitVec 32 := 1#32
  let v6592 : BitVec 32 := Scalar.muli arg17 c1_i32_3718
  let v6593 : BitVec 32 := Scalar.addi c0_i32_3719 v6592
  let v6595 : BitVec 32 := Scalar.addi v6594 v6593
  let v6596 : Index := Scalar.indexCast v6595
  ![2, v6596.toNat]
def k0_mult6 (v6597 : BitVec 32) : BitVec 32 :=
  let c8_i32_3726 : BitVec 32 := 8#32
  let v6598 : BitVec 32 := Scalar.muli v6597 c8_i32_3726
  v6598

def k0_off202 (k0_t6 : Fin k0_t6_loop.trips) : Fin 1 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_3711 : BitVec 32 := 8#32
  let v6579 : BitVec 32 := Scalar.addi v1316 c8_i32_3711
  ![v6579.toNat]
def k0_off203 (v6597 : BitVec 32) : Fin 3 → Nat :=
  let c8_i32_3726 : BitVec 32 := 8#32
  let v6598 : BitVec 32 := Scalar.muli v6597 c8_i32_3726
  let v6599 : BitVec 32 := v6598
  let c0_i32_3727 : BitVec 32 := 0#32
  let c0_i32_3728 : BitVec 32 := 0#32
  ![v6599.toNat, 0, 0]

def k0_chk198 (k0_t6 : Fin k0_t6_loop.trips) (v6597 : BitVec 32) : Prop :=
  (∀ (k0_h1 : k0_cond1 k0_t6 = 1#1), 8 ∣ (k0_mult6 v6597).toNat) ∧
  (∀ (k0_h1 : k0_cond1 k0_t6 = 1#1), ∀ a, (k0_off203 v6597) a + S8x28x128.size a ≤ S2272x28x128.size a)
theorem k0_mult6_dvd : ∀ (k0_t6 : Fin k0_t6_loop.trips) (v6597 : BitVec 32) (k0_hw198 : k0_chk198 k0_t6 v6597), ∀ (k0_h1 : k0_cond1 k0_t6 = 1#1), 8 ∣ (k0_mult6 v6597).toNat := fun k0_t6 v6597 k0_hw198 k0_h1 => k0_hw198.1 k0_h1
theorem k0_off203_inb : ∀ (k0_t6 : Fin k0_t6_loop.trips) (v6597 : BitVec 32) (k0_hw198 : k0_chk198 k0_t6 v6597), ∀ (k0_h1 : k0_cond1 k0_t6 = 1#1), ∀ a, (k0_off203 v6597) a + S8x28x128.size a ≤ S2272x28x128.size a := fun k0_t6 v6597 k0_hw198 k0_h1 => k0_hw198.2 k0_h1

@[reducible] def k0_t8_loop (v6582 : BitVec 32) : Scf.Loop 32 :=
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let v6588 : BitVec 32 := Scalar.addi c0_i32_3720 v6587
  let c1_i32_3723 : BitVec 32 := 1#32
  ⟨v6591, v6588, c1_i32_3723⟩
def k0_off204 (k0_t6 : Fin k0_t6_loop.trips) (v6582 : BitVec 32) (k0_t8 : Fin (k0_t8_loop v6582).trips) : Fin 2 → Nat :=
  let c2_3725 : Index := 2#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_3711 : BitVec 32 := 8#32
  let v6579 : BitVec 32 := Scalar.addi v1316 c8_i32_3711
  let c32_i32_3724 : BitVec 32 := 32#32
  let v6594 : BitVec 32 := Scalar.muli v6579 c32_i32_3724
  let c0_i32_3719 : BitVec 32 := 0#32
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let c1_i32_3723 : BitVec 32 := 1#32
  let arg17 : BitVec 32 := Scf.iv v6591 c1_i32_3723 k0_t8
  let c1_i32_3718 : BitVec 32 := 1#32
  let v6592 : BitVec 32 := Scalar.muli arg17 c1_i32_3718
  let v6593 : BitVec 32 := Scalar.addi c0_i32_3719 v6592
  let v6595 : BitVec 32 := Scalar.addi v6594 v6593
  let v6596 : Index := Scalar.indexCast v6595
  ![2, v6596.toNat]

def k0_chk197 (k0_t6 : Fin k0_t6_loop.trips) (v6582 : BitVec 32) : Prop :=
  (∀ (k0_h1 : k0_cond1 k0_t6 = 1#1), (k0_t7_loop v6582).OK) ∧
  (∀ k0_t7 : Fin (k0_t7_loop v6582).trips, ∀ (k0_h1 : k0_cond1 k0_t6 = 1#1), ∀ a, (k0_off201 k0_t6 v6582 k0_t7) a + S1x1.size a ≤ S8x1536.size a) ∧
  (∀ (k0_h1 : k0_cond1 k0_t6 = 1#1), (k0_t8_loop v6582).OK) ∧
  (∀ k0_t8 : Fin (k0_t8_loop v6582).trips, ∀ (k0_h1 : k0_cond1 k0_t6 = 1#1), ∀ a, (k0_off204 k0_t6 v6582 k0_t8) a + S1x1.size a ≤ S8x1536.size a)
theorem k0_t7_ok : ∀ (k0_t6 : Fin k0_t6_loop.trips) (v6582 : BitVec 32) (k0_hw197 : k0_chk197 k0_t6 v6582), ∀ (k0_h1 : k0_cond1 k0_t6 = 1#1), (k0_t7_loop v6582).OK := fun k0_t6 v6582 k0_hw197 k0_h1 => k0_hw197.1 k0_h1
theorem k0_off201_inb : ∀ (k0_t6 : Fin k0_t6_loop.trips) (v6582 : BitVec 32) (k0_hw197 : k0_chk197 k0_t6 v6582) (k0_t7 : Fin (k0_t7_loop v6582).trips), ∀ (k0_h1 : k0_cond1 k0_t6 = 1#1), ∀ a, (k0_off201 k0_t6 v6582 k0_t7) a + S1x1.size a ≤ S8x1536.size a := fun k0_t6 v6582 k0_hw197 k0_t7 k0_h1 => k0_hw197.2.1 k0_t7 k0_h1
theorem k0_t8_ok : ∀ (k0_t6 : Fin k0_t6_loop.trips) (v6582 : BitVec 32) (k0_hw197 : k0_chk197 k0_t6 v6582), ∀ (k0_h1 : k0_cond1 k0_t6 = 1#1), (k0_t8_loop v6582).OK := fun k0_t6 v6582 k0_hw197 k0_h1 => k0_hw197.2.2.1 k0_h1
theorem k0_off204_inb : ∀ (k0_t6 : Fin k0_t6_loop.trips) (v6582 : BitVec 32) (k0_hw197 : k0_chk197 k0_t6 v6582) (k0_t8 : Fin (k0_t8_loop v6582).trips), ∀ (k0_h1 : k0_cond1 k0_t6 = 1#1), ∀ a, (k0_off204 k0_t6 v6582 k0_t8) a + S1x1.size a ≤ S8x1536.size a := fun k0_t6 v6582 k0_hw197 k0_t8 k0_h1 => k0_hw197.2.2.2 k0_t8 k0_h1

def k0_mult7 (v6597 : BitVec 32) : BitVec 32 :=
  let c8_i32_3726 : BitVec 32 := 8#32
  let v6598 : BitVec 32 := Scalar.muli v6597 c8_i32_3726
  v6598

def k0_off205 (k0_t6 : Fin k0_t6_loop.trips) : Fin 1 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c8_i32_3711 : BitVec 32 := 8#32
  let v6579 : BitVec 32 := Scalar.addi v1316 c8_i32_3711
  ![v6579.toNat]
def k0_off206 (v6597 : BitVec 32) : Fin 3 → Nat :=
  let c8_i32_3726 : BitVec 32 := 8#32
  let v6598 : BitVec 32 := Scalar.muli v6597 c8_i32_3726
  let v6599 : BitVec 32 := v6598
  let c0_i32_3727 : BitVec 32 := 0#32
  let c0_i32_3728 : BitVec 32 := 0#32
  ![v6599.toNat, 0, 0]

def k0_chk199 (k0_t6 : Fin k0_t6_loop.trips) (v6597 : BitVec 32) : Prop :=
  (∀ (k0_h1 : k0_cond1 k0_t6 = 1#1), 8 ∣ (k0_mult7 v6597).toNat) ∧
  (∀ (k0_h1 : k0_cond1 k0_t6 = 1#1), ∀ a, (k0_off206 v6597) a + S8x28x128.size a ≤ S2272x28x128.size a)
theorem k0_mult7_dvd : ∀ (k0_t6 : Fin k0_t6_loop.trips) (v6597 : BitVec 32) (k0_hw199 : k0_chk199 k0_t6 v6597), ∀ (k0_h1 : k0_cond1 k0_t6 = 1#1), 8 ∣ (k0_mult7 v6597).toNat := fun k0_t6 v6597 k0_hw199 k0_h1 => k0_hw199.1 k0_h1
theorem k0_off206_inb : ∀ (k0_t6 : Fin k0_t6_loop.trips) (v6597 : BitVec 32) (k0_hw199 : k0_chk199 k0_t6 v6597), ∀ (k0_h1 : k0_cond1 k0_t6 = 1#1), ∀ a, (k0_off206 v6597) a + S8x28x128.size a ≤ S2272x28x128.size a := fun k0_t6 v6597 k0_hw199 k0_h1 => k0_hw199.2 k0_h1

def k0_cond2 (k0_t6 : Fin k0_t6_loop.trips) : BitVec 1 :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_961 : BitVec 32 := 1#32
  let v1323 : BitVec 32 := Scalar.addi v1316 c1_i32_961
  let c48_i32_962 : BitVec 32 := 48#32
  let v1324 : BitVec 1 := Scalar.cmpi .slt v1323 c48_i32_962
  let v1325 : BitVec 32 := Scalar.extui v1324
  let c0_i32_963 : BitVec 32 := 0#32
  let v1326 : BitVec 1 := Scalar.cmpi .ne v1325 c0_i32_963
  v1326

def k0_off207 (k0_t6 : Fin k0_t6_loop.trips) : Fin 2 → Nat :=
  let c3_3712 : Index := 3#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_3711 : BitVec 32 := 32#32
  let v6579 : BitVec 32 := Scalar.muli v1318 c32_i32_3711
  let v6580 : Index := Scalar.indexCast v6579
  ![3, v6580.toNat]
@[reducible] def k0_t9_loop (v6581 : BitVec 32) : Scf.Loop 32 :=
  let c0_i32_3719 : BitVec 32 := 0#32
  let c0_i32_3713 : BitVec 32 := 0#32
  let v6582 : BitVec 32 := Scalar.subi v6581 c0_i32_3713
  let c1_i32_3714 : BitVec 32 := 1#32
  let c1_i32_3715 : BitVec 32 := 1#32
  let v6583 : BitVec 32 := Scalar.subi c1_i32_3714 c1_i32_3715
  let v6584 : BitVec 32 := Scalar.addi v6582 v6583
  let c1_i32_3716 : BitVec 32 := 1#32
  let v6585 : BitVec 32 := Scalar.divsi v6584 c1_i32_3716
  let v6586 : BitVec 32 := Scalar.subi v6585 c0_i32_3719
  let c1_i32_3720 : BitVec 32 := 1#32
  let v6588 : BitVec 32 := Scalar.divsi v6586 c1_i32_3720
  let v6589 : BitVec 32 := Scalar.muli v6588 c1_i32_3720
  let v6590 : BitVec 32 := Scalar.addi c0_i32_3719 v6589
  let c1_i32_3721 : BitVec 32 := 1#32
  ⟨c0_i32_3719, v6590, c1_i32_3721⟩

def k0_mult8 : BitVec 32 :=
  let c0_i32_3723 : BitVec 32 := 0#32
  c0_i32_3723
def k0_off208 (k0_t6 : Fin k0_t6_loop.trips) : Fin 1 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  ![v1318.toNat]
@[reducible] def k0_t10_loop (v6581 : BitVec 32) : Scf.Loop 32 :=
  let c0_i32_3719 : BitVec 32 := 0#32
  let c0_i32_3713 : BitVec 32 := 0#32
  let v6582 : BitVec 32 := Scalar.subi v6581 c0_i32_3713
  let c1_i32_3714 : BitVec 32 := 1#32
  let c1_i32_3715 : BitVec 32 := 1#32
  let v6583 : BitVec 32 := Scalar.subi c1_i32_3714 c1_i32_3715
  let v6584 : BitVec 32 := Scalar.addi v6582 v6583
  let c1_i32_3716 : BitVec 32 := 1#32
  let v6585 : BitVec 32 := Scalar.divsi v6584 c1_i32_3716
  let v6586 : BitVec 32 := Scalar.subi v6585 c0_i32_3719
  let c1_i32_3720 : BitVec 32 := 1#32
  let v6588 : BitVec 32 := Scalar.divsi v6586 c1_i32_3720
  let v6589 : BitVec 32 := Scalar.muli v6588 c1_i32_3720
  let v6590 : BitVec 32 := Scalar.addi c0_i32_3719 v6589
  let v6587 : BitVec 32 := Scalar.addi c0_i32_3719 v6586
  let c1_i32_3722 : BitVec 32 := 1#32
  ⟨v6590, v6587, c1_i32_3722⟩

def k0_chk200 (k0_t6 : Fin k0_t6_loop.trips) (v6581 : BitVec 32) : Prop :=
  (∀ (k0_h2 : k0_cond2 k0_t6 = 1#1), (k0_t9_loop v6581).OK) ∧
  (∀ (k0_h2 : k0_cond2 k0_t6 = 1#1), (k0_t10_loop v6581).OK)
theorem k0_t9_ok : ∀ (k0_t6 : Fin k0_t6_loop.trips) (v6581 : BitVec 32) (k0_hw200 : k0_chk200 k0_t6 v6581), ∀ (k0_h2 : k0_cond2 k0_t6 = 1#1), (k0_t9_loop v6581).OK := fun k0_t6 v6581 k0_hw200 k0_h2 => k0_hw200.1 k0_h2
theorem k0_t10_ok : ∀ (k0_t6 : Fin k0_t6_loop.trips) (v6581 : BitVec 32) (k0_hw200 : k0_chk200 k0_t6 v6581), ∀ (k0_h2 : k0_cond2 k0_t6 = 1#1), (k0_t10_loop v6581).OK := fun k0_t6 v6581 k0_hw200 k0_h2 => k0_hw200.2 k0_h2

def k0_mult9 : BitVec 32 :=
  let c0_i32_3723 : BitVec 32 := 0#32
  c0_i32_3723
def k0_off209 (k0_t6 : Fin k0_t6_loop.trips) : Fin 1 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  ![v1318.toNat]
def k0_cond3 (k0_t6 : Fin k0_t6_loop.trips) : BitVec 1 :=
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let c0_i32_964 : BitVec 32 := 0#32
  let v1327 : BitVec 1 := Scalar.cmpi .sgt v1314 c0_i32_964
  let v1328 : BitVec 32 := Scalar.extui v1327
  let c0_i32_965 : BitVec 32 := 0#32
  let v1329 : BitVec 1 := Scalar.cmpi .ne v1328 c0_i32_965
  v1329

def k0_mult10 (k0_t6 : Fin k0_t6_loop.trips) : BitVec 32 :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c32_i32_3711 : BitVec 32 := 32#32
  let v6579 : BitVec 32 := Scalar.muli v1316 c32_i32_3711
  v6579
def k0_off210 (k0_t6 : Fin k0_t6_loop.trips) : Fin 2 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c32_i32_3711 : BitVec 32 := 32#32
  let v6579 : BitVec 32 := Scalar.muli v1316 c32_i32_3711
  let v6580 : BitVec 32 := v6579
  let c0_i32_3714 : BitVec 32 := 0#32
  ![v6580.toNat, 0]
def k0_off211 (k0_t6 : Fin k0_t6_loop.trips) : Fin 2 → Nat :=
  let c0_967 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32 : BitVec 32 := 32#32
  let v1330 : BitVec 32 := Scalar.muli v1318 c32_i32
  let c0_i32_966 : BitVec 32 := 0#32
  let v1331 : BitVec 32 := Scalar.addi v1330 c0_i32_966
  let v1332 : Index := Scalar.indexCast v1331
  ![0, v1332.toNat]
def k0_off212 (v1333 : BitVec 32) : Fin 3 → Nat :=
  let v1334 : Index := Scalar.indexCast v1333
  let c0_968 : Index := 0#32
  let c0_969 : Index := 0#32
  ![v1334.toNat, 0, 0]

def k0_chk201 (v1333 : BitVec 32) : Prop :=
  (∀ a, (k0_off212 v1333) a + S1x28x128.size a ≤ S2272x28x128.size a)
theorem k0_off212_inb : ∀ (v1333 : BitVec 32) (k0_hw201 : k0_chk201 v1333), ∀ a, (k0_off212 v1333) a + S1x28x128.size a ≤ S2272x28x128.size a := fun v1333 k0_hw201 => k0_hw201

def k0_off213 (k0_t6 : Fin k0_t6_loop.trips) : Fin 2 → Nat :=
  let c0_974 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_972 : BitVec 32 := 32#32
  let v1340 : BitVec 32 := Scalar.muli v1318 c32_i32_972
  let c1_i32_973 : BitVec 32 := 1#32
  let v1341 : BitVec 32 := Scalar.addi v1340 c1_i32_973
  let v1342 : Index := Scalar.indexCast v1341
  ![0, v1342.toNat]
def k0_off214 (v1343 : BitVec 32) : Fin 3 → Nat :=
  let v1344 : Index := Scalar.indexCast v1343
  let c0_975 : Index := 0#32
  let c0_976 : Index := 0#32
  ![v1344.toNat, 0, 0]

def k0_chk202 (v1343 : BitVec 32) : Prop :=
  (∀ a, (k0_off214 v1343) a + S1x28x128.size a ≤ S2272x28x128.size a)
theorem k0_off214_inb : ∀ (v1343 : BitVec 32) (k0_hw202 : k0_chk202 v1343), ∀ a, (k0_off214 v1343) a + S1x28x128.size a ≤ S2272x28x128.size a := fun v1343 k0_hw202 => k0_hw202

def k0_off215 (k0_t6 : Fin k0_t6_loop.trips) : Fin 2 → Nat :=
  let c0_981 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_979 : BitVec 32 := 32#32
  let v1350 : BitVec 32 := Scalar.muli v1318 c32_i32_979
  let c2_i32_980 : BitVec 32 := 2#32
  let v1351 : BitVec 32 := Scalar.addi v1350 c2_i32_980
  let v1352 : Index := Scalar.indexCast v1351
  ![0, v1352.toNat]
def k0_off216 (v1353 : BitVec 32) : Fin 3 → Nat :=
  let v1354 : Index := Scalar.indexCast v1353
  let c0_982 : Index := 0#32
  let c0_983 : Index := 0#32
  ![v1354.toNat, 0, 0]

def k0_chk203 (v1353 : BitVec 32) : Prop :=
  (∀ a, (k0_off216 v1353) a + S1x28x128.size a ≤ S2272x28x128.size a)
theorem k0_off216_inb : ∀ (v1353 : BitVec 32) (k0_hw203 : k0_chk203 v1353), ∀ a, (k0_off216 v1353) a + S1x28x128.size a ≤ S2272x28x128.size a := fun v1353 k0_hw203 => k0_hw203

def k0_off217 (k0_t6 : Fin k0_t6_loop.trips) : Fin 2 → Nat :=
  let c0_987 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_986 : BitVec 32 := 32#32
  let v1360 : BitVec 32 := Scalar.muli v1318 c32_i32_986
  let c3_i32 : BitVec 32 := 3#32
  let v1361 : BitVec 32 := Scalar.addi v1360 c3_i32
  let v1362 : Index := Scalar.indexCast v1361
  ![0, v1362.toNat]
def k0_off218 (v1363 : BitVec 32) : Fin 3 → Nat :=
  let v1364 : Index := Scalar.indexCast v1363
  let c0_988 : Index := 0#32
  let c0_989 : Index := 0#32
  ![v1364.toNat, 0, 0]

def k0_chk204 (v1363 : BitVec 32) : Prop :=
  (∀ a, (k0_off218 v1363) a + S1x28x128.size a ≤ S2272x28x128.size a)
theorem k0_off218_inb : ∀ (v1363 : BitVec 32) (k0_hw204 : k0_chk204 v1363), ∀ a, (k0_off218 v1363) a + S1x28x128.size a ≤ S2272x28x128.size a := fun v1363 k0_hw204 => k0_hw204

def k0_off219 (k0_t6 : Fin k0_t6_loop.trips) : Fin 2 → Nat :=
  let c0_993 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_992 : BitVec 32 := 32#32
  let v1370 : BitVec 32 := Scalar.muli v1318 c32_i32_992
  let c4_i32 : BitVec 32 := 4#32
  let v1371 : BitVec 32 := Scalar.addi v1370 c4_i32
  let v1372 : Index := Scalar.indexCast v1371
  ![0, v1372.toNat]
def k0_off220 (v1373 : BitVec 32) : Fin 3 → Nat :=
  let v1374 : Index := Scalar.indexCast v1373
  let c0_994 : Index := 0#32
  let c0_995 : Index := 0#32
  ![v1374.toNat, 0, 0]

def k0_chk205 (v1373 : BitVec 32) : Prop :=
  (∀ a, (k0_off220 v1373) a + S1x28x128.size a ≤ S2272x28x128.size a)
theorem k0_off220_inb : ∀ (v1373 : BitVec 32) (k0_hw205 : k0_chk205 v1373), ∀ a, (k0_off220 v1373) a + S1x28x128.size a ≤ S2272x28x128.size a := fun v1373 k0_hw205 => k0_hw205

def k0_off221 (k0_t6 : Fin k0_t6_loop.trips) : Fin 2 → Nat :=
  let c0_999 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_998 : BitVec 32 := 32#32
  let v1380 : BitVec 32 := Scalar.muli v1318 c32_i32_998
  let c5_i32 : BitVec 32 := 5#32
  let v1381 : BitVec 32 := Scalar.addi v1380 c5_i32
  let v1382 : Index := Scalar.indexCast v1381
  ![0, v1382.toNat]
def k0_off222 (v1383 : BitVec 32) : Fin 3 → Nat :=
  let v1384 : Index := Scalar.indexCast v1383
  let c0_1000 : Index := 0#32
  let c0_1001 : Index := 0#32
  ![v1384.toNat, 0, 0]

def k0_chk206 (v1383 : BitVec 32) : Prop :=
  (∀ a, (k0_off222 v1383) a + S1x28x128.size a ≤ S2272x28x128.size a)
theorem k0_off222_inb : ∀ (v1383 : BitVec 32) (k0_hw206 : k0_chk206 v1383), ∀ a, (k0_off222 v1383) a + S1x28x128.size a ≤ S2272x28x128.size a := fun v1383 k0_hw206 => k0_hw206

def k0_off223 (k0_t6 : Fin k0_t6_loop.trips) : Fin 2 → Nat :=
  let c0_1005 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1004 : BitVec 32 := 32#32
  let v1390 : BitVec 32 := Scalar.muli v1318 c32_i32_1004
  let c6_i32 : BitVec 32 := 6#32
  let v1391 : BitVec 32 := Scalar.addi v1390 c6_i32
  let v1392 : Index := Scalar.indexCast v1391
  ![0, v1392.toNat]
def k0_off224 (v1393 : BitVec 32) : Fin 3 → Nat :=
  let v1394 : Index := Scalar.indexCast v1393
  let c0_1006 : Index := 0#32
  let c0_1007 : Index := 0#32
  ![v1394.toNat, 0, 0]

def k0_chk207 (v1393 : BitVec 32) : Prop :=
  (∀ a, (k0_off224 v1393) a + S1x28x128.size a ≤ S2272x28x128.size a)
theorem k0_off224_inb : ∀ (v1393 : BitVec 32) (k0_hw207 : k0_chk207 v1393), ∀ a, (k0_off224 v1393) a + S1x28x128.size a ≤ S2272x28x128.size a := fun v1393 k0_hw207 => k0_hw207

def k0_off225 (k0_t6 : Fin k0_t6_loop.trips) : Fin 2 → Nat :=
  let c0_1011 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1010 : BitVec 32 := 32#32
  let v1400 : BitVec 32 := Scalar.muli v1318 c32_i32_1010
  let c7_i32 : BitVec 32 := 7#32
  let v1401 : BitVec 32 := Scalar.addi v1400 c7_i32
  let v1402 : Index := Scalar.indexCast v1401
  ![0, v1402.toNat]
def k0_off226 (v1403 : BitVec 32) : Fin 3 → Nat :=
  let v1404 : Index := Scalar.indexCast v1403
  let c0_1012 : Index := 0#32
  let c0_1013 : Index := 0#32
  ![v1404.toNat, 0, 0]

def k0_chk208 (v1403 : BitVec 32) : Prop :=
  (∀ a, (k0_off226 v1403) a + S1x28x128.size a ≤ S2272x28x128.size a)
theorem k0_off226_inb : ∀ (v1403 : BitVec 32) (k0_hw208 : k0_chk208 v1403), ∀ a, (k0_off226 v1403) a + S1x28x128.size a ≤ S2272x28x128.size a := fun v1403 k0_hw208 => k0_hw208

def k0_off227 (k0_t6 : Fin k0_t6_loop.trips) : Fin 2 → Nat :=
  let c0_1018 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1016 : BitVec 32 := 32#32
  let v1410 : BitVec 32 := Scalar.muli v1318 c32_i32_1016
  let c8_i32_1017 : BitVec 32 := 8#32
  let v1411 : BitVec 32 := Scalar.addi v1410 c8_i32_1017
  let v1412 : Index := Scalar.indexCast v1411
  ![0, v1412.toNat]
def k0_off228 (v1413 : BitVec 32) : Fin 3 → Nat :=
  let v1414 : Index := Scalar.indexCast v1413
  let c0_1019 : Index := 0#32
  let c0_1020 : Index := 0#32
  ![v1414.toNat, 0, 0]

def k0_chk209 (v1413 : BitVec 32) : Prop :=
  (∀ a, (k0_off228 v1413) a + S1x28x128.size a ≤ S2272x28x128.size a)
theorem k0_off228_inb : ∀ (v1413 : BitVec 32) (k0_hw209 : k0_chk209 v1413), ∀ a, (k0_off228 v1413) a + S1x28x128.size a ≤ S2272x28x128.size a := fun v1413 k0_hw209 => k0_hw209

def k0_off229 (k0_t6 : Fin k0_t6_loop.trips) : Fin 2 → Nat :=
  let c0_1024 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1023 : BitVec 32 := 32#32
  let v1420 : BitVec 32 := Scalar.muli v1318 c32_i32_1023
  let c9_i32 : BitVec 32 := 9#32
  let v1421 : BitVec 32 := Scalar.addi v1420 c9_i32
  let v1422 : Index := Scalar.indexCast v1421
  ![0, v1422.toNat]
def k0_off230 (v1423 : BitVec 32) : Fin 3 → Nat :=
  let v1424 : Index := Scalar.indexCast v1423
  let c0_1025 : Index := 0#32
  let c0_1026 : Index := 0#32
  ![v1424.toNat, 0, 0]

def k0_chk210 (v1423 : BitVec 32) : Prop :=
  (∀ a, (k0_off230 v1423) a + S1x28x128.size a ≤ S2272x28x128.size a)
theorem k0_off230_inb : ∀ (v1423 : BitVec 32) (k0_hw210 : k0_chk210 v1423), ∀ a, (k0_off230 v1423) a + S1x28x128.size a ≤ S2272x28x128.size a := fun v1423 k0_hw210 => k0_hw210

def k0_off231 (k0_t6 : Fin k0_t6_loop.trips) : Fin 2 → Nat :=
  let c0_1030 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1029 : BitVec 32 := 32#32
  let v1430 : BitVec 32 := Scalar.muli v1318 c32_i32_1029
  let c10_i32 : BitVec 32 := 10#32
  let v1431 : BitVec 32 := Scalar.addi v1430 c10_i32
  let v1432 : Index := Scalar.indexCast v1431
  ![0, v1432.toNat]
def k0_off232 (v1433 : BitVec 32) : Fin 3 → Nat :=
  let v1434 : Index := Scalar.indexCast v1433
  let c0_1031 : Index := 0#32
  let c0_1032 : Index := 0#32
  ![v1434.toNat, 0, 0]

def k0_chk211 (v1433 : BitVec 32) : Prop :=
  (∀ a, (k0_off232 v1433) a + S1x28x128.size a ≤ S2272x28x128.size a)
theorem k0_off232_inb : ∀ (v1433 : BitVec 32) (k0_hw211 : k0_chk211 v1433), ∀ a, (k0_off232 v1433) a + S1x28x128.size a ≤ S2272x28x128.size a := fun v1433 k0_hw211 => k0_hw211

def k0_off233 (k0_t6 : Fin k0_t6_loop.trips) : Fin 2 → Nat :=
  let c0_1036 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1035 : BitVec 32 := 32#32
  let v1440 : BitVec 32 := Scalar.muli v1318 c32_i32_1035
  let c11_i32 : BitVec 32 := 11#32
  let v1441 : BitVec 32 := Scalar.addi v1440 c11_i32
  let v1442 : Index := Scalar.indexCast v1441
  ![0, v1442.toNat]
def k0_off234 (v1443 : BitVec 32) : Fin 3 → Nat :=
  let v1444 : Index := Scalar.indexCast v1443
  let c0_1037 : Index := 0#32
  let c0_1038 : Index := 0#32
  ![v1444.toNat, 0, 0]

def k0_chk212 (v1443 : BitVec 32) : Prop :=
  (∀ a, (k0_off234 v1443) a + S1x28x128.size a ≤ S2272x28x128.size a)
theorem k0_off234_inb : ∀ (v1443 : BitVec 32) (k0_hw212 : k0_chk212 v1443), ∀ a, (k0_off234 v1443) a + S1x28x128.size a ≤ S2272x28x128.size a := fun v1443 k0_hw212 => k0_hw212

def k0_off235 (k0_t6 : Fin k0_t6_loop.trips) : Fin 2 → Nat :=
  let c0_1042 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1041 : BitVec 32 := 32#32
  let v1450 : BitVec 32 := Scalar.muli v1318 c32_i32_1041
  let c12_i32 : BitVec 32 := 12#32
  let v1451 : BitVec 32 := Scalar.addi v1450 c12_i32
  let v1452 : Index := Scalar.indexCast v1451
  ![0, v1452.toNat]
def k0_off236 (v1453 : BitVec 32) : Fin 3 → Nat :=
  let v1454 : Index := Scalar.indexCast v1453
  let c0_1043 : Index := 0#32
  let c0_1044 : Index := 0#32
  ![v1454.toNat, 0, 0]

def k0_chk213 (v1453 : BitVec 32) : Prop :=
  (∀ a, (k0_off236 v1453) a + S1x28x128.size a ≤ S2272x28x128.size a)
theorem k0_off236_inb : ∀ (v1453 : BitVec 32) (k0_hw213 : k0_chk213 v1453), ∀ a, (k0_off236 v1453) a + S1x28x128.size a ≤ S2272x28x128.size a := fun v1453 k0_hw213 => k0_hw213

def k0_off237 (k0_t6 : Fin k0_t6_loop.trips) : Fin 2 → Nat :=
  let c0_1048 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1047 : BitVec 32 := 32#32
  let v1460 : BitVec 32 := Scalar.muli v1318 c32_i32_1047
  let c13_i32 : BitVec 32 := 13#32
  let v1461 : BitVec 32 := Scalar.addi v1460 c13_i32
  let v1462 : Index := Scalar.indexCast v1461
  ![0, v1462.toNat]
def k0_off238 (v1463 : BitVec 32) : Fin 3 → Nat :=
  let v1464 : Index := Scalar.indexCast v1463
  let c0_1049 : Index := 0#32
  let c0_1050 : Index := 0#32
  ![v1464.toNat, 0, 0]

def k0_chk214 (v1463 : BitVec 32) : Prop :=
  (∀ a, (k0_off238 v1463) a + S1x28x128.size a ≤ S2272x28x128.size a)
theorem k0_off238_inb : ∀ (v1463 : BitVec 32) (k0_hw214 : k0_chk214 v1463), ∀ a, (k0_off238 v1463) a + S1x28x128.size a ≤ S2272x28x128.size a := fun v1463 k0_hw214 => k0_hw214

def k0_off239 (k0_t6 : Fin k0_t6_loop.trips) : Fin 2 → Nat :=
  let c0_1054 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1053 : BitVec 32 := 32#32
  let v1470 : BitVec 32 := Scalar.muli v1318 c32_i32_1053
  let c14_i32 : BitVec 32 := 14#32
  let v1471 : BitVec 32 := Scalar.addi v1470 c14_i32
  let v1472 : Index := Scalar.indexCast v1471
  ![0, v1472.toNat]
def k0_off240 (v1473 : BitVec 32) : Fin 3 → Nat :=
  let v1474 : Index := Scalar.indexCast v1473
  let c0_1055 : Index := 0#32
  let c0_1056 : Index := 0#32
  ![v1474.toNat, 0, 0]

def k0_chk215 (v1473 : BitVec 32) : Prop :=
  (∀ a, (k0_off240 v1473) a + S1x28x128.size a ≤ S2272x28x128.size a)
theorem k0_off240_inb : ∀ (v1473 : BitVec 32) (k0_hw215 : k0_chk215 v1473), ∀ a, (k0_off240 v1473) a + S1x28x128.size a ≤ S2272x28x128.size a := fun v1473 k0_hw215 => k0_hw215

def k0_off241 (k0_t6 : Fin k0_t6_loop.trips) : Fin 2 → Nat :=
  let c0_1060 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1059 : BitVec 32 := 32#32
  let v1480 : BitVec 32 := Scalar.muli v1318 c32_i32_1059
  let c15_i32 : BitVec 32 := 15#32
  let v1481 : BitVec 32 := Scalar.addi v1480 c15_i32
  let v1482 : Index := Scalar.indexCast v1481
  ![0, v1482.toNat]
def k0_off242 (v1483 : BitVec 32) : Fin 3 → Nat :=
  let v1484 : Index := Scalar.indexCast v1483
  let c0_1061 : Index := 0#32
  let c0_1062 : Index := 0#32
  ![v1484.toNat, 0, 0]

def k0_chk216 (v1483 : BitVec 32) : Prop :=
  (∀ a, (k0_off242 v1483) a + S1x28x128.size a ≤ S2272x28x128.size a)
theorem k0_off242_inb : ∀ (v1483 : BitVec 32) (k0_hw216 : k0_chk216 v1483), ∀ a, (k0_off242 v1483) a + S1x28x128.size a ≤ S2272x28x128.size a := fun v1483 k0_hw216 => k0_hw216

def k0_off243 (k0_t6 : Fin k0_t6_loop.trips) : Fin 2 → Nat :=
  let c0_1066 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1065 : BitVec 32 := 32#32
  let v1490 : BitVec 32 := Scalar.muli v1318 c32_i32_1065
  let c16_i32 : BitVec 32 := 16#32
  let v1491 : BitVec 32 := Scalar.addi v1490 c16_i32
  let v1492 : Index := Scalar.indexCast v1491
  ![0, v1492.toNat]
def k0_off244 (v1493 : BitVec 32) : Fin 3 → Nat :=
  let v1494 : Index := Scalar.indexCast v1493
  let c0_1067 : Index := 0#32
  let c0_1068 : Index := 0#32
  ![v1494.toNat, 0, 0]

def k0_chk217 (v1493 : BitVec 32) : Prop :=
  (∀ a, (k0_off244 v1493) a + S1x28x128.size a ≤ S2272x28x128.size a)
theorem k0_off244_inb : ∀ (v1493 : BitVec 32) (k0_hw217 : k0_chk217 v1493), ∀ a, (k0_off244 v1493) a + S1x28x128.size a ≤ S2272x28x128.size a := fun v1493 k0_hw217 => k0_hw217

def k0_off245 (k0_t6 : Fin k0_t6_loop.trips) : Fin 2 → Nat :=
  let c0_1072 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1071 : BitVec 32 := 32#32
  let v1500 : BitVec 32 := Scalar.muli v1318 c32_i32_1071
  let c17_i32 : BitVec 32 := 17#32
  let v1501 : BitVec 32 := Scalar.addi v1500 c17_i32
  let v1502 : Index := Scalar.indexCast v1501
  ![0, v1502.toNat]
def k0_off246 (v1503 : BitVec 32) : Fin 3 → Nat :=
  let v1504 : Index := Scalar.indexCast v1503
  let c0_1073 : Index := 0#32
  let c0_1074 : Index := 0#32
  ![v1504.toNat, 0, 0]

def k0_chk218 (v1503 : BitVec 32) : Prop :=
  (∀ a, (k0_off246 v1503) a + S1x28x128.size a ≤ S2272x28x128.size a)
theorem k0_off246_inb : ∀ (v1503 : BitVec 32) (k0_hw218 : k0_chk218 v1503), ∀ a, (k0_off246 v1503) a + S1x28x128.size a ≤ S2272x28x128.size a := fun v1503 k0_hw218 => k0_hw218

def k0_off247 (k0_t6 : Fin k0_t6_loop.trips) : Fin 2 → Nat :=
  let c0_1078 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1077 : BitVec 32 := 32#32
  let v1510 : BitVec 32 := Scalar.muli v1318 c32_i32_1077
  let c18_i32 : BitVec 32 := 18#32
  let v1511 : BitVec 32 := Scalar.addi v1510 c18_i32
  let v1512 : Index := Scalar.indexCast v1511
  ![0, v1512.toNat]
def k0_off248 (v1513 : BitVec 32) : Fin 3 → Nat :=
  let v1514 : Index := Scalar.indexCast v1513
  let c0_1079 : Index := 0#32
  let c0_1080 : Index := 0#32
  ![v1514.toNat, 0, 0]

def k0_chk219 (v1513 : BitVec 32) : Prop :=
  (∀ a, (k0_off248 v1513) a + S1x28x128.size a ≤ S2272x28x128.size a)
theorem k0_off248_inb : ∀ (v1513 : BitVec 32) (k0_hw219 : k0_chk219 v1513), ∀ a, (k0_off248 v1513) a + S1x28x128.size a ≤ S2272x28x128.size a := fun v1513 k0_hw219 => k0_hw219

def k0_off249 (k0_t6 : Fin k0_t6_loop.trips) : Fin 2 → Nat :=
  let c0_1084 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1083 : BitVec 32 := 32#32
  let v1520 : BitVec 32 := Scalar.muli v1318 c32_i32_1083
  let c19_i32 : BitVec 32 := 19#32
  let v1521 : BitVec 32 := Scalar.addi v1520 c19_i32
  let v1522 : Index := Scalar.indexCast v1521
  ![0, v1522.toNat]
def k0_off250 (v1523 : BitVec 32) : Fin 3 → Nat :=
  let v1524 : Index := Scalar.indexCast v1523
  let c0_1085 : Index := 0#32
  let c0_1086 : Index := 0#32
  ![v1524.toNat, 0, 0]

def k0_chk220 (v1523 : BitVec 32) : Prop :=
  (∀ a, (k0_off250 v1523) a + S1x28x128.size a ≤ S2272x28x128.size a)
theorem k0_off250_inb : ∀ (v1523 : BitVec 32) (k0_hw220 : k0_chk220 v1523), ∀ a, (k0_off250 v1523) a + S1x28x128.size a ≤ S2272x28x128.size a := fun v1523 k0_hw220 => k0_hw220

def k0_off251 (k0_t6 : Fin k0_t6_loop.trips) : Fin 2 → Nat :=
  let c0_1090 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1089 : BitVec 32 := 32#32
  let v1530 : BitVec 32 := Scalar.muli v1318 c32_i32_1089
  let c20_i32 : BitVec 32 := 20#32
  let v1531 : BitVec 32 := Scalar.addi v1530 c20_i32
  let v1532 : Index := Scalar.indexCast v1531
  ![0, v1532.toNat]
def k0_off252 (v1533 : BitVec 32) : Fin 3 → Nat :=
  let v1534 : Index := Scalar.indexCast v1533
  let c0_1091 : Index := 0#32
  let c0_1092 : Index := 0#32
  ![v1534.toNat, 0, 0]

def k0_chk221 (v1533 : BitVec 32) : Prop :=
  (∀ a, (k0_off252 v1533) a + S1x28x128.size a ≤ S2272x28x128.size a)
theorem k0_off252_inb : ∀ (v1533 : BitVec 32) (k0_hw221 : k0_chk221 v1533), ∀ a, (k0_off252 v1533) a + S1x28x128.size a ≤ S2272x28x128.size a := fun v1533 k0_hw221 => k0_hw221

def k0_off253 (k0_t6 : Fin k0_t6_loop.trips) : Fin 2 → Nat :=
  let c0_1096 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1095 : BitVec 32 := 32#32
  let v1540 : BitVec 32 := Scalar.muli v1318 c32_i32_1095
  let c21_i32 : BitVec 32 := 21#32
  let v1541 : BitVec 32 := Scalar.addi v1540 c21_i32
  let v1542 : Index := Scalar.indexCast v1541
  ![0, v1542.toNat]
def k0_off254 (v1543 : BitVec 32) : Fin 3 → Nat :=
  let v1544 : Index := Scalar.indexCast v1543
  let c0_1097 : Index := 0#32
  let c0_1098 : Index := 0#32
  ![v1544.toNat, 0, 0]

def k0_chk222 (v1543 : BitVec 32) : Prop :=
  (∀ a, (k0_off254 v1543) a + S1x28x128.size a ≤ S2272x28x128.size a)
theorem k0_off254_inb : ∀ (v1543 : BitVec 32) (k0_hw222 : k0_chk222 v1543), ∀ a, (k0_off254 v1543) a + S1x28x128.size a ≤ S2272x28x128.size a := fun v1543 k0_hw222 => k0_hw222

def k0_off255 (k0_t6 : Fin k0_t6_loop.trips) : Fin 2 → Nat :=
  let c0_1102 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1101 : BitVec 32 := 32#32
  let v1550 : BitVec 32 := Scalar.muli v1318 c32_i32_1101
  let c22_i32 : BitVec 32 := 22#32
  let v1551 : BitVec 32 := Scalar.addi v1550 c22_i32
  let v1552 : Index := Scalar.indexCast v1551
  ![0, v1552.toNat]
def k0_off256 (v1553 : BitVec 32) : Fin 3 → Nat :=
  let v1554 : Index := Scalar.indexCast v1553
  let c0_1103 : Index := 0#32
  let c0_1104 : Index := 0#32
  ![v1554.toNat, 0, 0]

def k0_chk223 (v1553 : BitVec 32) : Prop :=
  (∀ a, (k0_off256 v1553) a + S1x28x128.size a ≤ S2272x28x128.size a)
theorem k0_off256_inb : ∀ (v1553 : BitVec 32) (k0_hw223 : k0_chk223 v1553), ∀ a, (k0_off256 v1553) a + S1x28x128.size a ≤ S2272x28x128.size a := fun v1553 k0_hw223 => k0_hw223

def k0_off257 (k0_t6 : Fin k0_t6_loop.trips) : Fin 2 → Nat :=
  let c0_1108 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1107 : BitVec 32 := 32#32
  let v1560 : BitVec 32 := Scalar.muli v1318 c32_i32_1107
  let c23_i32 : BitVec 32 := 23#32
  let v1561 : BitVec 32 := Scalar.addi v1560 c23_i32
  let v1562 : Index := Scalar.indexCast v1561
  ![0, v1562.toNat]
def k0_off258 (v1563 : BitVec 32) : Fin 3 → Nat :=
  let v1564 : Index := Scalar.indexCast v1563
  let c0_1109 : Index := 0#32
  let c0_1110 : Index := 0#32
  ![v1564.toNat, 0, 0]

def k0_chk224 (v1563 : BitVec 32) : Prop :=
  (∀ a, (k0_off258 v1563) a + S1x28x128.size a ≤ S2272x28x128.size a)
theorem k0_off258_inb : ∀ (v1563 : BitVec 32) (k0_hw224 : k0_chk224 v1563), ∀ a, (k0_off258 v1563) a + S1x28x128.size a ≤ S2272x28x128.size a := fun v1563 k0_hw224 => k0_hw224

def k0_off259 (k0_t6 : Fin k0_t6_loop.trips) : Fin 2 → Nat :=
  let c0_1115 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1113 : BitVec 32 := 32#32
  let v1570 : BitVec 32 := Scalar.muli v1318 c32_i32_1113
  let c24_i32_1114 : BitVec 32 := 24#32
  let v1571 : BitVec 32 := Scalar.addi v1570 c24_i32_1114
  let v1572 : Index := Scalar.indexCast v1571
  ![0, v1572.toNat]
def k0_off260 (v1573 : BitVec 32) : Fin 3 → Nat :=
  let v1574 : Index := Scalar.indexCast v1573
  let c0_1116 : Index := 0#32
  let c0_1117 : Index := 0#32
  ![v1574.toNat, 0, 0]

def k0_chk225 (v1573 : BitVec 32) : Prop :=
  (∀ a, (k0_off260 v1573) a + S1x28x128.size a ≤ S2272x28x128.size a)
theorem k0_off260_inb : ∀ (v1573 : BitVec 32) (k0_hw225 : k0_chk225 v1573), ∀ a, (k0_off260 v1573) a + S1x28x128.size a ≤ S2272x28x128.size a := fun v1573 k0_hw225 => k0_hw225

def k0_off261 (k0_t6 : Fin k0_t6_loop.trips) : Fin 2 → Nat :=
  let c0_1121 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1120 : BitVec 32 := 32#32
  let v1580 : BitVec 32 := Scalar.muli v1318 c32_i32_1120
  let c25_i32 : BitVec 32 := 25#32
  let v1581 : BitVec 32 := Scalar.addi v1580 c25_i32
  let v1582 : Index := Scalar.indexCast v1581
  ![0, v1582.toNat]
def k0_off262 (v1583 : BitVec 32) : Fin 3 → Nat :=
  let v1584 : Index := Scalar.indexCast v1583
  let c0_1122 : Index := 0#32
  let c0_1123 : Index := 0#32
  ![v1584.toNat, 0, 0]

def k0_chk226 (v1583 : BitVec 32) : Prop :=
  (∀ a, (k0_off262 v1583) a + S1x28x128.size a ≤ S2272x28x128.size a)
theorem k0_off262_inb : ∀ (v1583 : BitVec 32) (k0_hw226 : k0_chk226 v1583), ∀ a, (k0_off262 v1583) a + S1x28x128.size a ≤ S2272x28x128.size a := fun v1583 k0_hw226 => k0_hw226

def k0_off263 (k0_t6 : Fin k0_t6_loop.trips) : Fin 2 → Nat :=
  let c0_1127 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1126 : BitVec 32 := 32#32
  let v1590 : BitVec 32 := Scalar.muli v1318 c32_i32_1126
  let c26_i32 : BitVec 32 := 26#32
  let v1591 : BitVec 32 := Scalar.addi v1590 c26_i32
  let v1592 : Index := Scalar.indexCast v1591
  ![0, v1592.toNat]
def k0_off264 (v1593 : BitVec 32) : Fin 3 → Nat :=
  let v1594 : Index := Scalar.indexCast v1593
  let c0_1128 : Index := 0#32
  let c0_1129 : Index := 0#32
  ![v1594.toNat, 0, 0]

def k0_chk227 (v1593 : BitVec 32) : Prop :=
  (∀ a, (k0_off264 v1593) a + S1x28x128.size a ≤ S2272x28x128.size a)
theorem k0_off264_inb : ∀ (v1593 : BitVec 32) (k0_hw227 : k0_chk227 v1593), ∀ a, (k0_off264 v1593) a + S1x28x128.size a ≤ S2272x28x128.size a := fun v1593 k0_hw227 => k0_hw227

def k0_off265 (k0_t6 : Fin k0_t6_loop.trips) : Fin 2 → Nat :=
  let c0_1133 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1132 : BitVec 32 := 32#32
  let v1600 : BitVec 32 := Scalar.muli v1318 c32_i32_1132
  let c27_i32 : BitVec 32 := 27#32
  let v1601 : BitVec 32 := Scalar.addi v1600 c27_i32
  let v1602 : Index := Scalar.indexCast v1601
  ![0, v1602.toNat]
def k0_off266 (v1603 : BitVec 32) : Fin 3 → Nat :=
  let v1604 : Index := Scalar.indexCast v1603
  let c0_1134 : Index := 0#32
  let c0_1135 : Index := 0#32
  ![v1604.toNat, 0, 0]

def k0_chk228 (v1603 : BitVec 32) : Prop :=
  (∀ a, (k0_off266 v1603) a + S1x28x128.size a ≤ S2272x28x128.size a)
theorem k0_off266_inb : ∀ (v1603 : BitVec 32) (k0_hw228 : k0_chk228 v1603), ∀ a, (k0_off266 v1603) a + S1x28x128.size a ≤ S2272x28x128.size a := fun v1603 k0_hw228 => k0_hw228

def k0_off267 (k0_t6 : Fin k0_t6_loop.trips) : Fin 2 → Nat :=
  let c0_1139 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1138 : BitVec 32 := 32#32
  let v1610 : BitVec 32 := Scalar.muli v1318 c32_i32_1138
  let c28_i32 : BitVec 32 := 28#32
  let v1611 : BitVec 32 := Scalar.addi v1610 c28_i32
  let v1612 : Index := Scalar.indexCast v1611
  ![0, v1612.toNat]
def k0_off268 (v1613 : BitVec 32) : Fin 3 → Nat :=
  let v1614 : Index := Scalar.indexCast v1613
  let c0_1140 : Index := 0#32
  let c0_1141 : Index := 0#32
  ![v1614.toNat, 0, 0]

def k0_chk229 (v1613 : BitVec 32) : Prop :=
  (∀ a, (k0_off268 v1613) a + S1x28x128.size a ≤ S2272x28x128.size a)
theorem k0_off268_inb : ∀ (v1613 : BitVec 32) (k0_hw229 : k0_chk229 v1613), ∀ a, (k0_off268 v1613) a + S1x28x128.size a ≤ S2272x28x128.size a := fun v1613 k0_hw229 => k0_hw229

def k0_off269 (k0_t6 : Fin k0_t6_loop.trips) : Fin 2 → Nat :=
  let c0_1145 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1144 : BitVec 32 := 32#32
  let v1620 : BitVec 32 := Scalar.muli v1318 c32_i32_1144
  let c29_i32 : BitVec 32 := 29#32
  let v1621 : BitVec 32 := Scalar.addi v1620 c29_i32
  let v1622 : Index := Scalar.indexCast v1621
  ![0, v1622.toNat]
def k0_off270 (v1623 : BitVec 32) : Fin 3 → Nat :=
  let v1624 : Index := Scalar.indexCast v1623
  let c0_1146 : Index := 0#32
  let c0_1147 : Index := 0#32
  ![v1624.toNat, 0, 0]

def k0_chk230 (v1623 : BitVec 32) : Prop :=
  (∀ a, (k0_off270 v1623) a + S1x28x128.size a ≤ S2272x28x128.size a)
theorem k0_off270_inb : ∀ (v1623 : BitVec 32) (k0_hw230 : k0_chk230 v1623), ∀ a, (k0_off270 v1623) a + S1x28x128.size a ≤ S2272x28x128.size a := fun v1623 k0_hw230 => k0_hw230

def k0_off271 (k0_t6 : Fin k0_t6_loop.trips) : Fin 2 → Nat :=
  let c0_1151 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1150 : BitVec 32 := 32#32
  let v1630 : BitVec 32 := Scalar.muli v1318 c32_i32_1150
  let c30_i32 : BitVec 32 := 30#32
  let v1631 : BitVec 32 := Scalar.addi v1630 c30_i32
  let v1632 : Index := Scalar.indexCast v1631
  ![0, v1632.toNat]
def k0_off272 (v1633 : BitVec 32) : Fin 3 → Nat :=
  let v1634 : Index := Scalar.indexCast v1633
  let c0_1152 : Index := 0#32
  let c0_1153 : Index := 0#32
  ![v1634.toNat, 0, 0]

def k0_chk231 (v1633 : BitVec 32) : Prop :=
  (∀ a, (k0_off272 v1633) a + S1x28x128.size a ≤ S2272x28x128.size a)
theorem k0_off272_inb : ∀ (v1633 : BitVec 32) (k0_hw231 : k0_chk231 v1633), ∀ a, (k0_off272 v1633) a + S1x28x128.size a ≤ S2272x28x128.size a := fun v1633 k0_hw231 => k0_hw231

def k0_off273 (k0_t6 : Fin k0_t6_loop.trips) : Fin 2 → Nat :=
  let c0_1157 : Index := 0#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1156 : BitVec 32 := 32#32
  let v1640 : BitVec 32 := Scalar.muli v1318 c32_i32_1156
  let c31_i32 : BitVec 32 := 31#32
  let v1641 : BitVec 32 := Scalar.addi v1640 c31_i32
  let v1642 : Index := Scalar.indexCast v1641
  ![0, v1642.toNat]
def k0_off274 (v1643 : BitVec 32) : Fin 3 → Nat :=
  let v1644 : Index := Scalar.indexCast v1643
  let c0_1158 : Index := 0#32
  let c0_1159 : Index := 0#32
  ![v1644.toNat, 0, 0]

def k0_chk232 (v1643 : BitVec 32) : Prop :=
  (∀ a, (k0_off274 v1643) a + S1x28x128.size a ≤ S2272x28x128.size a)
theorem k0_off274_inb : ∀ (v1643 : BitVec 32) (k0_hw232 : k0_chk232 v1643), ∀ a, (k0_off274 v1643) a + S1x28x128.size a ≤ S2272x28x128.size a := fun v1643 k0_hw232 => k0_hw232

def k0_off275 (k0_t6 : Fin k0_t6_loop.trips) : Fin 2 → Nat :=
  let c1_1164 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1162 : BitVec 32 := 32#32
  let v1650 : BitVec 32 := Scalar.muli v1318 c32_i32_1162
  let c0_i32_1163 : BitVec 32 := 0#32
  let v1651 : BitVec 32 := Scalar.addi v1650 c0_i32_1163
  let v1652 : Index := Scalar.indexCast v1651
  ![1, v1652.toNat]
def k0_off276 (v1653 : BitVec 32) : Fin 3 → Nat :=
  let v1654 : Index := Scalar.indexCast v1653
  let c0_1165 : Index := 0#32
  let c0_1166 : Index := 0#32
  ![v1654.toNat, 0, 0]

def k0_chk233 (v1653 : BitVec 32) : Prop :=
  (∀ a, (k0_off276 v1653) a + S1x28x128.size a ≤ S2272x28x128.size a)
theorem k0_off276_inb : ∀ (v1653 : BitVec 32) (k0_hw233 : k0_chk233 v1653), ∀ a, (k0_off276 v1653) a + S1x28x128.size a ≤ S2272x28x128.size a := fun v1653 k0_hw233 => k0_hw233

def k0_off277 (k0_t6 : Fin k0_t6_loop.trips) : Fin 2 → Nat :=
  let c1_1171 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1169 : BitVec 32 := 32#32
  let v1660 : BitVec 32 := Scalar.muli v1318 c32_i32_1169
  let c1_i32_1170 : BitVec 32 := 1#32
  let v1661 : BitVec 32 := Scalar.addi v1660 c1_i32_1170
  let v1662 : Index := Scalar.indexCast v1661
  ![1, v1662.toNat]
def k0_off278 (v1663 : BitVec 32) : Fin 3 → Nat :=
  let v1664 : Index := Scalar.indexCast v1663
  let c0_1172 : Index := 0#32
  let c0_1173 : Index := 0#32
  ![v1664.toNat, 0, 0]

def k0_chk234 (v1663 : BitVec 32) : Prop :=
  (∀ a, (k0_off278 v1663) a + S1x28x128.size a ≤ S2272x28x128.size a)
theorem k0_off278_inb : ∀ (v1663 : BitVec 32) (k0_hw234 : k0_chk234 v1663), ∀ a, (k0_off278 v1663) a + S1x28x128.size a ≤ S2272x28x128.size a := fun v1663 k0_hw234 => k0_hw234

def k0_off279 (k0_t6 : Fin k0_t6_loop.trips) : Fin 2 → Nat :=
  let c1_1178 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1176 : BitVec 32 := 32#32
  let v1670 : BitVec 32 := Scalar.muli v1318 c32_i32_1176
  let c2_i32_1177 : BitVec 32 := 2#32
  let v1671 : BitVec 32 := Scalar.addi v1670 c2_i32_1177
  let v1672 : Index := Scalar.indexCast v1671
  ![1, v1672.toNat]
def k0_off280 (v1673 : BitVec 32) : Fin 3 → Nat :=
  let v1674 : Index := Scalar.indexCast v1673
  let c0_1179 : Index := 0#32
  let c0_1180 : Index := 0#32
  ![v1674.toNat, 0, 0]

def k0_chk235 (v1673 : BitVec 32) : Prop :=
  (∀ a, (k0_off280 v1673) a + S1x28x128.size a ≤ S2272x28x128.size a)
theorem k0_off280_inb : ∀ (v1673 : BitVec 32) (k0_hw235 : k0_chk235 v1673), ∀ a, (k0_off280 v1673) a + S1x28x128.size a ≤ S2272x28x128.size a := fun v1673 k0_hw235 => k0_hw235

def k0_off281 (k0_t6 : Fin k0_t6_loop.trips) : Fin 2 → Nat :=
  let c1_1185 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1183 : BitVec 32 := 32#32
  let v1680 : BitVec 32 := Scalar.muli v1318 c32_i32_1183
  let c3_i32_1184 : BitVec 32 := 3#32
  let v1681 : BitVec 32 := Scalar.addi v1680 c3_i32_1184
  let v1682 : Index := Scalar.indexCast v1681
  ![1, v1682.toNat]
def k0_off282 (v1683 : BitVec 32) : Fin 3 → Nat :=
  let v1684 : Index := Scalar.indexCast v1683
  let c0_1186 : Index := 0#32
  let c0_1187 : Index := 0#32
  ![v1684.toNat, 0, 0]

def k0_chk236 (v1683 : BitVec 32) : Prop :=
  (∀ a, (k0_off282 v1683) a + S1x28x128.size a ≤ S2272x28x128.size a)
theorem k0_off282_inb : ∀ (v1683 : BitVec 32) (k0_hw236 : k0_chk236 v1683), ∀ a, (k0_off282 v1683) a + S1x28x128.size a ≤ S2272x28x128.size a := fun v1683 k0_hw236 => k0_hw236

def k0_off283 (k0_t6 : Fin k0_t6_loop.trips) : Fin 2 → Nat :=
  let c1_1192 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1190 : BitVec 32 := 32#32
  let v1690 : BitVec 32 := Scalar.muli v1318 c32_i32_1190
  let c4_i32_1191 : BitVec 32 := 4#32
  let v1691 : BitVec 32 := Scalar.addi v1690 c4_i32_1191
  let v1692 : Index := Scalar.indexCast v1691
  ![1, v1692.toNat]
def k0_off284 (v1693 : BitVec 32) : Fin 3 → Nat :=
  let v1694 : Index := Scalar.indexCast v1693
  let c0_1193 : Index := 0#32
  let c0_1194 : Index := 0#32
  ![v1694.toNat, 0, 0]

def k0_chk237 (v1693 : BitVec 32) : Prop :=
  (∀ a, (k0_off284 v1693) a + S1x28x128.size a ≤ S2272x28x128.size a)
theorem k0_off284_inb : ∀ (v1693 : BitVec 32) (k0_hw237 : k0_chk237 v1693), ∀ a, (k0_off284 v1693) a + S1x28x128.size a ≤ S2272x28x128.size a := fun v1693 k0_hw237 => k0_hw237

def k0_off285 (k0_t6 : Fin k0_t6_loop.trips) : Fin 2 → Nat :=
  let c1_1199 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1197 : BitVec 32 := 32#32
  let v1700 : BitVec 32 := Scalar.muli v1318 c32_i32_1197
  let c5_i32_1198 : BitVec 32 := 5#32
  let v1701 : BitVec 32 := Scalar.addi v1700 c5_i32_1198
  let v1702 : Index := Scalar.indexCast v1701
  ![1, v1702.toNat]
def k0_off286 (v1703 : BitVec 32) : Fin 3 → Nat :=
  let v1704 : Index := Scalar.indexCast v1703
  let c0_1200 : Index := 0#32
  let c0_1201 : Index := 0#32
  ![v1704.toNat, 0, 0]

def k0_chk238 (v1703 : BitVec 32) : Prop :=
  (∀ a, (k0_off286 v1703) a + S1x28x128.size a ≤ S2272x28x128.size a)
theorem k0_off286_inb : ∀ (v1703 : BitVec 32) (k0_hw238 : k0_chk238 v1703), ∀ a, (k0_off286 v1703) a + S1x28x128.size a ≤ S2272x28x128.size a := fun v1703 k0_hw238 => k0_hw238

def k0_off287 (k0_t6 : Fin k0_t6_loop.trips) : Fin 2 → Nat :=
  let c1_1206 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1204 : BitVec 32 := 32#32
  let v1710 : BitVec 32 := Scalar.muli v1318 c32_i32_1204
  let c6_i32_1205 : BitVec 32 := 6#32
  let v1711 : BitVec 32 := Scalar.addi v1710 c6_i32_1205
  let v1712 : Index := Scalar.indexCast v1711
  ![1, v1712.toNat]
def k0_off288 (v1713 : BitVec 32) : Fin 3 → Nat :=
  let v1714 : Index := Scalar.indexCast v1713
  let c0_1207 : Index := 0#32
  let c0_1208 : Index := 0#32
  ![v1714.toNat, 0, 0]

def k0_chk239 (v1713 : BitVec 32) : Prop :=
  (∀ a, (k0_off288 v1713) a + S1x28x128.size a ≤ S2272x28x128.size a)
theorem k0_off288_inb : ∀ (v1713 : BitVec 32) (k0_hw239 : k0_chk239 v1713), ∀ a, (k0_off288 v1713) a + S1x28x128.size a ≤ S2272x28x128.size a := fun v1713 k0_hw239 => k0_hw239

def k0_off289 (k0_t6 : Fin k0_t6_loop.trips) : Fin 2 → Nat :=
  let c1_1213 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1211 : BitVec 32 := 32#32
  let v1720 : BitVec 32 := Scalar.muli v1318 c32_i32_1211
  let c7_i32_1212 : BitVec 32 := 7#32
  let v1721 : BitVec 32 := Scalar.addi v1720 c7_i32_1212
  let v1722 : Index := Scalar.indexCast v1721
  ![1, v1722.toNat]
def k0_off290 (v1723 : BitVec 32) : Fin 3 → Nat :=
  let v1724 : Index := Scalar.indexCast v1723
  let c0_1214 : Index := 0#32
  let c0_1215 : Index := 0#32
  ![v1724.toNat, 0, 0]

def k0_chk240 (v1723 : BitVec 32) : Prop :=
  (∀ a, (k0_off290 v1723) a + S1x28x128.size a ≤ S2272x28x128.size a)
theorem k0_off290_inb : ∀ (v1723 : BitVec 32) (k0_hw240 : k0_chk240 v1723), ∀ a, (k0_off290 v1723) a + S1x28x128.size a ≤ S2272x28x128.size a := fun v1723 k0_hw240 => k0_hw240

def k0_off291 (k0_t6 : Fin k0_t6_loop.trips) : Fin 2 → Nat :=
  let c1_1220 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1218 : BitVec 32 := 32#32
  let v1730 : BitVec 32 := Scalar.muli v1318 c32_i32_1218
  let c8_i32_1219 : BitVec 32 := 8#32
  let v1731 : BitVec 32 := Scalar.addi v1730 c8_i32_1219
  let v1732 : Index := Scalar.indexCast v1731
  ![1, v1732.toNat]
def k0_off292 (v1733 : BitVec 32) : Fin 3 → Nat :=
  let v1734 : Index := Scalar.indexCast v1733
  let c0_1221 : Index := 0#32
  let c0_1222 : Index := 0#32
  ![v1734.toNat, 0, 0]

def k0_chk241 (v1733 : BitVec 32) : Prop :=
  (∀ a, (k0_off292 v1733) a + S1x28x128.size a ≤ S2272x28x128.size a)
theorem k0_off292_inb : ∀ (v1733 : BitVec 32) (k0_hw241 : k0_chk241 v1733), ∀ a, (k0_off292 v1733) a + S1x28x128.size a ≤ S2272x28x128.size a := fun v1733 k0_hw241 => k0_hw241

def k0_off293 (k0_t6 : Fin k0_t6_loop.trips) : Fin 2 → Nat :=
  let c1_1227 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1225 : BitVec 32 := 32#32
  let v1740 : BitVec 32 := Scalar.muli v1318 c32_i32_1225
  let c9_i32_1226 : BitVec 32 := 9#32
  let v1741 : BitVec 32 := Scalar.addi v1740 c9_i32_1226
  let v1742 : Index := Scalar.indexCast v1741
  ![1, v1742.toNat]
def k0_off294 (v1743 : BitVec 32) : Fin 3 → Nat :=
  let v1744 : Index := Scalar.indexCast v1743
  let c0_1228 : Index := 0#32
  let c0_1229 : Index := 0#32
  ![v1744.toNat, 0, 0]

def k0_chk242 (v1743 : BitVec 32) : Prop :=
  (∀ a, (k0_off294 v1743) a + S1x28x128.size a ≤ S2272x28x128.size a)
theorem k0_off294_inb : ∀ (v1743 : BitVec 32) (k0_hw242 : k0_chk242 v1743), ∀ a, (k0_off294 v1743) a + S1x28x128.size a ≤ S2272x28x128.size a := fun v1743 k0_hw242 => k0_hw242

def k0_off295 (k0_t6 : Fin k0_t6_loop.trips) : Fin 2 → Nat :=
  let c1_1234 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1232 : BitVec 32 := 32#32
  let v1750 : BitVec 32 := Scalar.muli v1318 c32_i32_1232
  let c10_i32_1233 : BitVec 32 := 10#32
  let v1751 : BitVec 32 := Scalar.addi v1750 c10_i32_1233
  let v1752 : Index := Scalar.indexCast v1751
  ![1, v1752.toNat]
def k0_off296 (v1753 : BitVec 32) : Fin 3 → Nat :=
  let v1754 : Index := Scalar.indexCast v1753
  let c0_1235 : Index := 0#32
  let c0_1236 : Index := 0#32
  ![v1754.toNat, 0, 0]

def k0_chk243 (v1753 : BitVec 32) : Prop :=
  (∀ a, (k0_off296 v1753) a + S1x28x128.size a ≤ S2272x28x128.size a)
theorem k0_off296_inb : ∀ (v1753 : BitVec 32) (k0_hw243 : k0_chk243 v1753), ∀ a, (k0_off296 v1753) a + S1x28x128.size a ≤ S2272x28x128.size a := fun v1753 k0_hw243 => k0_hw243

def k0_off297 (k0_t6 : Fin k0_t6_loop.trips) : Fin 2 → Nat :=
  let c1_1241 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1239 : BitVec 32 := 32#32
  let v1760 : BitVec 32 := Scalar.muli v1318 c32_i32_1239
  let c11_i32_1240 : BitVec 32 := 11#32
  let v1761 : BitVec 32 := Scalar.addi v1760 c11_i32_1240
  let v1762 : Index := Scalar.indexCast v1761
  ![1, v1762.toNat]
def k0_off298 (v1763 : BitVec 32) : Fin 3 → Nat :=
  let v1764 : Index := Scalar.indexCast v1763
  let c0_1242 : Index := 0#32
  let c0_1243 : Index := 0#32
  ![v1764.toNat, 0, 0]

def k0_chk244 (v1763 : BitVec 32) : Prop :=
  (∀ a, (k0_off298 v1763) a + S1x28x128.size a ≤ S2272x28x128.size a)
theorem k0_off298_inb : ∀ (v1763 : BitVec 32) (k0_hw244 : k0_chk244 v1763), ∀ a, (k0_off298 v1763) a + S1x28x128.size a ≤ S2272x28x128.size a := fun v1763 k0_hw244 => k0_hw244

def k0_off299 (k0_t6 : Fin k0_t6_loop.trips) : Fin 2 → Nat :=
  let c1_1248 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1246 : BitVec 32 := 32#32
  let v1770 : BitVec 32 := Scalar.muli v1318 c32_i32_1246
  let c12_i32_1247 : BitVec 32 := 12#32
  let v1771 : BitVec 32 := Scalar.addi v1770 c12_i32_1247
  let v1772 : Index := Scalar.indexCast v1771
  ![1, v1772.toNat]
def k0_off300 (v1773 : BitVec 32) : Fin 3 → Nat :=
  let v1774 : Index := Scalar.indexCast v1773
  let c0_1249 : Index := 0#32
  let c0_1250 : Index := 0#32
  ![v1774.toNat, 0, 0]

def k0_chk245 (v1773 : BitVec 32) : Prop :=
  (∀ a, (k0_off300 v1773) a + S1x28x128.size a ≤ S2272x28x128.size a)
theorem k0_off300_inb : ∀ (v1773 : BitVec 32) (k0_hw245 : k0_chk245 v1773), ∀ a, (k0_off300 v1773) a + S1x28x128.size a ≤ S2272x28x128.size a := fun v1773 k0_hw245 => k0_hw245

def k0_off301 (k0_t6 : Fin k0_t6_loop.trips) : Fin 2 → Nat :=
  let c1_1255 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1253 : BitVec 32 := 32#32
  let v1780 : BitVec 32 := Scalar.muli v1318 c32_i32_1253
  let c13_i32_1254 : BitVec 32 := 13#32
  let v1781 : BitVec 32 := Scalar.addi v1780 c13_i32_1254
  let v1782 : Index := Scalar.indexCast v1781
  ![1, v1782.toNat]
def k0_off302 (v1783 : BitVec 32) : Fin 3 → Nat :=
  let v1784 : Index := Scalar.indexCast v1783
  let c0_1256 : Index := 0#32
  let c0_1257 : Index := 0#32
  ![v1784.toNat, 0, 0]

def k0_chk246 (v1783 : BitVec 32) : Prop :=
  (∀ a, (k0_off302 v1783) a + S1x28x128.size a ≤ S2272x28x128.size a)
theorem k0_off302_inb : ∀ (v1783 : BitVec 32) (k0_hw246 : k0_chk246 v1783), ∀ a, (k0_off302 v1783) a + S1x28x128.size a ≤ S2272x28x128.size a := fun v1783 k0_hw246 => k0_hw246

def k0_off303 (k0_t6 : Fin k0_t6_loop.trips) : Fin 2 → Nat :=
  let c1_1262 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1260 : BitVec 32 := 32#32
  let v1790 : BitVec 32 := Scalar.muli v1318 c32_i32_1260
  let c14_i32_1261 : BitVec 32 := 14#32
  let v1791 : BitVec 32 := Scalar.addi v1790 c14_i32_1261
  let v1792 : Index := Scalar.indexCast v1791
  ![1, v1792.toNat]
def k0_off304 (v1793 : BitVec 32) : Fin 3 → Nat :=
  let v1794 : Index := Scalar.indexCast v1793
  let c0_1263 : Index := 0#32
  let c0_1264 : Index := 0#32
  ![v1794.toNat, 0, 0]

def k0_chk247 (v1793 : BitVec 32) : Prop :=
  (∀ a, (k0_off304 v1793) a + S1x28x128.size a ≤ S2272x28x128.size a)
theorem k0_off304_inb : ∀ (v1793 : BitVec 32) (k0_hw247 : k0_chk247 v1793), ∀ a, (k0_off304 v1793) a + S1x28x128.size a ≤ S2272x28x128.size a := fun v1793 k0_hw247 => k0_hw247

def k0_off305 (k0_t6 : Fin k0_t6_loop.trips) : Fin 2 → Nat :=
  let c1_1269 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1267 : BitVec 32 := 32#32
  let v1800 : BitVec 32 := Scalar.muli v1318 c32_i32_1267
  let c15_i32_1268 : BitVec 32 := 15#32
  let v1801 : BitVec 32 := Scalar.addi v1800 c15_i32_1268
  let v1802 : Index := Scalar.indexCast v1801
  ![1, v1802.toNat]
def k0_off306 (v1803 : BitVec 32) : Fin 3 → Nat :=
  let v1804 : Index := Scalar.indexCast v1803
  let c0_1270 : Index := 0#32
  let c0_1271 : Index := 0#32
  ![v1804.toNat, 0, 0]

def k0_chk248 (v1803 : BitVec 32) : Prop :=
  (∀ a, (k0_off306 v1803) a + S1x28x128.size a ≤ S2272x28x128.size a)
theorem k0_off306_inb : ∀ (v1803 : BitVec 32) (k0_hw248 : k0_chk248 v1803), ∀ a, (k0_off306 v1803) a + S1x28x128.size a ≤ S2272x28x128.size a := fun v1803 k0_hw248 => k0_hw248

def k0_off307 (k0_t6 : Fin k0_t6_loop.trips) : Fin 2 → Nat :=
  let c1_1276 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1274 : BitVec 32 := 32#32
  let v1810 : BitVec 32 := Scalar.muli v1318 c32_i32_1274
  let c16_i32_1275 : BitVec 32 := 16#32
  let v1811 : BitVec 32 := Scalar.addi v1810 c16_i32_1275
  let v1812 : Index := Scalar.indexCast v1811
  ![1, v1812.toNat]
def k0_off308 (v1813 : BitVec 32) : Fin 3 → Nat :=
  let v1814 : Index := Scalar.indexCast v1813
  let c0_1277 : Index := 0#32
  let c0_1278 : Index := 0#32
  ![v1814.toNat, 0, 0]

def k0_chk249 (v1813 : BitVec 32) : Prop :=
  (∀ a, (k0_off308 v1813) a + S1x28x128.size a ≤ S2272x28x128.size a)
theorem k0_off308_inb : ∀ (v1813 : BitVec 32) (k0_hw249 : k0_chk249 v1813), ∀ a, (k0_off308 v1813) a + S1x28x128.size a ≤ S2272x28x128.size a := fun v1813 k0_hw249 => k0_hw249

def k0_off309 (k0_t6 : Fin k0_t6_loop.trips) : Fin 2 → Nat :=
  let c1_1283 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1281 : BitVec 32 := 32#32
  let v1820 : BitVec 32 := Scalar.muli v1318 c32_i32_1281
  let c17_i32_1282 : BitVec 32 := 17#32
  let v1821 : BitVec 32 := Scalar.addi v1820 c17_i32_1282
  let v1822 : Index := Scalar.indexCast v1821
  ![1, v1822.toNat]
def k0_off310 (v1823 : BitVec 32) : Fin 3 → Nat :=
  let v1824 : Index := Scalar.indexCast v1823
  let c0_1284 : Index := 0#32
  let c0_1285 : Index := 0#32
  ![v1824.toNat, 0, 0]

def k0_chk250 (v1823 : BitVec 32) : Prop :=
  (∀ a, (k0_off310 v1823) a + S1x28x128.size a ≤ S2272x28x128.size a)
theorem k0_off310_inb : ∀ (v1823 : BitVec 32) (k0_hw250 : k0_chk250 v1823), ∀ a, (k0_off310 v1823) a + S1x28x128.size a ≤ S2272x28x128.size a := fun v1823 k0_hw250 => k0_hw250

def k0_off311 (k0_t6 : Fin k0_t6_loop.trips) : Fin 2 → Nat :=
  let c1_1290 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1288 : BitVec 32 := 32#32
  let v1830 : BitVec 32 := Scalar.muli v1318 c32_i32_1288
  let c18_i32_1289 : BitVec 32 := 18#32
  let v1831 : BitVec 32 := Scalar.addi v1830 c18_i32_1289
  let v1832 : Index := Scalar.indexCast v1831
  ![1, v1832.toNat]
def k0_off312 (v1833 : BitVec 32) : Fin 3 → Nat :=
  let v1834 : Index := Scalar.indexCast v1833
  let c0_1291 : Index := 0#32
  let c0_1292 : Index := 0#32
  ![v1834.toNat, 0, 0]

def k0_chk251 (v1833 : BitVec 32) : Prop :=
  (∀ a, (k0_off312 v1833) a + S1x28x128.size a ≤ S2272x28x128.size a)
theorem k0_off312_inb : ∀ (v1833 : BitVec 32) (k0_hw251 : k0_chk251 v1833), ∀ a, (k0_off312 v1833) a + S1x28x128.size a ≤ S2272x28x128.size a := fun v1833 k0_hw251 => k0_hw251

def k0_off313 (k0_t6 : Fin k0_t6_loop.trips) : Fin 2 → Nat :=
  let c1_1297 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1295 : BitVec 32 := 32#32
  let v1840 : BitVec 32 := Scalar.muli v1318 c32_i32_1295
  let c19_i32_1296 : BitVec 32 := 19#32
  let v1841 : BitVec 32 := Scalar.addi v1840 c19_i32_1296
  let v1842 : Index := Scalar.indexCast v1841
  ![1, v1842.toNat]
def k0_off314 (v1843 : BitVec 32) : Fin 3 → Nat :=
  let v1844 : Index := Scalar.indexCast v1843
  let c0_1298 : Index := 0#32
  let c0_1299 : Index := 0#32
  ![v1844.toNat, 0, 0]

def k0_chk252 (v1843 : BitVec 32) : Prop :=
  (∀ a, (k0_off314 v1843) a + S1x28x128.size a ≤ S2272x28x128.size a)
theorem k0_off314_inb : ∀ (v1843 : BitVec 32) (k0_hw252 : k0_chk252 v1843), ∀ a, (k0_off314 v1843) a + S1x28x128.size a ≤ S2272x28x128.size a := fun v1843 k0_hw252 => k0_hw252

def k0_off315 (k0_t6 : Fin k0_t6_loop.trips) : Fin 2 → Nat :=
  let c1_1304 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1302 : BitVec 32 := 32#32
  let v1850 : BitVec 32 := Scalar.muli v1318 c32_i32_1302
  let c20_i32_1303 : BitVec 32 := 20#32
  let v1851 : BitVec 32 := Scalar.addi v1850 c20_i32_1303
  let v1852 : Index := Scalar.indexCast v1851
  ![1, v1852.toNat]
def k0_off316 (v1853 : BitVec 32) : Fin 3 → Nat :=
  let v1854 : Index := Scalar.indexCast v1853
  let c0_1305 : Index := 0#32
  let c0_1306 : Index := 0#32
  ![v1854.toNat, 0, 0]

def k0_chk253 (v1853 : BitVec 32) : Prop :=
  (∀ a, (k0_off316 v1853) a + S1x28x128.size a ≤ S2272x28x128.size a)
theorem k0_off316_inb : ∀ (v1853 : BitVec 32) (k0_hw253 : k0_chk253 v1853), ∀ a, (k0_off316 v1853) a + S1x28x128.size a ≤ S2272x28x128.size a := fun v1853 k0_hw253 => k0_hw253

def k0_off317 (k0_t6 : Fin k0_t6_loop.trips) : Fin 2 → Nat :=
  let c1_1311 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1309 : BitVec 32 := 32#32
  let v1860 : BitVec 32 := Scalar.muli v1318 c32_i32_1309
  let c21_i32_1310 : BitVec 32 := 21#32
  let v1861 : BitVec 32 := Scalar.addi v1860 c21_i32_1310
  let v1862 : Index := Scalar.indexCast v1861
  ![1, v1862.toNat]
def k0_off318 (v1863 : BitVec 32) : Fin 3 → Nat :=
  let v1864 : Index := Scalar.indexCast v1863
  let c0_1312 : Index := 0#32
  let c0_1313 : Index := 0#32
  ![v1864.toNat, 0, 0]

def k0_chk254 (v1863 : BitVec 32) : Prop :=
  (∀ a, (k0_off318 v1863) a + S1x28x128.size a ≤ S2272x28x128.size a)
theorem k0_off318_inb : ∀ (v1863 : BitVec 32) (k0_hw254 : k0_chk254 v1863), ∀ a, (k0_off318 v1863) a + S1x28x128.size a ≤ S2272x28x128.size a := fun v1863 k0_hw254 => k0_hw254

def k0_off319 (k0_t6 : Fin k0_t6_loop.trips) : Fin 2 → Nat :=
  let c1_1318 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1316 : BitVec 32 := 32#32
  let v1870 : BitVec 32 := Scalar.muli v1318 c32_i32_1316
  let c22_i32_1317 : BitVec 32 := 22#32
  let v1871 : BitVec 32 := Scalar.addi v1870 c22_i32_1317
  let v1872 : Index := Scalar.indexCast v1871
  ![1, v1872.toNat]
def k0_off320 (v1873 : BitVec 32) : Fin 3 → Nat :=
  let v1874 : Index := Scalar.indexCast v1873
  let c0_1319 : Index := 0#32
  let c0_1320 : Index := 0#32
  ![v1874.toNat, 0, 0]

def k0_chk255 (v1873 : BitVec 32) : Prop :=
  (∀ a, (k0_off320 v1873) a + S1x28x128.size a ≤ S2272x28x128.size a)
theorem k0_off320_inb : ∀ (v1873 : BitVec 32) (k0_hw255 : k0_chk255 v1873), ∀ a, (k0_off320 v1873) a + S1x28x128.size a ≤ S2272x28x128.size a := fun v1873 k0_hw255 => k0_hw255

def k0_off321 (k0_t6 : Fin k0_t6_loop.trips) : Fin 2 → Nat :=
  let c1_1325 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1323 : BitVec 32 := 32#32
  let v1880 : BitVec 32 := Scalar.muli v1318 c32_i32_1323
  let c23_i32_1324 : BitVec 32 := 23#32
  let v1881 : BitVec 32 := Scalar.addi v1880 c23_i32_1324
  let v1882 : Index := Scalar.indexCast v1881
  ![1, v1882.toNat]
def k0_off322 (v1883 : BitVec 32) : Fin 3 → Nat :=
  let v1884 : Index := Scalar.indexCast v1883
  let c0_1326 : Index := 0#32
  let c0_1327 : Index := 0#32
  ![v1884.toNat, 0, 0]

def k0_chk256 (v1883 : BitVec 32) : Prop :=
  (∀ a, (k0_off322 v1883) a + S1x28x128.size a ≤ S2272x28x128.size a)
theorem k0_off322_inb : ∀ (v1883 : BitVec 32) (k0_hw256 : k0_chk256 v1883), ∀ a, (k0_off322 v1883) a + S1x28x128.size a ≤ S2272x28x128.size a := fun v1883 k0_hw256 => k0_hw256

def k0_off323 (k0_t6 : Fin k0_t6_loop.trips) : Fin 2 → Nat :=
  let c1_1332 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1330 : BitVec 32 := 32#32
  let v1890 : BitVec 32 := Scalar.muli v1318 c32_i32_1330
  let c24_i32_1331 : BitVec 32 := 24#32
  let v1891 : BitVec 32 := Scalar.addi v1890 c24_i32_1331
  let v1892 : Index := Scalar.indexCast v1891
  ![1, v1892.toNat]
def k0_off324 (v1893 : BitVec 32) : Fin 3 → Nat :=
  let v1894 : Index := Scalar.indexCast v1893
  let c0_1333 : Index := 0#32
  let c0_1334 : Index := 0#32
  ![v1894.toNat, 0, 0]

def k0_chk257 (v1893 : BitVec 32) : Prop :=
  (∀ a, (k0_off324 v1893) a + S1x28x128.size a ≤ S2272x28x128.size a)
theorem k0_off324_inb : ∀ (v1893 : BitVec 32) (k0_hw257 : k0_chk257 v1893), ∀ a, (k0_off324 v1893) a + S1x28x128.size a ≤ S2272x28x128.size a := fun v1893 k0_hw257 => k0_hw257

def k0_off325 (k0_t6 : Fin k0_t6_loop.trips) : Fin 2 → Nat :=
  let c1_1339 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1337 : BitVec 32 := 32#32
  let v1900 : BitVec 32 := Scalar.muli v1318 c32_i32_1337
  let c25_i32_1338 : BitVec 32 := 25#32
  let v1901 : BitVec 32 := Scalar.addi v1900 c25_i32_1338
  let v1902 : Index := Scalar.indexCast v1901
  ![1, v1902.toNat]
def k0_off326 (v1903 : BitVec 32) : Fin 3 → Nat :=
  let v1904 : Index := Scalar.indexCast v1903
  let c0_1340 : Index := 0#32
  let c0_1341 : Index := 0#32
  ![v1904.toNat, 0, 0]

def k0_chk258 (v1903 : BitVec 32) : Prop :=
  (∀ a, (k0_off326 v1903) a + S1x28x128.size a ≤ S2272x28x128.size a)
theorem k0_off326_inb : ∀ (v1903 : BitVec 32) (k0_hw258 : k0_chk258 v1903), ∀ a, (k0_off326 v1903) a + S1x28x128.size a ≤ S2272x28x128.size a := fun v1903 k0_hw258 => k0_hw258

def k0_off327 (k0_t6 : Fin k0_t6_loop.trips) : Fin 2 → Nat :=
  let c1_1346 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1344 : BitVec 32 := 32#32
  let v1910 : BitVec 32 := Scalar.muli v1318 c32_i32_1344
  let c26_i32_1345 : BitVec 32 := 26#32
  let v1911 : BitVec 32 := Scalar.addi v1910 c26_i32_1345
  let v1912 : Index := Scalar.indexCast v1911
  ![1, v1912.toNat]
def k0_off328 (v1913 : BitVec 32) : Fin 3 → Nat :=
  let v1914 : Index := Scalar.indexCast v1913
  let c0_1347 : Index := 0#32
  let c0_1348 : Index := 0#32
  ![v1914.toNat, 0, 0]

def k0_chk259 (v1913 : BitVec 32) : Prop :=
  (∀ a, (k0_off328 v1913) a + S1x28x128.size a ≤ S2272x28x128.size a)
theorem k0_off328_inb : ∀ (v1913 : BitVec 32) (k0_hw259 : k0_chk259 v1913), ∀ a, (k0_off328 v1913) a + S1x28x128.size a ≤ S2272x28x128.size a := fun v1913 k0_hw259 => k0_hw259

def k0_off329 (k0_t6 : Fin k0_t6_loop.trips) : Fin 2 → Nat :=
  let c1_1353 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1351 : BitVec 32 := 32#32
  let v1920 : BitVec 32 := Scalar.muli v1318 c32_i32_1351
  let c27_i32_1352 : BitVec 32 := 27#32
  let v1921 : BitVec 32 := Scalar.addi v1920 c27_i32_1352
  let v1922 : Index := Scalar.indexCast v1921
  ![1, v1922.toNat]
def k0_off330 (v1923 : BitVec 32) : Fin 3 → Nat :=
  let v1924 : Index := Scalar.indexCast v1923
  let c0_1354 : Index := 0#32
  let c0_1355 : Index := 0#32
  ![v1924.toNat, 0, 0]

def k0_chk260 (v1923 : BitVec 32) : Prop :=
  (∀ a, (k0_off330 v1923) a + S1x28x128.size a ≤ S2272x28x128.size a)
theorem k0_off330_inb : ∀ (v1923 : BitVec 32) (k0_hw260 : k0_chk260 v1923), ∀ a, (k0_off330 v1923) a + S1x28x128.size a ≤ S2272x28x128.size a := fun v1923 k0_hw260 => k0_hw260

def k0_off331 (k0_t6 : Fin k0_t6_loop.trips) : Fin 2 → Nat :=
  let c1_1360 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1358 : BitVec 32 := 32#32
  let v1930 : BitVec 32 := Scalar.muli v1318 c32_i32_1358
  let c28_i32_1359 : BitVec 32 := 28#32
  let v1931 : BitVec 32 := Scalar.addi v1930 c28_i32_1359
  let v1932 : Index := Scalar.indexCast v1931
  ![1, v1932.toNat]
def k0_off332 (v1933 : BitVec 32) : Fin 3 → Nat :=
  let v1934 : Index := Scalar.indexCast v1933
  let c0_1361 : Index := 0#32
  let c0_1362 : Index := 0#32
  ![v1934.toNat, 0, 0]

def k0_chk261 (v1933 : BitVec 32) : Prop :=
  (∀ a, (k0_off332 v1933) a + S1x28x128.size a ≤ S2272x28x128.size a)
theorem k0_off332_inb : ∀ (v1933 : BitVec 32) (k0_hw261 : k0_chk261 v1933), ∀ a, (k0_off332 v1933) a + S1x28x128.size a ≤ S2272x28x128.size a := fun v1933 k0_hw261 => k0_hw261

def k0_off333 (k0_t6 : Fin k0_t6_loop.trips) : Fin 2 → Nat :=
  let c1_1367 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1365 : BitVec 32 := 32#32
  let v1940 : BitVec 32 := Scalar.muli v1318 c32_i32_1365
  let c29_i32_1366 : BitVec 32 := 29#32
  let v1941 : BitVec 32 := Scalar.addi v1940 c29_i32_1366
  let v1942 : Index := Scalar.indexCast v1941
  ![1, v1942.toNat]
def k0_off334 (v1943 : BitVec 32) : Fin 3 → Nat :=
  let v1944 : Index := Scalar.indexCast v1943
  let c0_1368 : Index := 0#32
  let c0_1369 : Index := 0#32
  ![v1944.toNat, 0, 0]

def k0_chk262 (v1943 : BitVec 32) : Prop :=
  (∀ a, (k0_off334 v1943) a + S1x28x128.size a ≤ S2272x28x128.size a)
theorem k0_off334_inb : ∀ (v1943 : BitVec 32) (k0_hw262 : k0_chk262 v1943), ∀ a, (k0_off334 v1943) a + S1x28x128.size a ≤ S2272x28x128.size a := fun v1943 k0_hw262 => k0_hw262

def k0_off335 (k0_t6 : Fin k0_t6_loop.trips) : Fin 2 → Nat :=
  let c1_1374 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1372 : BitVec 32 := 32#32
  let v1950 : BitVec 32 := Scalar.muli v1318 c32_i32_1372
  let c30_i32_1373 : BitVec 32 := 30#32
  let v1951 : BitVec 32 := Scalar.addi v1950 c30_i32_1373
  let v1952 : Index := Scalar.indexCast v1951
  ![1, v1952.toNat]
def k0_off336 (v1953 : BitVec 32) : Fin 3 → Nat :=
  let v1954 : Index := Scalar.indexCast v1953
  let c0_1375 : Index := 0#32
  let c0_1376 : Index := 0#32
  ![v1954.toNat, 0, 0]

def k0_chk263 (v1953 : BitVec 32) : Prop :=
  (∀ a, (k0_off336 v1953) a + S1x28x128.size a ≤ S2272x28x128.size a)
theorem k0_off336_inb : ∀ (v1953 : BitVec 32) (k0_hw263 : k0_chk263 v1953), ∀ a, (k0_off336 v1953) a + S1x28x128.size a ≤ S2272x28x128.size a := fun v1953 k0_hw263 => k0_hw263

def k0_off337 (k0_t6 : Fin k0_t6_loop.trips) : Fin 2 → Nat :=
  let c1_1381 : Index := 1#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1379 : BitVec 32 := 32#32
  let v1960 : BitVec 32 := Scalar.muli v1318 c32_i32_1379
  let c31_i32_1380 : BitVec 32 := 31#32
  let v1961 : BitVec 32 := Scalar.addi v1960 c31_i32_1380
  let v1962 : Index := Scalar.indexCast v1961
  ![1, v1962.toNat]
def k0_off338 (v1963 : BitVec 32) : Fin 3 → Nat :=
  let v1964 : Index := Scalar.indexCast v1963
  let c0_1382 : Index := 0#32
  let c0_1383 : Index := 0#32
  ![v1964.toNat, 0, 0]

def k0_chk264 (v1963 : BitVec 32) : Prop :=
  (∀ a, (k0_off338 v1963) a + S1x28x128.size a ≤ S2272x28x128.size a)
theorem k0_off338_inb : ∀ (v1963 : BitVec 32) (k0_hw264 : k0_chk264 v1963), ∀ a, (k0_off338 v1963) a + S1x28x128.size a ≤ S2272x28x128.size a := fun v1963 k0_hw264 => k0_hw264

def k0_mult11 (k0_t6 : Fin k0_t6_loop.trips) : BitVec 32 :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1386 : BitVec 32 := 32#32
  let v1970 : BitVec 32 := Scalar.muli v1318 c32_i32_1386
  v1970
def k0_off339 (k0_t6 : Fin k0_t6_loop.trips) : Fin 2 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1386 : BitVec 32 := 32#32
  let v1970 : BitVec 32 := Scalar.muli v1318 c32_i32_1386
  let v1971 : BitVec 32 := v1970
  let v1972 : Index := Scalar.indexCast v1971
  let c0_1387 : Index := 0#32
  ![v1972.toNat, 0]
def k0_off340 (k0_t6 : Fin k0_t6_loop.trips) : Fin 2 → Nat :=
  let c4_1390 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1388 : BitVec 32 := 32#32
  let v1976 : BitVec 32 := Scalar.muli v1318 c32_i32_1388
  let c0_i32_1389 : BitVec 32 := 0#32
  let v1977 : BitVec 32 := Scalar.addi v1976 c0_i32_1389
  let v1978 : Index := Scalar.indexCast v1977
  ![4, v1978.toNat]
def k0_off341 (v1979 : BitVec 32) : Fin 2 → Nat :=
  let v1980 : Index := Scalar.indexCast v1979
  let c0_1391 : Index := 0#32
  ![v1980.toNat, 0]

def k0_chk265 (v1979 : BitVec 32) : Prop :=
  (∀ a, (k0_off341 v1979) a + S1x128.size a ≤ S9088x128.size a)
theorem k0_off341_inb : ∀ (v1979 : BitVec 32) (k0_hw265 : k0_chk265 v1979), ∀ a, (k0_off341 v1979) a + S1x128.size a ≤ S9088x128.size a := fun v1979 k0_hw265 => k0_hw265

def k0_off342 (k0_t6 : Fin k0_t6_loop.trips) : Fin 2 → Nat :=
  let c4_1396 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1394 : BitVec 32 := 32#32
  let v1985 : BitVec 32 := Scalar.muli v1318 c32_i32_1394
  let c1_i32_1395 : BitVec 32 := 1#32
  let v1986 : BitVec 32 := Scalar.addi v1985 c1_i32_1395
  let v1987 : Index := Scalar.indexCast v1986
  ![4, v1987.toNat]
def k0_off343 (v1988 : BitVec 32) : Fin 2 → Nat :=
  let v1989 : Index := Scalar.indexCast v1988
  let c0_1397 : Index := 0#32
  ![v1989.toNat, 0]

def k0_chk266 (v1988 : BitVec 32) : Prop :=
  (∀ a, (k0_off343 v1988) a + S1x128.size a ≤ S9088x128.size a)
theorem k0_off343_inb : ∀ (v1988 : BitVec 32) (k0_hw266 : k0_chk266 v1988), ∀ a, (k0_off343 v1988) a + S1x128.size a ≤ S9088x128.size a := fun v1988 k0_hw266 => k0_hw266

def k0_off344 (k0_t6 : Fin k0_t6_loop.trips) : Fin 2 → Nat :=
  let c4_1402 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1400 : BitVec 32 := 32#32
  let v1994 : BitVec 32 := Scalar.muli v1318 c32_i32_1400
  let c2_i32_1401 : BitVec 32 := 2#32
  let v1995 : BitVec 32 := Scalar.addi v1994 c2_i32_1401
  let v1996 : Index := Scalar.indexCast v1995
  ![4, v1996.toNat]
def k0_off345 (v1997 : BitVec 32) : Fin 2 → Nat :=
  let v1998 : Index := Scalar.indexCast v1997
  let c0_1403 : Index := 0#32
  ![v1998.toNat, 0]

def k0_chk267 (v1997 : BitVec 32) : Prop :=
  (∀ a, (k0_off345 v1997) a + S1x128.size a ≤ S9088x128.size a)
theorem k0_off345_inb : ∀ (v1997 : BitVec 32) (k0_hw267 : k0_chk267 v1997), ∀ a, (k0_off345 v1997) a + S1x128.size a ≤ S9088x128.size a := fun v1997 k0_hw267 => k0_hw267

def k0_off346 (k0_t6 : Fin k0_t6_loop.trips) : Fin 2 → Nat :=
  let c4_1408 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1406 : BitVec 32 := 32#32
  let v2003 : BitVec 32 := Scalar.muli v1318 c32_i32_1406
  let c3_i32_1407 : BitVec 32 := 3#32
  let v2004 : BitVec 32 := Scalar.addi v2003 c3_i32_1407
  let v2005 : Index := Scalar.indexCast v2004
  ![4, v2005.toNat]
def k0_off347 (v2006 : BitVec 32) : Fin 2 → Nat :=
  let v2007 : Index := Scalar.indexCast v2006
  let c0_1409 : Index := 0#32
  ![v2007.toNat, 0]

def k0_chk268 (v2006 : BitVec 32) : Prop :=
  (∀ a, (k0_off347 v2006) a + S1x128.size a ≤ S9088x128.size a)
theorem k0_off347_inb : ∀ (v2006 : BitVec 32) (k0_hw268 : k0_chk268 v2006), ∀ a, (k0_off347 v2006) a + S1x128.size a ≤ S9088x128.size a := fun v2006 k0_hw268 => k0_hw268

def k0_off348 (k0_t6 : Fin k0_t6_loop.trips) : Fin 2 → Nat :=
  let c4_1414 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1412 : BitVec 32 := 32#32
  let v2012 : BitVec 32 := Scalar.muli v1318 c32_i32_1412
  let c4_i32_1413 : BitVec 32 := 4#32
  let v2013 : BitVec 32 := Scalar.addi v2012 c4_i32_1413
  let v2014 : Index := Scalar.indexCast v2013
  ![4, v2014.toNat]
def k0_off349 (v2015 : BitVec 32) : Fin 2 → Nat :=
  let v2016 : Index := Scalar.indexCast v2015
  let c0_1415 : Index := 0#32
  ![v2016.toNat, 0]

def k0_chk269 (v2015 : BitVec 32) : Prop :=
  (∀ a, (k0_off349 v2015) a + S1x128.size a ≤ S9088x128.size a)
theorem k0_off349_inb : ∀ (v2015 : BitVec 32) (k0_hw269 : k0_chk269 v2015), ∀ a, (k0_off349 v2015) a + S1x128.size a ≤ S9088x128.size a := fun v2015 k0_hw269 => k0_hw269

def k0_off350 (k0_t6 : Fin k0_t6_loop.trips) : Fin 2 → Nat :=
  let c4_1420 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1418 : BitVec 32 := 32#32
  let v2021 : BitVec 32 := Scalar.muli v1318 c32_i32_1418
  let c5_i32_1419 : BitVec 32 := 5#32
  let v2022 : BitVec 32 := Scalar.addi v2021 c5_i32_1419
  let v2023 : Index := Scalar.indexCast v2022
  ![4, v2023.toNat]
def k0_off351 (v2024 : BitVec 32) : Fin 2 → Nat :=
  let v2025 : Index := Scalar.indexCast v2024
  let c0_1421 : Index := 0#32
  ![v2025.toNat, 0]

def k0_chk270 (v2024 : BitVec 32) : Prop :=
  (∀ a, (k0_off351 v2024) a + S1x128.size a ≤ S9088x128.size a)
theorem k0_off351_inb : ∀ (v2024 : BitVec 32) (k0_hw270 : k0_chk270 v2024), ∀ a, (k0_off351 v2024) a + S1x128.size a ≤ S9088x128.size a := fun v2024 k0_hw270 => k0_hw270

def k0_off352 (k0_t6 : Fin k0_t6_loop.trips) : Fin 2 → Nat :=
  let c4_1426 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1424 : BitVec 32 := 32#32
  let v2030 : BitVec 32 := Scalar.muli v1318 c32_i32_1424
  let c6_i32_1425 : BitVec 32 := 6#32
  let v2031 : BitVec 32 := Scalar.addi v2030 c6_i32_1425
  let v2032 : Index := Scalar.indexCast v2031
  ![4, v2032.toNat]
def k0_off353 (v2033 : BitVec 32) : Fin 2 → Nat :=
  let v2034 : Index := Scalar.indexCast v2033
  let c0_1427 : Index := 0#32
  ![v2034.toNat, 0]

def k0_chk271 (v2033 : BitVec 32) : Prop :=
  (∀ a, (k0_off353 v2033) a + S1x128.size a ≤ S9088x128.size a)
theorem k0_off353_inb : ∀ (v2033 : BitVec 32) (k0_hw271 : k0_chk271 v2033), ∀ a, (k0_off353 v2033) a + S1x128.size a ≤ S9088x128.size a := fun v2033 k0_hw271 => k0_hw271

def k0_off354 (k0_t6 : Fin k0_t6_loop.trips) : Fin 2 → Nat :=
  let c4_1432 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1430 : BitVec 32 := 32#32
  let v2039 : BitVec 32 := Scalar.muli v1318 c32_i32_1430
  let c7_i32_1431 : BitVec 32 := 7#32
  let v2040 : BitVec 32 := Scalar.addi v2039 c7_i32_1431
  let v2041 : Index := Scalar.indexCast v2040
  ![4, v2041.toNat]
def k0_off355 (v2042 : BitVec 32) : Fin 2 → Nat :=
  let v2043 : Index := Scalar.indexCast v2042
  let c0_1433 : Index := 0#32
  ![v2043.toNat, 0]

def k0_chk272 (v2042 : BitVec 32) : Prop :=
  (∀ a, (k0_off355 v2042) a + S1x128.size a ≤ S9088x128.size a)
theorem k0_off355_inb : ∀ (v2042 : BitVec 32) (k0_hw272 : k0_chk272 v2042), ∀ a, (k0_off355 v2042) a + S1x128.size a ≤ S9088x128.size a := fun v2042 k0_hw272 => k0_hw272

def k0_off356 (k0_t6 : Fin k0_t6_loop.trips) : Fin 2 → Nat :=
  let c4_1438 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1436 : BitVec 32 := 32#32
  let v2048 : BitVec 32 := Scalar.muli v1318 c32_i32_1436
  let c8_i32_1437 : BitVec 32 := 8#32
  let v2049 : BitVec 32 := Scalar.addi v2048 c8_i32_1437
  let v2050 : Index := Scalar.indexCast v2049
  ![4, v2050.toNat]
def k0_off357 (v2051 : BitVec 32) : Fin 2 → Nat :=
  let v2052 : Index := Scalar.indexCast v2051
  let c0_1439 : Index := 0#32
  ![v2052.toNat, 0]

def k0_chk273 (v2051 : BitVec 32) : Prop :=
  (∀ a, (k0_off357 v2051) a + S1x128.size a ≤ S9088x128.size a)
theorem k0_off357_inb : ∀ (v2051 : BitVec 32) (k0_hw273 : k0_chk273 v2051), ∀ a, (k0_off357 v2051) a + S1x128.size a ≤ S9088x128.size a := fun v2051 k0_hw273 => k0_hw273

def k0_off358 (k0_t6 : Fin k0_t6_loop.trips) : Fin 2 → Nat :=
  let c4_1444 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1442 : BitVec 32 := 32#32
  let v2057 : BitVec 32 := Scalar.muli v1318 c32_i32_1442
  let c9_i32_1443 : BitVec 32 := 9#32
  let v2058 : BitVec 32 := Scalar.addi v2057 c9_i32_1443
  let v2059 : Index := Scalar.indexCast v2058
  ![4, v2059.toNat]
def k0_off359 (v2060 : BitVec 32) : Fin 2 → Nat :=
  let v2061 : Index := Scalar.indexCast v2060
  let c0_1445 : Index := 0#32
  ![v2061.toNat, 0]

def k0_chk274 (v2060 : BitVec 32) : Prop :=
  (∀ a, (k0_off359 v2060) a + S1x128.size a ≤ S9088x128.size a)
theorem k0_off359_inb : ∀ (v2060 : BitVec 32) (k0_hw274 : k0_chk274 v2060), ∀ a, (k0_off359 v2060) a + S1x128.size a ≤ S9088x128.size a := fun v2060 k0_hw274 => k0_hw274

def k0_off360 (k0_t6 : Fin k0_t6_loop.trips) : Fin 2 → Nat :=
  let c4_1450 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1448 : BitVec 32 := 32#32
  let v2066 : BitVec 32 := Scalar.muli v1318 c32_i32_1448
  let c10_i32_1449 : BitVec 32 := 10#32
  let v2067 : BitVec 32 := Scalar.addi v2066 c10_i32_1449
  let v2068 : Index := Scalar.indexCast v2067
  ![4, v2068.toNat]
def k0_off361 (v2069 : BitVec 32) : Fin 2 → Nat :=
  let v2070 : Index := Scalar.indexCast v2069
  let c0_1451 : Index := 0#32
  ![v2070.toNat, 0]

def k0_chk275 (v2069 : BitVec 32) : Prop :=
  (∀ a, (k0_off361 v2069) a + S1x128.size a ≤ S9088x128.size a)
theorem k0_off361_inb : ∀ (v2069 : BitVec 32) (k0_hw275 : k0_chk275 v2069), ∀ a, (k0_off361 v2069) a + S1x128.size a ≤ S9088x128.size a := fun v2069 k0_hw275 => k0_hw275

def k0_off362 (k0_t6 : Fin k0_t6_loop.trips) : Fin 2 → Nat :=
  let c4_1456 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1454 : BitVec 32 := 32#32
  let v2075 : BitVec 32 := Scalar.muli v1318 c32_i32_1454
  let c11_i32_1455 : BitVec 32 := 11#32
  let v2076 : BitVec 32 := Scalar.addi v2075 c11_i32_1455
  let v2077 : Index := Scalar.indexCast v2076
  ![4, v2077.toNat]
def k0_off363 (v2078 : BitVec 32) : Fin 2 → Nat :=
  let v2079 : Index := Scalar.indexCast v2078
  let c0_1457 : Index := 0#32
  ![v2079.toNat, 0]

def k0_chk276 (v2078 : BitVec 32) : Prop :=
  (∀ a, (k0_off363 v2078) a + S1x128.size a ≤ S9088x128.size a)
theorem k0_off363_inb : ∀ (v2078 : BitVec 32) (k0_hw276 : k0_chk276 v2078), ∀ a, (k0_off363 v2078) a + S1x128.size a ≤ S9088x128.size a := fun v2078 k0_hw276 => k0_hw276

def k0_off364 (k0_t6 : Fin k0_t6_loop.trips) : Fin 2 → Nat :=
  let c4_1462 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1460 : BitVec 32 := 32#32
  let v2084 : BitVec 32 := Scalar.muli v1318 c32_i32_1460
  let c12_i32_1461 : BitVec 32 := 12#32
  let v2085 : BitVec 32 := Scalar.addi v2084 c12_i32_1461
  let v2086 : Index := Scalar.indexCast v2085
  ![4, v2086.toNat]
def k0_off365 (v2087 : BitVec 32) : Fin 2 → Nat :=
  let v2088 : Index := Scalar.indexCast v2087
  let c0_1463 : Index := 0#32
  ![v2088.toNat, 0]

def k0_chk277 (v2087 : BitVec 32) : Prop :=
  (∀ a, (k0_off365 v2087) a + S1x128.size a ≤ S9088x128.size a)
theorem k0_off365_inb : ∀ (v2087 : BitVec 32) (k0_hw277 : k0_chk277 v2087), ∀ a, (k0_off365 v2087) a + S1x128.size a ≤ S9088x128.size a := fun v2087 k0_hw277 => k0_hw277

def k0_off366 (k0_t6 : Fin k0_t6_loop.trips) : Fin 2 → Nat :=
  let c4_1468 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1466 : BitVec 32 := 32#32
  let v2093 : BitVec 32 := Scalar.muli v1318 c32_i32_1466
  let c13_i32_1467 : BitVec 32 := 13#32
  let v2094 : BitVec 32 := Scalar.addi v2093 c13_i32_1467
  let v2095 : Index := Scalar.indexCast v2094
  ![4, v2095.toNat]
def k0_off367 (v2096 : BitVec 32) : Fin 2 → Nat :=
  let v2097 : Index := Scalar.indexCast v2096
  let c0_1469 : Index := 0#32
  ![v2097.toNat, 0]

def k0_chk278 (v2096 : BitVec 32) : Prop :=
  (∀ a, (k0_off367 v2096) a + S1x128.size a ≤ S9088x128.size a)
theorem k0_off367_inb : ∀ (v2096 : BitVec 32) (k0_hw278 : k0_chk278 v2096), ∀ a, (k0_off367 v2096) a + S1x128.size a ≤ S9088x128.size a := fun v2096 k0_hw278 => k0_hw278

def k0_off368 (k0_t6 : Fin k0_t6_loop.trips) : Fin 2 → Nat :=
  let c4_1474 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1472 : BitVec 32 := 32#32
  let v2102 : BitVec 32 := Scalar.muli v1318 c32_i32_1472
  let c14_i32_1473 : BitVec 32 := 14#32
  let v2103 : BitVec 32 := Scalar.addi v2102 c14_i32_1473
  let v2104 : Index := Scalar.indexCast v2103
  ![4, v2104.toNat]
def k0_off369 (v2105 : BitVec 32) : Fin 2 → Nat :=
  let v2106 : Index := Scalar.indexCast v2105
  let c0_1475 : Index := 0#32
  ![v2106.toNat, 0]

def k0_chk279 (v2105 : BitVec 32) : Prop :=
  (∀ a, (k0_off369 v2105) a + S1x128.size a ≤ S9088x128.size a)
theorem k0_off369_inb : ∀ (v2105 : BitVec 32) (k0_hw279 : k0_chk279 v2105), ∀ a, (k0_off369 v2105) a + S1x128.size a ≤ S9088x128.size a := fun v2105 k0_hw279 => k0_hw279

def k0_off370 (k0_t6 : Fin k0_t6_loop.trips) : Fin 2 → Nat :=
  let c4_1480 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1478 : BitVec 32 := 32#32
  let v2111 : BitVec 32 := Scalar.muli v1318 c32_i32_1478
  let c15_i32_1479 : BitVec 32 := 15#32
  let v2112 : BitVec 32 := Scalar.addi v2111 c15_i32_1479
  let v2113 : Index := Scalar.indexCast v2112
  ![4, v2113.toNat]
def k0_off371 (v2114 : BitVec 32) : Fin 2 → Nat :=
  let v2115 : Index := Scalar.indexCast v2114
  let c0_1481 : Index := 0#32
  ![v2115.toNat, 0]

def k0_chk280 (v2114 : BitVec 32) : Prop :=
  (∀ a, (k0_off371 v2114) a + S1x128.size a ≤ S9088x128.size a)
theorem k0_off371_inb : ∀ (v2114 : BitVec 32) (k0_hw280 : k0_chk280 v2114), ∀ a, (k0_off371 v2114) a + S1x128.size a ≤ S9088x128.size a := fun v2114 k0_hw280 => k0_hw280

def k0_off372 (k0_t6 : Fin k0_t6_loop.trips) : Fin 2 → Nat :=
  let c4_1486 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1484 : BitVec 32 := 32#32
  let v2120 : BitVec 32 := Scalar.muli v1318 c32_i32_1484
  let c16_i32_1485 : BitVec 32 := 16#32
  let v2121 : BitVec 32 := Scalar.addi v2120 c16_i32_1485
  let v2122 : Index := Scalar.indexCast v2121
  ![4, v2122.toNat]
def k0_off373 (v2123 : BitVec 32) : Fin 2 → Nat :=
  let v2124 : Index := Scalar.indexCast v2123
  let c0_1487 : Index := 0#32
  ![v2124.toNat, 0]

def k0_chk281 (v2123 : BitVec 32) : Prop :=
  (∀ a, (k0_off373 v2123) a + S1x128.size a ≤ S9088x128.size a)
theorem k0_off373_inb : ∀ (v2123 : BitVec 32) (k0_hw281 : k0_chk281 v2123), ∀ a, (k0_off373 v2123) a + S1x128.size a ≤ S9088x128.size a := fun v2123 k0_hw281 => k0_hw281

def k0_off374 (k0_t6 : Fin k0_t6_loop.trips) : Fin 2 → Nat :=
  let c4_1492 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1490 : BitVec 32 := 32#32
  let v2129 : BitVec 32 := Scalar.muli v1318 c32_i32_1490
  let c17_i32_1491 : BitVec 32 := 17#32
  let v2130 : BitVec 32 := Scalar.addi v2129 c17_i32_1491
  let v2131 : Index := Scalar.indexCast v2130
  ![4, v2131.toNat]
def k0_off375 (v2132 : BitVec 32) : Fin 2 → Nat :=
  let v2133 : Index := Scalar.indexCast v2132
  let c0_1493 : Index := 0#32
  ![v2133.toNat, 0]

def k0_chk282 (v2132 : BitVec 32) : Prop :=
  (∀ a, (k0_off375 v2132) a + S1x128.size a ≤ S9088x128.size a)
theorem k0_off375_inb : ∀ (v2132 : BitVec 32) (k0_hw282 : k0_chk282 v2132), ∀ a, (k0_off375 v2132) a + S1x128.size a ≤ S9088x128.size a := fun v2132 k0_hw282 => k0_hw282

def k0_off376 (k0_t6 : Fin k0_t6_loop.trips) : Fin 2 → Nat :=
  let c4_1498 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1496 : BitVec 32 := 32#32
  let v2138 : BitVec 32 := Scalar.muli v1318 c32_i32_1496
  let c18_i32_1497 : BitVec 32 := 18#32
  let v2139 : BitVec 32 := Scalar.addi v2138 c18_i32_1497
  let v2140 : Index := Scalar.indexCast v2139
  ![4, v2140.toNat]
def k0_off377 (v2141 : BitVec 32) : Fin 2 → Nat :=
  let v2142 : Index := Scalar.indexCast v2141
  let c0_1499 : Index := 0#32
  ![v2142.toNat, 0]

def k0_chk283 (v2141 : BitVec 32) : Prop :=
  (∀ a, (k0_off377 v2141) a + S1x128.size a ≤ S9088x128.size a)
theorem k0_off377_inb : ∀ (v2141 : BitVec 32) (k0_hw283 : k0_chk283 v2141), ∀ a, (k0_off377 v2141) a + S1x128.size a ≤ S9088x128.size a := fun v2141 k0_hw283 => k0_hw283

def k0_off378 (k0_t6 : Fin k0_t6_loop.trips) : Fin 2 → Nat :=
  let c4_1504 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1502 : BitVec 32 := 32#32
  let v2147 : BitVec 32 := Scalar.muli v1318 c32_i32_1502
  let c19_i32_1503 : BitVec 32 := 19#32
  let v2148 : BitVec 32 := Scalar.addi v2147 c19_i32_1503
  let v2149 : Index := Scalar.indexCast v2148
  ![4, v2149.toNat]
def k0_off379 (v2150 : BitVec 32) : Fin 2 → Nat :=
  let v2151 : Index := Scalar.indexCast v2150
  let c0_1505 : Index := 0#32
  ![v2151.toNat, 0]

def k0_chk284 (v2150 : BitVec 32) : Prop :=
  (∀ a, (k0_off379 v2150) a + S1x128.size a ≤ S9088x128.size a)
theorem k0_off379_inb : ∀ (v2150 : BitVec 32) (k0_hw284 : k0_chk284 v2150), ∀ a, (k0_off379 v2150) a + S1x128.size a ≤ S9088x128.size a := fun v2150 k0_hw284 => k0_hw284

def k0_off380 (k0_t6 : Fin k0_t6_loop.trips) : Fin 2 → Nat :=
  let c4_1510 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1508 : BitVec 32 := 32#32
  let v2156 : BitVec 32 := Scalar.muli v1318 c32_i32_1508
  let c20_i32_1509 : BitVec 32 := 20#32
  let v2157 : BitVec 32 := Scalar.addi v2156 c20_i32_1509
  let v2158 : Index := Scalar.indexCast v2157
  ![4, v2158.toNat]
def k0_off381 (v2159 : BitVec 32) : Fin 2 → Nat :=
  let v2160 : Index := Scalar.indexCast v2159
  let c0_1511 : Index := 0#32
  ![v2160.toNat, 0]

def k0_chk285 (v2159 : BitVec 32) : Prop :=
  (∀ a, (k0_off381 v2159) a + S1x128.size a ≤ S9088x128.size a)
theorem k0_off381_inb : ∀ (v2159 : BitVec 32) (k0_hw285 : k0_chk285 v2159), ∀ a, (k0_off381 v2159) a + S1x128.size a ≤ S9088x128.size a := fun v2159 k0_hw285 => k0_hw285

def k0_off382 (k0_t6 : Fin k0_t6_loop.trips) : Fin 2 → Nat :=
  let c4_1516 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1514 : BitVec 32 := 32#32
  let v2165 : BitVec 32 := Scalar.muli v1318 c32_i32_1514
  let c21_i32_1515 : BitVec 32 := 21#32
  let v2166 : BitVec 32 := Scalar.addi v2165 c21_i32_1515
  let v2167 : Index := Scalar.indexCast v2166
  ![4, v2167.toNat]
def k0_off383 (v2168 : BitVec 32) : Fin 2 → Nat :=
  let v2169 : Index := Scalar.indexCast v2168
  let c0_1517 : Index := 0#32
  ![v2169.toNat, 0]

def k0_chk286 (v2168 : BitVec 32) : Prop :=
  (∀ a, (k0_off383 v2168) a + S1x128.size a ≤ S9088x128.size a)
theorem k0_off383_inb : ∀ (v2168 : BitVec 32) (k0_hw286 : k0_chk286 v2168), ∀ a, (k0_off383 v2168) a + S1x128.size a ≤ S9088x128.size a := fun v2168 k0_hw286 => k0_hw286

def k0_off384 (k0_t6 : Fin k0_t6_loop.trips) : Fin 2 → Nat :=
  let c4_1522 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1520 : BitVec 32 := 32#32
  let v2174 : BitVec 32 := Scalar.muli v1318 c32_i32_1520
  let c22_i32_1521 : BitVec 32 := 22#32
  let v2175 : BitVec 32 := Scalar.addi v2174 c22_i32_1521
  let v2176 : Index := Scalar.indexCast v2175
  ![4, v2176.toNat]
def k0_off385 (v2177 : BitVec 32) : Fin 2 → Nat :=
  let v2178 : Index := Scalar.indexCast v2177
  let c0_1523 : Index := 0#32
  ![v2178.toNat, 0]

def k0_chk287 (v2177 : BitVec 32) : Prop :=
  (∀ a, (k0_off385 v2177) a + S1x128.size a ≤ S9088x128.size a)
theorem k0_off385_inb : ∀ (v2177 : BitVec 32) (k0_hw287 : k0_chk287 v2177), ∀ a, (k0_off385 v2177) a + S1x128.size a ≤ S9088x128.size a := fun v2177 k0_hw287 => k0_hw287

def k0_off386 (k0_t6 : Fin k0_t6_loop.trips) : Fin 2 → Nat :=
  let c4_1528 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1526 : BitVec 32 := 32#32
  let v2183 : BitVec 32 := Scalar.muli v1318 c32_i32_1526
  let c23_i32_1527 : BitVec 32 := 23#32
  let v2184 : BitVec 32 := Scalar.addi v2183 c23_i32_1527
  let v2185 : Index := Scalar.indexCast v2184
  ![4, v2185.toNat]
def k0_off387 (v2186 : BitVec 32) : Fin 2 → Nat :=
  let v2187 : Index := Scalar.indexCast v2186
  let c0_1529 : Index := 0#32
  ![v2187.toNat, 0]

def k0_chk288 (v2186 : BitVec 32) : Prop :=
  (∀ a, (k0_off387 v2186) a + S1x128.size a ≤ S9088x128.size a)
theorem k0_off387_inb : ∀ (v2186 : BitVec 32) (k0_hw288 : k0_chk288 v2186), ∀ a, (k0_off387 v2186) a + S1x128.size a ≤ S9088x128.size a := fun v2186 k0_hw288 => k0_hw288

def k0_off388 (k0_t6 : Fin k0_t6_loop.trips) : Fin 2 → Nat :=
  let c4_1534 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1532 : BitVec 32 := 32#32
  let v2192 : BitVec 32 := Scalar.muli v1318 c32_i32_1532
  let c24_i32_1533 : BitVec 32 := 24#32
  let v2193 : BitVec 32 := Scalar.addi v2192 c24_i32_1533
  let v2194 : Index := Scalar.indexCast v2193
  ![4, v2194.toNat]
def k0_off389 (v2195 : BitVec 32) : Fin 2 → Nat :=
  let v2196 : Index := Scalar.indexCast v2195
  let c0_1535 : Index := 0#32
  ![v2196.toNat, 0]

def k0_chk289 (v2195 : BitVec 32) : Prop :=
  (∀ a, (k0_off389 v2195) a + S1x128.size a ≤ S9088x128.size a)
theorem k0_off389_inb : ∀ (v2195 : BitVec 32) (k0_hw289 : k0_chk289 v2195), ∀ a, (k0_off389 v2195) a + S1x128.size a ≤ S9088x128.size a := fun v2195 k0_hw289 => k0_hw289

def k0_off390 (k0_t6 : Fin k0_t6_loop.trips) : Fin 2 → Nat :=
  let c4_1540 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1538 : BitVec 32 := 32#32
  let v2201 : BitVec 32 := Scalar.muli v1318 c32_i32_1538
  let c25_i32_1539 : BitVec 32 := 25#32
  let v2202 : BitVec 32 := Scalar.addi v2201 c25_i32_1539
  let v2203 : Index := Scalar.indexCast v2202
  ![4, v2203.toNat]
def k0_off391 (v2204 : BitVec 32) : Fin 2 → Nat :=
  let v2205 : Index := Scalar.indexCast v2204
  let c0_1541 : Index := 0#32
  ![v2205.toNat, 0]

def k0_chk290 (v2204 : BitVec 32) : Prop :=
  (∀ a, (k0_off391 v2204) a + S1x128.size a ≤ S9088x128.size a)
theorem k0_off391_inb : ∀ (v2204 : BitVec 32) (k0_hw290 : k0_chk290 v2204), ∀ a, (k0_off391 v2204) a + S1x128.size a ≤ S9088x128.size a := fun v2204 k0_hw290 => k0_hw290

def k0_off392 (k0_t6 : Fin k0_t6_loop.trips) : Fin 2 → Nat :=
  let c4_1546 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1544 : BitVec 32 := 32#32
  let v2210 : BitVec 32 := Scalar.muli v1318 c32_i32_1544
  let c26_i32_1545 : BitVec 32 := 26#32
  let v2211 : BitVec 32 := Scalar.addi v2210 c26_i32_1545
  let v2212 : Index := Scalar.indexCast v2211
  ![4, v2212.toNat]
def k0_off393 (v2213 : BitVec 32) : Fin 2 → Nat :=
  let v2214 : Index := Scalar.indexCast v2213
  let c0_1547 : Index := 0#32
  ![v2214.toNat, 0]

def k0_chk291 (v2213 : BitVec 32) : Prop :=
  (∀ a, (k0_off393 v2213) a + S1x128.size a ≤ S9088x128.size a)
theorem k0_off393_inb : ∀ (v2213 : BitVec 32) (k0_hw291 : k0_chk291 v2213), ∀ a, (k0_off393 v2213) a + S1x128.size a ≤ S9088x128.size a := fun v2213 k0_hw291 => k0_hw291

def k0_off394 (k0_t6 : Fin k0_t6_loop.trips) : Fin 2 → Nat :=
  let c4_1552 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1550 : BitVec 32 := 32#32
  let v2219 : BitVec 32 := Scalar.muli v1318 c32_i32_1550
  let c27_i32_1551 : BitVec 32 := 27#32
  let v2220 : BitVec 32 := Scalar.addi v2219 c27_i32_1551
  let v2221 : Index := Scalar.indexCast v2220
  ![4, v2221.toNat]
def k0_off395 (v2222 : BitVec 32) : Fin 2 → Nat :=
  let v2223 : Index := Scalar.indexCast v2222
  let c0_1553 : Index := 0#32
  ![v2223.toNat, 0]

def k0_chk292 (v2222 : BitVec 32) : Prop :=
  (∀ a, (k0_off395 v2222) a + S1x128.size a ≤ S9088x128.size a)
theorem k0_off395_inb : ∀ (v2222 : BitVec 32) (k0_hw292 : k0_chk292 v2222), ∀ a, (k0_off395 v2222) a + S1x128.size a ≤ S9088x128.size a := fun v2222 k0_hw292 => k0_hw292

def k0_off396 (k0_t6 : Fin k0_t6_loop.trips) : Fin 2 → Nat :=
  let c4_1558 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1556 : BitVec 32 := 32#32
  let v2228 : BitVec 32 := Scalar.muli v1318 c32_i32_1556
  let c28_i32_1557 : BitVec 32 := 28#32
  let v2229 : BitVec 32 := Scalar.addi v2228 c28_i32_1557
  let v2230 : Index := Scalar.indexCast v2229
  ![4, v2230.toNat]
def k0_off397 (v2231 : BitVec 32) : Fin 2 → Nat :=
  let v2232 : Index := Scalar.indexCast v2231
  let c0_1559 : Index := 0#32
  ![v2232.toNat, 0]

def k0_chk293 (v2231 : BitVec 32) : Prop :=
  (∀ a, (k0_off397 v2231) a + S1x128.size a ≤ S9088x128.size a)
theorem k0_off397_inb : ∀ (v2231 : BitVec 32) (k0_hw293 : k0_chk293 v2231), ∀ a, (k0_off397 v2231) a + S1x128.size a ≤ S9088x128.size a := fun v2231 k0_hw293 => k0_hw293

def k0_off398 (k0_t6 : Fin k0_t6_loop.trips) : Fin 2 → Nat :=
  let c4_1564 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1562 : BitVec 32 := 32#32
  let v2237 : BitVec 32 := Scalar.muli v1318 c32_i32_1562
  let c29_i32_1563 : BitVec 32 := 29#32
  let v2238 : BitVec 32 := Scalar.addi v2237 c29_i32_1563
  let v2239 : Index := Scalar.indexCast v2238
  ![4, v2239.toNat]
def k0_off399 (v2240 : BitVec 32) : Fin 2 → Nat :=
  let v2241 : Index := Scalar.indexCast v2240
  let c0_1565 : Index := 0#32
  ![v2241.toNat, 0]

def k0_chk294 (v2240 : BitVec 32) : Prop :=
  (∀ a, (k0_off399 v2240) a + S1x128.size a ≤ S9088x128.size a)
theorem k0_off399_inb : ∀ (v2240 : BitVec 32) (k0_hw294 : k0_chk294 v2240), ∀ a, (k0_off399 v2240) a + S1x128.size a ≤ S9088x128.size a := fun v2240 k0_hw294 => k0_hw294

def k0_off400 (k0_t6 : Fin k0_t6_loop.trips) : Fin 2 → Nat :=
  let c4_1570 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1568 : BitVec 32 := 32#32
  let v2246 : BitVec 32 := Scalar.muli v1318 c32_i32_1568
  let c30_i32_1569 : BitVec 32 := 30#32
  let v2247 : BitVec 32 := Scalar.addi v2246 c30_i32_1569
  let v2248 : Index := Scalar.indexCast v2247
  ![4, v2248.toNat]
def k0_off401 (v2249 : BitVec 32) : Fin 2 → Nat :=
  let v2250 : Index := Scalar.indexCast v2249
  let c0_1571 : Index := 0#32
  ![v2250.toNat, 0]

def k0_chk295 (v2249 : BitVec 32) : Prop :=
  (∀ a, (k0_off401 v2249) a + S1x128.size a ≤ S9088x128.size a)
theorem k0_off401_inb : ∀ (v2249 : BitVec 32) (k0_hw295 : k0_chk295 v2249), ∀ a, (k0_off401 v2249) a + S1x128.size a ≤ S9088x128.size a := fun v2249 k0_hw295 => k0_hw295

def k0_off402 (k0_t6 : Fin k0_t6_loop.trips) : Fin 2 → Nat :=
  let c4_1576 : Index := 4#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1574 : BitVec 32 := 32#32
  let v2255 : BitVec 32 := Scalar.muli v1318 c32_i32_1574
  let c31_i32_1575 : BitVec 32 := 31#32
  let v2256 : BitVec 32 := Scalar.addi v2255 c31_i32_1575
  let v2257 : Index := Scalar.indexCast v2256
  ![4, v2257.toNat]
def k0_off403 (v2258 : BitVec 32) : Fin 2 → Nat :=
  let v2259 : Index := Scalar.indexCast v2258
  let c0_1577 : Index := 0#32
  ![v2259.toNat, 0]

def k0_chk296 (v2258 : BitVec 32) : Prop :=
  (∀ a, (k0_off403 v2258) a + S1x128.size a ≤ S9088x128.size a)
theorem k0_off403_inb : ∀ (v2258 : BitVec 32) (k0_hw296 : k0_chk296 v2258), ∀ a, (k0_off403 v2258) a + S1x128.size a ≤ S9088x128.size a := fun v2258 k0_hw296 => k0_hw296

def k0_off404 (k0_t6 : Fin k0_t6_loop.trips) : Fin 2 → Nat :=
  let c5_1590 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1588 : BitVec 32 := 32#32
  let v2281 : BitVec 32 := Scalar.muli v1318 c32_i32_1588
  let c0_i32_1589 : BitVec 32 := 0#32
  let v2282 : BitVec 32 := Scalar.addi v2281 c0_i32_1589
  let v2283 : Index := Scalar.indexCast v2282
  ![5, v2283.toNat]
def k0_off405 (v2284 : BitVec 32) : Fin 2 → Nat :=
  let v2285 : Index := Scalar.indexCast v2284
  let c0_1591 : Index := 0#32
  ![v2285.toNat, 0]

def k0_chk297 (v2284 : BitVec 32) : Prop :=
  (∀ a, (k0_off405 v2284) a + S1x128.size a ≤ S9088x128.size a)
theorem k0_off405_inb : ∀ (v2284 : BitVec 32) (k0_hw297 : k0_chk297 v2284), ∀ a, (k0_off405 v2284) a + S1x128.size a ≤ S9088x128.size a := fun v2284 k0_hw297 => k0_hw297

def k0_off406 (k0_t6 : Fin k0_t6_loop.trips) : Fin 2 → Nat :=
  let c5_1596 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1594 : BitVec 32 := 32#32
  let v2290 : BitVec 32 := Scalar.muli v1318 c32_i32_1594
  let c1_i32_1595 : BitVec 32 := 1#32
  let v2291 : BitVec 32 := Scalar.addi v2290 c1_i32_1595
  let v2292 : Index := Scalar.indexCast v2291
  ![5, v2292.toNat]
def k0_off407 (v2293 : BitVec 32) : Fin 2 → Nat :=
  let v2294 : Index := Scalar.indexCast v2293
  let c0_1597 : Index := 0#32
  ![v2294.toNat, 0]

def k0_chk298 (v2293 : BitVec 32) : Prop :=
  (∀ a, (k0_off407 v2293) a + S1x128.size a ≤ S9088x128.size a)
theorem k0_off407_inb : ∀ (v2293 : BitVec 32) (k0_hw298 : k0_chk298 v2293), ∀ a, (k0_off407 v2293) a + S1x128.size a ≤ S9088x128.size a := fun v2293 k0_hw298 => k0_hw298

def k0_off408 (k0_t6 : Fin k0_t6_loop.trips) : Fin 2 → Nat :=
  let c5_1602 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1600 : BitVec 32 := 32#32
  let v2299 : BitVec 32 := Scalar.muli v1318 c32_i32_1600
  let c2_i32_1601 : BitVec 32 := 2#32
  let v2300 : BitVec 32 := Scalar.addi v2299 c2_i32_1601
  let v2301 : Index := Scalar.indexCast v2300
  ![5, v2301.toNat]
def k0_off409 (v2302 : BitVec 32) : Fin 2 → Nat :=
  let v2303 : Index := Scalar.indexCast v2302
  let c0_1603 : Index := 0#32
  ![v2303.toNat, 0]

def k0_chk299 (v2302 : BitVec 32) : Prop :=
  (∀ a, (k0_off409 v2302) a + S1x128.size a ≤ S9088x128.size a)
theorem k0_off409_inb : ∀ (v2302 : BitVec 32) (k0_hw299 : k0_chk299 v2302), ∀ a, (k0_off409 v2302) a + S1x128.size a ≤ S9088x128.size a := fun v2302 k0_hw299 => k0_hw299

def k0_off410 (k0_t6 : Fin k0_t6_loop.trips) : Fin 2 → Nat :=
  let c5_1608 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1606 : BitVec 32 := 32#32
  let v2308 : BitVec 32 := Scalar.muli v1318 c32_i32_1606
  let c3_i32_1607 : BitVec 32 := 3#32
  let v2309 : BitVec 32 := Scalar.addi v2308 c3_i32_1607
  let v2310 : Index := Scalar.indexCast v2309
  ![5, v2310.toNat]
def k0_off411 (v2311 : BitVec 32) : Fin 2 → Nat :=
  let v2312 : Index := Scalar.indexCast v2311
  let c0_1609 : Index := 0#32
  ![v2312.toNat, 0]

def k0_chk300 (v2311 : BitVec 32) : Prop :=
  (∀ a, (k0_off411 v2311) a + S1x128.size a ≤ S9088x128.size a)
theorem k0_off411_inb : ∀ (v2311 : BitVec 32) (k0_hw300 : k0_chk300 v2311), ∀ a, (k0_off411 v2311) a + S1x128.size a ≤ S9088x128.size a := fun v2311 k0_hw300 => k0_hw300

def k0_off412 (k0_t6 : Fin k0_t6_loop.trips) : Fin 2 → Nat :=
  let c5_1614 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1612 : BitVec 32 := 32#32
  let v2317 : BitVec 32 := Scalar.muli v1318 c32_i32_1612
  let c4_i32_1613 : BitVec 32 := 4#32
  let v2318 : BitVec 32 := Scalar.addi v2317 c4_i32_1613
  let v2319 : Index := Scalar.indexCast v2318
  ![5, v2319.toNat]
def k0_off413 (v2320 : BitVec 32) : Fin 2 → Nat :=
  let v2321 : Index := Scalar.indexCast v2320
  let c0_1615 : Index := 0#32
  ![v2321.toNat, 0]

def k0_chk301 (v2320 : BitVec 32) : Prop :=
  (∀ a, (k0_off413 v2320) a + S1x128.size a ≤ S9088x128.size a)
theorem k0_off413_inb : ∀ (v2320 : BitVec 32) (k0_hw301 : k0_chk301 v2320), ∀ a, (k0_off413 v2320) a + S1x128.size a ≤ S9088x128.size a := fun v2320 k0_hw301 => k0_hw301

def k0_off414 (k0_t6 : Fin k0_t6_loop.trips) : Fin 2 → Nat :=
  let c5_1620 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1618 : BitVec 32 := 32#32
  let v2326 : BitVec 32 := Scalar.muli v1318 c32_i32_1618
  let c5_i32_1619 : BitVec 32 := 5#32
  let v2327 : BitVec 32 := Scalar.addi v2326 c5_i32_1619
  let v2328 : Index := Scalar.indexCast v2327
  ![5, v2328.toNat]
def k0_off415 (v2329 : BitVec 32) : Fin 2 → Nat :=
  let v2330 : Index := Scalar.indexCast v2329
  let c0_1621 : Index := 0#32
  ![v2330.toNat, 0]

def k0_chk302 (v2329 : BitVec 32) : Prop :=
  (∀ a, (k0_off415 v2329) a + S1x128.size a ≤ S9088x128.size a)
theorem k0_off415_inb : ∀ (v2329 : BitVec 32) (k0_hw302 : k0_chk302 v2329), ∀ a, (k0_off415 v2329) a + S1x128.size a ≤ S9088x128.size a := fun v2329 k0_hw302 => k0_hw302

def k0_off416 (k0_t6 : Fin k0_t6_loop.trips) : Fin 2 → Nat :=
  let c5_1626 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1624 : BitVec 32 := 32#32
  let v2335 : BitVec 32 := Scalar.muli v1318 c32_i32_1624
  let c6_i32_1625 : BitVec 32 := 6#32
  let v2336 : BitVec 32 := Scalar.addi v2335 c6_i32_1625
  let v2337 : Index := Scalar.indexCast v2336
  ![5, v2337.toNat]
def k0_off417 (v2338 : BitVec 32) : Fin 2 → Nat :=
  let v2339 : Index := Scalar.indexCast v2338
  let c0_1627 : Index := 0#32
  ![v2339.toNat, 0]

def k0_chk303 (v2338 : BitVec 32) : Prop :=
  (∀ a, (k0_off417 v2338) a + S1x128.size a ≤ S9088x128.size a)
theorem k0_off417_inb : ∀ (v2338 : BitVec 32) (k0_hw303 : k0_chk303 v2338), ∀ a, (k0_off417 v2338) a + S1x128.size a ≤ S9088x128.size a := fun v2338 k0_hw303 => k0_hw303

def k0_off418 (k0_t6 : Fin k0_t6_loop.trips) : Fin 2 → Nat :=
  let c5_1632 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1630 : BitVec 32 := 32#32
  let v2344 : BitVec 32 := Scalar.muli v1318 c32_i32_1630
  let c7_i32_1631 : BitVec 32 := 7#32
  let v2345 : BitVec 32 := Scalar.addi v2344 c7_i32_1631
  let v2346 : Index := Scalar.indexCast v2345
  ![5, v2346.toNat]
def k0_off419 (v2347 : BitVec 32) : Fin 2 → Nat :=
  let v2348 : Index := Scalar.indexCast v2347
  let c0_1633 : Index := 0#32
  ![v2348.toNat, 0]

def k0_chk304 (v2347 : BitVec 32) : Prop :=
  (∀ a, (k0_off419 v2347) a + S1x128.size a ≤ S9088x128.size a)
theorem k0_off419_inb : ∀ (v2347 : BitVec 32) (k0_hw304 : k0_chk304 v2347), ∀ a, (k0_off419 v2347) a + S1x128.size a ≤ S9088x128.size a := fun v2347 k0_hw304 => k0_hw304

def k0_off420 (k0_t6 : Fin k0_t6_loop.trips) : Fin 2 → Nat :=
  let c5_1638 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1636 : BitVec 32 := 32#32
  let v2353 : BitVec 32 := Scalar.muli v1318 c32_i32_1636
  let c8_i32_1637 : BitVec 32 := 8#32
  let v2354 : BitVec 32 := Scalar.addi v2353 c8_i32_1637
  let v2355 : Index := Scalar.indexCast v2354
  ![5, v2355.toNat]
def k0_off421 (v2356 : BitVec 32) : Fin 2 → Nat :=
  let v2357 : Index := Scalar.indexCast v2356
  let c0_1639 : Index := 0#32
  ![v2357.toNat, 0]

def k0_chk305 (v2356 : BitVec 32) : Prop :=
  (∀ a, (k0_off421 v2356) a + S1x128.size a ≤ S9088x128.size a)
theorem k0_off421_inb : ∀ (v2356 : BitVec 32) (k0_hw305 : k0_chk305 v2356), ∀ a, (k0_off421 v2356) a + S1x128.size a ≤ S9088x128.size a := fun v2356 k0_hw305 => k0_hw305

def k0_off422 (k0_t6 : Fin k0_t6_loop.trips) : Fin 2 → Nat :=
  let c5_1644 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1642 : BitVec 32 := 32#32
  let v2362 : BitVec 32 := Scalar.muli v1318 c32_i32_1642
  let c9_i32_1643 : BitVec 32 := 9#32
  let v2363 : BitVec 32 := Scalar.addi v2362 c9_i32_1643
  let v2364 : Index := Scalar.indexCast v2363
  ![5, v2364.toNat]
def k0_off423 (v2365 : BitVec 32) : Fin 2 → Nat :=
  let v2366 : Index := Scalar.indexCast v2365
  let c0_1645 : Index := 0#32
  ![v2366.toNat, 0]

def k0_chk306 (v2365 : BitVec 32) : Prop :=
  (∀ a, (k0_off423 v2365) a + S1x128.size a ≤ S9088x128.size a)
theorem k0_off423_inb : ∀ (v2365 : BitVec 32) (k0_hw306 : k0_chk306 v2365), ∀ a, (k0_off423 v2365) a + S1x128.size a ≤ S9088x128.size a := fun v2365 k0_hw306 => k0_hw306

def k0_off424 (k0_t6 : Fin k0_t6_loop.trips) : Fin 2 → Nat :=
  let c5_1650 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1648 : BitVec 32 := 32#32
  let v2371 : BitVec 32 := Scalar.muli v1318 c32_i32_1648
  let c10_i32_1649 : BitVec 32 := 10#32
  let v2372 : BitVec 32 := Scalar.addi v2371 c10_i32_1649
  let v2373 : Index := Scalar.indexCast v2372
  ![5, v2373.toNat]
def k0_off425 (v2374 : BitVec 32) : Fin 2 → Nat :=
  let v2375 : Index := Scalar.indexCast v2374
  let c0_1651 : Index := 0#32
  ![v2375.toNat, 0]

def k0_chk307 (v2374 : BitVec 32) : Prop :=
  (∀ a, (k0_off425 v2374) a + S1x128.size a ≤ S9088x128.size a)
theorem k0_off425_inb : ∀ (v2374 : BitVec 32) (k0_hw307 : k0_chk307 v2374), ∀ a, (k0_off425 v2374) a + S1x128.size a ≤ S9088x128.size a := fun v2374 k0_hw307 => k0_hw307

def k0_off426 (k0_t6 : Fin k0_t6_loop.trips) : Fin 2 → Nat :=
  let c5_1656 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1654 : BitVec 32 := 32#32
  let v2380 : BitVec 32 := Scalar.muli v1318 c32_i32_1654
  let c11_i32_1655 : BitVec 32 := 11#32
  let v2381 : BitVec 32 := Scalar.addi v2380 c11_i32_1655
  let v2382 : Index := Scalar.indexCast v2381
  ![5, v2382.toNat]
def k0_off427 (v2383 : BitVec 32) : Fin 2 → Nat :=
  let v2384 : Index := Scalar.indexCast v2383
  let c0_1657 : Index := 0#32
  ![v2384.toNat, 0]

def k0_chk308 (v2383 : BitVec 32) : Prop :=
  (∀ a, (k0_off427 v2383) a + S1x128.size a ≤ S9088x128.size a)
theorem k0_off427_inb : ∀ (v2383 : BitVec 32) (k0_hw308 : k0_chk308 v2383), ∀ a, (k0_off427 v2383) a + S1x128.size a ≤ S9088x128.size a := fun v2383 k0_hw308 => k0_hw308

def k0_off428 (k0_t6 : Fin k0_t6_loop.trips) : Fin 2 → Nat :=
  let c5_1662 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1660 : BitVec 32 := 32#32
  let v2389 : BitVec 32 := Scalar.muli v1318 c32_i32_1660
  let c12_i32_1661 : BitVec 32 := 12#32
  let v2390 : BitVec 32 := Scalar.addi v2389 c12_i32_1661
  let v2391 : Index := Scalar.indexCast v2390
  ![5, v2391.toNat]
def k0_off429 (v2392 : BitVec 32) : Fin 2 → Nat :=
  let v2393 : Index := Scalar.indexCast v2392
  let c0_1663 : Index := 0#32
  ![v2393.toNat, 0]

def k0_chk309 (v2392 : BitVec 32) : Prop :=
  (∀ a, (k0_off429 v2392) a + S1x128.size a ≤ S9088x128.size a)
theorem k0_off429_inb : ∀ (v2392 : BitVec 32) (k0_hw309 : k0_chk309 v2392), ∀ a, (k0_off429 v2392) a + S1x128.size a ≤ S9088x128.size a := fun v2392 k0_hw309 => k0_hw309

def k0_off430 (k0_t6 : Fin k0_t6_loop.trips) : Fin 2 → Nat :=
  let c5_1668 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1666 : BitVec 32 := 32#32
  let v2398 : BitVec 32 := Scalar.muli v1318 c32_i32_1666
  let c13_i32_1667 : BitVec 32 := 13#32
  let v2399 : BitVec 32 := Scalar.addi v2398 c13_i32_1667
  let v2400 : Index := Scalar.indexCast v2399
  ![5, v2400.toNat]
def k0_off431 (v2401 : BitVec 32) : Fin 2 → Nat :=
  let v2402 : Index := Scalar.indexCast v2401
  let c0_1669 : Index := 0#32
  ![v2402.toNat, 0]

def k0_chk310 (v2401 : BitVec 32) : Prop :=
  (∀ a, (k0_off431 v2401) a + S1x128.size a ≤ S9088x128.size a)
theorem k0_off431_inb : ∀ (v2401 : BitVec 32) (k0_hw310 : k0_chk310 v2401), ∀ a, (k0_off431 v2401) a + S1x128.size a ≤ S9088x128.size a := fun v2401 k0_hw310 => k0_hw310

def k0_off432 (k0_t6 : Fin k0_t6_loop.trips) : Fin 2 → Nat :=
  let c5_1674 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1672 : BitVec 32 := 32#32
  let v2407 : BitVec 32 := Scalar.muli v1318 c32_i32_1672
  let c14_i32_1673 : BitVec 32 := 14#32
  let v2408 : BitVec 32 := Scalar.addi v2407 c14_i32_1673
  let v2409 : Index := Scalar.indexCast v2408
  ![5, v2409.toNat]
def k0_off433 (v2410 : BitVec 32) : Fin 2 → Nat :=
  let v2411 : Index := Scalar.indexCast v2410
  let c0_1675 : Index := 0#32
  ![v2411.toNat, 0]

def k0_chk311 (v2410 : BitVec 32) : Prop :=
  (∀ a, (k0_off433 v2410) a + S1x128.size a ≤ S9088x128.size a)
theorem k0_off433_inb : ∀ (v2410 : BitVec 32) (k0_hw311 : k0_chk311 v2410), ∀ a, (k0_off433 v2410) a + S1x128.size a ≤ S9088x128.size a := fun v2410 k0_hw311 => k0_hw311

def k0_off434 (k0_t6 : Fin k0_t6_loop.trips) : Fin 2 → Nat :=
  let c5_1680 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1678 : BitVec 32 := 32#32
  let v2416 : BitVec 32 := Scalar.muli v1318 c32_i32_1678
  let c15_i32_1679 : BitVec 32 := 15#32
  let v2417 : BitVec 32 := Scalar.addi v2416 c15_i32_1679
  let v2418 : Index := Scalar.indexCast v2417
  ![5, v2418.toNat]
def k0_off435 (v2419 : BitVec 32) : Fin 2 → Nat :=
  let v2420 : Index := Scalar.indexCast v2419
  let c0_1681 : Index := 0#32
  ![v2420.toNat, 0]

def k0_chk312 (v2419 : BitVec 32) : Prop :=
  (∀ a, (k0_off435 v2419) a + S1x128.size a ≤ S9088x128.size a)
theorem k0_off435_inb : ∀ (v2419 : BitVec 32) (k0_hw312 : k0_chk312 v2419), ∀ a, (k0_off435 v2419) a + S1x128.size a ≤ S9088x128.size a := fun v2419 k0_hw312 => k0_hw312

def k0_off436 (k0_t6 : Fin k0_t6_loop.trips) : Fin 2 → Nat :=
  let c5_1686 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1684 : BitVec 32 := 32#32
  let v2425 : BitVec 32 := Scalar.muli v1318 c32_i32_1684
  let c16_i32_1685 : BitVec 32 := 16#32
  let v2426 : BitVec 32 := Scalar.addi v2425 c16_i32_1685
  let v2427 : Index := Scalar.indexCast v2426
  ![5, v2427.toNat]
def k0_off437 (v2428 : BitVec 32) : Fin 2 → Nat :=
  let v2429 : Index := Scalar.indexCast v2428
  let c0_1687 : Index := 0#32
  ![v2429.toNat, 0]

def k0_chk313 (v2428 : BitVec 32) : Prop :=
  (∀ a, (k0_off437 v2428) a + S1x128.size a ≤ S9088x128.size a)
theorem k0_off437_inb : ∀ (v2428 : BitVec 32) (k0_hw313 : k0_chk313 v2428), ∀ a, (k0_off437 v2428) a + S1x128.size a ≤ S9088x128.size a := fun v2428 k0_hw313 => k0_hw313

def k0_off438 (k0_t6 : Fin k0_t6_loop.trips) : Fin 2 → Nat :=
  let c5_1692 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1690 : BitVec 32 := 32#32
  let v2434 : BitVec 32 := Scalar.muli v1318 c32_i32_1690
  let c17_i32_1691 : BitVec 32 := 17#32
  let v2435 : BitVec 32 := Scalar.addi v2434 c17_i32_1691
  let v2436 : Index := Scalar.indexCast v2435
  ![5, v2436.toNat]
def k0_off439 (v2437 : BitVec 32) : Fin 2 → Nat :=
  let v2438 : Index := Scalar.indexCast v2437
  let c0_1693 : Index := 0#32
  ![v2438.toNat, 0]

def k0_chk314 (v2437 : BitVec 32) : Prop :=
  (∀ a, (k0_off439 v2437) a + S1x128.size a ≤ S9088x128.size a)
theorem k0_off439_inb : ∀ (v2437 : BitVec 32) (k0_hw314 : k0_chk314 v2437), ∀ a, (k0_off439 v2437) a + S1x128.size a ≤ S9088x128.size a := fun v2437 k0_hw314 => k0_hw314

def k0_off440 (k0_t6 : Fin k0_t6_loop.trips) : Fin 2 → Nat :=
  let c5_1698 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1696 : BitVec 32 := 32#32
  let v2443 : BitVec 32 := Scalar.muli v1318 c32_i32_1696
  let c18_i32_1697 : BitVec 32 := 18#32
  let v2444 : BitVec 32 := Scalar.addi v2443 c18_i32_1697
  let v2445 : Index := Scalar.indexCast v2444
  ![5, v2445.toNat]
def k0_off441 (v2446 : BitVec 32) : Fin 2 → Nat :=
  let v2447 : Index := Scalar.indexCast v2446
  let c0_1699 : Index := 0#32
  ![v2447.toNat, 0]

def k0_chk315 (v2446 : BitVec 32) : Prop :=
  (∀ a, (k0_off441 v2446) a + S1x128.size a ≤ S9088x128.size a)
theorem k0_off441_inb : ∀ (v2446 : BitVec 32) (k0_hw315 : k0_chk315 v2446), ∀ a, (k0_off441 v2446) a + S1x128.size a ≤ S9088x128.size a := fun v2446 k0_hw315 => k0_hw315

def k0_off442 (k0_t6 : Fin k0_t6_loop.trips) : Fin 2 → Nat :=
  let c5_1704 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1702 : BitVec 32 := 32#32
  let v2452 : BitVec 32 := Scalar.muli v1318 c32_i32_1702
  let c19_i32_1703 : BitVec 32 := 19#32
  let v2453 : BitVec 32 := Scalar.addi v2452 c19_i32_1703
  let v2454 : Index := Scalar.indexCast v2453
  ![5, v2454.toNat]
def k0_off443 (v2455 : BitVec 32) : Fin 2 → Nat :=
  let v2456 : Index := Scalar.indexCast v2455
  let c0_1705 : Index := 0#32
  ![v2456.toNat, 0]

def k0_chk316 (v2455 : BitVec 32) : Prop :=
  (∀ a, (k0_off443 v2455) a + S1x128.size a ≤ S9088x128.size a)
theorem k0_off443_inb : ∀ (v2455 : BitVec 32) (k0_hw316 : k0_chk316 v2455), ∀ a, (k0_off443 v2455) a + S1x128.size a ≤ S9088x128.size a := fun v2455 k0_hw316 => k0_hw316

def k0_off444 (k0_t6 : Fin k0_t6_loop.trips) : Fin 2 → Nat :=
  let c5_1710 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1708 : BitVec 32 := 32#32
  let v2461 : BitVec 32 := Scalar.muli v1318 c32_i32_1708
  let c20_i32_1709 : BitVec 32 := 20#32
  let v2462 : BitVec 32 := Scalar.addi v2461 c20_i32_1709
  let v2463 : Index := Scalar.indexCast v2462
  ![5, v2463.toNat]
def k0_off445 (v2464 : BitVec 32) : Fin 2 → Nat :=
  let v2465 : Index := Scalar.indexCast v2464
  let c0_1711 : Index := 0#32
  ![v2465.toNat, 0]

def k0_chk317 (v2464 : BitVec 32) : Prop :=
  (∀ a, (k0_off445 v2464) a + S1x128.size a ≤ S9088x128.size a)
theorem k0_off445_inb : ∀ (v2464 : BitVec 32) (k0_hw317 : k0_chk317 v2464), ∀ a, (k0_off445 v2464) a + S1x128.size a ≤ S9088x128.size a := fun v2464 k0_hw317 => k0_hw317

def k0_off446 (k0_t6 : Fin k0_t6_loop.trips) : Fin 2 → Nat :=
  let c5_1716 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1714 : BitVec 32 := 32#32
  let v2470 : BitVec 32 := Scalar.muli v1318 c32_i32_1714
  let c21_i32_1715 : BitVec 32 := 21#32
  let v2471 : BitVec 32 := Scalar.addi v2470 c21_i32_1715
  let v2472 : Index := Scalar.indexCast v2471
  ![5, v2472.toNat]
def k0_off447 (v2473 : BitVec 32) : Fin 2 → Nat :=
  let v2474 : Index := Scalar.indexCast v2473
  let c0_1717 : Index := 0#32
  ![v2474.toNat, 0]

def k0_chk318 (v2473 : BitVec 32) : Prop :=
  (∀ a, (k0_off447 v2473) a + S1x128.size a ≤ S9088x128.size a)
theorem k0_off447_inb : ∀ (v2473 : BitVec 32) (k0_hw318 : k0_chk318 v2473), ∀ a, (k0_off447 v2473) a + S1x128.size a ≤ S9088x128.size a := fun v2473 k0_hw318 => k0_hw318

def k0_off448 (k0_t6 : Fin k0_t6_loop.trips) : Fin 2 → Nat :=
  let c5_1722 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1720 : BitVec 32 := 32#32
  let v2479 : BitVec 32 := Scalar.muli v1318 c32_i32_1720
  let c22_i32_1721 : BitVec 32 := 22#32
  let v2480 : BitVec 32 := Scalar.addi v2479 c22_i32_1721
  let v2481 : Index := Scalar.indexCast v2480
  ![5, v2481.toNat]
def k0_off449 (v2482 : BitVec 32) : Fin 2 → Nat :=
  let v2483 : Index := Scalar.indexCast v2482
  let c0_1723 : Index := 0#32
  ![v2483.toNat, 0]

def k0_chk319 (v2482 : BitVec 32) : Prop :=
  (∀ a, (k0_off449 v2482) a + S1x128.size a ≤ S9088x128.size a)
theorem k0_off449_inb : ∀ (v2482 : BitVec 32) (k0_hw319 : k0_chk319 v2482), ∀ a, (k0_off449 v2482) a + S1x128.size a ≤ S9088x128.size a := fun v2482 k0_hw319 => k0_hw319

def k0_off450 (k0_t6 : Fin k0_t6_loop.trips) : Fin 2 → Nat :=
  let c5_1728 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1726 : BitVec 32 := 32#32
  let v2488 : BitVec 32 := Scalar.muli v1318 c32_i32_1726
  let c23_i32_1727 : BitVec 32 := 23#32
  let v2489 : BitVec 32 := Scalar.addi v2488 c23_i32_1727
  let v2490 : Index := Scalar.indexCast v2489
  ![5, v2490.toNat]
def k0_off451 (v2491 : BitVec 32) : Fin 2 → Nat :=
  let v2492 : Index := Scalar.indexCast v2491
  let c0_1729 : Index := 0#32
  ![v2492.toNat, 0]

def k0_chk320 (v2491 : BitVec 32) : Prop :=
  (∀ a, (k0_off451 v2491) a + S1x128.size a ≤ S9088x128.size a)
theorem k0_off451_inb : ∀ (v2491 : BitVec 32) (k0_hw320 : k0_chk320 v2491), ∀ a, (k0_off451 v2491) a + S1x128.size a ≤ S9088x128.size a := fun v2491 k0_hw320 => k0_hw320

def k0_off452 (k0_t6 : Fin k0_t6_loop.trips) : Fin 2 → Nat :=
  let c5_1734 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1732 : BitVec 32 := 32#32
  let v2497 : BitVec 32 := Scalar.muli v1318 c32_i32_1732
  let c24_i32_1733 : BitVec 32 := 24#32
  let v2498 : BitVec 32 := Scalar.addi v2497 c24_i32_1733
  let v2499 : Index := Scalar.indexCast v2498
  ![5, v2499.toNat]
def k0_off453 (v2500 : BitVec 32) : Fin 2 → Nat :=
  let v2501 : Index := Scalar.indexCast v2500
  let c0_1735 : Index := 0#32
  ![v2501.toNat, 0]

def k0_chk321 (v2500 : BitVec 32) : Prop :=
  (∀ a, (k0_off453 v2500) a + S1x128.size a ≤ S9088x128.size a)
theorem k0_off453_inb : ∀ (v2500 : BitVec 32) (k0_hw321 : k0_chk321 v2500), ∀ a, (k0_off453 v2500) a + S1x128.size a ≤ S9088x128.size a := fun v2500 k0_hw321 => k0_hw321

def k0_off454 (k0_t6 : Fin k0_t6_loop.trips) : Fin 2 → Nat :=
  let c5_1740 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1738 : BitVec 32 := 32#32
  let v2506 : BitVec 32 := Scalar.muli v1318 c32_i32_1738
  let c25_i32_1739 : BitVec 32 := 25#32
  let v2507 : BitVec 32 := Scalar.addi v2506 c25_i32_1739
  let v2508 : Index := Scalar.indexCast v2507
  ![5, v2508.toNat]
def k0_off455 (v2509 : BitVec 32) : Fin 2 → Nat :=
  let v2510 : Index := Scalar.indexCast v2509
  let c0_1741 : Index := 0#32
  ![v2510.toNat, 0]

def k0_chk322 (v2509 : BitVec 32) : Prop :=
  (∀ a, (k0_off455 v2509) a + S1x128.size a ≤ S9088x128.size a)
theorem k0_off455_inb : ∀ (v2509 : BitVec 32) (k0_hw322 : k0_chk322 v2509), ∀ a, (k0_off455 v2509) a + S1x128.size a ≤ S9088x128.size a := fun v2509 k0_hw322 => k0_hw322

def k0_off456 (k0_t6 : Fin k0_t6_loop.trips) : Fin 2 → Nat :=
  let c5_1746 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1744 : BitVec 32 := 32#32
  let v2515 : BitVec 32 := Scalar.muli v1318 c32_i32_1744
  let c26_i32_1745 : BitVec 32 := 26#32
  let v2516 : BitVec 32 := Scalar.addi v2515 c26_i32_1745
  let v2517 : Index := Scalar.indexCast v2516
  ![5, v2517.toNat]
def k0_off457 (v2518 : BitVec 32) : Fin 2 → Nat :=
  let v2519 : Index := Scalar.indexCast v2518
  let c0_1747 : Index := 0#32
  ![v2519.toNat, 0]

def k0_chk323 (v2518 : BitVec 32) : Prop :=
  (∀ a, (k0_off457 v2518) a + S1x128.size a ≤ S9088x128.size a)
theorem k0_off457_inb : ∀ (v2518 : BitVec 32) (k0_hw323 : k0_chk323 v2518), ∀ a, (k0_off457 v2518) a + S1x128.size a ≤ S9088x128.size a := fun v2518 k0_hw323 => k0_hw323

def k0_off458 (k0_t6 : Fin k0_t6_loop.trips) : Fin 2 → Nat :=
  let c5_1752 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1750 : BitVec 32 := 32#32
  let v2524 : BitVec 32 := Scalar.muli v1318 c32_i32_1750
  let c27_i32_1751 : BitVec 32 := 27#32
  let v2525 : BitVec 32 := Scalar.addi v2524 c27_i32_1751
  let v2526 : Index := Scalar.indexCast v2525
  ![5, v2526.toNat]
def k0_off459 (v2527 : BitVec 32) : Fin 2 → Nat :=
  let v2528 : Index := Scalar.indexCast v2527
  let c0_1753 : Index := 0#32
  ![v2528.toNat, 0]

def k0_chk324 (v2527 : BitVec 32) : Prop :=
  (∀ a, (k0_off459 v2527) a + S1x128.size a ≤ S9088x128.size a)
theorem k0_off459_inb : ∀ (v2527 : BitVec 32) (k0_hw324 : k0_chk324 v2527), ∀ a, (k0_off459 v2527) a + S1x128.size a ≤ S9088x128.size a := fun v2527 k0_hw324 => k0_hw324

def k0_off460 (k0_t6 : Fin k0_t6_loop.trips) : Fin 2 → Nat :=
  let c5_1758 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1756 : BitVec 32 := 32#32
  let v2533 : BitVec 32 := Scalar.muli v1318 c32_i32_1756
  let c28_i32_1757 : BitVec 32 := 28#32
  let v2534 : BitVec 32 := Scalar.addi v2533 c28_i32_1757
  let v2535 : Index := Scalar.indexCast v2534
  ![5, v2535.toNat]
def k0_off461 (v2536 : BitVec 32) : Fin 2 → Nat :=
  let v2537 : Index := Scalar.indexCast v2536
  let c0_1759 : Index := 0#32
  ![v2537.toNat, 0]

def k0_chk325 (v2536 : BitVec 32) : Prop :=
  (∀ a, (k0_off461 v2536) a + S1x128.size a ≤ S9088x128.size a)
theorem k0_off461_inb : ∀ (v2536 : BitVec 32) (k0_hw325 : k0_chk325 v2536), ∀ a, (k0_off461 v2536) a + S1x128.size a ≤ S9088x128.size a := fun v2536 k0_hw325 => k0_hw325

def k0_off462 (k0_t6 : Fin k0_t6_loop.trips) : Fin 2 → Nat :=
  let c5_1764 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1762 : BitVec 32 := 32#32
  let v2542 : BitVec 32 := Scalar.muli v1318 c32_i32_1762
  let c29_i32_1763 : BitVec 32 := 29#32
  let v2543 : BitVec 32 := Scalar.addi v2542 c29_i32_1763
  let v2544 : Index := Scalar.indexCast v2543
  ![5, v2544.toNat]
def k0_off463 (v2545 : BitVec 32) : Fin 2 → Nat :=
  let v2546 : Index := Scalar.indexCast v2545
  let c0_1765 : Index := 0#32
  ![v2546.toNat, 0]

def k0_chk326 (v2545 : BitVec 32) : Prop :=
  (∀ a, (k0_off463 v2545) a + S1x128.size a ≤ S9088x128.size a)
theorem k0_off463_inb : ∀ (v2545 : BitVec 32) (k0_hw326 : k0_chk326 v2545), ∀ a, (k0_off463 v2545) a + S1x128.size a ≤ S9088x128.size a := fun v2545 k0_hw326 => k0_hw326

def k0_off464 (k0_t6 : Fin k0_t6_loop.trips) : Fin 2 → Nat :=
  let c5_1770 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1768 : BitVec 32 := 32#32
  let v2551 : BitVec 32 := Scalar.muli v1318 c32_i32_1768
  let c30_i32_1769 : BitVec 32 := 30#32
  let v2552 : BitVec 32 := Scalar.addi v2551 c30_i32_1769
  let v2553 : Index := Scalar.indexCast v2552
  ![5, v2553.toNat]
def k0_off465 (v2554 : BitVec 32) : Fin 2 → Nat :=
  let v2555 : Index := Scalar.indexCast v2554
  let c0_1771 : Index := 0#32
  ![v2555.toNat, 0]

def k0_chk327 (v2554 : BitVec 32) : Prop :=
  (∀ a, (k0_off465 v2554) a + S1x128.size a ≤ S9088x128.size a)
theorem k0_off465_inb : ∀ (v2554 : BitVec 32) (k0_hw327 : k0_chk327 v2554), ∀ a, (k0_off465 v2554) a + S1x128.size a ≤ S9088x128.size a := fun v2554 k0_hw327 => k0_hw327

def k0_off466 (k0_t6 : Fin k0_t6_loop.trips) : Fin 2 → Nat :=
  let c5_1776 : Index := 5#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1774 : BitVec 32 := 32#32
  let v2560 : BitVec 32 := Scalar.muli v1318 c32_i32_1774
  let c31_i32_1775 : BitVec 32 := 31#32
  let v2561 : BitVec 32 := Scalar.addi v2560 c31_i32_1775
  let v2562 : Index := Scalar.indexCast v2561
  ![5, v2562.toNat]
def k0_off467 (v2563 : BitVec 32) : Fin 2 → Nat :=
  let v2564 : Index := Scalar.indexCast v2563
  let c0_1777 : Index := 0#32
  ![v2564.toNat, 0]

def k0_chk328 (v2563 : BitVec 32) : Prop :=
  (∀ a, (k0_off467 v2563) a + S1x128.size a ≤ S9088x128.size a)
theorem k0_off467_inb : ∀ (v2563 : BitVec 32) (k0_hw328 : k0_chk328 v2563), ∀ a, (k0_off467 v2563) a + S1x128.size a ≤ S9088x128.size a := fun v2563 k0_hw328 => k0_hw328

def k0_off468 (k0_t6 : Fin k0_t6_loop.trips) : Fin 2 → Nat :=
  let c6_1790 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1788 : BitVec 32 := 32#32
  let v2586 : BitVec 32 := Scalar.muli v1318 c32_i32_1788
  let c0_i32_1789 : BitVec 32 := 0#32
  let v2587 : BitVec 32 := Scalar.addi v2586 c0_i32_1789
  let v2588 : Index := Scalar.indexCast v2587
  ![6, v2588.toNat]
def k0_off469 (v2589 : BitVec 32) : Fin 2 → Nat :=
  let v2590 : Index := Scalar.indexCast v2589
  let c0_1791 : Index := 0#32
  ![v2590.toNat, 0]

def k0_chk329 (v2589 : BitVec 32) : Prop :=
  (∀ a, (k0_off469 v2589) a + S1x128.size a ≤ S9088x128.size a)
theorem k0_off469_inb : ∀ (v2589 : BitVec 32) (k0_hw329 : k0_chk329 v2589), ∀ a, (k0_off469 v2589) a + S1x128.size a ≤ S9088x128.size a := fun v2589 k0_hw329 => k0_hw329

def k0_off470 (k0_t6 : Fin k0_t6_loop.trips) : Fin 2 → Nat :=
  let c6_1796 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1794 : BitVec 32 := 32#32
  let v2595 : BitVec 32 := Scalar.muli v1318 c32_i32_1794
  let c1_i32_1795 : BitVec 32 := 1#32
  let v2596 : BitVec 32 := Scalar.addi v2595 c1_i32_1795
  let v2597 : Index := Scalar.indexCast v2596
  ![6, v2597.toNat]
def k0_off471 (v2598 : BitVec 32) : Fin 2 → Nat :=
  let v2599 : Index := Scalar.indexCast v2598
  let c0_1797 : Index := 0#32
  ![v2599.toNat, 0]

def k0_chk330 (v2598 : BitVec 32) : Prop :=
  (∀ a, (k0_off471 v2598) a + S1x128.size a ≤ S9088x128.size a)
theorem k0_off471_inb : ∀ (v2598 : BitVec 32) (k0_hw330 : k0_chk330 v2598), ∀ a, (k0_off471 v2598) a + S1x128.size a ≤ S9088x128.size a := fun v2598 k0_hw330 => k0_hw330

def k0_off472 (k0_t6 : Fin k0_t6_loop.trips) : Fin 2 → Nat :=
  let c6_1802 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1800 : BitVec 32 := 32#32
  let v2604 : BitVec 32 := Scalar.muli v1318 c32_i32_1800
  let c2_i32_1801 : BitVec 32 := 2#32
  let v2605 : BitVec 32 := Scalar.addi v2604 c2_i32_1801
  let v2606 : Index := Scalar.indexCast v2605
  ![6, v2606.toNat]
def k0_off473 (v2607 : BitVec 32) : Fin 2 → Nat :=
  let v2608 : Index := Scalar.indexCast v2607
  let c0_1803 : Index := 0#32
  ![v2608.toNat, 0]

def k0_chk331 (v2607 : BitVec 32) : Prop :=
  (∀ a, (k0_off473 v2607) a + S1x128.size a ≤ S9088x128.size a)
theorem k0_off473_inb : ∀ (v2607 : BitVec 32) (k0_hw331 : k0_chk331 v2607), ∀ a, (k0_off473 v2607) a + S1x128.size a ≤ S9088x128.size a := fun v2607 k0_hw331 => k0_hw331

def k0_off474 (k0_t6 : Fin k0_t6_loop.trips) : Fin 2 → Nat :=
  let c6_1808 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1806 : BitVec 32 := 32#32
  let v2613 : BitVec 32 := Scalar.muli v1318 c32_i32_1806
  let c3_i32_1807 : BitVec 32 := 3#32
  let v2614 : BitVec 32 := Scalar.addi v2613 c3_i32_1807
  let v2615 : Index := Scalar.indexCast v2614
  ![6, v2615.toNat]
def k0_off475 (v2616 : BitVec 32) : Fin 2 → Nat :=
  let v2617 : Index := Scalar.indexCast v2616
  let c0_1809 : Index := 0#32
  ![v2617.toNat, 0]

def k0_chk332 (v2616 : BitVec 32) : Prop :=
  (∀ a, (k0_off475 v2616) a + S1x128.size a ≤ S9088x128.size a)
theorem k0_off475_inb : ∀ (v2616 : BitVec 32) (k0_hw332 : k0_chk332 v2616), ∀ a, (k0_off475 v2616) a + S1x128.size a ≤ S9088x128.size a := fun v2616 k0_hw332 => k0_hw332

def k0_off476 (k0_t6 : Fin k0_t6_loop.trips) : Fin 2 → Nat :=
  let c6_1814 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1812 : BitVec 32 := 32#32
  let v2622 : BitVec 32 := Scalar.muli v1318 c32_i32_1812
  let c4_i32_1813 : BitVec 32 := 4#32
  let v2623 : BitVec 32 := Scalar.addi v2622 c4_i32_1813
  let v2624 : Index := Scalar.indexCast v2623
  ![6, v2624.toNat]
def k0_off477 (v2625 : BitVec 32) : Fin 2 → Nat :=
  let v2626 : Index := Scalar.indexCast v2625
  let c0_1815 : Index := 0#32
  ![v2626.toNat, 0]

def k0_chk333 (v2625 : BitVec 32) : Prop :=
  (∀ a, (k0_off477 v2625) a + S1x128.size a ≤ S9088x128.size a)
theorem k0_off477_inb : ∀ (v2625 : BitVec 32) (k0_hw333 : k0_chk333 v2625), ∀ a, (k0_off477 v2625) a + S1x128.size a ≤ S9088x128.size a := fun v2625 k0_hw333 => k0_hw333

def k0_off478 (k0_t6 : Fin k0_t6_loop.trips) : Fin 2 → Nat :=
  let c6_1820 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1818 : BitVec 32 := 32#32
  let v2631 : BitVec 32 := Scalar.muli v1318 c32_i32_1818
  let c5_i32_1819 : BitVec 32 := 5#32
  let v2632 : BitVec 32 := Scalar.addi v2631 c5_i32_1819
  let v2633 : Index := Scalar.indexCast v2632
  ![6, v2633.toNat]
def k0_off479 (v2634 : BitVec 32) : Fin 2 → Nat :=
  let v2635 : Index := Scalar.indexCast v2634
  let c0_1821 : Index := 0#32
  ![v2635.toNat, 0]

def k0_chk334 (v2634 : BitVec 32) : Prop :=
  (∀ a, (k0_off479 v2634) a + S1x128.size a ≤ S9088x128.size a)
theorem k0_off479_inb : ∀ (v2634 : BitVec 32) (k0_hw334 : k0_chk334 v2634), ∀ a, (k0_off479 v2634) a + S1x128.size a ≤ S9088x128.size a := fun v2634 k0_hw334 => k0_hw334

def k0_off480 (k0_t6 : Fin k0_t6_loop.trips) : Fin 2 → Nat :=
  let c6_1826 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1824 : BitVec 32 := 32#32
  let v2640 : BitVec 32 := Scalar.muli v1318 c32_i32_1824
  let c6_i32_1825 : BitVec 32 := 6#32
  let v2641 : BitVec 32 := Scalar.addi v2640 c6_i32_1825
  let v2642 : Index := Scalar.indexCast v2641
  ![6, v2642.toNat]
def k0_off481 (v2643 : BitVec 32) : Fin 2 → Nat :=
  let v2644 : Index := Scalar.indexCast v2643
  let c0_1827 : Index := 0#32
  ![v2644.toNat, 0]

def k0_chk335 (v2643 : BitVec 32) : Prop :=
  (∀ a, (k0_off481 v2643) a + S1x128.size a ≤ S9088x128.size a)
theorem k0_off481_inb : ∀ (v2643 : BitVec 32) (k0_hw335 : k0_chk335 v2643), ∀ a, (k0_off481 v2643) a + S1x128.size a ≤ S9088x128.size a := fun v2643 k0_hw335 => k0_hw335

def k0_off482 (k0_t6 : Fin k0_t6_loop.trips) : Fin 2 → Nat :=
  let c6_1832 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1830 : BitVec 32 := 32#32
  let v2649 : BitVec 32 := Scalar.muli v1318 c32_i32_1830
  let c7_i32_1831 : BitVec 32 := 7#32
  let v2650 : BitVec 32 := Scalar.addi v2649 c7_i32_1831
  let v2651 : Index := Scalar.indexCast v2650
  ![6, v2651.toNat]
def k0_off483 (v2652 : BitVec 32) : Fin 2 → Nat :=
  let v2653 : Index := Scalar.indexCast v2652
  let c0_1833 : Index := 0#32
  ![v2653.toNat, 0]

def k0_chk336 (v2652 : BitVec 32) : Prop :=
  (∀ a, (k0_off483 v2652) a + S1x128.size a ≤ S9088x128.size a)
theorem k0_off483_inb : ∀ (v2652 : BitVec 32) (k0_hw336 : k0_chk336 v2652), ∀ a, (k0_off483 v2652) a + S1x128.size a ≤ S9088x128.size a := fun v2652 k0_hw336 => k0_hw336

def k0_off484 (k0_t6 : Fin k0_t6_loop.trips) : Fin 2 → Nat :=
  let c6_1838 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1836 : BitVec 32 := 32#32
  let v2658 : BitVec 32 := Scalar.muli v1318 c32_i32_1836
  let c8_i32_1837 : BitVec 32 := 8#32
  let v2659 : BitVec 32 := Scalar.addi v2658 c8_i32_1837
  let v2660 : Index := Scalar.indexCast v2659
  ![6, v2660.toNat]
def k0_off485 (v2661 : BitVec 32) : Fin 2 → Nat :=
  let v2662 : Index := Scalar.indexCast v2661
  let c0_1839 : Index := 0#32
  ![v2662.toNat, 0]

def k0_chk337 (v2661 : BitVec 32) : Prop :=
  (∀ a, (k0_off485 v2661) a + S1x128.size a ≤ S9088x128.size a)
theorem k0_off485_inb : ∀ (v2661 : BitVec 32) (k0_hw337 : k0_chk337 v2661), ∀ a, (k0_off485 v2661) a + S1x128.size a ≤ S9088x128.size a := fun v2661 k0_hw337 => k0_hw337

def k0_off486 (k0_t6 : Fin k0_t6_loop.trips) : Fin 2 → Nat :=
  let c6_1844 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1842 : BitVec 32 := 32#32
  let v2667 : BitVec 32 := Scalar.muli v1318 c32_i32_1842
  let c9_i32_1843 : BitVec 32 := 9#32
  let v2668 : BitVec 32 := Scalar.addi v2667 c9_i32_1843
  let v2669 : Index := Scalar.indexCast v2668
  ![6, v2669.toNat]
def k0_off487 (v2670 : BitVec 32) : Fin 2 → Nat :=
  let v2671 : Index := Scalar.indexCast v2670
  let c0_1845 : Index := 0#32
  ![v2671.toNat, 0]

def k0_chk338 (v2670 : BitVec 32) : Prop :=
  (∀ a, (k0_off487 v2670) a + S1x128.size a ≤ S9088x128.size a)
theorem k0_off487_inb : ∀ (v2670 : BitVec 32) (k0_hw338 : k0_chk338 v2670), ∀ a, (k0_off487 v2670) a + S1x128.size a ≤ S9088x128.size a := fun v2670 k0_hw338 => k0_hw338

def k0_off488 (k0_t6 : Fin k0_t6_loop.trips) : Fin 2 → Nat :=
  let c6_1850 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1848 : BitVec 32 := 32#32
  let v2676 : BitVec 32 := Scalar.muli v1318 c32_i32_1848
  let c10_i32_1849 : BitVec 32 := 10#32
  let v2677 : BitVec 32 := Scalar.addi v2676 c10_i32_1849
  let v2678 : Index := Scalar.indexCast v2677
  ![6, v2678.toNat]
def k0_off489 (v2679 : BitVec 32) : Fin 2 → Nat :=
  let v2680 : Index := Scalar.indexCast v2679
  let c0_1851 : Index := 0#32
  ![v2680.toNat, 0]

def k0_chk339 (v2679 : BitVec 32) : Prop :=
  (∀ a, (k0_off489 v2679) a + S1x128.size a ≤ S9088x128.size a)
theorem k0_off489_inb : ∀ (v2679 : BitVec 32) (k0_hw339 : k0_chk339 v2679), ∀ a, (k0_off489 v2679) a + S1x128.size a ≤ S9088x128.size a := fun v2679 k0_hw339 => k0_hw339

def k0_off490 (k0_t6 : Fin k0_t6_loop.trips) : Fin 2 → Nat :=
  let c6_1856 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1854 : BitVec 32 := 32#32
  let v2685 : BitVec 32 := Scalar.muli v1318 c32_i32_1854
  let c11_i32_1855 : BitVec 32 := 11#32
  let v2686 : BitVec 32 := Scalar.addi v2685 c11_i32_1855
  let v2687 : Index := Scalar.indexCast v2686
  ![6, v2687.toNat]
def k0_off491 (v2688 : BitVec 32) : Fin 2 → Nat :=
  let v2689 : Index := Scalar.indexCast v2688
  let c0_1857 : Index := 0#32
  ![v2689.toNat, 0]

def k0_chk340 (v2688 : BitVec 32) : Prop :=
  (∀ a, (k0_off491 v2688) a + S1x128.size a ≤ S9088x128.size a)
theorem k0_off491_inb : ∀ (v2688 : BitVec 32) (k0_hw340 : k0_chk340 v2688), ∀ a, (k0_off491 v2688) a + S1x128.size a ≤ S9088x128.size a := fun v2688 k0_hw340 => k0_hw340

def k0_off492 (k0_t6 : Fin k0_t6_loop.trips) : Fin 2 → Nat :=
  let c6_1862 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1860 : BitVec 32 := 32#32
  let v2694 : BitVec 32 := Scalar.muli v1318 c32_i32_1860
  let c12_i32_1861 : BitVec 32 := 12#32
  let v2695 : BitVec 32 := Scalar.addi v2694 c12_i32_1861
  let v2696 : Index := Scalar.indexCast v2695
  ![6, v2696.toNat]
def k0_off493 (v2697 : BitVec 32) : Fin 2 → Nat :=
  let v2698 : Index := Scalar.indexCast v2697
  let c0_1863 : Index := 0#32
  ![v2698.toNat, 0]

def k0_chk341 (v2697 : BitVec 32) : Prop :=
  (∀ a, (k0_off493 v2697) a + S1x128.size a ≤ S9088x128.size a)
theorem k0_off493_inb : ∀ (v2697 : BitVec 32) (k0_hw341 : k0_chk341 v2697), ∀ a, (k0_off493 v2697) a + S1x128.size a ≤ S9088x128.size a := fun v2697 k0_hw341 => k0_hw341

def k0_off494 (k0_t6 : Fin k0_t6_loop.trips) : Fin 2 → Nat :=
  let c6_1868 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1866 : BitVec 32 := 32#32
  let v2703 : BitVec 32 := Scalar.muli v1318 c32_i32_1866
  let c13_i32_1867 : BitVec 32 := 13#32
  let v2704 : BitVec 32 := Scalar.addi v2703 c13_i32_1867
  let v2705 : Index := Scalar.indexCast v2704
  ![6, v2705.toNat]
def k0_off495 (v2706 : BitVec 32) : Fin 2 → Nat :=
  let v2707 : Index := Scalar.indexCast v2706
  let c0_1869 : Index := 0#32
  ![v2707.toNat, 0]

def k0_chk342 (v2706 : BitVec 32) : Prop :=
  (∀ a, (k0_off495 v2706) a + S1x128.size a ≤ S9088x128.size a)
theorem k0_off495_inb : ∀ (v2706 : BitVec 32) (k0_hw342 : k0_chk342 v2706), ∀ a, (k0_off495 v2706) a + S1x128.size a ≤ S9088x128.size a := fun v2706 k0_hw342 => k0_hw342

def k0_off496 (k0_t6 : Fin k0_t6_loop.trips) : Fin 2 → Nat :=
  let c6_1874 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1872 : BitVec 32 := 32#32
  let v2712 : BitVec 32 := Scalar.muli v1318 c32_i32_1872
  let c14_i32_1873 : BitVec 32 := 14#32
  let v2713 : BitVec 32 := Scalar.addi v2712 c14_i32_1873
  let v2714 : Index := Scalar.indexCast v2713
  ![6, v2714.toNat]
def k0_off497 (v2715 : BitVec 32) : Fin 2 → Nat :=
  let v2716 : Index := Scalar.indexCast v2715
  let c0_1875 : Index := 0#32
  ![v2716.toNat, 0]

def k0_chk343 (v2715 : BitVec 32) : Prop :=
  (∀ a, (k0_off497 v2715) a + S1x128.size a ≤ S9088x128.size a)
theorem k0_off497_inb : ∀ (v2715 : BitVec 32) (k0_hw343 : k0_chk343 v2715), ∀ a, (k0_off497 v2715) a + S1x128.size a ≤ S9088x128.size a := fun v2715 k0_hw343 => k0_hw343

def k0_off498 (k0_t6 : Fin k0_t6_loop.trips) : Fin 2 → Nat :=
  let c6_1880 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1878 : BitVec 32 := 32#32
  let v2721 : BitVec 32 := Scalar.muli v1318 c32_i32_1878
  let c15_i32_1879 : BitVec 32 := 15#32
  let v2722 : BitVec 32 := Scalar.addi v2721 c15_i32_1879
  let v2723 : Index := Scalar.indexCast v2722
  ![6, v2723.toNat]
def k0_off499 (v2724 : BitVec 32) : Fin 2 → Nat :=
  let v2725 : Index := Scalar.indexCast v2724
  let c0_1881 : Index := 0#32
  ![v2725.toNat, 0]

def k0_chk344 (v2724 : BitVec 32) : Prop :=
  (∀ a, (k0_off499 v2724) a + S1x128.size a ≤ S9088x128.size a)
theorem k0_off499_inb : ∀ (v2724 : BitVec 32) (k0_hw344 : k0_chk344 v2724), ∀ a, (k0_off499 v2724) a + S1x128.size a ≤ S9088x128.size a := fun v2724 k0_hw344 => k0_hw344

def k0_off500 (k0_t6 : Fin k0_t6_loop.trips) : Fin 2 → Nat :=
  let c6_1886 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1884 : BitVec 32 := 32#32
  let v2730 : BitVec 32 := Scalar.muli v1318 c32_i32_1884
  let c16_i32_1885 : BitVec 32 := 16#32
  let v2731 : BitVec 32 := Scalar.addi v2730 c16_i32_1885
  let v2732 : Index := Scalar.indexCast v2731
  ![6, v2732.toNat]
def k0_off501 (v2733 : BitVec 32) : Fin 2 → Nat :=
  let v2734 : Index := Scalar.indexCast v2733
  let c0_1887 : Index := 0#32
  ![v2734.toNat, 0]

def k0_chk345 (v2733 : BitVec 32) : Prop :=
  (∀ a, (k0_off501 v2733) a + S1x128.size a ≤ S9088x128.size a)
theorem k0_off501_inb : ∀ (v2733 : BitVec 32) (k0_hw345 : k0_chk345 v2733), ∀ a, (k0_off501 v2733) a + S1x128.size a ≤ S9088x128.size a := fun v2733 k0_hw345 => k0_hw345

def k0_off502 (k0_t6 : Fin k0_t6_loop.trips) : Fin 2 → Nat :=
  let c6_1892 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1890 : BitVec 32 := 32#32
  let v2739 : BitVec 32 := Scalar.muli v1318 c32_i32_1890
  let c17_i32_1891 : BitVec 32 := 17#32
  let v2740 : BitVec 32 := Scalar.addi v2739 c17_i32_1891
  let v2741 : Index := Scalar.indexCast v2740
  ![6, v2741.toNat]
def k0_off503 (v2742 : BitVec 32) : Fin 2 → Nat :=
  let v2743 : Index := Scalar.indexCast v2742
  let c0_1893 : Index := 0#32
  ![v2743.toNat, 0]

def k0_chk346 (v2742 : BitVec 32) : Prop :=
  (∀ a, (k0_off503 v2742) a + S1x128.size a ≤ S9088x128.size a)
theorem k0_off503_inb : ∀ (v2742 : BitVec 32) (k0_hw346 : k0_chk346 v2742), ∀ a, (k0_off503 v2742) a + S1x128.size a ≤ S9088x128.size a := fun v2742 k0_hw346 => k0_hw346

def k0_off504 (k0_t6 : Fin k0_t6_loop.trips) : Fin 2 → Nat :=
  let c6_1898 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1896 : BitVec 32 := 32#32
  let v2748 : BitVec 32 := Scalar.muli v1318 c32_i32_1896
  let c18_i32_1897 : BitVec 32 := 18#32
  let v2749 : BitVec 32 := Scalar.addi v2748 c18_i32_1897
  let v2750 : Index := Scalar.indexCast v2749
  ![6, v2750.toNat]
def k0_off505 (v2751 : BitVec 32) : Fin 2 → Nat :=
  let v2752 : Index := Scalar.indexCast v2751
  let c0_1899 : Index := 0#32
  ![v2752.toNat, 0]

def k0_chk347 (v2751 : BitVec 32) : Prop :=
  (∀ a, (k0_off505 v2751) a + S1x128.size a ≤ S9088x128.size a)
theorem k0_off505_inb : ∀ (v2751 : BitVec 32) (k0_hw347 : k0_chk347 v2751), ∀ a, (k0_off505 v2751) a + S1x128.size a ≤ S9088x128.size a := fun v2751 k0_hw347 => k0_hw347

def k0_off506 (k0_t6 : Fin k0_t6_loop.trips) : Fin 2 → Nat :=
  let c6_1904 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1902 : BitVec 32 := 32#32
  let v2757 : BitVec 32 := Scalar.muli v1318 c32_i32_1902
  let c19_i32_1903 : BitVec 32 := 19#32
  let v2758 : BitVec 32 := Scalar.addi v2757 c19_i32_1903
  let v2759 : Index := Scalar.indexCast v2758
  ![6, v2759.toNat]
def k0_off507 (v2760 : BitVec 32) : Fin 2 → Nat :=
  let v2761 : Index := Scalar.indexCast v2760
  let c0_1905 : Index := 0#32
  ![v2761.toNat, 0]

def k0_chk348 (v2760 : BitVec 32) : Prop :=
  (∀ a, (k0_off507 v2760) a + S1x128.size a ≤ S9088x128.size a)
theorem k0_off507_inb : ∀ (v2760 : BitVec 32) (k0_hw348 : k0_chk348 v2760), ∀ a, (k0_off507 v2760) a + S1x128.size a ≤ S9088x128.size a := fun v2760 k0_hw348 => k0_hw348

def k0_off508 (k0_t6 : Fin k0_t6_loop.trips) : Fin 2 → Nat :=
  let c6_1910 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1908 : BitVec 32 := 32#32
  let v2766 : BitVec 32 := Scalar.muli v1318 c32_i32_1908
  let c20_i32_1909 : BitVec 32 := 20#32
  let v2767 : BitVec 32 := Scalar.addi v2766 c20_i32_1909
  let v2768 : Index := Scalar.indexCast v2767
  ![6, v2768.toNat]
def k0_off509 (v2769 : BitVec 32) : Fin 2 → Nat :=
  let v2770 : Index := Scalar.indexCast v2769
  let c0_1911 : Index := 0#32
  ![v2770.toNat, 0]

def k0_chk349 (v2769 : BitVec 32) : Prop :=
  (∀ a, (k0_off509 v2769) a + S1x128.size a ≤ S9088x128.size a)
theorem k0_off509_inb : ∀ (v2769 : BitVec 32) (k0_hw349 : k0_chk349 v2769), ∀ a, (k0_off509 v2769) a + S1x128.size a ≤ S9088x128.size a := fun v2769 k0_hw349 => k0_hw349

def k0_off510 (k0_t6 : Fin k0_t6_loop.trips) : Fin 2 → Nat :=
  let c6_1916 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1914 : BitVec 32 := 32#32
  let v2775 : BitVec 32 := Scalar.muli v1318 c32_i32_1914
  let c21_i32_1915 : BitVec 32 := 21#32
  let v2776 : BitVec 32 := Scalar.addi v2775 c21_i32_1915
  let v2777 : Index := Scalar.indexCast v2776
  ![6, v2777.toNat]
def k0_off511 (v2778 : BitVec 32) : Fin 2 → Nat :=
  let v2779 : Index := Scalar.indexCast v2778
  let c0_1917 : Index := 0#32
  ![v2779.toNat, 0]

def k0_chk350 (v2778 : BitVec 32) : Prop :=
  (∀ a, (k0_off511 v2778) a + S1x128.size a ≤ S9088x128.size a)
theorem k0_off511_inb : ∀ (v2778 : BitVec 32) (k0_hw350 : k0_chk350 v2778), ∀ a, (k0_off511 v2778) a + S1x128.size a ≤ S9088x128.size a := fun v2778 k0_hw350 => k0_hw350

def k0_off512 (k0_t6 : Fin k0_t6_loop.trips) : Fin 2 → Nat :=
  let c6_1922 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1920 : BitVec 32 := 32#32
  let v2784 : BitVec 32 := Scalar.muli v1318 c32_i32_1920
  let c22_i32_1921 : BitVec 32 := 22#32
  let v2785 : BitVec 32 := Scalar.addi v2784 c22_i32_1921
  let v2786 : Index := Scalar.indexCast v2785
  ![6, v2786.toNat]
def k0_off513 (v2787 : BitVec 32) : Fin 2 → Nat :=
  let v2788 : Index := Scalar.indexCast v2787
  let c0_1923 : Index := 0#32
  ![v2788.toNat, 0]

def k0_chk351 (v2787 : BitVec 32) : Prop :=
  (∀ a, (k0_off513 v2787) a + S1x128.size a ≤ S9088x128.size a)
theorem k0_off513_inb : ∀ (v2787 : BitVec 32) (k0_hw351 : k0_chk351 v2787), ∀ a, (k0_off513 v2787) a + S1x128.size a ≤ S9088x128.size a := fun v2787 k0_hw351 => k0_hw351

def k0_off514 (k0_t6 : Fin k0_t6_loop.trips) : Fin 2 → Nat :=
  let c6_1928 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1926 : BitVec 32 := 32#32
  let v2793 : BitVec 32 := Scalar.muli v1318 c32_i32_1926
  let c23_i32_1927 : BitVec 32 := 23#32
  let v2794 : BitVec 32 := Scalar.addi v2793 c23_i32_1927
  let v2795 : Index := Scalar.indexCast v2794
  ![6, v2795.toNat]
def k0_off515 (v2796 : BitVec 32) : Fin 2 → Nat :=
  let v2797 : Index := Scalar.indexCast v2796
  let c0_1929 : Index := 0#32
  ![v2797.toNat, 0]

def k0_chk352 (v2796 : BitVec 32) : Prop :=
  (∀ a, (k0_off515 v2796) a + S1x128.size a ≤ S9088x128.size a)
theorem k0_off515_inb : ∀ (v2796 : BitVec 32) (k0_hw352 : k0_chk352 v2796), ∀ a, (k0_off515 v2796) a + S1x128.size a ≤ S9088x128.size a := fun v2796 k0_hw352 => k0_hw352

def k0_off516 (k0_t6 : Fin k0_t6_loop.trips) : Fin 2 → Nat :=
  let c6_1934 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1932 : BitVec 32 := 32#32
  let v2802 : BitVec 32 := Scalar.muli v1318 c32_i32_1932
  let c24_i32_1933 : BitVec 32 := 24#32
  let v2803 : BitVec 32 := Scalar.addi v2802 c24_i32_1933
  let v2804 : Index := Scalar.indexCast v2803
  ![6, v2804.toNat]
def k0_off517 (v2805 : BitVec 32) : Fin 2 → Nat :=
  let v2806 : Index := Scalar.indexCast v2805
  let c0_1935 : Index := 0#32
  ![v2806.toNat, 0]

def k0_chk353 (v2805 : BitVec 32) : Prop :=
  (∀ a, (k0_off517 v2805) a + S1x128.size a ≤ S9088x128.size a)
theorem k0_off517_inb : ∀ (v2805 : BitVec 32) (k0_hw353 : k0_chk353 v2805), ∀ a, (k0_off517 v2805) a + S1x128.size a ≤ S9088x128.size a := fun v2805 k0_hw353 => k0_hw353

def k0_off518 (k0_t6 : Fin k0_t6_loop.trips) : Fin 2 → Nat :=
  let c6_1940 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1938 : BitVec 32 := 32#32
  let v2811 : BitVec 32 := Scalar.muli v1318 c32_i32_1938
  let c25_i32_1939 : BitVec 32 := 25#32
  let v2812 : BitVec 32 := Scalar.addi v2811 c25_i32_1939
  let v2813 : Index := Scalar.indexCast v2812
  ![6, v2813.toNat]
def k0_off519 (v2814 : BitVec 32) : Fin 2 → Nat :=
  let v2815 : Index := Scalar.indexCast v2814
  let c0_1941 : Index := 0#32
  ![v2815.toNat, 0]

def k0_chk354 (v2814 : BitVec 32) : Prop :=
  (∀ a, (k0_off519 v2814) a + S1x128.size a ≤ S9088x128.size a)
theorem k0_off519_inb : ∀ (v2814 : BitVec 32) (k0_hw354 : k0_chk354 v2814), ∀ a, (k0_off519 v2814) a + S1x128.size a ≤ S9088x128.size a := fun v2814 k0_hw354 => k0_hw354

def k0_off520 (k0_t6 : Fin k0_t6_loop.trips) : Fin 2 → Nat :=
  let c6_1946 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1944 : BitVec 32 := 32#32
  let v2820 : BitVec 32 := Scalar.muli v1318 c32_i32_1944
  let c26_i32_1945 : BitVec 32 := 26#32
  let v2821 : BitVec 32 := Scalar.addi v2820 c26_i32_1945
  let v2822 : Index := Scalar.indexCast v2821
  ![6, v2822.toNat]
def k0_off521 (v2823 : BitVec 32) : Fin 2 → Nat :=
  let v2824 : Index := Scalar.indexCast v2823
  let c0_1947 : Index := 0#32
  ![v2824.toNat, 0]

def k0_chk355 (v2823 : BitVec 32) : Prop :=
  (∀ a, (k0_off521 v2823) a + S1x128.size a ≤ S9088x128.size a)
theorem k0_off521_inb : ∀ (v2823 : BitVec 32) (k0_hw355 : k0_chk355 v2823), ∀ a, (k0_off521 v2823) a + S1x128.size a ≤ S9088x128.size a := fun v2823 k0_hw355 => k0_hw355

def k0_off522 (k0_t6 : Fin k0_t6_loop.trips) : Fin 2 → Nat :=
  let c6_1952 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1950 : BitVec 32 := 32#32
  let v2829 : BitVec 32 := Scalar.muli v1318 c32_i32_1950
  let c27_i32_1951 : BitVec 32 := 27#32
  let v2830 : BitVec 32 := Scalar.addi v2829 c27_i32_1951
  let v2831 : Index := Scalar.indexCast v2830
  ![6, v2831.toNat]
def k0_off523 (v2832 : BitVec 32) : Fin 2 → Nat :=
  let v2833 : Index := Scalar.indexCast v2832
  let c0_1953 : Index := 0#32
  ![v2833.toNat, 0]

def k0_chk356 (v2832 : BitVec 32) : Prop :=
  (∀ a, (k0_off523 v2832) a + S1x128.size a ≤ S9088x128.size a)
theorem k0_off523_inb : ∀ (v2832 : BitVec 32) (k0_hw356 : k0_chk356 v2832), ∀ a, (k0_off523 v2832) a + S1x128.size a ≤ S9088x128.size a := fun v2832 k0_hw356 => k0_hw356

def k0_off524 (k0_t6 : Fin k0_t6_loop.trips) : Fin 2 → Nat :=
  let c6_1958 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1956 : BitVec 32 := 32#32
  let v2838 : BitVec 32 := Scalar.muli v1318 c32_i32_1956
  let c28_i32_1957 : BitVec 32 := 28#32
  let v2839 : BitVec 32 := Scalar.addi v2838 c28_i32_1957
  let v2840 : Index := Scalar.indexCast v2839
  ![6, v2840.toNat]
def k0_off525 (v2841 : BitVec 32) : Fin 2 → Nat :=
  let v2842 : Index := Scalar.indexCast v2841
  let c0_1959 : Index := 0#32
  ![v2842.toNat, 0]

def k0_chk357 (v2841 : BitVec 32) : Prop :=
  (∀ a, (k0_off525 v2841) a + S1x128.size a ≤ S9088x128.size a)
theorem k0_off525_inb : ∀ (v2841 : BitVec 32) (k0_hw357 : k0_chk357 v2841), ∀ a, (k0_off525 v2841) a + S1x128.size a ≤ S9088x128.size a := fun v2841 k0_hw357 => k0_hw357

def k0_off526 (k0_t6 : Fin k0_t6_loop.trips) : Fin 2 → Nat :=
  let c6_1964 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1962 : BitVec 32 := 32#32
  let v2847 : BitVec 32 := Scalar.muli v1318 c32_i32_1962
  let c29_i32_1963 : BitVec 32 := 29#32
  let v2848 : BitVec 32 := Scalar.addi v2847 c29_i32_1963
  let v2849 : Index := Scalar.indexCast v2848
  ![6, v2849.toNat]
def k0_off527 (v2850 : BitVec 32) : Fin 2 → Nat :=
  let v2851 : Index := Scalar.indexCast v2850
  let c0_1965 : Index := 0#32
  ![v2851.toNat, 0]

def k0_chk358 (v2850 : BitVec 32) : Prop :=
  (∀ a, (k0_off527 v2850) a + S1x128.size a ≤ S9088x128.size a)
theorem k0_off527_inb : ∀ (v2850 : BitVec 32) (k0_hw358 : k0_chk358 v2850), ∀ a, (k0_off527 v2850) a + S1x128.size a ≤ S9088x128.size a := fun v2850 k0_hw358 => k0_hw358

def k0_off528 (k0_t6 : Fin k0_t6_loop.trips) : Fin 2 → Nat :=
  let c6_1970 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1968 : BitVec 32 := 32#32
  let v2856 : BitVec 32 := Scalar.muli v1318 c32_i32_1968
  let c30_i32_1969 : BitVec 32 := 30#32
  let v2857 : BitVec 32 := Scalar.addi v2856 c30_i32_1969
  let v2858 : Index := Scalar.indexCast v2857
  ![6, v2858.toNat]
def k0_off529 (v2859 : BitVec 32) : Fin 2 → Nat :=
  let v2860 : Index := Scalar.indexCast v2859
  let c0_1971 : Index := 0#32
  ![v2860.toNat, 0]

def k0_chk359 (v2859 : BitVec 32) : Prop :=
  (∀ a, (k0_off529 v2859) a + S1x128.size a ≤ S9088x128.size a)
theorem k0_off529_inb : ∀ (v2859 : BitVec 32) (k0_hw359 : k0_chk359 v2859), ∀ a, (k0_off529 v2859) a + S1x128.size a ≤ S9088x128.size a := fun v2859 k0_hw359 => k0_hw359

def k0_off530 (k0_t6 : Fin k0_t6_loop.trips) : Fin 2 → Nat :=
  let c6_1976 : Index := 6#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1974 : BitVec 32 := 32#32
  let v2865 : BitVec 32 := Scalar.muli v1318 c32_i32_1974
  let c31_i32_1975 : BitVec 32 := 31#32
  let v2866 : BitVec 32 := Scalar.addi v2865 c31_i32_1975
  let v2867 : Index := Scalar.indexCast v2866
  ![6, v2867.toNat]
def k0_off531 (v2868 : BitVec 32) : Fin 2 → Nat :=
  let v2869 : Index := Scalar.indexCast v2868
  let c0_1977 : Index := 0#32
  ![v2869.toNat, 0]

def k0_chk360 (v2868 : BitVec 32) : Prop :=
  (∀ a, (k0_off531 v2868) a + S1x128.size a ≤ S9088x128.size a)
theorem k0_off531_inb : ∀ (v2868 : BitVec 32) (k0_hw360 : k0_chk360 v2868), ∀ a, (k0_off531 v2868) a + S1x128.size a ≤ S9088x128.size a := fun v2868 k0_hw360 => k0_hw360

def k0_off532 (k0_t6 : Fin k0_t6_loop.trips) : Fin 2 → Nat :=
  let c7_1990 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1988 : BitVec 32 := 32#32
  let v2891 : BitVec 32 := Scalar.muli v1318 c32_i32_1988
  let c0_i32_1989 : BitVec 32 := 0#32
  let v2892 : BitVec 32 := Scalar.addi v2891 c0_i32_1989
  let v2893 : Index := Scalar.indexCast v2892
  ![7, v2893.toNat]
def k0_off533 (v2894 : BitVec 32) : Fin 2 → Nat :=
  let v2895 : Index := Scalar.indexCast v2894
  let c0_1991 : Index := 0#32
  ![v2895.toNat, 0]

def k0_chk361 (v2894 : BitVec 32) : Prop :=
  (∀ a, (k0_off533 v2894) a + S1x128.size a ≤ S9088x128.size a)
theorem k0_off533_inb : ∀ (v2894 : BitVec 32) (k0_hw361 : k0_chk361 v2894), ∀ a, (k0_off533 v2894) a + S1x128.size a ≤ S9088x128.size a := fun v2894 k0_hw361 => k0_hw361

def k0_off534 (k0_t6 : Fin k0_t6_loop.trips) : Fin 2 → Nat :=
  let c7_1996 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_1994 : BitVec 32 := 32#32
  let v2900 : BitVec 32 := Scalar.muli v1318 c32_i32_1994
  let c1_i32_1995 : BitVec 32 := 1#32
  let v2901 : BitVec 32 := Scalar.addi v2900 c1_i32_1995
  let v2902 : Index := Scalar.indexCast v2901
  ![7, v2902.toNat]
def k0_off535 (v2903 : BitVec 32) : Fin 2 → Nat :=
  let v2904 : Index := Scalar.indexCast v2903
  let c0_1997 : Index := 0#32
  ![v2904.toNat, 0]

def k0_chk362 (v2903 : BitVec 32) : Prop :=
  (∀ a, (k0_off535 v2903) a + S1x128.size a ≤ S9088x128.size a)
theorem k0_off535_inb : ∀ (v2903 : BitVec 32) (k0_hw362 : k0_chk362 v2903), ∀ a, (k0_off535 v2903) a + S1x128.size a ≤ S9088x128.size a := fun v2903 k0_hw362 => k0_hw362

def k0_off536 (k0_t6 : Fin k0_t6_loop.trips) : Fin 2 → Nat :=
  let c7_2002 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2000 : BitVec 32 := 32#32
  let v2909 : BitVec 32 := Scalar.muli v1318 c32_i32_2000
  let c2_i32_2001 : BitVec 32 := 2#32
  let v2910 : BitVec 32 := Scalar.addi v2909 c2_i32_2001
  let v2911 : Index := Scalar.indexCast v2910
  ![7, v2911.toNat]
def k0_off537 (v2912 : BitVec 32) : Fin 2 → Nat :=
  let v2913 : Index := Scalar.indexCast v2912
  let c0_2003 : Index := 0#32
  ![v2913.toNat, 0]

def k0_chk363 (v2912 : BitVec 32) : Prop :=
  (∀ a, (k0_off537 v2912) a + S1x128.size a ≤ S9088x128.size a)
theorem k0_off537_inb : ∀ (v2912 : BitVec 32) (k0_hw363 : k0_chk363 v2912), ∀ a, (k0_off537 v2912) a + S1x128.size a ≤ S9088x128.size a := fun v2912 k0_hw363 => k0_hw363

def k0_off538 (k0_t6 : Fin k0_t6_loop.trips) : Fin 2 → Nat :=
  let c7_2008 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2006 : BitVec 32 := 32#32
  let v2918 : BitVec 32 := Scalar.muli v1318 c32_i32_2006
  let c3_i32_2007 : BitVec 32 := 3#32
  let v2919 : BitVec 32 := Scalar.addi v2918 c3_i32_2007
  let v2920 : Index := Scalar.indexCast v2919
  ![7, v2920.toNat]
def k0_off539 (v2921 : BitVec 32) : Fin 2 → Nat :=
  let v2922 : Index := Scalar.indexCast v2921
  let c0_2009 : Index := 0#32
  ![v2922.toNat, 0]

def k0_chk364 (v2921 : BitVec 32) : Prop :=
  (∀ a, (k0_off539 v2921) a + S1x128.size a ≤ S9088x128.size a)
theorem k0_off539_inb : ∀ (v2921 : BitVec 32) (k0_hw364 : k0_chk364 v2921), ∀ a, (k0_off539 v2921) a + S1x128.size a ≤ S9088x128.size a := fun v2921 k0_hw364 => k0_hw364

def k0_off540 (k0_t6 : Fin k0_t6_loop.trips) : Fin 2 → Nat :=
  let c7_2014 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2012 : BitVec 32 := 32#32
  let v2927 : BitVec 32 := Scalar.muli v1318 c32_i32_2012
  let c4_i32_2013 : BitVec 32 := 4#32
  let v2928 : BitVec 32 := Scalar.addi v2927 c4_i32_2013
  let v2929 : Index := Scalar.indexCast v2928
  ![7, v2929.toNat]
def k0_off541 (v2930 : BitVec 32) : Fin 2 → Nat :=
  let v2931 : Index := Scalar.indexCast v2930
  let c0_2015 : Index := 0#32
  ![v2931.toNat, 0]

def k0_chk365 (v2930 : BitVec 32) : Prop :=
  (∀ a, (k0_off541 v2930) a + S1x128.size a ≤ S9088x128.size a)
theorem k0_off541_inb : ∀ (v2930 : BitVec 32) (k0_hw365 : k0_chk365 v2930), ∀ a, (k0_off541 v2930) a + S1x128.size a ≤ S9088x128.size a := fun v2930 k0_hw365 => k0_hw365

def k0_off542 (k0_t6 : Fin k0_t6_loop.trips) : Fin 2 → Nat :=
  let c7_2020 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2018 : BitVec 32 := 32#32
  let v2936 : BitVec 32 := Scalar.muli v1318 c32_i32_2018
  let c5_i32_2019 : BitVec 32 := 5#32
  let v2937 : BitVec 32 := Scalar.addi v2936 c5_i32_2019
  let v2938 : Index := Scalar.indexCast v2937
  ![7, v2938.toNat]
def k0_off543 (v2939 : BitVec 32) : Fin 2 → Nat :=
  let v2940 : Index := Scalar.indexCast v2939
  let c0_2021 : Index := 0#32
  ![v2940.toNat, 0]

def k0_chk366 (v2939 : BitVec 32) : Prop :=
  (∀ a, (k0_off543 v2939) a + S1x128.size a ≤ S9088x128.size a)
theorem k0_off543_inb : ∀ (v2939 : BitVec 32) (k0_hw366 : k0_chk366 v2939), ∀ a, (k0_off543 v2939) a + S1x128.size a ≤ S9088x128.size a := fun v2939 k0_hw366 => k0_hw366

def k0_off544 (k0_t6 : Fin k0_t6_loop.trips) : Fin 2 → Nat :=
  let c7_2026 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2024 : BitVec 32 := 32#32
  let v2945 : BitVec 32 := Scalar.muli v1318 c32_i32_2024
  let c6_i32_2025 : BitVec 32 := 6#32
  let v2946 : BitVec 32 := Scalar.addi v2945 c6_i32_2025
  let v2947 : Index := Scalar.indexCast v2946
  ![7, v2947.toNat]
def k0_off545 (v2948 : BitVec 32) : Fin 2 → Nat :=
  let v2949 : Index := Scalar.indexCast v2948
  let c0_2027 : Index := 0#32
  ![v2949.toNat, 0]

def k0_chk367 (v2948 : BitVec 32) : Prop :=
  (∀ a, (k0_off545 v2948) a + S1x128.size a ≤ S9088x128.size a)
theorem k0_off545_inb : ∀ (v2948 : BitVec 32) (k0_hw367 : k0_chk367 v2948), ∀ a, (k0_off545 v2948) a + S1x128.size a ≤ S9088x128.size a := fun v2948 k0_hw367 => k0_hw367

def k0_off546 (k0_t6 : Fin k0_t6_loop.trips) : Fin 2 → Nat :=
  let c7_2032 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2030 : BitVec 32 := 32#32
  let v2954 : BitVec 32 := Scalar.muli v1318 c32_i32_2030
  let c7_i32_2031 : BitVec 32 := 7#32
  let v2955 : BitVec 32 := Scalar.addi v2954 c7_i32_2031
  let v2956 : Index := Scalar.indexCast v2955
  ![7, v2956.toNat]
def k0_off547 (v2957 : BitVec 32) : Fin 2 → Nat :=
  let v2958 : Index := Scalar.indexCast v2957
  let c0_2033 : Index := 0#32
  ![v2958.toNat, 0]

def k0_chk368 (v2957 : BitVec 32) : Prop :=
  (∀ a, (k0_off547 v2957) a + S1x128.size a ≤ S9088x128.size a)
theorem k0_off547_inb : ∀ (v2957 : BitVec 32) (k0_hw368 : k0_chk368 v2957), ∀ a, (k0_off547 v2957) a + S1x128.size a ≤ S9088x128.size a := fun v2957 k0_hw368 => k0_hw368

def k0_off548 (k0_t6 : Fin k0_t6_loop.trips) : Fin 2 → Nat :=
  let c7_2038 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2036 : BitVec 32 := 32#32
  let v2963 : BitVec 32 := Scalar.muli v1318 c32_i32_2036
  let c8_i32_2037 : BitVec 32 := 8#32
  let v2964 : BitVec 32 := Scalar.addi v2963 c8_i32_2037
  let v2965 : Index := Scalar.indexCast v2964
  ![7, v2965.toNat]
def k0_off549 (v2966 : BitVec 32) : Fin 2 → Nat :=
  let v2967 : Index := Scalar.indexCast v2966
  let c0_2039 : Index := 0#32
  ![v2967.toNat, 0]

def k0_chk369 (v2966 : BitVec 32) : Prop :=
  (∀ a, (k0_off549 v2966) a + S1x128.size a ≤ S9088x128.size a)
theorem k0_off549_inb : ∀ (v2966 : BitVec 32) (k0_hw369 : k0_chk369 v2966), ∀ a, (k0_off549 v2966) a + S1x128.size a ≤ S9088x128.size a := fun v2966 k0_hw369 => k0_hw369

def k0_off550 (k0_t6 : Fin k0_t6_loop.trips) : Fin 2 → Nat :=
  let c7_2044 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2042 : BitVec 32 := 32#32
  let v2972 : BitVec 32 := Scalar.muli v1318 c32_i32_2042
  let c9_i32_2043 : BitVec 32 := 9#32
  let v2973 : BitVec 32 := Scalar.addi v2972 c9_i32_2043
  let v2974 : Index := Scalar.indexCast v2973
  ![7, v2974.toNat]
def k0_off551 (v2975 : BitVec 32) : Fin 2 → Nat :=
  let v2976 : Index := Scalar.indexCast v2975
  let c0_2045 : Index := 0#32
  ![v2976.toNat, 0]

def k0_chk370 (v2975 : BitVec 32) : Prop :=
  (∀ a, (k0_off551 v2975) a + S1x128.size a ≤ S9088x128.size a)
theorem k0_off551_inb : ∀ (v2975 : BitVec 32) (k0_hw370 : k0_chk370 v2975), ∀ a, (k0_off551 v2975) a + S1x128.size a ≤ S9088x128.size a := fun v2975 k0_hw370 => k0_hw370

def k0_off552 (k0_t6 : Fin k0_t6_loop.trips) : Fin 2 → Nat :=
  let c7_2050 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2048 : BitVec 32 := 32#32
  let v2981 : BitVec 32 := Scalar.muli v1318 c32_i32_2048
  let c10_i32_2049 : BitVec 32 := 10#32
  let v2982 : BitVec 32 := Scalar.addi v2981 c10_i32_2049
  let v2983 : Index := Scalar.indexCast v2982
  ![7, v2983.toNat]
def k0_off553 (v2984 : BitVec 32) : Fin 2 → Nat :=
  let v2985 : Index := Scalar.indexCast v2984
  let c0_2051 : Index := 0#32
  ![v2985.toNat, 0]

def k0_chk371 (v2984 : BitVec 32) : Prop :=
  (∀ a, (k0_off553 v2984) a + S1x128.size a ≤ S9088x128.size a)
theorem k0_off553_inb : ∀ (v2984 : BitVec 32) (k0_hw371 : k0_chk371 v2984), ∀ a, (k0_off553 v2984) a + S1x128.size a ≤ S9088x128.size a := fun v2984 k0_hw371 => k0_hw371

def k0_off554 (k0_t6 : Fin k0_t6_loop.trips) : Fin 2 → Nat :=
  let c7_2056 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2054 : BitVec 32 := 32#32
  let v2990 : BitVec 32 := Scalar.muli v1318 c32_i32_2054
  let c11_i32_2055 : BitVec 32 := 11#32
  let v2991 : BitVec 32 := Scalar.addi v2990 c11_i32_2055
  let v2992 : Index := Scalar.indexCast v2991
  ![7, v2992.toNat]
def k0_off555 (v2993 : BitVec 32) : Fin 2 → Nat :=
  let v2994 : Index := Scalar.indexCast v2993
  let c0_2057 : Index := 0#32
  ![v2994.toNat, 0]

def k0_chk372 (v2993 : BitVec 32) : Prop :=
  (∀ a, (k0_off555 v2993) a + S1x128.size a ≤ S9088x128.size a)
theorem k0_off555_inb : ∀ (v2993 : BitVec 32) (k0_hw372 : k0_chk372 v2993), ∀ a, (k0_off555 v2993) a + S1x128.size a ≤ S9088x128.size a := fun v2993 k0_hw372 => k0_hw372

def k0_off556 (k0_t6 : Fin k0_t6_loop.trips) : Fin 2 → Nat :=
  let c7_2062 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2060 : BitVec 32 := 32#32
  let v2999 : BitVec 32 := Scalar.muli v1318 c32_i32_2060
  let c12_i32_2061 : BitVec 32 := 12#32
  let v3000 : BitVec 32 := Scalar.addi v2999 c12_i32_2061
  let v3001 : Index := Scalar.indexCast v3000
  ![7, v3001.toNat]
def k0_off557 (v3002 : BitVec 32) : Fin 2 → Nat :=
  let v3003 : Index := Scalar.indexCast v3002
  let c0_2063 : Index := 0#32
  ![v3003.toNat, 0]

def k0_chk373 (v3002 : BitVec 32) : Prop :=
  (∀ a, (k0_off557 v3002) a + S1x128.size a ≤ S9088x128.size a)
theorem k0_off557_inb : ∀ (v3002 : BitVec 32) (k0_hw373 : k0_chk373 v3002), ∀ a, (k0_off557 v3002) a + S1x128.size a ≤ S9088x128.size a := fun v3002 k0_hw373 => k0_hw373

def k0_off558 (k0_t6 : Fin k0_t6_loop.trips) : Fin 2 → Nat :=
  let c7_2068 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2066 : BitVec 32 := 32#32
  let v3008 : BitVec 32 := Scalar.muli v1318 c32_i32_2066
  let c13_i32_2067 : BitVec 32 := 13#32
  let v3009 : BitVec 32 := Scalar.addi v3008 c13_i32_2067
  let v3010 : Index := Scalar.indexCast v3009
  ![7, v3010.toNat]
def k0_off559 (v3011 : BitVec 32) : Fin 2 → Nat :=
  let v3012 : Index := Scalar.indexCast v3011
  let c0_2069 : Index := 0#32
  ![v3012.toNat, 0]

def k0_chk374 (v3011 : BitVec 32) : Prop :=
  (∀ a, (k0_off559 v3011) a + S1x128.size a ≤ S9088x128.size a)
theorem k0_off559_inb : ∀ (v3011 : BitVec 32) (k0_hw374 : k0_chk374 v3011), ∀ a, (k0_off559 v3011) a + S1x128.size a ≤ S9088x128.size a := fun v3011 k0_hw374 => k0_hw374

def k0_off560 (k0_t6 : Fin k0_t6_loop.trips) : Fin 2 → Nat :=
  let c7_2074 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2072 : BitVec 32 := 32#32
  let v3017 : BitVec 32 := Scalar.muli v1318 c32_i32_2072
  let c14_i32_2073 : BitVec 32 := 14#32
  let v3018 : BitVec 32 := Scalar.addi v3017 c14_i32_2073
  let v3019 : Index := Scalar.indexCast v3018
  ![7, v3019.toNat]
def k0_off561 (v3020 : BitVec 32) : Fin 2 → Nat :=
  let v3021 : Index := Scalar.indexCast v3020
  let c0_2075 : Index := 0#32
  ![v3021.toNat, 0]

def k0_chk375 (v3020 : BitVec 32) : Prop :=
  (∀ a, (k0_off561 v3020) a + S1x128.size a ≤ S9088x128.size a)
theorem k0_off561_inb : ∀ (v3020 : BitVec 32) (k0_hw375 : k0_chk375 v3020), ∀ a, (k0_off561 v3020) a + S1x128.size a ≤ S9088x128.size a := fun v3020 k0_hw375 => k0_hw375

def k0_off562 (k0_t6 : Fin k0_t6_loop.trips) : Fin 2 → Nat :=
  let c7_2080 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2078 : BitVec 32 := 32#32
  let v3026 : BitVec 32 := Scalar.muli v1318 c32_i32_2078
  let c15_i32_2079 : BitVec 32 := 15#32
  let v3027 : BitVec 32 := Scalar.addi v3026 c15_i32_2079
  let v3028 : Index := Scalar.indexCast v3027
  ![7, v3028.toNat]
def k0_off563 (v3029 : BitVec 32) : Fin 2 → Nat :=
  let v3030 : Index := Scalar.indexCast v3029
  let c0_2081 : Index := 0#32
  ![v3030.toNat, 0]

def k0_chk376 (v3029 : BitVec 32) : Prop :=
  (∀ a, (k0_off563 v3029) a + S1x128.size a ≤ S9088x128.size a)
theorem k0_off563_inb : ∀ (v3029 : BitVec 32) (k0_hw376 : k0_chk376 v3029), ∀ a, (k0_off563 v3029) a + S1x128.size a ≤ S9088x128.size a := fun v3029 k0_hw376 => k0_hw376

def k0_off564 (k0_t6 : Fin k0_t6_loop.trips) : Fin 2 → Nat :=
  let c7_2086 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2084 : BitVec 32 := 32#32
  let v3035 : BitVec 32 := Scalar.muli v1318 c32_i32_2084
  let c16_i32_2085 : BitVec 32 := 16#32
  let v3036 : BitVec 32 := Scalar.addi v3035 c16_i32_2085
  let v3037 : Index := Scalar.indexCast v3036
  ![7, v3037.toNat]
def k0_off565 (v3038 : BitVec 32) : Fin 2 → Nat :=
  let v3039 : Index := Scalar.indexCast v3038
  let c0_2087 : Index := 0#32
  ![v3039.toNat, 0]

def k0_chk377 (v3038 : BitVec 32) : Prop :=
  (∀ a, (k0_off565 v3038) a + S1x128.size a ≤ S9088x128.size a)
theorem k0_off565_inb : ∀ (v3038 : BitVec 32) (k0_hw377 : k0_chk377 v3038), ∀ a, (k0_off565 v3038) a + S1x128.size a ≤ S9088x128.size a := fun v3038 k0_hw377 => k0_hw377

def k0_off566 (k0_t6 : Fin k0_t6_loop.trips) : Fin 2 → Nat :=
  let c7_2092 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2090 : BitVec 32 := 32#32
  let v3044 : BitVec 32 := Scalar.muli v1318 c32_i32_2090
  let c17_i32_2091 : BitVec 32 := 17#32
  let v3045 : BitVec 32 := Scalar.addi v3044 c17_i32_2091
  let v3046 : Index := Scalar.indexCast v3045
  ![7, v3046.toNat]
def k0_off567 (v3047 : BitVec 32) : Fin 2 → Nat :=
  let v3048 : Index := Scalar.indexCast v3047
  let c0_2093 : Index := 0#32
  ![v3048.toNat, 0]

def k0_chk378 (v3047 : BitVec 32) : Prop :=
  (∀ a, (k0_off567 v3047) a + S1x128.size a ≤ S9088x128.size a)
theorem k0_off567_inb : ∀ (v3047 : BitVec 32) (k0_hw378 : k0_chk378 v3047), ∀ a, (k0_off567 v3047) a + S1x128.size a ≤ S9088x128.size a := fun v3047 k0_hw378 => k0_hw378

def k0_off568 (k0_t6 : Fin k0_t6_loop.trips) : Fin 2 → Nat :=
  let c7_2098 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2096 : BitVec 32 := 32#32
  let v3053 : BitVec 32 := Scalar.muli v1318 c32_i32_2096
  let c18_i32_2097 : BitVec 32 := 18#32
  let v3054 : BitVec 32 := Scalar.addi v3053 c18_i32_2097
  let v3055 : Index := Scalar.indexCast v3054
  ![7, v3055.toNat]
def k0_off569 (v3056 : BitVec 32) : Fin 2 → Nat :=
  let v3057 : Index := Scalar.indexCast v3056
  let c0_2099 : Index := 0#32
  ![v3057.toNat, 0]

def k0_chk379 (v3056 : BitVec 32) : Prop :=
  (∀ a, (k0_off569 v3056) a + S1x128.size a ≤ S9088x128.size a)
theorem k0_off569_inb : ∀ (v3056 : BitVec 32) (k0_hw379 : k0_chk379 v3056), ∀ a, (k0_off569 v3056) a + S1x128.size a ≤ S9088x128.size a := fun v3056 k0_hw379 => k0_hw379

def k0_off570 (k0_t6 : Fin k0_t6_loop.trips) : Fin 2 → Nat :=
  let c7_2104 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2102 : BitVec 32 := 32#32
  let v3062 : BitVec 32 := Scalar.muli v1318 c32_i32_2102
  let c19_i32_2103 : BitVec 32 := 19#32
  let v3063 : BitVec 32 := Scalar.addi v3062 c19_i32_2103
  let v3064 : Index := Scalar.indexCast v3063
  ![7, v3064.toNat]
def k0_off571 (v3065 : BitVec 32) : Fin 2 → Nat :=
  let v3066 : Index := Scalar.indexCast v3065
  let c0_2105 : Index := 0#32
  ![v3066.toNat, 0]

def k0_chk380 (v3065 : BitVec 32) : Prop :=
  (∀ a, (k0_off571 v3065) a + S1x128.size a ≤ S9088x128.size a)
theorem k0_off571_inb : ∀ (v3065 : BitVec 32) (k0_hw380 : k0_chk380 v3065), ∀ a, (k0_off571 v3065) a + S1x128.size a ≤ S9088x128.size a := fun v3065 k0_hw380 => k0_hw380

def k0_off572 (k0_t6 : Fin k0_t6_loop.trips) : Fin 2 → Nat :=
  let c7_2110 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2108 : BitVec 32 := 32#32
  let v3071 : BitVec 32 := Scalar.muli v1318 c32_i32_2108
  let c20_i32_2109 : BitVec 32 := 20#32
  let v3072 : BitVec 32 := Scalar.addi v3071 c20_i32_2109
  let v3073 : Index := Scalar.indexCast v3072
  ![7, v3073.toNat]
def k0_off573 (v3074 : BitVec 32) : Fin 2 → Nat :=
  let v3075 : Index := Scalar.indexCast v3074
  let c0_2111 : Index := 0#32
  ![v3075.toNat, 0]

def k0_chk381 (v3074 : BitVec 32) : Prop :=
  (∀ a, (k0_off573 v3074) a + S1x128.size a ≤ S9088x128.size a)
theorem k0_off573_inb : ∀ (v3074 : BitVec 32) (k0_hw381 : k0_chk381 v3074), ∀ a, (k0_off573 v3074) a + S1x128.size a ≤ S9088x128.size a := fun v3074 k0_hw381 => k0_hw381

def k0_off574 (k0_t6 : Fin k0_t6_loop.trips) : Fin 2 → Nat :=
  let c7_2116 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2114 : BitVec 32 := 32#32
  let v3080 : BitVec 32 := Scalar.muli v1318 c32_i32_2114
  let c21_i32_2115 : BitVec 32 := 21#32
  let v3081 : BitVec 32 := Scalar.addi v3080 c21_i32_2115
  let v3082 : Index := Scalar.indexCast v3081
  ![7, v3082.toNat]
def k0_off575 (v3083 : BitVec 32) : Fin 2 → Nat :=
  let v3084 : Index := Scalar.indexCast v3083
  let c0_2117 : Index := 0#32
  ![v3084.toNat, 0]

def k0_chk382 (v3083 : BitVec 32) : Prop :=
  (∀ a, (k0_off575 v3083) a + S1x128.size a ≤ S9088x128.size a)
theorem k0_off575_inb : ∀ (v3083 : BitVec 32) (k0_hw382 : k0_chk382 v3083), ∀ a, (k0_off575 v3083) a + S1x128.size a ≤ S9088x128.size a := fun v3083 k0_hw382 => k0_hw382

def k0_off576 (k0_t6 : Fin k0_t6_loop.trips) : Fin 2 → Nat :=
  let c7_2122 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2120 : BitVec 32 := 32#32
  let v3089 : BitVec 32 := Scalar.muli v1318 c32_i32_2120
  let c22_i32_2121 : BitVec 32 := 22#32
  let v3090 : BitVec 32 := Scalar.addi v3089 c22_i32_2121
  let v3091 : Index := Scalar.indexCast v3090
  ![7, v3091.toNat]
def k0_off577 (v3092 : BitVec 32) : Fin 2 → Nat :=
  let v3093 : Index := Scalar.indexCast v3092
  let c0_2123 : Index := 0#32
  ![v3093.toNat, 0]

def k0_chk383 (v3092 : BitVec 32) : Prop :=
  (∀ a, (k0_off577 v3092) a + S1x128.size a ≤ S9088x128.size a)
theorem k0_off577_inb : ∀ (v3092 : BitVec 32) (k0_hw383 : k0_chk383 v3092), ∀ a, (k0_off577 v3092) a + S1x128.size a ≤ S9088x128.size a := fun v3092 k0_hw383 => k0_hw383

def k0_off578 (k0_t6 : Fin k0_t6_loop.trips) : Fin 2 → Nat :=
  let c7_2128 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2126 : BitVec 32 := 32#32
  let v3098 : BitVec 32 := Scalar.muli v1318 c32_i32_2126
  let c23_i32_2127 : BitVec 32 := 23#32
  let v3099 : BitVec 32 := Scalar.addi v3098 c23_i32_2127
  let v3100 : Index := Scalar.indexCast v3099
  ![7, v3100.toNat]
def k0_off579 (v3101 : BitVec 32) : Fin 2 → Nat :=
  let v3102 : Index := Scalar.indexCast v3101
  let c0_2129 : Index := 0#32
  ![v3102.toNat, 0]

def k0_chk384 (v3101 : BitVec 32) : Prop :=
  (∀ a, (k0_off579 v3101) a + S1x128.size a ≤ S9088x128.size a)
theorem k0_off579_inb : ∀ (v3101 : BitVec 32) (k0_hw384 : k0_chk384 v3101), ∀ a, (k0_off579 v3101) a + S1x128.size a ≤ S9088x128.size a := fun v3101 k0_hw384 => k0_hw384

def k0_off580 (k0_t6 : Fin k0_t6_loop.trips) : Fin 2 → Nat :=
  let c7_2134 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2132 : BitVec 32 := 32#32
  let v3107 : BitVec 32 := Scalar.muli v1318 c32_i32_2132
  let c24_i32_2133 : BitVec 32 := 24#32
  let v3108 : BitVec 32 := Scalar.addi v3107 c24_i32_2133
  let v3109 : Index := Scalar.indexCast v3108
  ![7, v3109.toNat]
def k0_off581 (v3110 : BitVec 32) : Fin 2 → Nat :=
  let v3111 : Index := Scalar.indexCast v3110
  let c0_2135 : Index := 0#32
  ![v3111.toNat, 0]

def k0_chk385 (v3110 : BitVec 32) : Prop :=
  (∀ a, (k0_off581 v3110) a + S1x128.size a ≤ S9088x128.size a)
theorem k0_off581_inb : ∀ (v3110 : BitVec 32) (k0_hw385 : k0_chk385 v3110), ∀ a, (k0_off581 v3110) a + S1x128.size a ≤ S9088x128.size a := fun v3110 k0_hw385 => k0_hw385

def k0_off582 (k0_t6 : Fin k0_t6_loop.trips) : Fin 2 → Nat :=
  let c7_2140 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2138 : BitVec 32 := 32#32
  let v3116 : BitVec 32 := Scalar.muli v1318 c32_i32_2138
  let c25_i32_2139 : BitVec 32 := 25#32
  let v3117 : BitVec 32 := Scalar.addi v3116 c25_i32_2139
  let v3118 : Index := Scalar.indexCast v3117
  ![7, v3118.toNat]
def k0_off583 (v3119 : BitVec 32) : Fin 2 → Nat :=
  let v3120 : Index := Scalar.indexCast v3119
  let c0_2141 : Index := 0#32
  ![v3120.toNat, 0]

def k0_chk386 (v3119 : BitVec 32) : Prop :=
  (∀ a, (k0_off583 v3119) a + S1x128.size a ≤ S9088x128.size a)
theorem k0_off583_inb : ∀ (v3119 : BitVec 32) (k0_hw386 : k0_chk386 v3119), ∀ a, (k0_off583 v3119) a + S1x128.size a ≤ S9088x128.size a := fun v3119 k0_hw386 => k0_hw386

def k0_off584 (k0_t6 : Fin k0_t6_loop.trips) : Fin 2 → Nat :=
  let c7_2146 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2144 : BitVec 32 := 32#32
  let v3125 : BitVec 32 := Scalar.muli v1318 c32_i32_2144
  let c26_i32_2145 : BitVec 32 := 26#32
  let v3126 : BitVec 32 := Scalar.addi v3125 c26_i32_2145
  let v3127 : Index := Scalar.indexCast v3126
  ![7, v3127.toNat]
def k0_off585 (v3128 : BitVec 32) : Fin 2 → Nat :=
  let v3129 : Index := Scalar.indexCast v3128
  let c0_2147 : Index := 0#32
  ![v3129.toNat, 0]

def k0_chk387 (v3128 : BitVec 32) : Prop :=
  (∀ a, (k0_off585 v3128) a + S1x128.size a ≤ S9088x128.size a)
theorem k0_off585_inb : ∀ (v3128 : BitVec 32) (k0_hw387 : k0_chk387 v3128), ∀ a, (k0_off585 v3128) a + S1x128.size a ≤ S9088x128.size a := fun v3128 k0_hw387 => k0_hw387

def k0_off586 (k0_t6 : Fin k0_t6_loop.trips) : Fin 2 → Nat :=
  let c7_2152 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2150 : BitVec 32 := 32#32
  let v3134 : BitVec 32 := Scalar.muli v1318 c32_i32_2150
  let c27_i32_2151 : BitVec 32 := 27#32
  let v3135 : BitVec 32 := Scalar.addi v3134 c27_i32_2151
  let v3136 : Index := Scalar.indexCast v3135
  ![7, v3136.toNat]
def k0_off587 (v3137 : BitVec 32) : Fin 2 → Nat :=
  let v3138 : Index := Scalar.indexCast v3137
  let c0_2153 : Index := 0#32
  ![v3138.toNat, 0]

def k0_chk388 (v3137 : BitVec 32) : Prop :=
  (∀ a, (k0_off587 v3137) a + S1x128.size a ≤ S9088x128.size a)
theorem k0_off587_inb : ∀ (v3137 : BitVec 32) (k0_hw388 : k0_chk388 v3137), ∀ a, (k0_off587 v3137) a + S1x128.size a ≤ S9088x128.size a := fun v3137 k0_hw388 => k0_hw388

def k0_off588 (k0_t6 : Fin k0_t6_loop.trips) : Fin 2 → Nat :=
  let c7_2158 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2156 : BitVec 32 := 32#32
  let v3143 : BitVec 32 := Scalar.muli v1318 c32_i32_2156
  let c28_i32_2157 : BitVec 32 := 28#32
  let v3144 : BitVec 32 := Scalar.addi v3143 c28_i32_2157
  let v3145 : Index := Scalar.indexCast v3144
  ![7, v3145.toNat]
def k0_off589 (v3146 : BitVec 32) : Fin 2 → Nat :=
  let v3147 : Index := Scalar.indexCast v3146
  let c0_2159 : Index := 0#32
  ![v3147.toNat, 0]

def k0_chk389 (v3146 : BitVec 32) : Prop :=
  (∀ a, (k0_off589 v3146) a + S1x128.size a ≤ S9088x128.size a)
theorem k0_off589_inb : ∀ (v3146 : BitVec 32) (k0_hw389 : k0_chk389 v3146), ∀ a, (k0_off589 v3146) a + S1x128.size a ≤ S9088x128.size a := fun v3146 k0_hw389 => k0_hw389

def k0_off590 (k0_t6 : Fin k0_t6_loop.trips) : Fin 2 → Nat :=
  let c7_2164 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2162 : BitVec 32 := 32#32
  let v3152 : BitVec 32 := Scalar.muli v1318 c32_i32_2162
  let c29_i32_2163 : BitVec 32 := 29#32
  let v3153 : BitVec 32 := Scalar.addi v3152 c29_i32_2163
  let v3154 : Index := Scalar.indexCast v3153
  ![7, v3154.toNat]
def k0_off591 (v3155 : BitVec 32) : Fin 2 → Nat :=
  let v3156 : Index := Scalar.indexCast v3155
  let c0_2165 : Index := 0#32
  ![v3156.toNat, 0]

def k0_chk390 (v3155 : BitVec 32) : Prop :=
  (∀ a, (k0_off591 v3155) a + S1x128.size a ≤ S9088x128.size a)
theorem k0_off591_inb : ∀ (v3155 : BitVec 32) (k0_hw390 : k0_chk390 v3155), ∀ a, (k0_off591 v3155) a + S1x128.size a ≤ S9088x128.size a := fun v3155 k0_hw390 => k0_hw390

def k0_off592 (k0_t6 : Fin k0_t6_loop.trips) : Fin 2 → Nat :=
  let c7_2170 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2168 : BitVec 32 := 32#32
  let v3161 : BitVec 32 := Scalar.muli v1318 c32_i32_2168
  let c30_i32_2169 : BitVec 32 := 30#32
  let v3162 : BitVec 32 := Scalar.addi v3161 c30_i32_2169
  let v3163 : Index := Scalar.indexCast v3162
  ![7, v3163.toNat]
def k0_off593 (v3164 : BitVec 32) : Fin 2 → Nat :=
  let v3165 : Index := Scalar.indexCast v3164
  let c0_2171 : Index := 0#32
  ![v3165.toNat, 0]

def k0_chk391 (v3164 : BitVec 32) : Prop :=
  (∀ a, (k0_off593 v3164) a + S1x128.size a ≤ S9088x128.size a)
theorem k0_off593_inb : ∀ (v3164 : BitVec 32) (k0_hw391 : k0_chk391 v3164), ∀ a, (k0_off593 v3164) a + S1x128.size a ≤ S9088x128.size a := fun v3164 k0_hw391 => k0_hw391

def k0_off594 (k0_t6 : Fin k0_t6_loop.trips) : Fin 2 → Nat :=
  let c7_2176 : Index := 7#32
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c1_i32_958 : BitVec 32 := 1#32
  let v1317 : BitVec 32 := Scalar.addi v1316 c1_i32_958
  let c47_i32 : BitVec 32 := 47#32
  let v1318 : BitVec 32 := Scalar.minsi v1317 c47_i32
  let c32_i32_2174 : BitVec 32 := 32#32
  let v3170 : BitVec 32 := Scalar.muli v1318 c32_i32_2174
  let c31_i32_2175 : BitVec 32 := 31#32
  let v3171 : BitVec 32 := Scalar.addi v3170 c31_i32_2175
  let v3172 : Index := Scalar.indexCast v3171
  ![7, v3172.toNat]
def k0_off595 (v3173 : BitVec 32) : Fin 2 → Nat :=
  let v3174 : Index := Scalar.indexCast v3173
  let c0_2177 : Index := 0#32
  ![v3174.toNat, 0]

def k0_chk392 (v3173 : BitVec 32) : Prop :=
  (∀ a, (k0_off595 v3173) a + S1x128.size a ≤ S9088x128.size a)
theorem k0_off595_inb : ∀ (v3173 : BitVec 32) (k0_hw392 : k0_chk392 v3173), ∀ a, (k0_off595 v3173) a + S1x128.size a ≤ S9088x128.size a := fun v3173 k0_hw392 => k0_hw392

def k0_mult12 (k0_t6 : Fin k0_t6_loop.trips) : BitVec 32 :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c32_i32_2293 : BitVec 32 := 32#32
  let v3940 : BitVec 32 := Scalar.muli v1316 c32_i32_2293
  v3940
def k0_off596 (k0_t6 : Fin k0_t6_loop.trips) : Fin 2 → Nat :=
  let c2_i32 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v1315 : BitVec 32 := Scalar.muli c2_i32 v1314
  let c0_i32_957 : BitVec 32 := 0#32
  let v1316 : BitVec 32 := Scalar.addi v1315 c0_i32_957
  let c32_i32_2293 : BitVec 32 := 32#32
  let v3940 : BitVec 32 := Scalar.muli v1316 c32_i32_2293
  let v3941 : BitVec 32 := v3940
  let c0_i32_2296 : BitVec 32 := 0#32
  ![v3941.toNat, 0]
def k0_cond4 (k0_t6 : Fin k0_t6_loop.trips) : BitVec 1 :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_2303 : BitVec 32 := 8#32
  let v3951 : BitVec 32 := Scalar.addi v3948 c8_i32_2303
  let c48_i32_2304 : BitVec 32 := 48#32
  let v3952 : BitVec 1 := Scalar.cmpi .slt v3951 c48_i32_2304
  let v3953 : BitVec 32 := Scalar.extui v3952
  let c0_i32_2305 : BitVec 32 := 0#32
  let v3954 : BitVec 1 := Scalar.cmpi .ne v3953 c0_i32_2305
  v3954

def k0_off597 (k0_t6 : Fin k0_t6_loop.trips) : Fin 2 → Nat :=
  let c3_3713 : Index := 3#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_3711 : BitVec 32 := 8#32
  let v6579 : BitVec 32 := Scalar.addi v3948 c8_i32_3711
  let c32_i32_3712 : BitVec 32 := 32#32
  let v6580 : BitVec 32 := Scalar.muli v6579 c32_i32_3712
  let v6581 : Index := Scalar.indexCast v6580
  ![3, v6581.toNat]
@[reducible] def k0_t11_loop (v6582 : BitVec 32) : Scf.Loop 32 :=
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let c1_i32_3722 : BitVec 32 := 1#32
  ⟨c0_i32_3720, v6591, c1_i32_3722⟩

def k0_off598 (k0_t6 : Fin k0_t6_loop.trips) (v6582 : BitVec 32) (k0_t11 : Fin (k0_t11_loop v6582).trips) : Fin 2 → Nat :=
  let c2_3725 : Index := 2#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_3711 : BitVec 32 := 8#32
  let v6579 : BitVec 32 := Scalar.addi v3948 c8_i32_3711
  let c32_i32_3724 : BitVec 32 := 32#32
  let v6594 : BitVec 32 := Scalar.muli v6579 c32_i32_3724
  let c0_i32_3719 : BitVec 32 := 0#32
  let c0_i32_3720 : BitVec 32 := 0#32
  let c1_i32_3722 : BitVec 32 := 1#32
  let arg17 : BitVec 32 := Scf.iv c0_i32_3720 c1_i32_3722 k0_t11
  let c1_i32_3718 : BitVec 32 := 1#32
  let v6592 : BitVec 32 := Scalar.muli arg17 c1_i32_3718
  let v6593 : BitVec 32 := Scalar.addi c0_i32_3719 v6592
  let v6595 : BitVec 32 := Scalar.addi v6594 v6593
  let v6596 : Index := Scalar.indexCast v6595
  ![2, v6596.toNat]
def k0_mult13 (v6597 : BitVec 32) : BitVec 32 :=
  let c8_i32_3726 : BitVec 32 := 8#32
  let v6598 : BitVec 32 := Scalar.muli v6597 c8_i32_3726
  v6598

def k0_off599 (k0_t6 : Fin k0_t6_loop.trips) : Fin 1 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_3711 : BitVec 32 := 8#32
  let v6579 : BitVec 32 := Scalar.addi v3948 c8_i32_3711
  ![v6579.toNat]
def k0_off600 (v6597 : BitVec 32) : Fin 3 → Nat :=
  let c8_i32_3726 : BitVec 32 := 8#32
  let v6598 : BitVec 32 := Scalar.muli v6597 c8_i32_3726
  let v6599 : BitVec 32 := v6598
  let c0_i32_3727 : BitVec 32 := 0#32
  let c0_i32_3728 : BitVec 32 := 0#32
  ![v6599.toNat, 0, 0]

def k0_chk394 (k0_t6 : Fin k0_t6_loop.trips) (v6597 : BitVec 32) : Prop :=
  (∀ (k0_h4 : k0_cond4 k0_t6 = 1#1), 8 ∣ (k0_mult13 v6597).toNat) ∧
  (∀ (k0_h4 : k0_cond4 k0_t6 = 1#1), ∀ a, (k0_off600 v6597) a + S8x28x128.size a ≤ S2272x28x128.size a)
theorem k0_mult13_dvd : ∀ (k0_t6 : Fin k0_t6_loop.trips) (v6597 : BitVec 32) (k0_hw394 : k0_chk394 k0_t6 v6597), ∀ (k0_h4 : k0_cond4 k0_t6 = 1#1), 8 ∣ (k0_mult13 v6597).toNat := fun k0_t6 v6597 k0_hw394 k0_h4 => k0_hw394.1 k0_h4
theorem k0_off600_inb : ∀ (k0_t6 : Fin k0_t6_loop.trips) (v6597 : BitVec 32) (k0_hw394 : k0_chk394 k0_t6 v6597), ∀ (k0_h4 : k0_cond4 k0_t6 = 1#1), ∀ a, (k0_off600 v6597) a + S8x28x128.size a ≤ S2272x28x128.size a := fun k0_t6 v6597 k0_hw394 k0_h4 => k0_hw394.2 k0_h4

@[reducible] def k0_t12_loop (v6582 : BitVec 32) : Scf.Loop 32 :=
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let v6588 : BitVec 32 := Scalar.addi c0_i32_3720 v6587
  let c1_i32_3723 : BitVec 32 := 1#32
  ⟨v6591, v6588, c1_i32_3723⟩
def k0_off601 (k0_t6 : Fin k0_t6_loop.trips) (v6582 : BitVec 32) (k0_t12 : Fin (k0_t12_loop v6582).trips) : Fin 2 → Nat :=
  let c2_3725 : Index := 2#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_3711 : BitVec 32 := 8#32
  let v6579 : BitVec 32 := Scalar.addi v3948 c8_i32_3711
  let c32_i32_3724 : BitVec 32 := 32#32
  let v6594 : BitVec 32 := Scalar.muli v6579 c32_i32_3724
  let c0_i32_3719 : BitVec 32 := 0#32
  let c0_i32_3720 : BitVec 32 := 0#32
  let c0_i32_3714 : BitVec 32 := 0#32
  let v6583 : BitVec 32 := Scalar.subi v6582 c0_i32_3714
  let c1_i32_3715 : BitVec 32 := 1#32
  let c1_i32_3716 : BitVec 32 := 1#32
  let v6584 : BitVec 32 := Scalar.subi c1_i32_3715 c1_i32_3716
  let v6585 : BitVec 32 := Scalar.addi v6583 v6584
  let c1_i32_3717 : BitVec 32 := 1#32
  let v6586 : BitVec 32 := Scalar.divsi v6585 c1_i32_3717
  let v6587 : BitVec 32 := Scalar.subi v6586 c0_i32_3720
  let c1_i32_3721 : BitVec 32 := 1#32
  let v6589 : BitVec 32 := Scalar.divsi v6587 c1_i32_3721
  let v6590 : BitVec 32 := Scalar.muli v6589 c1_i32_3721
  let v6591 : BitVec 32 := Scalar.addi c0_i32_3720 v6590
  let c1_i32_3723 : BitVec 32 := 1#32
  let arg17 : BitVec 32 := Scf.iv v6591 c1_i32_3723 k0_t12
  let c1_i32_3718 : BitVec 32 := 1#32
  let v6592 : BitVec 32 := Scalar.muli arg17 c1_i32_3718
  let v6593 : BitVec 32 := Scalar.addi c0_i32_3719 v6592
  let v6595 : BitVec 32 := Scalar.addi v6594 v6593
  let v6596 : Index := Scalar.indexCast v6595
  ![2, v6596.toNat]

def k0_chk393 (k0_t6 : Fin k0_t6_loop.trips) (v6582 : BitVec 32) : Prop :=
  (∀ (k0_h4 : k0_cond4 k0_t6 = 1#1), (k0_t11_loop v6582).OK) ∧
  (∀ k0_t11 : Fin (k0_t11_loop v6582).trips, ∀ (k0_h4 : k0_cond4 k0_t6 = 1#1), ∀ a, (k0_off598 k0_t6 v6582 k0_t11) a + S1x1.size a ≤ S8x1536.size a) ∧
  (∀ (k0_h4 : k0_cond4 k0_t6 = 1#1), (k0_t12_loop v6582).OK) ∧
  (∀ k0_t12 : Fin (k0_t12_loop v6582).trips, ∀ (k0_h4 : k0_cond4 k0_t6 = 1#1), ∀ a, (k0_off601 k0_t6 v6582 k0_t12) a + S1x1.size a ≤ S8x1536.size a)
theorem k0_t11_ok : ∀ (k0_t6 : Fin k0_t6_loop.trips) (v6582 : BitVec 32) (k0_hw393 : k0_chk393 k0_t6 v6582), ∀ (k0_h4 : k0_cond4 k0_t6 = 1#1), (k0_t11_loop v6582).OK := fun k0_t6 v6582 k0_hw393 k0_h4 => k0_hw393.1 k0_h4
theorem k0_off598_inb : ∀ (k0_t6 : Fin k0_t6_loop.trips) (v6582 : BitVec 32) (k0_hw393 : k0_chk393 k0_t6 v6582) (k0_t11 : Fin (k0_t11_loop v6582).trips), ∀ (k0_h4 : k0_cond4 k0_t6 = 1#1), ∀ a, (k0_off598 k0_t6 v6582 k0_t11) a + S1x1.size a ≤ S8x1536.size a := fun k0_t6 v6582 k0_hw393 k0_t11 k0_h4 => k0_hw393.2.1 k0_t11 k0_h4
theorem k0_t12_ok : ∀ (k0_t6 : Fin k0_t6_loop.trips) (v6582 : BitVec 32) (k0_hw393 : k0_chk393 k0_t6 v6582), ∀ (k0_h4 : k0_cond4 k0_t6 = 1#1), (k0_t12_loop v6582).OK := fun k0_t6 v6582 k0_hw393 k0_h4 => k0_hw393.2.2.1 k0_h4
theorem k0_off601_inb : ∀ (k0_t6 : Fin k0_t6_loop.trips) (v6582 : BitVec 32) (k0_hw393 : k0_chk393 k0_t6 v6582) (k0_t12 : Fin (k0_t12_loop v6582).trips), ∀ (k0_h4 : k0_cond4 k0_t6 = 1#1), ∀ a, (k0_off601 k0_t6 v6582 k0_t12) a + S1x1.size a ≤ S8x1536.size a := fun k0_t6 v6582 k0_hw393 k0_t12 k0_h4 => k0_hw393.2.2.2 k0_t12 k0_h4

def k0_mult14 (v6597 : BitVec 32) : BitVec 32 :=
  let c8_i32_3726 : BitVec 32 := 8#32
  let v6598 : BitVec 32 := Scalar.muli v6597 c8_i32_3726
  v6598

def k0_off602 (k0_t6 : Fin k0_t6_loop.trips) : Fin 1 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c8_i32_3711 : BitVec 32 := 8#32
  let v6579 : BitVec 32 := Scalar.addi v3948 c8_i32_3711
  ![v6579.toNat]
def k0_off603 (v6597 : BitVec 32) : Fin 3 → Nat :=
  let c8_i32_3726 : BitVec 32 := 8#32
  let v6598 : BitVec 32 := Scalar.muli v6597 c8_i32_3726
  let v6599 : BitVec 32 := v6598
  let c0_i32_3727 : BitVec 32 := 0#32
  let c0_i32_3728 : BitVec 32 := 0#32
  ![v6599.toNat, 0, 0]

def k0_chk395 (k0_t6 : Fin k0_t6_loop.trips) (v6597 : BitVec 32) : Prop :=
  (∀ (k0_h4 : k0_cond4 k0_t6 = 1#1), 8 ∣ (k0_mult14 v6597).toNat) ∧
  (∀ (k0_h4 : k0_cond4 k0_t6 = 1#1), ∀ a, (k0_off603 v6597) a + S8x28x128.size a ≤ S2272x28x128.size a)
theorem k0_mult14_dvd : ∀ (k0_t6 : Fin k0_t6_loop.trips) (v6597 : BitVec 32) (k0_hw395 : k0_chk395 k0_t6 v6597), ∀ (k0_h4 : k0_cond4 k0_t6 = 1#1), 8 ∣ (k0_mult14 v6597).toNat := fun k0_t6 v6597 k0_hw395 k0_h4 => k0_hw395.1 k0_h4
theorem k0_off603_inb : ∀ (k0_t6 : Fin k0_t6_loop.trips) (v6597 : BitVec 32) (k0_hw395 : k0_chk395 k0_t6 v6597), ∀ (k0_h4 : k0_cond4 k0_t6 = 1#1), ∀ a, (k0_off603 v6597) a + S8x28x128.size a ≤ S2272x28x128.size a := fun k0_t6 v6597 k0_hw395 k0_h4 => k0_hw395.2 k0_h4

def k0_cond5 (k0_t6 : Fin k0_t6_loop.trips) : BitVec 1 :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2306 : BitVec 32 := 1#32
  let v3955 : BitVec 32 := Scalar.addi v3948 c1_i32_2306
  let c48_i32_2307 : BitVec 32 := 48#32
  let v3956 : BitVec 1 := Scalar.cmpi .slt v3955 c48_i32_2307
  let v3957 : BitVec 32 := Scalar.extui v3956
  let c0_i32_2308 : BitVec 32 := 0#32
  let v3958 : BitVec 1 := Scalar.cmpi .ne v3957 c0_i32_2308
  v3958

def k0_off604 (k0_t6 : Fin k0_t6_loop.trips) : Fin 2 → Nat :=
  let c3_3712 : Index := 3#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3711 : BitVec 32 := 32#32
  let v6579 : BitVec 32 := Scalar.muli v3950 c32_i32_3711
  let v6580 : Index := Scalar.indexCast v6579
  ![3, v6580.toNat]
@[reducible] def k0_t13_loop (v6581 : BitVec 32) : Scf.Loop 32 :=
  let c0_i32_3719 : BitVec 32 := 0#32
  let c0_i32_3713 : BitVec 32 := 0#32
  let v6582 : BitVec 32 := Scalar.subi v6581 c0_i32_3713
  let c1_i32_3714 : BitVec 32 := 1#32
  let c1_i32_3715 : BitVec 32 := 1#32
  let v6583 : BitVec 32 := Scalar.subi c1_i32_3714 c1_i32_3715
  let v6584 : BitVec 32 := Scalar.addi v6582 v6583
  let c1_i32_3716 : BitVec 32 := 1#32
  let v6585 : BitVec 32 := Scalar.divsi v6584 c1_i32_3716
  let v6586 : BitVec 32 := Scalar.subi v6585 c0_i32_3719
  let c1_i32_3720 : BitVec 32 := 1#32
  let v6588 : BitVec 32 := Scalar.divsi v6586 c1_i32_3720
  let v6589 : BitVec 32 := Scalar.muli v6588 c1_i32_3720
  let v6590 : BitVec 32 := Scalar.addi c0_i32_3719 v6589
  let c1_i32_3721 : BitVec 32 := 1#32
  ⟨c0_i32_3719, v6590, c1_i32_3721⟩

def k0_mult15 : BitVec 32 :=
  let c0_i32_3723 : BitVec 32 := 0#32
  c0_i32_3723
def k0_off605 (k0_t6 : Fin k0_t6_loop.trips) : Fin 1 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  ![v3950.toNat]
@[reducible] def k0_t14_loop (v6581 : BitVec 32) : Scf.Loop 32 :=
  let c0_i32_3719 : BitVec 32 := 0#32
  let c0_i32_3713 : BitVec 32 := 0#32
  let v6582 : BitVec 32 := Scalar.subi v6581 c0_i32_3713
  let c1_i32_3714 : BitVec 32 := 1#32
  let c1_i32_3715 : BitVec 32 := 1#32
  let v6583 : BitVec 32 := Scalar.subi c1_i32_3714 c1_i32_3715
  let v6584 : BitVec 32 := Scalar.addi v6582 v6583
  let c1_i32_3716 : BitVec 32 := 1#32
  let v6585 : BitVec 32 := Scalar.divsi v6584 c1_i32_3716
  let v6586 : BitVec 32 := Scalar.subi v6585 c0_i32_3719
  let c1_i32_3720 : BitVec 32 := 1#32
  let v6588 : BitVec 32 := Scalar.divsi v6586 c1_i32_3720
  let v6589 : BitVec 32 := Scalar.muli v6588 c1_i32_3720
  let v6590 : BitVec 32 := Scalar.addi c0_i32_3719 v6589
  let v6587 : BitVec 32 := Scalar.addi c0_i32_3719 v6586
  let c1_i32_3722 : BitVec 32 := 1#32
  ⟨v6590, v6587, c1_i32_3722⟩

def k0_chk396 (k0_t6 : Fin k0_t6_loop.trips) (v6581 : BitVec 32) : Prop :=
  (∀ (k0_h5 : k0_cond5 k0_t6 = 1#1), (k0_t13_loop v6581).OK) ∧
  (∀ (k0_h5 : k0_cond5 k0_t6 = 1#1), (k0_t14_loop v6581).OK)
theorem k0_t13_ok : ∀ (k0_t6 : Fin k0_t6_loop.trips) (v6581 : BitVec 32) (k0_hw396 : k0_chk396 k0_t6 v6581), ∀ (k0_h5 : k0_cond5 k0_t6 = 1#1), (k0_t13_loop v6581).OK := fun k0_t6 v6581 k0_hw396 k0_h5 => k0_hw396.1 k0_h5
theorem k0_t14_ok : ∀ (k0_t6 : Fin k0_t6_loop.trips) (v6581 : BitVec 32) (k0_hw396 : k0_chk396 k0_t6 v6581), ∀ (k0_h5 : k0_cond5 k0_t6 = 1#1), (k0_t14_loop v6581).OK := fun k0_t6 v6581 k0_hw396 k0_h5 => k0_hw396.2 k0_h5

def k0_mult16 : BitVec 32 :=
  let c0_i32_3723 : BitVec 32 := 0#32
  c0_i32_3723
def k0_off606 (k0_t6 : Fin k0_t6_loop.trips) : Fin 1 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  ![v3950.toNat]
def k0_cond6 (k0_t6 : Fin k0_t6_loop.trips) : BitVec 1 :=
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let c0_i32_2309 : BitVec 32 := 0#32
  let v3959 : BitVec 1 := Scalar.cmpi .sgt v1314 c0_i32_2309
  let v3960 : BitVec 32 := Scalar.extui v3959
  let c0_i32_2310 : BitVec 32 := 0#32
  let v3961 : BitVec 1 := Scalar.cmpi .ne v3960 c0_i32_2310
  v3961

def k0_mult17 (k0_t6 : Fin k0_t6_loop.trips) : BitVec 32 :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c32_i32_3711 : BitVec 32 := 32#32
  let v6579 : BitVec 32 := Scalar.muli v3948 c32_i32_3711
  v6579
def k0_off607 (k0_t6 : Fin k0_t6_loop.trips) : Fin 2 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c32_i32_3711 : BitVec 32 := 32#32
  let v6579 : BitVec 32 := Scalar.muli v3948 c32_i32_3711
  let v6580 : BitVec 32 := v6579
  let c0_i32_3714 : BitVec 32 := 0#32
  ![v6580.toNat, 0]
def k0_off608 (k0_t6 : Fin k0_t6_loop.trips) : Fin 2 → Nat :=
  let c0_2313 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2311 : BitVec 32 := 32#32
  let v3962 : BitVec 32 := Scalar.muli v3950 c32_i32_2311
  let c0_i32_2312 : BitVec 32 := 0#32
  let v3963 : BitVec 32 := Scalar.addi v3962 c0_i32_2312
  let v3964 : Index := Scalar.indexCast v3963
  ![0, v3964.toNat]
def k0_off609 (v3965 : BitVec 32) : Fin 3 → Nat :=
  let v3966 : Index := Scalar.indexCast v3965
  let c0_2314 : Index := 0#32
  let c0_2315 : Index := 0#32
  ![v3966.toNat, 0, 0]

def k0_chk397 (v3965 : BitVec 32) : Prop :=
  (∀ a, (k0_off609 v3965) a + S1x28x128.size a ≤ S2272x28x128.size a)
theorem k0_off609_inb : ∀ (v3965 : BitVec 32) (k0_hw397 : k0_chk397 v3965), ∀ a, (k0_off609 v3965) a + S1x28x128.size a ≤ S2272x28x128.size a := fun v3965 k0_hw397 => k0_hw397

def k0_off610 (k0_t6 : Fin k0_t6_loop.trips) : Fin 2 → Nat :=
  let c0_2320 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2318 : BitVec 32 := 32#32
  let v3972 : BitVec 32 := Scalar.muli v3950 c32_i32_2318
  let c1_i32_2319 : BitVec 32 := 1#32
  let v3973 : BitVec 32 := Scalar.addi v3972 c1_i32_2319
  let v3974 : Index := Scalar.indexCast v3973
  ![0, v3974.toNat]
def k0_off611 (v3975 : BitVec 32) : Fin 3 → Nat :=
  let v3976 : Index := Scalar.indexCast v3975
  let c0_2321 : Index := 0#32
  let c0_2322 : Index := 0#32
  ![v3976.toNat, 0, 0]

def k0_chk398 (v3975 : BitVec 32) : Prop :=
  (∀ a, (k0_off611 v3975) a + S1x28x128.size a ≤ S2272x28x128.size a)
theorem k0_off611_inb : ∀ (v3975 : BitVec 32) (k0_hw398 : k0_chk398 v3975), ∀ a, (k0_off611 v3975) a + S1x28x128.size a ≤ S2272x28x128.size a := fun v3975 k0_hw398 => k0_hw398

def k0_off612 (k0_t6 : Fin k0_t6_loop.trips) : Fin 2 → Nat :=
  let c0_2327 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2325 : BitVec 32 := 32#32
  let v3982 : BitVec 32 := Scalar.muli v3950 c32_i32_2325
  let c2_i32_2326 : BitVec 32 := 2#32
  let v3983 : BitVec 32 := Scalar.addi v3982 c2_i32_2326
  let v3984 : Index := Scalar.indexCast v3983
  ![0, v3984.toNat]
def k0_off613 (v3985 : BitVec 32) : Fin 3 → Nat :=
  let v3986 : Index := Scalar.indexCast v3985
  let c0_2328 : Index := 0#32
  let c0_2329 : Index := 0#32
  ![v3986.toNat, 0, 0]

def k0_chk399 (v3985 : BitVec 32) : Prop :=
  (∀ a, (k0_off613 v3985) a + S1x28x128.size a ≤ S2272x28x128.size a)
theorem k0_off613_inb : ∀ (v3985 : BitVec 32) (k0_hw399 : k0_chk399 v3985), ∀ a, (k0_off613 v3985) a + S1x28x128.size a ≤ S2272x28x128.size a := fun v3985 k0_hw399 => k0_hw399

def k0_off614 (k0_t6 : Fin k0_t6_loop.trips) : Fin 2 → Nat :=
  let c0_2334 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2332 : BitVec 32 := 32#32
  let v3992 : BitVec 32 := Scalar.muli v3950 c32_i32_2332
  let c3_i32_2333 : BitVec 32 := 3#32
  let v3993 : BitVec 32 := Scalar.addi v3992 c3_i32_2333
  let v3994 : Index := Scalar.indexCast v3993
  ![0, v3994.toNat]
def k0_off615 (v3995 : BitVec 32) : Fin 3 → Nat :=
  let v3996 : Index := Scalar.indexCast v3995
  let c0_2335 : Index := 0#32
  let c0_2336 : Index := 0#32
  ![v3996.toNat, 0, 0]

def k0_chk400 (v3995 : BitVec 32) : Prop :=
  (∀ a, (k0_off615 v3995) a + S1x28x128.size a ≤ S2272x28x128.size a)
theorem k0_off615_inb : ∀ (v3995 : BitVec 32) (k0_hw400 : k0_chk400 v3995), ∀ a, (k0_off615 v3995) a + S1x28x128.size a ≤ S2272x28x128.size a := fun v3995 k0_hw400 => k0_hw400

def k0_off616 (k0_t6 : Fin k0_t6_loop.trips) : Fin 2 → Nat :=
  let c0_2341 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2339 : BitVec 32 := 32#32
  let v4002 : BitVec 32 := Scalar.muli v3950 c32_i32_2339
  let c4_i32_2340 : BitVec 32 := 4#32
  let v4003 : BitVec 32 := Scalar.addi v4002 c4_i32_2340
  let v4004 : Index := Scalar.indexCast v4003
  ![0, v4004.toNat]
def k0_off617 (v4005 : BitVec 32) : Fin 3 → Nat :=
  let v4006 : Index := Scalar.indexCast v4005
  let c0_2342 : Index := 0#32
  let c0_2343 : Index := 0#32
  ![v4006.toNat, 0, 0]

def k0_chk401 (v4005 : BitVec 32) : Prop :=
  (∀ a, (k0_off617 v4005) a + S1x28x128.size a ≤ S2272x28x128.size a)
theorem k0_off617_inb : ∀ (v4005 : BitVec 32) (k0_hw401 : k0_chk401 v4005), ∀ a, (k0_off617 v4005) a + S1x28x128.size a ≤ S2272x28x128.size a := fun v4005 k0_hw401 => k0_hw401

def k0_off618 (k0_t6 : Fin k0_t6_loop.trips) : Fin 2 → Nat :=
  let c0_2348 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2346 : BitVec 32 := 32#32
  let v4012 : BitVec 32 := Scalar.muli v3950 c32_i32_2346
  let c5_i32_2347 : BitVec 32 := 5#32
  let v4013 : BitVec 32 := Scalar.addi v4012 c5_i32_2347
  let v4014 : Index := Scalar.indexCast v4013
  ![0, v4014.toNat]
def k0_off619 (v4015 : BitVec 32) : Fin 3 → Nat :=
  let v4016 : Index := Scalar.indexCast v4015
  let c0_2349 : Index := 0#32
  let c0_2350 : Index := 0#32
  ![v4016.toNat, 0, 0]

def k0_chk402 (v4015 : BitVec 32) : Prop :=
  (∀ a, (k0_off619 v4015) a + S1x28x128.size a ≤ S2272x28x128.size a)
theorem k0_off619_inb : ∀ (v4015 : BitVec 32) (k0_hw402 : k0_chk402 v4015), ∀ a, (k0_off619 v4015) a + S1x28x128.size a ≤ S2272x28x128.size a := fun v4015 k0_hw402 => k0_hw402

def k0_off620 (k0_t6 : Fin k0_t6_loop.trips) : Fin 2 → Nat :=
  let c0_2355 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2353 : BitVec 32 := 32#32
  let v4022 : BitVec 32 := Scalar.muli v3950 c32_i32_2353
  let c6_i32_2354 : BitVec 32 := 6#32
  let v4023 : BitVec 32 := Scalar.addi v4022 c6_i32_2354
  let v4024 : Index := Scalar.indexCast v4023
  ![0, v4024.toNat]
def k0_off621 (v4025 : BitVec 32) : Fin 3 → Nat :=
  let v4026 : Index := Scalar.indexCast v4025
  let c0_2356 : Index := 0#32
  let c0_2357 : Index := 0#32
  ![v4026.toNat, 0, 0]

def k0_chk403 (v4025 : BitVec 32) : Prop :=
  (∀ a, (k0_off621 v4025) a + S1x28x128.size a ≤ S2272x28x128.size a)
theorem k0_off621_inb : ∀ (v4025 : BitVec 32) (k0_hw403 : k0_chk403 v4025), ∀ a, (k0_off621 v4025) a + S1x28x128.size a ≤ S2272x28x128.size a := fun v4025 k0_hw403 => k0_hw403

def k0_off622 (k0_t6 : Fin k0_t6_loop.trips) : Fin 2 → Nat :=
  let c0_2362 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2360 : BitVec 32 := 32#32
  let v4032 : BitVec 32 := Scalar.muli v3950 c32_i32_2360
  let c7_i32_2361 : BitVec 32 := 7#32
  let v4033 : BitVec 32 := Scalar.addi v4032 c7_i32_2361
  let v4034 : Index := Scalar.indexCast v4033
  ![0, v4034.toNat]
def k0_off623 (v4035 : BitVec 32) : Fin 3 → Nat :=
  let v4036 : Index := Scalar.indexCast v4035
  let c0_2363 : Index := 0#32
  let c0_2364 : Index := 0#32
  ![v4036.toNat, 0, 0]

def k0_chk404 (v4035 : BitVec 32) : Prop :=
  (∀ a, (k0_off623 v4035) a + S1x28x128.size a ≤ S2272x28x128.size a)
theorem k0_off623_inb : ∀ (v4035 : BitVec 32) (k0_hw404 : k0_chk404 v4035), ∀ a, (k0_off623 v4035) a + S1x28x128.size a ≤ S2272x28x128.size a := fun v4035 k0_hw404 => k0_hw404

def k0_off624 (k0_t6 : Fin k0_t6_loop.trips) : Fin 2 → Nat :=
  let c0_2369 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2367 : BitVec 32 := 32#32
  let v4042 : BitVec 32 := Scalar.muli v3950 c32_i32_2367
  let c8_i32_2368 : BitVec 32 := 8#32
  let v4043 : BitVec 32 := Scalar.addi v4042 c8_i32_2368
  let v4044 : Index := Scalar.indexCast v4043
  ![0, v4044.toNat]
def k0_off625 (v4045 : BitVec 32) : Fin 3 → Nat :=
  let v4046 : Index := Scalar.indexCast v4045
  let c0_2370 : Index := 0#32
  let c0_2371 : Index := 0#32
  ![v4046.toNat, 0, 0]

def k0_chk405 (v4045 : BitVec 32) : Prop :=
  (∀ a, (k0_off625 v4045) a + S1x28x128.size a ≤ S2272x28x128.size a)
theorem k0_off625_inb : ∀ (v4045 : BitVec 32) (k0_hw405 : k0_chk405 v4045), ∀ a, (k0_off625 v4045) a + S1x28x128.size a ≤ S2272x28x128.size a := fun v4045 k0_hw405 => k0_hw405

def k0_off626 (k0_t6 : Fin k0_t6_loop.trips) : Fin 2 → Nat :=
  let c0_2376 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2374 : BitVec 32 := 32#32
  let v4052 : BitVec 32 := Scalar.muli v3950 c32_i32_2374
  let c9_i32_2375 : BitVec 32 := 9#32
  let v4053 : BitVec 32 := Scalar.addi v4052 c9_i32_2375
  let v4054 : Index := Scalar.indexCast v4053
  ![0, v4054.toNat]
def k0_off627 (v4055 : BitVec 32) : Fin 3 → Nat :=
  let v4056 : Index := Scalar.indexCast v4055
  let c0_2377 : Index := 0#32
  let c0_2378 : Index := 0#32
  ![v4056.toNat, 0, 0]

def k0_chk406 (v4055 : BitVec 32) : Prop :=
  (∀ a, (k0_off627 v4055) a + S1x28x128.size a ≤ S2272x28x128.size a)
theorem k0_off627_inb : ∀ (v4055 : BitVec 32) (k0_hw406 : k0_chk406 v4055), ∀ a, (k0_off627 v4055) a + S1x28x128.size a ≤ S2272x28x128.size a := fun v4055 k0_hw406 => k0_hw406

def k0_off628 (k0_t6 : Fin k0_t6_loop.trips) : Fin 2 → Nat :=
  let c0_2383 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2381 : BitVec 32 := 32#32
  let v4062 : BitVec 32 := Scalar.muli v3950 c32_i32_2381
  let c10_i32_2382 : BitVec 32 := 10#32
  let v4063 : BitVec 32 := Scalar.addi v4062 c10_i32_2382
  let v4064 : Index := Scalar.indexCast v4063
  ![0, v4064.toNat]
def k0_off629 (v4065 : BitVec 32) : Fin 3 → Nat :=
  let v4066 : Index := Scalar.indexCast v4065
  let c0_2384 : Index := 0#32
  let c0_2385 : Index := 0#32
  ![v4066.toNat, 0, 0]

def k0_chk407 (v4065 : BitVec 32) : Prop :=
  (∀ a, (k0_off629 v4065) a + S1x28x128.size a ≤ S2272x28x128.size a)
theorem k0_off629_inb : ∀ (v4065 : BitVec 32) (k0_hw407 : k0_chk407 v4065), ∀ a, (k0_off629 v4065) a + S1x28x128.size a ≤ S2272x28x128.size a := fun v4065 k0_hw407 => k0_hw407

def k0_off630 (k0_t6 : Fin k0_t6_loop.trips) : Fin 2 → Nat :=
  let c0_2390 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2388 : BitVec 32 := 32#32
  let v4072 : BitVec 32 := Scalar.muli v3950 c32_i32_2388
  let c11_i32_2389 : BitVec 32 := 11#32
  let v4073 : BitVec 32 := Scalar.addi v4072 c11_i32_2389
  let v4074 : Index := Scalar.indexCast v4073
  ![0, v4074.toNat]
def k0_off631 (v4075 : BitVec 32) : Fin 3 → Nat :=
  let v4076 : Index := Scalar.indexCast v4075
  let c0_2391 : Index := 0#32
  let c0_2392 : Index := 0#32
  ![v4076.toNat, 0, 0]

def k0_chk408 (v4075 : BitVec 32) : Prop :=
  (∀ a, (k0_off631 v4075) a + S1x28x128.size a ≤ S2272x28x128.size a)
theorem k0_off631_inb : ∀ (v4075 : BitVec 32) (k0_hw408 : k0_chk408 v4075), ∀ a, (k0_off631 v4075) a + S1x28x128.size a ≤ S2272x28x128.size a := fun v4075 k0_hw408 => k0_hw408

def k0_off632 (k0_t6 : Fin k0_t6_loop.trips) : Fin 2 → Nat :=
  let c0_2397 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2395 : BitVec 32 := 32#32
  let v4082 : BitVec 32 := Scalar.muli v3950 c32_i32_2395
  let c12_i32_2396 : BitVec 32 := 12#32
  let v4083 : BitVec 32 := Scalar.addi v4082 c12_i32_2396
  let v4084 : Index := Scalar.indexCast v4083
  ![0, v4084.toNat]
def k0_off633 (v4085 : BitVec 32) : Fin 3 → Nat :=
  let v4086 : Index := Scalar.indexCast v4085
  let c0_2398 : Index := 0#32
  let c0_2399 : Index := 0#32
  ![v4086.toNat, 0, 0]

def k0_chk409 (v4085 : BitVec 32) : Prop :=
  (∀ a, (k0_off633 v4085) a + S1x28x128.size a ≤ S2272x28x128.size a)
theorem k0_off633_inb : ∀ (v4085 : BitVec 32) (k0_hw409 : k0_chk409 v4085), ∀ a, (k0_off633 v4085) a + S1x28x128.size a ≤ S2272x28x128.size a := fun v4085 k0_hw409 => k0_hw409

def k0_off634 (k0_t6 : Fin k0_t6_loop.trips) : Fin 2 → Nat :=
  let c0_2404 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2402 : BitVec 32 := 32#32
  let v4092 : BitVec 32 := Scalar.muli v3950 c32_i32_2402
  let c13_i32_2403 : BitVec 32 := 13#32
  let v4093 : BitVec 32 := Scalar.addi v4092 c13_i32_2403
  let v4094 : Index := Scalar.indexCast v4093
  ![0, v4094.toNat]
def k0_off635 (v4095 : BitVec 32) : Fin 3 → Nat :=
  let v4096 : Index := Scalar.indexCast v4095
  let c0_2405 : Index := 0#32
  let c0_2406 : Index := 0#32
  ![v4096.toNat, 0, 0]

def k0_chk410 (v4095 : BitVec 32) : Prop :=
  (∀ a, (k0_off635 v4095) a + S1x28x128.size a ≤ S2272x28x128.size a)
theorem k0_off635_inb : ∀ (v4095 : BitVec 32) (k0_hw410 : k0_chk410 v4095), ∀ a, (k0_off635 v4095) a + S1x28x128.size a ≤ S2272x28x128.size a := fun v4095 k0_hw410 => k0_hw410

def k0_off636 (k0_t6 : Fin k0_t6_loop.trips) : Fin 2 → Nat :=
  let c0_2411 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2409 : BitVec 32 := 32#32
  let v4102 : BitVec 32 := Scalar.muli v3950 c32_i32_2409
  let c14_i32_2410 : BitVec 32 := 14#32
  let v4103 : BitVec 32 := Scalar.addi v4102 c14_i32_2410
  let v4104 : Index := Scalar.indexCast v4103
  ![0, v4104.toNat]
def k0_off637 (v4105 : BitVec 32) : Fin 3 → Nat :=
  let v4106 : Index := Scalar.indexCast v4105
  let c0_2412 : Index := 0#32
  let c0_2413 : Index := 0#32
  ![v4106.toNat, 0, 0]

def k0_chk411 (v4105 : BitVec 32) : Prop :=
  (∀ a, (k0_off637 v4105) a + S1x28x128.size a ≤ S2272x28x128.size a)
theorem k0_off637_inb : ∀ (v4105 : BitVec 32) (k0_hw411 : k0_chk411 v4105), ∀ a, (k0_off637 v4105) a + S1x28x128.size a ≤ S2272x28x128.size a := fun v4105 k0_hw411 => k0_hw411

def k0_off638 (k0_t6 : Fin k0_t6_loop.trips) : Fin 2 → Nat :=
  let c0_2418 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2416 : BitVec 32 := 32#32
  let v4112 : BitVec 32 := Scalar.muli v3950 c32_i32_2416
  let c15_i32_2417 : BitVec 32 := 15#32
  let v4113 : BitVec 32 := Scalar.addi v4112 c15_i32_2417
  let v4114 : Index := Scalar.indexCast v4113
  ![0, v4114.toNat]
def k0_off639 (v4115 : BitVec 32) : Fin 3 → Nat :=
  let v4116 : Index := Scalar.indexCast v4115
  let c0_2419 : Index := 0#32
  let c0_2420 : Index := 0#32
  ![v4116.toNat, 0, 0]

def k0_chk412 (v4115 : BitVec 32) : Prop :=
  (∀ a, (k0_off639 v4115) a + S1x28x128.size a ≤ S2272x28x128.size a)
theorem k0_off639_inb : ∀ (v4115 : BitVec 32) (k0_hw412 : k0_chk412 v4115), ∀ a, (k0_off639 v4115) a + S1x28x128.size a ≤ S2272x28x128.size a := fun v4115 k0_hw412 => k0_hw412

def k0_off640 (k0_t6 : Fin k0_t6_loop.trips) : Fin 2 → Nat :=
  let c0_2425 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2423 : BitVec 32 := 32#32
  let v4122 : BitVec 32 := Scalar.muli v3950 c32_i32_2423
  let c16_i32_2424 : BitVec 32 := 16#32
  let v4123 : BitVec 32 := Scalar.addi v4122 c16_i32_2424
  let v4124 : Index := Scalar.indexCast v4123
  ![0, v4124.toNat]
def k0_off641 (v4125 : BitVec 32) : Fin 3 → Nat :=
  let v4126 : Index := Scalar.indexCast v4125
  let c0_2426 : Index := 0#32
  let c0_2427 : Index := 0#32
  ![v4126.toNat, 0, 0]

def k0_chk413 (v4125 : BitVec 32) : Prop :=
  (∀ a, (k0_off641 v4125) a + S1x28x128.size a ≤ S2272x28x128.size a)
theorem k0_off641_inb : ∀ (v4125 : BitVec 32) (k0_hw413 : k0_chk413 v4125), ∀ a, (k0_off641 v4125) a + S1x28x128.size a ≤ S2272x28x128.size a := fun v4125 k0_hw413 => k0_hw413

def k0_off642 (k0_t6 : Fin k0_t6_loop.trips) : Fin 2 → Nat :=
  let c0_2432 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2430 : BitVec 32 := 32#32
  let v4132 : BitVec 32 := Scalar.muli v3950 c32_i32_2430
  let c17_i32_2431 : BitVec 32 := 17#32
  let v4133 : BitVec 32 := Scalar.addi v4132 c17_i32_2431
  let v4134 : Index := Scalar.indexCast v4133
  ![0, v4134.toNat]
def k0_off643 (v4135 : BitVec 32) : Fin 3 → Nat :=
  let v4136 : Index := Scalar.indexCast v4135
  let c0_2433 : Index := 0#32
  let c0_2434 : Index := 0#32
  ![v4136.toNat, 0, 0]

def k0_chk414 (v4135 : BitVec 32) : Prop :=
  (∀ a, (k0_off643 v4135) a + S1x28x128.size a ≤ S2272x28x128.size a)
theorem k0_off643_inb : ∀ (v4135 : BitVec 32) (k0_hw414 : k0_chk414 v4135), ∀ a, (k0_off643 v4135) a + S1x28x128.size a ≤ S2272x28x128.size a := fun v4135 k0_hw414 => k0_hw414

def k0_off644 (k0_t6 : Fin k0_t6_loop.trips) : Fin 2 → Nat :=
  let c0_2439 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2437 : BitVec 32 := 32#32
  let v4142 : BitVec 32 := Scalar.muli v3950 c32_i32_2437
  let c18_i32_2438 : BitVec 32 := 18#32
  let v4143 : BitVec 32 := Scalar.addi v4142 c18_i32_2438
  let v4144 : Index := Scalar.indexCast v4143
  ![0, v4144.toNat]
def k0_off645 (v4145 : BitVec 32) : Fin 3 → Nat :=
  let v4146 : Index := Scalar.indexCast v4145
  let c0_2440 : Index := 0#32
  let c0_2441 : Index := 0#32
  ![v4146.toNat, 0, 0]

def k0_chk415 (v4145 : BitVec 32) : Prop :=
  (∀ a, (k0_off645 v4145) a + S1x28x128.size a ≤ S2272x28x128.size a)
theorem k0_off645_inb : ∀ (v4145 : BitVec 32) (k0_hw415 : k0_chk415 v4145), ∀ a, (k0_off645 v4145) a + S1x28x128.size a ≤ S2272x28x128.size a := fun v4145 k0_hw415 => k0_hw415

def k0_off646 (k0_t6 : Fin k0_t6_loop.trips) : Fin 2 → Nat :=
  let c0_2446 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2444 : BitVec 32 := 32#32
  let v4152 : BitVec 32 := Scalar.muli v3950 c32_i32_2444
  let c19_i32_2445 : BitVec 32 := 19#32
  let v4153 : BitVec 32 := Scalar.addi v4152 c19_i32_2445
  let v4154 : Index := Scalar.indexCast v4153
  ![0, v4154.toNat]
def k0_off647 (v4155 : BitVec 32) : Fin 3 → Nat :=
  let v4156 : Index := Scalar.indexCast v4155
  let c0_2447 : Index := 0#32
  let c0_2448 : Index := 0#32
  ![v4156.toNat, 0, 0]

def k0_chk416 (v4155 : BitVec 32) : Prop :=
  (∀ a, (k0_off647 v4155) a + S1x28x128.size a ≤ S2272x28x128.size a)
theorem k0_off647_inb : ∀ (v4155 : BitVec 32) (k0_hw416 : k0_chk416 v4155), ∀ a, (k0_off647 v4155) a + S1x28x128.size a ≤ S2272x28x128.size a := fun v4155 k0_hw416 => k0_hw416

def k0_off648 (k0_t6 : Fin k0_t6_loop.trips) : Fin 2 → Nat :=
  let c0_2453 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2451 : BitVec 32 := 32#32
  let v4162 : BitVec 32 := Scalar.muli v3950 c32_i32_2451
  let c20_i32_2452 : BitVec 32 := 20#32
  let v4163 : BitVec 32 := Scalar.addi v4162 c20_i32_2452
  let v4164 : Index := Scalar.indexCast v4163
  ![0, v4164.toNat]
def k0_off649 (v4165 : BitVec 32) : Fin 3 → Nat :=
  let v4166 : Index := Scalar.indexCast v4165
  let c0_2454 : Index := 0#32
  let c0_2455 : Index := 0#32
  ![v4166.toNat, 0, 0]

def k0_chk417 (v4165 : BitVec 32) : Prop :=
  (∀ a, (k0_off649 v4165) a + S1x28x128.size a ≤ S2272x28x128.size a)
theorem k0_off649_inb : ∀ (v4165 : BitVec 32) (k0_hw417 : k0_chk417 v4165), ∀ a, (k0_off649 v4165) a + S1x28x128.size a ≤ S2272x28x128.size a := fun v4165 k0_hw417 => k0_hw417

def k0_off650 (k0_t6 : Fin k0_t6_loop.trips) : Fin 2 → Nat :=
  let c0_2460 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2458 : BitVec 32 := 32#32
  let v4172 : BitVec 32 := Scalar.muli v3950 c32_i32_2458
  let c21_i32_2459 : BitVec 32 := 21#32
  let v4173 : BitVec 32 := Scalar.addi v4172 c21_i32_2459
  let v4174 : Index := Scalar.indexCast v4173
  ![0, v4174.toNat]
def k0_off651 (v4175 : BitVec 32) : Fin 3 → Nat :=
  let v4176 : Index := Scalar.indexCast v4175
  let c0_2461 : Index := 0#32
  let c0_2462 : Index := 0#32
  ![v4176.toNat, 0, 0]

def k0_chk418 (v4175 : BitVec 32) : Prop :=
  (∀ a, (k0_off651 v4175) a + S1x28x128.size a ≤ S2272x28x128.size a)
theorem k0_off651_inb : ∀ (v4175 : BitVec 32) (k0_hw418 : k0_chk418 v4175), ∀ a, (k0_off651 v4175) a + S1x28x128.size a ≤ S2272x28x128.size a := fun v4175 k0_hw418 => k0_hw418

def k0_off652 (k0_t6 : Fin k0_t6_loop.trips) : Fin 2 → Nat :=
  let c0_2467 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2465 : BitVec 32 := 32#32
  let v4182 : BitVec 32 := Scalar.muli v3950 c32_i32_2465
  let c22_i32_2466 : BitVec 32 := 22#32
  let v4183 : BitVec 32 := Scalar.addi v4182 c22_i32_2466
  let v4184 : Index := Scalar.indexCast v4183
  ![0, v4184.toNat]
def k0_off653 (v4185 : BitVec 32) : Fin 3 → Nat :=
  let v4186 : Index := Scalar.indexCast v4185
  let c0_2468 : Index := 0#32
  let c0_2469 : Index := 0#32
  ![v4186.toNat, 0, 0]

def k0_chk419 (v4185 : BitVec 32) : Prop :=
  (∀ a, (k0_off653 v4185) a + S1x28x128.size a ≤ S2272x28x128.size a)
theorem k0_off653_inb : ∀ (v4185 : BitVec 32) (k0_hw419 : k0_chk419 v4185), ∀ a, (k0_off653 v4185) a + S1x28x128.size a ≤ S2272x28x128.size a := fun v4185 k0_hw419 => k0_hw419

def k0_off654 (k0_t6 : Fin k0_t6_loop.trips) : Fin 2 → Nat :=
  let c0_2474 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2472 : BitVec 32 := 32#32
  let v4192 : BitVec 32 := Scalar.muli v3950 c32_i32_2472
  let c23_i32_2473 : BitVec 32 := 23#32
  let v4193 : BitVec 32 := Scalar.addi v4192 c23_i32_2473
  let v4194 : Index := Scalar.indexCast v4193
  ![0, v4194.toNat]
def k0_off655 (v4195 : BitVec 32) : Fin 3 → Nat :=
  let v4196 : Index := Scalar.indexCast v4195
  let c0_2475 : Index := 0#32
  let c0_2476 : Index := 0#32
  ![v4196.toNat, 0, 0]

def k0_chk420 (v4195 : BitVec 32) : Prop :=
  (∀ a, (k0_off655 v4195) a + S1x28x128.size a ≤ S2272x28x128.size a)
theorem k0_off655_inb : ∀ (v4195 : BitVec 32) (k0_hw420 : k0_chk420 v4195), ∀ a, (k0_off655 v4195) a + S1x28x128.size a ≤ S2272x28x128.size a := fun v4195 k0_hw420 => k0_hw420

def k0_off656 (k0_t6 : Fin k0_t6_loop.trips) : Fin 2 → Nat :=
  let c0_2481 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2479 : BitVec 32 := 32#32
  let v4202 : BitVec 32 := Scalar.muli v3950 c32_i32_2479
  let c24_i32_2480 : BitVec 32 := 24#32
  let v4203 : BitVec 32 := Scalar.addi v4202 c24_i32_2480
  let v4204 : Index := Scalar.indexCast v4203
  ![0, v4204.toNat]
def k0_off657 (v4205 : BitVec 32) : Fin 3 → Nat :=
  let v4206 : Index := Scalar.indexCast v4205
  let c0_2482 : Index := 0#32
  let c0_2483 : Index := 0#32
  ![v4206.toNat, 0, 0]

def k0_chk421 (v4205 : BitVec 32) : Prop :=
  (∀ a, (k0_off657 v4205) a + S1x28x128.size a ≤ S2272x28x128.size a)
theorem k0_off657_inb : ∀ (v4205 : BitVec 32) (k0_hw421 : k0_chk421 v4205), ∀ a, (k0_off657 v4205) a + S1x28x128.size a ≤ S2272x28x128.size a := fun v4205 k0_hw421 => k0_hw421

def k0_off658 (k0_t6 : Fin k0_t6_loop.trips) : Fin 2 → Nat :=
  let c0_2488 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2486 : BitVec 32 := 32#32
  let v4212 : BitVec 32 := Scalar.muli v3950 c32_i32_2486
  let c25_i32_2487 : BitVec 32 := 25#32
  let v4213 : BitVec 32 := Scalar.addi v4212 c25_i32_2487
  let v4214 : Index := Scalar.indexCast v4213
  ![0, v4214.toNat]
def k0_off659 (v4215 : BitVec 32) : Fin 3 → Nat :=
  let v4216 : Index := Scalar.indexCast v4215
  let c0_2489 : Index := 0#32
  let c0_2490 : Index := 0#32
  ![v4216.toNat, 0, 0]

def k0_chk422 (v4215 : BitVec 32) : Prop :=
  (∀ a, (k0_off659 v4215) a + S1x28x128.size a ≤ S2272x28x128.size a)
theorem k0_off659_inb : ∀ (v4215 : BitVec 32) (k0_hw422 : k0_chk422 v4215), ∀ a, (k0_off659 v4215) a + S1x28x128.size a ≤ S2272x28x128.size a := fun v4215 k0_hw422 => k0_hw422

def k0_off660 (k0_t6 : Fin k0_t6_loop.trips) : Fin 2 → Nat :=
  let c0_2495 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2493 : BitVec 32 := 32#32
  let v4222 : BitVec 32 := Scalar.muli v3950 c32_i32_2493
  let c26_i32_2494 : BitVec 32 := 26#32
  let v4223 : BitVec 32 := Scalar.addi v4222 c26_i32_2494
  let v4224 : Index := Scalar.indexCast v4223
  ![0, v4224.toNat]
def k0_off661 (v4225 : BitVec 32) : Fin 3 → Nat :=
  let v4226 : Index := Scalar.indexCast v4225
  let c0_2496 : Index := 0#32
  let c0_2497 : Index := 0#32
  ![v4226.toNat, 0, 0]

def k0_chk423 (v4225 : BitVec 32) : Prop :=
  (∀ a, (k0_off661 v4225) a + S1x28x128.size a ≤ S2272x28x128.size a)
theorem k0_off661_inb : ∀ (v4225 : BitVec 32) (k0_hw423 : k0_chk423 v4225), ∀ a, (k0_off661 v4225) a + S1x28x128.size a ≤ S2272x28x128.size a := fun v4225 k0_hw423 => k0_hw423

def k0_off662 (k0_t6 : Fin k0_t6_loop.trips) : Fin 2 → Nat :=
  let c0_2502 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2500 : BitVec 32 := 32#32
  let v4232 : BitVec 32 := Scalar.muli v3950 c32_i32_2500
  let c27_i32_2501 : BitVec 32 := 27#32
  let v4233 : BitVec 32 := Scalar.addi v4232 c27_i32_2501
  let v4234 : Index := Scalar.indexCast v4233
  ![0, v4234.toNat]
def k0_off663 (v4235 : BitVec 32) : Fin 3 → Nat :=
  let v4236 : Index := Scalar.indexCast v4235
  let c0_2503 : Index := 0#32
  let c0_2504 : Index := 0#32
  ![v4236.toNat, 0, 0]

def k0_chk424 (v4235 : BitVec 32) : Prop :=
  (∀ a, (k0_off663 v4235) a + S1x28x128.size a ≤ S2272x28x128.size a)
theorem k0_off663_inb : ∀ (v4235 : BitVec 32) (k0_hw424 : k0_chk424 v4235), ∀ a, (k0_off663 v4235) a + S1x28x128.size a ≤ S2272x28x128.size a := fun v4235 k0_hw424 => k0_hw424

def k0_off664 (k0_t6 : Fin k0_t6_loop.trips) : Fin 2 → Nat :=
  let c0_2509 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2507 : BitVec 32 := 32#32
  let v4242 : BitVec 32 := Scalar.muli v3950 c32_i32_2507
  let c28_i32_2508 : BitVec 32 := 28#32
  let v4243 : BitVec 32 := Scalar.addi v4242 c28_i32_2508
  let v4244 : Index := Scalar.indexCast v4243
  ![0, v4244.toNat]
def k0_off665 (v4245 : BitVec 32) : Fin 3 → Nat :=
  let v4246 : Index := Scalar.indexCast v4245
  let c0_2510 : Index := 0#32
  let c0_2511 : Index := 0#32
  ![v4246.toNat, 0, 0]

def k0_chk425 (v4245 : BitVec 32) : Prop :=
  (∀ a, (k0_off665 v4245) a + S1x28x128.size a ≤ S2272x28x128.size a)
theorem k0_off665_inb : ∀ (v4245 : BitVec 32) (k0_hw425 : k0_chk425 v4245), ∀ a, (k0_off665 v4245) a + S1x28x128.size a ≤ S2272x28x128.size a := fun v4245 k0_hw425 => k0_hw425

def k0_off666 (k0_t6 : Fin k0_t6_loop.trips) : Fin 2 → Nat :=
  let c0_2516 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2514 : BitVec 32 := 32#32
  let v4252 : BitVec 32 := Scalar.muli v3950 c32_i32_2514
  let c29_i32_2515 : BitVec 32 := 29#32
  let v4253 : BitVec 32 := Scalar.addi v4252 c29_i32_2515
  let v4254 : Index := Scalar.indexCast v4253
  ![0, v4254.toNat]
def k0_off667 (v4255 : BitVec 32) : Fin 3 → Nat :=
  let v4256 : Index := Scalar.indexCast v4255
  let c0_2517 : Index := 0#32
  let c0_2518 : Index := 0#32
  ![v4256.toNat, 0, 0]

def k0_chk426 (v4255 : BitVec 32) : Prop :=
  (∀ a, (k0_off667 v4255) a + S1x28x128.size a ≤ S2272x28x128.size a)
theorem k0_off667_inb : ∀ (v4255 : BitVec 32) (k0_hw426 : k0_chk426 v4255), ∀ a, (k0_off667 v4255) a + S1x28x128.size a ≤ S2272x28x128.size a := fun v4255 k0_hw426 => k0_hw426

def k0_off668 (k0_t6 : Fin k0_t6_loop.trips) : Fin 2 → Nat :=
  let c0_2523 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2521 : BitVec 32 := 32#32
  let v4262 : BitVec 32 := Scalar.muli v3950 c32_i32_2521
  let c30_i32_2522 : BitVec 32 := 30#32
  let v4263 : BitVec 32 := Scalar.addi v4262 c30_i32_2522
  let v4264 : Index := Scalar.indexCast v4263
  ![0, v4264.toNat]
def k0_off669 (v4265 : BitVec 32) : Fin 3 → Nat :=
  let v4266 : Index := Scalar.indexCast v4265
  let c0_2524 : Index := 0#32
  let c0_2525 : Index := 0#32
  ![v4266.toNat, 0, 0]

def k0_chk427 (v4265 : BitVec 32) : Prop :=
  (∀ a, (k0_off669 v4265) a + S1x28x128.size a ≤ S2272x28x128.size a)
theorem k0_off669_inb : ∀ (v4265 : BitVec 32) (k0_hw427 : k0_chk427 v4265), ∀ a, (k0_off669 v4265) a + S1x28x128.size a ≤ S2272x28x128.size a := fun v4265 k0_hw427 => k0_hw427

def k0_off670 (k0_t6 : Fin k0_t6_loop.trips) : Fin 2 → Nat :=
  let c0_2530 : Index := 0#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2528 : BitVec 32 := 32#32
  let v4272 : BitVec 32 := Scalar.muli v3950 c32_i32_2528
  let c31_i32_2529 : BitVec 32 := 31#32
  let v4273 : BitVec 32 := Scalar.addi v4272 c31_i32_2529
  let v4274 : Index := Scalar.indexCast v4273
  ![0, v4274.toNat]
def k0_off671 (v4275 : BitVec 32) : Fin 3 → Nat :=
  let v4276 : Index := Scalar.indexCast v4275
  let c0_2531 : Index := 0#32
  let c0_2532 : Index := 0#32
  ![v4276.toNat, 0, 0]

def k0_chk428 (v4275 : BitVec 32) : Prop :=
  (∀ a, (k0_off671 v4275) a + S1x28x128.size a ≤ S2272x28x128.size a)
theorem k0_off671_inb : ∀ (v4275 : BitVec 32) (k0_hw428 : k0_chk428 v4275), ∀ a, (k0_off671 v4275) a + S1x28x128.size a ≤ S2272x28x128.size a := fun v4275 k0_hw428 => k0_hw428

def k0_off672 (k0_t6 : Fin k0_t6_loop.trips) : Fin 2 → Nat :=
  let c1_2537 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2535 : BitVec 32 := 32#32
  let v4282 : BitVec 32 := Scalar.muli v3950 c32_i32_2535
  let c0_i32_2536 : BitVec 32 := 0#32
  let v4283 : BitVec 32 := Scalar.addi v4282 c0_i32_2536
  let v4284 : Index := Scalar.indexCast v4283
  ![1, v4284.toNat]
def k0_off673 (v4285 : BitVec 32) : Fin 3 → Nat :=
  let v4286 : Index := Scalar.indexCast v4285
  let c0_2538 : Index := 0#32
  let c0_2539 : Index := 0#32
  ![v4286.toNat, 0, 0]

def k0_chk429 (v4285 : BitVec 32) : Prop :=
  (∀ a, (k0_off673 v4285) a + S1x28x128.size a ≤ S2272x28x128.size a)
theorem k0_off673_inb : ∀ (v4285 : BitVec 32) (k0_hw429 : k0_chk429 v4285), ∀ a, (k0_off673 v4285) a + S1x28x128.size a ≤ S2272x28x128.size a := fun v4285 k0_hw429 => k0_hw429

def k0_off674 (k0_t6 : Fin k0_t6_loop.trips) : Fin 2 → Nat :=
  let c1_2544 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2542 : BitVec 32 := 32#32
  let v4292 : BitVec 32 := Scalar.muli v3950 c32_i32_2542
  let c1_i32_2543 : BitVec 32 := 1#32
  let v4293 : BitVec 32 := Scalar.addi v4292 c1_i32_2543
  let v4294 : Index := Scalar.indexCast v4293
  ![1, v4294.toNat]
def k0_off675 (v4295 : BitVec 32) : Fin 3 → Nat :=
  let v4296 : Index := Scalar.indexCast v4295
  let c0_2545 : Index := 0#32
  let c0_2546 : Index := 0#32
  ![v4296.toNat, 0, 0]

def k0_chk430 (v4295 : BitVec 32) : Prop :=
  (∀ a, (k0_off675 v4295) a + S1x28x128.size a ≤ S2272x28x128.size a)
theorem k0_off675_inb : ∀ (v4295 : BitVec 32) (k0_hw430 : k0_chk430 v4295), ∀ a, (k0_off675 v4295) a + S1x28x128.size a ≤ S2272x28x128.size a := fun v4295 k0_hw430 => k0_hw430

def k0_off676 (k0_t6 : Fin k0_t6_loop.trips) : Fin 2 → Nat :=
  let c1_2551 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2549 : BitVec 32 := 32#32
  let v4302 : BitVec 32 := Scalar.muli v3950 c32_i32_2549
  let c2_i32_2550 : BitVec 32 := 2#32
  let v4303 : BitVec 32 := Scalar.addi v4302 c2_i32_2550
  let v4304 : Index := Scalar.indexCast v4303
  ![1, v4304.toNat]
def k0_off677 (v4305 : BitVec 32) : Fin 3 → Nat :=
  let v4306 : Index := Scalar.indexCast v4305
  let c0_2552 : Index := 0#32
  let c0_2553 : Index := 0#32
  ![v4306.toNat, 0, 0]

def k0_chk431 (v4305 : BitVec 32) : Prop :=
  (∀ a, (k0_off677 v4305) a + S1x28x128.size a ≤ S2272x28x128.size a)
theorem k0_off677_inb : ∀ (v4305 : BitVec 32) (k0_hw431 : k0_chk431 v4305), ∀ a, (k0_off677 v4305) a + S1x28x128.size a ≤ S2272x28x128.size a := fun v4305 k0_hw431 => k0_hw431

def k0_off678 (k0_t6 : Fin k0_t6_loop.trips) : Fin 2 → Nat :=
  let c1_2558 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2556 : BitVec 32 := 32#32
  let v4312 : BitVec 32 := Scalar.muli v3950 c32_i32_2556
  let c3_i32_2557 : BitVec 32 := 3#32
  let v4313 : BitVec 32 := Scalar.addi v4312 c3_i32_2557
  let v4314 : Index := Scalar.indexCast v4313
  ![1, v4314.toNat]
def k0_off679 (v4315 : BitVec 32) : Fin 3 → Nat :=
  let v4316 : Index := Scalar.indexCast v4315
  let c0_2559 : Index := 0#32
  let c0_2560 : Index := 0#32
  ![v4316.toNat, 0, 0]

def k0_chk432 (v4315 : BitVec 32) : Prop :=
  (∀ a, (k0_off679 v4315) a + S1x28x128.size a ≤ S2272x28x128.size a)
theorem k0_off679_inb : ∀ (v4315 : BitVec 32) (k0_hw432 : k0_chk432 v4315), ∀ a, (k0_off679 v4315) a + S1x28x128.size a ≤ S2272x28x128.size a := fun v4315 k0_hw432 => k0_hw432

def k0_off680 (k0_t6 : Fin k0_t6_loop.trips) : Fin 2 → Nat :=
  let c1_2565 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2563 : BitVec 32 := 32#32
  let v4322 : BitVec 32 := Scalar.muli v3950 c32_i32_2563
  let c4_i32_2564 : BitVec 32 := 4#32
  let v4323 : BitVec 32 := Scalar.addi v4322 c4_i32_2564
  let v4324 : Index := Scalar.indexCast v4323
  ![1, v4324.toNat]
def k0_off681 (v4325 : BitVec 32) : Fin 3 → Nat :=
  let v4326 : Index := Scalar.indexCast v4325
  let c0_2566 : Index := 0#32
  let c0_2567 : Index := 0#32
  ![v4326.toNat, 0, 0]

def k0_chk433 (v4325 : BitVec 32) : Prop :=
  (∀ a, (k0_off681 v4325) a + S1x28x128.size a ≤ S2272x28x128.size a)
theorem k0_off681_inb : ∀ (v4325 : BitVec 32) (k0_hw433 : k0_chk433 v4325), ∀ a, (k0_off681 v4325) a + S1x28x128.size a ≤ S2272x28x128.size a := fun v4325 k0_hw433 => k0_hw433

def k0_off682 (k0_t6 : Fin k0_t6_loop.trips) : Fin 2 → Nat :=
  let c1_2572 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2570 : BitVec 32 := 32#32
  let v4332 : BitVec 32 := Scalar.muli v3950 c32_i32_2570
  let c5_i32_2571 : BitVec 32 := 5#32
  let v4333 : BitVec 32 := Scalar.addi v4332 c5_i32_2571
  let v4334 : Index := Scalar.indexCast v4333
  ![1, v4334.toNat]
def k0_off683 (v4335 : BitVec 32) : Fin 3 → Nat :=
  let v4336 : Index := Scalar.indexCast v4335
  let c0_2573 : Index := 0#32
  let c0_2574 : Index := 0#32
  ![v4336.toNat, 0, 0]

def k0_chk434 (v4335 : BitVec 32) : Prop :=
  (∀ a, (k0_off683 v4335) a + S1x28x128.size a ≤ S2272x28x128.size a)
theorem k0_off683_inb : ∀ (v4335 : BitVec 32) (k0_hw434 : k0_chk434 v4335), ∀ a, (k0_off683 v4335) a + S1x28x128.size a ≤ S2272x28x128.size a := fun v4335 k0_hw434 => k0_hw434

def k0_off684 (k0_t6 : Fin k0_t6_loop.trips) : Fin 2 → Nat :=
  let c1_2579 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2577 : BitVec 32 := 32#32
  let v4342 : BitVec 32 := Scalar.muli v3950 c32_i32_2577
  let c6_i32_2578 : BitVec 32 := 6#32
  let v4343 : BitVec 32 := Scalar.addi v4342 c6_i32_2578
  let v4344 : Index := Scalar.indexCast v4343
  ![1, v4344.toNat]
def k0_off685 (v4345 : BitVec 32) : Fin 3 → Nat :=
  let v4346 : Index := Scalar.indexCast v4345
  let c0_2580 : Index := 0#32
  let c0_2581 : Index := 0#32
  ![v4346.toNat, 0, 0]

def k0_chk435 (v4345 : BitVec 32) : Prop :=
  (∀ a, (k0_off685 v4345) a + S1x28x128.size a ≤ S2272x28x128.size a)
theorem k0_off685_inb : ∀ (v4345 : BitVec 32) (k0_hw435 : k0_chk435 v4345), ∀ a, (k0_off685 v4345) a + S1x28x128.size a ≤ S2272x28x128.size a := fun v4345 k0_hw435 => k0_hw435

def k0_off686 (k0_t6 : Fin k0_t6_loop.trips) : Fin 2 → Nat :=
  let c1_2586 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2584 : BitVec 32 := 32#32
  let v4352 : BitVec 32 := Scalar.muli v3950 c32_i32_2584
  let c7_i32_2585 : BitVec 32 := 7#32
  let v4353 : BitVec 32 := Scalar.addi v4352 c7_i32_2585
  let v4354 : Index := Scalar.indexCast v4353
  ![1, v4354.toNat]
def k0_off687 (v4355 : BitVec 32) : Fin 3 → Nat :=
  let v4356 : Index := Scalar.indexCast v4355
  let c0_2587 : Index := 0#32
  let c0_2588 : Index := 0#32
  ![v4356.toNat, 0, 0]

def k0_chk436 (v4355 : BitVec 32) : Prop :=
  (∀ a, (k0_off687 v4355) a + S1x28x128.size a ≤ S2272x28x128.size a)
theorem k0_off687_inb : ∀ (v4355 : BitVec 32) (k0_hw436 : k0_chk436 v4355), ∀ a, (k0_off687 v4355) a + S1x28x128.size a ≤ S2272x28x128.size a := fun v4355 k0_hw436 => k0_hw436

def k0_off688 (k0_t6 : Fin k0_t6_loop.trips) : Fin 2 → Nat :=
  let c1_2593 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2591 : BitVec 32 := 32#32
  let v4362 : BitVec 32 := Scalar.muli v3950 c32_i32_2591
  let c8_i32_2592 : BitVec 32 := 8#32
  let v4363 : BitVec 32 := Scalar.addi v4362 c8_i32_2592
  let v4364 : Index := Scalar.indexCast v4363
  ![1, v4364.toNat]
def k0_off689 (v4365 : BitVec 32) : Fin 3 → Nat :=
  let v4366 : Index := Scalar.indexCast v4365
  let c0_2594 : Index := 0#32
  let c0_2595 : Index := 0#32
  ![v4366.toNat, 0, 0]

def k0_chk437 (v4365 : BitVec 32) : Prop :=
  (∀ a, (k0_off689 v4365) a + S1x28x128.size a ≤ S2272x28x128.size a)
theorem k0_off689_inb : ∀ (v4365 : BitVec 32) (k0_hw437 : k0_chk437 v4365), ∀ a, (k0_off689 v4365) a + S1x28x128.size a ≤ S2272x28x128.size a := fun v4365 k0_hw437 => k0_hw437

def k0_off690 (k0_t6 : Fin k0_t6_loop.trips) : Fin 2 → Nat :=
  let c1_2600 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2598 : BitVec 32 := 32#32
  let v4372 : BitVec 32 := Scalar.muli v3950 c32_i32_2598
  let c9_i32_2599 : BitVec 32 := 9#32
  let v4373 : BitVec 32 := Scalar.addi v4372 c9_i32_2599
  let v4374 : Index := Scalar.indexCast v4373
  ![1, v4374.toNat]
def k0_off691 (v4375 : BitVec 32) : Fin 3 → Nat :=
  let v4376 : Index := Scalar.indexCast v4375
  let c0_2601 : Index := 0#32
  let c0_2602 : Index := 0#32
  ![v4376.toNat, 0, 0]

def k0_chk438 (v4375 : BitVec 32) : Prop :=
  (∀ a, (k0_off691 v4375) a + S1x28x128.size a ≤ S2272x28x128.size a)
theorem k0_off691_inb : ∀ (v4375 : BitVec 32) (k0_hw438 : k0_chk438 v4375), ∀ a, (k0_off691 v4375) a + S1x28x128.size a ≤ S2272x28x128.size a := fun v4375 k0_hw438 => k0_hw438

def k0_off692 (k0_t6 : Fin k0_t6_loop.trips) : Fin 2 → Nat :=
  let c1_2607 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2605 : BitVec 32 := 32#32
  let v4382 : BitVec 32 := Scalar.muli v3950 c32_i32_2605
  let c10_i32_2606 : BitVec 32 := 10#32
  let v4383 : BitVec 32 := Scalar.addi v4382 c10_i32_2606
  let v4384 : Index := Scalar.indexCast v4383
  ![1, v4384.toNat]
def k0_off693 (v4385 : BitVec 32) : Fin 3 → Nat :=
  let v4386 : Index := Scalar.indexCast v4385
  let c0_2608 : Index := 0#32
  let c0_2609 : Index := 0#32
  ![v4386.toNat, 0, 0]

def k0_chk439 (v4385 : BitVec 32) : Prop :=
  (∀ a, (k0_off693 v4385) a + S1x28x128.size a ≤ S2272x28x128.size a)
theorem k0_off693_inb : ∀ (v4385 : BitVec 32) (k0_hw439 : k0_chk439 v4385), ∀ a, (k0_off693 v4385) a + S1x28x128.size a ≤ S2272x28x128.size a := fun v4385 k0_hw439 => k0_hw439

def k0_off694 (k0_t6 : Fin k0_t6_loop.trips) : Fin 2 → Nat :=
  let c1_2614 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2612 : BitVec 32 := 32#32
  let v4392 : BitVec 32 := Scalar.muli v3950 c32_i32_2612
  let c11_i32_2613 : BitVec 32 := 11#32
  let v4393 : BitVec 32 := Scalar.addi v4392 c11_i32_2613
  let v4394 : Index := Scalar.indexCast v4393
  ![1, v4394.toNat]
def k0_off695 (v4395 : BitVec 32) : Fin 3 → Nat :=
  let v4396 : Index := Scalar.indexCast v4395
  let c0_2615 : Index := 0#32
  let c0_2616 : Index := 0#32
  ![v4396.toNat, 0, 0]

def k0_chk440 (v4395 : BitVec 32) : Prop :=
  (∀ a, (k0_off695 v4395) a + S1x28x128.size a ≤ S2272x28x128.size a)
theorem k0_off695_inb : ∀ (v4395 : BitVec 32) (k0_hw440 : k0_chk440 v4395), ∀ a, (k0_off695 v4395) a + S1x28x128.size a ≤ S2272x28x128.size a := fun v4395 k0_hw440 => k0_hw440

def k0_off696 (k0_t6 : Fin k0_t6_loop.trips) : Fin 2 → Nat :=
  let c1_2621 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2619 : BitVec 32 := 32#32
  let v4402 : BitVec 32 := Scalar.muli v3950 c32_i32_2619
  let c12_i32_2620 : BitVec 32 := 12#32
  let v4403 : BitVec 32 := Scalar.addi v4402 c12_i32_2620
  let v4404 : Index := Scalar.indexCast v4403
  ![1, v4404.toNat]
def k0_off697 (v4405 : BitVec 32) : Fin 3 → Nat :=
  let v4406 : Index := Scalar.indexCast v4405
  let c0_2622 : Index := 0#32
  let c0_2623 : Index := 0#32
  ![v4406.toNat, 0, 0]

def k0_chk441 (v4405 : BitVec 32) : Prop :=
  (∀ a, (k0_off697 v4405) a + S1x28x128.size a ≤ S2272x28x128.size a)
theorem k0_off697_inb : ∀ (v4405 : BitVec 32) (k0_hw441 : k0_chk441 v4405), ∀ a, (k0_off697 v4405) a + S1x28x128.size a ≤ S2272x28x128.size a := fun v4405 k0_hw441 => k0_hw441

def k0_off698 (k0_t6 : Fin k0_t6_loop.trips) : Fin 2 → Nat :=
  let c1_2628 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2626 : BitVec 32 := 32#32
  let v4412 : BitVec 32 := Scalar.muli v3950 c32_i32_2626
  let c13_i32_2627 : BitVec 32 := 13#32
  let v4413 : BitVec 32 := Scalar.addi v4412 c13_i32_2627
  let v4414 : Index := Scalar.indexCast v4413
  ![1, v4414.toNat]
def k0_off699 (v4415 : BitVec 32) : Fin 3 → Nat :=
  let v4416 : Index := Scalar.indexCast v4415
  let c0_2629 : Index := 0#32
  let c0_2630 : Index := 0#32
  ![v4416.toNat, 0, 0]

def k0_chk442 (v4415 : BitVec 32) : Prop :=
  (∀ a, (k0_off699 v4415) a + S1x28x128.size a ≤ S2272x28x128.size a)
theorem k0_off699_inb : ∀ (v4415 : BitVec 32) (k0_hw442 : k0_chk442 v4415), ∀ a, (k0_off699 v4415) a + S1x28x128.size a ≤ S2272x28x128.size a := fun v4415 k0_hw442 => k0_hw442

def k0_off700 (k0_t6 : Fin k0_t6_loop.trips) : Fin 2 → Nat :=
  let c1_2635 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2633 : BitVec 32 := 32#32
  let v4422 : BitVec 32 := Scalar.muli v3950 c32_i32_2633
  let c14_i32_2634 : BitVec 32 := 14#32
  let v4423 : BitVec 32 := Scalar.addi v4422 c14_i32_2634
  let v4424 : Index := Scalar.indexCast v4423
  ![1, v4424.toNat]
def k0_off701 (v4425 : BitVec 32) : Fin 3 → Nat :=
  let v4426 : Index := Scalar.indexCast v4425
  let c0_2636 : Index := 0#32
  let c0_2637 : Index := 0#32
  ![v4426.toNat, 0, 0]

def k0_chk443 (v4425 : BitVec 32) : Prop :=
  (∀ a, (k0_off701 v4425) a + S1x28x128.size a ≤ S2272x28x128.size a)
theorem k0_off701_inb : ∀ (v4425 : BitVec 32) (k0_hw443 : k0_chk443 v4425), ∀ a, (k0_off701 v4425) a + S1x28x128.size a ≤ S2272x28x128.size a := fun v4425 k0_hw443 => k0_hw443

def k0_off702 (k0_t6 : Fin k0_t6_loop.trips) : Fin 2 → Nat :=
  let c1_2642 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2640 : BitVec 32 := 32#32
  let v4432 : BitVec 32 := Scalar.muli v3950 c32_i32_2640
  let c15_i32_2641 : BitVec 32 := 15#32
  let v4433 : BitVec 32 := Scalar.addi v4432 c15_i32_2641
  let v4434 : Index := Scalar.indexCast v4433
  ![1, v4434.toNat]
def k0_off703 (v4435 : BitVec 32) : Fin 3 → Nat :=
  let v4436 : Index := Scalar.indexCast v4435
  let c0_2643 : Index := 0#32
  let c0_2644 : Index := 0#32
  ![v4436.toNat, 0, 0]

def k0_chk444 (v4435 : BitVec 32) : Prop :=
  (∀ a, (k0_off703 v4435) a + S1x28x128.size a ≤ S2272x28x128.size a)
theorem k0_off703_inb : ∀ (v4435 : BitVec 32) (k0_hw444 : k0_chk444 v4435), ∀ a, (k0_off703 v4435) a + S1x28x128.size a ≤ S2272x28x128.size a := fun v4435 k0_hw444 => k0_hw444

def k0_off704 (k0_t6 : Fin k0_t6_loop.trips) : Fin 2 → Nat :=
  let c1_2649 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2647 : BitVec 32 := 32#32
  let v4442 : BitVec 32 := Scalar.muli v3950 c32_i32_2647
  let c16_i32_2648 : BitVec 32 := 16#32
  let v4443 : BitVec 32 := Scalar.addi v4442 c16_i32_2648
  let v4444 : Index := Scalar.indexCast v4443
  ![1, v4444.toNat]
def k0_off705 (v4445 : BitVec 32) : Fin 3 → Nat :=
  let v4446 : Index := Scalar.indexCast v4445
  let c0_2650 : Index := 0#32
  let c0_2651 : Index := 0#32
  ![v4446.toNat, 0, 0]

def k0_chk445 (v4445 : BitVec 32) : Prop :=
  (∀ a, (k0_off705 v4445) a + S1x28x128.size a ≤ S2272x28x128.size a)
theorem k0_off705_inb : ∀ (v4445 : BitVec 32) (k0_hw445 : k0_chk445 v4445), ∀ a, (k0_off705 v4445) a + S1x28x128.size a ≤ S2272x28x128.size a := fun v4445 k0_hw445 => k0_hw445

def k0_off706 (k0_t6 : Fin k0_t6_loop.trips) : Fin 2 → Nat :=
  let c1_2656 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2654 : BitVec 32 := 32#32
  let v4452 : BitVec 32 := Scalar.muli v3950 c32_i32_2654
  let c17_i32_2655 : BitVec 32 := 17#32
  let v4453 : BitVec 32 := Scalar.addi v4452 c17_i32_2655
  let v4454 : Index := Scalar.indexCast v4453
  ![1, v4454.toNat]
def k0_off707 (v4455 : BitVec 32) : Fin 3 → Nat :=
  let v4456 : Index := Scalar.indexCast v4455
  let c0_2657 : Index := 0#32
  let c0_2658 : Index := 0#32
  ![v4456.toNat, 0, 0]

def k0_chk446 (v4455 : BitVec 32) : Prop :=
  (∀ a, (k0_off707 v4455) a + S1x28x128.size a ≤ S2272x28x128.size a)
theorem k0_off707_inb : ∀ (v4455 : BitVec 32) (k0_hw446 : k0_chk446 v4455), ∀ a, (k0_off707 v4455) a + S1x28x128.size a ≤ S2272x28x128.size a := fun v4455 k0_hw446 => k0_hw446

def k0_off708 (k0_t6 : Fin k0_t6_loop.trips) : Fin 2 → Nat :=
  let c1_2663 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2661 : BitVec 32 := 32#32
  let v4462 : BitVec 32 := Scalar.muli v3950 c32_i32_2661
  let c18_i32_2662 : BitVec 32 := 18#32
  let v4463 : BitVec 32 := Scalar.addi v4462 c18_i32_2662
  let v4464 : Index := Scalar.indexCast v4463
  ![1, v4464.toNat]
def k0_off709 (v4465 : BitVec 32) : Fin 3 → Nat :=
  let v4466 : Index := Scalar.indexCast v4465
  let c0_2664 : Index := 0#32
  let c0_2665 : Index := 0#32
  ![v4466.toNat, 0, 0]

def k0_chk447 (v4465 : BitVec 32) : Prop :=
  (∀ a, (k0_off709 v4465) a + S1x28x128.size a ≤ S2272x28x128.size a)
theorem k0_off709_inb : ∀ (v4465 : BitVec 32) (k0_hw447 : k0_chk447 v4465), ∀ a, (k0_off709 v4465) a + S1x28x128.size a ≤ S2272x28x128.size a := fun v4465 k0_hw447 => k0_hw447

def k0_off710 (k0_t6 : Fin k0_t6_loop.trips) : Fin 2 → Nat :=
  let c1_2670 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2668 : BitVec 32 := 32#32
  let v4472 : BitVec 32 := Scalar.muli v3950 c32_i32_2668
  let c19_i32_2669 : BitVec 32 := 19#32
  let v4473 : BitVec 32 := Scalar.addi v4472 c19_i32_2669
  let v4474 : Index := Scalar.indexCast v4473
  ![1, v4474.toNat]
def k0_off711 (v4475 : BitVec 32) : Fin 3 → Nat :=
  let v4476 : Index := Scalar.indexCast v4475
  let c0_2671 : Index := 0#32
  let c0_2672 : Index := 0#32
  ![v4476.toNat, 0, 0]

def k0_chk448 (v4475 : BitVec 32) : Prop :=
  (∀ a, (k0_off711 v4475) a + S1x28x128.size a ≤ S2272x28x128.size a)
theorem k0_off711_inb : ∀ (v4475 : BitVec 32) (k0_hw448 : k0_chk448 v4475), ∀ a, (k0_off711 v4475) a + S1x28x128.size a ≤ S2272x28x128.size a := fun v4475 k0_hw448 => k0_hw448

def k0_off712 (k0_t6 : Fin k0_t6_loop.trips) : Fin 2 → Nat :=
  let c1_2677 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2675 : BitVec 32 := 32#32
  let v4482 : BitVec 32 := Scalar.muli v3950 c32_i32_2675
  let c20_i32_2676 : BitVec 32 := 20#32
  let v4483 : BitVec 32 := Scalar.addi v4482 c20_i32_2676
  let v4484 : Index := Scalar.indexCast v4483
  ![1, v4484.toNat]
def k0_off713 (v4485 : BitVec 32) : Fin 3 → Nat :=
  let v4486 : Index := Scalar.indexCast v4485
  let c0_2678 : Index := 0#32
  let c0_2679 : Index := 0#32
  ![v4486.toNat, 0, 0]

def k0_chk449 (v4485 : BitVec 32) : Prop :=
  (∀ a, (k0_off713 v4485) a + S1x28x128.size a ≤ S2272x28x128.size a)
theorem k0_off713_inb : ∀ (v4485 : BitVec 32) (k0_hw449 : k0_chk449 v4485), ∀ a, (k0_off713 v4485) a + S1x28x128.size a ≤ S2272x28x128.size a := fun v4485 k0_hw449 => k0_hw449

def k0_off714 (k0_t6 : Fin k0_t6_loop.trips) : Fin 2 → Nat :=
  let c1_2684 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2682 : BitVec 32 := 32#32
  let v4492 : BitVec 32 := Scalar.muli v3950 c32_i32_2682
  let c21_i32_2683 : BitVec 32 := 21#32
  let v4493 : BitVec 32 := Scalar.addi v4492 c21_i32_2683
  let v4494 : Index := Scalar.indexCast v4493
  ![1, v4494.toNat]
def k0_off715 (v4495 : BitVec 32) : Fin 3 → Nat :=
  let v4496 : Index := Scalar.indexCast v4495
  let c0_2685 : Index := 0#32
  let c0_2686 : Index := 0#32
  ![v4496.toNat, 0, 0]

def k0_chk450 (v4495 : BitVec 32) : Prop :=
  (∀ a, (k0_off715 v4495) a + S1x28x128.size a ≤ S2272x28x128.size a)
theorem k0_off715_inb : ∀ (v4495 : BitVec 32) (k0_hw450 : k0_chk450 v4495), ∀ a, (k0_off715 v4495) a + S1x28x128.size a ≤ S2272x28x128.size a := fun v4495 k0_hw450 => k0_hw450

def k0_off716 (k0_t6 : Fin k0_t6_loop.trips) : Fin 2 → Nat :=
  let c1_2691 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2689 : BitVec 32 := 32#32
  let v4502 : BitVec 32 := Scalar.muli v3950 c32_i32_2689
  let c22_i32_2690 : BitVec 32 := 22#32
  let v4503 : BitVec 32 := Scalar.addi v4502 c22_i32_2690
  let v4504 : Index := Scalar.indexCast v4503
  ![1, v4504.toNat]
def k0_off717 (v4505 : BitVec 32) : Fin 3 → Nat :=
  let v4506 : Index := Scalar.indexCast v4505
  let c0_2692 : Index := 0#32
  let c0_2693 : Index := 0#32
  ![v4506.toNat, 0, 0]

def k0_chk451 (v4505 : BitVec 32) : Prop :=
  (∀ a, (k0_off717 v4505) a + S1x28x128.size a ≤ S2272x28x128.size a)
theorem k0_off717_inb : ∀ (v4505 : BitVec 32) (k0_hw451 : k0_chk451 v4505), ∀ a, (k0_off717 v4505) a + S1x28x128.size a ≤ S2272x28x128.size a := fun v4505 k0_hw451 => k0_hw451

def k0_off718 (k0_t6 : Fin k0_t6_loop.trips) : Fin 2 → Nat :=
  let c1_2698 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2696 : BitVec 32 := 32#32
  let v4512 : BitVec 32 := Scalar.muli v3950 c32_i32_2696
  let c23_i32_2697 : BitVec 32 := 23#32
  let v4513 : BitVec 32 := Scalar.addi v4512 c23_i32_2697
  let v4514 : Index := Scalar.indexCast v4513
  ![1, v4514.toNat]
def k0_off719 (v4515 : BitVec 32) : Fin 3 → Nat :=
  let v4516 : Index := Scalar.indexCast v4515
  let c0_2699 : Index := 0#32
  let c0_2700 : Index := 0#32
  ![v4516.toNat, 0, 0]

def k0_chk452 (v4515 : BitVec 32) : Prop :=
  (∀ a, (k0_off719 v4515) a + S1x28x128.size a ≤ S2272x28x128.size a)
theorem k0_off719_inb : ∀ (v4515 : BitVec 32) (k0_hw452 : k0_chk452 v4515), ∀ a, (k0_off719 v4515) a + S1x28x128.size a ≤ S2272x28x128.size a := fun v4515 k0_hw452 => k0_hw452

def k0_off720 (k0_t6 : Fin k0_t6_loop.trips) : Fin 2 → Nat :=
  let c1_2705 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2703 : BitVec 32 := 32#32
  let v4522 : BitVec 32 := Scalar.muli v3950 c32_i32_2703
  let c24_i32_2704 : BitVec 32 := 24#32
  let v4523 : BitVec 32 := Scalar.addi v4522 c24_i32_2704
  let v4524 : Index := Scalar.indexCast v4523
  ![1, v4524.toNat]
def k0_off721 (v4525 : BitVec 32) : Fin 3 → Nat :=
  let v4526 : Index := Scalar.indexCast v4525
  let c0_2706 : Index := 0#32
  let c0_2707 : Index := 0#32
  ![v4526.toNat, 0, 0]

def k0_chk453 (v4525 : BitVec 32) : Prop :=
  (∀ a, (k0_off721 v4525) a + S1x28x128.size a ≤ S2272x28x128.size a)
theorem k0_off721_inb : ∀ (v4525 : BitVec 32) (k0_hw453 : k0_chk453 v4525), ∀ a, (k0_off721 v4525) a + S1x28x128.size a ≤ S2272x28x128.size a := fun v4525 k0_hw453 => k0_hw453

def k0_off722 (k0_t6 : Fin k0_t6_loop.trips) : Fin 2 → Nat :=
  let c1_2712 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2710 : BitVec 32 := 32#32
  let v4532 : BitVec 32 := Scalar.muli v3950 c32_i32_2710
  let c25_i32_2711 : BitVec 32 := 25#32
  let v4533 : BitVec 32 := Scalar.addi v4532 c25_i32_2711
  let v4534 : Index := Scalar.indexCast v4533
  ![1, v4534.toNat]
def k0_off723 (v4535 : BitVec 32) : Fin 3 → Nat :=
  let v4536 : Index := Scalar.indexCast v4535
  let c0_2713 : Index := 0#32
  let c0_2714 : Index := 0#32
  ![v4536.toNat, 0, 0]

def k0_chk454 (v4535 : BitVec 32) : Prop :=
  (∀ a, (k0_off723 v4535) a + S1x28x128.size a ≤ S2272x28x128.size a)
theorem k0_off723_inb : ∀ (v4535 : BitVec 32) (k0_hw454 : k0_chk454 v4535), ∀ a, (k0_off723 v4535) a + S1x28x128.size a ≤ S2272x28x128.size a := fun v4535 k0_hw454 => k0_hw454

def k0_off724 (k0_t6 : Fin k0_t6_loop.trips) : Fin 2 → Nat :=
  let c1_2719 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2717 : BitVec 32 := 32#32
  let v4542 : BitVec 32 := Scalar.muli v3950 c32_i32_2717
  let c26_i32_2718 : BitVec 32 := 26#32
  let v4543 : BitVec 32 := Scalar.addi v4542 c26_i32_2718
  let v4544 : Index := Scalar.indexCast v4543
  ![1, v4544.toNat]
def k0_off725 (v4545 : BitVec 32) : Fin 3 → Nat :=
  let v4546 : Index := Scalar.indexCast v4545
  let c0_2720 : Index := 0#32
  let c0_2721 : Index := 0#32
  ![v4546.toNat, 0, 0]

def k0_chk455 (v4545 : BitVec 32) : Prop :=
  (∀ a, (k0_off725 v4545) a + S1x28x128.size a ≤ S2272x28x128.size a)
theorem k0_off725_inb : ∀ (v4545 : BitVec 32) (k0_hw455 : k0_chk455 v4545), ∀ a, (k0_off725 v4545) a + S1x28x128.size a ≤ S2272x28x128.size a := fun v4545 k0_hw455 => k0_hw455

def k0_off726 (k0_t6 : Fin k0_t6_loop.trips) : Fin 2 → Nat :=
  let c1_2726 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2724 : BitVec 32 := 32#32
  let v4552 : BitVec 32 := Scalar.muli v3950 c32_i32_2724
  let c27_i32_2725 : BitVec 32 := 27#32
  let v4553 : BitVec 32 := Scalar.addi v4552 c27_i32_2725
  let v4554 : Index := Scalar.indexCast v4553
  ![1, v4554.toNat]
def k0_off727 (v4555 : BitVec 32) : Fin 3 → Nat :=
  let v4556 : Index := Scalar.indexCast v4555
  let c0_2727 : Index := 0#32
  let c0_2728 : Index := 0#32
  ![v4556.toNat, 0, 0]

def k0_chk456 (v4555 : BitVec 32) : Prop :=
  (∀ a, (k0_off727 v4555) a + S1x28x128.size a ≤ S2272x28x128.size a)
theorem k0_off727_inb : ∀ (v4555 : BitVec 32) (k0_hw456 : k0_chk456 v4555), ∀ a, (k0_off727 v4555) a + S1x28x128.size a ≤ S2272x28x128.size a := fun v4555 k0_hw456 => k0_hw456

def k0_off728 (k0_t6 : Fin k0_t6_loop.trips) : Fin 2 → Nat :=
  let c1_2733 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2731 : BitVec 32 := 32#32
  let v4562 : BitVec 32 := Scalar.muli v3950 c32_i32_2731
  let c28_i32_2732 : BitVec 32 := 28#32
  let v4563 : BitVec 32 := Scalar.addi v4562 c28_i32_2732
  let v4564 : Index := Scalar.indexCast v4563
  ![1, v4564.toNat]
def k0_off729 (v4565 : BitVec 32) : Fin 3 → Nat :=
  let v4566 : Index := Scalar.indexCast v4565
  let c0_2734 : Index := 0#32
  let c0_2735 : Index := 0#32
  ![v4566.toNat, 0, 0]

def k0_chk457 (v4565 : BitVec 32) : Prop :=
  (∀ a, (k0_off729 v4565) a + S1x28x128.size a ≤ S2272x28x128.size a)
theorem k0_off729_inb : ∀ (v4565 : BitVec 32) (k0_hw457 : k0_chk457 v4565), ∀ a, (k0_off729 v4565) a + S1x28x128.size a ≤ S2272x28x128.size a := fun v4565 k0_hw457 => k0_hw457

def k0_off730 (k0_t6 : Fin k0_t6_loop.trips) : Fin 2 → Nat :=
  let c1_2740 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2738 : BitVec 32 := 32#32
  let v4572 : BitVec 32 := Scalar.muli v3950 c32_i32_2738
  let c29_i32_2739 : BitVec 32 := 29#32
  let v4573 : BitVec 32 := Scalar.addi v4572 c29_i32_2739
  let v4574 : Index := Scalar.indexCast v4573
  ![1, v4574.toNat]
def k0_off731 (v4575 : BitVec 32) : Fin 3 → Nat :=
  let v4576 : Index := Scalar.indexCast v4575
  let c0_2741 : Index := 0#32
  let c0_2742 : Index := 0#32
  ![v4576.toNat, 0, 0]

def k0_chk458 (v4575 : BitVec 32) : Prop :=
  (∀ a, (k0_off731 v4575) a + S1x28x128.size a ≤ S2272x28x128.size a)
theorem k0_off731_inb : ∀ (v4575 : BitVec 32) (k0_hw458 : k0_chk458 v4575), ∀ a, (k0_off731 v4575) a + S1x28x128.size a ≤ S2272x28x128.size a := fun v4575 k0_hw458 => k0_hw458

def k0_off732 (k0_t6 : Fin k0_t6_loop.trips) : Fin 2 → Nat :=
  let c1_2747 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2745 : BitVec 32 := 32#32
  let v4582 : BitVec 32 := Scalar.muli v3950 c32_i32_2745
  let c30_i32_2746 : BitVec 32 := 30#32
  let v4583 : BitVec 32 := Scalar.addi v4582 c30_i32_2746
  let v4584 : Index := Scalar.indexCast v4583
  ![1, v4584.toNat]
def k0_off733 (v4585 : BitVec 32) : Fin 3 → Nat :=
  let v4586 : Index := Scalar.indexCast v4585
  let c0_2748 : Index := 0#32
  let c0_2749 : Index := 0#32
  ![v4586.toNat, 0, 0]

def k0_chk459 (v4585 : BitVec 32) : Prop :=
  (∀ a, (k0_off733 v4585) a + S1x28x128.size a ≤ S2272x28x128.size a)
theorem k0_off733_inb : ∀ (v4585 : BitVec 32) (k0_hw459 : k0_chk459 v4585), ∀ a, (k0_off733 v4585) a + S1x28x128.size a ≤ S2272x28x128.size a := fun v4585 k0_hw459 => k0_hw459

def k0_off734 (k0_t6 : Fin k0_t6_loop.trips) : Fin 2 → Nat :=
  let c1_2754 : Index := 1#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2752 : BitVec 32 := 32#32
  let v4592 : BitVec 32 := Scalar.muli v3950 c32_i32_2752
  let c31_i32_2753 : BitVec 32 := 31#32
  let v4593 : BitVec 32 := Scalar.addi v4592 c31_i32_2753
  let v4594 : Index := Scalar.indexCast v4593
  ![1, v4594.toNat]
def k0_off735 (v4595 : BitVec 32) : Fin 3 → Nat :=
  let v4596 : Index := Scalar.indexCast v4595
  let c0_2755 : Index := 0#32
  let c0_2756 : Index := 0#32
  ![v4596.toNat, 0, 0]

def k0_chk460 (v4595 : BitVec 32) : Prop :=
  (∀ a, (k0_off735 v4595) a + S1x28x128.size a ≤ S2272x28x128.size a)
theorem k0_off735_inb : ∀ (v4595 : BitVec 32) (k0_hw460 : k0_chk460 v4595), ∀ a, (k0_off735 v4595) a + S1x28x128.size a ≤ S2272x28x128.size a := fun v4595 k0_hw460 => k0_hw460

def k0_mult18 (k0_t6 : Fin k0_t6_loop.trips) : BitVec 32 :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2759 : BitVec 32 := 32#32
  let v4602 : BitVec 32 := Scalar.muli v3950 c32_i32_2759
  v4602
def k0_off736 (k0_t6 : Fin k0_t6_loop.trips) : Fin 2 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2759 : BitVec 32 := 32#32
  let v4602 : BitVec 32 := Scalar.muli v3950 c32_i32_2759
  let v4603 : BitVec 32 := v4602
  let v4604 : Index := Scalar.indexCast v4603
  let c0_2760 : Index := 0#32
  ![v4604.toNat, 0]
def k0_off737 (k0_t6 : Fin k0_t6_loop.trips) : Fin 2 → Nat :=
  let c4_2763 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2761 : BitVec 32 := 32#32
  let v4608 : BitVec 32 := Scalar.muli v3950 c32_i32_2761
  let c0_i32_2762 : BitVec 32 := 0#32
  let v4609 : BitVec 32 := Scalar.addi v4608 c0_i32_2762
  let v4610 : Index := Scalar.indexCast v4609
  ![4, v4610.toNat]
def k0_off738 (v4611 : BitVec 32) : Fin 2 → Nat :=
  let v4612 : Index := Scalar.indexCast v4611
  let c0_2764 : Index := 0#32
  ![v4612.toNat, 0]

def k0_chk461 (v4611 : BitVec 32) : Prop :=
  (∀ a, (k0_off738 v4611) a + S1x128.size a ≤ S9088x128.size a)
theorem k0_off738_inb : ∀ (v4611 : BitVec 32) (k0_hw461 : k0_chk461 v4611), ∀ a, (k0_off738 v4611) a + S1x128.size a ≤ S9088x128.size a := fun v4611 k0_hw461 => k0_hw461

def k0_off739 (k0_t6 : Fin k0_t6_loop.trips) : Fin 2 → Nat :=
  let c4_2769 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2767 : BitVec 32 := 32#32
  let v4617 : BitVec 32 := Scalar.muli v3950 c32_i32_2767
  let c1_i32_2768 : BitVec 32 := 1#32
  let v4618 : BitVec 32 := Scalar.addi v4617 c1_i32_2768
  let v4619 : Index := Scalar.indexCast v4618
  ![4, v4619.toNat]
def k0_off740 (v4620 : BitVec 32) : Fin 2 → Nat :=
  let v4621 : Index := Scalar.indexCast v4620
  let c0_2770 : Index := 0#32
  ![v4621.toNat, 0]

def k0_chk462 (v4620 : BitVec 32) : Prop :=
  (∀ a, (k0_off740 v4620) a + S1x128.size a ≤ S9088x128.size a)
theorem k0_off740_inb : ∀ (v4620 : BitVec 32) (k0_hw462 : k0_chk462 v4620), ∀ a, (k0_off740 v4620) a + S1x128.size a ≤ S9088x128.size a := fun v4620 k0_hw462 => k0_hw462

def k0_off741 (k0_t6 : Fin k0_t6_loop.trips) : Fin 2 → Nat :=
  let c4_2775 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2773 : BitVec 32 := 32#32
  let v4626 : BitVec 32 := Scalar.muli v3950 c32_i32_2773
  let c2_i32_2774 : BitVec 32 := 2#32
  let v4627 : BitVec 32 := Scalar.addi v4626 c2_i32_2774
  let v4628 : Index := Scalar.indexCast v4627
  ![4, v4628.toNat]
def k0_off742 (v4629 : BitVec 32) : Fin 2 → Nat :=
  let v4630 : Index := Scalar.indexCast v4629
  let c0_2776 : Index := 0#32
  ![v4630.toNat, 0]

def k0_chk463 (v4629 : BitVec 32) : Prop :=
  (∀ a, (k0_off742 v4629) a + S1x128.size a ≤ S9088x128.size a)
theorem k0_off742_inb : ∀ (v4629 : BitVec 32) (k0_hw463 : k0_chk463 v4629), ∀ a, (k0_off742 v4629) a + S1x128.size a ≤ S9088x128.size a := fun v4629 k0_hw463 => k0_hw463

def k0_off743 (k0_t6 : Fin k0_t6_loop.trips) : Fin 2 → Nat :=
  let c4_2781 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2779 : BitVec 32 := 32#32
  let v4635 : BitVec 32 := Scalar.muli v3950 c32_i32_2779
  let c3_i32_2780 : BitVec 32 := 3#32
  let v4636 : BitVec 32 := Scalar.addi v4635 c3_i32_2780
  let v4637 : Index := Scalar.indexCast v4636
  ![4, v4637.toNat]
def k0_off744 (v4638 : BitVec 32) : Fin 2 → Nat :=
  let v4639 : Index := Scalar.indexCast v4638
  let c0_2782 : Index := 0#32
  ![v4639.toNat, 0]

def k0_chk464 (v4638 : BitVec 32) : Prop :=
  (∀ a, (k0_off744 v4638) a + S1x128.size a ≤ S9088x128.size a)
theorem k0_off744_inb : ∀ (v4638 : BitVec 32) (k0_hw464 : k0_chk464 v4638), ∀ a, (k0_off744 v4638) a + S1x128.size a ≤ S9088x128.size a := fun v4638 k0_hw464 => k0_hw464

def k0_off745 (k0_t6 : Fin k0_t6_loop.trips) : Fin 2 → Nat :=
  let c4_2787 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2785 : BitVec 32 := 32#32
  let v4644 : BitVec 32 := Scalar.muli v3950 c32_i32_2785
  let c4_i32_2786 : BitVec 32 := 4#32
  let v4645 : BitVec 32 := Scalar.addi v4644 c4_i32_2786
  let v4646 : Index := Scalar.indexCast v4645
  ![4, v4646.toNat]
def k0_off746 (v4647 : BitVec 32) : Fin 2 → Nat :=
  let v4648 : Index := Scalar.indexCast v4647
  let c0_2788 : Index := 0#32
  ![v4648.toNat, 0]

def k0_chk465 (v4647 : BitVec 32) : Prop :=
  (∀ a, (k0_off746 v4647) a + S1x128.size a ≤ S9088x128.size a)
theorem k0_off746_inb : ∀ (v4647 : BitVec 32) (k0_hw465 : k0_chk465 v4647), ∀ a, (k0_off746 v4647) a + S1x128.size a ≤ S9088x128.size a := fun v4647 k0_hw465 => k0_hw465

def k0_off747 (k0_t6 : Fin k0_t6_loop.trips) : Fin 2 → Nat :=
  let c4_2793 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2791 : BitVec 32 := 32#32
  let v4653 : BitVec 32 := Scalar.muli v3950 c32_i32_2791
  let c5_i32_2792 : BitVec 32 := 5#32
  let v4654 : BitVec 32 := Scalar.addi v4653 c5_i32_2792
  let v4655 : Index := Scalar.indexCast v4654
  ![4, v4655.toNat]
def k0_off748 (v4656 : BitVec 32) : Fin 2 → Nat :=
  let v4657 : Index := Scalar.indexCast v4656
  let c0_2794 : Index := 0#32
  ![v4657.toNat, 0]

def k0_chk466 (v4656 : BitVec 32) : Prop :=
  (∀ a, (k0_off748 v4656) a + S1x128.size a ≤ S9088x128.size a)
theorem k0_off748_inb : ∀ (v4656 : BitVec 32) (k0_hw466 : k0_chk466 v4656), ∀ a, (k0_off748 v4656) a + S1x128.size a ≤ S9088x128.size a := fun v4656 k0_hw466 => k0_hw466

def k0_off749 (k0_t6 : Fin k0_t6_loop.trips) : Fin 2 → Nat :=
  let c4_2799 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2797 : BitVec 32 := 32#32
  let v4662 : BitVec 32 := Scalar.muli v3950 c32_i32_2797
  let c6_i32_2798 : BitVec 32 := 6#32
  let v4663 : BitVec 32 := Scalar.addi v4662 c6_i32_2798
  let v4664 : Index := Scalar.indexCast v4663
  ![4, v4664.toNat]
def k0_off750 (v4665 : BitVec 32) : Fin 2 → Nat :=
  let v4666 : Index := Scalar.indexCast v4665
  let c0_2800 : Index := 0#32
  ![v4666.toNat, 0]

def k0_chk467 (v4665 : BitVec 32) : Prop :=
  (∀ a, (k0_off750 v4665) a + S1x128.size a ≤ S9088x128.size a)
theorem k0_off750_inb : ∀ (v4665 : BitVec 32) (k0_hw467 : k0_chk467 v4665), ∀ a, (k0_off750 v4665) a + S1x128.size a ≤ S9088x128.size a := fun v4665 k0_hw467 => k0_hw467

def k0_off751 (k0_t6 : Fin k0_t6_loop.trips) : Fin 2 → Nat :=
  let c4_2805 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2803 : BitVec 32 := 32#32
  let v4671 : BitVec 32 := Scalar.muli v3950 c32_i32_2803
  let c7_i32_2804 : BitVec 32 := 7#32
  let v4672 : BitVec 32 := Scalar.addi v4671 c7_i32_2804
  let v4673 : Index := Scalar.indexCast v4672
  ![4, v4673.toNat]
def k0_off752 (v4674 : BitVec 32) : Fin 2 → Nat :=
  let v4675 : Index := Scalar.indexCast v4674
  let c0_2806 : Index := 0#32
  ![v4675.toNat, 0]

def k0_chk468 (v4674 : BitVec 32) : Prop :=
  (∀ a, (k0_off752 v4674) a + S1x128.size a ≤ S9088x128.size a)
theorem k0_off752_inb : ∀ (v4674 : BitVec 32) (k0_hw468 : k0_chk468 v4674), ∀ a, (k0_off752 v4674) a + S1x128.size a ≤ S9088x128.size a := fun v4674 k0_hw468 => k0_hw468

def k0_off753 (k0_t6 : Fin k0_t6_loop.trips) : Fin 2 → Nat :=
  let c4_2811 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2809 : BitVec 32 := 32#32
  let v4680 : BitVec 32 := Scalar.muli v3950 c32_i32_2809
  let c8_i32_2810 : BitVec 32 := 8#32
  let v4681 : BitVec 32 := Scalar.addi v4680 c8_i32_2810
  let v4682 : Index := Scalar.indexCast v4681
  ![4, v4682.toNat]
def k0_off754 (v4683 : BitVec 32) : Fin 2 → Nat :=
  let v4684 : Index := Scalar.indexCast v4683
  let c0_2812 : Index := 0#32
  ![v4684.toNat, 0]

def k0_chk469 (v4683 : BitVec 32) : Prop :=
  (∀ a, (k0_off754 v4683) a + S1x128.size a ≤ S9088x128.size a)
theorem k0_off754_inb : ∀ (v4683 : BitVec 32) (k0_hw469 : k0_chk469 v4683), ∀ a, (k0_off754 v4683) a + S1x128.size a ≤ S9088x128.size a := fun v4683 k0_hw469 => k0_hw469

def k0_off755 (k0_t6 : Fin k0_t6_loop.trips) : Fin 2 → Nat :=
  let c4_2817 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2815 : BitVec 32 := 32#32
  let v4689 : BitVec 32 := Scalar.muli v3950 c32_i32_2815
  let c9_i32_2816 : BitVec 32 := 9#32
  let v4690 : BitVec 32 := Scalar.addi v4689 c9_i32_2816
  let v4691 : Index := Scalar.indexCast v4690
  ![4, v4691.toNat]
def k0_off756 (v4692 : BitVec 32) : Fin 2 → Nat :=
  let v4693 : Index := Scalar.indexCast v4692
  let c0_2818 : Index := 0#32
  ![v4693.toNat, 0]

def k0_chk470 (v4692 : BitVec 32) : Prop :=
  (∀ a, (k0_off756 v4692) a + S1x128.size a ≤ S9088x128.size a)
theorem k0_off756_inb : ∀ (v4692 : BitVec 32) (k0_hw470 : k0_chk470 v4692), ∀ a, (k0_off756 v4692) a + S1x128.size a ≤ S9088x128.size a := fun v4692 k0_hw470 => k0_hw470

def k0_off757 (k0_t6 : Fin k0_t6_loop.trips) : Fin 2 → Nat :=
  let c4_2823 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2821 : BitVec 32 := 32#32
  let v4698 : BitVec 32 := Scalar.muli v3950 c32_i32_2821
  let c10_i32_2822 : BitVec 32 := 10#32
  let v4699 : BitVec 32 := Scalar.addi v4698 c10_i32_2822
  let v4700 : Index := Scalar.indexCast v4699
  ![4, v4700.toNat]
def k0_off758 (v4701 : BitVec 32) : Fin 2 → Nat :=
  let v4702 : Index := Scalar.indexCast v4701
  let c0_2824 : Index := 0#32
  ![v4702.toNat, 0]

def k0_chk471 (v4701 : BitVec 32) : Prop :=
  (∀ a, (k0_off758 v4701) a + S1x128.size a ≤ S9088x128.size a)
theorem k0_off758_inb : ∀ (v4701 : BitVec 32) (k0_hw471 : k0_chk471 v4701), ∀ a, (k0_off758 v4701) a + S1x128.size a ≤ S9088x128.size a := fun v4701 k0_hw471 => k0_hw471

def k0_off759 (k0_t6 : Fin k0_t6_loop.trips) : Fin 2 → Nat :=
  let c4_2829 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2827 : BitVec 32 := 32#32
  let v4707 : BitVec 32 := Scalar.muli v3950 c32_i32_2827
  let c11_i32_2828 : BitVec 32 := 11#32
  let v4708 : BitVec 32 := Scalar.addi v4707 c11_i32_2828
  let v4709 : Index := Scalar.indexCast v4708
  ![4, v4709.toNat]
def k0_off760 (v4710 : BitVec 32) : Fin 2 → Nat :=
  let v4711 : Index := Scalar.indexCast v4710
  let c0_2830 : Index := 0#32
  ![v4711.toNat, 0]

def k0_chk472 (v4710 : BitVec 32) : Prop :=
  (∀ a, (k0_off760 v4710) a + S1x128.size a ≤ S9088x128.size a)
theorem k0_off760_inb : ∀ (v4710 : BitVec 32) (k0_hw472 : k0_chk472 v4710), ∀ a, (k0_off760 v4710) a + S1x128.size a ≤ S9088x128.size a := fun v4710 k0_hw472 => k0_hw472

def k0_off761 (k0_t6 : Fin k0_t6_loop.trips) : Fin 2 → Nat :=
  let c4_2835 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2833 : BitVec 32 := 32#32
  let v4716 : BitVec 32 := Scalar.muli v3950 c32_i32_2833
  let c12_i32_2834 : BitVec 32 := 12#32
  let v4717 : BitVec 32 := Scalar.addi v4716 c12_i32_2834
  let v4718 : Index := Scalar.indexCast v4717
  ![4, v4718.toNat]
def k0_off762 (v4719 : BitVec 32) : Fin 2 → Nat :=
  let v4720 : Index := Scalar.indexCast v4719
  let c0_2836 : Index := 0#32
  ![v4720.toNat, 0]

def k0_chk473 (v4719 : BitVec 32) : Prop :=
  (∀ a, (k0_off762 v4719) a + S1x128.size a ≤ S9088x128.size a)
theorem k0_off762_inb : ∀ (v4719 : BitVec 32) (k0_hw473 : k0_chk473 v4719), ∀ a, (k0_off762 v4719) a + S1x128.size a ≤ S9088x128.size a := fun v4719 k0_hw473 => k0_hw473

def k0_off763 (k0_t6 : Fin k0_t6_loop.trips) : Fin 2 → Nat :=
  let c4_2841 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2839 : BitVec 32 := 32#32
  let v4725 : BitVec 32 := Scalar.muli v3950 c32_i32_2839
  let c13_i32_2840 : BitVec 32 := 13#32
  let v4726 : BitVec 32 := Scalar.addi v4725 c13_i32_2840
  let v4727 : Index := Scalar.indexCast v4726
  ![4, v4727.toNat]
def k0_off764 (v4728 : BitVec 32) : Fin 2 → Nat :=
  let v4729 : Index := Scalar.indexCast v4728
  let c0_2842 : Index := 0#32
  ![v4729.toNat, 0]

def k0_chk474 (v4728 : BitVec 32) : Prop :=
  (∀ a, (k0_off764 v4728) a + S1x128.size a ≤ S9088x128.size a)
theorem k0_off764_inb : ∀ (v4728 : BitVec 32) (k0_hw474 : k0_chk474 v4728), ∀ a, (k0_off764 v4728) a + S1x128.size a ≤ S9088x128.size a := fun v4728 k0_hw474 => k0_hw474

def k0_off765 (k0_t6 : Fin k0_t6_loop.trips) : Fin 2 → Nat :=
  let c4_2847 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2845 : BitVec 32 := 32#32
  let v4734 : BitVec 32 := Scalar.muli v3950 c32_i32_2845
  let c14_i32_2846 : BitVec 32 := 14#32
  let v4735 : BitVec 32 := Scalar.addi v4734 c14_i32_2846
  let v4736 : Index := Scalar.indexCast v4735
  ![4, v4736.toNat]
def k0_off766 (v4737 : BitVec 32) : Fin 2 → Nat :=
  let v4738 : Index := Scalar.indexCast v4737
  let c0_2848 : Index := 0#32
  ![v4738.toNat, 0]

def k0_chk475 (v4737 : BitVec 32) : Prop :=
  (∀ a, (k0_off766 v4737) a + S1x128.size a ≤ S9088x128.size a)
theorem k0_off766_inb : ∀ (v4737 : BitVec 32) (k0_hw475 : k0_chk475 v4737), ∀ a, (k0_off766 v4737) a + S1x128.size a ≤ S9088x128.size a := fun v4737 k0_hw475 => k0_hw475

def k0_off767 (k0_t6 : Fin k0_t6_loop.trips) : Fin 2 → Nat :=
  let c4_2853 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2851 : BitVec 32 := 32#32
  let v4743 : BitVec 32 := Scalar.muli v3950 c32_i32_2851
  let c15_i32_2852 : BitVec 32 := 15#32
  let v4744 : BitVec 32 := Scalar.addi v4743 c15_i32_2852
  let v4745 : Index := Scalar.indexCast v4744
  ![4, v4745.toNat]
def k0_off768 (v4746 : BitVec 32) : Fin 2 → Nat :=
  let v4747 : Index := Scalar.indexCast v4746
  let c0_2854 : Index := 0#32
  ![v4747.toNat, 0]

def k0_chk476 (v4746 : BitVec 32) : Prop :=
  (∀ a, (k0_off768 v4746) a + S1x128.size a ≤ S9088x128.size a)
theorem k0_off768_inb : ∀ (v4746 : BitVec 32) (k0_hw476 : k0_chk476 v4746), ∀ a, (k0_off768 v4746) a + S1x128.size a ≤ S9088x128.size a := fun v4746 k0_hw476 => k0_hw476

def k0_off769 (k0_t6 : Fin k0_t6_loop.trips) : Fin 2 → Nat :=
  let c4_2859 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2857 : BitVec 32 := 32#32
  let v4752 : BitVec 32 := Scalar.muli v3950 c32_i32_2857
  let c16_i32_2858 : BitVec 32 := 16#32
  let v4753 : BitVec 32 := Scalar.addi v4752 c16_i32_2858
  let v4754 : Index := Scalar.indexCast v4753
  ![4, v4754.toNat]
def k0_off770 (v4755 : BitVec 32) : Fin 2 → Nat :=
  let v4756 : Index := Scalar.indexCast v4755
  let c0_2860 : Index := 0#32
  ![v4756.toNat, 0]

def k0_chk477 (v4755 : BitVec 32) : Prop :=
  (∀ a, (k0_off770 v4755) a + S1x128.size a ≤ S9088x128.size a)
theorem k0_off770_inb : ∀ (v4755 : BitVec 32) (k0_hw477 : k0_chk477 v4755), ∀ a, (k0_off770 v4755) a + S1x128.size a ≤ S9088x128.size a := fun v4755 k0_hw477 => k0_hw477

def k0_off771 (k0_t6 : Fin k0_t6_loop.trips) : Fin 2 → Nat :=
  let c4_2865 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2863 : BitVec 32 := 32#32
  let v4761 : BitVec 32 := Scalar.muli v3950 c32_i32_2863
  let c17_i32_2864 : BitVec 32 := 17#32
  let v4762 : BitVec 32 := Scalar.addi v4761 c17_i32_2864
  let v4763 : Index := Scalar.indexCast v4762
  ![4, v4763.toNat]
def k0_off772 (v4764 : BitVec 32) : Fin 2 → Nat :=
  let v4765 : Index := Scalar.indexCast v4764
  let c0_2866 : Index := 0#32
  ![v4765.toNat, 0]

def k0_chk478 (v4764 : BitVec 32) : Prop :=
  (∀ a, (k0_off772 v4764) a + S1x128.size a ≤ S9088x128.size a)
theorem k0_off772_inb : ∀ (v4764 : BitVec 32) (k0_hw478 : k0_chk478 v4764), ∀ a, (k0_off772 v4764) a + S1x128.size a ≤ S9088x128.size a := fun v4764 k0_hw478 => k0_hw478

def k0_off773 (k0_t6 : Fin k0_t6_loop.trips) : Fin 2 → Nat :=
  let c4_2871 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2869 : BitVec 32 := 32#32
  let v4770 : BitVec 32 := Scalar.muli v3950 c32_i32_2869
  let c18_i32_2870 : BitVec 32 := 18#32
  let v4771 : BitVec 32 := Scalar.addi v4770 c18_i32_2870
  let v4772 : Index := Scalar.indexCast v4771
  ![4, v4772.toNat]
def k0_off774 (v4773 : BitVec 32) : Fin 2 → Nat :=
  let v4774 : Index := Scalar.indexCast v4773
  let c0_2872 : Index := 0#32
  ![v4774.toNat, 0]

def k0_chk479 (v4773 : BitVec 32) : Prop :=
  (∀ a, (k0_off774 v4773) a + S1x128.size a ≤ S9088x128.size a)
theorem k0_off774_inb : ∀ (v4773 : BitVec 32) (k0_hw479 : k0_chk479 v4773), ∀ a, (k0_off774 v4773) a + S1x128.size a ≤ S9088x128.size a := fun v4773 k0_hw479 => k0_hw479

def k0_off775 (k0_t6 : Fin k0_t6_loop.trips) : Fin 2 → Nat :=
  let c4_2877 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2875 : BitVec 32 := 32#32
  let v4779 : BitVec 32 := Scalar.muli v3950 c32_i32_2875
  let c19_i32_2876 : BitVec 32 := 19#32
  let v4780 : BitVec 32 := Scalar.addi v4779 c19_i32_2876
  let v4781 : Index := Scalar.indexCast v4780
  ![4, v4781.toNat]
def k0_off776 (v4782 : BitVec 32) : Fin 2 → Nat :=
  let v4783 : Index := Scalar.indexCast v4782
  let c0_2878 : Index := 0#32
  ![v4783.toNat, 0]

def k0_chk480 (v4782 : BitVec 32) : Prop :=
  (∀ a, (k0_off776 v4782) a + S1x128.size a ≤ S9088x128.size a)
theorem k0_off776_inb : ∀ (v4782 : BitVec 32) (k0_hw480 : k0_chk480 v4782), ∀ a, (k0_off776 v4782) a + S1x128.size a ≤ S9088x128.size a := fun v4782 k0_hw480 => k0_hw480

def k0_off777 (k0_t6 : Fin k0_t6_loop.trips) : Fin 2 → Nat :=
  let c4_2883 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2881 : BitVec 32 := 32#32
  let v4788 : BitVec 32 := Scalar.muli v3950 c32_i32_2881
  let c20_i32_2882 : BitVec 32 := 20#32
  let v4789 : BitVec 32 := Scalar.addi v4788 c20_i32_2882
  let v4790 : Index := Scalar.indexCast v4789
  ![4, v4790.toNat]
def k0_off778 (v4791 : BitVec 32) : Fin 2 → Nat :=
  let v4792 : Index := Scalar.indexCast v4791
  let c0_2884 : Index := 0#32
  ![v4792.toNat, 0]

def k0_chk481 (v4791 : BitVec 32) : Prop :=
  (∀ a, (k0_off778 v4791) a + S1x128.size a ≤ S9088x128.size a)
theorem k0_off778_inb : ∀ (v4791 : BitVec 32) (k0_hw481 : k0_chk481 v4791), ∀ a, (k0_off778 v4791) a + S1x128.size a ≤ S9088x128.size a := fun v4791 k0_hw481 => k0_hw481

def k0_off779 (k0_t6 : Fin k0_t6_loop.trips) : Fin 2 → Nat :=
  let c4_2889 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2887 : BitVec 32 := 32#32
  let v4797 : BitVec 32 := Scalar.muli v3950 c32_i32_2887
  let c21_i32_2888 : BitVec 32 := 21#32
  let v4798 : BitVec 32 := Scalar.addi v4797 c21_i32_2888
  let v4799 : Index := Scalar.indexCast v4798
  ![4, v4799.toNat]
def k0_off780 (v4800 : BitVec 32) : Fin 2 → Nat :=
  let v4801 : Index := Scalar.indexCast v4800
  let c0_2890 : Index := 0#32
  ![v4801.toNat, 0]

def k0_chk482 (v4800 : BitVec 32) : Prop :=
  (∀ a, (k0_off780 v4800) a + S1x128.size a ≤ S9088x128.size a)
theorem k0_off780_inb : ∀ (v4800 : BitVec 32) (k0_hw482 : k0_chk482 v4800), ∀ a, (k0_off780 v4800) a + S1x128.size a ≤ S9088x128.size a := fun v4800 k0_hw482 => k0_hw482

def k0_off781 (k0_t6 : Fin k0_t6_loop.trips) : Fin 2 → Nat :=
  let c4_2895 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2893 : BitVec 32 := 32#32
  let v4806 : BitVec 32 := Scalar.muli v3950 c32_i32_2893
  let c22_i32_2894 : BitVec 32 := 22#32
  let v4807 : BitVec 32 := Scalar.addi v4806 c22_i32_2894
  let v4808 : Index := Scalar.indexCast v4807
  ![4, v4808.toNat]
def k0_off782 (v4809 : BitVec 32) : Fin 2 → Nat :=
  let v4810 : Index := Scalar.indexCast v4809
  let c0_2896 : Index := 0#32
  ![v4810.toNat, 0]

def k0_chk483 (v4809 : BitVec 32) : Prop :=
  (∀ a, (k0_off782 v4809) a + S1x128.size a ≤ S9088x128.size a)
theorem k0_off782_inb : ∀ (v4809 : BitVec 32) (k0_hw483 : k0_chk483 v4809), ∀ a, (k0_off782 v4809) a + S1x128.size a ≤ S9088x128.size a := fun v4809 k0_hw483 => k0_hw483

def k0_off783 (k0_t6 : Fin k0_t6_loop.trips) : Fin 2 → Nat :=
  let c4_2901 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2899 : BitVec 32 := 32#32
  let v4815 : BitVec 32 := Scalar.muli v3950 c32_i32_2899
  let c23_i32_2900 : BitVec 32 := 23#32
  let v4816 : BitVec 32 := Scalar.addi v4815 c23_i32_2900
  let v4817 : Index := Scalar.indexCast v4816
  ![4, v4817.toNat]
def k0_off784 (v4818 : BitVec 32) : Fin 2 → Nat :=
  let v4819 : Index := Scalar.indexCast v4818
  let c0_2902 : Index := 0#32
  ![v4819.toNat, 0]

def k0_chk484 (v4818 : BitVec 32) : Prop :=
  (∀ a, (k0_off784 v4818) a + S1x128.size a ≤ S9088x128.size a)
theorem k0_off784_inb : ∀ (v4818 : BitVec 32) (k0_hw484 : k0_chk484 v4818), ∀ a, (k0_off784 v4818) a + S1x128.size a ≤ S9088x128.size a := fun v4818 k0_hw484 => k0_hw484

def k0_off785 (k0_t6 : Fin k0_t6_loop.trips) : Fin 2 → Nat :=
  let c4_2907 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2905 : BitVec 32 := 32#32
  let v4824 : BitVec 32 := Scalar.muli v3950 c32_i32_2905
  let c24_i32_2906 : BitVec 32 := 24#32
  let v4825 : BitVec 32 := Scalar.addi v4824 c24_i32_2906
  let v4826 : Index := Scalar.indexCast v4825
  ![4, v4826.toNat]
def k0_off786 (v4827 : BitVec 32) : Fin 2 → Nat :=
  let v4828 : Index := Scalar.indexCast v4827
  let c0_2908 : Index := 0#32
  ![v4828.toNat, 0]

def k0_chk485 (v4827 : BitVec 32) : Prop :=
  (∀ a, (k0_off786 v4827) a + S1x128.size a ≤ S9088x128.size a)
theorem k0_off786_inb : ∀ (v4827 : BitVec 32) (k0_hw485 : k0_chk485 v4827), ∀ a, (k0_off786 v4827) a + S1x128.size a ≤ S9088x128.size a := fun v4827 k0_hw485 => k0_hw485

def k0_off787 (k0_t6 : Fin k0_t6_loop.trips) : Fin 2 → Nat :=
  let c4_2913 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2911 : BitVec 32 := 32#32
  let v4833 : BitVec 32 := Scalar.muli v3950 c32_i32_2911
  let c25_i32_2912 : BitVec 32 := 25#32
  let v4834 : BitVec 32 := Scalar.addi v4833 c25_i32_2912
  let v4835 : Index := Scalar.indexCast v4834
  ![4, v4835.toNat]
def k0_off788 (v4836 : BitVec 32) : Fin 2 → Nat :=
  let v4837 : Index := Scalar.indexCast v4836
  let c0_2914 : Index := 0#32
  ![v4837.toNat, 0]

def k0_chk486 (v4836 : BitVec 32) : Prop :=
  (∀ a, (k0_off788 v4836) a + S1x128.size a ≤ S9088x128.size a)
theorem k0_off788_inb : ∀ (v4836 : BitVec 32) (k0_hw486 : k0_chk486 v4836), ∀ a, (k0_off788 v4836) a + S1x128.size a ≤ S9088x128.size a := fun v4836 k0_hw486 => k0_hw486

def k0_off789 (k0_t6 : Fin k0_t6_loop.trips) : Fin 2 → Nat :=
  let c4_2919 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2917 : BitVec 32 := 32#32
  let v4842 : BitVec 32 := Scalar.muli v3950 c32_i32_2917
  let c26_i32_2918 : BitVec 32 := 26#32
  let v4843 : BitVec 32 := Scalar.addi v4842 c26_i32_2918
  let v4844 : Index := Scalar.indexCast v4843
  ![4, v4844.toNat]
def k0_off790 (v4845 : BitVec 32) : Fin 2 → Nat :=
  let v4846 : Index := Scalar.indexCast v4845
  let c0_2920 : Index := 0#32
  ![v4846.toNat, 0]

def k0_chk487 (v4845 : BitVec 32) : Prop :=
  (∀ a, (k0_off790 v4845) a + S1x128.size a ≤ S9088x128.size a)
theorem k0_off790_inb : ∀ (v4845 : BitVec 32) (k0_hw487 : k0_chk487 v4845), ∀ a, (k0_off790 v4845) a + S1x128.size a ≤ S9088x128.size a := fun v4845 k0_hw487 => k0_hw487

def k0_off791 (k0_t6 : Fin k0_t6_loop.trips) : Fin 2 → Nat :=
  let c4_2925 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2923 : BitVec 32 := 32#32
  let v4851 : BitVec 32 := Scalar.muli v3950 c32_i32_2923
  let c27_i32_2924 : BitVec 32 := 27#32
  let v4852 : BitVec 32 := Scalar.addi v4851 c27_i32_2924
  let v4853 : Index := Scalar.indexCast v4852
  ![4, v4853.toNat]
def k0_off792 (v4854 : BitVec 32) : Fin 2 → Nat :=
  let v4855 : Index := Scalar.indexCast v4854
  let c0_2926 : Index := 0#32
  ![v4855.toNat, 0]

def k0_chk488 (v4854 : BitVec 32) : Prop :=
  (∀ a, (k0_off792 v4854) a + S1x128.size a ≤ S9088x128.size a)
theorem k0_off792_inb : ∀ (v4854 : BitVec 32) (k0_hw488 : k0_chk488 v4854), ∀ a, (k0_off792 v4854) a + S1x128.size a ≤ S9088x128.size a := fun v4854 k0_hw488 => k0_hw488

def k0_off793 (k0_t6 : Fin k0_t6_loop.trips) : Fin 2 → Nat :=
  let c4_2931 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2929 : BitVec 32 := 32#32
  let v4860 : BitVec 32 := Scalar.muli v3950 c32_i32_2929
  let c28_i32_2930 : BitVec 32 := 28#32
  let v4861 : BitVec 32 := Scalar.addi v4860 c28_i32_2930
  let v4862 : Index := Scalar.indexCast v4861
  ![4, v4862.toNat]
def k0_off794 (v4863 : BitVec 32) : Fin 2 → Nat :=
  let v4864 : Index := Scalar.indexCast v4863
  let c0_2932 : Index := 0#32
  ![v4864.toNat, 0]

def k0_chk489 (v4863 : BitVec 32) : Prop :=
  (∀ a, (k0_off794 v4863) a + S1x128.size a ≤ S9088x128.size a)
theorem k0_off794_inb : ∀ (v4863 : BitVec 32) (k0_hw489 : k0_chk489 v4863), ∀ a, (k0_off794 v4863) a + S1x128.size a ≤ S9088x128.size a := fun v4863 k0_hw489 => k0_hw489

def k0_off795 (k0_t6 : Fin k0_t6_loop.trips) : Fin 2 → Nat :=
  let c4_2937 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2935 : BitVec 32 := 32#32
  let v4869 : BitVec 32 := Scalar.muli v3950 c32_i32_2935
  let c29_i32_2936 : BitVec 32 := 29#32
  let v4870 : BitVec 32 := Scalar.addi v4869 c29_i32_2936
  let v4871 : Index := Scalar.indexCast v4870
  ![4, v4871.toNat]
def k0_off796 (v4872 : BitVec 32) : Fin 2 → Nat :=
  let v4873 : Index := Scalar.indexCast v4872
  let c0_2938 : Index := 0#32
  ![v4873.toNat, 0]

def k0_chk490 (v4872 : BitVec 32) : Prop :=
  (∀ a, (k0_off796 v4872) a + S1x128.size a ≤ S9088x128.size a)
theorem k0_off796_inb : ∀ (v4872 : BitVec 32) (k0_hw490 : k0_chk490 v4872), ∀ a, (k0_off796 v4872) a + S1x128.size a ≤ S9088x128.size a := fun v4872 k0_hw490 => k0_hw490

def k0_off797 (k0_t6 : Fin k0_t6_loop.trips) : Fin 2 → Nat :=
  let c4_2943 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2941 : BitVec 32 := 32#32
  let v4878 : BitVec 32 := Scalar.muli v3950 c32_i32_2941
  let c30_i32_2942 : BitVec 32 := 30#32
  let v4879 : BitVec 32 := Scalar.addi v4878 c30_i32_2942
  let v4880 : Index := Scalar.indexCast v4879
  ![4, v4880.toNat]
def k0_off798 (v4881 : BitVec 32) : Fin 2 → Nat :=
  let v4882 : Index := Scalar.indexCast v4881
  let c0_2944 : Index := 0#32
  ![v4882.toNat, 0]

def k0_chk491 (v4881 : BitVec 32) : Prop :=
  (∀ a, (k0_off798 v4881) a + S1x128.size a ≤ S9088x128.size a)
theorem k0_off798_inb : ∀ (v4881 : BitVec 32) (k0_hw491 : k0_chk491 v4881), ∀ a, (k0_off798 v4881) a + S1x128.size a ≤ S9088x128.size a := fun v4881 k0_hw491 => k0_hw491

def k0_off799 (k0_t6 : Fin k0_t6_loop.trips) : Fin 2 → Nat :=
  let c4_2949 : Index := 4#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2947 : BitVec 32 := 32#32
  let v4887 : BitVec 32 := Scalar.muli v3950 c32_i32_2947
  let c31_i32_2948 : BitVec 32 := 31#32
  let v4888 : BitVec 32 := Scalar.addi v4887 c31_i32_2948
  let v4889 : Index := Scalar.indexCast v4888
  ![4, v4889.toNat]
def k0_off800 (v4890 : BitVec 32) : Fin 2 → Nat :=
  let v4891 : Index := Scalar.indexCast v4890
  let c0_2950 : Index := 0#32
  ![v4891.toNat, 0]

def k0_chk492 (v4890 : BitVec 32) : Prop :=
  (∀ a, (k0_off800 v4890) a + S1x128.size a ≤ S9088x128.size a)
theorem k0_off800_inb : ∀ (v4890 : BitVec 32) (k0_hw492 : k0_chk492 v4890), ∀ a, (k0_off800 v4890) a + S1x128.size a ≤ S9088x128.size a := fun v4890 k0_hw492 => k0_hw492

def k0_off801 (k0_t6 : Fin k0_t6_loop.trips) : Fin 2 → Nat :=
  let c5_2963 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2961 : BitVec 32 := 32#32
  let v4913 : BitVec 32 := Scalar.muli v3950 c32_i32_2961
  let c0_i32_2962 : BitVec 32 := 0#32
  let v4914 : BitVec 32 := Scalar.addi v4913 c0_i32_2962
  let v4915 : Index := Scalar.indexCast v4914
  ![5, v4915.toNat]
def k0_off802 (v4916 : BitVec 32) : Fin 2 → Nat :=
  let v4917 : Index := Scalar.indexCast v4916
  let c0_2964 : Index := 0#32
  ![v4917.toNat, 0]

def k0_chk493 (v4916 : BitVec 32) : Prop :=
  (∀ a, (k0_off802 v4916) a + S1x128.size a ≤ S9088x128.size a)
theorem k0_off802_inb : ∀ (v4916 : BitVec 32) (k0_hw493 : k0_chk493 v4916), ∀ a, (k0_off802 v4916) a + S1x128.size a ≤ S9088x128.size a := fun v4916 k0_hw493 => k0_hw493

def k0_off803 (k0_t6 : Fin k0_t6_loop.trips) : Fin 2 → Nat :=
  let c5_2969 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2967 : BitVec 32 := 32#32
  let v4922 : BitVec 32 := Scalar.muli v3950 c32_i32_2967
  let c1_i32_2968 : BitVec 32 := 1#32
  let v4923 : BitVec 32 := Scalar.addi v4922 c1_i32_2968
  let v4924 : Index := Scalar.indexCast v4923
  ![5, v4924.toNat]
def k0_off804 (v4925 : BitVec 32) : Fin 2 → Nat :=
  let v4926 : Index := Scalar.indexCast v4925
  let c0_2970 : Index := 0#32
  ![v4926.toNat, 0]

def k0_chk494 (v4925 : BitVec 32) : Prop :=
  (∀ a, (k0_off804 v4925) a + S1x128.size a ≤ S9088x128.size a)
theorem k0_off804_inb : ∀ (v4925 : BitVec 32) (k0_hw494 : k0_chk494 v4925), ∀ a, (k0_off804 v4925) a + S1x128.size a ≤ S9088x128.size a := fun v4925 k0_hw494 => k0_hw494

def k0_off805 (k0_t6 : Fin k0_t6_loop.trips) : Fin 2 → Nat :=
  let c5_2975 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2973 : BitVec 32 := 32#32
  let v4931 : BitVec 32 := Scalar.muli v3950 c32_i32_2973
  let c2_i32_2974 : BitVec 32 := 2#32
  let v4932 : BitVec 32 := Scalar.addi v4931 c2_i32_2974
  let v4933 : Index := Scalar.indexCast v4932
  ![5, v4933.toNat]
def k0_off806 (v4934 : BitVec 32) : Fin 2 → Nat :=
  let v4935 : Index := Scalar.indexCast v4934
  let c0_2976 : Index := 0#32
  ![v4935.toNat, 0]

def k0_chk495 (v4934 : BitVec 32) : Prop :=
  (∀ a, (k0_off806 v4934) a + S1x128.size a ≤ S9088x128.size a)
theorem k0_off806_inb : ∀ (v4934 : BitVec 32) (k0_hw495 : k0_chk495 v4934), ∀ a, (k0_off806 v4934) a + S1x128.size a ≤ S9088x128.size a := fun v4934 k0_hw495 => k0_hw495

def k0_off807 (k0_t6 : Fin k0_t6_loop.trips) : Fin 2 → Nat :=
  let c5_2981 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2979 : BitVec 32 := 32#32
  let v4940 : BitVec 32 := Scalar.muli v3950 c32_i32_2979
  let c3_i32_2980 : BitVec 32 := 3#32
  let v4941 : BitVec 32 := Scalar.addi v4940 c3_i32_2980
  let v4942 : Index := Scalar.indexCast v4941
  ![5, v4942.toNat]
def k0_off808 (v4943 : BitVec 32) : Fin 2 → Nat :=
  let v4944 : Index := Scalar.indexCast v4943
  let c0_2982 : Index := 0#32
  ![v4944.toNat, 0]

def k0_chk496 (v4943 : BitVec 32) : Prop :=
  (∀ a, (k0_off808 v4943) a + S1x128.size a ≤ S9088x128.size a)
theorem k0_off808_inb : ∀ (v4943 : BitVec 32) (k0_hw496 : k0_chk496 v4943), ∀ a, (k0_off808 v4943) a + S1x128.size a ≤ S9088x128.size a := fun v4943 k0_hw496 => k0_hw496

def k0_off809 (k0_t6 : Fin k0_t6_loop.trips) : Fin 2 → Nat :=
  let c5_2987 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2985 : BitVec 32 := 32#32
  let v4949 : BitVec 32 := Scalar.muli v3950 c32_i32_2985
  let c4_i32_2986 : BitVec 32 := 4#32
  let v4950 : BitVec 32 := Scalar.addi v4949 c4_i32_2986
  let v4951 : Index := Scalar.indexCast v4950
  ![5, v4951.toNat]
def k0_off810 (v4952 : BitVec 32) : Fin 2 → Nat :=
  let v4953 : Index := Scalar.indexCast v4952
  let c0_2988 : Index := 0#32
  ![v4953.toNat, 0]

def k0_chk497 (v4952 : BitVec 32) : Prop :=
  (∀ a, (k0_off810 v4952) a + S1x128.size a ≤ S9088x128.size a)
theorem k0_off810_inb : ∀ (v4952 : BitVec 32) (k0_hw497 : k0_chk497 v4952), ∀ a, (k0_off810 v4952) a + S1x128.size a ≤ S9088x128.size a := fun v4952 k0_hw497 => k0_hw497

def k0_off811 (k0_t6 : Fin k0_t6_loop.trips) : Fin 2 → Nat :=
  let c5_2993 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2991 : BitVec 32 := 32#32
  let v4958 : BitVec 32 := Scalar.muli v3950 c32_i32_2991
  let c5_i32_2992 : BitVec 32 := 5#32
  let v4959 : BitVec 32 := Scalar.addi v4958 c5_i32_2992
  let v4960 : Index := Scalar.indexCast v4959
  ![5, v4960.toNat]
def k0_off812 (v4961 : BitVec 32) : Fin 2 → Nat :=
  let v4962 : Index := Scalar.indexCast v4961
  let c0_2994 : Index := 0#32
  ![v4962.toNat, 0]

def k0_chk498 (v4961 : BitVec 32) : Prop :=
  (∀ a, (k0_off812 v4961) a + S1x128.size a ≤ S9088x128.size a)
theorem k0_off812_inb : ∀ (v4961 : BitVec 32) (k0_hw498 : k0_chk498 v4961), ∀ a, (k0_off812 v4961) a + S1x128.size a ≤ S9088x128.size a := fun v4961 k0_hw498 => k0_hw498

def k0_off813 (k0_t6 : Fin k0_t6_loop.trips) : Fin 2 → Nat :=
  let c5_2999 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_2997 : BitVec 32 := 32#32
  let v4967 : BitVec 32 := Scalar.muli v3950 c32_i32_2997
  let c6_i32_2998 : BitVec 32 := 6#32
  let v4968 : BitVec 32 := Scalar.addi v4967 c6_i32_2998
  let v4969 : Index := Scalar.indexCast v4968
  ![5, v4969.toNat]
def k0_off814 (v4970 : BitVec 32) : Fin 2 → Nat :=
  let v4971 : Index := Scalar.indexCast v4970
  let c0_3000 : Index := 0#32
  ![v4971.toNat, 0]

def k0_chk499 (v4970 : BitVec 32) : Prop :=
  (∀ a, (k0_off814 v4970) a + S1x128.size a ≤ S9088x128.size a)
theorem k0_off814_inb : ∀ (v4970 : BitVec 32) (k0_hw499 : k0_chk499 v4970), ∀ a, (k0_off814 v4970) a + S1x128.size a ≤ S9088x128.size a := fun v4970 k0_hw499 => k0_hw499

def k0_off815 (k0_t6 : Fin k0_t6_loop.trips) : Fin 2 → Nat :=
  let c5_3005 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3003 : BitVec 32 := 32#32
  let v4976 : BitVec 32 := Scalar.muli v3950 c32_i32_3003
  let c7_i32_3004 : BitVec 32 := 7#32
  let v4977 : BitVec 32 := Scalar.addi v4976 c7_i32_3004
  let v4978 : Index := Scalar.indexCast v4977
  ![5, v4978.toNat]
def k0_off816 (v4979 : BitVec 32) : Fin 2 → Nat :=
  let v4980 : Index := Scalar.indexCast v4979
  let c0_3006 : Index := 0#32
  ![v4980.toNat, 0]

def k0_chk500 (v4979 : BitVec 32) : Prop :=
  (∀ a, (k0_off816 v4979) a + S1x128.size a ≤ S9088x128.size a)
theorem k0_off816_inb : ∀ (v4979 : BitVec 32) (k0_hw500 : k0_chk500 v4979), ∀ a, (k0_off816 v4979) a + S1x128.size a ≤ S9088x128.size a := fun v4979 k0_hw500 => k0_hw500

def k0_off817 (k0_t6 : Fin k0_t6_loop.trips) : Fin 2 → Nat :=
  let c5_3011 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3009 : BitVec 32 := 32#32
  let v4985 : BitVec 32 := Scalar.muli v3950 c32_i32_3009
  let c8_i32_3010 : BitVec 32 := 8#32
  let v4986 : BitVec 32 := Scalar.addi v4985 c8_i32_3010
  let v4987 : Index := Scalar.indexCast v4986
  ![5, v4987.toNat]
def k0_off818 (v4988 : BitVec 32) : Fin 2 → Nat :=
  let v4989 : Index := Scalar.indexCast v4988
  let c0_3012 : Index := 0#32
  ![v4989.toNat, 0]

def k0_chk501 (v4988 : BitVec 32) : Prop :=
  (∀ a, (k0_off818 v4988) a + S1x128.size a ≤ S9088x128.size a)
theorem k0_off818_inb : ∀ (v4988 : BitVec 32) (k0_hw501 : k0_chk501 v4988), ∀ a, (k0_off818 v4988) a + S1x128.size a ≤ S9088x128.size a := fun v4988 k0_hw501 => k0_hw501

def k0_off819 (k0_t6 : Fin k0_t6_loop.trips) : Fin 2 → Nat :=
  let c5_3017 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3015 : BitVec 32 := 32#32
  let v4994 : BitVec 32 := Scalar.muli v3950 c32_i32_3015
  let c9_i32_3016 : BitVec 32 := 9#32
  let v4995 : BitVec 32 := Scalar.addi v4994 c9_i32_3016
  let v4996 : Index := Scalar.indexCast v4995
  ![5, v4996.toNat]
def k0_off820 (v4997 : BitVec 32) : Fin 2 → Nat :=
  let v4998 : Index := Scalar.indexCast v4997
  let c0_3018 : Index := 0#32
  ![v4998.toNat, 0]

def k0_chk502 (v4997 : BitVec 32) : Prop :=
  (∀ a, (k0_off820 v4997) a + S1x128.size a ≤ S9088x128.size a)
theorem k0_off820_inb : ∀ (v4997 : BitVec 32) (k0_hw502 : k0_chk502 v4997), ∀ a, (k0_off820 v4997) a + S1x128.size a ≤ S9088x128.size a := fun v4997 k0_hw502 => k0_hw502

def k0_off821 (k0_t6 : Fin k0_t6_loop.trips) : Fin 2 → Nat :=
  let c5_3023 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3021 : BitVec 32 := 32#32
  let v5003 : BitVec 32 := Scalar.muli v3950 c32_i32_3021
  let c10_i32_3022 : BitVec 32 := 10#32
  let v5004 : BitVec 32 := Scalar.addi v5003 c10_i32_3022
  let v5005 : Index := Scalar.indexCast v5004
  ![5, v5005.toNat]
def k0_off822 (v5006 : BitVec 32) : Fin 2 → Nat :=
  let v5007 : Index := Scalar.indexCast v5006
  let c0_3024 : Index := 0#32
  ![v5007.toNat, 0]

def k0_chk503 (v5006 : BitVec 32) : Prop :=
  (∀ a, (k0_off822 v5006) a + S1x128.size a ≤ S9088x128.size a)
theorem k0_off822_inb : ∀ (v5006 : BitVec 32) (k0_hw503 : k0_chk503 v5006), ∀ a, (k0_off822 v5006) a + S1x128.size a ≤ S9088x128.size a := fun v5006 k0_hw503 => k0_hw503

def k0_off823 (k0_t6 : Fin k0_t6_loop.trips) : Fin 2 → Nat :=
  let c5_3029 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3027 : BitVec 32 := 32#32
  let v5012 : BitVec 32 := Scalar.muli v3950 c32_i32_3027
  let c11_i32_3028 : BitVec 32 := 11#32
  let v5013 : BitVec 32 := Scalar.addi v5012 c11_i32_3028
  let v5014 : Index := Scalar.indexCast v5013
  ![5, v5014.toNat]
def k0_off824 (v5015 : BitVec 32) : Fin 2 → Nat :=
  let v5016 : Index := Scalar.indexCast v5015
  let c0_3030 : Index := 0#32
  ![v5016.toNat, 0]

def k0_chk504 (v5015 : BitVec 32) : Prop :=
  (∀ a, (k0_off824 v5015) a + S1x128.size a ≤ S9088x128.size a)
theorem k0_off824_inb : ∀ (v5015 : BitVec 32) (k0_hw504 : k0_chk504 v5015), ∀ a, (k0_off824 v5015) a + S1x128.size a ≤ S9088x128.size a := fun v5015 k0_hw504 => k0_hw504

def k0_off825 (k0_t6 : Fin k0_t6_loop.trips) : Fin 2 → Nat :=
  let c5_3035 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3033 : BitVec 32 := 32#32
  let v5021 : BitVec 32 := Scalar.muli v3950 c32_i32_3033
  let c12_i32_3034 : BitVec 32 := 12#32
  let v5022 : BitVec 32 := Scalar.addi v5021 c12_i32_3034
  let v5023 : Index := Scalar.indexCast v5022
  ![5, v5023.toNat]
def k0_off826 (v5024 : BitVec 32) : Fin 2 → Nat :=
  let v5025 : Index := Scalar.indexCast v5024
  let c0_3036 : Index := 0#32
  ![v5025.toNat, 0]

def k0_chk505 (v5024 : BitVec 32) : Prop :=
  (∀ a, (k0_off826 v5024) a + S1x128.size a ≤ S9088x128.size a)
theorem k0_off826_inb : ∀ (v5024 : BitVec 32) (k0_hw505 : k0_chk505 v5024), ∀ a, (k0_off826 v5024) a + S1x128.size a ≤ S9088x128.size a := fun v5024 k0_hw505 => k0_hw505

def k0_off827 (k0_t6 : Fin k0_t6_loop.trips) : Fin 2 → Nat :=
  let c5_3041 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3039 : BitVec 32 := 32#32
  let v5030 : BitVec 32 := Scalar.muli v3950 c32_i32_3039
  let c13_i32_3040 : BitVec 32 := 13#32
  let v5031 : BitVec 32 := Scalar.addi v5030 c13_i32_3040
  let v5032 : Index := Scalar.indexCast v5031
  ![5, v5032.toNat]
def k0_off828 (v5033 : BitVec 32) : Fin 2 → Nat :=
  let v5034 : Index := Scalar.indexCast v5033
  let c0_3042 : Index := 0#32
  ![v5034.toNat, 0]

def k0_chk506 (v5033 : BitVec 32) : Prop :=
  (∀ a, (k0_off828 v5033) a + S1x128.size a ≤ S9088x128.size a)
theorem k0_off828_inb : ∀ (v5033 : BitVec 32) (k0_hw506 : k0_chk506 v5033), ∀ a, (k0_off828 v5033) a + S1x128.size a ≤ S9088x128.size a := fun v5033 k0_hw506 => k0_hw506

def k0_off829 (k0_t6 : Fin k0_t6_loop.trips) : Fin 2 → Nat :=
  let c5_3047 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3045 : BitVec 32 := 32#32
  let v5039 : BitVec 32 := Scalar.muli v3950 c32_i32_3045
  let c14_i32_3046 : BitVec 32 := 14#32
  let v5040 : BitVec 32 := Scalar.addi v5039 c14_i32_3046
  let v5041 : Index := Scalar.indexCast v5040
  ![5, v5041.toNat]
def k0_off830 (v5042 : BitVec 32) : Fin 2 → Nat :=
  let v5043 : Index := Scalar.indexCast v5042
  let c0_3048 : Index := 0#32
  ![v5043.toNat, 0]

def k0_chk507 (v5042 : BitVec 32) : Prop :=
  (∀ a, (k0_off830 v5042) a + S1x128.size a ≤ S9088x128.size a)
theorem k0_off830_inb : ∀ (v5042 : BitVec 32) (k0_hw507 : k0_chk507 v5042), ∀ a, (k0_off830 v5042) a + S1x128.size a ≤ S9088x128.size a := fun v5042 k0_hw507 => k0_hw507

def k0_off831 (k0_t6 : Fin k0_t6_loop.trips) : Fin 2 → Nat :=
  let c5_3053 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3051 : BitVec 32 := 32#32
  let v5048 : BitVec 32 := Scalar.muli v3950 c32_i32_3051
  let c15_i32_3052 : BitVec 32 := 15#32
  let v5049 : BitVec 32 := Scalar.addi v5048 c15_i32_3052
  let v5050 : Index := Scalar.indexCast v5049
  ![5, v5050.toNat]
def k0_off832 (v5051 : BitVec 32) : Fin 2 → Nat :=
  let v5052 : Index := Scalar.indexCast v5051
  let c0_3054 : Index := 0#32
  ![v5052.toNat, 0]

def k0_chk508 (v5051 : BitVec 32) : Prop :=
  (∀ a, (k0_off832 v5051) a + S1x128.size a ≤ S9088x128.size a)
theorem k0_off832_inb : ∀ (v5051 : BitVec 32) (k0_hw508 : k0_chk508 v5051), ∀ a, (k0_off832 v5051) a + S1x128.size a ≤ S9088x128.size a := fun v5051 k0_hw508 => k0_hw508

def k0_off833 (k0_t6 : Fin k0_t6_loop.trips) : Fin 2 → Nat :=
  let c5_3059 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3057 : BitVec 32 := 32#32
  let v5057 : BitVec 32 := Scalar.muli v3950 c32_i32_3057
  let c16_i32_3058 : BitVec 32 := 16#32
  let v5058 : BitVec 32 := Scalar.addi v5057 c16_i32_3058
  let v5059 : Index := Scalar.indexCast v5058
  ![5, v5059.toNat]
def k0_off834 (v5060 : BitVec 32) : Fin 2 → Nat :=
  let v5061 : Index := Scalar.indexCast v5060
  let c0_3060 : Index := 0#32
  ![v5061.toNat, 0]

def k0_chk509 (v5060 : BitVec 32) : Prop :=
  (∀ a, (k0_off834 v5060) a + S1x128.size a ≤ S9088x128.size a)
theorem k0_off834_inb : ∀ (v5060 : BitVec 32) (k0_hw509 : k0_chk509 v5060), ∀ a, (k0_off834 v5060) a + S1x128.size a ≤ S9088x128.size a := fun v5060 k0_hw509 => k0_hw509

def k0_off835 (k0_t6 : Fin k0_t6_loop.trips) : Fin 2 → Nat :=
  let c5_3065 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3063 : BitVec 32 := 32#32
  let v5066 : BitVec 32 := Scalar.muli v3950 c32_i32_3063
  let c17_i32_3064 : BitVec 32 := 17#32
  let v5067 : BitVec 32 := Scalar.addi v5066 c17_i32_3064
  let v5068 : Index := Scalar.indexCast v5067
  ![5, v5068.toNat]
def k0_off836 (v5069 : BitVec 32) : Fin 2 → Nat :=
  let v5070 : Index := Scalar.indexCast v5069
  let c0_3066 : Index := 0#32
  ![v5070.toNat, 0]

def k0_chk510 (v5069 : BitVec 32) : Prop :=
  (∀ a, (k0_off836 v5069) a + S1x128.size a ≤ S9088x128.size a)
theorem k0_off836_inb : ∀ (v5069 : BitVec 32) (k0_hw510 : k0_chk510 v5069), ∀ a, (k0_off836 v5069) a + S1x128.size a ≤ S9088x128.size a := fun v5069 k0_hw510 => k0_hw510

def k0_off837 (k0_t6 : Fin k0_t6_loop.trips) : Fin 2 → Nat :=
  let c5_3071 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3069 : BitVec 32 := 32#32
  let v5075 : BitVec 32 := Scalar.muli v3950 c32_i32_3069
  let c18_i32_3070 : BitVec 32 := 18#32
  let v5076 : BitVec 32 := Scalar.addi v5075 c18_i32_3070
  let v5077 : Index := Scalar.indexCast v5076
  ![5, v5077.toNat]
def k0_off838 (v5078 : BitVec 32) : Fin 2 → Nat :=
  let v5079 : Index := Scalar.indexCast v5078
  let c0_3072 : Index := 0#32
  ![v5079.toNat, 0]

def k0_chk511 (v5078 : BitVec 32) : Prop :=
  (∀ a, (k0_off838 v5078) a + S1x128.size a ≤ S9088x128.size a)
theorem k0_off838_inb : ∀ (v5078 : BitVec 32) (k0_hw511 : k0_chk511 v5078), ∀ a, (k0_off838 v5078) a + S1x128.size a ≤ S9088x128.size a := fun v5078 k0_hw511 => k0_hw511

def k0_off839 (k0_t6 : Fin k0_t6_loop.trips) : Fin 2 → Nat :=
  let c5_3077 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3075 : BitVec 32 := 32#32
  let v5084 : BitVec 32 := Scalar.muli v3950 c32_i32_3075
  let c19_i32_3076 : BitVec 32 := 19#32
  let v5085 : BitVec 32 := Scalar.addi v5084 c19_i32_3076
  let v5086 : Index := Scalar.indexCast v5085
  ![5, v5086.toNat]
def k0_off840 (v5087 : BitVec 32) : Fin 2 → Nat :=
  let v5088 : Index := Scalar.indexCast v5087
  let c0_3078 : Index := 0#32
  ![v5088.toNat, 0]

def k0_chk512 (v5087 : BitVec 32) : Prop :=
  (∀ a, (k0_off840 v5087) a + S1x128.size a ≤ S9088x128.size a)
theorem k0_off840_inb : ∀ (v5087 : BitVec 32) (k0_hw512 : k0_chk512 v5087), ∀ a, (k0_off840 v5087) a + S1x128.size a ≤ S9088x128.size a := fun v5087 k0_hw512 => k0_hw512

def k0_off841 (k0_t6 : Fin k0_t6_loop.trips) : Fin 2 → Nat :=
  let c5_3083 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3081 : BitVec 32 := 32#32
  let v5093 : BitVec 32 := Scalar.muli v3950 c32_i32_3081
  let c20_i32_3082 : BitVec 32 := 20#32
  let v5094 : BitVec 32 := Scalar.addi v5093 c20_i32_3082
  let v5095 : Index := Scalar.indexCast v5094
  ![5, v5095.toNat]
def k0_off842 (v5096 : BitVec 32) : Fin 2 → Nat :=
  let v5097 : Index := Scalar.indexCast v5096
  let c0_3084 : Index := 0#32
  ![v5097.toNat, 0]

def k0_chk513 (v5096 : BitVec 32) : Prop :=
  (∀ a, (k0_off842 v5096) a + S1x128.size a ≤ S9088x128.size a)
theorem k0_off842_inb : ∀ (v5096 : BitVec 32) (k0_hw513 : k0_chk513 v5096), ∀ a, (k0_off842 v5096) a + S1x128.size a ≤ S9088x128.size a := fun v5096 k0_hw513 => k0_hw513

def k0_off843 (k0_t6 : Fin k0_t6_loop.trips) : Fin 2 → Nat :=
  let c5_3089 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3087 : BitVec 32 := 32#32
  let v5102 : BitVec 32 := Scalar.muli v3950 c32_i32_3087
  let c21_i32_3088 : BitVec 32 := 21#32
  let v5103 : BitVec 32 := Scalar.addi v5102 c21_i32_3088
  let v5104 : Index := Scalar.indexCast v5103
  ![5, v5104.toNat]
def k0_off844 (v5105 : BitVec 32) : Fin 2 → Nat :=
  let v5106 : Index := Scalar.indexCast v5105
  let c0_3090 : Index := 0#32
  ![v5106.toNat, 0]

def k0_chk514 (v5105 : BitVec 32) : Prop :=
  (∀ a, (k0_off844 v5105) a + S1x128.size a ≤ S9088x128.size a)
theorem k0_off844_inb : ∀ (v5105 : BitVec 32) (k0_hw514 : k0_chk514 v5105), ∀ a, (k0_off844 v5105) a + S1x128.size a ≤ S9088x128.size a := fun v5105 k0_hw514 => k0_hw514

def k0_off845 (k0_t6 : Fin k0_t6_loop.trips) : Fin 2 → Nat :=
  let c5_3095 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3093 : BitVec 32 := 32#32
  let v5111 : BitVec 32 := Scalar.muli v3950 c32_i32_3093
  let c22_i32_3094 : BitVec 32 := 22#32
  let v5112 : BitVec 32 := Scalar.addi v5111 c22_i32_3094
  let v5113 : Index := Scalar.indexCast v5112
  ![5, v5113.toNat]
def k0_off846 (v5114 : BitVec 32) : Fin 2 → Nat :=
  let v5115 : Index := Scalar.indexCast v5114
  let c0_3096 : Index := 0#32
  ![v5115.toNat, 0]

def k0_chk515 (v5114 : BitVec 32) : Prop :=
  (∀ a, (k0_off846 v5114) a + S1x128.size a ≤ S9088x128.size a)
theorem k0_off846_inb : ∀ (v5114 : BitVec 32) (k0_hw515 : k0_chk515 v5114), ∀ a, (k0_off846 v5114) a + S1x128.size a ≤ S9088x128.size a := fun v5114 k0_hw515 => k0_hw515

def k0_off847 (k0_t6 : Fin k0_t6_loop.trips) : Fin 2 → Nat :=
  let c5_3101 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3099 : BitVec 32 := 32#32
  let v5120 : BitVec 32 := Scalar.muli v3950 c32_i32_3099
  let c23_i32_3100 : BitVec 32 := 23#32
  let v5121 : BitVec 32 := Scalar.addi v5120 c23_i32_3100
  let v5122 : Index := Scalar.indexCast v5121
  ![5, v5122.toNat]
def k0_off848 (v5123 : BitVec 32) : Fin 2 → Nat :=
  let v5124 : Index := Scalar.indexCast v5123
  let c0_3102 : Index := 0#32
  ![v5124.toNat, 0]

def k0_chk516 (v5123 : BitVec 32) : Prop :=
  (∀ a, (k0_off848 v5123) a + S1x128.size a ≤ S9088x128.size a)
theorem k0_off848_inb : ∀ (v5123 : BitVec 32) (k0_hw516 : k0_chk516 v5123), ∀ a, (k0_off848 v5123) a + S1x128.size a ≤ S9088x128.size a := fun v5123 k0_hw516 => k0_hw516

def k0_off849 (k0_t6 : Fin k0_t6_loop.trips) : Fin 2 → Nat :=
  let c5_3107 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3105 : BitVec 32 := 32#32
  let v5129 : BitVec 32 := Scalar.muli v3950 c32_i32_3105
  let c24_i32_3106 : BitVec 32 := 24#32
  let v5130 : BitVec 32 := Scalar.addi v5129 c24_i32_3106
  let v5131 : Index := Scalar.indexCast v5130
  ![5, v5131.toNat]
def k0_off850 (v5132 : BitVec 32) : Fin 2 → Nat :=
  let v5133 : Index := Scalar.indexCast v5132
  let c0_3108 : Index := 0#32
  ![v5133.toNat, 0]

def k0_chk517 (v5132 : BitVec 32) : Prop :=
  (∀ a, (k0_off850 v5132) a + S1x128.size a ≤ S9088x128.size a)
theorem k0_off850_inb : ∀ (v5132 : BitVec 32) (k0_hw517 : k0_chk517 v5132), ∀ a, (k0_off850 v5132) a + S1x128.size a ≤ S9088x128.size a := fun v5132 k0_hw517 => k0_hw517

def k0_off851 (k0_t6 : Fin k0_t6_loop.trips) : Fin 2 → Nat :=
  let c5_3113 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3111 : BitVec 32 := 32#32
  let v5138 : BitVec 32 := Scalar.muli v3950 c32_i32_3111
  let c25_i32_3112 : BitVec 32 := 25#32
  let v5139 : BitVec 32 := Scalar.addi v5138 c25_i32_3112
  let v5140 : Index := Scalar.indexCast v5139
  ![5, v5140.toNat]
def k0_off852 (v5141 : BitVec 32) : Fin 2 → Nat :=
  let v5142 : Index := Scalar.indexCast v5141
  let c0_3114 : Index := 0#32
  ![v5142.toNat, 0]

def k0_chk518 (v5141 : BitVec 32) : Prop :=
  (∀ a, (k0_off852 v5141) a + S1x128.size a ≤ S9088x128.size a)
theorem k0_off852_inb : ∀ (v5141 : BitVec 32) (k0_hw518 : k0_chk518 v5141), ∀ a, (k0_off852 v5141) a + S1x128.size a ≤ S9088x128.size a := fun v5141 k0_hw518 => k0_hw518

def k0_off853 (k0_t6 : Fin k0_t6_loop.trips) : Fin 2 → Nat :=
  let c5_3119 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3117 : BitVec 32 := 32#32
  let v5147 : BitVec 32 := Scalar.muli v3950 c32_i32_3117
  let c26_i32_3118 : BitVec 32 := 26#32
  let v5148 : BitVec 32 := Scalar.addi v5147 c26_i32_3118
  let v5149 : Index := Scalar.indexCast v5148
  ![5, v5149.toNat]
def k0_off854 (v5150 : BitVec 32) : Fin 2 → Nat :=
  let v5151 : Index := Scalar.indexCast v5150
  let c0_3120 : Index := 0#32
  ![v5151.toNat, 0]

def k0_chk519 (v5150 : BitVec 32) : Prop :=
  (∀ a, (k0_off854 v5150) a + S1x128.size a ≤ S9088x128.size a)
theorem k0_off854_inb : ∀ (v5150 : BitVec 32) (k0_hw519 : k0_chk519 v5150), ∀ a, (k0_off854 v5150) a + S1x128.size a ≤ S9088x128.size a := fun v5150 k0_hw519 => k0_hw519

def k0_off855 (k0_t6 : Fin k0_t6_loop.trips) : Fin 2 → Nat :=
  let c5_3125 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3123 : BitVec 32 := 32#32
  let v5156 : BitVec 32 := Scalar.muli v3950 c32_i32_3123
  let c27_i32_3124 : BitVec 32 := 27#32
  let v5157 : BitVec 32 := Scalar.addi v5156 c27_i32_3124
  let v5158 : Index := Scalar.indexCast v5157
  ![5, v5158.toNat]
def k0_off856 (v5159 : BitVec 32) : Fin 2 → Nat :=
  let v5160 : Index := Scalar.indexCast v5159
  let c0_3126 : Index := 0#32
  ![v5160.toNat, 0]

def k0_chk520 (v5159 : BitVec 32) : Prop :=
  (∀ a, (k0_off856 v5159) a + S1x128.size a ≤ S9088x128.size a)
theorem k0_off856_inb : ∀ (v5159 : BitVec 32) (k0_hw520 : k0_chk520 v5159), ∀ a, (k0_off856 v5159) a + S1x128.size a ≤ S9088x128.size a := fun v5159 k0_hw520 => k0_hw520

def k0_off857 (k0_t6 : Fin k0_t6_loop.trips) : Fin 2 → Nat :=
  let c5_3131 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3129 : BitVec 32 := 32#32
  let v5165 : BitVec 32 := Scalar.muli v3950 c32_i32_3129
  let c28_i32_3130 : BitVec 32 := 28#32
  let v5166 : BitVec 32 := Scalar.addi v5165 c28_i32_3130
  let v5167 : Index := Scalar.indexCast v5166
  ![5, v5167.toNat]
def k0_off858 (v5168 : BitVec 32) : Fin 2 → Nat :=
  let v5169 : Index := Scalar.indexCast v5168
  let c0_3132 : Index := 0#32
  ![v5169.toNat, 0]

def k0_chk521 (v5168 : BitVec 32) : Prop :=
  (∀ a, (k0_off858 v5168) a + S1x128.size a ≤ S9088x128.size a)
theorem k0_off858_inb : ∀ (v5168 : BitVec 32) (k0_hw521 : k0_chk521 v5168), ∀ a, (k0_off858 v5168) a + S1x128.size a ≤ S9088x128.size a := fun v5168 k0_hw521 => k0_hw521

def k0_off859 (k0_t6 : Fin k0_t6_loop.trips) : Fin 2 → Nat :=
  let c5_3137 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3135 : BitVec 32 := 32#32
  let v5174 : BitVec 32 := Scalar.muli v3950 c32_i32_3135
  let c29_i32_3136 : BitVec 32 := 29#32
  let v5175 : BitVec 32 := Scalar.addi v5174 c29_i32_3136
  let v5176 : Index := Scalar.indexCast v5175
  ![5, v5176.toNat]
def k0_off860 (v5177 : BitVec 32) : Fin 2 → Nat :=
  let v5178 : Index := Scalar.indexCast v5177
  let c0_3138 : Index := 0#32
  ![v5178.toNat, 0]

def k0_chk522 (v5177 : BitVec 32) : Prop :=
  (∀ a, (k0_off860 v5177) a + S1x128.size a ≤ S9088x128.size a)
theorem k0_off860_inb : ∀ (v5177 : BitVec 32) (k0_hw522 : k0_chk522 v5177), ∀ a, (k0_off860 v5177) a + S1x128.size a ≤ S9088x128.size a := fun v5177 k0_hw522 => k0_hw522

def k0_off861 (k0_t6 : Fin k0_t6_loop.trips) : Fin 2 → Nat :=
  let c5_3143 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3141 : BitVec 32 := 32#32
  let v5183 : BitVec 32 := Scalar.muli v3950 c32_i32_3141
  let c30_i32_3142 : BitVec 32 := 30#32
  let v5184 : BitVec 32 := Scalar.addi v5183 c30_i32_3142
  let v5185 : Index := Scalar.indexCast v5184
  ![5, v5185.toNat]
def k0_off862 (v5186 : BitVec 32) : Fin 2 → Nat :=
  let v5187 : Index := Scalar.indexCast v5186
  let c0_3144 : Index := 0#32
  ![v5187.toNat, 0]

def k0_chk523 (v5186 : BitVec 32) : Prop :=
  (∀ a, (k0_off862 v5186) a + S1x128.size a ≤ S9088x128.size a)
theorem k0_off862_inb : ∀ (v5186 : BitVec 32) (k0_hw523 : k0_chk523 v5186), ∀ a, (k0_off862 v5186) a + S1x128.size a ≤ S9088x128.size a := fun v5186 k0_hw523 => k0_hw523

def k0_off863 (k0_t6 : Fin k0_t6_loop.trips) : Fin 2 → Nat :=
  let c5_3149 : Index := 5#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3147 : BitVec 32 := 32#32
  let v5192 : BitVec 32 := Scalar.muli v3950 c32_i32_3147
  let c31_i32_3148 : BitVec 32 := 31#32
  let v5193 : BitVec 32 := Scalar.addi v5192 c31_i32_3148
  let v5194 : Index := Scalar.indexCast v5193
  ![5, v5194.toNat]
def k0_off864 (v5195 : BitVec 32) : Fin 2 → Nat :=
  let v5196 : Index := Scalar.indexCast v5195
  let c0_3150 : Index := 0#32
  ![v5196.toNat, 0]

def k0_chk524 (v5195 : BitVec 32) : Prop :=
  (∀ a, (k0_off864 v5195) a + S1x128.size a ≤ S9088x128.size a)
theorem k0_off864_inb : ∀ (v5195 : BitVec 32) (k0_hw524 : k0_chk524 v5195), ∀ a, (k0_off864 v5195) a + S1x128.size a ≤ S9088x128.size a := fun v5195 k0_hw524 => k0_hw524

def k0_off865 (k0_t6 : Fin k0_t6_loop.trips) : Fin 2 → Nat :=
  let c6_3163 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3161 : BitVec 32 := 32#32
  let v5218 : BitVec 32 := Scalar.muli v3950 c32_i32_3161
  let c0_i32_3162 : BitVec 32 := 0#32
  let v5219 : BitVec 32 := Scalar.addi v5218 c0_i32_3162
  let v5220 : Index := Scalar.indexCast v5219
  ![6, v5220.toNat]
def k0_off866 (v5221 : BitVec 32) : Fin 2 → Nat :=
  let v5222 : Index := Scalar.indexCast v5221
  let c0_3164 : Index := 0#32
  ![v5222.toNat, 0]

def k0_chk525 (v5221 : BitVec 32) : Prop :=
  (∀ a, (k0_off866 v5221) a + S1x128.size a ≤ S9088x128.size a)
theorem k0_off866_inb : ∀ (v5221 : BitVec 32) (k0_hw525 : k0_chk525 v5221), ∀ a, (k0_off866 v5221) a + S1x128.size a ≤ S9088x128.size a := fun v5221 k0_hw525 => k0_hw525

def k0_off867 (k0_t6 : Fin k0_t6_loop.trips) : Fin 2 → Nat :=
  let c6_3169 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3167 : BitVec 32 := 32#32
  let v5227 : BitVec 32 := Scalar.muli v3950 c32_i32_3167
  let c1_i32_3168 : BitVec 32 := 1#32
  let v5228 : BitVec 32 := Scalar.addi v5227 c1_i32_3168
  let v5229 : Index := Scalar.indexCast v5228
  ![6, v5229.toNat]
def k0_off868 (v5230 : BitVec 32) : Fin 2 → Nat :=
  let v5231 : Index := Scalar.indexCast v5230
  let c0_3170 : Index := 0#32
  ![v5231.toNat, 0]

def k0_chk526 (v5230 : BitVec 32) : Prop :=
  (∀ a, (k0_off868 v5230) a + S1x128.size a ≤ S9088x128.size a)
theorem k0_off868_inb : ∀ (v5230 : BitVec 32) (k0_hw526 : k0_chk526 v5230), ∀ a, (k0_off868 v5230) a + S1x128.size a ≤ S9088x128.size a := fun v5230 k0_hw526 => k0_hw526

def k0_off869 (k0_t6 : Fin k0_t6_loop.trips) : Fin 2 → Nat :=
  let c6_3175 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3173 : BitVec 32 := 32#32
  let v5236 : BitVec 32 := Scalar.muli v3950 c32_i32_3173
  let c2_i32_3174 : BitVec 32 := 2#32
  let v5237 : BitVec 32 := Scalar.addi v5236 c2_i32_3174
  let v5238 : Index := Scalar.indexCast v5237
  ![6, v5238.toNat]
def k0_off870 (v5239 : BitVec 32) : Fin 2 → Nat :=
  let v5240 : Index := Scalar.indexCast v5239
  let c0_3176 : Index := 0#32
  ![v5240.toNat, 0]

def k0_chk527 (v5239 : BitVec 32) : Prop :=
  (∀ a, (k0_off870 v5239) a + S1x128.size a ≤ S9088x128.size a)
theorem k0_off870_inb : ∀ (v5239 : BitVec 32) (k0_hw527 : k0_chk527 v5239), ∀ a, (k0_off870 v5239) a + S1x128.size a ≤ S9088x128.size a := fun v5239 k0_hw527 => k0_hw527

def k0_off871 (k0_t6 : Fin k0_t6_loop.trips) : Fin 2 → Nat :=
  let c6_3181 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3179 : BitVec 32 := 32#32
  let v5245 : BitVec 32 := Scalar.muli v3950 c32_i32_3179
  let c3_i32_3180 : BitVec 32 := 3#32
  let v5246 : BitVec 32 := Scalar.addi v5245 c3_i32_3180
  let v5247 : Index := Scalar.indexCast v5246
  ![6, v5247.toNat]
def k0_off872 (v5248 : BitVec 32) : Fin 2 → Nat :=
  let v5249 : Index := Scalar.indexCast v5248
  let c0_3182 : Index := 0#32
  ![v5249.toNat, 0]

def k0_chk528 (v5248 : BitVec 32) : Prop :=
  (∀ a, (k0_off872 v5248) a + S1x128.size a ≤ S9088x128.size a)
theorem k0_off872_inb : ∀ (v5248 : BitVec 32) (k0_hw528 : k0_chk528 v5248), ∀ a, (k0_off872 v5248) a + S1x128.size a ≤ S9088x128.size a := fun v5248 k0_hw528 => k0_hw528

def k0_off873 (k0_t6 : Fin k0_t6_loop.trips) : Fin 2 → Nat :=
  let c6_3187 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3185 : BitVec 32 := 32#32
  let v5254 : BitVec 32 := Scalar.muli v3950 c32_i32_3185
  let c4_i32_3186 : BitVec 32 := 4#32
  let v5255 : BitVec 32 := Scalar.addi v5254 c4_i32_3186
  let v5256 : Index := Scalar.indexCast v5255
  ![6, v5256.toNat]
def k0_off874 (v5257 : BitVec 32) : Fin 2 → Nat :=
  let v5258 : Index := Scalar.indexCast v5257
  let c0_3188 : Index := 0#32
  ![v5258.toNat, 0]

def k0_chk529 (v5257 : BitVec 32) : Prop :=
  (∀ a, (k0_off874 v5257) a + S1x128.size a ≤ S9088x128.size a)
theorem k0_off874_inb : ∀ (v5257 : BitVec 32) (k0_hw529 : k0_chk529 v5257), ∀ a, (k0_off874 v5257) a + S1x128.size a ≤ S9088x128.size a := fun v5257 k0_hw529 => k0_hw529

def k0_off875 (k0_t6 : Fin k0_t6_loop.trips) : Fin 2 → Nat :=
  let c6_3193 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3191 : BitVec 32 := 32#32
  let v5263 : BitVec 32 := Scalar.muli v3950 c32_i32_3191
  let c5_i32_3192 : BitVec 32 := 5#32
  let v5264 : BitVec 32 := Scalar.addi v5263 c5_i32_3192
  let v5265 : Index := Scalar.indexCast v5264
  ![6, v5265.toNat]
def k0_off876 (v5266 : BitVec 32) : Fin 2 → Nat :=
  let v5267 : Index := Scalar.indexCast v5266
  let c0_3194 : Index := 0#32
  ![v5267.toNat, 0]

def k0_chk530 (v5266 : BitVec 32) : Prop :=
  (∀ a, (k0_off876 v5266) a + S1x128.size a ≤ S9088x128.size a)
theorem k0_off876_inb : ∀ (v5266 : BitVec 32) (k0_hw530 : k0_chk530 v5266), ∀ a, (k0_off876 v5266) a + S1x128.size a ≤ S9088x128.size a := fun v5266 k0_hw530 => k0_hw530

def k0_off877 (k0_t6 : Fin k0_t6_loop.trips) : Fin 2 → Nat :=
  let c6_3199 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3197 : BitVec 32 := 32#32
  let v5272 : BitVec 32 := Scalar.muli v3950 c32_i32_3197
  let c6_i32_3198 : BitVec 32 := 6#32
  let v5273 : BitVec 32 := Scalar.addi v5272 c6_i32_3198
  let v5274 : Index := Scalar.indexCast v5273
  ![6, v5274.toNat]
def k0_off878 (v5275 : BitVec 32) : Fin 2 → Nat :=
  let v5276 : Index := Scalar.indexCast v5275
  let c0_3200 : Index := 0#32
  ![v5276.toNat, 0]

def k0_chk531 (v5275 : BitVec 32) : Prop :=
  (∀ a, (k0_off878 v5275) a + S1x128.size a ≤ S9088x128.size a)
theorem k0_off878_inb : ∀ (v5275 : BitVec 32) (k0_hw531 : k0_chk531 v5275), ∀ a, (k0_off878 v5275) a + S1x128.size a ≤ S9088x128.size a := fun v5275 k0_hw531 => k0_hw531

def k0_off879 (k0_t6 : Fin k0_t6_loop.trips) : Fin 2 → Nat :=
  let c6_3205 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3203 : BitVec 32 := 32#32
  let v5281 : BitVec 32 := Scalar.muli v3950 c32_i32_3203
  let c7_i32_3204 : BitVec 32 := 7#32
  let v5282 : BitVec 32 := Scalar.addi v5281 c7_i32_3204
  let v5283 : Index := Scalar.indexCast v5282
  ![6, v5283.toNat]
def k0_off880 (v5284 : BitVec 32) : Fin 2 → Nat :=
  let v5285 : Index := Scalar.indexCast v5284
  let c0_3206 : Index := 0#32
  ![v5285.toNat, 0]

def k0_chk532 (v5284 : BitVec 32) : Prop :=
  (∀ a, (k0_off880 v5284) a + S1x128.size a ≤ S9088x128.size a)
theorem k0_off880_inb : ∀ (v5284 : BitVec 32) (k0_hw532 : k0_chk532 v5284), ∀ a, (k0_off880 v5284) a + S1x128.size a ≤ S9088x128.size a := fun v5284 k0_hw532 => k0_hw532

def k0_off881 (k0_t6 : Fin k0_t6_loop.trips) : Fin 2 → Nat :=
  let c6_3211 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3209 : BitVec 32 := 32#32
  let v5290 : BitVec 32 := Scalar.muli v3950 c32_i32_3209
  let c8_i32_3210 : BitVec 32 := 8#32
  let v5291 : BitVec 32 := Scalar.addi v5290 c8_i32_3210
  let v5292 : Index := Scalar.indexCast v5291
  ![6, v5292.toNat]
def k0_off882 (v5293 : BitVec 32) : Fin 2 → Nat :=
  let v5294 : Index := Scalar.indexCast v5293
  let c0_3212 : Index := 0#32
  ![v5294.toNat, 0]

def k0_chk533 (v5293 : BitVec 32) : Prop :=
  (∀ a, (k0_off882 v5293) a + S1x128.size a ≤ S9088x128.size a)
theorem k0_off882_inb : ∀ (v5293 : BitVec 32) (k0_hw533 : k0_chk533 v5293), ∀ a, (k0_off882 v5293) a + S1x128.size a ≤ S9088x128.size a := fun v5293 k0_hw533 => k0_hw533

def k0_off883 (k0_t6 : Fin k0_t6_loop.trips) : Fin 2 → Nat :=
  let c6_3217 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3215 : BitVec 32 := 32#32
  let v5299 : BitVec 32 := Scalar.muli v3950 c32_i32_3215
  let c9_i32_3216 : BitVec 32 := 9#32
  let v5300 : BitVec 32 := Scalar.addi v5299 c9_i32_3216
  let v5301 : Index := Scalar.indexCast v5300
  ![6, v5301.toNat]
def k0_off884 (v5302 : BitVec 32) : Fin 2 → Nat :=
  let v5303 : Index := Scalar.indexCast v5302
  let c0_3218 : Index := 0#32
  ![v5303.toNat, 0]

def k0_chk534 (v5302 : BitVec 32) : Prop :=
  (∀ a, (k0_off884 v5302) a + S1x128.size a ≤ S9088x128.size a)
theorem k0_off884_inb : ∀ (v5302 : BitVec 32) (k0_hw534 : k0_chk534 v5302), ∀ a, (k0_off884 v5302) a + S1x128.size a ≤ S9088x128.size a := fun v5302 k0_hw534 => k0_hw534

def k0_off885 (k0_t6 : Fin k0_t6_loop.trips) : Fin 2 → Nat :=
  let c6_3223 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3221 : BitVec 32 := 32#32
  let v5308 : BitVec 32 := Scalar.muli v3950 c32_i32_3221
  let c10_i32_3222 : BitVec 32 := 10#32
  let v5309 : BitVec 32 := Scalar.addi v5308 c10_i32_3222
  let v5310 : Index := Scalar.indexCast v5309
  ![6, v5310.toNat]
def k0_off886 (v5311 : BitVec 32) : Fin 2 → Nat :=
  let v5312 : Index := Scalar.indexCast v5311
  let c0_3224 : Index := 0#32
  ![v5312.toNat, 0]

def k0_chk535 (v5311 : BitVec 32) : Prop :=
  (∀ a, (k0_off886 v5311) a + S1x128.size a ≤ S9088x128.size a)
theorem k0_off886_inb : ∀ (v5311 : BitVec 32) (k0_hw535 : k0_chk535 v5311), ∀ a, (k0_off886 v5311) a + S1x128.size a ≤ S9088x128.size a := fun v5311 k0_hw535 => k0_hw535

def k0_off887 (k0_t6 : Fin k0_t6_loop.trips) : Fin 2 → Nat :=
  let c6_3229 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3227 : BitVec 32 := 32#32
  let v5317 : BitVec 32 := Scalar.muli v3950 c32_i32_3227
  let c11_i32_3228 : BitVec 32 := 11#32
  let v5318 : BitVec 32 := Scalar.addi v5317 c11_i32_3228
  let v5319 : Index := Scalar.indexCast v5318
  ![6, v5319.toNat]
def k0_off888 (v5320 : BitVec 32) : Fin 2 → Nat :=
  let v5321 : Index := Scalar.indexCast v5320
  let c0_3230 : Index := 0#32
  ![v5321.toNat, 0]

def k0_chk536 (v5320 : BitVec 32) : Prop :=
  (∀ a, (k0_off888 v5320) a + S1x128.size a ≤ S9088x128.size a)
theorem k0_off888_inb : ∀ (v5320 : BitVec 32) (k0_hw536 : k0_chk536 v5320), ∀ a, (k0_off888 v5320) a + S1x128.size a ≤ S9088x128.size a := fun v5320 k0_hw536 => k0_hw536

def k0_off889 (k0_t6 : Fin k0_t6_loop.trips) : Fin 2 → Nat :=
  let c6_3235 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3233 : BitVec 32 := 32#32
  let v5326 : BitVec 32 := Scalar.muli v3950 c32_i32_3233
  let c12_i32_3234 : BitVec 32 := 12#32
  let v5327 : BitVec 32 := Scalar.addi v5326 c12_i32_3234
  let v5328 : Index := Scalar.indexCast v5327
  ![6, v5328.toNat]
def k0_off890 (v5329 : BitVec 32) : Fin 2 → Nat :=
  let v5330 : Index := Scalar.indexCast v5329
  let c0_3236 : Index := 0#32
  ![v5330.toNat, 0]

def k0_chk537 (v5329 : BitVec 32) : Prop :=
  (∀ a, (k0_off890 v5329) a + S1x128.size a ≤ S9088x128.size a)
theorem k0_off890_inb : ∀ (v5329 : BitVec 32) (k0_hw537 : k0_chk537 v5329), ∀ a, (k0_off890 v5329) a + S1x128.size a ≤ S9088x128.size a := fun v5329 k0_hw537 => k0_hw537

def k0_off891 (k0_t6 : Fin k0_t6_loop.trips) : Fin 2 → Nat :=
  let c6_3241 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3239 : BitVec 32 := 32#32
  let v5335 : BitVec 32 := Scalar.muli v3950 c32_i32_3239
  let c13_i32_3240 : BitVec 32 := 13#32
  let v5336 : BitVec 32 := Scalar.addi v5335 c13_i32_3240
  let v5337 : Index := Scalar.indexCast v5336
  ![6, v5337.toNat]
def k0_off892 (v5338 : BitVec 32) : Fin 2 → Nat :=
  let v5339 : Index := Scalar.indexCast v5338
  let c0_3242 : Index := 0#32
  ![v5339.toNat, 0]

def k0_chk538 (v5338 : BitVec 32) : Prop :=
  (∀ a, (k0_off892 v5338) a + S1x128.size a ≤ S9088x128.size a)
theorem k0_off892_inb : ∀ (v5338 : BitVec 32) (k0_hw538 : k0_chk538 v5338), ∀ a, (k0_off892 v5338) a + S1x128.size a ≤ S9088x128.size a := fun v5338 k0_hw538 => k0_hw538

def k0_off893 (k0_t6 : Fin k0_t6_loop.trips) : Fin 2 → Nat :=
  let c6_3247 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3245 : BitVec 32 := 32#32
  let v5344 : BitVec 32 := Scalar.muli v3950 c32_i32_3245
  let c14_i32_3246 : BitVec 32 := 14#32
  let v5345 : BitVec 32 := Scalar.addi v5344 c14_i32_3246
  let v5346 : Index := Scalar.indexCast v5345
  ![6, v5346.toNat]
def k0_off894 (v5347 : BitVec 32) : Fin 2 → Nat :=
  let v5348 : Index := Scalar.indexCast v5347
  let c0_3248 : Index := 0#32
  ![v5348.toNat, 0]

def k0_chk539 (v5347 : BitVec 32) : Prop :=
  (∀ a, (k0_off894 v5347) a + S1x128.size a ≤ S9088x128.size a)
theorem k0_off894_inb : ∀ (v5347 : BitVec 32) (k0_hw539 : k0_chk539 v5347), ∀ a, (k0_off894 v5347) a + S1x128.size a ≤ S9088x128.size a := fun v5347 k0_hw539 => k0_hw539

def k0_off895 (k0_t6 : Fin k0_t6_loop.trips) : Fin 2 → Nat :=
  let c6_3253 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3251 : BitVec 32 := 32#32
  let v5353 : BitVec 32 := Scalar.muli v3950 c32_i32_3251
  let c15_i32_3252 : BitVec 32 := 15#32
  let v5354 : BitVec 32 := Scalar.addi v5353 c15_i32_3252
  let v5355 : Index := Scalar.indexCast v5354
  ![6, v5355.toNat]
def k0_off896 (v5356 : BitVec 32) : Fin 2 → Nat :=
  let v5357 : Index := Scalar.indexCast v5356
  let c0_3254 : Index := 0#32
  ![v5357.toNat, 0]

def k0_chk540 (v5356 : BitVec 32) : Prop :=
  (∀ a, (k0_off896 v5356) a + S1x128.size a ≤ S9088x128.size a)
theorem k0_off896_inb : ∀ (v5356 : BitVec 32) (k0_hw540 : k0_chk540 v5356), ∀ a, (k0_off896 v5356) a + S1x128.size a ≤ S9088x128.size a := fun v5356 k0_hw540 => k0_hw540

def k0_off897 (k0_t6 : Fin k0_t6_loop.trips) : Fin 2 → Nat :=
  let c6_3259 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3257 : BitVec 32 := 32#32
  let v5362 : BitVec 32 := Scalar.muli v3950 c32_i32_3257
  let c16_i32_3258 : BitVec 32 := 16#32
  let v5363 : BitVec 32 := Scalar.addi v5362 c16_i32_3258
  let v5364 : Index := Scalar.indexCast v5363
  ![6, v5364.toNat]
def k0_off898 (v5365 : BitVec 32) : Fin 2 → Nat :=
  let v5366 : Index := Scalar.indexCast v5365
  let c0_3260 : Index := 0#32
  ![v5366.toNat, 0]

def k0_chk541 (v5365 : BitVec 32) : Prop :=
  (∀ a, (k0_off898 v5365) a + S1x128.size a ≤ S9088x128.size a)
theorem k0_off898_inb : ∀ (v5365 : BitVec 32) (k0_hw541 : k0_chk541 v5365), ∀ a, (k0_off898 v5365) a + S1x128.size a ≤ S9088x128.size a := fun v5365 k0_hw541 => k0_hw541

def k0_off899 (k0_t6 : Fin k0_t6_loop.trips) : Fin 2 → Nat :=
  let c6_3265 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3263 : BitVec 32 := 32#32
  let v5371 : BitVec 32 := Scalar.muli v3950 c32_i32_3263
  let c17_i32_3264 : BitVec 32 := 17#32
  let v5372 : BitVec 32 := Scalar.addi v5371 c17_i32_3264
  let v5373 : Index := Scalar.indexCast v5372
  ![6, v5373.toNat]
def k0_off900 (v5374 : BitVec 32) : Fin 2 → Nat :=
  let v5375 : Index := Scalar.indexCast v5374
  let c0_3266 : Index := 0#32
  ![v5375.toNat, 0]

def k0_chk542 (v5374 : BitVec 32) : Prop :=
  (∀ a, (k0_off900 v5374) a + S1x128.size a ≤ S9088x128.size a)
theorem k0_off900_inb : ∀ (v5374 : BitVec 32) (k0_hw542 : k0_chk542 v5374), ∀ a, (k0_off900 v5374) a + S1x128.size a ≤ S9088x128.size a := fun v5374 k0_hw542 => k0_hw542

def k0_off901 (k0_t6 : Fin k0_t6_loop.trips) : Fin 2 → Nat :=
  let c6_3271 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3269 : BitVec 32 := 32#32
  let v5380 : BitVec 32 := Scalar.muli v3950 c32_i32_3269
  let c18_i32_3270 : BitVec 32 := 18#32
  let v5381 : BitVec 32 := Scalar.addi v5380 c18_i32_3270
  let v5382 : Index := Scalar.indexCast v5381
  ![6, v5382.toNat]
def k0_off902 (v5383 : BitVec 32) : Fin 2 → Nat :=
  let v5384 : Index := Scalar.indexCast v5383
  let c0_3272 : Index := 0#32
  ![v5384.toNat, 0]

def k0_chk543 (v5383 : BitVec 32) : Prop :=
  (∀ a, (k0_off902 v5383) a + S1x128.size a ≤ S9088x128.size a)
theorem k0_off902_inb : ∀ (v5383 : BitVec 32) (k0_hw543 : k0_chk543 v5383), ∀ a, (k0_off902 v5383) a + S1x128.size a ≤ S9088x128.size a := fun v5383 k0_hw543 => k0_hw543

def k0_off903 (k0_t6 : Fin k0_t6_loop.trips) : Fin 2 → Nat :=
  let c6_3277 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3275 : BitVec 32 := 32#32
  let v5389 : BitVec 32 := Scalar.muli v3950 c32_i32_3275
  let c19_i32_3276 : BitVec 32 := 19#32
  let v5390 : BitVec 32 := Scalar.addi v5389 c19_i32_3276
  let v5391 : Index := Scalar.indexCast v5390
  ![6, v5391.toNat]
def k0_off904 (v5392 : BitVec 32) : Fin 2 → Nat :=
  let v5393 : Index := Scalar.indexCast v5392
  let c0_3278 : Index := 0#32
  ![v5393.toNat, 0]

def k0_chk544 (v5392 : BitVec 32) : Prop :=
  (∀ a, (k0_off904 v5392) a + S1x128.size a ≤ S9088x128.size a)
theorem k0_off904_inb : ∀ (v5392 : BitVec 32) (k0_hw544 : k0_chk544 v5392), ∀ a, (k0_off904 v5392) a + S1x128.size a ≤ S9088x128.size a := fun v5392 k0_hw544 => k0_hw544

def k0_off905 (k0_t6 : Fin k0_t6_loop.trips) : Fin 2 → Nat :=
  let c6_3283 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3281 : BitVec 32 := 32#32
  let v5398 : BitVec 32 := Scalar.muli v3950 c32_i32_3281
  let c20_i32_3282 : BitVec 32 := 20#32
  let v5399 : BitVec 32 := Scalar.addi v5398 c20_i32_3282
  let v5400 : Index := Scalar.indexCast v5399
  ![6, v5400.toNat]
def k0_off906 (v5401 : BitVec 32) : Fin 2 → Nat :=
  let v5402 : Index := Scalar.indexCast v5401
  let c0_3284 : Index := 0#32
  ![v5402.toNat, 0]

def k0_chk545 (v5401 : BitVec 32) : Prop :=
  (∀ a, (k0_off906 v5401) a + S1x128.size a ≤ S9088x128.size a)
theorem k0_off906_inb : ∀ (v5401 : BitVec 32) (k0_hw545 : k0_chk545 v5401), ∀ a, (k0_off906 v5401) a + S1x128.size a ≤ S9088x128.size a := fun v5401 k0_hw545 => k0_hw545

def k0_off907 (k0_t6 : Fin k0_t6_loop.trips) : Fin 2 → Nat :=
  let c6_3289 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3287 : BitVec 32 := 32#32
  let v5407 : BitVec 32 := Scalar.muli v3950 c32_i32_3287
  let c21_i32_3288 : BitVec 32 := 21#32
  let v5408 : BitVec 32 := Scalar.addi v5407 c21_i32_3288
  let v5409 : Index := Scalar.indexCast v5408
  ![6, v5409.toNat]
def k0_off908 (v5410 : BitVec 32) : Fin 2 → Nat :=
  let v5411 : Index := Scalar.indexCast v5410
  let c0_3290 : Index := 0#32
  ![v5411.toNat, 0]

def k0_chk546 (v5410 : BitVec 32) : Prop :=
  (∀ a, (k0_off908 v5410) a + S1x128.size a ≤ S9088x128.size a)
theorem k0_off908_inb : ∀ (v5410 : BitVec 32) (k0_hw546 : k0_chk546 v5410), ∀ a, (k0_off908 v5410) a + S1x128.size a ≤ S9088x128.size a := fun v5410 k0_hw546 => k0_hw546

def k0_off909 (k0_t6 : Fin k0_t6_loop.trips) : Fin 2 → Nat :=
  let c6_3295 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3293 : BitVec 32 := 32#32
  let v5416 : BitVec 32 := Scalar.muli v3950 c32_i32_3293
  let c22_i32_3294 : BitVec 32 := 22#32
  let v5417 : BitVec 32 := Scalar.addi v5416 c22_i32_3294
  let v5418 : Index := Scalar.indexCast v5417
  ![6, v5418.toNat]
def k0_off910 (v5419 : BitVec 32) : Fin 2 → Nat :=
  let v5420 : Index := Scalar.indexCast v5419
  let c0_3296 : Index := 0#32
  ![v5420.toNat, 0]

def k0_chk547 (v5419 : BitVec 32) : Prop :=
  (∀ a, (k0_off910 v5419) a + S1x128.size a ≤ S9088x128.size a)
theorem k0_off910_inb : ∀ (v5419 : BitVec 32) (k0_hw547 : k0_chk547 v5419), ∀ a, (k0_off910 v5419) a + S1x128.size a ≤ S9088x128.size a := fun v5419 k0_hw547 => k0_hw547

def k0_off911 (k0_t6 : Fin k0_t6_loop.trips) : Fin 2 → Nat :=
  let c6_3301 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3299 : BitVec 32 := 32#32
  let v5425 : BitVec 32 := Scalar.muli v3950 c32_i32_3299
  let c23_i32_3300 : BitVec 32 := 23#32
  let v5426 : BitVec 32 := Scalar.addi v5425 c23_i32_3300
  let v5427 : Index := Scalar.indexCast v5426
  ![6, v5427.toNat]
def k0_off912 (v5428 : BitVec 32) : Fin 2 → Nat :=
  let v5429 : Index := Scalar.indexCast v5428
  let c0_3302 : Index := 0#32
  ![v5429.toNat, 0]

def k0_chk548 (v5428 : BitVec 32) : Prop :=
  (∀ a, (k0_off912 v5428) a + S1x128.size a ≤ S9088x128.size a)
theorem k0_off912_inb : ∀ (v5428 : BitVec 32) (k0_hw548 : k0_chk548 v5428), ∀ a, (k0_off912 v5428) a + S1x128.size a ≤ S9088x128.size a := fun v5428 k0_hw548 => k0_hw548

def k0_off913 (k0_t6 : Fin k0_t6_loop.trips) : Fin 2 → Nat :=
  let c6_3307 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3305 : BitVec 32 := 32#32
  let v5434 : BitVec 32 := Scalar.muli v3950 c32_i32_3305
  let c24_i32_3306 : BitVec 32 := 24#32
  let v5435 : BitVec 32 := Scalar.addi v5434 c24_i32_3306
  let v5436 : Index := Scalar.indexCast v5435
  ![6, v5436.toNat]
def k0_off914 (v5437 : BitVec 32) : Fin 2 → Nat :=
  let v5438 : Index := Scalar.indexCast v5437
  let c0_3308 : Index := 0#32
  ![v5438.toNat, 0]

def k0_chk549 (v5437 : BitVec 32) : Prop :=
  (∀ a, (k0_off914 v5437) a + S1x128.size a ≤ S9088x128.size a)
theorem k0_off914_inb : ∀ (v5437 : BitVec 32) (k0_hw549 : k0_chk549 v5437), ∀ a, (k0_off914 v5437) a + S1x128.size a ≤ S9088x128.size a := fun v5437 k0_hw549 => k0_hw549

def k0_off915 (k0_t6 : Fin k0_t6_loop.trips) : Fin 2 → Nat :=
  let c6_3313 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3311 : BitVec 32 := 32#32
  let v5443 : BitVec 32 := Scalar.muli v3950 c32_i32_3311
  let c25_i32_3312 : BitVec 32 := 25#32
  let v5444 : BitVec 32 := Scalar.addi v5443 c25_i32_3312
  let v5445 : Index := Scalar.indexCast v5444
  ![6, v5445.toNat]
def k0_off916 (v5446 : BitVec 32) : Fin 2 → Nat :=
  let v5447 : Index := Scalar.indexCast v5446
  let c0_3314 : Index := 0#32
  ![v5447.toNat, 0]

def k0_chk550 (v5446 : BitVec 32) : Prop :=
  (∀ a, (k0_off916 v5446) a + S1x128.size a ≤ S9088x128.size a)
theorem k0_off916_inb : ∀ (v5446 : BitVec 32) (k0_hw550 : k0_chk550 v5446), ∀ a, (k0_off916 v5446) a + S1x128.size a ≤ S9088x128.size a := fun v5446 k0_hw550 => k0_hw550

def k0_off917 (k0_t6 : Fin k0_t6_loop.trips) : Fin 2 → Nat :=
  let c6_3319 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3317 : BitVec 32 := 32#32
  let v5452 : BitVec 32 := Scalar.muli v3950 c32_i32_3317
  let c26_i32_3318 : BitVec 32 := 26#32
  let v5453 : BitVec 32 := Scalar.addi v5452 c26_i32_3318
  let v5454 : Index := Scalar.indexCast v5453
  ![6, v5454.toNat]
def k0_off918 (v5455 : BitVec 32) : Fin 2 → Nat :=
  let v5456 : Index := Scalar.indexCast v5455
  let c0_3320 : Index := 0#32
  ![v5456.toNat, 0]

def k0_chk551 (v5455 : BitVec 32) : Prop :=
  (∀ a, (k0_off918 v5455) a + S1x128.size a ≤ S9088x128.size a)
theorem k0_off918_inb : ∀ (v5455 : BitVec 32) (k0_hw551 : k0_chk551 v5455), ∀ a, (k0_off918 v5455) a + S1x128.size a ≤ S9088x128.size a := fun v5455 k0_hw551 => k0_hw551

def k0_off919 (k0_t6 : Fin k0_t6_loop.trips) : Fin 2 → Nat :=
  let c6_3325 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3323 : BitVec 32 := 32#32
  let v5461 : BitVec 32 := Scalar.muli v3950 c32_i32_3323
  let c27_i32_3324 : BitVec 32 := 27#32
  let v5462 : BitVec 32 := Scalar.addi v5461 c27_i32_3324
  let v5463 : Index := Scalar.indexCast v5462
  ![6, v5463.toNat]
def k0_off920 (v5464 : BitVec 32) : Fin 2 → Nat :=
  let v5465 : Index := Scalar.indexCast v5464
  let c0_3326 : Index := 0#32
  ![v5465.toNat, 0]

def k0_chk552 (v5464 : BitVec 32) : Prop :=
  (∀ a, (k0_off920 v5464) a + S1x128.size a ≤ S9088x128.size a)
theorem k0_off920_inb : ∀ (v5464 : BitVec 32) (k0_hw552 : k0_chk552 v5464), ∀ a, (k0_off920 v5464) a + S1x128.size a ≤ S9088x128.size a := fun v5464 k0_hw552 => k0_hw552

def k0_off921 (k0_t6 : Fin k0_t6_loop.trips) : Fin 2 → Nat :=
  let c6_3331 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3329 : BitVec 32 := 32#32
  let v5470 : BitVec 32 := Scalar.muli v3950 c32_i32_3329
  let c28_i32_3330 : BitVec 32 := 28#32
  let v5471 : BitVec 32 := Scalar.addi v5470 c28_i32_3330
  let v5472 : Index := Scalar.indexCast v5471
  ![6, v5472.toNat]
def k0_off922 (v5473 : BitVec 32) : Fin 2 → Nat :=
  let v5474 : Index := Scalar.indexCast v5473
  let c0_3332 : Index := 0#32
  ![v5474.toNat, 0]

def k0_chk553 (v5473 : BitVec 32) : Prop :=
  (∀ a, (k0_off922 v5473) a + S1x128.size a ≤ S9088x128.size a)
theorem k0_off922_inb : ∀ (v5473 : BitVec 32) (k0_hw553 : k0_chk553 v5473), ∀ a, (k0_off922 v5473) a + S1x128.size a ≤ S9088x128.size a := fun v5473 k0_hw553 => k0_hw553

def k0_off923 (k0_t6 : Fin k0_t6_loop.trips) : Fin 2 → Nat :=
  let c6_3337 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3335 : BitVec 32 := 32#32
  let v5479 : BitVec 32 := Scalar.muli v3950 c32_i32_3335
  let c29_i32_3336 : BitVec 32 := 29#32
  let v5480 : BitVec 32 := Scalar.addi v5479 c29_i32_3336
  let v5481 : Index := Scalar.indexCast v5480
  ![6, v5481.toNat]
def k0_off924 (v5482 : BitVec 32) : Fin 2 → Nat :=
  let v5483 : Index := Scalar.indexCast v5482
  let c0_3338 : Index := 0#32
  ![v5483.toNat, 0]

def k0_chk554 (v5482 : BitVec 32) : Prop :=
  (∀ a, (k0_off924 v5482) a + S1x128.size a ≤ S9088x128.size a)
theorem k0_off924_inb : ∀ (v5482 : BitVec 32) (k0_hw554 : k0_chk554 v5482), ∀ a, (k0_off924 v5482) a + S1x128.size a ≤ S9088x128.size a := fun v5482 k0_hw554 => k0_hw554

def k0_off925 (k0_t6 : Fin k0_t6_loop.trips) : Fin 2 → Nat :=
  let c6_3343 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3341 : BitVec 32 := 32#32
  let v5488 : BitVec 32 := Scalar.muli v3950 c32_i32_3341
  let c30_i32_3342 : BitVec 32 := 30#32
  let v5489 : BitVec 32 := Scalar.addi v5488 c30_i32_3342
  let v5490 : Index := Scalar.indexCast v5489
  ![6, v5490.toNat]
def k0_off926 (v5491 : BitVec 32) : Fin 2 → Nat :=
  let v5492 : Index := Scalar.indexCast v5491
  let c0_3344 : Index := 0#32
  ![v5492.toNat, 0]

def k0_chk555 (v5491 : BitVec 32) : Prop :=
  (∀ a, (k0_off926 v5491) a + S1x128.size a ≤ S9088x128.size a)
theorem k0_off926_inb : ∀ (v5491 : BitVec 32) (k0_hw555 : k0_chk555 v5491), ∀ a, (k0_off926 v5491) a + S1x128.size a ≤ S9088x128.size a := fun v5491 k0_hw555 => k0_hw555

def k0_off927 (k0_t6 : Fin k0_t6_loop.trips) : Fin 2 → Nat :=
  let c6_3349 : Index := 6#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3347 : BitVec 32 := 32#32
  let v5497 : BitVec 32 := Scalar.muli v3950 c32_i32_3347
  let c31_i32_3348 : BitVec 32 := 31#32
  let v5498 : BitVec 32 := Scalar.addi v5497 c31_i32_3348
  let v5499 : Index := Scalar.indexCast v5498
  ![6, v5499.toNat]
def k0_off928 (v5500 : BitVec 32) : Fin 2 → Nat :=
  let v5501 : Index := Scalar.indexCast v5500
  let c0_3350 : Index := 0#32
  ![v5501.toNat, 0]

def k0_chk556 (v5500 : BitVec 32) : Prop :=
  (∀ a, (k0_off928 v5500) a + S1x128.size a ≤ S9088x128.size a)
theorem k0_off928_inb : ∀ (v5500 : BitVec 32) (k0_hw556 : k0_chk556 v5500), ∀ a, (k0_off928 v5500) a + S1x128.size a ≤ S9088x128.size a := fun v5500 k0_hw556 => k0_hw556

def k0_off929 (k0_t6 : Fin k0_t6_loop.trips) : Fin 2 → Nat :=
  let c7_3363 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3361 : BitVec 32 := 32#32
  let v5523 : BitVec 32 := Scalar.muli v3950 c32_i32_3361
  let c0_i32_3362 : BitVec 32 := 0#32
  let v5524 : BitVec 32 := Scalar.addi v5523 c0_i32_3362
  let v5525 : Index := Scalar.indexCast v5524
  ![7, v5525.toNat]
def k0_off930 (v5526 : BitVec 32) : Fin 2 → Nat :=
  let v5527 : Index := Scalar.indexCast v5526
  let c0_3364 : Index := 0#32
  ![v5527.toNat, 0]

def k0_chk557 (v5526 : BitVec 32) : Prop :=
  (∀ a, (k0_off930 v5526) a + S1x128.size a ≤ S9088x128.size a)
theorem k0_off930_inb : ∀ (v5526 : BitVec 32) (k0_hw557 : k0_chk557 v5526), ∀ a, (k0_off930 v5526) a + S1x128.size a ≤ S9088x128.size a := fun v5526 k0_hw557 => k0_hw557

def k0_off931 (k0_t6 : Fin k0_t6_loop.trips) : Fin 2 → Nat :=
  let c7_3369 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3367 : BitVec 32 := 32#32
  let v5532 : BitVec 32 := Scalar.muli v3950 c32_i32_3367
  let c1_i32_3368 : BitVec 32 := 1#32
  let v5533 : BitVec 32 := Scalar.addi v5532 c1_i32_3368
  let v5534 : Index := Scalar.indexCast v5533
  ![7, v5534.toNat]
def k0_off932 (v5535 : BitVec 32) : Fin 2 → Nat :=
  let v5536 : Index := Scalar.indexCast v5535
  let c0_3370 : Index := 0#32
  ![v5536.toNat, 0]

def k0_chk558 (v5535 : BitVec 32) : Prop :=
  (∀ a, (k0_off932 v5535) a + S1x128.size a ≤ S9088x128.size a)
theorem k0_off932_inb : ∀ (v5535 : BitVec 32) (k0_hw558 : k0_chk558 v5535), ∀ a, (k0_off932 v5535) a + S1x128.size a ≤ S9088x128.size a := fun v5535 k0_hw558 => k0_hw558

def k0_off933 (k0_t6 : Fin k0_t6_loop.trips) : Fin 2 → Nat :=
  let c7_3375 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3373 : BitVec 32 := 32#32
  let v5541 : BitVec 32 := Scalar.muli v3950 c32_i32_3373
  let c2_i32_3374 : BitVec 32 := 2#32
  let v5542 : BitVec 32 := Scalar.addi v5541 c2_i32_3374
  let v5543 : Index := Scalar.indexCast v5542
  ![7, v5543.toNat]
def k0_off934 (v5544 : BitVec 32) : Fin 2 → Nat :=
  let v5545 : Index := Scalar.indexCast v5544
  let c0_3376 : Index := 0#32
  ![v5545.toNat, 0]

def k0_chk559 (v5544 : BitVec 32) : Prop :=
  (∀ a, (k0_off934 v5544) a + S1x128.size a ≤ S9088x128.size a)
theorem k0_off934_inb : ∀ (v5544 : BitVec 32) (k0_hw559 : k0_chk559 v5544), ∀ a, (k0_off934 v5544) a + S1x128.size a ≤ S9088x128.size a := fun v5544 k0_hw559 => k0_hw559

def k0_off935 (k0_t6 : Fin k0_t6_loop.trips) : Fin 2 → Nat :=
  let c7_3381 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3379 : BitVec 32 := 32#32
  let v5550 : BitVec 32 := Scalar.muli v3950 c32_i32_3379
  let c3_i32_3380 : BitVec 32 := 3#32
  let v5551 : BitVec 32 := Scalar.addi v5550 c3_i32_3380
  let v5552 : Index := Scalar.indexCast v5551
  ![7, v5552.toNat]
def k0_off936 (v5553 : BitVec 32) : Fin 2 → Nat :=
  let v5554 : Index := Scalar.indexCast v5553
  let c0_3382 : Index := 0#32
  ![v5554.toNat, 0]

def k0_chk560 (v5553 : BitVec 32) : Prop :=
  (∀ a, (k0_off936 v5553) a + S1x128.size a ≤ S9088x128.size a)
theorem k0_off936_inb : ∀ (v5553 : BitVec 32) (k0_hw560 : k0_chk560 v5553), ∀ a, (k0_off936 v5553) a + S1x128.size a ≤ S9088x128.size a := fun v5553 k0_hw560 => k0_hw560

def k0_off937 (k0_t6 : Fin k0_t6_loop.trips) : Fin 2 → Nat :=
  let c7_3387 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3385 : BitVec 32 := 32#32
  let v5559 : BitVec 32 := Scalar.muli v3950 c32_i32_3385
  let c4_i32_3386 : BitVec 32 := 4#32
  let v5560 : BitVec 32 := Scalar.addi v5559 c4_i32_3386
  let v5561 : Index := Scalar.indexCast v5560
  ![7, v5561.toNat]
def k0_off938 (v5562 : BitVec 32) : Fin 2 → Nat :=
  let v5563 : Index := Scalar.indexCast v5562
  let c0_3388 : Index := 0#32
  ![v5563.toNat, 0]

def k0_chk561 (v5562 : BitVec 32) : Prop :=
  (∀ a, (k0_off938 v5562) a + S1x128.size a ≤ S9088x128.size a)
theorem k0_off938_inb : ∀ (v5562 : BitVec 32) (k0_hw561 : k0_chk561 v5562), ∀ a, (k0_off938 v5562) a + S1x128.size a ≤ S9088x128.size a := fun v5562 k0_hw561 => k0_hw561

def k0_off939 (k0_t6 : Fin k0_t6_loop.trips) : Fin 2 → Nat :=
  let c7_3393 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3391 : BitVec 32 := 32#32
  let v5568 : BitVec 32 := Scalar.muli v3950 c32_i32_3391
  let c5_i32_3392 : BitVec 32 := 5#32
  let v5569 : BitVec 32 := Scalar.addi v5568 c5_i32_3392
  let v5570 : Index := Scalar.indexCast v5569
  ![7, v5570.toNat]
def k0_off940 (v5571 : BitVec 32) : Fin 2 → Nat :=
  let v5572 : Index := Scalar.indexCast v5571
  let c0_3394 : Index := 0#32
  ![v5572.toNat, 0]

def k0_chk562 (v5571 : BitVec 32) : Prop :=
  (∀ a, (k0_off940 v5571) a + S1x128.size a ≤ S9088x128.size a)
theorem k0_off940_inb : ∀ (v5571 : BitVec 32) (k0_hw562 : k0_chk562 v5571), ∀ a, (k0_off940 v5571) a + S1x128.size a ≤ S9088x128.size a := fun v5571 k0_hw562 => k0_hw562

def k0_off941 (k0_t6 : Fin k0_t6_loop.trips) : Fin 2 → Nat :=
  let c7_3399 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3397 : BitVec 32 := 32#32
  let v5577 : BitVec 32 := Scalar.muli v3950 c32_i32_3397
  let c6_i32_3398 : BitVec 32 := 6#32
  let v5578 : BitVec 32 := Scalar.addi v5577 c6_i32_3398
  let v5579 : Index := Scalar.indexCast v5578
  ![7, v5579.toNat]
def k0_off942 (v5580 : BitVec 32) : Fin 2 → Nat :=
  let v5581 : Index := Scalar.indexCast v5580
  let c0_3400 : Index := 0#32
  ![v5581.toNat, 0]

def k0_chk563 (v5580 : BitVec 32) : Prop :=
  (∀ a, (k0_off942 v5580) a + S1x128.size a ≤ S9088x128.size a)
theorem k0_off942_inb : ∀ (v5580 : BitVec 32) (k0_hw563 : k0_chk563 v5580), ∀ a, (k0_off942 v5580) a + S1x128.size a ≤ S9088x128.size a := fun v5580 k0_hw563 => k0_hw563

def k0_off943 (k0_t6 : Fin k0_t6_loop.trips) : Fin 2 → Nat :=
  let c7_3405 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3403 : BitVec 32 := 32#32
  let v5586 : BitVec 32 := Scalar.muli v3950 c32_i32_3403
  let c7_i32_3404 : BitVec 32 := 7#32
  let v5587 : BitVec 32 := Scalar.addi v5586 c7_i32_3404
  let v5588 : Index := Scalar.indexCast v5587
  ![7, v5588.toNat]
def k0_off944 (v5589 : BitVec 32) : Fin 2 → Nat :=
  let v5590 : Index := Scalar.indexCast v5589
  let c0_3406 : Index := 0#32
  ![v5590.toNat, 0]

def k0_chk564 (v5589 : BitVec 32) : Prop :=
  (∀ a, (k0_off944 v5589) a + S1x128.size a ≤ S9088x128.size a)
theorem k0_off944_inb : ∀ (v5589 : BitVec 32) (k0_hw564 : k0_chk564 v5589), ∀ a, (k0_off944 v5589) a + S1x128.size a ≤ S9088x128.size a := fun v5589 k0_hw564 => k0_hw564

def k0_off945 (k0_t6 : Fin k0_t6_loop.trips) : Fin 2 → Nat :=
  let c7_3411 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3409 : BitVec 32 := 32#32
  let v5595 : BitVec 32 := Scalar.muli v3950 c32_i32_3409
  let c8_i32_3410 : BitVec 32 := 8#32
  let v5596 : BitVec 32 := Scalar.addi v5595 c8_i32_3410
  let v5597 : Index := Scalar.indexCast v5596
  ![7, v5597.toNat]
def k0_off946 (v5598 : BitVec 32) : Fin 2 → Nat :=
  let v5599 : Index := Scalar.indexCast v5598
  let c0_3412 : Index := 0#32
  ![v5599.toNat, 0]

def k0_chk565 (v5598 : BitVec 32) : Prop :=
  (∀ a, (k0_off946 v5598) a + S1x128.size a ≤ S9088x128.size a)
theorem k0_off946_inb : ∀ (v5598 : BitVec 32) (k0_hw565 : k0_chk565 v5598), ∀ a, (k0_off946 v5598) a + S1x128.size a ≤ S9088x128.size a := fun v5598 k0_hw565 => k0_hw565

def k0_off947 (k0_t6 : Fin k0_t6_loop.trips) : Fin 2 → Nat :=
  let c7_3417 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3415 : BitVec 32 := 32#32
  let v5604 : BitVec 32 := Scalar.muli v3950 c32_i32_3415
  let c9_i32_3416 : BitVec 32 := 9#32
  let v5605 : BitVec 32 := Scalar.addi v5604 c9_i32_3416
  let v5606 : Index := Scalar.indexCast v5605
  ![7, v5606.toNat]
def k0_off948 (v5607 : BitVec 32) : Fin 2 → Nat :=
  let v5608 : Index := Scalar.indexCast v5607
  let c0_3418 : Index := 0#32
  ![v5608.toNat, 0]

def k0_chk566 (v5607 : BitVec 32) : Prop :=
  (∀ a, (k0_off948 v5607) a + S1x128.size a ≤ S9088x128.size a)
theorem k0_off948_inb : ∀ (v5607 : BitVec 32) (k0_hw566 : k0_chk566 v5607), ∀ a, (k0_off948 v5607) a + S1x128.size a ≤ S9088x128.size a := fun v5607 k0_hw566 => k0_hw566

def k0_off949 (k0_t6 : Fin k0_t6_loop.trips) : Fin 2 → Nat :=
  let c7_3423 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3421 : BitVec 32 := 32#32
  let v5613 : BitVec 32 := Scalar.muli v3950 c32_i32_3421
  let c10_i32_3422 : BitVec 32 := 10#32
  let v5614 : BitVec 32 := Scalar.addi v5613 c10_i32_3422
  let v5615 : Index := Scalar.indexCast v5614
  ![7, v5615.toNat]
def k0_off950 (v5616 : BitVec 32) : Fin 2 → Nat :=
  let v5617 : Index := Scalar.indexCast v5616
  let c0_3424 : Index := 0#32
  ![v5617.toNat, 0]

def k0_chk567 (v5616 : BitVec 32) : Prop :=
  (∀ a, (k0_off950 v5616) a + S1x128.size a ≤ S9088x128.size a)
theorem k0_off950_inb : ∀ (v5616 : BitVec 32) (k0_hw567 : k0_chk567 v5616), ∀ a, (k0_off950 v5616) a + S1x128.size a ≤ S9088x128.size a := fun v5616 k0_hw567 => k0_hw567

def k0_off951 (k0_t6 : Fin k0_t6_loop.trips) : Fin 2 → Nat :=
  let c7_3429 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3427 : BitVec 32 := 32#32
  let v5622 : BitVec 32 := Scalar.muli v3950 c32_i32_3427
  let c11_i32_3428 : BitVec 32 := 11#32
  let v5623 : BitVec 32 := Scalar.addi v5622 c11_i32_3428
  let v5624 : Index := Scalar.indexCast v5623
  ![7, v5624.toNat]
def k0_off952 (v5625 : BitVec 32) : Fin 2 → Nat :=
  let v5626 : Index := Scalar.indexCast v5625
  let c0_3430 : Index := 0#32
  ![v5626.toNat, 0]

def k0_chk568 (v5625 : BitVec 32) : Prop :=
  (∀ a, (k0_off952 v5625) a + S1x128.size a ≤ S9088x128.size a)
theorem k0_off952_inb : ∀ (v5625 : BitVec 32) (k0_hw568 : k0_chk568 v5625), ∀ a, (k0_off952 v5625) a + S1x128.size a ≤ S9088x128.size a := fun v5625 k0_hw568 => k0_hw568

def k0_off953 (k0_t6 : Fin k0_t6_loop.trips) : Fin 2 → Nat :=
  let c7_3435 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3433 : BitVec 32 := 32#32
  let v5631 : BitVec 32 := Scalar.muli v3950 c32_i32_3433
  let c12_i32_3434 : BitVec 32 := 12#32
  let v5632 : BitVec 32 := Scalar.addi v5631 c12_i32_3434
  let v5633 : Index := Scalar.indexCast v5632
  ![7, v5633.toNat]
def k0_off954 (v5634 : BitVec 32) : Fin 2 → Nat :=
  let v5635 : Index := Scalar.indexCast v5634
  let c0_3436 : Index := 0#32
  ![v5635.toNat, 0]

def k0_chk569 (v5634 : BitVec 32) : Prop :=
  (∀ a, (k0_off954 v5634) a + S1x128.size a ≤ S9088x128.size a)
theorem k0_off954_inb : ∀ (v5634 : BitVec 32) (k0_hw569 : k0_chk569 v5634), ∀ a, (k0_off954 v5634) a + S1x128.size a ≤ S9088x128.size a := fun v5634 k0_hw569 => k0_hw569

def k0_off955 (k0_t6 : Fin k0_t6_loop.trips) : Fin 2 → Nat :=
  let c7_3441 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3439 : BitVec 32 := 32#32
  let v5640 : BitVec 32 := Scalar.muli v3950 c32_i32_3439
  let c13_i32_3440 : BitVec 32 := 13#32
  let v5641 : BitVec 32 := Scalar.addi v5640 c13_i32_3440
  let v5642 : Index := Scalar.indexCast v5641
  ![7, v5642.toNat]
def k0_off956 (v5643 : BitVec 32) : Fin 2 → Nat :=
  let v5644 : Index := Scalar.indexCast v5643
  let c0_3442 : Index := 0#32
  ![v5644.toNat, 0]

def k0_chk570 (v5643 : BitVec 32) : Prop :=
  (∀ a, (k0_off956 v5643) a + S1x128.size a ≤ S9088x128.size a)
theorem k0_off956_inb : ∀ (v5643 : BitVec 32) (k0_hw570 : k0_chk570 v5643), ∀ a, (k0_off956 v5643) a + S1x128.size a ≤ S9088x128.size a := fun v5643 k0_hw570 => k0_hw570

def k0_off957 (k0_t6 : Fin k0_t6_loop.trips) : Fin 2 → Nat :=
  let c7_3447 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3445 : BitVec 32 := 32#32
  let v5649 : BitVec 32 := Scalar.muli v3950 c32_i32_3445
  let c14_i32_3446 : BitVec 32 := 14#32
  let v5650 : BitVec 32 := Scalar.addi v5649 c14_i32_3446
  let v5651 : Index := Scalar.indexCast v5650
  ![7, v5651.toNat]
def k0_off958 (v5652 : BitVec 32) : Fin 2 → Nat :=
  let v5653 : Index := Scalar.indexCast v5652
  let c0_3448 : Index := 0#32
  ![v5653.toNat, 0]

def k0_chk571 (v5652 : BitVec 32) : Prop :=
  (∀ a, (k0_off958 v5652) a + S1x128.size a ≤ S9088x128.size a)
theorem k0_off958_inb : ∀ (v5652 : BitVec 32) (k0_hw571 : k0_chk571 v5652), ∀ a, (k0_off958 v5652) a + S1x128.size a ≤ S9088x128.size a := fun v5652 k0_hw571 => k0_hw571

def k0_off959 (k0_t6 : Fin k0_t6_loop.trips) : Fin 2 → Nat :=
  let c7_3453 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3451 : BitVec 32 := 32#32
  let v5658 : BitVec 32 := Scalar.muli v3950 c32_i32_3451
  let c15_i32_3452 : BitVec 32 := 15#32
  let v5659 : BitVec 32 := Scalar.addi v5658 c15_i32_3452
  let v5660 : Index := Scalar.indexCast v5659
  ![7, v5660.toNat]
def k0_off960 (v5661 : BitVec 32) : Fin 2 → Nat :=
  let v5662 : Index := Scalar.indexCast v5661
  let c0_3454 : Index := 0#32
  ![v5662.toNat, 0]

def k0_chk572 (v5661 : BitVec 32) : Prop :=
  (∀ a, (k0_off960 v5661) a + S1x128.size a ≤ S9088x128.size a)
theorem k0_off960_inb : ∀ (v5661 : BitVec 32) (k0_hw572 : k0_chk572 v5661), ∀ a, (k0_off960 v5661) a + S1x128.size a ≤ S9088x128.size a := fun v5661 k0_hw572 => k0_hw572

def k0_off961 (k0_t6 : Fin k0_t6_loop.trips) : Fin 2 → Nat :=
  let c7_3459 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3457 : BitVec 32 := 32#32
  let v5667 : BitVec 32 := Scalar.muli v3950 c32_i32_3457
  let c16_i32_3458 : BitVec 32 := 16#32
  let v5668 : BitVec 32 := Scalar.addi v5667 c16_i32_3458
  let v5669 : Index := Scalar.indexCast v5668
  ![7, v5669.toNat]
def k0_off962 (v5670 : BitVec 32) : Fin 2 → Nat :=
  let v5671 : Index := Scalar.indexCast v5670
  let c0_3460 : Index := 0#32
  ![v5671.toNat, 0]

def k0_chk573 (v5670 : BitVec 32) : Prop :=
  (∀ a, (k0_off962 v5670) a + S1x128.size a ≤ S9088x128.size a)
theorem k0_off962_inb : ∀ (v5670 : BitVec 32) (k0_hw573 : k0_chk573 v5670), ∀ a, (k0_off962 v5670) a + S1x128.size a ≤ S9088x128.size a := fun v5670 k0_hw573 => k0_hw573

def k0_off963 (k0_t6 : Fin k0_t6_loop.trips) : Fin 2 → Nat :=
  let c7_3465 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3463 : BitVec 32 := 32#32
  let v5676 : BitVec 32 := Scalar.muli v3950 c32_i32_3463
  let c17_i32_3464 : BitVec 32 := 17#32
  let v5677 : BitVec 32 := Scalar.addi v5676 c17_i32_3464
  let v5678 : Index := Scalar.indexCast v5677
  ![7, v5678.toNat]
def k0_off964 (v5679 : BitVec 32) : Fin 2 → Nat :=
  let v5680 : Index := Scalar.indexCast v5679
  let c0_3466 : Index := 0#32
  ![v5680.toNat, 0]

def k0_chk574 (v5679 : BitVec 32) : Prop :=
  (∀ a, (k0_off964 v5679) a + S1x128.size a ≤ S9088x128.size a)
theorem k0_off964_inb : ∀ (v5679 : BitVec 32) (k0_hw574 : k0_chk574 v5679), ∀ a, (k0_off964 v5679) a + S1x128.size a ≤ S9088x128.size a := fun v5679 k0_hw574 => k0_hw574

def k0_off965 (k0_t6 : Fin k0_t6_loop.trips) : Fin 2 → Nat :=
  let c7_3471 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3469 : BitVec 32 := 32#32
  let v5685 : BitVec 32 := Scalar.muli v3950 c32_i32_3469
  let c18_i32_3470 : BitVec 32 := 18#32
  let v5686 : BitVec 32 := Scalar.addi v5685 c18_i32_3470
  let v5687 : Index := Scalar.indexCast v5686
  ![7, v5687.toNat]
def k0_off966 (v5688 : BitVec 32) : Fin 2 → Nat :=
  let v5689 : Index := Scalar.indexCast v5688
  let c0_3472 : Index := 0#32
  ![v5689.toNat, 0]

def k0_chk575 (v5688 : BitVec 32) : Prop :=
  (∀ a, (k0_off966 v5688) a + S1x128.size a ≤ S9088x128.size a)
theorem k0_off966_inb : ∀ (v5688 : BitVec 32) (k0_hw575 : k0_chk575 v5688), ∀ a, (k0_off966 v5688) a + S1x128.size a ≤ S9088x128.size a := fun v5688 k0_hw575 => k0_hw575

def k0_off967 (k0_t6 : Fin k0_t6_loop.trips) : Fin 2 → Nat :=
  let c7_3477 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3475 : BitVec 32 := 32#32
  let v5694 : BitVec 32 := Scalar.muli v3950 c32_i32_3475
  let c19_i32_3476 : BitVec 32 := 19#32
  let v5695 : BitVec 32 := Scalar.addi v5694 c19_i32_3476
  let v5696 : Index := Scalar.indexCast v5695
  ![7, v5696.toNat]
def k0_off968 (v5697 : BitVec 32) : Fin 2 → Nat :=
  let v5698 : Index := Scalar.indexCast v5697
  let c0_3478 : Index := 0#32
  ![v5698.toNat, 0]

def k0_chk576 (v5697 : BitVec 32) : Prop :=
  (∀ a, (k0_off968 v5697) a + S1x128.size a ≤ S9088x128.size a)
theorem k0_off968_inb : ∀ (v5697 : BitVec 32) (k0_hw576 : k0_chk576 v5697), ∀ a, (k0_off968 v5697) a + S1x128.size a ≤ S9088x128.size a := fun v5697 k0_hw576 => k0_hw576

def k0_off969 (k0_t6 : Fin k0_t6_loop.trips) : Fin 2 → Nat :=
  let c7_3483 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3481 : BitVec 32 := 32#32
  let v5703 : BitVec 32 := Scalar.muli v3950 c32_i32_3481
  let c20_i32_3482 : BitVec 32 := 20#32
  let v5704 : BitVec 32 := Scalar.addi v5703 c20_i32_3482
  let v5705 : Index := Scalar.indexCast v5704
  ![7, v5705.toNat]
def k0_off970 (v5706 : BitVec 32) : Fin 2 → Nat :=
  let v5707 : Index := Scalar.indexCast v5706
  let c0_3484 : Index := 0#32
  ![v5707.toNat, 0]

def k0_chk577 (v5706 : BitVec 32) : Prop :=
  (∀ a, (k0_off970 v5706) a + S1x128.size a ≤ S9088x128.size a)
theorem k0_off970_inb : ∀ (v5706 : BitVec 32) (k0_hw577 : k0_chk577 v5706), ∀ a, (k0_off970 v5706) a + S1x128.size a ≤ S9088x128.size a := fun v5706 k0_hw577 => k0_hw577

def k0_off971 (k0_t6 : Fin k0_t6_loop.trips) : Fin 2 → Nat :=
  let c7_3489 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3487 : BitVec 32 := 32#32
  let v5712 : BitVec 32 := Scalar.muli v3950 c32_i32_3487
  let c21_i32_3488 : BitVec 32 := 21#32
  let v5713 : BitVec 32 := Scalar.addi v5712 c21_i32_3488
  let v5714 : Index := Scalar.indexCast v5713
  ![7, v5714.toNat]
def k0_off972 (v5715 : BitVec 32) : Fin 2 → Nat :=
  let v5716 : Index := Scalar.indexCast v5715
  let c0_3490 : Index := 0#32
  ![v5716.toNat, 0]

def k0_chk578 (v5715 : BitVec 32) : Prop :=
  (∀ a, (k0_off972 v5715) a + S1x128.size a ≤ S9088x128.size a)
theorem k0_off972_inb : ∀ (v5715 : BitVec 32) (k0_hw578 : k0_chk578 v5715), ∀ a, (k0_off972 v5715) a + S1x128.size a ≤ S9088x128.size a := fun v5715 k0_hw578 => k0_hw578

def k0_off973 (k0_t6 : Fin k0_t6_loop.trips) : Fin 2 → Nat :=
  let c7_3495 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3493 : BitVec 32 := 32#32
  let v5721 : BitVec 32 := Scalar.muli v3950 c32_i32_3493
  let c22_i32_3494 : BitVec 32 := 22#32
  let v5722 : BitVec 32 := Scalar.addi v5721 c22_i32_3494
  let v5723 : Index := Scalar.indexCast v5722
  ![7, v5723.toNat]
def k0_off974 (v5724 : BitVec 32) : Fin 2 → Nat :=
  let v5725 : Index := Scalar.indexCast v5724
  let c0_3496 : Index := 0#32
  ![v5725.toNat, 0]

def k0_chk579 (v5724 : BitVec 32) : Prop :=
  (∀ a, (k0_off974 v5724) a + S1x128.size a ≤ S9088x128.size a)
theorem k0_off974_inb : ∀ (v5724 : BitVec 32) (k0_hw579 : k0_chk579 v5724), ∀ a, (k0_off974 v5724) a + S1x128.size a ≤ S9088x128.size a := fun v5724 k0_hw579 => k0_hw579

def k0_off975 (k0_t6 : Fin k0_t6_loop.trips) : Fin 2 → Nat :=
  let c7_3501 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3499 : BitVec 32 := 32#32
  let v5730 : BitVec 32 := Scalar.muli v3950 c32_i32_3499
  let c23_i32_3500 : BitVec 32 := 23#32
  let v5731 : BitVec 32 := Scalar.addi v5730 c23_i32_3500
  let v5732 : Index := Scalar.indexCast v5731
  ![7, v5732.toNat]
def k0_off976 (v5733 : BitVec 32) : Fin 2 → Nat :=
  let v5734 : Index := Scalar.indexCast v5733
  let c0_3502 : Index := 0#32
  ![v5734.toNat, 0]

def k0_chk580 (v5733 : BitVec 32) : Prop :=
  (∀ a, (k0_off976 v5733) a + S1x128.size a ≤ S9088x128.size a)
theorem k0_off976_inb : ∀ (v5733 : BitVec 32) (k0_hw580 : k0_chk580 v5733), ∀ a, (k0_off976 v5733) a + S1x128.size a ≤ S9088x128.size a := fun v5733 k0_hw580 => k0_hw580

def k0_off977 (k0_t6 : Fin k0_t6_loop.trips) : Fin 2 → Nat :=
  let c7_3507 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3505 : BitVec 32 := 32#32
  let v5739 : BitVec 32 := Scalar.muli v3950 c32_i32_3505
  let c24_i32_3506 : BitVec 32 := 24#32
  let v5740 : BitVec 32 := Scalar.addi v5739 c24_i32_3506
  let v5741 : Index := Scalar.indexCast v5740
  ![7, v5741.toNat]
def k0_off978 (v5742 : BitVec 32) : Fin 2 → Nat :=
  let v5743 : Index := Scalar.indexCast v5742
  let c0_3508 : Index := 0#32
  ![v5743.toNat, 0]

def k0_chk581 (v5742 : BitVec 32) : Prop :=
  (∀ a, (k0_off978 v5742) a + S1x128.size a ≤ S9088x128.size a)
theorem k0_off978_inb : ∀ (v5742 : BitVec 32) (k0_hw581 : k0_chk581 v5742), ∀ a, (k0_off978 v5742) a + S1x128.size a ≤ S9088x128.size a := fun v5742 k0_hw581 => k0_hw581

def k0_off979 (k0_t6 : Fin k0_t6_loop.trips) : Fin 2 → Nat :=
  let c7_3513 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3511 : BitVec 32 := 32#32
  let v5748 : BitVec 32 := Scalar.muli v3950 c32_i32_3511
  let c25_i32_3512 : BitVec 32 := 25#32
  let v5749 : BitVec 32 := Scalar.addi v5748 c25_i32_3512
  let v5750 : Index := Scalar.indexCast v5749
  ![7, v5750.toNat]
def k0_off980 (v5751 : BitVec 32) : Fin 2 → Nat :=
  let v5752 : Index := Scalar.indexCast v5751
  let c0_3514 : Index := 0#32
  ![v5752.toNat, 0]

def k0_chk582 (v5751 : BitVec 32) : Prop :=
  (∀ a, (k0_off980 v5751) a + S1x128.size a ≤ S9088x128.size a)
theorem k0_off980_inb : ∀ (v5751 : BitVec 32) (k0_hw582 : k0_chk582 v5751), ∀ a, (k0_off980 v5751) a + S1x128.size a ≤ S9088x128.size a := fun v5751 k0_hw582 => k0_hw582

def k0_off981 (k0_t6 : Fin k0_t6_loop.trips) : Fin 2 → Nat :=
  let c7_3519 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3517 : BitVec 32 := 32#32
  let v5757 : BitVec 32 := Scalar.muli v3950 c32_i32_3517
  let c26_i32_3518 : BitVec 32 := 26#32
  let v5758 : BitVec 32 := Scalar.addi v5757 c26_i32_3518
  let v5759 : Index := Scalar.indexCast v5758
  ![7, v5759.toNat]
def k0_off982 (v5760 : BitVec 32) : Fin 2 → Nat :=
  let v5761 : Index := Scalar.indexCast v5760
  let c0_3520 : Index := 0#32
  ![v5761.toNat, 0]

def k0_chk583 (v5760 : BitVec 32) : Prop :=
  (∀ a, (k0_off982 v5760) a + S1x128.size a ≤ S9088x128.size a)
theorem k0_off982_inb : ∀ (v5760 : BitVec 32) (k0_hw583 : k0_chk583 v5760), ∀ a, (k0_off982 v5760) a + S1x128.size a ≤ S9088x128.size a := fun v5760 k0_hw583 => k0_hw583

def k0_off983 (k0_t6 : Fin k0_t6_loop.trips) : Fin 2 → Nat :=
  let c7_3525 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3523 : BitVec 32 := 32#32
  let v5766 : BitVec 32 := Scalar.muli v3950 c32_i32_3523
  let c27_i32_3524 : BitVec 32 := 27#32
  let v5767 : BitVec 32 := Scalar.addi v5766 c27_i32_3524
  let v5768 : Index := Scalar.indexCast v5767
  ![7, v5768.toNat]
def k0_off984 (v5769 : BitVec 32) : Fin 2 → Nat :=
  let v5770 : Index := Scalar.indexCast v5769
  let c0_3526 : Index := 0#32
  ![v5770.toNat, 0]

def k0_chk584 (v5769 : BitVec 32) : Prop :=
  (∀ a, (k0_off984 v5769) a + S1x128.size a ≤ S9088x128.size a)
theorem k0_off984_inb : ∀ (v5769 : BitVec 32) (k0_hw584 : k0_chk584 v5769), ∀ a, (k0_off984 v5769) a + S1x128.size a ≤ S9088x128.size a := fun v5769 k0_hw584 => k0_hw584

def k0_off985 (k0_t6 : Fin k0_t6_loop.trips) : Fin 2 → Nat :=
  let c7_3531 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3529 : BitVec 32 := 32#32
  let v5775 : BitVec 32 := Scalar.muli v3950 c32_i32_3529
  let c28_i32_3530 : BitVec 32 := 28#32
  let v5776 : BitVec 32 := Scalar.addi v5775 c28_i32_3530
  let v5777 : Index := Scalar.indexCast v5776
  ![7, v5777.toNat]
def k0_off986 (v5778 : BitVec 32) : Fin 2 → Nat :=
  let v5779 : Index := Scalar.indexCast v5778
  let c0_3532 : Index := 0#32
  ![v5779.toNat, 0]

def k0_chk585 (v5778 : BitVec 32) : Prop :=
  (∀ a, (k0_off986 v5778) a + S1x128.size a ≤ S9088x128.size a)
theorem k0_off986_inb : ∀ (v5778 : BitVec 32) (k0_hw585 : k0_chk585 v5778), ∀ a, (k0_off986 v5778) a + S1x128.size a ≤ S9088x128.size a := fun v5778 k0_hw585 => k0_hw585

def k0_off987 (k0_t6 : Fin k0_t6_loop.trips) : Fin 2 → Nat :=
  let c7_3537 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3535 : BitVec 32 := 32#32
  let v5784 : BitVec 32 := Scalar.muli v3950 c32_i32_3535
  let c29_i32_3536 : BitVec 32 := 29#32
  let v5785 : BitVec 32 := Scalar.addi v5784 c29_i32_3536
  let v5786 : Index := Scalar.indexCast v5785
  ![7, v5786.toNat]
def k0_off988 (v5787 : BitVec 32) : Fin 2 → Nat :=
  let v5788 : Index := Scalar.indexCast v5787
  let c0_3538 : Index := 0#32
  ![v5788.toNat, 0]

def k0_chk586 (v5787 : BitVec 32) : Prop :=
  (∀ a, (k0_off988 v5787) a + S1x128.size a ≤ S9088x128.size a)
theorem k0_off988_inb : ∀ (v5787 : BitVec 32) (k0_hw586 : k0_chk586 v5787), ∀ a, (k0_off988 v5787) a + S1x128.size a ≤ S9088x128.size a := fun v5787 k0_hw586 => k0_hw586

def k0_off989 (k0_t6 : Fin k0_t6_loop.trips) : Fin 2 → Nat :=
  let c7_3543 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3541 : BitVec 32 := 32#32
  let v5793 : BitVec 32 := Scalar.muli v3950 c32_i32_3541
  let c30_i32_3542 : BitVec 32 := 30#32
  let v5794 : BitVec 32 := Scalar.addi v5793 c30_i32_3542
  let v5795 : Index := Scalar.indexCast v5794
  ![7, v5795.toNat]
def k0_off990 (v5796 : BitVec 32) : Fin 2 → Nat :=
  let v5797 : Index := Scalar.indexCast v5796
  let c0_3544 : Index := 0#32
  ![v5797.toNat, 0]

def k0_chk587 (v5796 : BitVec 32) : Prop :=
  (∀ a, (k0_off990 v5796) a + S1x128.size a ≤ S9088x128.size a)
theorem k0_off990_inb : ∀ (v5796 : BitVec 32) (k0_hw587 : k0_chk587 v5796), ∀ a, (k0_off990 v5796) a + S1x128.size a ≤ S9088x128.size a := fun v5796 k0_hw587 => k0_hw587

def k0_off991 (k0_t6 : Fin k0_t6_loop.trips) : Fin 2 → Nat :=
  let c7_3549 : Index := 7#32
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c1_i32_2301 : BitVec 32 := 1#32
  let v3949 : BitVec 32 := Scalar.addi v3948 c1_i32_2301
  let c47_i32_2302 : BitVec 32 := 47#32
  let v3950 : BitVec 32 := Scalar.minsi v3949 c47_i32_2302
  let c32_i32_3547 : BitVec 32 := 32#32
  let v5802 : BitVec 32 := Scalar.muli v3950 c32_i32_3547
  let c31_i32_3548 : BitVec 32 := 31#32
  let v5803 : BitVec 32 := Scalar.addi v5802 c31_i32_3548
  let v5804 : Index := Scalar.indexCast v5803
  ![7, v5804.toNat]
def k0_off992 (v5805 : BitVec 32) : Fin 2 → Nat :=
  let v5806 : Index := Scalar.indexCast v5805
  let c0_3550 : Index := 0#32
  ![v5806.toNat, 0]

def k0_chk588 (v5805 : BitVec 32) : Prop :=
  (∀ a, (k0_off992 v5805) a + S1x128.size a ≤ S9088x128.size a)
theorem k0_off992_inb : ∀ (v5805 : BitVec 32) (k0_hw588 : k0_chk588 v5805), ∀ a, (k0_off992 v5805) a + S1x128.size a ≤ S9088x128.size a := fun v5805 k0_hw588 => k0_hw588

def k0_mult19 (k0_t6 : Fin k0_t6_loop.trips) : BitVec 32 :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c32_i32_3705 : BitVec 32 := 32#32
  let v6572 : BitVec 32 := Scalar.muli v3948 c32_i32_3705
  v6572
def k0_off993 (k0_t6 : Fin k0_t6_loop.trips) : Fin 2 → Nat :=
  let c2_i32_2299 : BitVec 32 := 2#32
  let c0_i32_956 : BitVec 32 := 0#32
  let c0_i32_942 : BitVec 32 := 0#32
  let c1_i32_943 : BitVec 32 := 1#32
  let arg16 : BitVec 32 := Scf.iv c0_i32_942 c1_i32_943 k0_t6
  let c1_i32_955 : BitVec 32 := 1#32
  let v1313 : BitVec 32 := Scalar.muli arg16 c1_i32_955
  let v1314 : BitVec 32 := Scalar.addi c0_i32_956 v1313
  let v3947 : BitVec 32 := Scalar.muli c2_i32_2299 v1314
  let c1_i32_2300 : BitVec 32 := 1#32
  let v3948 : BitVec 32 := Scalar.addi v3947 c1_i32_2300
  let c32_i32_3705 : BitVec 32 := 32#32
  let v6572 : BitVec 32 := Scalar.muli v3948 c32_i32_3705
  let v6573 : BitVec 32 := v6572
  let c0_i32_3708 : BitVec 32 := 0#32
  ![v6573.toNat, 0]
def k0_mult20 : BitVec 32 :=
  let c1472_i32 : BitVec 32 := 1472#32
  c1472_i32
def k0_mult21 : BitVec 32 :=
  let c1504_i32 : BitVec 32 := 1504#32
  c1504_i32
abbrev stage0_0 : Fin 1 → Memref sig .tc .vmem S9088x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8x1536 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S9088x3584 : Shape := ⟨2, ![9088, 3584]⟩
abbrev S9088x128 : Shape := ⟨2, ![9088, 128]⟩
abbrev S1536x128 : Shape := ⟨2, ![1536, 128]⟩
abbrev S8x1536 : Shape := ⟨2, ![8, 1536]⟩
abbrev S4x1536 : Shape := ⟨2, ![4, 1536]⟩
abbrev S1536x4 : Shape := ⟨2, ![1536, 4]⟩
abbrev S6144 : Shape := ⟨1, ![6144]⟩
abbrev S6144x1 : Shape := ⟨2, ![6144, 1]⟩
abbrev S6144x3584 : Shape := ⟨2, ![6144, 3584]⟩
abbrev S9088x28 : Shape := ⟨2, ![9088, 28]⟩
abbrev S6144x28 : Shape := ⟨2, ![6144, 28]⟩
abbrev S1536x4x28 : Shape := ⟨3, ![1536, 4, 28]⟩
abbrev S1536x4x1 : Shape := ⟨3, ![1536, 4, 1]⟩
abbrev S1536x4x28x1 : Shape := ⟨4, ![1536, 4, 28, 1]⟩
abbrev S1536x3584 : Shape := ⟨2, ![1536, 3584]⟩
abbrev S1536x4x28x128 : Shape := ⟨4, ![1536, 4, 28, 128]⟩
abbrev S1536x28x128 : Shape := ⟨3, ![1536, 28, 128]⟩

abbrev nBuf : Space → Nat
  | .hbm => 20
  | .vmem => 3
  | .smem => 0
  | _ => 0

abbrev bufTy : (tb : Table) → Fin (tcTables nBuf tb) → BufTy
  | .hbm, ⟨0, _⟩ => ⟨S9088x3584, .i8⟩
  | .hbm, ⟨1, _⟩ => ⟨S9088x128, .f32⟩
  | .hbm, ⟨2, _⟩ => ⟨S1536x128, .f32⟩
  | .hbm, ⟨3, _⟩ => ⟨S8x1536, .i32⟩
  | .hbm, ⟨4, _⟩ => ⟨S4x1536, .i32⟩
  | .hbm, ⟨5, _⟩ => ⟨S1536x4, .i32⟩
  | .hbm, ⟨6, _⟩ => ⟨S6144, .i32⟩
  | .hbm, ⟨7, _⟩ => ⟨S9088x3584, .fp8e4m3⟩
  | .hbm, ⟨8, _⟩ => ⟨S6144x1, .i32⟩
  | .hbm, ⟨9, _⟩ => ⟨S6144x3584, .fp8e4m3⟩
  | .hbm, ⟨10, _⟩ => ⟨S9088x28, .f32⟩
  | .hbm, ⟨11, _⟩ => ⟨S6144x1, .i32⟩
  | .hbm, ⟨12, _⟩ => ⟨S6144x28, .f32⟩
  | .hbm, ⟨13, _⟩ => ⟨S1536x4x28, .f32⟩
  | .hbm, ⟨14, _⟩ => ⟨S1536x4, .f32⟩
  | .hbm, ⟨15, _⟩ => ⟨S1536x4x1, .f32⟩
  | .hbm, ⟨16, _⟩ => ⟨S1536x4x28, .f32⟩
  | .hbm, ⟨17, _⟩ => ⟨S1536x4x28, .f32⟩
  | .hbm, ⟨18, _⟩ => ⟨S1536x4x28x1, .f32⟩
  | .hbm, ⟨19, _⟩ => ⟨S1536x3584, .bf16⟩
  | .local _ .vmem, ⟨0, _⟩ => ⟨S6144x3584, .fp8e4m3⟩
  | .local _ .vmem, ⟨1, _⟩ => ⟨S1536x4x28x1, .f32⟩
  | .local _ .vmem, ⟨2, _⟩ => ⟨S1536x3584, .bf16⟩
  | _, _ => ⟨S9088x3584, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4x28x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Fit.lean ====
/- The precondition on the table, read element by element: its entries are in range, no tile is named twice, every
   gathered quad lies in a tile named early enough. -/
module

public import proofs.«01_k».proof.Proof.Gen.Pre_table_fits
public import Idealize.ShloMosaic.Lib.Pointwise
public import Idealize.ShloMosaic.Lib.WordArith
public import Idealize.ShloMosaic.Lib.Routing.OpsOrder

@[expose] public section

noncomputable section

namespace Cert.Fit

open Idealize.ShloMosaic Idealize.SL.Sem

variable {F : FTy → Type} [FloatOps F]

/-! ## Words compared as signed numbers -/

theorem sle_int {x y : BitVec 32} (h : x.sle y = true) : x.toInt ≤ y.toInt := by
  first | exact BitVec.sle_iff_toInt_le.1 h | exact of_decide_eq_true h
theorem slt_int {x y : BitVec 32} (h : x.slt y = true) : x.toInt < y.toInt := by
  first | exact BitVec.slt_iff_toInt_lt.1 h | exact of_decide_eq_true h
theorem slt_of_int {x y : BitVec 32} (h : x.toInt < y.toInt) : x.slt y = true := by
  first | exact BitVec.slt_iff_toInt_lt.2 h | exact decide_eq_true h

theorem toInt_cases (x : BitVec 32) : (x.toNat < 2147483648 ∧ x.toInt = (x.toNat : ℤ)) ∨ (2147483648 ≤ x.toNat ∧ x.toInt = (x.toNat : ℤ) - 4294967296) := by
  have := x.isLt
  rw [BitVec.toInt_eq_toNat_cond]
  split
  · left; constructor <;> omega
  · right; constructor <;> omega

/-- A word that is not negative and lies signed-below `n` is a number below `n`. -/
theorem below {x : BitVec 32} {n : Nat} (hn : n < 2 ^ 31) (h : IntOp.andi (IntOp.cmpi .sge x 0#32) (IntOp.cmpi .slt x (BitVec.ofNat 32 n)) = 1#1) : x.toNat < n := by
  simp only [IntOp.cmpi, WordArith.andi_ofBool, WordArith.ofBool_eq_one_iff, Bool.and_eq_true] at h
  exact WordArith.toNat_lt_of_zero_sle_of_slt_ofNat _ _ hn h.1 h.2

theorem atMost {x : BitVec 32} (h : IntOp.andi (IntOp.cmpi .sge x 0#32) (IntOp.cmpi .sle x 32#32) = 1#1) : x.toNat ≤ 32 := by
  simp only [IntOp.cmpi, WordArith.andi_ofBool, WordArith.ofBool_eq_one_iff, Bool.and_eq_true] at h
  have h1 := sle_int h.1
  have h2 := sle_int h.2
  have h0 : (0#32).toInt = 0 := by decide
  have h3 : (32#32).toInt = 32 := by decide
  have := toInt_cases x
  omega

/-- A count of at most 32 that a small number lies below. -/
theorem used_iff {j : Nat} {c : BitVec 32} (hj : j < 32) (hc : c.toNat ≤ 32) : (BitVec.ofNat 32 j).slt c = true ↔ j < c.toNat := by
  have h1 := toInt_cases (BitVec.ofNat 32 j)
  have h2 := toInt_cases c
  have h3 : (BitVec.ofNat 32 j).toNat = j := by rw [BitVec.toNat_ofNat]; exact Nat.mod_eq_of_lt (by omega)
  rw [h3] at h1
  constructor
  · intro h
    have := slt_int h
    omega
  · intro h
    exact slt_of_int (by omega)

theorem or_not {p q : BitVec 1} (h : IntOp.ori (~~~p) q = 1#1) (hp : p = 1#1) : q = 1#1 := by
  subst hp
  have e : IntOp.ori (~~~(1#1)) q = q := by
    show (~~~(1#1)) ||| q = q
    rw [show (~~~(1#1) : BitVec 1) = 0#1 by decide, BitVec.zero_or]
  exact e.symm.trans h

open Cert.Pre_table_fits

/-- What the kernel needs of its table `a`: rows 0 and 1 name quads, rows 4 to 7 rows; row 3 says at each block's first
    token how many tiles row 2 names for it; those exist and are all different; each quad of a block lies in a tile
    named for it or for an earlier block. -/
structure Table (a : IVec S8x1536 32) : Prop where
  quad : ∀ (b : Fin 48) (s : Fin 64), (a (ix2 ⟨s.val / 32, by omega⟩ ⟨b.val * 32 + s.val % 32, by omega⟩)).toNat < 2272
  row : ∀ (k : Fin 4) (t : Fin 1536), (a (ix2 ⟨4 + k.val, by omega⟩ t)).toNat < 9088
  cnt : ∀ b : Fin 48, (a (ix2 3 ⟨b.val * 32, by omega⟩)).toNat ≤ 32
  tile : ∀ (b : Fin 48) (j : Fin 32), j.val < (a (ix2 3 ⟨b.val * 32, by omega⟩)).toNat → (a (ix2 2 ⟨b.val * 32 + j.val, by omega⟩)).toNat < 284
  once : ∀ x y : Fin 1536, x.val % 32 < (a (ix2 3 ⟨x.val / 32 * 32, by omega⟩)).toNat → y.val % 32 < (a (ix2 3 ⟨y.val / 32 * 32, by omega⟩)).toNat → a (ix2 2 x) = a (ix2 2 y) → x = y
  held : ∀ (b : Fin 48) (s : Fin 64), ∃ x : Fin 1536, x.val < (b.val + 1) * 32 ∧ x.val % 32 < (a (ix2 3 ⟨x.val / 32 * 32, by omega⟩)).toNat
    ∧ (a (ix2 ⟨s.val / 32, by omega⟩ ⟨b.val * 32 + s.val % 32, by omega⟩)).toNat / 8 = (a (ix2 2 x)).toNat

/-- The same from the precondition's comparisons. -/
theorem table_of {a : IVec S8x1536 32}
    (h1 : ∀ (b : Fin 48) (s : Fin 64), IntOp.andi (IntOp.cmpi .sge (a (ix2 ⟨s.val / 32, by omega⟩ ⟨b.val * 32 + s.val % 32, by omega⟩)) 0#32) (IntOp.cmpi .slt (a (ix2 ⟨s.val / 32, by omega⟩ ⟨b.val * 32 + s.val % 32, by omega⟩)) 2272#32) = 1#1)
    (h2 : ∀ (k : Fin 4) (t : Fin 1536), IntOp.andi (IntOp.cmpi .sge (a (ix2 ⟨4 + k.val, by omega⟩ t)) 0#32) (IntOp.cmpi .slt (a (ix2 ⟨4 + k.val, by omega⟩ t)) 9088#32) = 1#1)
    (h3 : ∀ b : Fin 48, IntOp.andi (IntOp.cmpi .sge (a (ix2 3 ⟨b.val * 32, by omega⟩)) 0#32) (IntOp.cmpi .sle (a (ix2 3 ⟨b.val * 32, by omega⟩)) 32#32) = 1#1)
    (h4 : ∀ (b : Fin 48) (j : Fin 32), IntOp.ori (~~~IntOp.cmpi .slt (BitVec.ofNat 32 j.val) (a (ix2 3 ⟨b.val * 32, by omega⟩)))
      (IntOp.andi (IntOp.cmpi .sge (a (ix2 2 ⟨b.val * 32 + j.val, by omega⟩)) 0#32) (IntOp.cmpi .slt (a (ix2 2 ⟨b.val * 32 + j.val, by omega⟩)) 284#32)) = 1#1)
    (h5 : ∀ x y : Fin 1536, IntOp.ori (~~~IntOp.andi (IntOp.andi (IntOp.cmpi .slt (BitVec.ofNat 32 (x.val % 32)) (a (ix2 3 ⟨x.val / 32 * 32, by omega⟩)))
        (IntOp.cmpi .slt (BitVec.ofNat 32 (y.val % 32)) (a (ix2 3 ⟨y.val / 32 * 32, by omega⟩)))) (IntOp.cmpi .eq (a (ix2 2 x)) (a (ix2 2 y))))
      (IntOp.cmpi .eq (BitVec.ofNat 32 x.val) (BitVec.ofNat 32 y.val)) = 1#1)
    (h6 : ∀ (b : Fin 48) (s : Fin 64), Finset.fold IntOp.ori (0#1) (fun x : Fin 1536 =>
      IntOp.andi (IntOp.andi (IntOp.andi
        (IntOp.cmpi .sge (a (ix2 ⟨s.val / 32, by omega⟩ ⟨b.val * 32 + s.val % 32, by omega⟩)) (IntOp.muli 8#32 (a (ix2 2 x))))
        (IntOp.cmpi .slt (a (ix2 ⟨s.val / 32, by omega⟩ ⟨b.val * 32 + s.val % 32, by omega⟩)) (IntOp.addi (IntOp.muli 8#32 (a (ix2 2 x))) 8#32)))
        (IntOp.cmpi .slt (BitVec.ofNat 32 (x.val % 32)) (a (ix2 3 ⟨x.val / 32 * 32, by omega⟩))))
        (IntOp.cmpi .slt (BitVec.ofNat 32 x.val) (IntOp.muli (IntOp.addi (BitVec.ofNat 32 b.val) 1#32) 32#32))) Finset.univ = 1#1) : Table a := by
  have hq : ∀ (b : Fin 48) (s : Fin 64), (a (ix2 ⟨s.val / 32, by omega⟩ ⟨b.val * 32 + s.val % 32, by omega⟩)).toNat < 2272 := fun b s => below (by decide) (h1 b s)
  have hc : ∀ b : Fin 48, (a (ix2 3 ⟨b.val * 32, by omega⟩)).toNat ≤ 32 := fun b => atMost (h3 b)
  have hu : ∀ x : Fin 1536, (BitVec.ofNat 32 (x.val % 32)).slt (a (ix2 3 ⟨x.val / 32 * 32, by omega⟩)) = true ↔ x.val % 32 < (a (ix2 3 ⟨x.val / 32 * 32, by omega⟩)).toNat :=
    fun x => used_iff (Nat.mod_lt _ (by decide)) (hc ⟨x.val / 32, by omega⟩)
  have ht : ∀ (b : Fin 48) (j : Fin 32), j.val < (a (ix2 3 ⟨b.val * 32, by omega⟩)).toNat → (a (ix2 2 ⟨b.val * 32 + j.val, by omega⟩)).toNat < 284 := fun b j hj =>
    below (by decide) (or_not (h4 b j) (by simp only [IntOp.cmpi, WordArith.ofBool_eq_one_iff]; exact (used_iff j.isLt (hc b)).2 hj))
  refine ⟨hq, fun k t => below (by decide) (h2 k t), hc, ht, fun x y hx hy e => ?_, fun b s => ?_⟩
  · have := or_not (h5 x y) (by
      simp only [IntOp.cmpi, WordArith.andi_ofBool, WordArith.ofBool_eq_one_iff, Bool.and_eq_true, beq_iff_eq]
      exact ⟨⟨(hu x).2 hx, (hu y).2 hy⟩, e⟩)
    simp only [IntOp.cmpi, WordArith.ofBool_eq_one_iff, beq_iff_eq] at this
    have := congrArg BitVec.toNat this
    simp only [BitVec.toNat_ofNat] at this
    refine Fin.ext ?_
    omega
  · obtain ⟨x, -, hx⟩ := (Routing.fold_ori _ _).1 (h6 b s)
    simp only [IntOp.cmpi, WordArith.andi_ofBool, WordArith.ofBool_eq_one_iff, Bool.and_eq_true] at hx
    obtain ⟨⟨⟨e1, e2⟩, e3⟩, e4⟩ := hx
    have hxu := (hu x).1 e3
    have hxt := ht ⟨x.val / 32, by omega⟩ ⟨x.val % 32, by omega⟩ hxu
    rw [show (⟨(⟨x.val / 32, by omega⟩ : Fin 48).val * 32 + (⟨x.val % 32, by omega⟩ : Fin 32).val, by show x.val / 32 * 32 + x.val % 32 < 1536; omega⟩ : Fin 1536) = x from
      Fin.ext (by show x.val / 32 * 32 + x.val % 32 = x.val; omega)] at hxt
    have hqs := hq b s
    refine ⟨x, ?_, hxu, ?_⟩
    · have h := slt_int e4
      have a1 := toInt_cases (BitVec.ofNat 32 x.val)
      have a2 := toInt_cases (IntOp.muli (IntOp.addi (BitVec.ofNat 32 b.val) 1#32) 32#32)
      simp only [IntOp.muli, IntOp.addi, BitVec.toNat_mul, BitVec.toNat_add, BitVec.toNat_ofNat] at a1 a2 h
      omega
    · have h := sle_int e1
      have h' := slt_int e2
      generalize a (ix2 ⟨s.val / 32, _⟩ ⟨b.val * 32 + s.val % 32, _⟩) = q at h h' hqs ⊢
      generalize a (ix2 2 x) = t at h h' hxt ⊢
      have a1 := toInt_cases q
      have a2 := toInt_cases (IntOp.muli 8#32 t)
      have a3 := toInt_cases (IntOp.addi (IntOp.muli 8#32 t) 8#32)
      simp only [IntOp.muli, IntOp.addi, BitVec.toNat_mul, BitVec.toNat_add, BitVec.toNat_ofNat] at a1 a2 a3 h h'
      omega

section
variable (a0 : IVec S9088x3584 8) (a1 : FVec F S9088x128 .f32) (a2 : FVec F S1536x128 .f32) (a3 : IVec S8x1536 32)

/-- The precondition says just that. -/
theorem fit_table (h1 : (Pre_table_fits.fn (F := F) a0 a1 a2 a3).1 = fun _ => 1#1) (h2 : (Pre_table_fits.fn (F := F) a0 a1 a2 a3).2.1 = fun _ => 1#1)
    (h3 : (Pre_table_fits.fn (F := F) a0 a1 a2 a3).2.2.1 = fun _ => 1#1) (h4 : (Pre_table_fits.fn (F := F) a0 a1 a2 a3).2.2.2.1 = fun _ => 1#1)
    (h5 : (Pre_table_fits.fn (F := F) a0 a1 a2 a3).2.2.2.2.1 = fun _ => 1#1) (h6 : (Pre_table_fits.fn (F := F) a0 a1 a2 a3).2.2.2.2.2 = fun _ => 1#1) : Table a3 := by
  refine table_of (fun b s => ?_) (fun k t => ?_) (fun b => ?_) (fun b j => ?_) (fun x y => ?_) (fun b s => ?_)
  · have := congrFun h1 (ix2 b s)
    dsimp only [Pre_table_fits.fn, fn_part1, fn_part2, fn_part3] at this
    pointwise at this
    exact this
  · have := congrFun h2 (ix2 k t)
    dsimp only [Pre_table_fits.fn, fn_part1, fn_part2, fn_part3] at this
    pointwise at this
    exact this
  · have := congrFun h3 (ix2 b 0)
    dsimp only [Pre_table_fits.fn, fn_part1, fn_part2, fn_part3] at this
    pointwise at this
    exact this
  · have := congrFun h4 (ix2 b j)
    dsimp only [Pre_table_fits.fn, fn_part1, fn_part2, fn_part3] at this
    pointwise at this
    exact this
  · have := congrFun h5 (ix2 x y)
    dsimp only [Pre_table_fits.fn, fn_part1, fn_part2, fn_part3] at this
    pointwise at this
    exact this
  · have := congrFun h6 (ix2 b s)
    dsimp only [Pre_table_fits.fn, fn_part1, fn_part2, fn_part3] at this
    pointwise at this
    exact this

end

end Cert.Fit
-- ==== Proof.Steps.lean ====
/- The kernel's gather and combine as short recursive programs: one step per quad of rows, per scale row, per token
   slot and per pair of column groups; and the copies of tiles of eight quads, one step per copy. -/
module

public import proofs.«01_k».proof.Proof.Gen.KernelIdeal.Skeleton
public import proofs.«01_k».proof.Proof.Gen.KernelIdeal.Loops

@[expose] public section

noncomputable section

namespace Cert.Hand

open Cert.KernelIdeal Cert.KernelIdeal.Gen
open Idealize.ShloMosaic Idealize.SL.Sem

variable {F : FTy → Type} [FloatOps F]

/-- A program of the kernel's core that returns nothing. -/
abbrev P (F : FTy → Type) := Prog (TpuEff nD τ sig (Elt F) Λ₀ .tc) PUnit

/-- `f s`, `f (s + 1)`, …, `f (s + k - 1)` in turn, then `K`. -/
def seqFrom {n : Nat} (f : Fin n → P F → P F) (K : P F) : (k s : Nat) → s + k ≤ n → P F
  | 0, _, _ => K
  | k + 1, s, h => f ⟨s, by omega⟩ (seqFrom f K k (s + 1) (by omega))

/-- `f 0`, …, `f (n - 1)` in turn, then `K`. -/
def seqAll {n : Nat} (f : Fin n → P F → P F) (K : P F) : P F := seqFrom f K n 0 (by omega)

/-! ## Where a block's words lie -/

/-- Word `t` of block `i` in row `r` of the table. -/
def mOff (i : BitVec 32) (r : Fin 8) (t : Fin 32) : Fin 2 → Nat :=
  ![r.val, (Scalar.indexCast (Scalar.addi (Scalar.muli i 32#32) (BitVec.ofNat 32 t.val))).toNat]

/-- Block `i`'s first row of a table of one row per token. -/
def tOff (i : BitVec 32) : Fin 2 → Nat := ![(Scalar.indexCast (Scalar.muli i 32#32)).toNat, 0]

theorem word_eq (i : BitVec 32) (hi : i.toNat < 48) (t : Fin 32) :
    (Scalar.indexCast (Scalar.addi (Scalar.muli i 32#32) (BitVec.ofNat 32 t.val))).toNat = i.toNat * 32 + t.val := by
  have := t.isLt
  simp only [Scalar.indexCast, Scalar.addi, Scalar.muli, IntOp.addi, IntOp.muli, BitVec.toNat_add, BitVec.toNat_mul, BitVec.toNat_ofNat]
  omega

theorem tword_eq (i : BitVec 32) (hi : i.toNat < 48) : (Scalar.indexCast (Scalar.muli i 32#32)).toNat = i.toNat * 32 := by
  simp only [Scalar.indexCast, Scalar.muli, IntOp.muli, BitVec.toNat_mul, BitVec.toNat_ofNat]
  omega

theorem mOff_inb (i : BitVec 32) (hi : i.toNat < 48) (r : Fin 8) (t : Fin 32) : ∀ a, mOff i r t a + S1x1.size a ≤ S8x1536.size a := by
  have := r.isLt; have := t.isLt
  intro a; fin_cases a
  · show r.val + 1 ≤ 8; omega
  · show (Scalar.indexCast (Scalar.addi (Scalar.muli i 32#32) (BitVec.ofNat 32 t.val))).toNat + 1 ≤ 1536
    rw [word_eq i hi]; omega

theorem tOff_inb (i : BitVec 32) (hi : i.toNat < 48) : ∀ a, tOff i a + S32x128.size a ≤ S1536x128.size a := by
  intro a; fin_cases a
  · show (Scalar.indexCast (Scalar.muli i 32#32)).toNat + 32 ≤ 1536
    rw [tword_eq i hi]; omega
  · show 0 + 128 ≤ 128; omega

/-! ## One quad of rows -/

theorem stride_inb : ∀ c : Fin 64, ∀ a, S28x128.size a = 0 ∨ (![c.val, 0] : Fin 2 → Nat) a + (![68, 1] : Fin 2 → Nat) a * (S28x128.size a - 1) < S1904x128.size a := by decide

/-- Rows `c`, `68 + c`, `136 + c`, … of a composite buffer: quad `c`'s words of every column group. -/
def quadRows (c : Fin 64) : LoadRect S1904x128 := ⟨![c.val, 0], S28x128.size, ![68, 1], stride_inb c⟩

section
variable (codes : Memref sig .tc .vmem S2272x28x128 .i32) (srm : Memref sig .tc .vmem S9088x128 .f32)
  (pw : Memref sig .tc .vmem S1536x128 .f32) (tab : Memref sig .tc .smem S8x1536 .i32)
  (comp : Memref sig .tc .vmem S1904x128 .i32) (p : Memref sig .tc .vmem S128x256 .fp8e4m3) (hp : p.IsWhole)
  (sg cf : Memref sig .tc .vmem S128x128 .f32)

/-- The table's word `(r, t)` of block `i` names a quad; its words go to the rows of slot `c`. -/
def quadStep (i : BitVec 32) (hi : i.toNat < 48) (c : Fin 64) (K : P F) : P F :=
  smemLoadElt tab (Rect.unit (s := S8x1536) (mOff i ⟨c.val / 32, by omega⟩ ⟨c.val % 32, by omega⟩) S1x1.size (mOff_inb i hi _ _)) (View.loads_smem_one rfl numel1_S1x1) (Shape.Idx.first (numel1_S1x1.symm ▸ Nat.one_pos)) fun v =>
  .op (.assume (k0_chk5 v) (k0_chk5.dec v)) fun h =>
  .op (.load codes (Rect.unit (s := S2272x28x128) (k0_off8 v) S1x28x128.size (k0_off8_inb v h.down)).toLoadRect (View.loadsAt_vmem h_S1x28x128)) fun x =>
  .op (.load comp (quadRows c) (View.loadsAt_vmem h_S28x128)) fun _ =>
  .op (.store comp ⟨quadRows c, spos_68_1⟩ (k0_pay1 x) Finset.univ (View.stores_vmem_bits_univ h_S28x128 rfl) (.inl rfl)) fun _ => K

/-! ## One row of scales -/

theorem row_inb : ∀ q : Fin 128, ∀ a, (![q.val, 0] : Fin 2 → Nat) a + S1x128.size a ≤ S128x128.size a := by decide

/-- The table's word `(4 + k, t)` of block `i` names a row; its scales go to row `32 k + t`. -/
def scaleStep (i : BitVec 32) (hi : i.toNat < 48) (k : Fin 4) (t : Fin 32) (K : P F) : P F :=
  smemLoadElt tab (Rect.unit (s := S8x1536) (mOff i ⟨4 + k.val, by omega⟩ t) S1x1.size (mOff_inb i hi _ _)) (View.loads_smem_one rfl numel1_S1x1) (Shape.Idx.first (numel1_S1x1.symm ▸ Nat.one_pos)) fun v =>
  .op (.assume (k0_chk69 v) (k0_chk69.dec v)) fun h =>
  .op (.load srm (Rect.unit (s := S9088x128) (k0_off72 v) S1x128.size (k0_off72_inb v h.down)).toLoadRect (View.loadsAt_vmem h_S1x128)) fun x =>
  .op (.load sg (Rect.unit (s := S128x128) ![32 * k.val + t.val, 0] S1x128.size (row_inb ⟨32 * k.val + t.val, by omega⟩)).toLoadRect (View.loadsAt_vmem h_S1x128)) fun _ =>
  .op (.store sg (Rect.unit (s := S128x128) ![32 * k.val + t.val, 0] S1x128.size (row_inb ⟨32 * k.val + t.val, by omega⟩)) (k0_pay71 x) Finset.univ (View.stores_vmem_bits_univ h_S1x128 rfl) (.inl rfl)) fun _ => K

/-! ## The one-hot rows and the coefficients of expert slot `k` -/

theorem pcol : ∀ k : Fin 8, S32x128.Slices ![0, k.val] S32x1 := by decide
theorem prow : ∀ k : Fin 4, ∀ a, (![32 * k.val, 0] : Fin 2 → Nat) a + S32x256.size a ≤ S128x256.size a := by decide
theorem crow : ∀ k : Fin 4, ∀ a, (![32 * k.val, 0] : Fin 2 → Nat) a + S32x128.size a ≤ S128x128.size a := by decide
theorem pfit : ∀ k : Fin 4, (Rect.unit (s := S128x256) ![32 * k.val, 0] S32x256.size (prow k)).PackedRows (EltTy.packing .fp8e4m3) := by decide

/-- Row `t` of slot `k`: one at the lane the token's position names, zero elsewhere. -/
def oneHot (k : Fin 4) (pwb : Vec F S32x128 .f32) (lane : FVec F S32x256 .f32) : FVec F S32x256 .fp8e4m3 :=
  shapeCast S32x256 (truncf .fp8e4m3 (select (cmpf .oeq (broadcastTo S32x256 (extractStridedSlice S32x1 ![0, k.val] pwb (pcol ⟨k.val, by omega⟩)) broadcasts_S32x1_S32x256) lane)
    (broadcast S32x256 (Scalar.ofBits .f32 0x3F800000#32)) (broadcast S32x256 (Scalar.ofBits .f32 0x00000000#32))) bitsLt_fp8e4m3_f32) shapeCasts_S32x256_S32x256

/-- Row `t` of slot `k`: its scales times the token's weight. -/
def coefs (k : Fin 4) (pwb : Vec F S32x128 .f32) (s : Vec F S32x128 .f32) : FVec F S32x128 .f32 :=
  shapeCast S32x128 (mulf s (broadcastTo S32x128 (extractStridedSlice S32x1 ![0, 4 + k.val] pwb (pcol ⟨4 + k.val, by omega⟩)) broadcasts_S32x1_S32x128)) shapeCasts_S32x128_S32x128

/-- Slot `k` of a block: its scale rows, then its one-hot rows and coefficients. -/
def slotStep (i : BitVec 32) (hi : i.toNat < 48) (pwb : Vec F S32x128 .f32) (lane : FVec F S32x256 .f32) (k : Fin 4) (K : P F) : P F :=
  seqAll (scaleStep srm tab sg i hi k) <|
  .op (.load p (Rect.unit (s := S128x256) ![32 * k.val, 0] S32x256.size (prow k)).toLoadRect (View.loadsAt_vmem h_S32x256)) fun _ =>
  .op (.store p (Rect.unit (s := S128x256) ![32 * k.val, 0] S32x256.size (prow k)) (oneHot k pwb lane) Finset.univ (View.stores_vmem h_S32x256 (hp.storeExact_slice rfl _ (pfit k)) (fun _ => rfl)) (.inl rfl)) fun _ =>
  .op (.load sg (Rect.unit (s := S128x128) ![32 * k.val, 0] S32x128.size (crow k)).toLoadRect (View.loadsAt_vmem h_S32x128)) fun s =>
  .op (.load cf (Rect.unit (s := S128x128) ![32 * k.val, 0] S32x128.size (crow k)).toLoadRect (View.loadsAt_vmem h_S32x128)) fun _ =>
  .op (.store cf (Rect.unit (s := S128x128) ![32 * k.val, 0] S32x128.size (crow k)) (coefs k pwb s) Finset.univ (View.stores_vmem_bits_univ h_S32x128 rfl) (.inl rfl)) fun _ => K

/-- A block gathered; `K` goes on, given the block's rows of positions and weights. -/
def gather (i : BitVec 32) (hi : i.toNat < 48) (K : Vec F S32x128 .f32 → P F) : P F :=
  seqAll (quadStep codes tab comp i hi) <|
  .op (.load pw (Rect.unit (s := S1536x128) (tOff i) S32x128.size (tOff_inb i hi)).toLoadRect (View.loadsAt_vmem h_S32x128)) fun pwb =>
  seqAll (slotStep srm tab p hp sg cf i hi pwb k0_pay70) (K pwb)

/-! ## Combine -/

theorem grow : ∀ g : Fin 28, ∀ a, (![68 * g.val, 0] : Fin 2 → Nat) a + S64x128.size a ≤ S1904x128.size a := by decide
theorem rslc : ∀ (k : Fin 4) (h : Fin 2), S128x256.Slices ![32 * k.val, 128 * h.val] S32x128 := by decide
theorem cslc : ∀ (k : Fin 4) (g : Fin 28), S128x128.Slices ![32 * k.val, g.val] S32x1 := by decide
theorem orow : ∀ (s : Fin 2) (j : Fin 14), ∀ a, (![s.val, 0, 256 * j.val] : Fin 3 → Nat) a + S1x32x256.size a ≤ S2x32x3584.size a := by decide
theorem ofit : ∀ (s : Fin 2) (j : Fin 14), (Rect.unit (s := S2x32x3584) ![s.val, 0, 256 * j.val] S1x32x256.size (orow s j)).PackedRows (EltTy.packing .bf16) := by decide

/-- The words of a column group read as four rows of values each. -/
def rowsOf (x : Vec F S64x128 .i32) : FVec F S256x128 .fp8e4m3 := bitcastToFloat .fp8e4m3 (bitcast S256x128 8 x bitcasts_S64x128_w32_S256x128_w8)

/-- The picked rows of two column groups. -/
def picked (pv : Vec F S128x256 .fp8e4m3) (x y : Vec F S64x128 .i32) : FVec F S128x256 .f32 :=
  matmul dot_S128x256_S256x256_S128x256_1_0_0_1_n_n none pv
    (concatenate S256x256 1 [⟨S256x128, rowsOf x⟩, ⟨S256x128, rowsOf y⟩] concatenates_S256x128_S256x128_S256x256_d1) (constant S128x256 .f32 0x00000000#32)

/-- One of the four products: slot `k`'s picked values in column group `g` times its coefficients. -/
def prod (r : FVec F S128x256 .f32) (cfv : Vec F S128x128 .f32) (h : Fin 2) (g : Fin 28) (k : Fin 4) : FVec F S32x128 .f32 :=
  mulf (extractStridedSlice S32x128 ![32 * k.val, 128 * h.val] r (rslc k h)) (broadcastTo S32x128 (extractStridedSlice S32x1 ![32 * k.val, g.val] cfv (cslc k g)) broadcasts_S32x1_S32x128)

/-- The sum over the four slots. -/
def sum4 (r : FVec F S128x256 .f32) (cfv : Vec F S128x128 .f32) (h : Fin 2) (g : Fin 28) : FVec F S32x128 .f32 :=
  addf (addf (addf (addf (broadcast S32x128 (Scalar.ofBits .f32 0x00000000#32)) (prod r cfv h g 0)) (prod r cfv h g 1)) (prod r cfv h g 2)) (prod r cfv h g 3)

/-- The result's two column groups `2 j`, `2 j + 1` of a block. -/
def combined (pv : Vec F S128x256 .fp8e4m3) (cfv : Vec F S128x128 .f32) (j : Fin 14) (x y : Vec F S64x128 .i32) : FVec F S1x32x256 .bf16 :=
  shapeCast S1x32x256 (truncf .bf16 (concatenate S32x256 1 [⟨S32x128, sum4 (picked pv x y) cfv 0 ⟨2 * j.val, by omega⟩⟩, ⟨S32x128, sum4 (picked pv x y) cfv 1 ⟨2 * j.val + 1, by omega⟩⟩]
    concatenates_S32x128_S32x128_S32x256_d1) bitsLt_bf16_f32) shapeCasts_S32x256_S1x32x256

variable (ob : Memref sig .tc .vmem S2x32x3584 .bf16) (hob : ob.IsWhole)

/-- Column groups `2 j`, `2 j + 1` of a block combined. -/
def combineStep (s : Fin 2) (pv : Vec F S128x256 .fp8e4m3) (cfv : Vec F S128x128 .f32) (j : Fin 14) (K : P F) : P F :=
  .op (.load comp (Rect.unit (s := S1904x128) ![68 * (2 * j.val), 0] S64x128.size (grow ⟨2 * j.val, by omega⟩)).toLoadRect (View.loadsAt_vmem h_S64x128)) fun x =>
  .op (.load comp (Rect.unit (s := S1904x128) ![68 * (2 * j.val + 1), 0] S64x128.size (grow ⟨2 * j.val + 1, by omega⟩)).toLoadRect (View.loadsAt_vmem h_S64x128)) fun y =>
  .op (.load ob (Rect.unit (s := S2x32x3584) ![s.val, 0, 256 * j.val] S1x32x256.size (orow s j)).toLoadRect (View.loadsAt_vmem h_S1x32x256)) fun _ =>
  .op (.store ob (Rect.unit (s := S2x32x3584) ![s.val, 0, 256 * j.val] S1x32x256.size (orow s j)) (combined pv cfv j x y) Finset.univ (View.stores_vmem h_S1x32x256 (hob.storeExact_slice rfl _ (ofit s j)) (fun _ => rfl)) (.inl rfl)) fun _ => K

/-- A gathered block combined into slot `s` of the output buffer. -/
def combine (s : Fin 2) (K : P F) : P F :=
  .op (.load p (Rect.unit (s := S128x256) ![0, 0] S128x256.size inb_S128x256_S128x256_0_0).toLoadRect (View.loadsAt_vmem h_S128x256)) fun pv =>
  .op (.load cf (Rect.unit (s := S128x128) ![0, 0] S128x128.size inb_S128x128_S128x128_0_0).toLoadRect (View.loadsAt_vmem h_S128x128)) fun cfv =>
  seqAll (combineStep comp ob hob s pv cfv) K

/-! ## The output copies -/

/-- Block `i`'s rows of the result. -/
def oOff (i : BitVec 32) : Fin 2 → Nat := ![(Scalar.muli i 32#32).toNat, 0]

theorem oOff_eq (i : BitVec 32) (hi : i.toNat < 48) : oOff i = ![32 * i.toNat, 0] := by
  have h : (Scalar.muli i 32#32).toNat = 32 * i.toNat := by
    simp only [Scalar.muli, IntOp.muli, BitVec.toNat_mul, BitVec.toNat_ofNat]; omega
  unfold oOff; rw [h]

theorem blk_inb : ∀ n : Fin 48, ∀ a, (![32 * n.val, 0] : Fin 2 → Nat) a + S32x3584.size a ≤ S1536x3584.size a := by decide
theorem blk_words : ∀ n : Fin 48, (Rect.unit (s := S1536x3584) ![32 * n.val, 0] S32x3584.size (blk_inb n)).WholeWords (EltTy.packing .bf16) := by decide
theorem oOff_inb (i : BitVec 32) (hi : i.toNat < 48) : ∀ a, oOff i a + S32x3584.size a ≤ S1536x3584.size a := by
  rw [oOff_eq i hi]; exact blk_inb ⟨_, hi⟩

theorem oOff_words (i : BitVec 32) (hi : i.toNat < 48) : (Rect.unit (s := S1536x3584) (oOff i) S32x3584.size (oOff_inb i hi)).WholeWords (EltTy.packing .bf16) := by
  have h := blk_words ⟨_, hi⟩
  have e := oOff_eq i hi
  revert h; generalize oOff_inb i hi = h1; generalize blk_inb ⟨_, hi⟩ = h2
  revert h1 h2; rw [e]; exact fun _ _ h => h

theorem slot_inb : ∀ s : Fin 2, ∀ a, (![s.val, 0, 0] : Fin 3 → Nat) a + S1x32x3584.size a ≤ S2x32x3584.size a := by decide
theorem slot_words : ∀ s : Fin 2, (Rect.unit (s := S2x32x3584) ![s.val, 0, 0] S1x32x3584.size (slot_inb s)).WholeWords (EltTy.packing .bf16) := by decide
theorem sem_inb : ∀ s : Fin 2, ∀ a, (![s.val] : Fin 1 → Nat) a + S1.size a ≤ S2.size a := by decide

variable (out : Memref sig .tc .hbm S1536x3584 .bf16) (hout : out.IsWhole) (sems : DmaSems sig S2)

/-- Block `i` of the result. -/
def outDst (i : BitVec 32) (hi : i.toNat < 48) : Memref sig .tc .hbm S32x3584 .bf16 :=
  out.slice (Rect.unit (s := S1536x3584) (oOff i) S32x3584.size (oOff_inb i hi)) (fun _ => rfl)
/-- Slot `s` of the output buffer. -/
def outSrc (s : Fin 2) : Memref sig .tc .vmem S32x3584 .bf16 :=
  (ob.slice (Rect.unit (s := S2x32x3584) ![s.val, 0, 0] S1x32x3584.size (slot_inb s)) (fun _ => rfl)).squeeze S32x3584 squeezes_S1x32x3584_S32x3584
/-- Slot `s`'s semaphore. -/
def outSem (s : Fin 2) : DmaSems sig S_ := (sems.slice (Rect.unit (s := S2) ![s.val] S1.size (sem_inb s))).squeeze S_ squeezes_S1_S_

/-- Slot `s`'s copy to block `i` waited for. -/
def outWait (s : Fin 2) (i : BitVec 32) (hi : i.toNat < 48) (K : P F) : P F :=
  .op (.waitDma2 (outSem sems s).sem (outSrc ob s) (outDst out i hi) ((hob.wordExact_slice rfl _ (slot_words s)).reshape _ _) (hout.wordExact_slice rfl _ (oOff_words i hi))) fun _ => K
/-- Slot `s`'s copy to block `i` started. -/
def outStart (s : Fin 2) (i : BitVec 32) (hi : i.toNat < 48) (K : P F) : P F :=
  .op (.enqueueDma (outSrc ob s) (.here (outDst out i hi)) (.dma (outSem sems s).sem) ((hob.wordExact_slice rfl _ (slot_words s)).reshape _ _) (hout.wordExact_slice rfl _ (oOff_words i hi)) ⟨Or.inl rfl, trivial⟩) fun _ => K
end

/-! ## The copies of tiles -/

section
variable (words : Memref sig .tc .hbm S2272x28x128 .i32) (codes : Memref sig .tc .vmem S2272x28x128 .i32)
  (tab : Memref sig .tc .smem S8x1536 .i32) (tsems : DmaSems sig S48)

/-- Eight quads' words from the quad at `o`. -/
def tileMem {sp : Space} (m : Memref sig .tc sp S2272x28x128 .i32) (o : Fin 3 → Nat) (h : ∀ a, o a + S8x28x128.size a ≤ S2272x28x128.size a) : Memref sig .tc sp S8x28x128 .i32 :=
  m.slice (Rect.unit (s := S2272x28x128) o S8x28x128.size h) (fun _ => rfl)

/-- A block's semaphore. -/
def tSem (o : Fin 1 → Nat) (h : ∀ a, o a + S1.size a ≤ S48.size a) : DmaSems sig S_ := (tsems.slice (Rect.unit (s := S48) o S1.size h)).squeeze S_ squeezes_S1_S_

/-- A word of the table read. -/
def readWord (o : Fin 2 → Nat) (h : ∀ a, o a + S1x1.size a ≤ S8x1536.size a) (K : BitVec 32 → P F) : P F :=
  smemLoadElt tab (Rect.unit (s := S8x1536) o S1x1.size h) (View.loads_smem_one rfl numel1_S1x1) (Shape.Idx.first (numel1_S1x1.symm ▸ Nat.one_pos)) fun v => K v

/-- The table's word at `o` names a tile; its copy is started on the semaphore at `so`. -/
def tileStep (o : Fin 2 → Nat) (h : ∀ a, o a + S1x1.size a ≤ S8x1536.size a) (T : BitVec 32 → Prop) (dec : ∀ v, Decidable (T v))
    (hT : ∀ v, T v → ∀ a, k0_off4 v a + S8x28x128.size a ≤ S2272x28x128.size a) (so : Fin 1 → Nat) (hs : ∀ a, so a + S1.size a ≤ S48.size a) : P F :=
  readWord tab o h fun v =>
  .op (.assume (T v) (dec v)) fun h =>
  .op (.enqueueDma (tileMem words (k0_off4 v) (hT v h.down)) (.here (tileMem codes (k0_off4 v) (hT v h.down))) (.dma (tSem tsems so hs).sem) (View.wordExact_bits rfl) (View.wordExact_bits rfl) ⟨Or.inl rfl, trivial⟩) fun _ => .ret ⟨⟩

theorem tile0_inb : ∀ a, (![0, 0, 0] : Fin 3 → Nat) a + S8x28x128.size a ≤ S2272x28x128.size a := by decide

/-- One copy of a tile waited for, on the semaphore at `so`. -/
def tileWait (so : Fin 1 → Nat) (hs : ∀ a, so a + S1.size a ≤ S48.size a) : P F :=
  .op (.waitDma2 (tSem tsems so hs).sem (tileMem words ![0, 0, 0] tile0_inb) (tileMem codes ![0, 0, 0] tile0_inb) (View.wordExact_bits rfl) (View.wordExact_bits rfl)) fun _ => .ret ⟨⟩

/-- Where one place of the kernel reads a block's count and its tiles, what it assumes of them, and its semaphore. -/
structure Iss where
  coff : Fin 2 → Nat
  cinb : ∀ a, coff a + S1x1.size a ≤ S8x1536.size a
  C : BitVec 32 → Prop
  cdec : ∀ v, Decidable (C v)
  ok1 : ∀ v, C v → (k0_t2_loop v).OK
  off1 : ∀ v, Fin (k0_t2_loop v).trips → Fin 2 → Nat
  inb1 : ∀ v, C v → ∀ j a, off1 v j a + S1x1.size a ≤ S8x1536.size a
  ok2 : ∀ v, C v → (k0_t3_loop v).OK
  off2 : ∀ v, Fin (k0_t3_loop v).trips → Fin 2 → Nat
  inb2 : ∀ v, C v → ∀ j a, off2 v j a + S1x1.size a ≤ S8x1536.size a
  T1 : BitVec 32 → Prop
  tdec1 : ∀ v, Decidable (T1 v)
  tinb1 : ∀ v, T1 v → ∀ a, k0_off4 v a + S8x28x128.size a ≤ S2272x28x128.size a
  T2 : BitVec 32 → Prop
  tdec2 : ∀ v, Decidable (T2 v)
  tinb2 : ∀ v, T2 v → ∀ a, k0_off4 v a + S8x28x128.size a ≤ S2272x28x128.size a
  soff : Fin 1 → Nat
  sinb : ∀ a, soff a + S1.size a ≤ S48.size a

/-- Where one place of the kernel reads the count of a block whose tiles it waits for, and its semaphore. -/
structure Lnd where
  coff : Fin 2 → Nat
  cinb : ∀ a, coff a + S1x1.size a ≤ S8x1536.size a
  C : BitVec 32 → Prop
  cdec : ∀ v, Decidable (C v)
  ok1 : ∀ v, C v → (k0_t2_loop v).OK
  ok2 : ∀ v, C v → (k0_t3_loop v).OK
  soff : Fin 1 → Nat
  sinb : ∀ a, soff a + S1.size a ≤ S48.size a

/-- The copies of a block's tiles started. -/
def issue (I : Iss) (K : P F) : P F :=
  readWord tab I.coff I.cinb fun v =>
  .op (.assume (I.C v) (I.cdec v)) fun h =>
  .bind (Scf.Loop.for (k0_t2_loop v) (I.ok1 v h.down) ⟨⟩ fun j _ => tileStep words codes tab tsems (I.off1 v j) (I.inb1 v h.down j) I.T1 I.tdec1 I.tinb1 I.soff I.sinb) fun _ =>
  .bind (Scf.Loop.for (k0_t3_loop v) (I.ok2 v h.down) ⟨⟩ fun j _ => tileStep words codes tab tsems (I.off2 v j) (I.inb2 v h.down j) I.T2 I.tdec2 I.tinb2 I.soff I.sinb) fun _ => K

/-- The copies of a block's tiles waited for. -/
def land (L : Lnd) (K : P F) : P F :=
  readWord tab L.coff L.cinb fun v =>
  .op (.assume (L.C v) (L.cdec v)) fun h =>
  .bind (Scf.Loop.for (k0_t2_loop v) (L.ok1 v h.down) ⟨⟩ fun _ _ => tileWait words codes tsems L.soff L.sinb) fun _ =>
  .bind (Scf.Loop.for (k0_t3_loop v) (L.ok2 v h.down) ⟨⟩ fun _ _ => tileWait words codes tsems L.soff L.sinb) fun _ => K

/-- The same where a place may have nothing to start or to wait for. -/
def issueO : Option Iss → P F → P F
  | none, K => K
  | some I, K => issue words codes tab tsems I K
def landO : Option Lnd → P F → P F
  | none, K => K
  | some L, K => land words codes tab tsems L K
end

/-- The place in trip `k` of the first loop. -/
def iss0 (k : Fin k0_t1_loop.trips) : Iss where
  coff := k0_off1 k
  cinb := k0_off1_inb k
  C := k0_chk1 k
  cdec := k0_chk1.dec k
  ok1 v hv := k0_t2_ok k v hv
  off1 v j := k0_off2 k v j
  inb1 v hv j := k0_off2_inb k v hv j
  ok2 v hv := k0_t3_ok k v hv
  off2 v j := k0_off5 k v j
  inb2 v hv j := k0_off5_inb k v hv j
  T1 := k0_chk2
  tdec1 := k0_chk2.dec
  tinb1 v hv := k0_off4_inb v hv
  T2 := k0_chk3
  tdec2 := k0_chk3.dec
  tinb2 v hv := k0_off7_inb v hv
  soff := k0_off3 k
  sinb := k0_off3_inb k

/-- The place of slot 0 in trip `k` of the main loop. -/
def iss1 (k : Fin k0_t6_loop.trips) (h : k0_cond1 k = 1#1) : Iss where
  coff := k0_off200 k
  cinb := k0_off200_inb k h
  C := k0_chk197 k
  cdec := k0_chk197.dec k
  ok1 v hv := k0_t7_ok k v hv h
  off1 v j := k0_off201 k v j
  inb1 v hv j := k0_off201_inb k v hv j h
  ok2 v hv := k0_t8_ok k v hv h
  off2 v j := k0_off204 k v j
  inb2 v hv j := k0_off204_inb k v hv j h
  T1 := k0_chk198 k
  tdec1 := k0_chk198.dec k
  tinb1 v hv := k0_off203_inb k v hv h
  T2 := k0_chk199 k
  tdec2 := k0_chk199.dec k
  tinb2 v hv := k0_off206_inb k v hv h
  soff := k0_off202 k
  sinb := k0_off202_inb k h

/-- The place of slot 1 in trip `k` of the main loop. -/
def iss2 (k : Fin k0_t6_loop.trips) (h : k0_cond4 k = 1#1) : Iss where
  coff := k0_off597 k
  cinb := k0_off597_inb k h
  C := k0_chk393 k
  cdec := k0_chk393.dec k
  ok1 v hv := k0_t11_ok k v hv h
  off1 v j := k0_off598 k v j
  inb1 v hv j := k0_off598_inb k v hv j h
  ok2 v hv := k0_t12_ok k v hv h
  off2 v j := k0_off601 k v j
  inb2 v hv j := k0_off601_inb k v hv j h
  T1 := k0_chk394 k
  tdec1 := k0_chk394.dec k
  tinb1 v hv := k0_off600_inb k v hv h
  T2 := k0_chk395 k
  tdec2 := k0_chk395.dec k
  tinb2 v hv := k0_off603_inb k v hv h
  soff := k0_off599 k
  sinb := k0_off599_inb k h

theorem lnd0_inb : ∀ a, (![3, 0] : Fin 2 → Nat) a + S1x1.size a ≤ S8x1536.size a := by decide
theorem lnd0_sinb : ∀ a, (![0] : Fin 1 → Nat) a + S1.size a ≤ S48.size a := by decide

/-- The wait for the first block's tiles. -/
def lnd0 : Lnd where
  coff := ![3, 0]
  cinb := lnd0_inb
  C := k0_chk4
  cdec := k0_chk4.dec
  ok1 v hv := k0_t4_ok v hv
  ok2 v hv := k0_t5_ok v hv
  soff := ![0]
  sinb := lnd0_sinb

/-- The wait of slot 0 in trip `k`. -/
def lnd1 (k : Fin k0_t6_loop.trips) (h : k0_cond2 k = 1#1) : Lnd where
  coff := k0_off207 k
  cinb := k0_off207_inb k h
  C := k0_chk200 k
  cdec := k0_chk200.dec k
  ok1 v hv := k0_t9_ok k v hv h
  ok2 v hv := k0_t10_ok k v hv h
  soff := k0_off208 k
  sinb := k0_off208_inb k h

/-- The wait of slot 1 in trip `k`. -/
def lnd2 (k : Fin k0_t6_loop.trips) (h : k0_cond5 k = 1#1) : Lnd where
  coff := k0_off604 k
  cinb := k0_off604_inb k h
  C := k0_chk396 k
  cdec := k0_chk396.dec k
  ok1 v hv := k0_t13_ok k v hv h
  ok2 v hv := k0_t14_ok k v hv h
  soff := k0_off605 k
  sinb := k0_off605_inb k h

/-- What slot `s` starts in trip `k`. -/
def issAt (s : Fin 2) (k : Fin k0_t6_loop.trips) : Option Iss :=
  if s = 0 then (if h : k0_cond1 k = 1#1 then some (iss1 k h) else none) else (if h : k0_cond4 k = 1#1 then some (iss2 k h) else none)
/-- What slot `s` waits for in trip `k`. -/
def lndAt (s : Fin 2) (k : Fin k0_t6_loop.trips) : Option Lnd :=
  if s = 0 then (if h : k0_cond2 k = 1#1 then some (lnd1 k h) else none) else (if h : k0_cond5 k = 1#1 then some (lnd2 k h) else none)

/-! ## The loop -/

/-- The block of slot `s` in trip `k`. -/
def blk (s : Fin 2) (k : Nat) : BitVec 32 :=
  Scalar.addi (Scalar.muli 2#32 (Scalar.addi 0#32 (Scalar.muli (Scf.iv 0#32 1#32 k) 1#32))) (BitVec.ofNat 32 s.val)
/-- The block gathered while it is combined. -/
def nxt (s : Fin 2) (k : Nat) : BitVec 32 := Scalar.minsi (Scalar.addi (blk s k) 1#32) 47#32

theorem blk_val : ∀ (s : Fin 2) (k : Fin 24), (blk s k.val).toNat = 2 * k.val + s.val := by decide +kernel
theorem nxt_val : ∀ (s : Fin 2) (k : Fin 24), (nxt s k.val).toNat = min (2 * k.val + s.val + 1) 47 := by decide +kernel
theorem trips_eq : k0_t6_loop.trips = 24 := by decide +kernel
theorem blk_lt (s : Fin 2) (k : Fin k0_t6_loop.trips) : (blk s k.val).toNat < 48 := by
  have hk : k.val < 24 := lt_of_lt_of_eq k.isLt trips_eq
  have h : (blk s k.val).toNat = 2 * k.val + s.val := blk_val s ⟨k.val, hk⟩
  have := s.isLt; omega
theorem nxt_lt (s : Fin 2) (k : Fin k0_t6_loop.trips) : (nxt s k.val).toNat < 48 := by
  have hk : k.val < 24 := lt_of_lt_of_eq k.isLt trips_eq
  have h : (nxt s k.val).toNat = min (2 * k.val + s.val + 1) 47 := nxt_val s ⟨k.val, hk⟩
  omega

section
variable (codes : Memref sig .tc .vmem S2272x28x128 .i32) (srm : Memref sig .tc .vmem S9088x128 .f32)
  (pw : Memref sig .tc .vmem S1536x128 .f32) (tab : Memref sig .tc .smem S8x1536 .i32) (out : Memref sig .tc .hbm S1536x3584 .bf16) (hout : out.IsWhole)
  (compa compb : Memref sig .tc .vmem S1904x128 .i32) (pa : Memref sig .tc .vmem S128x256 .fp8e4m3)
  (pb : Memref sig .tc .vmem S128x256 .fp8e4m3) (hpb : pb.IsWhole)
  (sg cfa cfb : Memref sig .tc .vmem S128x128 .f32) (ob : Memref sig .tc .vmem S2x32x3584 .bf16) (hob : ob.IsWhole) (sems : DmaSems sig S2)

/-- Half a trip after its wait: the next block gathered, this one combined and its copy started. -/
def rest (s : Fin 2) (k : Fin k0_t6_loop.trips) (K : P F) : P F :=
  gather codes srm pw tab compb pb hpb sg cfb (nxt s k.val) (nxt_lt s k) fun _ =>
  combine compa pa cfa ob hob s <|
  outStart ob hob out hout sems s (blk s k.val) (blk_lt s k) K

/-- Half a trip without its tiles: the slot's last copy waited for (from the second trip on), then the rest. -/
def half0 (s : Fin 2) (k : Fin k0_t6_loop.trips) (K : P F) : P F :=
  if k.val = 0 then rest codes srm pw tab out hout compa compb pa pb hpb sg cfa cfb ob hob sems s k K
  else outWait ob hob out hout sems s (blk s k.val) (blk_lt s k) <| rest codes srm pw tab out hout compa compb pa pb hpb sg cfa cfb ob hob sems s k K

variable (words : Memref sig .tc .hbm S2272x28x128 .i32) (tsems : DmaSems sig S48)

/-- Half a trip: the tiles of the block eight ahead started, those of the next block waited for, then the rest. -/
def half (s : Fin 2) (k : Fin k0_t6_loop.trips) (K : P F) : P F :=
  issueO words codes tab tsems (issAt s k) <| landO words codes tab tsems (lndAt s k) <|
  half0 codes srm pw tab out hout compa compb pa pb hpb sg cfa cfb ob hob sems s k K
end

end Cert.Hand
-- ==== Proof.Ops.lean ====
/- Rules for the kernel's steps: a load and a store by what a memref reads, and programs run one after another. -/
module

public import proofs.«01_k».proof.Proof.Steps
public import Idealize.ShloMosaic.Lib.Pipeline.FrameBody
public import Idealize.ShloMosaic.Lib.Transfers
public import Idealize.ShloMosaic.Lib.Tactic
public import Idealize.ShloMosaic.Lib.Pointwise.Index

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a program of core `c`. -/
abbrev W (c : Dev nD) (p : P F) (Q : PUnit.{1} → sProp 𝕄) : sProp 𝕄 := wp frame (wpE (defs₀ (F := F)) Variants.none (c : Thread nD τ) none) Set.univ p Q

/-- What a program of the kernel's core ends with. -/
abbrev Post (F : FTy → Type) [FloatOps F] := PUnit.{1} → sProp (MT nD τ sig Unit (Elt F) ℕ (Pipeline.UD sig nD τ) ℕ)

variable (c : Dev nD) {Q : Post F}

/-- The elements `S` of a memref's buffer held whole at contents read through the memref as some `X` with `Φ X`. -/
def On {sp : Space} {s : Shape} {e : EltTy} (m : Memref sig .tc sp s e) (S : Finset (Idx (m.view.loc (c : Thread nD τ)))) (Φ : (s.Idx → Elt F e) → Prop) : sProp 𝕄 :=
  iprop(∃ f, ⌜Φ (m.view.read (Elt F) f)⌝ ∗ (m.view.loc (c : Thread nD τ) ↦[S]{fullShare} f))

/-- All of a memref held. -/
abbrev Hd {sp : Space} {s : Shape} {e : EltTy} (m : Memref sig .tc sp s e) (Φ : (s.Idx → Elt F e) → Prop) : sProp 𝕄 :=
  On c m m.view.set Φ

theorem on_mono {sp : Space} {s : Shape} {e : EltTy} {m : Memref sig .tc sp s e} {S : Finset (Idx (m.view.loc (c : Thread nD τ)))} {Φ Ψ : (s.Idx → Elt F e) → Prop}
    (h : ∀ X, Φ X → Ψ X) : On c m S Φ ⊢ On (F := F) c m S Ψ := by
  unfold On; iintro ⟨%f, %hf, H⟩; iexists f; isplitr
  · ipureintro; exact h _ hf
  · iexact H

/-- `X'` is `X` with `w` stored through `r`. -/
structure Stored {s : Shape} {e : EltTy} (r : Rect s) (w : r.shape.Idx → Elt F e) (X X' : s.Idx → Elt F e) : Prop where
  on : ∀ x, X' (r.emb x) = w x
  off : ∀ y, y ∉ r.set → X' y = X y

/-- A load of elements held. -/
theorem ld {cs : CoreSpace} {s : Shape} {e : EltTy} {m : Memref sig .tc cs s e} {r : LoadRect s} {hl : m.view.LoadsAt r}
    {k : (r.shape.Idx → Elt F e) → P F} {S : Finset (Idx (m.view.loc (c : Thread nD τ)))} {Φ : (s.Idx → Elt F e) → Prop} (hS : m.view.setOn r.set ⊆ S) :
    On c m S Φ ⊢ iprop((∀ X, ⌜Φ X⌝ -∗ On c m S (fun Y => Y = X ∧ Φ Y) -∗ W c (k fun x => X (r.idx x)) Q) -∗ W c (.op (.load m r hl) k) Q) := by
  unfold On
  iintro ⟨%f, %hf, H⟩ Hk
  iapply (wp_load Variants.none (c : Thread nD τ) none Set.univ hS) $$ H
  iintro H
  iapply Hk $$ %(m.view.read (Elt F) f) %hf
  iexists f; isplitr
  · ipureintro; exact ⟨rfl, hf⟩
  · iexact H

/-- A load of elements held at named contents. -/
theorem ldx {cs : CoreSpace} {s : Shape} {e : EltTy} {m : Memref sig .tc cs s e} {r : LoadRect s} {hl : m.view.LoadsAt r}
    {k : (r.shape.Idx → Elt F e) → P F} {X : s.Idx → Elt F e} :
    Hd c m (· = X) ⊢ iprop((Hd c m (· = X) -∗ W c (k fun x => X (r.idx x)) Q) -∗ W c (.op (.load m r hl) k) Q) := by
  unfold Hd On
  iintro ⟨%f, %hf, H⟩ Hk
  iapply (wp_load Variants.none (c : Thread nD τ) none Set.univ (m.view.setOn_subset_set _)) $$ H
  iintro H
  subst hf
  iapply Hk
  iexists f; isplitr
  · ipureintro; rfl
  · iexact H

/-- A load whose answer is not used. -/
theorem ldskip {cs : CoreSpace} {s : Shape} {e : EltTy} {m : Memref sig .tc cs s e} {r : LoadRect s} {hl : m.view.LoadsAt r}
    {K : P F} {S : Finset (Idx (m.view.loc (c : Thread nD τ)))} {Φ : (s.Idx → Elt F e) → Prop} (hS : m.view.setOn r.set ⊆ S) :
    On c m S Φ ⊢ iprop((On c m S Φ -∗ W c K Q) -∗ W c (.op (.load m r hl) fun _ => K) Q) := by
  unfold On
  iintro ⟨%f, %hf, H⟩ Hk
  iapply (wp_load Variants.none (c : Thread nD τ) none Set.univ hS) $$ H
  iintro H
  iapply Hk
  iexists f; isplitr
  · ipureintro; exact hf
  · iexact H

/-- A store into elements held. -/
theorem st {cs : CoreSpace} {s : Shape} {e : EltTy} {m : Memref sig .tc cs s e} {r : Rect s} {w : r.shape.Idx → Elt F e} {hx : (m.access r).Stores Finset.univ}
    {hm : (Finset.univ : Finset r.shape.Idx) = Finset.univ ∨ ∀ a, r.stride a = 1}
    {K : P F} {S : Finset (Idx (m.view.loc (c : Thread nD τ)))} {Φ Ψ : (s.Idx → Elt F e) → Prop} (hS : m.view.setOn r.set ⊆ S)
    (h : ∀ X X', Φ X → Stored r w X X' → Ψ X') :
    On c m S Φ ⊢ iprop((On c m S Ψ -∗ W c K Q) -∗ W c (.op (.store m r w Finset.univ hx hm) fun _ => K) Q) := by
  unfold On
  iintro ⟨%f, %hf, H⟩ Hk
  iapply (wp_store Variants.none (c : Thread nD τ) none Set.univ (m := m) (r := r) (S := S) (f := f) (by rwa [View.setOn_univ, View.set_slice])) $$ H
  iintro H
  iapply Hk
  iexists ((m.access r).write (Elt F) f w Finset.univ); isplitr
  · ipureintro
    refine h _ _ hf ⟨fun x => View.read_slice_write_emb r f w (Finset.mem_univ x), fun y hy => View.read_slice_write_of_not_mem r f w (Finset.univ) ?_⟩
    rwa [Rect.map_emb_univ]
  · iexact H

/-- `f 0`, …, `f (n - 1)` in turn, by an invariant. -/
theorem wp_seqFrom {n : Nat} (f : Fin n → P F → P F) (I : ℕ → sProp 𝕄)
    (hstep : ∀ (i : Fin n) (K : P F), I i.val ⊢ iprop((I (i.val + 1) -∗ W c K Q) -∗ W c (f i K) Q)) (K : P F) :
    ∀ (k s : Nat) (h : s + k ≤ n), I s ⊢ iprop((I (s + k) -∗ W c K Q) -∗ W c (seqFrom f K k s h) Q)
  | 0, s, h => by
    iintro HI HK; unfold seqFrom; iapply HK; iexact HI
  | k + 1, s, h => by
    have h1 : s < n := by omega
    have h2 : s + 1 + k ≤ n := by omega
    iintro HI HK
    unfold seqFrom
    iapply (hstep ⟨s, h1⟩ _) $$ HI
    iintro HI
    iapply (wp_seqFrom f I hstep K k (s + 1) h2) $$ HI
    rw [show s + 1 + k = s + (k + 1) by omega]
    iexact HK

theorem wp_seqAll {n : Nat} (f : Fin n → P F → P F) (I : ℕ → sProp 𝕄)
    (hstep : ∀ (i : Fin n) (K : P F), I i.val ⊢ iprop((I (i.val + 1) -∗ W c K Q) -∗ W c (f i K) Q)) (K : P F) :
    I 0 ⊢ iprop((I n -∗ W c K Q) -∗ W c (seqAll f K) Q) := by
  have h := wp_seqFrom c f I hstep K n 0 (by omega)
  have e : I (0 + n) = I n := congrArg I (Nat.zero_add n)
  rw [e] at h
  exact h

end Cert.Hand
-- ==== Proof.Data.lean ====
/- What a block holds once it is gathered and once it is combined, by the kernel's operands. -/
module

public import proofs.«01_k».proof.Proof.Steps
public import Idealize.ShloMosaic.Lib.Pointwise.Index

@[expose] public section

noncomputable section

namespace Cert.Hand

open Cert.KernelIdeal Cert.KernelIdeal.Gen
open Idealize.ShloMosaic Idealize.SL.Sem

/-- The kernel's operands: the words of the quads, the scales of the rows, the positions and weights, the table. -/
structure In (F : FTy → Type) where
  codes : S2272x28x128.Idx → Elt F .i32
  srm : S9088x128.Idx → Elt F .f32
  pw : S1536x128.Idx → Elt F .f32
  tab : S8x1536.Idx → Elt F .i32

variable {F : FTy → Type} [FloatOps F] (d : In F)

/-- Token `t` of block `b`. -/
def tok (b : Fin 48) (t : Fin 32) : Fin 1536 := ⟨b.val * 32 + t.val, by omega⟩

/-- The table's word `(r, t)` of block `b`. -/
def In.word (b : Fin 48) (r : Fin 8) (t : Fin 32) : BitVec 32 := d.tab (ix2 r (tok b t))
/-- The quad named in slot `c` of block `b`. -/
def In.quad (b : Fin 48) (c : Fin 64) : BitVec 32 := d.word b ⟨c.val / 32, by omega⟩ ⟨c.val % 32, by omega⟩
/-- The row named by slot `k` of token `t`. -/
def In.row (b : Fin 48) (k : Fin 4) (t : Fin 32) : BitVec 32 := d.word b ⟨4 + k.val, by omega⟩ t

/-- How many tiles are copied for block `b`. -/
def In.cnt (b : Fin 48) : Nat := (d.word b 3 0).toNat
/-- The `j`-th of them. -/
def In.tl (b : Fin 48) (j : Nat) : Fin 284 := Fin.ofNat 284 (d.word b 2 (Fin.ofNat 32 j)).toNat
/-- The words of tile `T`. -/
def In.tileX (T : Fin 284) : S8x28x128.Idx → Elt F .i32 := fun x => d.codes (ix3 ⟨8 * T.val + (x 0).val, by have : (x 0).val < 8 := (x 0).isLt; omega⟩ (x 1) (x 2))

/-- The table names quads and rows that exist; each block has at most 32 tiles, which exist; no tile is copied twice;
    every quad of a block lies in a tile copied for it or for an earlier block. -/
structure In.Good : Prop where
  quad : ∀ b c, (d.quad b c).toNat < 2272
  row : ∀ b k t, (d.row b k t).toNat < 9088
  cnt : ∀ b, d.cnt b ≤ 32
  tile : ∀ b (j : Fin 32), j.val < d.cnt b → (d.word b 2 j).toNat < 284
  once : ∀ b b' (j j' : Fin 32), j.val < d.cnt b → j'.val < d.cnt b' → d.word b 2 j = d.word b' 2 j' → b = b' ∧ j = j'
  held : ∀ b c, ∃ b' : Fin 48, ∃ j : Fin 32, b' ≤ b ∧ j.val < d.cnt b' ∧ (d.quad b c).toNat / 8 = (d.word b' 2 j).toNat

/-- Slot `c`'s word of column group `g`, lane `l`. -/
def In.comp (b : Fin 48) (c : Fin 64) (g : Fin 28) (l : Fin 128) : Elt F .i32 := d.codes (ix3 (Fin.ofNat 2272 (d.quad b c).toNat) g l)
/-- The scales of slot `k` of token `t`. -/
def In.sg (b : Fin 48) (k : Fin 4) (t : Fin 32) (l : Fin 128) : Elt F .f32 := d.srm (ix2 (Fin.ofNat 9088 (d.row b k t).toNat) l)
/-- The positions and weights of a block. -/
def In.pwb (b : Fin 48) : Vec F S32x128 .f32 := fun x => d.pw (ix2 (tok b (x 0)) (x 1))
/-- The one-hot row of slot `k` of token `t`. -/
def In.p (b : Fin 48) (k : Fin 4) (t : Fin 32) (l : Fin 256) : Elt F .fp8e4m3 := oneHot k (d.pwb b) k0_pay70 (ix2 t l)
/-- The coefficients of slot `k` of token `t`. -/
def In.cf (b : Fin 48) (k : Fin 4) (t : Fin 32) (l : Fin 128) : Elt F .f32 := coefs k (d.pwb b) (fun x => d.sg b k (x 0) (x 1)) (ix2 t l)

/-- All one-hot rows of a block. -/
def In.pV (b : Fin 48) : Vec F S128x256 .fp8e4m3 := fun y => d.p b ⟨(y 0).val / 32, Nat.div_lt_of_lt_mul (y 0).isLt⟩ ⟨(y 0).val % 32, Nat.mod_lt _ (by decide)⟩ (y 1)
/-- All coefficients of a block. -/
def In.cfV (b : Fin 48) : Vec F S128x128 .f32 := fun y => d.cf b ⟨(y 0).val / 32, Nat.div_lt_of_lt_mul (y 0).isLt⟩ ⟨(y 0).val % 32, Nat.mod_lt _ (by decide)⟩ (y 1)
/-- A column group's words of all slots. -/
def In.grp (b : Fin 48) (g : Fin 28) : Vec F S64x128 .i32 := fun y => d.comp b (y 0) g (y 1)
/-- The block's result in column `256 j + l` of token `t`. -/
def In.out (b : Fin 48) (j : Fin 14) (t : Fin 32) (l : Fin 256) : Elt F .bf16 :=
  combined (d.pV b) (d.cfV b) j (d.grp b ⟨2 * j.val, by omega⟩) (d.grp b ⟨2 * j.val + 1, by omega⟩) (ix3 0 t l)

/-- Slots `< n` gathered. -/
def CompAt (b : Fin 48) (n : Nat) (X : S1904x128.Idx → Elt F .i32) : Prop :=
  ∀ (c : Fin 64) (g : Fin 28) (l : Fin 128), c.val < n → X (ix2 ⟨68 * g.val + c.val, by omega⟩ l) = d.comp b c g l
/-- The first `n` scale rows gathered. -/
def SgAt (b : Fin 48) (n : Nat) (X : S128x128.Idx → Elt F .f32) : Prop :=
  ∀ (k : Fin 4) (t : Fin 32) (l : Fin 128), 32 * k.val + t.val < n → X (ix2 ⟨32 * k.val + t.val, by omega⟩ l) = d.sg b k t l
/-- The one-hot rows of slots `< n` written. -/
def PAt (b : Fin 48) (n : Nat) (X : S128x256.Idx → Elt F .fp8e4m3) : Prop :=
  ∀ (k : Fin 4) (t : Fin 32) (l : Fin 256), k.val < n → X (ix2 ⟨32 * k.val + t.val, by omega⟩ l) = d.p b k t l
/-- The coefficients of slots `< n` written. -/
def CfAt (b : Fin 48) (n : Nat) (X : S128x128.Idx → Elt F .f32) : Prop :=
  ∀ (k : Fin 4) (t : Fin 32) (l : Fin 128), k.val < n → X (ix2 ⟨32 * k.val + t.val, by omega⟩ l) = d.cf b k t l
/-- The first `n` pairs of column groups written to slot `s` of the output buffer. -/
def ObAt (b : Fin 48) (s : Fin 2) (n : Nat) (X : S2x32x3584.Idx → Elt F .bf16) : Prop :=
  ∀ (j : Fin 14) (t : Fin 32) (l : Fin 256), j.val < n → X (ix3 s t ⟨256 * j.val + l.val, by omega⟩) = d.out b j t l
/-- A block of the result. -/
def OutAt (b : Fin 48) (X : S32x3584.Idx → Elt F .bf16) : Prop :=
  ∀ (j : Fin 14) (t : Fin 32) (l : Fin 256), X (ix2 t ⟨256 * j.val + l.val, by omega⟩) = d.out b j t l

variable {d}

theorem PAt.eq {b : Fin 48} {X : S128x256.Idx → Elt F .fp8e4m3} (h : PAt d b 4 X) : X = d.pV b := by
  funext y
  have h0 : (y 0).val < 128 := (y 0).isLt
  have := h ⟨(y 0).val / 32, Nat.div_lt_of_lt_mul h0⟩ ⟨(y 0).val % 32, Nat.mod_lt _ (by decide)⟩ (y 1) (Nat.div_lt_of_lt_mul h0)
  rw [show In.pV d b y = _ from this.symm]
  refine congrArg X ((eq_ix2 y).trans ?_)
  refine congrArg (fun a => ix2 a (y 1)) (Fin.ext ?_)
  exact (Nat.div_add_mod _ _).symm

theorem CfAt.eq {b : Fin 48} {X : S128x128.Idx → Elt F .f32} (h : CfAt d b 4 X) : X = d.cfV b := by
  funext y
  have h0 : (y 0).val < 128 := (y 0).isLt
  have := h ⟨(y 0).val / 32, Nat.div_lt_of_lt_mul h0⟩ ⟨(y 0).val % 32, Nat.mod_lt _ (by decide)⟩ (y 1) (Nat.div_lt_of_lt_mul h0)
  rw [show In.cfV d b y = _ from this.symm]
  refine congrArg X ((eq_ix2 y).trans ?_)
  refine congrArg (fun a => ix2 a (y 1)) (Fin.ext ?_)
  exact (Nat.div_add_mod _ _).symm

end Cert.Hand
-- ==== Proof.ShapeCond.lean ====
/- What each trip of the loop starts and waits for. -/
module

public import proofs.«01_k».proof.Proof.Steps

@[expose] public section

noncomputable section

namespace Cert.Hand

open Cert.KernelIdeal Cert.KernelIdeal.Gen
open Idealize.ShloMosaic Idealize.SL.Sem

variable {F : FTy → Type} [FloatOps F]

theorem cond1_iff : ∀ k : Fin k0_t6_loop.trips, k0_cond1 k = 1#1 ↔ k.val < 20 := by decide +kernel
theorem cond2_iff : ∀ k : Fin k0_t6_loop.trips, k0_cond2 k = 1#1 := by decide +kernel
theorem cond3_iff : ∀ k : Fin k0_t6_loop.trips, k0_cond3 k = 1#1 ↔ k.val ≠ 0 := by decide +kernel
theorem cond4_iff : ∀ k : Fin k0_t6_loop.trips, k0_cond4 k = 1#1 ↔ k.val < 20 := by decide +kernel
theorem cond5_iff : ∀ k : Fin k0_t6_loop.trips, k0_cond5 k = 1#1 ↔ k.val < 23 := by decide +kernel
theorem cond6_iff : ∀ k : Fin k0_t6_loop.trips, k0_cond6 k = 1#1 ↔ k.val ≠ 0 := by decide +kernel

theorem issAt_0 (k : Fin k0_t6_loop.trips) (h : k0_cond1 k = 1#1) : issAt 0 k = some (iss1 k h) := dif_pos h
theorem issAt_1 (k : Fin k0_t6_loop.trips) (h : k0_cond4 k = 1#1) : issAt 1 k = some (iss2 k h) := dif_pos h
theorem issAt_0' (k : Fin k0_t6_loop.trips) (h : ¬ k0_cond1 k = 1#1) : issAt 0 k = none := dif_neg h
theorem issAt_1' (k : Fin k0_t6_loop.trips) (h : ¬ k0_cond4 k = 1#1) : issAt 1 k = none := dif_neg h
theorem lndAt_0 (k : Fin k0_t6_loop.trips) (h : k0_cond2 k = 1#1) : lndAt 0 k = some (lnd1 k h) := dif_pos h
theorem lndAt_1 (k : Fin k0_t6_loop.trips) (h : k0_cond5 k = 1#1) : lndAt 1 k = some (lnd2 k h) := dif_pos h
theorem lndAt_1' (k : Fin k0_t6_loop.trips) (h : ¬ k0_cond5 k = 1#1) : lndAt 1 k = none := dif_neg h

end Cert.Hand
-- ==== Proof.Places.lean ====
/- Where each place of the kernel that starts or awaits copies of tiles reads the table, and which semaphore it uses. -/
module

public import proofs.«01_k».proof.Proof.ShapeCond

@[expose] public section

noncomputable section

namespace Cert.Hand

open Cert.KernelIdeal Cert.KernelIdeal.Gen
open Idealize.ShloMosaic Idealize.SL.Sem

/-- Block number `n`, the last one from there on. -/
def bn (n : ℕ) : Fin 48 := ⟨min n 47, by omega⟩

/-- The place starts the tiles of block `b`. -/
structure Iss.For (I : Iss) (b : Fin 48) : Prop where
  coff : I.coff = ![3, 32 * b.val]
  C : ∀ v : BitVec 32, v.toNat ≤ 32 → I.C v
  off1 : ∀ v : BitVec 32, v.toNat ≤ 32 → ∀ j, I.off1 v j = ![2, 32 * b.val + j.val]
  T1 : ∀ v : BitVec 32, v.toNat < 284 → I.T1 v
  soff : I.soff = ![b.val]

/-- The place awaits the tiles of block `b`. -/
structure Lnd.For (L : Lnd) (b : Fin 48) : Prop where
  coff : L.coff = ![3, 32 * b.val]
  C : ∀ v : BitVec 32, v.toNat ≤ 32 → L.C v
  soff : L.soff = ![b.val]

/-! ## The counted loops: as many trips as the count, then none -/

theorem trips2_fin : ∀ n : Fin 33, (k0_t2_loop (BitVec.ofNat 32 n.val)).OK ∧ (k0_t2_loop (BitVec.ofNat 32 n.val)).trips = n.val := by decide +kernel
theorem trips3_fin : ∀ n : Fin 33, (k0_t3_loop (BitVec.ofNat 32 n.val)).OK ∧ (k0_t3_loop (BitVec.ofNat 32 n.val)).trips = 0 := by decide +kernel
theorem trips2 (v : BitVec 32) (h : v.toNat ≤ 32) : (k0_t2_loop v).OK ∧ (k0_t2_loop v).trips = v.toNat := by
  have := trips2_fin ⟨v.toNat, by omega⟩
  rwa [show BitVec.ofNat 32 (⟨v.toNat, by omega⟩ : Fin 33).val = v from BitVec.eq_of_toNat_eq (by simp)] at this
theorem trips3 (v : BitVec 32) (h : v.toNat ≤ 32) : (k0_t3_loop v).OK ∧ (k0_t3_loop v).trips = 0 := by
  have := trips3_fin ⟨v.toNat, by omega⟩
  rwa [show BitVec.ofNat 32 (⟨v.toNat, by omega⟩ : Fin 33).val = v from BitVec.eq_of_toNat_eq (by simp)] at this

/-- A word below 32 read at a count's or a tile's place is in the table. -/
theorem place_inb {o : Fin 2 → Nat} {r b j : Nat} (hr : r < 8) (hb : b < 48) (hj : j < 32) (h : o = ![r, 32 * b + j]) : ∀ a, o a + S1x1.size a ≤ S8x1536.size a := by
  subst h
  intro a; fin_cases a
  · show r + 1 ≤ 8; omega
  · show 32 * b + j + 1 ≤ 1536; omega

/-! ## A tile's offset -/

theorem off4_fin : ∀ n : Fin 284, k0_off4 (BitVec.ofNat 32 n.val) = ![8 * n.val, 0, 0] ∧ 8 ∣ (k0_mult1 (BitVec.ofNat 32 n.val)).toNat := by decide +kernel
theorem off4_eq (v : BitVec 32) (h : v.toNat < 284) : k0_off4 v = ![8 * v.toNat, 0, 0] ∧ 8 ∣ (k0_mult1 v).toNat := by
  have := off4_fin ⟨v.toNat, h⟩
  rwa [show BitVec.ofNat 32 (⟨v.toNat, h⟩ : Fin 284).val = v from BitVec.eq_of_toNat_eq (by simp)] at this
theorem off4_inb (v : BitVec 32) (h : v.toNat < 284) : ∀ a, k0_off4 v a + S8x28x128.size a ≤ S2272x28x128.size a := by
  rw [(off4_eq v h).1]
  intro a; fin_cases a
  · show 8 * v.toNat + 8 ≤ 2272; omega
  · show 0 + 28 ≤ 28; omega
  · show 0 + 128 ≤ 128; omega

/-! ## The places -/

theorem trips2_top : (k0_t2_loop 32#32).trips = 32 := (trips2 32#32 (by decide)).2

theorem iss0_off : ∀ k : Fin k0_t1_loop.trips, k0_off1 k = ![3, 32 * k.val] ∧ k0_off3 k = ![k.val] ∧ ∀ j, k0_off2 k 32#32 j = ![2, 32 * k.val + j.val] := by decide +kernel
theorem iss1_off : ∀ k : Fin k0_t6_loop.trips, k0_off200 k = ![3, 32 * (2 * k.val + 8)] ∧ k0_off202 k = ![2 * k.val + 8] ∧ ∀ j, k0_off201 k 32#32 j = ![2, 32 * (2 * k.val + 8) + j.val] := by decide +kernel
theorem iss2_off : ∀ k : Fin k0_t6_loop.trips, k0_off597 k = ![3, 32 * (2 * k.val + 9)] ∧ k0_off599 k = ![2 * k.val + 9] ∧ ∀ j, k0_off598 k 32#32 j = ![2, 32 * (2 * k.val + 9) + j.val] := by decide +kernel
theorem lnd1_off : ∀ k : Fin k0_t6_loop.trips, k0_off207 k = ![3, 32 * (2 * k.val + 1)] ∧ k0_off208 k = ![2 * k.val + 1] := by decide +kernel
theorem lnd2_off : ∀ k : Fin k0_t6_loop.trips, k.val < 23 → k0_off604 k = ![3, 32 * (2 * k.val + 2)] ∧ k0_off605 k = ![2 * k.val + 2] := by decide +kernel

theorem iss0_off1 (k : Fin k0_t1_loop.trips) (b : Fin 48) (hb : b.val = k.val) (v : BitVec 32) (hv : v.toNat ≤ 32) (j : Fin (k0_t2_loop v).trips) :
    k0_off2 k v j = ![2, 32 * b.val + j.val] := by
  have hj : j.val < 32 := lt_of_lt_of_le (lt_of_lt_of_eq j.isLt (trips2 v hv).2) hv
  have h := (iss0_off k).2.2 ⟨j.val, lt_of_lt_of_eq hj trips2_top.symm⟩
  rw [hb]
  unfold k0_off2 Scf.iv at h ⊢
  dsimp only at h ⊢
  exact h

theorem iss0_chk (k : Fin k0_t1_loop.trips) (b : Fin 48) (hb : b.val = k.val) (v : BitVec 32) (hv : v.toNat ≤ 32) : k0_chk1 k v := by
  unfold k0_chk1
  refine ⟨?_, ?_, ?_, ?_⟩
  · exact (trips2 v hv).1
  · intro j
    have hj : j.val < 32 := lt_of_lt_of_le (lt_of_lt_of_eq j.isLt (trips2 v hv).2) hv
    exact place_inb (by decide) b.isLt hj (iss0_off1 k b hb v hv j)
  · exact (trips3 v hv).1
  · intro j
    exact absurd (lt_of_lt_of_eq j.isLt (trips3 v hv).2) (Nat.not_lt_zero _)

theorem iss0_for (k : Fin k0_t1_loop.trips) (b : Fin 48) (hb : b.val = k.val) : (iss0 k).For b where
  coff := by rw [hb]; exact (iss0_off k).1
  C := iss0_chk k b hb
  off1 := iss0_off1 k b hb
  T1 := fun v hv => ⟨(off4_eq v hv).2, off4_inb v hv⟩
  soff := by rw [hb]; exact (iss0_off k).2.1

theorem iss1_off1 (k : Fin k0_t6_loop.trips) (b : Fin 48) (hb : b.val = 2 * k.val + 8) (v : BitVec 32) (hv : v.toNat ≤ 32) (j : Fin (k0_t7_loop v).trips) :
    k0_off201 k v j = ![2, 32 * b.val + j.val] := by
  have hj : j.val < 32 := lt_of_lt_of_le (lt_of_lt_of_eq j.isLt (trips2 v hv).2) hv
  have h := (iss1_off k).2.2 ⟨j.val, lt_of_lt_of_eq hj trips2_top.symm⟩
  rw [hb]
  unfold k0_off201 Scf.iv at h ⊢
  dsimp only at h ⊢
  exact h

theorem iss1_chk (k : Fin k0_t6_loop.trips) (b : Fin 48) (hb : b.val = 2 * k.val + 8) (v : BitVec 32) (hv : v.toNat ≤ 32) : k0_chk197 k v := by
  unfold k0_chk197
  refine ⟨?_, ?_, ?_, ?_⟩
  · intro _; exact (trips2 v hv).1
  · intro j _
    have hj : j.val < 32 := lt_of_lt_of_le (lt_of_lt_of_eq j.isLt (trips2 v hv).2) hv
    exact place_inb (by decide) b.isLt hj (iss1_off1 k b hb v hv j)
  · intro _; exact (trips3 v hv).1
  · intro j
    exact absurd (lt_of_lt_of_eq j.isLt (trips3 v hv).2) (Nat.not_lt_zero _)

theorem iss1_for (k : Fin k0_t6_loop.trips) (h : k0_cond1 k = 1#1) (b : Fin 48) (hb : b.val = 2 * k.val + 8) : (iss1 k h).For b where
  coff := by rw [hb]; exact (iss1_off k).1
  C := iss1_chk k b hb
  off1 := iss1_off1 k b hb
  T1 := fun v hv => ⟨fun _ => (off4_eq v hv).2, fun _ => off4_inb v hv⟩
  soff := by rw [hb]; exact (iss1_off k).2.1

theorem iss2_off1 (k : Fin k0_t6_loop.trips) (b : Fin 48) (hb : b.val = 2 * k.val + 9) (v : BitVec 32) (hv : v.toNat ≤ 32) (j : Fin (k0_t11_loop v).trips) :
    k0_off598 k v j = ![2, 32 * b.val + j.val] := by
  have hj : j.val < 32 := lt_of_lt_of_le (lt_of_lt_of_eq j.isLt (trips2 v hv).2) hv
  have h := (iss2_off k).2.2 ⟨j.val, lt_of_lt_of_eq hj trips2_top.symm⟩
  rw [hb]
  unfold k0_off598 Scf.iv at h ⊢
  dsimp only at h ⊢
  exact h

theorem iss2_chk (k : Fin k0_t6_loop.trips) (b : Fin 48) (hb : b.val = 2 * k.val + 9) (v : BitVec 32) (hv : v.toNat ≤ 32) : k0_chk393 k v := by
  unfold k0_chk393
  refine ⟨?_, ?_, ?_, ?_⟩
  · intro _; exact (trips2 v hv).1
  · intro j _
    have hj : j.val < 32 := lt_of_lt_of_le (lt_of_lt_of_eq j.isLt (trips2 v hv).2) hv
    exact place_inb (by decide) b.isLt hj (iss2_off1 k b hb v hv j)
  · intro _; exact (trips3 v hv).1
  · intro j
    exact absurd (lt_of_lt_of_eq j.isLt (trips3 v hv).2) (Nat.not_lt_zero _)

theorem iss2_for (k : Fin k0_t6_loop.trips) (h : k0_cond4 k = 1#1) (b : Fin 48) (hb : b.val = 2 * k.val + 9) : (iss2 k h).For b where
  coff := by rw [hb]; exact (iss2_off k).1
  C := iss2_chk k b hb
  off1 := iss2_off1 k b hb
  T1 := fun v hv => ⟨fun _ => (off4_eq v hv).2, fun _ => off4_inb v hv⟩
  soff := by rw [hb]; exact (iss2_off k).2.1

theorem lnd0_for : lnd0.For 0 := ⟨rfl, fun v hv => ⟨(trips2 v hv).1, (trips3 v hv).1⟩, rfl⟩
theorem lnd1_for (k : Fin k0_t6_loop.trips) (h : k0_cond2 k = 1#1) (b : Fin 48) (hb : b.val = 2 * k.val + 1) : (lnd1 k h).For b :=
  ⟨by rw [hb]; exact (lnd1_off k).1, fun v hv => ⟨fun _ => (trips2 v hv).1, fun _ => (trips3 v hv).1⟩, by rw [hb]; exact (lnd1_off k).2⟩
theorem lnd2_for (k : Fin k0_t6_loop.trips) (h : k0_cond5 k = 1#1) (b : Fin 48) (hb : b.val = 2 * k.val + 2) : (lnd2 k h).For b := by
  have hk : k.val < 23 := (cond5_iff k).1 h
  exact ⟨by rw [hb]; exact (lnd2_off k hk).1, fun v hv => ⟨fun _ => (trips2 v hv).1, fun _ => (trips3 v hv).1⟩, by rw [hb]; exact (lnd2_off k hk).2⟩

/-- Slot `s` of trip `k` starts the tiles of the block eight ahead, as long as there is one, -/
theorem issAt_for (s : Fin 2) (k : Fin k0_t6_loop.trips) :
    (2 * k.val + s.val + 8 < 48 ∧ ∃ I, issAt s k = some I ∧ I.For (bn (2 * k.val + s.val + 8))) ∨ (48 ≤ 2 * k.val + s.val + 8 ∧ issAt s k = none) := by
  have hk : k.val < 24 := lt_of_lt_of_eq k.isLt trips_eq
  fin_cases s
  · by_cases h : k.val < 20
    · exact .inl ⟨by show 2 * k.val + 0 + 8 < 48; omega, _, issAt_0 k ((cond1_iff k).2 h), iss1_for k _ _ (by show min (2 * k.val + 0 + 8) 47 = _; omega)⟩
    · exact .inr ⟨by show 48 ≤ 2 * k.val + 0 + 8; omega, issAt_0' k fun h' => h ((cond1_iff k).1 h')⟩
  · by_cases h : k.val < 20
    · exact .inl ⟨by show 2 * k.val + 1 + 8 < 48; omega, _, issAt_1 k ((cond4_iff k).2 h), iss2_for k _ _ (by show min (2 * k.val + 1 + 8) 47 = _; omega)⟩
    · exact .inr ⟨by show 48 ≤ 2 * k.val + 1 + 8; omega, issAt_1' k fun h' => h ((cond4_iff k).1 h')⟩

/-- and awaits those of the next block, as long as there is one. -/
theorem lndAt_for (s : Fin 2) (k : Fin k0_t6_loop.trips) :
    (2 * k.val + s.val + 1 < 48 ∧ ∃ L, lndAt s k = some L ∧ L.For (bn (2 * k.val + s.val + 1))) ∨ (48 ≤ 2 * k.val + s.val + 1 ∧ lndAt s k = none) := by
  have hk : k.val < 24 := lt_of_lt_of_eq k.isLt trips_eq
  fin_cases s
  · exact .inl ⟨by show 2 * k.val + 0 + 1 < 48; omega, _, lndAt_0 k (cond2_iff k), lnd1_for k _ _ (by show min (2 * k.val + 0 + 1) 47 = _; omega)⟩
  · by_cases h : k.val < 23
    · exact .inl ⟨by show 2 * k.val + 1 + 1 < 48; omega, _, lndAt_1 k ((cond5_iff k).2 h), lnd2_for k _ _ (by show min (2 * k.val + 1 + 1) 47 = _; omega)⟩
    · exact .inr ⟨by show 48 ≤ 2 * k.val + 1 + 1; omega, lndAt_1' k fun h' => h ((cond5_iff k).1 h')⟩

end Cert.Hand
-- ==== Proof.Tiles.lean ====
/- The copies of tiles: a block's tiles pending, under way, and here; a copy started, a block's copies awaited. -/
module

public import proofs.«01_k».proof.Proof.Ops
public import proofs.«01_k».proof.Proof.Data
public import proofs.«01_k».proof.Proof.Places
public import Idealize.ShloMosaic.Lib.Pipeline.Value
public import Idealize.ShloMosaic.Lib.Batch
public import Idealize.SL.BI.BigOpNat

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} (d : In F)

/-- The counters the copies are tracked by. -/
abbrev EC : UEmb Counters 𝕄 := countersEmb (U := Pipeline.UD sig nD τ)

/-- The core owes nothing. -/
def Idle : sProp 𝕄 := iprop(∃ Wt, owes (c : Thread nD τ) 0 Wt)

/-- A program that has returned. -/
theorem ret_intro : Q ⟨⟩ ⊢ W c (.ret ⟨⟩) Q := by
  show Q ⟨⟩ ⊢ iprop(|={Set.univ}[frame]=> Q ⟨⟩)
  iintro H; imodintro; iexact H

theorem bindW {p : P F} {k : PUnit.{1} → P F} : W c (p.bind k) Q = W c p (fun a => W c (k a) Q) := wp_bind _ _ _ _ _ _

/-- A counted loop, by an invariant. -/
theorem wp_loop (L : Scf.Loop 32) (ok : L.OK) (body : Fin L.trips → PUnit.{1} → P F) (Iv : ℕ → sProp 𝕄)
    (h : ∀ j : Fin L.trips, Iv j.val ⊢ W c (body j ⟨⟩) (fun _ => Iv (j.val + 1))) (K : P F) :
    Iv 0 ⊢ iprop((Iv L.trips -∗ W c K Q) -∗ W c (.bind (Scf.Loop.for L ok ⟨⟩ body) fun _ => K) Q) := by
  rw [bindW]
  iintro HI HK
  iapply (Scf.wp_for (frame (nD := nD)) (wpE (defs₀ (F := F)) Variants.none (c : Thread nD τ) none) Set.univ L.lb L.ub L.st ok ⟨⟩ body
    (fun k _ => Iv k) (fun k _ => h k))
  isplitl [HI]; · iexact HI
  iintro %_ HI
  iapply HK
  iexact HI

/-- A word of the table read. -/
theorem wp_readWord {tab : Memref sig .tc .smem S8x1536 .i32} (b : Fin 48) (r : Fin 8) (t : Fin 32) (o : Fin 2 → Nat) (h : ∀ a, o a + S1x1.size a ≤ S8x1536.size a)
    (ho : o = ![r.val, 32 * b.val + t.val]) {K : BitVec 32 → P F} :
    Hd c tab (· = d.tab) ⊢ iprop((Hd c tab (· = d.tab) -∗ W c (K (d.word b r t)) Q) -∗ W c (readWord tab o h K) Q) := by
  subst ho
  unfold Hd On readWord
  iintro ⟨%f, %hf, H⟩ Hk
  have e : ∀ x : S1x1.Idx, (tab.access (Rect.unit (s := S8x1536) ![r.val, 32 * b.val + t.val] S1x1.size h)).read (Elt F) f x = d.word b r t := by
    intro x
    show tab.view.read (Elt F) f ((Rect.unit (s := S8x1536) ![r.val, 32 * b.val + t.val] S1x1.size h).emb x) = _
    rw [hf]
    refine congrArg d.tab (Shape.idx_ext₂ ?_ ?_)
    · have : (x 0).val < 1 := (x 0).isLt
      show r.val + 1 * (x 0).val = r.val
      omega
    · have : (x 1).val < 1 := (x 1).isLt
      show 32 * b.val + t.val + 1 * (x 1).val = b.val * 32 + t.val
      omega
  iapply (wp_smemLoadElt Variants.none (c : Thread nD τ) none Set.univ (m := tab) (r := Rect.unit (s := S8x1536) ![r.val, 32 * b.val + t.val] S1x1.size h)
    (S := tab.view.set) (f := f) (View.set_slice_subset _ _)) $$ H
  iintro H
  rw [e]
  iapply Hk
  iexists f; isplitr
  · ipureintro; exact hf
  · iexact H

/-! ## Tiles -/

theorem tile_inb (T : Fin 284) : ∀ a, (![8 * T.val, 0, 0] : Fin 3 → Nat) a + S8x28x128.size a ≤ S2272x28x128.size a := by
  intro a; fin_cases a
  · show 8 * T.val + 8 ≤ 2272; omega
  · show 0 + 28 ≤ 28; omega
  · show 0 + 128 ≤ 128; omega

/-- Tile `T` of an array of all quads' words. -/
def tileOf {sp : Space} (m : Memref sig .tc sp S2272x28x128 .i32) (T : Fin 284) : Memref sig .tc sp S8x28x128 .i32 := tileMem m ![8 * T.val, 0, 0] (tile_inb T)

theorem tileMem_eq {sp : Space} (m : Memref sig .tc sp S2272x28x128 .i32) (o : Fin 3 → Nat) (h) (T : Fin 284) (e : o = ![8 * T.val, 0, 0]) : tileMem m o h = tileOf m T := by
  subst e; rfl

theorem tsem_inb (b : Fin 48) : ∀ a, (![b.val] : Fin 1 → Nat) a + S1.size a ≤ S48.size a := by
  intro a; fin_cases a
  show b.val + 1 ≤ 48; omega

section
variable (words : Memref sig .tc .hbm S2272x28x128 .i32) (codes : Memref sig .tc .vmem S2272x28x128 .i32) (tab : Memref sig .tc .smem S8x1536 .i32) (tsems : DmaSems sig S48)

/-- Block `b`'s semaphore. -/
def tsem (b : Fin 48) : SemLoc sig := SemLoc.dma (tSem tsems ![b.val] (tsem_inb b)).sem
/-- What one copy credits it. -/
def tcredit : ℕ := (tileOf codes 0).view.dmaCredit
/-- A tile not copied yet. -/
def FreeT (T : Fin 284) : sProp 𝕄 := iprop(Hd c (tileOf words T) (· = d.tileX T) ∗ Hd c (tileOf codes T) (fun _ => True))
/-- A tile copied. -/
def HereT (T : Fin 284) : sProp 𝕄 := iprop(Hd c (tileOf words T) (· = d.tileX T) ∗ Hd c (tileOf codes T) (· = d.tileX T))
/-- Block `b`'s tiles not copied yet, -/
def Pend (b : Fin 48) : sProp 𝕄 := iprop(bigSep (Finset.univ : Finset (Fin (d.cnt b))) (fun j => FreeT c d words codes (d.tl b j.val)) ∗ semVal ((c : Thread nD τ), tsem tsems b) 0)
/-- with `j` copies under way of which `u` units are consumed, -/
def FlyJ (b : Fin 48) (j u : ℕ) : sProp 𝕄 :=
  Transfers.Batch EC (c : Thread nD τ) (tsem tsems b) () (tcredit codes) (fun t : Fin (d.cnt b) => HereT c d words codes (d.tl b t.val)) j u
/-- all under way, -/
def Fly (b : Fin 48) : sProp 𝕄 := FlyJ c d words codes tsems b (d.cnt b) 0
/-- copied. -/
def Here (b : Fin 48) : sProp 𝕄 := iprop(bigSep (Finset.univ : Finset (Fin (d.cnt b))) (fun j => HereT c d words codes (d.tl b j.val)) ∗ semVal ((c : Thread nD τ), tsem tsems b) 0)
/-- The tiles of blocks below `n` copied. -/
def Landed (n : ℕ) : sProp 𝕄 := bigSep (Finset.Ico 0 n) fun b => Here c d words codes tsems (bn b)
/-- Those of blocks from `n` under way, from `m` not copied yet. -/
def Ahead (n m : ℕ) : sProp 𝕄 := iprop(bigSep (Finset.Ico n m) (fun b => Fly c d words codes tsems (bn b)) ∗ bigSep (Finset.Ico m 48) (fun b => Pend c d words codes tsems (bn b)))

instance hereT_storable (T : Fin 284) : BI.Storable (upEmb : UEmb _ 𝕄) (HereT c d words codes T) := by
  unfold HereT Hd On; infer_instance
end

section
variable {words : Memref sig .tc .hbm S2272x28x128 .i32} {codes : Memref sig .tc .vmem S2272x28x128 .i32} {tab : Memref sig .tc .smem S8x1536 .i32} {tsems : DmaSems sig S48} {d}

/-- One copy started. -/
theorem wp_tileStep (hd : d.Good) (b : Fin 48) (j : Fin 32) (hj : j.val < d.cnt b) (o : Fin 2 → Nat) (h) (T : BitVec 32 → Prop) (dec) (hT) (so : Fin 1 → Nat) (hs)
    (ho : o = ![2, 32 * b.val + j.val]) (hv : ∀ v : BitVec 32, v.toNat < 284 → T v) (hso : so = ![b.val]) :
    iprop(Hd c tab (· = d.tab) ∗ FreeT c d words codes (d.tl b j.val) ∗ FlyJ c d words codes tsems b j.val 0)
      ⊢ W c (tileStep words codes tab tsems o h T dec hT so hs) (fun _ => iprop(Hd c tab (· = d.tab) ∗ FlyJ c d words codes tsems b (j.val + 1) 0)) := by
  subst hso
  have hlt := hd.tile b j hj
  have hK : T (d.word b 2 j) := hv _ hlt
  have hTl : (d.tl b j.val).val = (d.word b 2 j).toNat := by
    show (d.word b 2 (Fin.ofNat 32 j.val)).toNat % 284 = _
    rw [show Fin.ofNat 32 j.val = j from Fin.ext (Nat.mod_eq_of_lt j.isLt)]
    omega
  have ho4 : k0_off4 (d.word b 2 j) = ![8 * (d.tl b j.val).val, 0, 0] := by rw [hTl]; exact (off4_eq _ hlt).1
  have ew := tileMem_eq words _ (hT _ hK) _ ho4
  have ec := tileMem_eq codes _ (hT _ hK) _ ho4
  iintro ⟨Ht, Hf, Hb⟩
  unfold tileStep
  iapply (wp_readWord c d b 2 j o h ho) $$ Ht
  iintro Ht
  iapply (wp_assume Variants.none (c : Thread nD τ) none Set.univ hK)
  unfold FreeT
  rw [← ew, ← ec]
  unfold Hd On
  icases Hf with ⟨⟨%fs, %hfs, Hs⟩, ⟨%fd, -, Hx⟩⟩
  unfold FlyJ
  iapply (Transfers.wp_dmaBatch EC Variants.none (c : Thread nD τ) none (src := tileMem words (k0_off4 (d.word b 2 j)) (hT _ hK)) (dst := tileMem codes (k0_off4 (d.word b 2 j)) (hT _ hK))
    (via := .same) (fs := fs) (fd := fd) (q := fullShare) (D := fun t : Fin (d.cnt b) => HereT c d words codes (d.tl b t.val)) (j := j.val) (u := 0) () (tcredit codes) rfl (Finset.Subset.refl _) hj (Nat.zero_le _) ?_) $$ [Hs Hx Hb]
  · show _ ⊢ HereT c d words codes (d.tl b j.val)
    unfold HereT
    rw [← ew, ← ec]
    unfold Hd On
    iintro ⟨Hx, Hs⟩
    isplitl [Hs]
    · iexists fs; isplitr
      · ipureintro; exact hfs
      · iexact Hs
    · iexists _; isplitr [Hx]
      swap
      · iexact Hx
      · ipureintro
        exact (View.read_write_univ _ _).trans hfs
  · isplitl [Hs]; · iexact Hs
    isplitl [Hx]; · iexact Hx
    iexact Hb
  iintro Hb
  iapply (ret_intro c)
  isplitl [Ht]; · iexact Ht
  iexact Hb

/-- A block's copies started. -/
theorem wp_issue (hd : d.Good) (b : Fin 48) (I : Iss) (hI : I.For b) (K : P F) :
    iprop(Hd c tab (· = d.tab) ∗ Pend c d words codes tsems b)
      ⊢ iprop((iprop(Hd c tab (· = d.tab) ∗ Fly c d words codes tsems b) -∗ W c K Q) -∗ W c (issue words codes tab tsems I K) Q) := by
  have hv : (d.word b 3 0).toNat ≤ 32 := hd.cnt b
  have hK := hI.C _ hv
  have htr := (trips2 _ hv).2
  iintro ⟨Ht, Hp⟩ Hk
  unfold issue
  iapply (wp_readWord c d b 3 0 I.coff I.cinb (hI.coff.trans (by rfl))) $$ Ht
  iintro Ht
  unfold Pend
  icases Hp with ⟨Hp, Hv⟩
  imod (Transfers.batch_alloc' EC (c := (c : Thread nD τ)) (sm := tsem tsems b) () (tcredit codes) (fun t : Fin (d.cnt b) => HereT c d words codes (d.tl b t.val)) (E := Set.univ)) $$ Hv with Hb
  iapply (wp_assume Variants.none (c : Thread nD τ) none Set.univ hK)
  iapply (wp_loop c _ _ _ (fun j => iprop(bigSep (Transfers.pending (n := d.cnt b) j) (fun t => FreeT c d words codes (d.tl b t.val)) ∗ Hd c tab (· = d.tab) ∗ FlyJ c d words codes tsems b j 0)) ?_ _) $$ [Ht Hp Hb]
  · intro j
    have hj : j.val < d.cnt b := lt_of_lt_of_eq j.isLt htr
    have hj32 : j.val < 32 := lt_of_lt_of_le hj hv
    rw [Transfers.pending_succ hj, bigSep_insert (Transfers.not_mem_pending_succ hj)]
    have hstep := wp_tileStep (words := words) (codes := codes) (tab := tab) (tsems := tsems) c hd b ⟨j.val, hj32⟩ hj _ (I.inb1 _ hK j) I.T1 I.tdec1 I.tinb1 I.soff I.sinb (hI.off1 _ hv j) hI.T1 hI.soff
    show iprop(iprop(FreeT c d words codes (d.tl b j.val) ∗ bigSep (Transfers.pending (n := d.cnt b) (j.val + 1)) (fun t => FreeT c d words codes (d.tl b t.val))) ∗ Hd c tab (· = d.tab) ∗ FlyJ c d words codes tsems b j.val 0) ⊢ _
    refine BIBase.Entails.trans ?_ (wp_frame_l _ _ _)
    iintro ⟨⟨Hf, Hr⟩, Ht, Hb⟩
    isplitl [Hr]; · iexact Hr
    iapply hstep
    isplitl [Ht]; · iexact Ht
    isplitl [Hf]; · iexact Hf
    iexact Hb
  · isplitl [Hp]; · rw [Transfers.pending_zero]; iexact Hp
    isplitl [Ht]; · iexact Ht
    unfold FlyJ; iexact Hb
  iintro ⟨-, Ht, Hb⟩
  iapply (wp_loop c _ _ _ (fun _ => iprop(Hd c tab (· = d.tab) ∗ Fly c d words codes tsems b)) (fun j => absurd (lt_of_lt_of_eq j.isLt (trips3 _ hv).2) (Nat.not_lt_zero _)) _) $$ [Ht Hb]
  · isplitl [Ht]; · iexact Ht
    unfold Fly; rw [show d.cnt b = (k0_t2_loop (d.word b 3 0)).trips from htr.symm]; iexact Hb
  iexact Hk

theorem tcredit_pos : 0 < tcredit codes := View.dmaCredit_pos _ (by decide)

/-- One copy awaited. -/
theorem wp_tileWait (b : Fin 48) (u : ℕ) (hu : u < d.cnt b) (so : Fin 1 → Nat) (hs) (hso : so = ![b.val]) :
    iprop(FlyJ c d words codes tsems b (d.cnt b) (tcredit codes * u) ∗ Idle c)
      ⊢ W c (tileWait words codes tsems so hs) (fun _ => iprop(FlyJ c d words codes tsems b (d.cnt b) (tcredit codes * (u + 1)) ∗ Idle c)) := by
  subst hso
  have hle : tcredit codes * u + 1 * tcredit codes ≤ tcredit codes * d.cnt b := by
    rw [Nat.one_mul, ← Nat.mul_succ]; exact Nat.mul_le_mul_left _ hu
  unfold tileWait Idle FlyJ
  iintro ⟨Hb, %Wt, Ho⟩
  iapply (Transfers.wp_waitBatchMul EC Variants.none (c : Thread nD τ) none (sem := (tSem tsems ![b.val] (tsem_inb b)).sem)
    (srcw := tileMem words ![0, 0, 0] tile0_inb) (dstw := tileMem codes ![0, 0, 0] tile0_inb) () 1 (N := tcredit codes) (Nat.one_mul _).symm hle) $$ [Hb Ho]
  · isplitl [Hb]; · iexact Hb
    iexact Ho
  iintro ⟨Hb, Ho⟩
  iapply (ret_intro c)
  isplitl [Hb]
  · rw [Nat.mul_succ, ← Nat.one_mul (tcredit codes), Nat.mul_comm, Nat.mul_one, Nat.one_mul]; iexact Hb
  iexists _; iexact Ho

/-- A block's copies awaited. -/
theorem wp_land (hd : d.Good) (b : Fin 48) (L : Lnd) (hL : L.For b) (K : P F) :
    iprop(Hd c tab (· = d.tab) ∗ Fly c d words codes tsems b ∗ Idle c)
      ⊢ iprop((iprop(Hd c tab (· = d.tab) ∗ Here c d words codes tsems b ∗ Idle c) -∗ W c K Q) -∗ W c (land words codes tab tsems L K) Q) := by
  have hv : (d.word b 3 0).toNat ≤ 32 := hd.cnt b
  have hK := hL.C _ hv
  have htr := (trips2 _ hv).2
  iintro ⟨Ht, Hb, Hi⟩ Hk
  unfold land
  iapply (wp_readWord c d b 3 0 L.coff L.cinb (hL.coff.trans (by rfl))) $$ Ht
  iintro Ht
  iapply (wp_assume Variants.none (c : Thread nD τ) none Set.univ hK)
  iapply (wp_loop c _ _ _ (fun u => iprop(FlyJ c d words codes tsems b (d.cnt b) (tcredit codes * u) ∗ Idle c))
    (fun j => wp_tileWait c b j.val (lt_of_lt_of_eq j.isLt htr) L.soff L.sinb hL.soff) _) $$ [Hb Hi]
  · isplitl [Hb]; · unfold Fly; rw [Nat.mul_zero]; iexact Hb
    iexact Hi
  rw [htr]
  iintro ⟨Hb, Hi⟩
  iapply (wp_loop c _ _ _ (fun _ => iprop(FlyJ c d words codes tsems b (d.cnt b) (tcredit codes * d.cnt b) ∗ Idle c))
    (fun j => absurd (lt_of_lt_of_eq j.isLt (trips3 _ hv).2) (Nat.not_lt_zero _)) _) $$ [Hb Hi]
  · isplitl [Hb]; · iexact Hb
    iexact Hi
  iintro ⟨Hb, Hi⟩
  unfold FlyJ
  imod (Transfers.batch_collect' EC (c := (c : Thread nD τ)) (tcredit_pos (codes := codes))) $$ Hb with ⟨HD, Hv⟩
  iapply Hk
  isplitl [Ht]; · iexact Ht
  isplitl [HD Hv]
  · unfold Here
    isplitl [HD] <;> iassumption
  iexact Hi

theorem landed_succ (n : ℕ) : Landed c d words codes tsems (n + 1) = iprop(Here c d words codes tsems (bn n) ∗ Landed c d words codes tsems n) := by
  unfold Landed
  rw [bigSep_Ico_succ_top (Nat.zero_le n)]

/-- A tile of a block whose tiles are here, lent. -/
theorem landed_take (n : ℕ) (b : Fin 48) (hb : b.val < n) (j : Fin (d.cnt b)) :
    Landed c d words codes tsems n ⊢ iprop(Hd c (tileOf codes (d.tl b j.val)) (· = d.tileX (d.tl b j.val))
      ∗ (Hd c (tileOf codes (d.tl b j.val)) (· = d.tileX (d.tl b j.val)) -∗ Landed c d words codes tsems n)) := by
  have hbn : bn b.val = b := Fin.ext (by show min b.val 47 = b.val; omega)
  have e1 : Landed c d words codes tsems n = iprop(Here c d words codes tsems b ∗ bigSep ((Finset.Ico 0 n).erase b.val) fun b => Here c d words codes tsems (bn b)) := by
    unfold Landed
    rw [BI.bigSep_erase (i := b.val) (Finset.mem_Ico.mpr ⟨Nat.zero_le _, hb⟩), hbn]
    rfl
  have e2 : Here c d words codes tsems b = iprop(iprop(HereT c d words codes (d.tl b j.val) ∗ bigSep (Finset.univ.erase j) (fun j => HereT c d words codes (d.tl b j.val))) ∗ semVal ((c : Thread nD τ), tsem tsems b) 0) := by
    unfold Here
    rw [BI.bigSep_erase (i := j) (Finset.mem_univ j)]
    rfl
  rw [e1, e2]
  unfold HereT
  iintro ⟨⟨⟨⟨Hw, Hc⟩, Hr⟩, Hv⟩, Hl⟩
  isplitl [Hc]; · iexact Hc
  iintro Hc
  isplitr [Hl]
  · isplitr [Hv]
    · isplitr [Hr]
      · isplitl [Hw] <;> iassumption
      · iexact Hr
    · iexact Hv
  · iexact Hl

/-! ## The window of blocks under way -/

theorem wp_issueNext (hd : d.Good) {n m : ℕ} (hn : n ≤ m) (hm : m < 48) (I : Iss) (hI : I.For (bn m)) (K : P F) :
    iprop(Hd c tab (· = d.tab) ∗ Ahead c d words codes tsems n m)
      ⊢ iprop((iprop(Hd c tab (· = d.tab) ∗ Ahead c d words codes tsems n (m + 1)) -∗ W c K Q) -∗ W c (issue words codes tab tsems I K) Q) := by
  unfold Ahead
  rw [bigSep_Ico_succ_bot hm, bigSep_Ico_succ_top hn]
  iintro ⟨Ht, Hf, Hp, Hr⟩ Hk
  iapply (wp_issue c hd (bn m) I hI K) $$ [Ht Hp]
  · isplitl [Ht] <;> iassumption
  iintro ⟨Ht, Hb⟩
  iapply Hk
  isplitl [Ht]; · iexact Ht
  isplitr [Hr]
  · isplitl [Hb] <;> iassumption
  · iexact Hr

theorem wp_landNext (hd : d.Good) {n m : ℕ} (hn : n < m) (L : Lnd) (hL : L.For (bn n)) (K : P F) :
    iprop(Hd c tab (· = d.tab) ∗ Landed c d words codes tsems n ∗ Ahead c d words codes tsems n m ∗ Idle c)
      ⊢ iprop((iprop(Hd c tab (· = d.tab) ∗ Landed c d words codes tsems (n + 1) ∗ Ahead c d words codes tsems (n + 1) m ∗ Idle c) -∗ W c K Q)
        -∗ W c (land words codes tab tsems L K) Q) := by
  unfold Ahead
  rw [bigSep_Ico_succ_bot hn, landed_succ]
  iintro ⟨Ht, Hl, ⟨⟨Hb, Hf⟩, Hp⟩, Hi⟩ Hk
  iapply (wp_land c hd (bn n) L hL K) $$ [Ht Hb Hi]
  · isplitl [Ht]; · iexact Ht
    isplitl [Hb] <;> iassumption
  iintro ⟨Ht, Hh, Hi⟩
  iapply Hk
  isplitl [Ht]; · iexact Ht
  isplitl [Hh Hl]
  · isplitl [Hh] <;> iassumption
  isplitl [Hf Hp]
  · isplitl [Hf] <;> iassumption
  iexact Hi

/-- Slot `s` of trip `k` starts what there is to start -/
theorem wp_issueO (hd : d.Good) (s : Fin 2) (k : Fin k0_t6_loop.trips) (n : ℕ) (hn : n ≤ min (2 * k.val + s.val + 8) 48) (K : P F) :
    iprop(Hd c tab (· = d.tab) ∗ Ahead c d words codes tsems n (min (2 * k.val + s.val + 8) 48))
      ⊢ iprop((iprop(Hd c tab (· = d.tab) ∗ Ahead c d words codes tsems n (min (2 * k.val + s.val + 9) 48)) -∗ W c K Q) -∗ W c (issueO words codes tab tsems (issAt s k) K) Q) := by
  rcases issAt_for s k with ⟨h, I, e, hI⟩ | ⟨h, e⟩
  · rw [e, show min (2 * k.val + s.val + 9) 48 = min (2 * k.val + s.val + 8) 48 + 1 by omega]
    have hm : min (2 * k.val + s.val + 8) 48 < 48 := by omega
    rw [show 2 * k.val + s.val + 8 = min (2 * k.val + s.val + 8) 48 by omega] at hI
    exact wp_issueNext c hd hn hm I hI K
  · rw [e, show min (2 * k.val + s.val + 9) 48 = min (2 * k.val + s.val + 8) 48 by omega]
    unfold issueO
    iintro H Hk
    iapply Hk
    iexact H

/-- and awaits what there is to await. -/
theorem wp_landO (hd : d.Good) (s : Fin 2) (k : Fin k0_t6_loop.trips) (K : P F) :
    iprop(Hd c tab (· = d.tab) ∗ Landed c d words codes tsems (min (2 * k.val + s.val + 1) 48) ∗ Ahead c d words codes tsems (min (2 * k.val + s.val + 1) 48) (min (2 * k.val + s.val + 9) 48) ∗ Idle c)
      ⊢ iprop((iprop(Hd c tab (· = d.tab) ∗ Landed c d words codes tsems (min (2 * k.val + s.val + 2) 48) ∗ Ahead c d words codes tsems (min (2 * k.val + s.val + 2) 48) (min (2 * k.val + s.val + 9) 48) ∗ Idle c) -∗ W c K Q)
        -∗ W c (landO words codes tab tsems (lndAt s k) K) Q) := by
  rcases lndAt_for s k with ⟨h, L, e, hL⟩ | ⟨h, e⟩
  · rw [e, show min (2 * k.val + s.val + 2) 48 = min (2 * k.val + s.val + 1) 48 + 1 by omega]
    rw [show 2 * k.val + s.val + 1 = min (2 * k.val + s.val + 1) 48 by omega] at hL
    exact wp_landNext c hd (by omega) L hL K
  · rw [e, show min (2 * k.val + s.val + 2) 48 = min (2 * k.val + s.val + 1) 48 by omega]
    unfold landO
    iintro H Hk
    iapply Hk
    iexact H

end

end Cert.Hand
-- ==== Proof.Gather.lean ====
/- A block gathered: from the operands' memrefs to what `Data` says the scratch buffers hold. -/
module

public import proofs.«01_k».proof.Proof.Tiles

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} {d : In F}

theorem not_mem_rect {s : Shape} {r : Rect s} {y : s.Idx} (h : ∀ x, r.emb x ≠ y) : y ∉ r.set := by
  rw [← Rect.map_emb_univ, Finset.mem_map]
  rintro ⟨x, -, e⟩; exact h x e

/-- A word of the table read. -/
theorem ldWord {tab : Memref sig .tc .smem S8x1536 .i32} (i : BitVec 32) (hi : i.toNat < 48) (r : Fin 8) (t : Fin 32) {hw} {x : S1x1.Idx} {K : BitVec 32 → P F} :
    Hd c tab (· = d.tab) ⊢ iprop((Hd c tab (· = d.tab) -∗ W c (K (d.word ⟨i.toNat, hi⟩ r t)) Q)
      -∗ W c (smemLoadElt tab (Rect.unit (s := S8x1536) (mOff i r t) S1x1.size (mOff_inb i hi r t)) hw x K) Q) := by
  unfold Hd On
  iintro ⟨%f, %hf, H⟩ Hk
  have e : (tab.access (Rect.unit (s := S8x1536) (mOff i r t) S1x1.size (mOff_inb i hi r t))).read (Elt F) f x = d.word ⟨i.toNat, hi⟩ r t := by
    show tab.view.read (Elt F) f ((Rect.unit (s := S8x1536) (mOff i r t) S1x1.size (mOff_inb i hi r t)).emb x) = _
    rw [hf]
    refine congrArg d.tab (Shape.idx_ext₂ ?_ ?_)
    · have : (x 0).val < 1 := (x 0).isLt
      show r.val + 1 * (x 0).val = r.val
      omega
    · have : (x 1).val < 1 := (x 1).isLt
      show (Scalar.indexCast (Scalar.addi (Scalar.muli i 32#32) (BitVec.ofNat 32 t.val))).toNat + 1 * (x 1).val = i.toNat * 32 + t.val
      rw [word_eq i hi]; omega
  iapply (wp_smemLoadElt Variants.none (c : Thread nD τ) none Set.univ (m := tab) (r := Rect.unit (s := S8x1536) (mOff i r t) S1x1.size (mOff_inb i hi r t))
    (S := tab.view.set) (f := f) (View.set_slice_subset _ _)) $$ H
  iintro H
  rw [e]
  iapply Hk
  iexists f; isplitr
  · ipureintro; exact hf
  · iexact H

theorem pay1_apply (x : Vec F S1x28x128 .i32) (y : S28x128.Idx) : k0_pay1 x y = x (ix3 0 (y 0) (y 1)) := by
  unfold k0_pay1
  rw [shapeCast_self]
  refine (shapeCast_dropUnit_apply ![28, 128] x _ y).trans (congrArg x (funext fun a => ?_))
  fin_cases a <;> rfl

section
variable {codes : Memref sig .tc .vmem S2272x28x128 .i32} {srm : Memref sig .tc .vmem S9088x128 .f32}
  {pw : Memref sig .tc .vmem S1536x128 .f32} {tab : Memref sig .tc .smem S8x1536 .i32}
  {comp : Memref sig .tc .vmem S1904x128 .i32} {p : Memref sig .tc .vmem S128x256 .fp8e4m3} {hp : p.IsWhole}
  {sg cf : Memref sig .tc .vmem S128x128 .f32} {words : Memref sig .tc .hbm S2272x28x128 .i32} {tsems : DmaSems sig S48} (i : BitVec 32) (hi : i.toNat < 48)

/-- A tile held at its words, as elements of the array of all quads' words. -/
theorem tile_in (T : Fin 284) : Hd c (tileOf codes T) (· = d.tileX T)
    ⊢ On c codes (tileOf codes T).view.set (fun X => ∀ (q : Fin 8) (g : Fin 28) (l : Fin 128), X (ix3 ⟨8 * T.val + q.val, by omega⟩ g l) = d.codes (ix3 ⟨8 * T.val + q.val, by omega⟩ g l)) := by
  unfold Hd On
  iintro ⟨%f, %hf, H⟩
  iexists f; isplitr
  · ipureintro
    intro q g l
    have := congrFun hf (ix3 q g l)
    refine Eq.trans ?_ this
    show codes.view.read (Elt F) f _ = codes.view.read (Elt F) f _
    refine congrArg _ (funext fun a => Fin.ext ?_)
    fin_cases a
    · show 8 * T.val + q.val = 8 * T.val + 1 * q.val; omega
    · show g.val = 0 + 1 * g.val; omega
    · show l.val = 0 + 1 * l.val; omega
  · iexact H

/-- The other way. -/
theorem tile_out (T : Fin 284) : On c codes (tileOf codes T).view.set (fun X => ∀ (q : Fin 8) (g : Fin 28) (l : Fin 128), X (ix3 ⟨8 * T.val + q.val, by omega⟩ g l) = d.codes (ix3 ⟨8 * T.val + q.val, by omega⟩ g l))
    ⊢ Hd c (tileOf codes T) (· = d.tileX T) := by
  unfold Hd On
  iintro ⟨%f, %hf, H⟩
  iexists f; isplitr
  · ipureintro
    funext x
    refine Eq.trans ?_ (hf (x 0) (x 1) (x 2))
    show codes.view.read (Elt F) f _ = codes.view.read (Elt F) f _
    refine congrArg _ (funext fun a => Fin.ext ?_)
    fin_cases a
    · show 8 * T.val + 1 * (x 0).val = 8 * T.val + (x 0).val; omega
    · show 0 + 1 * (x 1).val = (x 1).val; omega
    · show 0 + 1 * (x 2).val = (x 2).val; omega
  · iexact H

/-- A quad lies in its tile. -/
theorem quad_sub (T : Fin 284) (v : BitVec 32) (hv : v.toNat / 8 = T.val) (h : ∀ a, k0_off8 v a + S1x28x128.size a ≤ S2272x28x128.size a) :
    codes.view.setOn (Rect.unit (s := S2272x28x128) (k0_off8 v) S1x28x128.size h).set ⊆ (tileOf codes T).view.set := by
  have e : (tileOf codes T).view.set = (Rect.unit (s := S2272x28x128) ![8 * T.val, 0, 0] S8x28x128.size (tile_inb T)).set.map codes.view.emb := View.set_slice _ _
  rw [e]
  refine Finset.map_subset_map.mpr fun y hy => ?_
  rw [← Rect.map_emb_univ, Finset.mem_map] at hy ⊢
  obtain ⟨x, -, rfl⟩ := hy
  have h0 : (x 0).val < 1 := (x 0).isLt
  refine ⟨ix3 ⟨v.toNat % 8, Nat.mod_lt _ (by decide)⟩ (x 1) (x 2), Finset.mem_univ _, funext fun a => Fin.ext ?_⟩
  fin_cases a
  · show 8 * T.val + 1 * (v.toNat % 8) = v.toNat + 1 * (x 0).val
    omega
  · rfl
  · rfl

theorem tl_val (hd : d.Good) (b : Fin 48) (j : Fin 32) (hj : j.val < d.cnt b) : (d.tl b j.val).val = (d.word b 2 j).toNat := by
  have hlt := hd.tile b j hj
  show (d.word b 2 (Fin.ofNat 32 j.val)).toNat % 284 = _
  rw [show Fin.ofNat 32 j.val = j from Fin.ext (Nat.mod_eq_of_lt j.isLt)]
  omega

/-- A load of elements held, whatever they satisfy kept. -/
theorem ldk {cs : CoreSpace} {s : Shape} {e : EltTy} {m : Memref sig .tc cs s e} {r : LoadRect s} {hl : m.view.LoadsAt r}
    {k : (r.shape.Idx → Elt F e) → P F} {S : Finset (Idx (m.view.loc (c : Thread nD τ)))} {Φ : (s.Idx → Elt F e) → Prop} (hS : m.view.setOn r.set ⊆ S) :
    On c m S Φ ⊢ iprop((∀ X, ⌜Φ X⌝ -∗ On c m S Φ -∗ W c (k fun x => X (r.idx x)) Q) -∗ W c (.op (.load m r hl) k) Q) := by
  unfold On
  iintro ⟨%f, %hf, H⟩ Hk
  iapply (wp_load Variants.none (c : Thread nD τ) none Set.univ hS) $$ H
  iintro H
  iapply Hk $$ %(m.view.read (Elt F) f) %hf
  iexists f; isplitr
  · ipureintro; exact hf
  · iexact H

/-- The same of the quads' words. -/
theorem ldq {codes : Memref sig .tc .vmem S2272x28x128 .i32} {r : LoadRect S2272x28x128} {hl : codes.view.LoadsAt r}
    {k : (r.shape.Idx → Elt F .i32) → P F} {S : Finset (Idx (codes.view.loc (c : Thread nD τ)))} {Φ : (S2272x28x128.Idx → Elt F .i32) → Prop} (hS : codes.view.setOn r.set ⊆ S) :
    On c codes S Φ ⊢ iprop((∀ X, ⌜Φ X⌝ -∗ On c codes S Φ -∗ W c (k fun x => X (r.idx x)) Q) -∗ W c (.op (.load codes r hl) k) Q) := ldk c hS

set_option maxHeartbeats 4000000 in
/-- Slot `n` gathered after the slots below it. -/
theorem wp_quadStep (hd : d.Good) (nl : ℕ) (hn : i.toNat < nl) (n : Fin 64) (K : P F) :
    iprop(Landed c d words codes tsems nl ∗ Hd c tab (· = d.tab) ∗ Hd c comp (CompAt d ⟨i.toNat, hi⟩ n.val))
      ⊢ iprop((iprop(Landed c d words codes tsems nl ∗ Hd c tab (· = d.tab) ∗ Hd c comp (CompAt d ⟨i.toNat, hi⟩ (n.val + 1))) -∗ W c K Q)
        -∗ W c (quadStep codes tab comp i hi n K) Q) := by
  iintro ⟨Hc, Ht, Hx⟩ Hk
  unfold quadStep
  iapply (ldWord c (d := d) i hi _ _) $$ Ht
  iintro Ht
  have hq := hd.quad ⟨i.toNat, hi⟩ n
  have hk : k0_chk5 (d.quad ⟨i.toNat, hi⟩ n) := by
    intro a; fin_cases a
    · show (d.quad ⟨i.toNat, hi⟩ n).toNat + 1 ≤ 2272
      omega
    · show 0 + 28 ≤ 28; omega
    · show 0 + 128 ≤ 128; omega
  iapply (wp_assume Variants.none (c : Thread nD τ) none Set.univ hk)
  obtain ⟨b', j, hb', hj, hT⟩ := hd.held ⟨i.toNat, hi⟩ n
  obtain ⟨T, hTe⟩ : ∃ T, T = d.tl b' j.val := ⟨_, rfl⟩
  have hTv : (d.quad ⟨i.toNat, hi⟩ n).toNat / 8 = T.val := hTe ▸ hT.trans (tl_val hd b' j hj).symm
  have hl : Landed c d words codes tsems nl ⊢ iprop(Hd c (tileOf codes T) (· = d.tileX T) ∗ (Hd c (tileOf codes T) (· = d.tileX T) -∗ Landed c d words codes tsems nl)) := by
    subst hTe; exact landed_take c nl b' (lt_of_le_of_lt (Fin.le_def.mp hb') hn) ⟨j.val, hj⟩
  icases hl $$ Hc with ⟨Hc, Hback⟩
  icases (tile_in c T) $$ Hc with Hc
  iapply (ldq c (codes := codes) (r := (Rect.unit (s := S2272x28x128) (k0_off8 (d.quad ⟨i.toNat, hi⟩ n)) S1x28x128.size (k0_off8_inb _ hk)).toLoadRect) (S := (tileOf codes T).view.set)
    (quad_sub T _ hTv _)) $$ Hc
  iintro %Xc %hXc Hc
  icases (tile_out c T) $$ Hc with Hc
  icases Hback $$ Hc with Hc
  iapply (ldskip c (View.setOn_subset_set _ _)) $$ Hx
  iintro Hx
  iapply (st c (Ψ := CompAt d ⟨i.toNat, hi⟩ (n.val + 1)) (View.setOn_subset_set _ _) ?_) $$ Hx
  · intro X X' hX hS c' g l hc
    rcases Nat.lt_or_eq_of_le (Nat.lt_succ_iff.mp hc) with h | h
    · rw [← hX c' g l h]
      refine hS.off _ (not_mem_rect fun x e => ?_)
      have e0 : n.val + 68 * (x 0).val = 68 * g.val + c'.val := congrArg (fun y : S1904x128.Idx => (y 0).val) e
      have := n.isLt
      omega
    · have hc' : c' = n := Fin.ext h
      subst hc'
      have := hS.on (ix2 g l)
      rw [pay1_apply] at this
      rw [show (ix2 ⟨68 * g.val + c'.val, by omega⟩ l : S1904x128.Idx) = (⟨quadRows c', spos_68_1⟩ : Rect S1904x128).emb (ix2 g l) from
        Shape.idx_ext₂ (by show 68 * g.val + c'.val = c'.val + 68 * g.val; omega) (by show l.val = 0 + 1 * l.val; omega), this]
      have hlt := hXc ⟨(d.quad ⟨i.toNat, hi⟩ c').toNat % 8, Nat.mod_lt _ (by decide)⟩ g l
      refine Eq.trans ?_ (hlt.trans ?_)
      · refine congrArg Xc (funext fun a => Fin.ext ?_)
        fin_cases a
        · show (d.quad ⟨i.toNat, hi⟩ c').toNat + 1 * 0 = 8 * T.val + (d.quad ⟨i.toNat, hi⟩ c').toNat % 8
          omega
        · show 0 + 1 * g.val = g.val; omega
        · show 0 + 1 * l.val = l.val; omega
      refine congrArg d.codes (funext fun a => Fin.ext ?_)
      fin_cases a
      · show 8 * T.val + (d.quad ⟨i.toNat, hi⟩ c').toNat % 8 = (d.quad ⟨i.toNat, hi⟩ c').toNat % 2272
        omega
      · rfl
      · rfl
  iintro Hx
  iapply Hk
  isplitl [Hc]; · iexact Hc
  isplitl [Ht] <;> iassumption

theorem row_inj {k t k' t' : Nat} (ht : t < 32) (ht' : t' < 32) (h : 32 * k + t = 32 * k' + t') : k = k' ∧ t = t' := by omega

/-- A scale row gathered after the rows before it. -/
theorem wp_scaleStep (hd : d.Good) (k : Fin 4) (n : Fin 32) (K : P F) :
    iprop(Hd c srm (· = d.srm) ∗ Hd c tab (· = d.tab) ∗ Hd c sg (SgAt d ⟨i.toNat, hi⟩ (32 * k.val + n.val)))
      ⊢ iprop((iprop(Hd c srm (· = d.srm) ∗ Hd c tab (· = d.tab) ∗ Hd c sg (SgAt d ⟨i.toNat, hi⟩ (32 * k.val + (n.val + 1)))) -∗ W c K Q)
        -∗ W c (scaleStep srm tab sg i hi k n K) Q) := by
  iintro ⟨Hc, Ht, Hx⟩ Hk
  unfold scaleStep
  iapply (ldWord c (d := d) i hi _ _) $$ Ht
  iintro Ht
  have hq := hd.row ⟨i.toNat, hi⟩ k n
  have hk : k0_chk69 (d.row ⟨i.toNat, hi⟩ k n) := by
    intro a; fin_cases a
    · show (d.row ⟨i.toNat, hi⟩ k n).toNat + 1 ≤ 9088
      omega
    · show 0 + 128 ≤ 128; omega
  iapply (wp_assume Variants.none (c : Thread nD τ) none Set.univ hk)
  iapply (ldx c) $$ Hc
  iintro Hc
  iapply (ldskip c (View.setOn_subset_set _ _)) $$ Hx
  iintro Hx
  iapply (st c (Ψ := SgAt d ⟨i.toNat, hi⟩ (32 * k.val + (n.val + 1))) (View.setOn_subset_set _ _) ?_) $$ Hx
  · intro X X' hX hS k' t l hc
    have hn := n.isLt
    have ht := t.isLt
    rcases Nat.lt_or_eq_of_le (show 32 * k'.val + t.val ≤ 32 * k.val + n.val by omega) with h | h
    · rw [← hX k' t l h]
      refine hS.off _ (not_mem_rect fun x e => ?_)
      have e0 : 32 * k.val + n.val + 1 * (x 0).val = 32 * k'.val + t.val := congrArg (fun y : S128x128.Idx => (y 0).val) e
      omega
    · obtain ⟨h1, h2⟩ := row_inj ht hn h
      obtain rfl : k' = k := Fin.ext h1
      obtain rfl : t = n := Fin.ext h2
      have := hS.on (ix2 0 l)
      unfold k0_pay71 at this
      rw [shapeCast_self] at this
      rw [show (ix2 ⟨32 * k'.val + t.val, by omega⟩ l : S128x128.Idx) = (Rect.unit (s := S128x128) ![32 * k'.val + t.val, 0] S1x128.size (row_inb ⟨32 * k'.val + t.val, by omega⟩)).emb (ix2 0 l) from
        Shape.idx_ext₂ (by show 32 * k'.val + t.val = 32 * k'.val + t.val + 1 * 0; omega) (by show l.val = 0 + 1 * l.val; omega), this]
      refine congrArg d.srm (Shape.idx_ext₂ ?_ ?_)
      · show (d.row ⟨i.toNat, hi⟩ k' t).toNat + 1 * 0 = (d.row ⟨i.toNat, hi⟩ k' t).toNat % 9088
        omega
      · show 0 + 1 * l.val = l.val; omega
  iintro Hx
  iapply Hk
  isplitl [Hc]; · iexact Hc
  isplitl [Ht] <;> iassumption

theorem smodd {k t : Nat} (ht : t < 32) : (32 * k + t) / 32 = k ∧ (32 * k + t) % 32 = t := by omega

/-- Slot `k` of a block after the slots below it. -/
theorem wp_slotStep (hd : d.Good) (k : Fin 4) (K : P F) :
    iprop(Hd c srm (· = d.srm) ∗ Hd c tab (· = d.tab) ∗ Hd c sg (SgAt d ⟨i.toNat, hi⟩ (32 * k.val)) ∗ Hd c p (PAt d ⟨i.toNat, hi⟩ k.val)
        ∗ Hd c cf (CfAt d ⟨i.toNat, hi⟩ k.val))
      ⊢ iprop((iprop(Hd c srm (· = d.srm) ∗ Hd c tab (· = d.tab) ∗ Hd c sg (SgAt d ⟨i.toNat, hi⟩ (32 * (k.val + 1))) ∗ Hd c p (PAt d ⟨i.toNat, hi⟩ (k.val + 1))
          ∗ Hd c cf (CfAt d ⟨i.toNat, hi⟩ (k.val + 1))) -∗ W c K Q)
        -∗ W c (slotStep srm tab p hp sg cf i hi (d.pwb ⟨i.toNat, hi⟩) k0_pay70 k K) Q) := by
  iintro ⟨Hc, Ht, Hs, Hp, Hf⟩ Hk
  unfold slotStep
  iapply (wp_seqAll c (scaleStep srm tab sg i hi k)
    (fun n => iprop(Hd c srm (· = d.srm) ∗ Hd c tab (· = d.tab) ∗ Hd c sg (SgAt d ⟨i.toNat, hi⟩ (32 * k.val + n)))) (wp_scaleStep c i hi hd k)) $$ [Hc Ht Hs]
  · isplitl [Hc]; · iexact Hc
    isplitl [Ht] <;> iassumption
  iintro ⟨Hc, Ht, Hs⟩
  iapply (ldskip c (View.setOn_subset_set _ _)) $$ Hp
  iintro Hp
  iapply (st c (Ψ := PAt d ⟨i.toNat, hi⟩ (k.val + 1)) (View.setOn_subset_set _ _) ?_) $$ Hp
  · intro X X' hX hS k' t l hc
    have ht := t.isLt
    rcases Nat.lt_or_eq_of_le (Nat.lt_succ_iff.mp hc) with h | h
    · rw [← hX k' t l h]
      refine hS.off _ (not_mem_rect fun x e => ?_)
      have e0 : 32 * k.val + 1 * (x 0).val = 32 * k'.val + t.val := congrArg (fun y : S128x256.Idx => (y 0).val) e
      omega
    · obtain rfl : k' = k := Fin.ext h
      have := hS.on (ix2 t l)
      rw [show (ix2 ⟨32 * k'.val + t.val, by omega⟩ l : S128x256.Idx) = (Rect.unit (s := S128x256) ![32 * k'.val, 0] S32x256.size (prow k')).emb (ix2 t l) from
        Shape.idx_ext₂ (by show 32 * k'.val + t.val = 32 * k'.val + 1 * t.val; omega) (by show l.val = 0 + 1 * l.val; omega), this]
      rfl
  iintro Hp
  iapply (ld c (View.setOn_subset_set _ _)) $$ Hs
  iintro %X %hX Hs
  have e : (fun x => X ((Rect.unit (s := S128x128) ![32 * k.val, 0] S32x128.size (crow k)).toLoadRect.idx x)) = fun x => d.sg ⟨i.toNat, hi⟩ k (x 0) (x 1) := by
    funext x
    have h0 : (x 0).val < 32 := (x 0).isLt
    rw [← hX k (x 0) (x 1) (by omega)]
    refine congrArg X (Shape.idx_ext₂ ?_ ?_)
    · show 32 * k.val + 1 * (x 0).val = 32 * k.val + (x 0).val; omega
    · show 0 + 1 * (x 1).val = (x 1).val; omega
  rw [e]
  iapply (ldskip c (View.setOn_subset_set _ _)) $$ Hf
  iintro Hf
  iapply (st c (Ψ := CfAt d ⟨i.toNat, hi⟩ (k.val + 1)) (View.setOn_subset_set _ _) ?_) $$ Hf
  · intro X X' hX hS k' t l hc
    have ht := t.isLt
    rcases Nat.lt_or_eq_of_le (Nat.lt_succ_iff.mp hc) with h | h
    · rw [← hX k' t l h]
      refine hS.off _ (not_mem_rect fun x e => ?_)
      have e0 : 32 * k.val + 1 * (x 0).val = 32 * k'.val + t.val := congrArg (fun y : S128x128.Idx => (y 0).val) e
      omega
    · obtain rfl : k' = k := Fin.ext h
      have := hS.on (ix2 t l)
      rw [show (ix2 ⟨32 * k'.val + t.val, by omega⟩ l : S128x128.Idx) = (Rect.unit (s := S128x128) ![32 * k'.val, 0] S32x128.size (crow k')).emb (ix2 t l) from
        Shape.idx_ext₂ (by show 32 * k'.val + t.val = 32 * k'.val + 1 * t.val; omega) (by show l.val = 0 + 1 * l.val; omega), this]
      rfl
  iintro Hf
  iapply Hk
  isplitl [Hc]; · iexact Hc
  isplitl [Ht]; · iexact Ht
  isplitl [Hs]
  · iapply (on_mono c (fun Y hY => hY.2)) $$ Hs
  isplitl [Hp] <;> iassumption

/-- A block gathered, whatever the scratch buffers held before. -/
theorem wp_gather (hd : d.Good) (nl : ℕ) (hn : i.toNat < nl) (K : Vec F S32x128 .f32 → P F) :
    iprop(Landed c d words codes tsems nl ∗ Hd c srm (· = d.srm) ∗ Hd c pw (· = d.pw) ∗ Hd c tab (· = d.tab)
        ∗ Hd c comp (fun _ => True) ∗ Hd c sg (fun _ => True) ∗ Hd c p (fun _ => True) ∗ Hd c cf (fun _ => True))
      ⊢ iprop((iprop(Landed c d words codes tsems nl ∗ Hd c srm (· = d.srm) ∗ Hd c pw (· = d.pw) ∗ Hd c tab (· = d.tab)
          ∗ Hd c comp (CompAt d ⟨i.toNat, hi⟩ 64) ∗ Hd c sg (fun _ => True) ∗ Hd c p (· = d.pV ⟨i.toNat, hi⟩) ∗ Hd c cf (· = d.cfV ⟨i.toNat, hi⟩))
            -∗ W c (K (d.pwb ⟨i.toNat, hi⟩)) Q)
        -∗ W c (gather codes srm pw tab comp p hp sg cf i hi K) Q) := by
  iintro ⟨Hc, Hr, Hw, Ht, Hx, Hs, Hp, Hf⟩ Hk
  unfold gather
  ihave Hx : Hd c comp (CompAt d ⟨i.toNat, hi⟩ 0) $$ [Hx]
  · iapply (on_mono c (fun Y _ c' g l h => absurd h (Nat.not_lt_zero _))) $$ Hx
  iapply (wp_seqAll c (quadStep codes tab comp i hi)
    (fun n => iprop(Landed c d words codes tsems nl ∗ Hd c tab (· = d.tab) ∗ Hd c comp (CompAt d ⟨i.toNat, hi⟩ n))) (wp_quadStep c i hi hd nl hn)) $$ [Hc Ht Hx]
  · isplitl [Hc]; · iexact Hc
    isplitl [Ht] <;> iassumption
  iintro ⟨Hc, Ht, Hx⟩
  iapply (ldx c) $$ Hw
  iintro Hw
  have e : (fun x => d.pw ((Rect.unit (s := S1536x128) (tOff i) S32x128.size (tOff_inb i hi)).toLoadRect.idx x)) = d.pwb ⟨i.toNat, hi⟩ := by
    funext x
    refine congrArg d.pw (Shape.idx_ext₂ ?_ ?_)
    · show (Scalar.indexCast (Scalar.muli i 32#32)).toNat + 1 * (x 0).val = i.toNat * 32 + (x 0).val
      rw [tword_eq i hi]; omega
    · show 0 + 1 * (x 1).val = (x 1).val; omega
  rw [e]
  ihave Hs : Hd c sg (SgAt d ⟨i.toNat, hi⟩ (32 * 0)) $$ [Hs]
  · iapply (on_mono c (fun Y _ c' g l h => absurd h (Nat.not_lt_zero _))) $$ Hs
  ihave Hp : Hd c p (PAt d ⟨i.toNat, hi⟩ 0) $$ [Hp]
  · iapply (on_mono c (fun Y _ c' g l h => absurd h (Nat.not_lt_zero _))) $$ Hp
  ihave Hf : Hd c cf (CfAt d ⟨i.toNat, hi⟩ 0) $$ [Hf]
  · iapply (on_mono c (fun Y _ c' g l h => absurd h (Nat.not_lt_zero _))) $$ Hf
  iapply (wp_seqAll c (slotStep srm tab p hp sg cf i hi (d.pwb ⟨i.toNat, hi⟩) k0_pay70)
    (fun n => iprop(Hd c srm (· = d.srm) ∗ Hd c tab (· = d.tab) ∗ Hd c sg (SgAt d ⟨i.toNat, hi⟩ (32 * n)) ∗ Hd c p (PAt d ⟨i.toNat, hi⟩ n)
        ∗ Hd c cf (CfAt d ⟨i.toNat, hi⟩ n))) (wp_slotStep c i hi hd)) $$ [Hr Ht Hs Hp Hf]
  · isplitl [Hr]; · iexact Hr
    isplitl [Ht]; · iexact Ht
    isplitl [Hs]; · iexact Hs
    isplitl [Hp] <;> iassumption
  iintro ⟨Hr, Ht, Hs, Hp, Hf⟩
  iapply Hk
  isplitl [Hc]; · iexact Hc
  isplitl [Hr]; · iexact Hr
  isplitl [Hw]; · iexact Hw
  isplitl [Ht]; · iexact Ht
  isplitl [Hx]; · iexact Hx
  isplitl [Hs]
  · iapply (on_mono c (fun _ _ => trivial)) $$ Hs
  isplitl [Hp]
  · iapply (on_mono c (fun _ h => h.eq)) $$ Hp
  · iapply (on_mono c (fun _ h => h.eq)) $$ Hf

end

end Cert.Hand
-- ==== Proof.Combine.lean ====
/- A gathered block combined into a slot of the output buffer, and the slot's copy to the result started and waited for. -/
module

public import proofs.«01_k».proof.Proof.Gather

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} {d : In F}

/-- Slot `s`'s elements of the output buffer. -/
def slotSet (ob : Memref sig .tc .vmem S2x32x3584 .bf16) (s : Fin 2) : Finset ob.view.ty.Idx := (outSrc ob s).view.set

theorem group_sub (ob : Memref sig .tc .vmem S2x32x3584 .bf16) (s : Fin 2) (j : Fin 14) :
    ob.view.setOn (Rect.unit (s := S2x32x3584) ![s.val, 0, 256 * j.val] S1x32x256.size (orow s j)).set ⊆ slotSet ob s := by
  have h : slotSet ob s = (Rect.unit (s := S2x32x3584) ![s.val, 0, 0] S1x32x3584.size (slot_inb s)).set.map ob.view.emb :=
    (View.set_reshape _ _).trans (View.set_slice _ _)
  rw [h]
  refine Finset.map_subset_map.mpr fun y hy => ?_
  rw [← Rect.map_emb_univ, Finset.mem_map] at hy ⊢
  obtain ⟨x, -, rfl⟩ := hy
  have h1 : (x 1).val < 32 := (x 1).isLt
  have h2 : (x 2).val < 256 := (x 2).isLt
  have hj := j.isLt
  refine ⟨ix3 (x 0) ⟨(x 1).val, h1⟩ ⟨256 * j.val + (x 2).val, by omega⟩, Finset.mem_univ _, funext fun a => Fin.ext ?_⟩
  fin_cases a
  · rfl
  · rfl
  · show 0 + 1 * (256 * j.val + (x 2).val) = 256 * j.val + 1 * (x 2).val
    omega

theorem grp_eq {b : Fin 48} (g : Fin 28) {X : S1904x128.Idx → Elt F .i32} (h : CompAt d b 64 X) :
    (fun x => X ((Rect.unit (s := S1904x128) ![68 * g.val, 0] S64x128.size (grow g)).toLoadRect.idx x)) = d.grp b g := by
  funext x
  have h0 : (x 0).val < 64 := (x 0).isLt
  have hg := g.isLt
  rw [show d.grp b g x = _ from (h (x 0) g (x 1) h0).symm]
  refine congrArg X (Shape.idx_ext₂ ?_ ?_)
  · show 68 * g.val + 1 * (x 0).val = 68 * g.val + (x 0).val; omega
  · show 0 + 1 * (x 1).val = (x 1).val; omega

section
variable {comp : Memref sig .tc .vmem S1904x128 .i32} {p : Memref sig .tc .vmem S128x256 .fp8e4m3}
  {cf : Memref sig .tc .vmem S128x128 .f32} {ob : Memref sig .tc .vmem S2x32x3584 .bf16} {hob : ob.IsWhole} (b : Fin 48) (s : Fin 2)

theorem wp_combineStep (j : Fin 14) (K : P F) :
    iprop(Hd c comp (CompAt d b 64) ∗ On c ob (slotSet ob s) (ObAt d b s j.val))
      ⊢ iprop((iprop(Hd c comp (CompAt d b 64) ∗ On c ob (slotSet ob s) (ObAt d b s (j.val + 1))) -∗ W c K Q)
        -∗ W c (combineStep comp ob hob s (d.pV b) (d.cfV b) j K) Q) := by
  iintro ⟨Hc, Ho⟩ Hk
  unfold combineStep
  iapply (ld c (View.setOn_subset_set _ _)) $$ Hc
  iintro %X %hX Hc
  rw [grp_eq ⟨2 * j.val, by omega⟩ hX]
  iapply (ld c (View.setOn_subset_set _ _)) $$ Hc
  iintro %Y %hY Hc
  rw [grp_eq ⟨2 * j.val + 1, by omega⟩ hY.2]
  iapply (ldskip c (group_sub ob s j)) $$ Ho
  iintro Ho
  iapply (st c (Ψ := ObAt d b s (j.val + 1)) (group_sub ob s j) ?_) $$ Ho
  · intro X X' hX hS j' t l hj
    have ht := t.isLt
    have hl := l.isLt
    rcases Nat.lt_or_eq_of_le (Nat.lt_succ_iff.mp hj) with h | h
    · rw [← hX j' t l h]
      refine hS.off _ (not_mem_rect fun x e => ?_)
      have e0 : 256 * j.val + 1 * (x 2).val = 256 * j'.val + l.val := congrArg (fun y : S2x32x3584.Idx => (y 2).val) e
      omega
    · obtain rfl : j' = j := Fin.ext h
      have := hS.on (ix3 0 t l)
      rw [show (ix3 s t ⟨256 * j'.val + l.val, by omega⟩ : S2x32x3584.Idx) = (Rect.unit (s := S2x32x3584) ![s.val, 0, 256 * j'.val] S1x32x256.size (orow s j')).emb (ix3 0 t l) from
        funext fun a => Fin.ext (by
          fin_cases a
          · rfl
          · show t.val = 0 + 1 * t.val; omega
          · show 256 * j'.val + l.val = 256 * j'.val + 1 * l.val; omega), this]
      rfl
  iintro Ho
  iapply Hk
  isplitl [Hc]
  · iapply (on_mono c (fun Y hY => hY.2.2)) $$ Hc
  · iexact Ho

/-- A gathered block combined. -/
theorem wp_combine (K : P F) :
    iprop(Hd c comp (CompAt d b 64) ∗ Hd c p (· = d.pV b) ∗ Hd c cf (· = d.cfV b) ∗ On c ob (slotSet ob s) (fun _ => True))
      ⊢ iprop((iprop(Hd c comp (fun _ => True) ∗ Hd c p (fun _ => True) ∗ Hd c cf (fun _ => True) ∗ On c ob (slotSet ob s) (ObAt d b s 14)) -∗ W c K Q)
        -∗ W c (combine comp p cf ob hob s K) Q) := by
  iintro ⟨Hc, Hp, Hf, Ho⟩ Hk
  unfold combine
  iapply (ldx c) $$ Hp
  iintro Hp
  iapply (ldx c) $$ Hf
  iintro Hf
  have ep : (fun x => d.pV b ((Rect.unit (s := S128x256) ![0, 0] S128x256.size inb_S128x256_S128x256_0_0).toLoadRect.idx x)) = d.pV b := by
    funext x
    refine congrArg (d.pV b) (Shape.idx_ext₂ ?_ ?_)
    · show 0 + 1 * (x 0).val = (x 0).val; omega
    · show 0 + 1 * (x 1).val = (x 1).val; omega
  have ef : (fun x => d.cfV b ((Rect.unit (s := S128x128) ![0, 0] S128x128.size inb_S128x128_S128x128_0_0).toLoadRect.idx x)) = d.cfV b := by
    funext x
    refine congrArg (d.cfV b) (Shape.idx_ext₂ ?_ ?_)
    · show 0 + 1 * (x 0).val = (x 0).val; omega
    · show 0 + 1 * (x 1).val = (x 1).val; omega
  rw [ep, ef]
  ihave Ho : On c ob (slotSet ob s) (ObAt d b s 0) $$ [Ho]
  · iapply (on_mono c (fun Y _ j t l h => absurd h (Nat.not_lt_zero _))) $$ Ho
  iapply (wp_seqAll c (combineStep comp ob hob s (d.pV b) (d.cfV b))
    (fun n => iprop(Hd c comp (CompAt d b 64) ∗ On c ob (slotSet ob s) (ObAt d b s n))) (wp_combineStep c b s)) $$ [Hc Ho]
  · isplitl [Hc] <;> iassumption
  iintro ⟨Hc, Ho⟩
  iapply Hk
  isplitl [Hc]; · iapply (on_mono c (fun _ _ => trivial)) $$ Hc
  isplitl [Hp]; · iapply (on_mono c (fun _ _ => trivial)) $$ Hp
  isplitl [Hf]; · iapply (on_mono c (fun _ _ => trivial)) $$ Hf
  iexact Ho

end

/-! ## The copies -/

/-- Block `b` of the result. -/
def dstB (out : Memref sig .tc .hbm S1536x3584 .bf16) (b : Fin 48) : Memref sig .tc .hbm S32x3584 .bf16 :=
  out.slice (Rect.unit (s := S1536x3584) ![32 * b.val, 0] S32x3584.size (blk_inb b)) (fun _ => rfl)

theorem outDst_eq (out : Memref sig .tc .hbm S1536x3584 .bf16) (i : BitVec 32) (hi : i.toNat < 48) : outDst out i hi = dstB out ⟨i.toNat, hi⟩ := by
  have key : ∀ (o : Fin 2 → Nat) (h : ∀ a, o a + S32x3584.size a ≤ S1536x3584.size a) (_ : o = ![32 * i.toNat, 0]),
      out.slice (Rect.unit (s := S1536x3584) o S32x3584.size h) (fun _ => rfl) = dstB out ⟨i.toNat, hi⟩ := by
    rintro o h rfl; rfl
  exact key _ _ (oOff_eq i hi)

/-- What one copy credits its semaphore. -/
def credit (out : Memref sig .tc .hbm S1536x3584 .bf16) : ℕ := (dstB out 0).view.dmaCredit

variable (d) in
/-- Slot `s`'s copy to block `b` under way: it delivers the block of the result and gives the slot back. -/
def Fl (out : Memref sig .tc .hbm S1536x3584 .bf16) (ob : Memref sig .tc .vmem S2x32x3584 .bf16) (sems : DmaSems sig S2) (s : Fin 2) (b : Fin 48) : sProp 𝕄 :=
  Transfers.Flight EC (c : Thread nD τ) (.dma (outSem sems s).sem) () (credit out) iprop(Hd c (dstB out b) (OutAt d b) ∗ On c ob (slotSet ob s) (fun _ => True))

section
variable {out : Memref sig .tc .hbm S1536x3584 .bf16} {hout : out.IsWhole} {ob : Memref sig .tc .vmem S2x32x3584 .bf16} {hob : ob.IsWhole}
  {sems : DmaSems sig S2} (s : Fin 2)

theorem read_slot (f : Buf (Elt F) (ob.view.loc (c : Thread nD τ))) (t : Fin 32) (n : Fin 3584) :
    (outSrc ob s).view.read (Elt F) f (ix2 t n) = ob.view.read (Elt F) f (ix3 s t n) := by
  have e : Shape.reshapeEquiv (s := S1x32x3584) (s' := S32x3584) (squeezes_S1x32x3584_S32x3584.numel_eq) (ix2 t n) = ix3 0 t n := by
    apply Shape.reshapeEquiv_eq_of_rowMajor
    rw [Shape.rowMajor_val_three, Shape.rowMajor_val_two]
    show (0 * 32 + t.val) * 3584 + n.val = t.val * 3584 + n.val
    omega
  show ob.view.read (Elt F) f ((Rect.unit (s := S2x32x3584) ![s.val, 0, 0] S1x32x3584.size (slot_inb s)).emb (Shape.reshapeEquiv _ (ix2 t n))) = _
  rw [e]
  refine congrArg (ob.view.read (Elt F) f) (funext fun a => Fin.ext ?_)
  fin_cases a
  · rfl
  · show 0 + 1 * t.val = t.val; omega
  · show 0 + 1 * n.val = n.val; omega

theorem wp_outStart (i : BitVec 32) (hi : i.toNat < 48) (K : P F) :
    iprop(On c ob (slotSet ob s) (ObAt d ⟨i.toNat, hi⟩ s 14) ∗ Hd c (dstB out ⟨i.toNat, hi⟩) (fun _ => True) ∗ semVal ((c : Thread nD τ), SemLoc.dma (outSem sems s).sem) 0)
      ⊢ iprop((Fl c d out ob sems s ⟨i.toNat, hi⟩ -∗ W c K Q) -∗ W c (outStart ob hob out hout sems s i hi K) Q) := by
  rw [← outDst_eq]
  unfold On Hd On
  iintro ⟨⟨%fs, %hs, Hs⟩, ⟨%fd, %hd, Hd⟩, Hv⟩ Hk
  unfold outStart
  iapply (Transfers.wp_dmaLocal EC Variants.none (c : Thread nD τ) none (src := outSrc ob s) (dst := outDst out i hi) (via := .same) (fs := fs) (fd := fd)
    () (credit out) rfl (View.dmaCredit_pos _ (by decide)) (Finset.Subset.refl _)) $$ [Hs Hd Hv]
  · isplitl [Hs]; · iexact Hs
    isplitl [Hd] <;> iassumption
  iintro Hf
  iapply Hk
  unfold Fl
  iapply (Transfers.Flight_mono EC (c : Thread nD τ) ?_) $$ Hf
  rw [← outDst_eq]
  iintro ⟨Hd, Hs⟩
  unfold Hd On
  isplitl [Hd]
  · iexists _; isplitr [Hd]
    · ipureintro
      intro j t l
      rw [View.read_write_univ]
      exact (read_slot c s fs t _).trans (hs j t l j.isLt)
    · iexact Hd
  · iexists fs; isplitr
    · ipureintro; trivial
    · iexact Hs

theorem wp_outWait (b : Fin 48) (i : BitVec 32) (hi : i.toNat < 48) (Wt : Waits sig Unit) (K : P F) :
    iprop(Fl c d out ob sems s b ∗ owes (c : Thread nD τ) 0 Wt)
      ⊢ iprop((iprop(Hd c (dstB out b) (OutAt d b) ∗ On c ob (slotSet ob s) (fun _ => True) ∗ semVal ((c : Thread nD τ), SemLoc.dma (outSem sems s).sem) 0
            ∗ ∃ Wt', owes (c : Thread nD τ) 0 Wt') -∗ W c K Q)
        -∗ W c (outWait ob hob out hout sems s i hi K) Q) := by
  iintro H Hk
  unfold outWait Fl
  iapply (Transfers.wp_waitLocal EC Variants.none (c : Thread nD τ) none (sem := (outSem sems s).sem) (srcw := outSrc ob s) (dstw := outDst out i hi)
    (hsrc := (hob.wordExact_slice rfl _ (slot_words s)).reshape _ _) (hdst := hout.wordExact_slice rfl _ (oOff_words i hi)) () (N := credit out) rfl) $$ H
  iintro ⟨⟨Hd, Hs⟩, Hv, Ho⟩
  iapply Hk
  isplitl [Hd]; · iexact Hd
  isplitl [Hs]; · iexact Hs
  isplitl [Hv]; · iexact Hv
  iexists _; iexact Ho

end

end Cert.Hand
-- ==== Proof.Shape0.lean ====
/- The printed loop body is its two halves in the first trip. -/
module

public import proofs.«01_k».proof.Proof.ShapeCond

@[expose] public section

noncomputable section

namespace Cert.Hand

open Cert.KernelIdeal Cert.KernelIdeal.Gen
open Idealize.ShloMosaic Idealize.SL.Sem

variable {F : FTy → Type} [FloatOps F]

set_option maxRecDepth 1000000 in
set_option maxHeartbeats 40000000 in
/-- A trip of the loop is its two halves, in the first trip. -/
theorem body_eq0 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : k.val = 0) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : k0_cond1 k = 1#1 := (cond1_iff k).2 (by omega)
  have h4 : k0_cond4 k = 1#1 := (cond4_iff k).2 (by omega)
  have h3 : ¬ k0_cond3 k = 1#1 := fun h => absurd hk ((cond3_iff k).1 h)
  have h6 : ¬ k0_cond6 k = 1#1 := fun h => absurd hk ((cond6_iff k).1 h)
  have h5 : k0_cond5 k = 1#1 := (cond5_iff k).2 (by omega)
  rw [issAt_0 k h1, issAt_1 k h4, lndAt_1 k h5, if_pos hk, if_pos hk]
  simp only [k0_t6_body, k0_part149, k0_part150, k0_part1, k0_part75, dif_pos h1, dif_pos h2, dif_neg h3, dif_pos h4, dif_pos h5, dif_neg h6, bind_assoc]
  exact rfl

end Cert.Hand
-- ==== Proof.Shape1.lean ====
/- The printed loop body is its two halves while tiles are started. -/
module

public import proofs.«01_k».proof.Proof.ShapeCond

@[expose] public section

noncomputable section

namespace Cert.Hand

open Cert.KernelIdeal Cert.KernelIdeal.Gen
open Idealize.ShloMosaic Idealize.SL.Sem

variable {F : FTy → Type} [FloatOps F]

set_option maxRecDepth 1000000 in
set_option maxHeartbeats 40000000 in
/-- A trip of the loop is its two halves, while tiles are started. -/
theorem body_eq1 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : k.val < 20) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : k0_cond1 k = 1#1 := (cond1_iff k).2 (by omega)
  have h4 : k0_cond4 k = 1#1 := (cond4_iff k).2 (by omega)
  have h3 : k0_cond3 k = 1#1 := (cond3_iff k).2 (by omega)
  have h6 : k0_cond6 k = 1#1 := (cond6_iff k).2 (by omega)
  have h5 : k0_cond5 k = 1#1 := (cond5_iff k).2 (by omega)
  rw [issAt_0 k h1, issAt_1 k h4, lndAt_1 k h5, if_neg (show ¬ k.val = 0 by omega), if_neg (show ¬ k.val = 0 by omega)]
  simp only [k0_t6_body, k0_part149, k0_part150, k0_part1, k0_part75, dif_pos h1, dif_pos h2, dif_pos h3, dif_pos h4, dif_pos h5, dif_pos h6, bind_assoc]
  exact rfl

end Cert.Hand
-- ==== Proof.Shape2.lean ====
/- The printed loop body is its two halves once all tiles are started. -/
module

public import proofs.«01_k».proof.Proof.ShapeCond

@[expose] public section

noncomputable section

namespace Cert.Hand

open Cert.KernelIdeal Cert.KernelIdeal.Gen
open Idealize.ShloMosaic Idealize.SL.Sem

variable {F : FTy → Type} [FloatOps F]

set_option maxRecDepth 1000000 in
set_option maxHeartbeats 40000000 in
/-- A trip of the loop is its two halves, once all tiles are started. -/
theorem body_eq2 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : ¬ k.val < 20) (hk2 : k.val < 23) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : ¬ k0_cond1 k = 1#1 := fun h => absurd ((cond1_iff k).1 h) (by omega)
  have h4 : ¬ k0_cond4 k = 1#1 := fun h => absurd ((cond4_iff k).1 h) (by omega)
  have h3 : k0_cond3 k = 1#1 := (cond3_iff k).2 (by omega)
  have h6 : k0_cond6 k = 1#1 := (cond6_iff k).2 (by omega)
  have h5 : k0_cond5 k = 1#1 := (cond5_iff k).2 (by omega)
  rw [issAt_0' k h1, issAt_1' k h4, lndAt_1 k h5, if_neg (show ¬ k.val = 0 by omega), if_neg (show ¬ k.val = 0 by omega)]
  simp only [k0_t6_body, k0_part149, k0_part150, k0_part1, k0_part75, dif_neg h1, dif_pos h2, dif_pos h3, dif_neg h4, dif_pos h5, dif_pos h6, bind_assoc]
  exact rfl

end Cert.Hand
-- ==== Proof.Shape3.lean ====
/- The printed loop body is its two halves in the last trip. -/
module

public import proofs.«01_k».proof.Proof.ShapeCond

@[expose] public section

noncomputable section

namespace Cert.Hand

open Cert.KernelIdeal Cert.KernelIdeal.Gen
open Idealize.ShloMosaic Idealize.SL.Sem

variable {F : FTy → Type} [FloatOps F]

set_option maxRecDepth 1000000 in
set_option maxHeartbeats 40000000 in
/-- A trip of the loop is its two halves, in the last trip. -/
theorem body_eq3 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : ¬ k.val < 20) (hk2 : ¬ k.val < 23) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : ¬ k0_cond1 k = 1#1 := fun h => absurd ((cond1_iff k).1 h) (by omega)
  have h4 : ¬ k0_cond4 k = 1#1 := fun h => absurd ((cond4_iff k).1 h) (by omega)
  have h3 : k0_cond3 k = 1#1 := (cond3_iff k).2 (by omega)
  have h6 : k0_cond6 k = 1#1 := (cond6_iff k).2 (by omega)
  have h5 : ¬ k0_cond5 k = 1#1 := fun h => absurd ((cond5_iff k).1 h) (by omega)
  rw [issAt_0' k h1, issAt_1' k h4, lndAt_1' k h5, if_neg (show ¬ k.val = 0 by omega), if_neg (show ¬ k.val = 0 by omega)]
  simp only [k0_t6_body, k0_part149, k0_part150, k0_part1, k0_part75, dif_neg h1, dif_pos h2, dif_pos h3, dif_neg h4, dif_neg h5, dif_pos h6, bind_assoc]
  exact rfl

end Cert.Hand
-- ==== Proof.Shape.lean ====
/- The printed loop body and kernel are the short programs. -/
module

public import proofs.«01_k».proof.Proof.Shape0
public import proofs.«01_k».proof.Proof.Shape1
public import proofs.«01_k».proof.Proof.Shape2
public import proofs.«01_k».proof.Proof.Shape3

@[expose] public section

noncomputable section

namespace Cert.Hand

open Cert.KernelIdeal Cert.KernelIdeal.Gen
open Idealize.ShloMosaic Idealize.SL.Sem

variable {F : FTy → Type} [FloatOps F]

section
variable (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2)

/-- A trip of the loop is its two halves. -/
theorem body_eq (c0 c1 : BitVec 32) (k : Fin k0_t6_loop.trips) (u : Unit) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  by_cases hk : k.val = 0
  · exact body_eq0 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk
  by_cases hk1 : k.val < 20
  · exact body_eq1 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1
  by_cases hk2 : k.val < 23
  · exact body_eq2 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1 hk2
  · exact body_eq3 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1 hk2

/-- The two halves of trip `k`, then `K`. -/
def trip (k : Fin k0_t6_loop.trips) (K : P F) : P F :=
  half arg5 arg1 arg2 arg3 arg4 harg4 arg6 arg7 arg8 arg9 harg9 arg10 arg11 arg12 arg13 harg13 arg15 arg0 arg14 0 k
    (half arg5 arg1 arg2 arg3 arg4 harg4 arg7 arg6 arg9 arg8 harg8 arg10 arg12 arg11 arg13 harg13 arg15 arg0 arg14 1 k K)

set_option maxRecDepth 1000000 in
set_option maxHeartbeats 40000000 in
/-- The kernel: the tiles of the first eight blocks started, those of the first waited for, it gathered, the loop, the
    last two copies waited for. -/
theorem kernel_eq :
    cc0_unpermute_combine (F := F) arg0 harg0 arg1 harg1 arg2 harg2 arg3 harg3 arg4 harg4 arg5 harg5 arg6 harg6 arg7 harg7 arg8 harg8 arg9 harg9 arg10 harg10 arg11 harg11 arg12 harg12 arg13 harg13 arg14 arg15
      = .bind (Scf.Loop.for k0_t1_loop k0_t1_ok ⟨⟩ fun k _ => issue arg0 arg5 arg3 arg14 (iss0 k) (.ret ⟨⟩)) fun _ =>
          land arg0 arg5 arg3 arg14 lnd0 <|
          gather arg5 arg1 arg2 arg3 arg6 arg8 harg8 arg10 arg11 0#32 (by decide) fun _ =>
          .bind (Scf.Loop.for k0_t6_loop k0_t6_ok ⟨⟩ fun k _ => trip (F := F) arg0 arg1 arg2 arg3 arg4 harg4 arg5 arg6 arg7 arg8 harg8 arg9 harg9 arg10 arg11 arg12 arg13 harg13 arg14 arg15 k (.ret ⟨⟩)) fun _ =>
          outWait arg13 harg13 arg4 harg4 arg15 0 46#32 (by decide) <| outWait arg13 harg13 arg4 harg4 arg15 1 47#32 (by decide) (.ret ⟨⟩) := by
  have e : ∀ c0 c1, k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 = fun k _ => trip (F := F) arg0 arg1 arg2 arg3 arg4 harg4 arg5 arg6 arg7 arg8 harg8 arg9 harg9 arg10 arg11 arg12 arg13 harg13 arg14 arg15 k (.ret ⟨⟩) :=
    fun c0 c1 => funext fun k => funext fun u => body_eq arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
  have e0 : cc0_unpermute_combine (F := F) arg0 harg0 arg1 harg1 arg2 harg2 arg3 harg3 arg4 harg4 arg5 harg5 arg6 harg6 arg7 harg7 arg8 harg8 arg9 harg9 arg10 harg10 arg11 harg11 arg12 harg12 arg13 harg13 arg14 arg15
      = .bind (Scf.Loop.for k0_t1_loop k0_t1_ok ⟨⟩ fun k _ => issue arg0 arg5 arg3 arg14 (iss0 k) (.ret ⟨⟩)) fun _ =>
          land arg0 arg5 arg3 arg14 lnd0 <|
          gather arg5 arg1 arg2 arg3 arg6 arg8 harg8 arg10 arg11 0#32 (by decide) fun _ =>
          .bind (Scf.Loop.for k0_t6_loop k0_t6_ok ⟨⟩ (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 0#32 1#32)) fun _ =>
          outWait arg13 harg13 arg4 harg4 arg15 0 46#32 (by decide) <| outWait arg13 harg13 arg4 harg4 arg15 1 47#32 (by decide) (.ret ⟨⟩) := by
    simp only [cc0_unpermute_combine, k0_part198, k0_part152, bind_assoc]
    unfold issue land readWord iss0 lnd0 tileStep readWord
    dsimp only
    exact rfl
  exact e0.trans (by simp only [e])
end

end Cert.Hand
-- ==== Proof.Run.lean ====
/- The kernel run: half a trip, the loop, the last two copies. -/
module

public import proofs.«01_k».proof.Proof.Combine
public import proofs.«01_k».proof.Proof.Shape
public import Idealize.SL.BI.BigOpNat

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} (d : In F)

theorem bn_blk (s : Fin 2) (k : Fin k0_t6_loop.trips) : (⟨(blk s k.val).toNat, blk_lt s k⟩ : Fin 48) = bn (2 * k.val + s.val) := by
  have hk : k.val < 24 := lt_of_lt_of_eq k.isLt trips_eq
  have h : (blk s k.val).toNat = 2 * k.val + s.val := blk_val s ⟨k.val, hk⟩
  have := s.isLt
  exact Fin.ext (by show (blk s k.val).toNat = min _ 47; omega)

theorem bn_nxt (s : Fin 2) (k : Fin k0_t6_loop.trips) : (⟨(nxt s k.val).toNat, nxt_lt s k⟩ : Fin 48) = bn (2 * k.val + s.val + 1) := by
  have hk : k.val < 24 := lt_of_lt_of_eq k.isLt trips_eq
  exact Fin.ext (nxt_val s ⟨k.val, hk⟩)

section
variable (codes : Memref sig .tc .vmem S2272x28x128 .i32) (srm : Memref sig .tc .vmem S9088x128 .f32)
  (pw : Memref sig .tc .vmem S1536x128 .f32) (tab : Memref sig .tc .smem S8x1536 .i32) (sg : Memref sig .tc .vmem S128x128 .f32)
  (comp : Memref sig .tc .vmem S1904x128 .i32) (p : Memref sig .tc .vmem S128x256 .fp8e4m3) (cf : Memref sig .tc .vmem S128x128 .f32)
  (out : Memref sig .tc .hbm S1536x3584 .bf16) (ob : Memref sig .tc .vmem S2x32x3584 .bf16) (sems : DmaSems sig S2)
  (words : Memref sig .tc .hbm S2272x28x128 .i32) (tsems : DmaSems sig S48)

/-- The operands held, of the quads' words the tiles of the blocks below `nl`, and the scale rows' scratch. -/
def Ops (nl : ℕ) : sProp 𝕄 :=
  iprop(Landed c d words codes tsems nl ∗ Hd c srm (· = d.srm) ∗ Hd c pw (· = d.pw) ∗ Hd c tab (· = d.tab) ∗ Hd c sg (fun _ => True))
/-- Block `b` gathered. -/
def Gath (b : Fin 48) : sProp 𝕄 := iprop(Hd c comp (CompAt d b 64) ∗ Hd c p (· = d.pV b) ∗ Hd c cf (· = d.cfV b))
/-- The gather's buffers held at any contents. -/
def Free : sProp 𝕄 := iprop(Hd c comp (fun _ => True) ∗ Hd c p (fun _ => True) ∗ Hd c cf (fun _ => True))
/-- Slot `s` of the output buffer not in use. -/
def Slot (s : Fin 2) : sProp 𝕄 := iprop(On c ob (slotSet ob s) (fun _ => True) ∗ semVal ((c : Thread nD τ), SemLoc.dma (outSem sems s).sem) 0)
/-- Slot `s` before trip `k`: not in use at first, then its last copy under way. -/
def SlotSt (s : Fin 2) : ℕ → sProp 𝕄
  | 0 => Slot c ob sems s
  | k + 1 => Fl c d out ob sems s (bn (2 * k + s.val))
/-- Blocks from `n` on not yet written. -/
def Todo (n : ℕ) : sProp 𝕄 := bigSep (Finset.Ico n 48) fun b => Hd c (dstB out (bn b)) (fun _ => True)
/-- Blocks below `n` written. -/
def Done (n : ℕ) : sProp 𝕄 := bigSep (Finset.Ico 0 n) fun b => Hd c (dstB out (bn b)) (OutAt d (bn b))
end

section
variable {codes : Memref sig .tc .vmem S2272x28x128 .i32} {srm : Memref sig .tc .vmem S9088x128 .f32}
  {pw : Memref sig .tc .vmem S1536x128 .f32} {tab : Memref sig .tc .smem S8x1536 .i32} {out : Memref sig .tc .hbm S1536x3584 .bf16} {hout : out.IsWhole}
  {compa compb : Memref sig .tc .vmem S1904x128 .i32} {pa pb : Memref sig .tc .vmem S128x256 .fp8e4m3} {hpa : pa.IsWhole} {hpb : pb.IsWhole}
  {sg cfa cfb : Memref sig .tc .vmem S128x128 .f32} {ob : Memref sig .tc .vmem S2x32x3584 .bf16} {hob : ob.IsWhole} {sems : DmaSems sig S2}
  {words : Memref sig .tc .hbm S2272x28x128 .i32} {tsems : DmaSems sig S48} {d}

/-- A block gathered. -/
theorem wp_gath (hd : d.Good) (nl : ℕ) (i : BitVec 32) (hi : i.toNat < 48) (hn : i.toNat < nl) (K : P F) :
    iprop(Ops c d codes srm pw tab sg words tsems nl ∗ Free c compa pa cfa)
      ⊢ iprop((iprop(Ops c d codes srm pw tab sg words tsems nl ∗ Gath c d compa pa cfa ⟨i.toNat, hi⟩) -∗ W c K Q)
        -∗ W c (gather codes srm pw tab compa pa hpa sg cfa i hi fun _ => K) Q) := by
  unfold Ops Free Gath
  iintro ⟨⟨Hc, Hr, Hw, Ht, Hs⟩, Hx, Hp, Hf⟩ Hk
  iapply (wp_gather c i hi hd nl hn _) $$ [Hc Hr Hw Ht Hs Hx Hp Hf]
  · isplitl [Hc]; · iexact Hc
    isplitl [Hr]; · iexact Hr
    isplitl [Hw]; · iexact Hw
    isplitl [Ht]; · iexact Ht
    isplitl [Hx]; · iexact Hx
    isplitl [Hs]; · iexact Hs
    isplitl [Hp] <;> iassumption
  iintro ⟨Hc, Hr, Hw, Ht, Hx, Hs, Hp, Hf⟩
  iapply Hk
  isplitl [Hc Hr Hw Ht Hs]
  · isplitl [Hc]; · iexact Hc
    isplitl [Hr]; · iexact Hr
    isplitl [Hw]; · iexact Hw
    isplitl [Ht] <;> iassumption
  isplitl [Hx]; · iexact Hx
  isplitl [Hp] <;> iassumption

theorem todo_succ {n : ℕ} (h : n < 48) : Todo (F := F) c out n = iprop(Hd c (dstB out (bn n)) (fun _ => True) ∗ Todo c out (n + 1)) :=
  bigSep_Ico_succ_bot h _

theorem done_succ (n : ℕ) : Done c d out (n + 1) = iprop(Hd c (dstB out (bn n)) (OutAt d (bn n)) ∗ Done c d out n) := by
  unfold Done
  rw [bigSep_Ico_succ_top (Nat.zero_le n)]

theorem slotSt_succ (s : Fin 2) (k : ℕ) : SlotSt c d out ob sems s (k + 1) = Fl c d out ob sems s (bn (2 * k + s.val)) := rfl

/-- Half a trip after its wait. -/
theorem wp_rest (hd : d.Good) (nl : ℕ) (s : Fin 2) (k : Fin k0_t6_loop.trips) (hl : min (2 * k.val + s.val + 1) 47 < nl) (K : P F) :
    iprop(Ops c d codes srm pw tab sg words tsems nl ∗ Gath c d compa pa cfa (bn (2 * k.val + s.val)) ∗ Free c compb pb cfb ∗ Slot c ob sems s ∗ Todo c out (2 * k.val + s.val))
      ⊢ iprop((iprop(Ops c d codes srm pw tab sg words tsems nl ∗ Free c compa pa cfa ∗ Gath c d compb pb cfb (bn (2 * k.val + s.val + 1))
            ∗ SlotSt c d out ob sems s (k.val + 1) ∗ Todo c out (2 * k.val + s.val + 1)) -∗ W c K Q)
        -∗ W c (rest codes srm pw tab out hout compa compb pa pb hpb sg cfa cfb ob hob sems s k K) Q) := by
  have hk : k.val < 24 := lt_of_lt_of_eq k.isLt trips_eq
  have hs := s.isLt
  have hn : 2 * k.val + s.val < 48 := by omega
  rw [todo_succ c hn, slotSt_succ]
  iintro ⟨Ho, Hg, Hf, Hs, Ht, Hts⟩ Hk
  unfold rest
  iapply (wp_gath c hd nl (nxt s k.val) (nxt_lt s k) (by rw [show (nxt s k.val).toNat = min (2 * k.val + s.val + 1) 47 from nxt_val s ⟨k.val, hk⟩]; exact hl) _) $$ [Ho Hf]
  · isplitl [Ho] <;> iassumption
  rw [bn_nxt]
  iintro ⟨Ho, Hgb⟩
  unfold Gath Slot
  icases Hg with ⟨Hc, Hp, Hcf⟩
  icases Hs with ⟨Hob, Hv⟩
  iapply (wp_combine c (bn (2 * k.val + s.val)) s _) $$ [Hc Hp Hcf Hob]
  · isplitl [Hc]; · iexact Hc
    isplitl [Hp]; · iexact Hp
    isplitl [Hcf] <;> iassumption
  iintro ⟨Hc, Hp, Hcf, Hob⟩
  rw [← bn_blk]
  iapply (wp_outStart c s (blk s k.val) (blk_lt s k) K) $$ [Hob Ht Hv]
  · isplitl [Hob]; · iexact Hob
    isplitl [Ht] <;> iassumption
  rw [bn_blk]
  iintro Hfl
  iapply Hk
  isplitl [Ho]; · iexact Ho
  isplitl [Hc Hp Hcf]
  · unfold Free
    isplitl [Hc]; · iexact Hc
    isplitl [Hp] <;> iassumption
  isplitl [Hgb]; · iexact Hgb
  isplitl [Hfl]; · iexact Hfl
  iexact Hts

/-- Half a trip once the next block's tiles are here. -/
theorem wp_half0 (hd : d.Good) (nl : ℕ) (s : Fin 2) (k : Fin k0_t6_loop.trips) (hl : min (2 * k.val + s.val + 1) 47 < nl) (K : P F) :
    iprop(Ops c d codes srm pw tab sg words tsems nl ∗ Gath c d compa pa cfa (bn (2 * k.val + s.val)) ∗ Free c compb pb cfb ∗ SlotSt c d out ob sems s k.val
        ∗ Todo c out (2 * k.val + s.val) ∗ Done c d out (2 * k.val + s.val - 2) ∗ Idle c)
      ⊢ iprop((iprop(Ops c d codes srm pw tab sg words tsems nl ∗ Free c compa pa cfa ∗ Gath c d compb pb cfb (bn (2 * k.val + s.val + 1))
            ∗ SlotSt c d out ob sems s (k.val + 1) ∗ Todo c out (2 * k.val + s.val + 1) ∗ Done c d out (2 * k.val + s.val + 1 - 2) ∗ Idle c) -∗ W c K Q)
        -∗ W c (half0 codes srm pw tab out hout compa compb pa pb hpb sg cfa cfb ob hob sems s k K) Q) := by
  have hs := s.isLt
  unfold half0
  by_cases h0 : k.val = 0
  · rw [if_pos h0]
    have e1 : 2 * k.val + s.val - 2 = 0 := by omega
    have e2 : 2 * k.val + s.val + 1 - 2 = 0 := by omega
    have e3 : SlotSt c d out ob sems s k.val = Slot c ob sems s := by rw [h0]; rfl
    rw [e1, e2, e3]
    iintro ⟨Ho, Hg, Hf, Hs, Ht, Hd, Hi⟩ Hk
    iapply (wp_rest c hd nl s k hl K) $$ [Ho Hg Hf Hs Ht]
    · isplitl [Ho]; · iexact Ho
      isplitl [Hg]; · iexact Hg
      isplitl [Hf]; · iexact Hf
      isplitl [Hs] <;> iassumption
    iintro ⟨Ho, Hf, Hg, Hs, Ht⟩
    iapply Hk
    isplitl [Ho]; · iexact Ho
    isplitl [Hf]; · iexact Hf
    isplitl [Hg]; · iexact Hg
    isplitl [Hs]; · iexact Hs
    isplitl [Ht]; · iexact Ht
    isplitl [Hd] <;> iassumption
  · rw [if_neg h0]
    have e1 : 2 * k.val + s.val + 1 - 2 = 2 * k.val + s.val - 2 + 1 := by omega
    have e3 : SlotSt c d out ob sems s k.val = Fl c d out ob sems s (bn (2 * k.val + s.val - 2)) := by
      obtain ⟨j, hj⟩ := Nat.exists_eq_succ_of_ne_zero h0
      rw [hj, show 2 * j.succ + s.val - 2 = 2 * j + s.val by omega]; rfl
    rw [e1, e3, done_succ]
    unfold Idle
    iintro ⟨Ho, Hg, Hf, Hs, Ht, Hd, %Wt, Hi⟩ Hk
    iapply (wp_outWait c s _ (blk s k.val) (blk_lt s k) Wt _) $$ [Hs Hi]
    · isplitl [Hs] <;> iassumption
    iintro ⟨Hb, Hob, Hv, Hi⟩
    iapply (wp_rest c hd nl s k hl K) $$ [Ho Hg Hf Hob Hv Ht]
    · isplitl [Ho]; · iexact Ho
      isplitl [Hg]; · iexact Hg
      isplitl [Hf]; · iexact Hf
      isplitl [Hob Hv]
      · unfold Slot; isplitl [Hob] <;> iassumption
      iexact Ht
    iintro ⟨Ho, Hf, Hg, Hs, Ht⟩
    iapply Hk
    isplitl [Ho]; · iexact Ho
    isplitl [Hf]; · iexact Hf
    isplitl [Hg]; · iexact Hg
    isplitl [Hs]; · iexact Hs
    isplitl [Ht]; · iexact Ht
    isplitl [Hb Hd]
    · isplitl [Hb] <;> iassumption
    iexact Hi

/-- Half a trip. -/
theorem wp_half (hd : d.Good) (s : Fin 2) (k : Fin k0_t6_loop.trips) (K : P F) :
    iprop(Ops c d codes srm pw tab sg words tsems (min (2 * k.val + s.val + 1) 48) ∗ Ahead c d words codes tsems (min (2 * k.val + s.val + 1) 48) (min (2 * k.val + s.val + 8) 48)
        ∗ Gath c d compa pa cfa (bn (2 * k.val + s.val)) ∗ Free c compb pb cfb ∗ SlotSt c d out ob sems s k.val
        ∗ Todo c out (2 * k.val + s.val) ∗ Done c d out (2 * k.val + s.val - 2) ∗ Idle c)
      ⊢ iprop((iprop(Ops c d codes srm pw tab sg words tsems (min (2 * k.val + s.val + 2) 48) ∗ Ahead c d words codes tsems (min (2 * k.val + s.val + 2) 48) (min (2 * k.val + s.val + 9) 48)
            ∗ Free c compa pa cfa ∗ Gath c d compb pb cfb (bn (2 * k.val + s.val + 1))
            ∗ SlotSt c d out ob sems s (k.val + 1) ∗ Todo c out (2 * k.val + s.val + 1) ∗ Done c d out (2 * k.val + s.val + 1 - 2) ∗ Idle c) -∗ W c K Q)
        -∗ W c (half codes srm pw tab out hout compa compb pa pb hpb sg cfa cfb ob hob sems words tsems s k K) Q) := by
  have hk : k.val < 24 := lt_of_lt_of_eq k.isLt trips_eq
  have hs := s.isLt
  unfold half
  iintro ⟨Ho, Ha, Hg, Hf, Hs, Ht, Hd, Hi⟩ Hk
  unfold Ops
  icases Ho with ⟨Hc, Hr, Hw, Htab, Hsg⟩
  iapply (wp_issueO c hd s k (min (2 * k.val + s.val + 1) 48) (by omega) _) $$ [Htab Ha]
  · isplitl [Htab]; · iexact Htab
    iexact Ha
  iintro ⟨Htab, Ha⟩
  iapply (wp_landO c hd s k _) $$ [Htab Hc Ha Hi]
  · isplitl [Htab]; · iexact Htab
    isplitl [Hc]; · iexact Hc
    isplitl [Ha]; · iexact Ha
    iexact Hi
  iintro ⟨Htab, Hc, Ha, Hi⟩
  iapply (wp_half0 c hd (min (2 * k.val + s.val + 2) 48) s k (by omega) K) $$ [Hc Hr Hw Htab Hsg Hg Hf Hs Ht Hd Hi]
  · unfold Ops
    isplitl [Hc Hr Hw Htab Hsg]
    · isplitl [Hc]; · iexact Hc
      isplitl [Hr]; · iexact Hr
      isplitl [Hw]; · iexact Hw
      isplitl [Htab]; · iexact Htab
      iexact Hsg
    isplitl [Hg]; · iexact Hg
    isplitl [Hf]; · iexact Hf
    isplitl [Hs]; · iexact Hs
    isplitl [Ht]; · iexact Ht
    isplitl [Hd]; · iexact Hd
    iexact Hi
  unfold Ops
  iintro ⟨Ho, Hf, Hg, Hs, Ht, Hd, Hi⟩
  iapply Hk
  isplitl [Ho]; · iexact Ho
  isplitl [Ha]; · iexact Ha
  isplitl [Hf]; · iexact Hf
  isplitl [Hg]; · iexact Hg
  isplitl [Hs]; · iexact Hs
  isplitl [Ht]; · iexact Ht
  isplitl [Hd]; · iexact Hd
  iexact Hi

end

section
variable (arg0 : Memref sig .tc .hbm S2272x28x128 .i32) (harg0 : arg0.IsWhole) (arg1 : Memref sig .tc .vmem S9088x128 .f32) (harg1 : arg1.IsWhole)
  (arg2 : Memref sig .tc .vmem S1536x128 .f32) (harg2 : arg2.IsWhole) (arg3 : Memref sig .tc .smem S8x1536 .i32) (harg3 : arg3.IsWhole)
  (arg4 : Memref sig .tc .hbm S1536x3584 .bf16) (harg4 : arg4.IsWhole) (arg5 : Memref sig .tc .vmem S2272x28x128 .i32) (harg5 : arg5.IsWhole)
  (arg6 : Memref sig .tc .vmem S1904x128 .i32) (harg6 : arg6.IsWhole) (arg7 : Memref sig .tc .vmem S1904x128 .i32) (harg7 : arg7.IsWhole)
  (arg8 : Memref sig .tc .vmem S128x256 .fp8e4m3) (harg8 : arg8.IsWhole) (arg9 : Memref sig .tc .vmem S128x256 .fp8e4m3) (harg9 : arg9.IsWhole)
  (arg10 : Memref sig .tc .vmem S128x128 .f32) (harg10 : arg10.IsWhole) (arg11 : Memref sig .tc .vmem S128x128 .f32) (harg11 : arg11.IsWhole)
  (arg12 : Memref sig .tc .vmem S128x128 .f32) (harg12 : arg12.IsWhole) (arg13 : Memref sig .tc .vmem S2x32x3584 .bf16) (harg13 : arg13.IsWhole)
  (arg14 : DmaSems sig S48) (arg15 : DmaSems sig S2) {d}

variable (d) in
/-- The loop's state before trip `k`. -/
def Inv (k : ℕ) : sProp 𝕄 :=
  iprop(Ops c d arg5 arg1 arg2 arg3 arg10 arg0 arg14 (min (2 * k + 1) 48) ∗ Ahead c d arg0 arg5 arg14 (min (2 * k + 1) 48) (min (2 * k + 8) 48)
    ∗ Gath c d arg6 arg8 arg11 (bn (2 * k)) ∗ Free c arg7 arg9 arg12 ∗ SlotSt c d arg4 arg13 arg15 0 k ∗ SlotSt c d arg4 arg13 arg15 1 k
    ∗ Todo c arg4 (2 * k) ∗ Done c d arg4 (2 * k - 2) ∗ Idle c)

theorem wp_trip (hd : d.Good) (k : Fin k0_t6_loop.trips) (K : P F) :
    Inv c d arg0 arg1 arg2 arg3 arg4 arg5 arg6 arg7 arg8 arg9 arg10 arg11 arg12 arg13 arg14 arg15 k.val
      ⊢ iprop((Inv c d arg0 arg1 arg2 arg3 arg4 arg5 arg6 arg7 arg8 arg9 arg10 arg11 arg12 arg13 arg14 arg15 (k.val + 1) -∗ W c K Q)
        -∗ W c (trip arg0 arg1 arg2 arg3 arg4 harg4 arg5 arg6 arg7 arg8 harg8 arg9 harg9 arg10 arg11 arg12 arg13 harg13 arg14 arg15 k K) Q) := by
  unfold Inv trip
  iintro ⟨Ho, Ha, Hg, Hf, Hs, Hs1, Ht, Hd, Hi⟩ Hk
  iapply (wp_half c hd 0 k _) $$ [Ho Ha Hg Hf Hs Ht Hd Hi]
  · isplitl [Ho]; · iexact Ho
    isplitl [Ha]; · iexact Ha
    isplitl [Hg]; · iexact Hg
    isplitl [Hf]; · iexact Hf
    isplitl [Hs]; · iexact Hs
    isplitl [Ht]; · iexact Ht
    isplitl [Hd]; · iexact Hd
    iexact Hi
  iintro ⟨Ho, Ha, Hf, Hg, Hs, Ht, Hd, Hi⟩
  iapply (wp_half c hd 1 k _) $$ [Ho Ha Hg Hf Hs1 Ht Hd Hi]
  · isplitl [Ho]; · iexact Ho
    isplitl [Ha]; · iexact Ha
    isplitl [Hg]; · iexact Hg
    isplitl [Hf]; · iexact Hf
    isplitl [Hs1]; · iexact Hs1
    isplitl [Ht]; · iexact Ht
    isplitl [Hd]; · iexact Hd
    iexact Hi
  iintro ⟨Ho, Ha, Hf, Hg, Hs1, Ht, Hd, Hi⟩
  iapply Hk
  isplitl [Ho]; · iexact Ho
  isplitl [Ha]; · iexact Ha
  isplitl [Hg]; · iexact Hg
  isplitl [Hf]; · iexact Hf
  isplitl [Hs]; · iexact Hs
  isplitl [Hs1]; · iexact Hs1
  isplitl [Ht]; · iexact Ht
  isplitl [Hd]; · iexact Hd
  iexact Hi

theorem wp_tripE (hd : d.Good) (k : Fin k0_t6_loop.trips) :
    Inv c d arg0 arg1 arg2 arg3 arg4 arg5 arg6 arg7 arg8 arg9 arg10 arg11 arg12 arg13 arg14 arg15 k.val
      ⊢ W c (trip arg0 arg1 arg2 arg3 arg4 harg4 arg5 arg6 arg7 arg8 harg8 arg9 harg9 arg10 arg11 arg12 arg13 harg13 arg14 arg15 k (.ret ⟨⟩))
        (fun _ => Inv c d arg0 arg1 arg2 arg3 arg4 arg5 arg6 arg7 arg8 arg9 arg10 arg11 arg12 arg13 arg14 arg15 (k.val + 1)) := by
  iintro H
  iapply (wp_trip c arg0 arg1 arg2 arg3 arg4 harg4 arg5 arg6 arg7 arg8 harg8 arg9 harg9 arg10 arg11 arg12 arg13 harg13 arg14 arg15 hd k (.ret ⟨⟩)) $$ H
  iintro H
  iapply (ret_intro c)
  iexact H

theorem done_zero {R : sProp 𝕄} : R ⊢ iprop(Done c d arg4 0 ∗ R) := by
  have h : Done c d arg4 0 = iprop(emp) := by unfold Done; rw [Finset.Ico_self]; rfl
  rw [h]; exact BI.emp_sep.2

theorem slotSt_zero {s : Fin 2} : Slot c arg13 arg15 s ⊢ SlotSt c d arg4 arg13 arg15 s 0 := Entails.refl _

theorem done_two : iprop(Hd c (dstB arg4 (bn 47)) (OutAt d (bn 47)) ∗ Hd c (dstB arg4 (bn 46)) (OutAt d (bn 46)) ∗ Done c d arg4 46) ⊢ Done c d arg4 48 := by
  rw [show Done c d arg4 48 = _ from done_succ c 47, show Done c d arg4 47 = _ from done_succ c 46]

theorem gath_free {b : Fin 48} : Gath c d arg6 arg8 arg11 b ⊢ Free c arg6 arg8 arg11 := by
  unfold Gath Free
  iintro ⟨Hc, Hp, Hf⟩
  isplitl [Hc]; · iapply (on_mono c (fun _ _ => trivial)) $$ Hc
  isplitl [Hp]; · iapply (on_mono c (fun _ _ => trivial)) $$ Hp
  iapply (on_mono c (fun _ _ => trivial)) $$ Hf

theorem todo_end : Todo (F := F) c arg4 48 = iprop(emp) := by
  unfold Todo; rw [Finset.Ico_self]; rfl

/-- A trip of the first loop. -/
theorem wp_first (hd : d.Good) (k : Fin k0_t1_loop.trips) :
    iprop(Hd c arg3 (· = d.tab) ∗ Ahead c d arg0 arg5 arg14 0 k.val)
      ⊢ W c (issue arg0 arg5 arg3 arg14 (iss0 k) (.ret ⟨⟩)) (fun _ => iprop(Hd c arg3 (· = d.tab) ∗ Ahead c d arg0 arg5 arg14 0 (k.val + 1))) := by
  have hk : k.val < 8 := lt_of_lt_of_eq k.isLt (by decide)
  iintro H
  iapply (wp_issueNext c hd (Nat.zero_le _) (by omega) (iss0 k) (iss0_for k _ (by show min k.val 47 = k.val; omega)) (.ret ⟨⟩)) $$ H
  iintro H
  iapply (ret_intro c)
  iexact H

/-- The kernel run. -/
theorem wp_kernel (hd : d.Good) :
    iprop(Ops c d arg5 arg1 arg2 arg3 arg10 arg0 arg14 0 ∗ Ahead c d arg0 arg5 arg14 0 0 ∗ Free c arg6 arg8 arg11 ∗ Free c arg7 arg9 arg12 ∗ Slot c arg13 arg15 0 ∗ Slot c arg13 arg15 1 ∗ Todo c arg4 0 ∗ Idle c)
      ⊢ W c (cc0_unpermute_combine arg0 harg0 arg1 harg1 arg2 harg2 arg3 harg3 arg4 harg4 arg5 harg5 arg6 harg6 arg7 harg7 arg8 harg8 arg9 harg9 arg10 harg10 arg11 harg11 arg12 harg12 arg13 harg13 arg14 arg15)
        (fun _ => iprop(Ops c d arg5 arg1 arg2 arg3 arg10 arg0 arg14 48 ∗ Free c arg6 arg8 arg11 ∗ Free c arg7 arg9 arg12 ∗ Slot c arg13 arg15 0 ∗ Slot c arg13 arg15 1 ∗ Done c d arg4 48 ∗ Idle c)) := by
  rw [kernel_eq]
  iintro ⟨Ho, Ha, Hf, Hf1, Hs, Hs1, Ht, Hi⟩
  unfold Ops
  icases Ho with ⟨Hc, Hr, Hw, Htab, Hsg⟩
  iapply (wp_loop c k0_t1_loop k0_t1_ok (fun k _ => issue arg0 arg5 arg3 arg14 (iss0 k) (.ret ⟨⟩)) (fun k => iprop(Hd c arg3 (· = d.tab) ∗ Ahead c d arg0 arg5 arg14 0 k))
    (fun k => wp_first c arg0 arg3 arg5 arg14 hd k) _) $$ [Htab Ha]
  · isplitl [Htab]; · iexact Htab
    iexact Ha
  rw [show k0_t1_loop.trips = 8 by decide]
  iintro ⟨Htab, Ha⟩
  iapply (wp_landNext c hd (show 0 < 8 by decide) lnd0 lnd0_for _) $$ [Htab Hc Ha Hi]
  · isplitl [Htab]; · iexact Htab
    isplitl [Hc]; · iexact Hc
    isplitl [Ha]; · iexact Ha
    iexact Hi
  iintro ⟨Htab, Hc, Ha, Hi⟩
  iapply (wp_gath c hd 1 0#32 (show (0#32).toNat < 48 from by decide) (by decide) _) $$ [Hc Hr Hw Htab Hsg Hf]
  · unfold Ops
    isplitr [Hf]
    · isplitl [Hc]; · iexact Hc
      isplitl [Hr]; · iexact Hr
      isplitl [Hw]; · iexact Hw
      isplitl [Htab]; · iexact Htab
      iexact Hsg
    iexact Hf
  iintro ⟨Ho, Hg⟩
  iapply (wp_loop c k0_t6_loop k0_t6_ok (fun k _ => trip arg0 arg1 arg2 arg3 arg4 harg4 arg5 arg6 arg7 arg8 harg8 arg9 harg9 arg10 arg11 arg12 arg13 harg13 arg14 arg15 k (.ret ⟨⟩)) (fun k => Inv c d arg0 arg1 arg2 arg3 arg4 arg5 arg6 arg7 arg8 arg9 arg10 arg11 arg12 arg13 arg14 arg15 k)
    (fun k => wp_tripE c arg0 arg1 arg2 arg3 arg4 harg4 arg5 arg6 arg7 arg8 harg8 arg9 harg9 arg10 arg11 arg12 arg13 harg13 arg14 arg15 hd k) _) $$ [Ho Ha Hg Hf1 Hs Hs1 Ht Hi]
  · unfold Inv
    isplitl [Ho]; · iexact Ho
    isplitl [Ha]; · iexact Ha
    isplitl [Hg]; · iexact Hg
    isplitl [Hf1]; · iexact Hf1
    isplitl [Hs]; · iapply (slotSt_zero c) $$ Hs
    isplitl [Hs1]; · iapply (slotSt_zero c) $$ Hs1
    isplitl [Ht]; · iexact Ht
    iapply (done_zero c) $$ Hi
  rw [show k0_t6_loop.trips = 23 + 1 from trips_eq]
  unfold Inv
  rw [slotSt_succ, slotSt_succ, todo_end]
  unfold Idle
  iintro ⟨Ho, -, Hg, Hf, Hs, Hs1, -, Hd, %Wt, Hi⟩
  iapply (wp_outWait c 0 _ 46#32 (show (46#32).toNat < 48 from by decide) Wt _) $$ [Hs Hi]
  · isplitl [Hs]; · iexact Hs
    iexact Hi
  iintro ⟨Hb, Hob, Hv, %Wt', Hi⟩
  iapply (wp_outWait c 1 _ 47#32 (show (47#32).toNat < 48 from by decide) Wt' _) $$ [Hs1 Hi]
  · isplitl [Hs1]; · iexact Hs1
    iexact Hi
  iintro ⟨Hb1, Hob1, Hv1, Hi⟩
  iapply (ret_intro c)
  isplitl [Ho]; · unfold Ops; iexact Ho
  isplitl [Hg]; · iapply (gath_free c) $$ Hg
  isplitl [Hf]; · iexact Hf
  isplitl [Hob Hv]
  · unfold Slot; isplitl [Hob] <;> iassumption
  isplitl [Hob1 Hv1]
  · unfold Slot; isplitl [Hob1] <;> iassumption
  isplitl [Hb Hb1 Hd]
  · iapply (done_two c)
    isplitl [Hb1]; · iexact Hb1
    isplitl [Hb] <;> iassumption
  iexact Hi
end

end Cert.Hand
-- ==== Proof.Launch.lean ====
/- The launch: from the buffers as the program holds them to the kernel run's operands and back. -/
module

public import proofs.«01_k».proof.Proof.Run
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Ring

@[expose] public section

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The result array. -/
abbrev mOut : Memref sig .tc .hbm S1536x3584 .bf16 := Memref.whole main_v3
/-- The output buffer. -/
abbrev mOb : Memref sig .tc .vmem S2x32x3584 .bf16 := Memref.whole cc0_scratch8
/-- All quads' words, as the program keeps them, -/
abbrev mWords : Memref sig .tc .hbm S2272x28x128 .i32 := Memref.whole main_v2
/-- and those copied. -/
abbrev mCodes : Memref sig .tc .vmem S2272x28x128 .i32 := Memref.whole cc0_scratch0

/-! ## Blocks of the result, slots of the output buffer -/

/-- The elements of block `b`. -/
def outSet (b : Fin 48) : Finset (Idx (mOut.view.loc (c : Thread nD τ))) := (dstB mOut b).view.set

theorem mem_outSet {b : Fin 48} {y : S1536x3584.Idx} : (y : Idx (mOut.view.loc (c : Thread nD τ))) ∈ outSet c b ↔ (y 0).val / 32 = b.val := by
  unfold outSet
  constructor
  · intro h
    obtain ⟨x, -, hx⟩ := Finset.mem_map.mp h
    have h0 : (y 0).val = 32 * b.val + 1 * (x 0).val := by rw [← hx]; rfl
    have := (x 0).isLt
    have : (x 0).val < 32 := this
    omega
  · intro h
    refine Finset.mem_map.mpr ⟨ix2 ⟨(y 0).val % 32, Nat.mod_lt _ (by decide)⟩ (y 1), Finset.mem_univ _, ?_⟩
    refine Shape.idx_ext₂ ?_ ?_
    · show 32 * b.val + 1 * ((y 0).val % 32) = (y 0).val; omega
    · show 0 + 1 * (y 1).val = (y 1).val; omega

theorem outSet_disjoint (b b' : Fin 48) (h : b ≠ b') : Disjoint (outSet c b) (outSet c b') :=
  Finset.disjoint_left.mpr fun _ h1 h2 => h (Fin.ext (((mem_outSet c).mp h1).symm.trans ((mem_outSet c).mp h2)))

theorem outSet_cover : Finset.univ.biUnion (outSet c) = Finset.univ :=
  Finset.eq_univ_of_forall fun y => Finset.mem_biUnion.mpr
    ⟨⟨((y : S1536x3584.Idx) 0).val / 32, Nat.div_lt_of_lt_mul ((y : S1536x3584.Idx) 0).isLt⟩, Finset.mem_univ _, (mem_outSet c).mpr rfl⟩

/-- The elements of slot `s`. -/
def obSet (s : Fin 2) : Finset (Idx (mOb.view.loc (c : Thread nD τ))) := slotSet mOb s

theorem mem_obSet {s : Fin 2} {y : S2x32x3584.Idx} : (y : Idx (mOb.view.loc (c : Thread nD τ))) ∈ obSet c s ↔ (y 0).val = s.val := by
  have e : obSet c s = (Rect.unit (s := S2x32x3584) ![s.val, 0, 0] S1x32x3584.size (slot_inb s)).set.map mOb.view.emb :=
    (View.set_reshape _ _).trans (View.set_slice _ _)
  rw [e]
  constructor
  · intro h
    obtain ⟨x, hx, hy⟩ := Finset.mem_map.mp h
    rw [← Rect.map_emb_univ, Finset.mem_map] at hx
    obtain ⟨z, -, hz⟩ := hx
    have h0 : (y 0).val = s.val + 1 * (z 0).val := by rw [← hy, ← hz]; rfl
    have : (z 0).val < 1 := (z 0).isLt
    omega
  · intro h
    refine Finset.mem_map.mpr ⟨y, ?_, rfl⟩
    rw [← Rect.map_emb_univ, Finset.mem_map]
    refine ⟨ix3 0 (y 1) (y 2), Finset.mem_univ _, ?_⟩
    funext a
    refine Fin.ext ?_
    fin_cases a
    · show s.val + 1 * 0 = (y 0).val; omega
    · show 0 + 1 * (y 1).val = (y 1).val; omega
    · show 0 + 1 * (y 2).val = (y 2).val; omega

theorem obSet_disjoint (b b' : Fin 2) (h : b ≠ b') : Disjoint (obSet c b) (obSet c b') :=
  Finset.disjoint_left.mpr fun _ h1 h2 => h (Fin.ext (((mem_obSet c).mp h1).symm.trans ((mem_obSet c).mp h2)))

theorem obSet_cover : Finset.univ.biUnion (obSet c) = Finset.univ :=
  Finset.eq_univ_of_forall fun y => Finset.mem_biUnion.mpr ⟨(y : S2x32x3584.Idx) 0, Finset.mem_univ _, (mem_obSet c).mpr rfl⟩

/-! ## Tiles -/

/-- The elements of tile `T` of the words. -/
def wSet (T : Fin 284) : Finset (Idx (mWords.view.loc (c : Thread nD τ))) := (tileOf mWords T).view.set

theorem mem_wSet {T : Fin 284} {y : S2272x28x128.Idx} : (y : Idx (mWords.view.loc (c : Thread nD τ))) ∈ wSet c T ↔ (y 0).val / 8 = T.val := by
  have e : wSet c T = (Rect.unit (s := S2272x28x128) ![8 * T.val, 0, 0] S8x28x128.size (tile_inb T)).set.map mWords.view.emb := View.set_slice _ _
  rw [e]
  constructor
  · intro h
    obtain ⟨x, hx, hy⟩ := Finset.mem_map.mp h
    rw [← Rect.map_emb_univ, Finset.mem_map] at hx
    obtain ⟨z, -, hz⟩ := hx
    have h0 : (y 0).val = 8 * T.val + 1 * (z 0).val := by rw [← hy, ← hz]; rfl
    have : (z 0).val < 8 := (z 0).isLt
    omega
  · intro h
    refine Finset.mem_map.mpr ⟨y, ?_, rfl⟩
    rw [← Rect.map_emb_univ, Finset.mem_map]
    refine ⟨ix3 ⟨(y 0).val % 8, Nat.mod_lt _ (by decide)⟩ (y 1) (y 2), Finset.mem_univ _, ?_⟩
    funext a
    refine Fin.ext ?_
    fin_cases a
    · show 8 * T.val + 1 * ((y 0).val % 8) = (y 0).val; omega
    · show 0 + 1 * (y 1).val = (y 1).val; omega
    · show 0 + 1 * (y 2).val = (y 2).val; omega

theorem wSet_disjoint (b b' : Fin 284) (h : b ≠ b') : Disjoint (wSet c b) (wSet c b') :=
  Finset.disjoint_left.mpr fun _ h1 h2 => h (Fin.ext (((mem_wSet c).mp h1).symm.trans ((mem_wSet c).mp h2)))

theorem wSet_cover : Finset.univ.biUnion (wSet c) = Finset.univ :=
  Finset.eq_univ_of_forall fun y => Finset.mem_biUnion.mpr
    ⟨⟨((y : S2272x28x128.Idx) 0).val / 8, Nat.div_lt_of_lt_mul ((y : S2272x28x128.Idx) 0).isLt⟩, Finset.mem_univ _, (mem_wSet c).mpr rfl⟩

/-- The elements of tile `T` of the copies. -/
def cSet (T : Fin 284) : Finset (Idx (mCodes.view.loc (c : Thread nD τ))) := (tileOf mCodes T).view.set

theorem mem_cSet {T : Fin 284} {y : S2272x28x128.Idx} : (y : Idx (mCodes.view.loc (c : Thread nD τ))) ∈ cSet c T ↔ (y 0).val / 8 = T.val := by
  have e : cSet c T = (Rect.unit (s := S2272x28x128) ![8 * T.val, 0, 0] S8x28x128.size (tile_inb T)).set.map mCodes.view.emb := View.set_slice _ _
  rw [e]
  constructor
  · intro h
    obtain ⟨x, hx, hy⟩ := Finset.mem_map.mp h
    rw [← Rect.map_emb_univ, Finset.mem_map] at hx
    obtain ⟨z, -, hz⟩ := hx
    have h0 : (y 0).val = 8 * T.val + 1 * (z 0).val := by rw [← hy, ← hz]; rfl
    have : (z 0).val < 8 := (z 0).isLt
    omega
  · intro h
    refine Finset.mem_map.mpr ⟨y, ?_, rfl⟩
    rw [← Rect.map_emb_univ, Finset.mem_map]
    refine ⟨ix3 ⟨(y 0).val % 8, Nat.mod_lt _ (by decide)⟩ (y 1) (y 2), Finset.mem_univ _, ?_⟩
    funext a
    refine Fin.ext ?_
    fin_cases a
    · show 8 * T.val + 1 * ((y 0).val % 8) = (y 0).val; omega
    · show 0 + 1 * (y 1).val = (y 1).val; omega
    · show 0 + 1 * (y 2).val = (y 2).val; omega

theorem cSet_disjoint (b b' : Fin 284) (h : b ≠ b') : Disjoint (cSet c b) (cSet c b') :=
  Finset.disjoint_left.mpr fun _ h1 h2 => h (Fin.ext (((mem_cSet c).mp h1).symm.trans ((mem_cSet c).mp h2)))

theorem cSet_cover : Finset.univ.biUnion (cSet c) = Finset.univ :=
  Finset.eq_univ_of_forall fun y => Finset.mem_biUnion.mpr
    ⟨⟨((y : S2272x28x128.Idx) 0).val / 8, Nat.div_lt_of_lt_mul ((y : S2272x28x128.Idx) 0).isLt⟩, Finset.mem_univ _, (mem_cSet c).mpr rfl⟩

/-! ## Whole buffers -/

theorem whole_hd (b : Ref sig .tc) : iprop(∃ f : Buf (Elt F) ((c : Thread nD τ).loc b), ((c : Thread nD τ).loc b) ↦{fullShare} f) ⊢ Hd (F := F) c (Memref.whole b) (fun _ => True) := by
  unfold Hd On
  rw [show (Memref.whole b).view.set = Finset.univ from View.set_whole b]
  iintro ⟨%f, H⟩
  iexists f
  isplitr
  · ipureintro; trivial
  · iexact H

theorem hd_whole (b : Ref sig .tc) (Φ) : Hd (F := F) c (Memref.whole b) Φ ⊢ iprop(∃ f : Buf (Elt F) ((c : Thread nD τ).loc b), ((c : Thread nD τ).loc b) ↦{fullShare} f) := by
  unfold Hd On
  rw [show (Memref.whole b).view.set = Finset.univ from View.set_whole b]
  iintro ⟨%f, -, H⟩
  iexists f
  iexact H

theorem two_split (Φ : Fin 2 → sProp 𝕄) : bigSep Finset.univ Φ = iprop(Φ 0 ∗ Φ 1) := bigSep_univ_eq_bigSepL [0, 1] (by decide) (by decide) Φ

/-- The output buffer is its two slots, -/
theorem ob_split : iprop(∃ f : Buf (Elt F) ((c : Thread nD τ).loc cc0_scratch8), ((c : Thread nD τ).loc cc0_scratch8) ↦{fullShare} f)
    ⊢ iprop(On (F := F) c mOb (slotSet mOb 0) (fun _ => True) ∗ On c mOb (slotSet mOb 1) (fun _ => True)) := by
  have h : ∀ f : Buf (Elt F) ((c : Thread nD τ).loc cc0_scratch8), (((c : Thread nD τ).loc cc0_scratch8) ↦{fullShare} f : sProp 𝕄)
      = iprop((mOb.view.loc (c : Thread nD τ) ↦[obSet c 0]{fullShare} f) ∗ (mOb.view.loc (c : Thread nD τ) ↦[obSet c 1]{fullShare} f)) :=
    fun f => (Ring.pointsTo_blocks (ℓ := mOb.view.loc (c : Thread nD τ)) (obSet c) (obSet_disjoint c) (obSet_cover c) f).trans (two_split _)
  simp only [h]
  unfold On
  iintro ⟨%f, H, H'⟩
  isplitl [H]
  · iexists f; isplitr
    · ipureintro; trivial
    · iexact H
  · iexists f; isplitr
    · ipureintro; trivial
    · iexact H'

/-- and its two slots are the output buffer. -/
theorem ob_join : iprop(On (F := F) c mOb (slotSet mOb 0) (fun _ => True) ∗ On c mOb (slotSet mOb 1) (fun _ => True))
    ⊢ iprop(∃ f : Buf (Elt F) ((c : Thread nD τ).loc cc0_scratch8), ((c : Thread nD τ).loc cc0_scratch8) ↦{fullShare} f) := by
  unfold On
  iintro ⟨⟨%f, -, H⟩, ⟨%g, -, H'⟩⟩
  iapply (Ring.pointsTo_blocks_join_exists (ℓ := mOb.view.loc (c : Thread nD τ)) (obSet c) (obSet_disjoint c) (obSet_cover c) f)
  rw [two_split]
  isplitl [H]
  · iexists f; iexact H
  · iexists g; iexact H'

/-! ## The result -/

variable (d : In F)

/-- The result, entry by entry. -/
def In.res (y : S1536x3584.Idx) : Elt F .bf16 :=
  d.out ⟨(y 0).val / 32, Nat.div_lt_of_lt_mul (y 0).isLt⟩ ⟨(y 1).val / 256, Nat.div_lt_of_lt_mul (y 1).isLt⟩ ⟨(y 0).val % 32, Nat.mod_lt _ (by decide)⟩ ⟨(y 1).val % 256, Nat.mod_lt _ (by decide)⟩

theorem bn_val (b : Fin 48) : bn b.val = b := Fin.ext (by show min b.val 47 = b.val; omega)

theorem ico_univ (Φ : ℕ → sProp 𝕄) : bigSep (Finset.Ico 0 48) Φ = bigSep (Finset.univ : Finset (Fin 48)) fun b => Φ b.val := by
  have h : Finset.Ico 0 48 = (Finset.univ : Finset (Fin 48)).map ⟨Fin.val, Fin.val_injective⟩ := by decide
  rw [h, bigSep_map]
  rfl

theorem todo_split (f : Buf (Elt F) ((c : Thread nD τ).loc main_v3)) : (((c : Thread nD τ).loc main_v3) ↦{fullShare} f : sProp 𝕄) ⊢ Todo c mOut 0 := by
  unfold Todo
  rw [ico_univ]
  refine (Entails.of_eq (Ring.pointsTo_blocks (ℓ := mOut.view.loc (c : Thread nD τ)) (outSet c) (outSet_disjoint c) (outSet_cover c) f)).trans ?_
  refine bigSep_mono fun b _ => ?_
  rw [bn_val]
  unfold Hd On
  show _ ⊢ (_ : sProp 𝕄)
  iintro H
  iexists f
  isplitr
  · ipureintro; trivial
  · iexact H

theorem done_join : Done c d mOut 48 ⊢ (((c : Thread nD τ).loc main_v3) ↦{fullShare} (d.res : Buf (Elt F) ((c : Thread nD τ).loc main_v3)) : sProp 𝕄) := by
  unfold Done
  rw [ico_univ]
  refine BIBase.Entails.trans ?_ (Entails.of_eq (Ring.pointsTo_blocks (ℓ := mOut.view.loc (c : Thread nD τ)) (outSet c) (outSet_disjoint c) (outSet_cover c) d.res).symm)
  refine bigSep_mono fun b _ => ?_
  rw [bn_val]
  unfold Hd On
  show _ ⊢ (_ : sProp 𝕄)
  iintro ⟨%f, %hf, H⟩
  rw [← pointsTo_congr (f := f) (g := (d.res : Buf (Elt F) (mOut.view.loc (c : Thread nD τ)))) (I := outSet c b) ?_]
  · iexact H
  intro y hy
  have hb := (mem_outSet c (y := y)).mp hy
  have h1 : ((y : S1536x3584.Idx) 1).val < 3584 := ((y : S1536x3584.Idx) 1).isLt
  have := hf ⟨((y : S1536x3584.Idx) 1).val / 256, Nat.div_lt_of_lt_mul h1⟩ ⟨((y : S1536x3584.Idx) 0).val % 32, Nat.mod_lt _ (by decide)⟩ ⟨((y : S1536x3584.Idx) 1).val % 256, Nat.mod_lt _ (by decide)⟩
  refine Eq.trans ?_ (this.trans ?_)
  · show f y = f _
    refine congrArg f (Shape.idx_ext₂ ?_ ?_)
    · show (y 0).val = 32 * b.val + 1 * ((y 0).val % 32); omega
    · show (y 1).val = 0 + 1 * (256 * ((y 1).val / 256) + (y 1).val % 256); omega
  · show _ = d.out _ _ _ _
    congr 1
    exact Fin.ext hb.symm

/-! ## The tiles, those that are copied and the others -/

/-- The words are their tiles, -/
theorem words_split : (((c : Thread nD τ).loc main_v2) ↦{fullShare} (d.codes : Buf (Elt F) ((c : Thread nD τ).loc main_v2)) : sProp 𝕄)
    ⊢ bigSep (Finset.univ : Finset (Fin 284)) fun T => Hd c (tileOf mWords T) (· = d.tileX T) := by
  refine (Entails.of_eq (Ring.pointsTo_blocks (ℓ := mWords.view.loc (c : Thread nD τ)) (wSet c) (wSet_disjoint c) (wSet_cover c) d.codes)).trans ?_
  refine bigSep_mono fun T _ => ?_
  unfold Hd On
  show _ ⊢ (_ : sProp 𝕄)
  iintro H
  iexists (d.codes : Buf (Elt F) (mWords.view.loc (c : Thread nD τ)))
  isplitr
  · ipureintro
    funext x
    show d.codes _ = d.codes _
    refine congrArg d.codes (funext fun a => Fin.ext ?_)
    fin_cases a
    · show 8 * T.val + 1 * (x 0).val = 8 * T.val + (x 0).val; omega
    · show 0 + 1 * (x 1).val = (x 1).val; omega
    · show 0 + 1 * (x 2).val = (x 2).val; omega
  · iexact H

/-- and their tiles are the words. -/
theorem words_join : (bigSep (Finset.univ : Finset (Fin 284)) fun T => Hd c (tileOf mWords T) (· = d.tileX T))
    ⊢ (((c : Thread nD τ).loc main_v2) ↦{fullShare} (d.codes : Buf (Elt F) ((c : Thread nD τ).loc main_v2)) : sProp 𝕄) := by
  refine BIBase.Entails.trans ?_ (Entails.of_eq (Ring.pointsTo_blocks (ℓ := mWords.view.loc (c : Thread nD τ)) (wSet c) (wSet_disjoint c) (wSet_cover c) d.codes).symm)
  refine bigSep_mono fun T _ => ?_
  unfold Hd On
  show _ ⊢ (_ : sProp 𝕄)
  iintro ⟨%f, %hf, H⟩
  rw [← pointsTo_congr (f := f) (g := (d.codes : Buf (Elt F) (mWords.view.loc (c : Thread nD τ)))) (I := wSet c T) ?_]
  · iexact H
  intro y hy
  have hb := (mem_wSet c (y := y)).mp hy
  have := congrFun hf (ix3 ⟨((y : S2272x28x128.Idx) 0).val % 8, Nat.mod_lt _ (by decide)⟩ ((y : S2272x28x128.Idx) 1) ((y : S2272x28x128.Idx) 2))
  refine Eq.trans ?_ (this.trans ?_)
  · show f y = f _
    refine congrArg f (funext fun a => Fin.ext ?_)
    fin_cases a
    · show (y 0).val = 8 * T.val + 1 * ((y 0).val % 8); omega
    · show (y 1).val = 0 + 1 * (y 1).val; omega
    · show (y 2).val = 0 + 1 * (y 2).val; omega
  · show d.codes _ = d.codes y
    refine congrArg d.codes (funext fun a => Fin.ext ?_)
    fin_cases a
    · show 8 * T.val + (y 0).val % 8 = (y 0).val; omega
    · rfl
    · rfl

/-- The copies likewise, -/
theorem codes_split : iprop(∃ f : Buf (Elt F) ((c : Thread nD τ).loc cc0_scratch0), ((c : Thread nD τ).loc cc0_scratch0) ↦{fullShare} f)
    ⊢ bigSep (Finset.univ : Finset (Fin 284)) fun T => Hd (F := F) c (tileOf mCodes T) (fun _ => True) := by
  iintro ⟨%f, H⟩
  have h : (((c : Thread nD τ).loc cc0_scratch0) ↦{fullShare} f : sProp 𝕄) ⊢ bigSep (Finset.univ : Finset (Fin 284)) fun T => Hd (F := F) c (tileOf mCodes T) (fun _ => True) := by
    refine (Entails.of_eq (Ring.pointsTo_blocks (ℓ := mCodes.view.loc (c : Thread nD τ)) (cSet c) (cSet_disjoint c) (cSet_cover c) f)).trans ?_
    refine bigSep_mono fun T _ => ?_
    unfold Hd On
    show _ ⊢ (_ : sProp 𝕄)
    iintro H
    iexists f
    isplitr
    · ipureintro; trivial
    · iexact H
  iapply h $$ H

/-- and back. -/
theorem codes_join : (bigSep (Finset.univ : Finset (Fin 284)) fun T => Hd (F := F) c (tileOf mCodes T) (fun _ => True))
    ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := mCodes.view.loc (c : Thread nD τ)) (cSet c) (cSet_disjoint c) (cSet_cover c) ((fun _ => (0#32 : BitVec 32)) : S2272x28x128.Idx → BitVec 32))
  refine bigSep_mono fun T _ => ?_
  unfold Hd On
  show _ ⊢ (_ : sProp 𝕄)
  iintro ⟨%f, -, H⟩
  iexists f
  iexact H

/-- The tiles that are copied. -/
def used : Finset (Fin 284) := Finset.univ.biUnion fun b : Fin 48 => Finset.univ.image fun j : Fin (d.cnt b) => d.tl b j.val

variable {d} in
theorem tl_once (hd : d.Good) {b b' : Fin 48} (j : Fin (d.cnt b)) (j' : Fin (d.cnt b')) (e : d.tl b j.val = d.tl b' j'.val) : b = b' ∧ j.val = j'.val := by
  have a := tl_val hd b ⟨j.val, lt_of_lt_of_le j.isLt (hd.cnt b)⟩ j.isLt
  have a' := tl_val hd b' ⟨j'.val, lt_of_lt_of_le j'.isLt (hd.cnt b')⟩ j'.isLt
  obtain ⟨x, y⟩ := hd.once b b' ⟨j.val, lt_of_lt_of_le j.isLt (hd.cnt b)⟩ ⟨j'.val, lt_of_lt_of_le j'.isLt (hd.cnt b')⟩ j.isLt j'.isLt
    (BitVec.eq_of_toNat_eq (a.symm.trans ((congrArg Fin.val e).trans a')))
  exact ⟨x, congrArg Fin.val y⟩

variable {d} in
theorem used_eq (hd : d.Good) (Φ : Fin 284 → sProp 𝕄) :
    bigSep (used d) Φ = bigSep (Finset.univ : Finset (Fin 48)) fun b => bigSep (Finset.univ : Finset (Fin (d.cnt b))) fun j => Φ (d.tl b j.val) := by
  unfold used
  rw [bigSep_biUnion_eq]
  · exact bigSep_congr fun b _ => bigSep_image_of_injOn (fun j _ j' _ e => Fin.ext (tl_once hd j j' e).2) Φ
  · intro b _ b' _ h
    refine Finset.disjoint_left.mpr fun T h1 h2 => h ?_
    obtain ⟨j, -, hj⟩ := Finset.mem_image.mp h1
    obtain ⟨j', -, hj'⟩ := Finset.mem_image.mp h2
    exact (tl_once hd j j' (hj.trans hj'.symm)).1

/-- Some tiles and all the others. -/
theorem tiles_sdiff {s t : Finset (Fin 284)} (h : t ⊆ s) {Φ : Fin 284 → sProp 𝕄} : bigSep s Φ = iprop(bigSep t Φ ∗ bigSep (s \ t) Φ) :=
  bigSep_sdiff_split h

/-- The blocks' semaphores, each at zero. -/
def TSems : sProp 𝕄 := bigSep (Finset.univ : Finset (Fin 48)) fun b => semVal ((c : Thread nD τ), tsem cc0_scratch9 b) 0
/-- The tiles that are not copied. -/
def Others : sProp 𝕄 := bigSep (Finset.univ \ used d) (FreeT c d mWords mCodes)

variable {d} in
/-- Words and copies at the start: the tiles that are not copied, and every block's tiles not copied yet. -/
theorem tiles_in (hd : d.Good) : iprop((((c : Thread nD τ).loc main_v2) ↦{fullShare} (d.codes : Buf (Elt F) ((c : Thread nD τ).loc main_v2)))
      ∗ (∃ f : Buf (Elt F) ((c : Thread nD τ).loc cc0_scratch0), ((c : Thread nD τ).loc cc0_scratch0) ↦{fullShare} f) ∗ TSems c)
    ⊢ iprop(Others c d ∗ Ahead c d mWords mCodes cc0_scratch9 0 0) := by
  have h : iprop((bigSep (Finset.univ : Finset (Fin 284)) fun T => Hd c (tileOf mWords T) (· = d.tileX T)) ∗ (bigSep (Finset.univ : Finset (Fin 284)) fun T => Hd (F := F) c (tileOf mCodes T) (fun _ => True)))
      ⊢ iprop((bigSep (Finset.univ : Finset (Fin 48)) fun b => bigSep (Finset.univ : Finset (Fin (d.cnt b))) fun j => FreeT c d mWords mCodes (d.tl b j.val)) ∗ Others c d) := by
    unfold Others
    rw [← used_eq hd (FreeT c d mWords mCodes), ← tiles_sdiff (Finset.subset_univ (used d)), ← bigSep_sep']
    exact BIBase.Entails.rfl
  iintro ⟨Hw, Hc, Hs⟩
  ihave Hw := (words_split c d) $$ Hw
  ihave Hc := (codes_split c) $$ Hc
  icases h $$ [Hw Hc] with ⟨Hp, Ho⟩
  · isplitl [Hw]; · iexact Hw
    iexact Hc
  isplitl [Ho]; · iexact Ho
  unfold Ahead TSems
  rw [Finset.Ico_self, bigSep_empty, ico_univ]
  simp only [bn_val]
  unfold Pend
  rw [bigSep_sep']
  isplitr
  · iempintro
  isplitl [Hp]; · iexact Hp
  iexact Hs

theorem here_free (T : Fin 284) : HereT c d mWords mCodes T ⊢ FreeT c d mWords mCodes T := by
  unfold HereT FreeT
  iintro ⟨H, H'⟩
  isplitl [H]; · iexact H
  iapply (on_mono c (fun _ _ => trivial)) $$ H'

variable {d} in
/-- And at the end, with every block's tiles copied. -/
theorem tiles_out (hd : d.Good) : iprop(Others c d ∗ Landed c d mWords mCodes cc0_scratch9 48)
    ⊢ iprop((((c : Thread nD τ).loc main_v2) ↦{fullShare} (d.codes : Buf (Elt F) ((c : Thread nD τ).loc main_v2)))
      ∗ (∃ f : Buf (Elt F) ((c : Thread nD τ).loc cc0_scratch0), ((c : Thread nD τ).loc cc0_scratch0) ↦{fullShare} f) ∗ TSems c) := by
  have h : iprop((bigSep (Finset.univ : Finset (Fin 48)) fun b => bigSep (Finset.univ : Finset (Fin (d.cnt b))) fun j => FreeT c d mWords mCodes (d.tl b j.val)) ∗ Others c d)
      ⊢ iprop((bigSep (Finset.univ : Finset (Fin 284)) fun T => Hd c (tileOf mWords T) (· = d.tileX T)) ∗ (bigSep (Finset.univ : Finset (Fin 284)) fun T => Hd (F := F) c (tileOf mCodes T) (fun _ => True))) := by
    unfold Others
    rw [← used_eq hd (FreeT c d mWords mCodes), ← tiles_sdiff (Finset.subset_univ (used d)), ← bigSep_sep']
    exact BIBase.Entails.rfl
  have h' : (bigSep (Finset.univ : Finset (Fin 48)) fun b => bigSep (Finset.univ : Finset (Fin (d.cnt b))) fun j => HereT c d mWords mCodes (d.tl b j.val))
      ⊢ (bigSep (Finset.univ : Finset (Fin 48)) fun b => bigSep (Finset.univ : Finset (Fin (d.cnt b))) fun j => FreeT c d mWords mCodes (d.tl b j.val)) :=
    bigSep_mono fun b _ => bigSep_mono fun j _ => here_free c d _
  unfold Landed TSems
  rw [ico_univ]
  simp only [bn_val]
  unfold Here
  rw [bigSep_sep']
  iintro ⟨Ho, Hp, Hs⟩
  ihave Hp := h' $$ Hp
  icases h $$ [Hp Ho] with ⟨Hw, Hc⟩
  · isplitl [Hp]; · iexact Hp
    iexact Ho
  isplitl [Hw]; · iapply (words_join c d) $$ Hw
  isplitl [Hc]; · iapply (codes_join c) $$ Hc
  iexact Hs

/-! ## The run -/

variable (m : (ℓ : Loc nD τ sig) → Buf (Elt F) ℓ) (ρ : Dev nD → PrngReg)

/-- The unscoped buffer the body writes itself. -/
def R0 : Finset (Ref sig .tc) := {main_v3}
/-- The unscoped buffer it reads itself. -/
def H0 : Finset (Ref sig .tc) := {main_v2}

theorem H0_sub : H0 ⊆ Pipeline.restRefs sig spec0 := by decide
theorem R0_sub : R0 ⊆ Pipeline.restRefs sig spec0 \ H0 := by decide

theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The body's semaphores: one per block, then the two of the output buffer. -/
abbrev osem0 : Fin 50 → SemLoc sig := fun j => SemLoc.dma ⟨3 + j.val, by show 3 + j.val < 53; omega⟩
theorem ownSemFacts0 : Pipeline.OwnSemFacts spec0 osem0 := by decide
theorem tsem_eq : ∀ b : Fin 48, tsem cc0_scratch9 b = osem0 ⟨b.val, by omega⟩ := by decide
theorem ownSems00_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma 51) 0 ∗ semVal ((c : Thread nD τ), SemLoc.dma 52) 0 ∗ TSems c) := by
  have h : (Finset.univ : Finset (Fin 50)) = insert 48 (insert 49 ((Finset.univ : Finset (Fin 48)).map ⟨fun b => (⟨b.val, by omega⟩ : Fin 50), fun b b' e => Fin.ext (by have h := congrArg Fin.val e; exact h)⟩)) := by decide
  unfold Pipeline.ownSems0 TSems
  rw [h, bigSep_insert (by decide), bigSep_insert (by decide), bigSep_map]
  have e : (bigSep (Finset.univ : Finset (Fin 48)) fun b => (semVal ((c : Thread nD τ), tsem cc0_scratch9 b) 0 : sProp 𝕄))
      = bigSep (Finset.univ : Finset (Fin 48)) fun b => semVal ((c : Thread nD τ), osem0 ⟨b.val, by omega⟩) 0 := bigSep_congr fun b _ => by rw [tsem_eq]
  rw [e]
  rfl

/-- The operands as the region finds them. -/
def ops (c : Dev nD) : In F where
  codes := V m c main_v2
  srm := iblk m c 0 t0_0
  pw := iblk m c 1 t0_0
  tab := iblk m c 2 t0_0

/-- The buffers at the end: the result written. -/
def G (c : Dev nD) (b : Ref sig .tc) : Buf (Elt F) ((c : Thread nD τ).loc b) :=
  if h : b = main_v3 then h ▸ ((ops m c).res : Buf (Elt F) ((c : Thread nD τ).loc main_v3)) else V m c b

theorem G_out : G m c main_v3 = (ops m c).res := dif_pos rfl

theorem routed_eq (W : (b : Ref sig .tc) → Buf (Elt F) ((c : Thread nD τ).loc b)) :
    (Pipeline.routed R0 c W : sProp 𝕄) = (((c : Thread nD τ).loc main_v3) ↦{fullShare} W main_v3) := by
  unfold Pipeline.routed R0; rw [bigSep_singleton]

theorem phi_eq (W : (c : Dev nD) → (b : Ref sig .tc) → Buf (Elt F) ((c : Thread nD τ).loc b)) :
    (Pipeline.ΦDRG osem0 spec0 H0 R0 (V m) W c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f)
            ∗ (∃ f : Buf (Elt F) ((c : Thread nD τ).loc cc0_scratch4), ((c : Thread nD τ).loc cc0_scratch4) ↦{fullShare} f)
            ∗ (∃ f : Buf (Elt F) ((c : Thread nD τ).loc cc0_scratch5), ((c : Thread nD τ).loc cc0_scratch5) ↦{fullShare} f)
            ∗ (∃ f : Buf (Elt F) ((c : Thread nD τ).loc cc0_scratch6), ((c : Thread nD τ).loc cc0_scratch6) ↦{fullShare} f)
            ∗ (∃ f : Buf (Elt F) ((c : Thread nD τ).loc cc0_scratch7), ((c : Thread nD τ).loc cc0_scratch7) ↦{fullShare} f)
            ∗ (∃ f : Buf (Elt F) ((c : Thread nD τ).loc cc0_scratch8), ((c : Thread nD τ).loc cc0_scratch8) ↦{fullShare} f))
          ∗ (∃ r, prngReg c r)
          ∗ iprop(semVal ((c : Thread nD τ), SemLoc.dma 51) 0 ∗ semVal ((c : Thread nD τ), SemLoc.dma 52) 0 ∗ TSems c)
          ∗ (((c : Thread nD τ).loc main_v2) ↦{fullShare} V m c main_v2) ∗ (((c : Thread nD τ).loc main_v3) ↦{fullShare} W c main_v3)) := by
  rw [Pipeline.ΦDRG_eq, scopedRest0_eq, ownSems00_eq, routed_eq]
  unfold H0
  rw [bigSep_singleton]

/-- The proof data of the one region. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRG osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Pipeline.Dat.blockOf iblk; rw [A_eq]; try rfl) t d).trans
    (by unfold Pipeline.Dat.fetched Pipeline.Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Pipeline.Dat.blockOf iblk; rw [A_eq]; try rfl) t d).trans
    (by unfold Pipeline.Dat.fetched Pipeline.Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Pipeline.Dat.blockOf iblk; rw [A_eq]; try rfl) t d).trans
    (by unfold Pipeline.Dat.fetched Pipeline.Dat.blockOf iblk; rw [A_eq]; try rfl)
theorem held_idle (t : Fin (cfg0.N + 1)) : (dats m 0 c).owesAt () t ⊢ Idle (F := F) c := by
  unfold Pipeline.Dat.owesAt Pipeline.owesWithin Idle
  rw [show (dats m 0 c).owed t = 0 from rfl]
  iintro ⟨%W, -, H⟩
  iexists W
  iexact H

theorem idle_held (t : Fin (cfg0.N + 1)) : Idle (F := F) c ⊢ (dats m 0 c).owesAt () t := by
  unfold Pipeline.Dat.owesAt Pipeline.owesWithin Idle
  rw [show (dats m 0 c).owed t = 0 from rfl]
  iintro ⟨%W, H⟩
  iexists W
  isplitr
  · ipureintro; exact fun _ _ => Or.inl trivial
  · iexact H

theorem owns_hd {sp : Space} {s : Shape} {e : EltTy} (M : Memref sig .tc sp s e) (X : s.Idx → Elt F e) :
    owns (Val := Elt F) (c : Thread nD τ) M fullShare X = Hd c M (· = X) := rfl

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What the kernel leaves alone. -/
def Rest : sProp 𝕄 := iprop((∃ r, prngReg c r) ∗ Others c (ops m c))

variable {m} in
theorem enter (hg : ∀ c, (ops m c).Good) (t : Fin cfg0.N) : bodyPre c m t ⊢ iprop(Rest c m ∗ Ops c (ops m c) mCodes (st0_0 t) (st0_1 t) (st0_2 t) (Memref.whole cc0_scratch5) mWords cc0_scratch9 0 ∗ Ahead c (ops m c) mWords mCodes cc0_scratch9 0 0
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Todo c mOut 0 ∗ Idle c) := by
  obtain rfl := fin_N0 t
  unfold bodyPre
  rw [show (dats m 0 c).Φ t0_0.castSucc = Pipeline.ΦDRG osem0 spec0 H0 R0 (V m) (V m) c from rfl, phi_eq]
  simp only [before0, before1, before2, owns_hd]
  unfold Ops Free Slot Rest Landed
  rw [Finset.Ico_self, bigSep_empty]
  iintro ⟨⟨⟨H0, H1, H2, H3, H4, H5, H6, H7, H8⟩, Hp, ⟨Hs0, Hs1, Hts⟩, Hv, Ho⟩, Hi, ⟨%d0, Hw0⟩, ⟨%d1, Hw1⟩, ⟨%d2, Hw2⟩⟩
  icases (tiles_in c (hg c)) $$ [Hv H0 Hts] with ⟨Hr, Ha⟩
  · isplitl [Hv]; · iexact Hv
    isplitl [H0]; · iexact H0
    iexact Hts
  isplitl [Hp Hr]
  · isplitl [Hp]; · iexact Hp
    iexact Hr
  isplitl [Hw0 Hw1 Hw2 H5]
  · isplitr; · iempintro
    isplitl [Hw0]; · iexact Hw0
    isplitl [Hw1]; · iexact Hw1
    isplitl [Hw2]; · iexact Hw2
    iapply (whole_hd c cc0_scratch5) $$ H5
  isplitl [Ha]; · iexact Ha
  isplitl [H1 H3 H6]
  · isplitl [H1]; · iapply (whole_hd c cc0_scratch1) $$ H1
    isplitl [H3]; · iapply (whole_hd c cc0_scratch3) $$ H3
    iapply (whole_hd c cc0_scratch6) $$ H6
  isplitl [H2 H4 H7]
  · isplitl [H2]; · iapply (whole_hd c cc0_scratch2) $$ H2
    isplitl [H4]; · iapply (whole_hd c cc0_scratch4) $$ H4
    iapply (whole_hd c cc0_scratch7) $$ H7
  ihave ⟨Ha, Hb⟩ := (ob_split c) $$ H8
  isplitl [Ha Hs0]; · isplitl [Ha]; · iexact Ha
                      iexact Hs0
  isplitl [Hb Hs1]; · isplitl [Hb]; · iexact Hb
                      iexact Hs1
  isplitl [Ho]; · iapply (todo_split c) $$ Ho
  iapply (held_idle c m t0_0.castSucc) $$ Hi

variable {m} in
theorem leave (hg : ∀ c, (ops m c).Good) (t : Fin cfg0.N) : iprop(Rest c m ∗ Ops c (ops m c) mCodes (st0_0 t) (st0_1 t) (st0_2 t) (Memref.whole cc0_scratch5) mWords cc0_scratch9 48
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Done c (ops m c) mOut 48 ∗ Idle c) ⊢ bodyPost c m t := by
  obtain rfl := fin_N0 t
  unfold bodyPost
  rw [show (dats m 0 c).Φ t0_0.succ = Pipeline.ΦDRG osem0 spec0 H0 R0 (V m) (G m) c from rfl, phi_eq, G_out]
  simp only [after0, after1, after2, owns_hd]
  unfold Ops Free Slot Rest
  iintro ⟨⟨Hp, Hr⟩, ⟨Hl, Hw0, Hw1, Hw2, H5⟩, ⟨H1, H3, H6⟩, ⟨H2, H4, H7⟩, ⟨Ha, Hs0⟩, ⟨Hb, Hs1⟩, Ho, Hi⟩
  icases (tiles_out c (hg c)) $$ [Hr Hl] with ⟨Hv, H0, Hts⟩
  · isplitl [Hr]; · iexact Hr
    iexact Hl
  isplitl [Hp H0 H1 H2 H3 H4 H5 H6 H7 Ha Hb Hs0 Hs1 Hts Hv Ho]
  · isplitl [H0 H1 H2 H3 H4 H5 H6 H7 Ha Hb]
    · isplitl [H0]; · iexact H0
      isplitl [H1]; · iapply (hd_whole c cc0_scratch1 _) $$ H1
      isplitl [H2]; · iapply (hd_whole c cc0_scratch2 _) $$ H2
      isplitl [H3]; · iapply (hd_whole c cc0_scratch3 _) $$ H3
      isplitl [H4]; · iapply (hd_whole c cc0_scratch4 _) $$ H4
      isplitl [H5]; · iapply (hd_whole c cc0_scratch5 _) $$ H5
      isplitl [H6]; · iapply (hd_whole c cc0_scratch6 _) $$ H6
      isplitl [H7]; · iapply (hd_whole c cc0_scratch7 _) $$ H7
      iapply (ob_join c)
      isplitl [Ha]; · iexact Ha
      iexact Hb
    isplitl [Hp]; · iexact Hp
    isplitl [Hs0 Hs1 Hts]
    · isplitl [Hs0]; · iexact Hs0
      isplitl [Hs1]; · iexact Hs1
      iexact Hts
    isplitl [Hv]; · iexact Hv
    iapply (done_join c) $$ Ho
  isplitl [Hi]; · iapply (idle_held c m t0_0.succ) $$ Hi
  isplitl [Hw0]; · iexact Hw0
  isplitl [Hw1]; · iexact Hw1
  iexact Hw2

theorem wrap {p : Prog (TpuEff nD τ sig (Elt F) Λ₀ .tc) PUnit} {A B R X Y : sProp 𝕄} (e : X ⊢ iprop(R ∗ A)) (h : A ⊢ W c p (fun _ => B)) (l : iprop(R ∗ B) ⊢ Y) :
    X ⊢ W c p (fun _ => Y) := by
  refine e.trans (BIBase.Entails.trans ?_ (wp_mono _ _ _ fun _ => l))
  refine BIBase.Entails.trans ?_ (wp_frame_l _ _ _)
  iintro ⟨Hp, H⟩
  isplitl [Hp]; · iexact Hp
  iapply h $$ H

variable {m} in
theorem kernel_at (hg : ∀ c, (ops m c).Good) (t : Fin cfg0.N) :
    iprop(Ops c (ops m c) mCodes (st0_0 t) (st0_1 t) (st0_2 t) (Memref.whole cc0_scratch5) mWords cc0_scratch9 0 ∗ Ahead c (ops m c) mWords mCodes cc0_scratch9 0 0
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Todo c mOut 0 ∗ Idle c)
    ⊢ W c (bodyAt0 t) (fun _ => iprop(Ops c (ops m c) mCodes (st0_0 t) (st0_1 t) (st0_2 t) (Memref.whole cc0_scratch5) mWords cc0_scratch9 48
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Done c (ops m c) mOut 48 ∗ Idle c)) := by
  have h := wp_kernel c mWords (Memref.isWhole_whole _) (st0_0 t) (hstage0_0 0) (st0_1 t) (hstage0_1 0) (st0_2 t) (hstage0_2 0) mOut (Memref.isWhole_whole _) mCodes (Memref.isWhole_whole _)
    (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) mOb (Memref.isWhole_whole _) cc0_scratch9 cc0_scratch10 (hg c)
  set_option maxRecDepth 1000000 in exact h

variable {m} in
theorem sound_body (hg : ∀ c, (ops m c).Good) (t : Fin cfg0.N) :
    bodyPre c m t ⊢ wp frame (wpE (defs₀ (F := F)) Variants.none c none) Set.univ (bodyAt0 t) (fun _ => bodyPost c m t) :=
  wrap c (enter c hg t) (kernel_at c hg t) (leave c hg t)

theorem defs₀_row (t : Fin cfg0.N) : defs₀ (F := F) .tc cfg0.body (cfg0.bodyArgs t (cfg0.slots t)) = bodyAt0 t := by
  unfold defs₀; rw [Defs.onTc_tc]

variable {m} in
theorem body_obligation (hg : ∀ c, (ops m c).Good) : Pipeline.BodyObligation (dats (F := F) m 0 c) (defs₀ (F := F)) Variants.none () Set.univ := fun t => by
  rw [bigSep_W0, bigSep_W0, defs₀_row]
  exact triple_restated (sound_body c hg t) rfl .rfl fun _ => .rfl

variable {m} in
set_option backward.isDefEq.respectTransparency.types false in
theorem run_main (hg : ∀ c, (ops m c).Good) : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation c hg).loose) (hshare := fun c => (dats m 0 c).share_full fun _ => rfl)
    (howed := fun _ _ => rfl) (V := V m) (hmain := hmain' m) (hA := A_eq m) (G := G m)
    (hin := fun _ => .rfl) (hout := fun _ => .rfl)

variable {m} in
/-- The run: the result as stated, the arguments unchanged, every counter at zero. -/
theorem run (hg : ∀ c, (ops m c).Good) : θ_run defs (onTc (τ := τ) (main (F := F))) ⟨m, fun _ => 0, ρ⟩ (fun r => (∀ c : Dev nD,
      r.2.mem ((c.tc : Thread nD τ).loc main_v3) = (ops m c).res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v3 (by decide)).trans (G_out c m),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c)))⟩, h.2⟩) (run_main ρ hg)

end Cert.Hand
-- ==== Proof.Good.lean ====
/- The kernel's operands in terms of the program's arguments, and when its table is good. -/
module

public import proofs.«01_k».proof.Proof.Launch
public import proofs.«01_k».proof.Proof.Fit
public import Idealize.ShloMosaic.Lib.Pointwise.Index

@[expose] public section

noncomputable section

namespace Cert.Hand

open Cert.KernelIdeal Cert.KernelIdeal.Gen
open Idealize.ShloMosaic Idealize.ShloMosaic.TcCoe Idealize.SL.Sem

variable {F : FTy → Type} [FloatOps F]

theorem tok_first (b : Fin 48) (j : Fin 32) (h) : (⟨(tok b j).val / 32 * 32, h⟩ : Fin 1536) = tok b 0 :=
  Fin.ext (by show (b.val * 32 + j.val) / 32 * 32 = b.val * 32 + 0; omega)

/-- A block's count, as the table has it. -/
theorem cnt_eq (d : In F) (b : Fin 48) (h) : (d.tab (ix2 3 (⟨b.val * 32, h⟩ : Fin 1536))).toNat = d.cnt b := by
  have e : (⟨b.val * 32, h⟩ : Fin 1536) = tok b 0 := Fin.ext (by show b.val * 32 = b.val * 32 + 0; omega)
  rw [e]
  rfl

theorem cnt_at (d : In F) (x : Fin 1536) (h) (h') : (d.tab (ix2 3 (⟨x.val / 32 * 32, h⟩ : Fin 1536))).toNat = d.cnt ⟨x.val / 32, h'⟩ :=
  cnt_eq d ⟨x.val / 32, h'⟩ h

section Table
variable {d : In F} (h : Fit.Table d.tab)
include h

theorem good_quad (b : Fin 48) (c : Fin 64) : (d.quad b c).toNat < 2272 := h.quad b c
theorem good_cnt (b : Fin 48) : d.cnt b ≤ 32 := by
  rw [← cnt_eq d b (by omega)]
  exact h.cnt b
theorem good_tile (b : Fin 48) (j : Fin 32) (hj : j.val < d.cnt b) : (d.word b 2 j).toNat < 284 := by
  rw [← cnt_eq d b (by omega)] at hj
  exact h.tile b j hj
theorem good_once (b b' : Fin 48) (j j' : Fin 32) (hj : j.val < d.cnt b) (hj' : j'.val < d.cnt b') (e : d.word b 2 j = d.word b' 2 j') : b = b' ∧ j = j' := by
  have a : (tok b j).val % 32 < (d.tab (ix2 3 (⟨(tok b j).val / 32 * 32, by have := (tok b j).isLt; omega⟩ : Fin 1536))).toNat := by
    rw [tok_first]
    have e1 : (tok b j).val % 32 = j.val := by show (b.val * 32 + j.val) % 32 = j.val; omega
    rw [e1]
    exact hj
  have a' : (tok b' j').val % 32 < (d.tab (ix2 3 (⟨(tok b' j').val / 32 * 32, by have := (tok b' j').isLt; omega⟩ : Fin 1536))).toNat := by
    rw [tok_first]
    have e1 : (tok b' j').val % 32 = j'.val := by show (b'.val * 32 + j'.val) % 32 = j'.val; omega
    rw [e1]
    exact hj'
  have e' : b.val * 32 + j.val = b'.val * 32 + j'.val := congrArg Fin.val (h.once (tok b j) (tok b' j') a a' e)
  exact ⟨Fin.ext (by omega), Fin.ext (by omega)⟩
theorem good_held (b : Fin 48) (c : Fin 64) : ∃ (b' : Fin 48) (j : Fin 32), b' ≤ b ∧ j.val < d.cnt b' ∧ (d.quad b c).toNat / 8 = (d.word b' 2 j).toNat := by
  obtain ⟨x, hx, hu, e⟩ := h.held b c
  rw [cnt_at d x _ (by omega)] at hu
  refine ⟨⟨x.val / 32, by omega⟩, ⟨x.val % 32, by omega⟩, Fin.le_def.mpr (by show x.val / 32 ≤ b.val; omega), hu, ?_⟩
  have ex : tok ⟨x.val / 32, by omega⟩ ⟨x.val % 32, by omega⟩ = x := Fin.ext (by show x.val / 32 * 32 + x.val % 32 = x.val; omega)
  unfold In.word
  rw [ex]
  exact e

/-- A table that is as the precondition says is good. -/
theorem good_of : d.Good where
  quad := good_quad h
  row b k t := h.row k _
  cnt := good_cnt h
  tile := good_tile h
  once := good_once h
  held := good_held h

end Table

section Ops

variable (m : (ℓ : Loc nD τ sig) → Buf (Elt F) ℓ) (c : Dev nD)

/-- The kernel's table is the last argument. -/
theorem ops_tab : (ops m c).tab = m ((c.tc : Thread nD τ).loc main_arg3) := by
  show iblk m c 2 t0_0 = _
  unfold iblk
  rw [show V m c (Pipeline.arrRef spec0 2) = V m c main_arg3 from rfl, V_main_arg3]
  funext y
  refine congrArg (m ((c.tc : Thread nD τ).loc main_arg3)) (funext fun a => ?_)
  fin_cases a <;> exact Fin.ext ((Nat.zero_add _).trans (Nat.one_mul _))
theorem ops_pw : (ops m c).pw = m ((c.tc : Thread nD τ).loc main_arg2) := by
  show iblk m c 1 t0_0 = _
  unfold iblk
  rw [show V m c (Pipeline.arrRef spec0 1) = V m c main_arg2 from rfl, V_main_arg2]
  funext y
  refine congrArg (m ((c.tc : Thread nD τ).loc main_arg2)) (funext fun a => ?_)
  fin_cases a <;> exact Fin.ext ((Nat.zero_add _).trans (Nat.one_mul _))
theorem ops_srm : (ops m c).srm = m ((c.tc : Thread nD τ).loc main_arg1) := by
  show iblk m c 0 t0_0 = _
  unfold iblk
  rw [show V m c (Pipeline.arrRef spec0 0) = V m c main_arg1 from rfl, V_main_arg1]
  funext y
  refine congrArg (m ((c.tc : Thread nD τ).loc main_arg1)) (funext fun a => ?_)
  fin_cases a <;> exact Fin.ext ((Nat.zero_add _).trans (Nat.one_mul _))

end Ops

end Cert.Hand
-- ==== Proof.BitsSteps.lean ====
/- The kernel's gather and combine as short recursive programs: one step per quad of rows, per scale row, per token
   slot and per pair of column groups; and the copies of tiles of eight quads, one step per copy. -/
module

public import proofs.«01_k».proof.Proof.Gen.Kernel.Skeleton
public import proofs.«01_k».proof.Proof.Gen.Kernel.Loops

@[expose] public section

noncomputable section

namespace Cert.HandBits

open Cert.Kernel Cert.Kernel.Gen
open Idealize.ShloMosaic Idealize.SL.Sem

variable {F : FTy → Type} [FloatOps F]

/-- A program of the kernel's core that returns nothing. -/
abbrev P (F : FTy → Type) := Prog (TpuEff nD τ sig (Elt F) Λ₀ .tc) PUnit

/-- `f s`, `f (s + 1)`, …, `f (s + k - 1)` in turn, then `K`. -/
def seqFrom {n : Nat} (f : Fin n → P F → P F) (K : P F) : (k s : Nat) → s + k ≤ n → P F
  | 0, _, _ => K
  | k + 1, s, h => f ⟨s, by omega⟩ (seqFrom f K k (s + 1) (by omega))

/-- `f 0`, …, `f (n - 1)` in turn, then `K`. -/
def seqAll {n : Nat} (f : Fin n → P F → P F) (K : P F) : P F := seqFrom f K n 0 (by omega)

/-! ## Where a block's words lie -/

/-- Word `t` of block `i` in row `r` of the table. -/
def mOff (i : BitVec 32) (r : Fin 8) (t : Fin 32) : Fin 2 → Nat :=
  ![r.val, (Scalar.indexCast (Scalar.addi (Scalar.muli i 32#32) (BitVec.ofNat 32 t.val))).toNat]

/-- Block `i`'s first row of a table of one row per token. -/
def tOff (i : BitVec 32) : Fin 2 → Nat := ![(Scalar.indexCast (Scalar.muli i 32#32)).toNat, 0]

theorem word_eq (i : BitVec 32) (hi : i.toNat < 48) (t : Fin 32) :
    (Scalar.indexCast (Scalar.addi (Scalar.muli i 32#32) (BitVec.ofNat 32 t.val))).toNat = i.toNat * 32 + t.val := by
  have := t.isLt
  simp only [Scalar.indexCast, Scalar.addi, Scalar.muli, IntOp.addi, IntOp.muli, BitVec.toNat_add, BitVec.toNat_mul, BitVec.toNat_ofNat]
  omega

theorem tword_eq (i : BitVec 32) (hi : i.toNat < 48) : (Scalar.indexCast (Scalar.muli i 32#32)).toNat = i.toNat * 32 := by
  simp only [Scalar.indexCast, Scalar.muli, IntOp.muli, BitVec.toNat_mul, BitVec.toNat_ofNat]
  omega

theorem mOff_inb (i : BitVec 32) (hi : i.toNat < 48) (r : Fin 8) (t : Fin 32) : ∀ a, mOff i r t a + S1x1.size a ≤ S8x1536.size a := by
  have := r.isLt; have := t.isLt
  intro a; fin_cases a
  · show r.val + 1 ≤ 8; omega
  · show (Scalar.indexCast (Scalar.addi (Scalar.muli i 32#32) (BitVec.ofNat 32 t.val))).toNat + 1 ≤ 1536
    rw [word_eq i hi]; omega

theorem tOff_inb (i : BitVec 32) (hi : i.toNat < 48) : ∀ a, tOff i a + S32x128.size a ≤ S1536x128.size a := by
  intro a; fin_cases a
  · show (Scalar.indexCast (Scalar.muli i 32#32)).toNat + 32 ≤ 1536
    rw [tword_eq i hi]; omega
  · show 0 + 128 ≤ 128; omega

/-! ## One quad of rows -/

theorem stride_inb : ∀ c : Fin 64, ∀ a, S28x128.size a = 0 ∨ (![c.val, 0] : Fin 2 → Nat) a + (![68, 1] : Fin 2 → Nat) a * (S28x128.size a - 1) < S1904x128.size a := by decide

/-- Rows `c`, `68 + c`, `136 + c`, … of a composite buffer: quad `c`'s words of every column group. -/
def quadRows (c : Fin 64) : LoadRect S1904x128 := ⟨![c.val, 0], S28x128.size, ![68, 1], stride_inb c⟩

section
variable (codes : Memref sig .tc .vmem S2272x28x128 .i32) (srm : Memref sig .tc .vmem S9088x128 .f32)
  (pw : Memref sig .tc .vmem S1536x128 .f32) (tab : Memref sig .tc .smem S8x1536 .i32)
  (comp : Memref sig .tc .vmem S1904x128 .i32) (p : Memref sig .tc .vmem S128x256 .fp8e4m3) (hp : p.IsWhole)
  (sg cf : Memref sig .tc .vmem S128x128 .f32)

/-- The table's word `(r, t)` of block `i` names a quad; its words go to the rows of slot `c`. -/
def quadStep (i : BitVec 32) (hi : i.toNat < 48) (c : Fin 64) (K : P F) : P F :=
  smemLoadElt tab (Rect.unit (s := S8x1536) (mOff i ⟨c.val / 32, by omega⟩ ⟨c.val % 32, by omega⟩) S1x1.size (mOff_inb i hi _ _)) (View.loads_smem_one rfl numel1_S1x1) (Shape.Idx.first (numel1_S1x1.symm ▸ Nat.one_pos)) fun v =>
  .op (.assume (k0_chk5 v) (k0_chk5.dec v)) fun h =>
  .op (.load codes (Rect.unit (s := S2272x28x128) (k0_off8 v) S1x28x128.size (k0_off8_inb v h.down)).toLoadRect (View.loadsAt_vmem h_S1x28x128)) fun x =>
  .op (.load comp (quadRows c) (View.loadsAt_vmem h_S28x128)) fun _ =>
  .op (.store comp ⟨quadRows c, spos_68_1⟩ (k0_pay1 x) Finset.univ (View.stores_vmem_bits_univ h_S28x128 rfl) (.inl rfl)) fun _ => K

/-! ## One row of scales -/

theorem row_inb : ∀ q : Fin 128, ∀ a, (![q.val, 0] : Fin 2 → Nat) a + S1x128.size a ≤ S128x128.size a := by decide

/-- The table's word `(4 + k, t)` of block `i` names a row; its scales go to row `32 k + t`. -/
def scaleStep (i : BitVec 32) (hi : i.toNat < 48) (k : Fin 4) (t : Fin 32) (K : P F) : P F :=
  smemLoadElt tab (Rect.unit (s := S8x1536) (mOff i ⟨4 + k.val, by omega⟩ t) S1x1.size (mOff_inb i hi _ _)) (View.loads_smem_one rfl numel1_S1x1) (Shape.Idx.first (numel1_S1x1.symm ▸ Nat.one_pos)) fun v =>
  .op (.assume (k0_chk69 v) (k0_chk69.dec v)) fun h =>
  .op (.load srm (Rect.unit (s := S9088x128) (k0_off72 v) S1x128.size (k0_off72_inb v h.down)).toLoadRect (View.loadsAt_vmem h_S1x128)) fun x =>
  .op (.load sg (Rect.unit (s := S128x128) ![32 * k.val + t.val, 0] S1x128.size (row_inb ⟨32 * k.val + t.val, by omega⟩)).toLoadRect (View.loadsAt_vmem h_S1x128)) fun _ =>
  .op (.store sg (Rect.unit (s := S128x128) ![32 * k.val + t.val, 0] S1x128.size (row_inb ⟨32 * k.val + t.val, by omega⟩)) (k0_pay71 x) Finset.univ (View.stores_vmem_bits_univ h_S1x128 rfl) (.inl rfl)) fun _ => K

/-! ## The one-hot rows and the coefficients of expert slot `k` -/

theorem pcol : ∀ k : Fin 8, S32x128.Slices ![0, k.val] S32x1 := by decide
theorem prow : ∀ k : Fin 4, ∀ a, (![32 * k.val, 0] : Fin 2 → Nat) a + S32x256.size a ≤ S128x256.size a := by decide
theorem crow : ∀ k : Fin 4, ∀ a, (![32 * k.val, 0] : Fin 2 → Nat) a + S32x128.size a ≤ S128x128.size a := by decide
theorem pfit : ∀ k : Fin 4, (Rect.unit (s := S128x256) ![32 * k.val, 0] S32x256.size (prow k)).PackedRows (EltTy.packing .fp8e4m3) := by decide

/-- Row `t` of slot `k`: one at the lane the token's position names, zero elsewhere. -/
def oneHot (k : Fin 4) (pwb : Vec F S32x128 .f32) (lane : FVec F S32x256 .f32) : FVec F S32x256 .fp8e4m3 :=
  shapeCast S32x256 (truncf .fp8e4m3 (select (cmpf .oeq (broadcastTo S32x256 (extractStridedSlice S32x1 ![0, k.val] pwb (pcol ⟨k.val, by omega⟩)) broadcasts_S32x1_S32x256) lane)
    (broadcast S32x256 (Scalar.ofBits .f32 0x3F800000#32)) (broadcast S32x256 (Scalar.ofBits .f32 0x00000000#32))) bitsLt_fp8e4m3_f32) shapeCasts_S32x256_S32x256

/-- Row `t` of slot `k`: its scales times the token's weight. -/
def coefs (k : Fin 4) (pwb : Vec F S32x128 .f32) (s : Vec F S32x128 .f32) : FVec F S32x128 .f32 :=
  shapeCast S32x128 (mulf s (broadcastTo S32x128 (extractStridedSlice S32x1 ![0, 4 + k.val] pwb (pcol ⟨4 + k.val, by omega⟩)) broadcasts_S32x1_S32x128)) shapeCasts_S32x128_S32x128

/-- Slot `k` of a block: its scale rows, then its one-hot rows and coefficients. -/
def slotStep (i : BitVec 32) (hi : i.toNat < 48) (pwb : Vec F S32x128 .f32) (lane : FVec F S32x256 .f32) (k : Fin 4) (K : P F) : P F :=
  seqAll (scaleStep srm tab sg i hi k) <|
  .op (.load p (Rect.unit (s := S128x256) ![32 * k.val, 0] S32x256.size (prow k)).toLoadRect (View.loadsAt_vmem h_S32x256)) fun _ =>
  .op (.store p (Rect.unit (s := S128x256) ![32 * k.val, 0] S32x256.size (prow k)) (oneHot k pwb lane) Finset.univ (View.stores_vmem h_S32x256 (hp.storeExact_slice rfl _ (pfit k)) (fun _ => rfl)) (.inl rfl)) fun _ =>
  .op (.load sg (Rect.unit (s := S128x128) ![32 * k.val, 0] S32x128.size (crow k)).toLoadRect (View.loadsAt_vmem h_S32x128)) fun s =>
  .op (.load cf (Rect.unit (s := S128x128) ![32 * k.val, 0] S32x128.size (crow k)).toLoadRect (View.loadsAt_vmem h_S32x128)) fun _ =>
  .op (.store cf (Rect.unit (s := S128x128) ![32 * k.val, 0] S32x128.size (crow k)) (coefs k pwb s) Finset.univ (View.stores_vmem_bits_univ h_S32x128 rfl) (.inl rfl)) fun _ => K

/-- A block gathered; `K` goes on, given the block's rows of positions and weights. -/
def gather (i : BitVec 32) (hi : i.toNat < 48) (K : Vec F S32x128 .f32 → P F) : P F :=
  seqAll (quadStep codes tab comp i hi) <|
  .op (.load pw (Rect.unit (s := S1536x128) (tOff i) S32x128.size (tOff_inb i hi)).toLoadRect (View.loadsAt_vmem h_S32x128)) fun pwb =>
  seqAll (slotStep srm tab p hp sg cf i hi pwb k0_pay70) (K pwb)

/-! ## Combine -/

theorem grow : ∀ g : Fin 28, ∀ a, (![68 * g.val, 0] : Fin 2 → Nat) a + S64x128.size a ≤ S1904x128.size a := by decide
theorem rslc : ∀ (k : Fin 4) (h : Fin 2), S128x256.Slices ![32 * k.val, 128 * h.val] S32x128 := by decide
theorem cslc : ∀ (k : Fin 4) (g : Fin 28), S128x128.Slices ![32 * k.val, g.val] S32x1 := by decide
theorem orow : ∀ (s : Fin 2) (j : Fin 14), ∀ a, (![s.val, 0, 256 * j.val] : Fin 3 → Nat) a + S1x32x256.size a ≤ S2x32x3584.size a := by decide
theorem ofit : ∀ (s : Fin 2) (j : Fin 14), (Rect.unit (s := S2x32x3584) ![s.val, 0, 256 * j.val] S1x32x256.size (orow s j)).PackedRows (EltTy.packing .bf16) := by decide

/-- The words of a column group read as four rows of values each. -/
def rowsOf (x : Vec F S64x128 .i32) : FVec F S256x128 .fp8e4m3 := bitcastToFloat .fp8e4m3 (bitcast S256x128 8 x bitcasts_S64x128_w32_S256x128_w8)

/-- The picked rows of two column groups. -/
def picked (pv : Vec F S128x256 .fp8e4m3) (x y : Vec F S64x128 .i32) : FVec F S128x256 .f32 :=
  matmul dot_S128x256_S256x256_S128x256_1_0_0_1_n_n none pv
    (concatenate S256x256 1 [⟨S256x128, rowsOf x⟩, ⟨S256x128, rowsOf y⟩] concatenates_S256x128_S256x128_S256x256_d1) (constant S128x256 .f32 0x00000000#32)

/-- One of the four products: slot `k`'s picked values in column group `g` times its coefficients. -/
def prod (r : FVec F S128x256 .f32) (cfv : Vec F S128x128 .f32) (h : Fin 2) (g : Fin 28) (k : Fin 4) : FVec F S32x128 .f32 :=
  mulf (extractStridedSlice S32x128 ![32 * k.val, 128 * h.val] r (rslc k h)) (broadcastTo S32x128 (extractStridedSlice S32x1 ![32 * k.val, g.val] cfv (cslc k g)) broadcasts_S32x1_S32x128)

/-- The sum over the four slots. -/
def sum4 (r : FVec F S128x256 .f32) (cfv : Vec F S128x128 .f32) (h : Fin 2) (g : Fin 28) : FVec F S32x128 .f32 :=
  addf (addf (addf (addf (broadcast S32x128 (Scalar.ofBits .f32 0x00000000#32)) (prod r cfv h g 0)) (prod r cfv h g 1)) (prod r cfv h g 2)) (prod r cfv h g 3)

/-- The result's two column groups `2 j`, `2 j + 1` of a block. -/
def combined (pv : Vec F S128x256 .fp8e4m3) (cfv : Vec F S128x128 .f32) (j : Fin 14) (x y : Vec F S64x128 .i32) : FVec F S1x32x256 .bf16 :=
  shapeCast S1x32x256 (truncf .bf16 (concatenate S32x256 1 [⟨S32x128, sum4 (picked pv x y) cfv 0 ⟨2 * j.val, by omega⟩⟩, ⟨S32x128, sum4 (picked pv x y) cfv 1 ⟨2 * j.val + 1, by omega⟩⟩]
    concatenates_S32x128_S32x128_S32x256_d1) bitsLt_bf16_f32) shapeCasts_S32x256_S1x32x256

variable (ob : Memref sig .tc .vmem S2x32x3584 .bf16) (hob : ob.IsWhole)

/-- Column groups `2 j`, `2 j + 1` of a block combined. -/
def combineStep (s : Fin 2) (pv : Vec F S128x256 .fp8e4m3) (cfv : Vec F S128x128 .f32) (j : Fin 14) (K : P F) : P F :=
  .op (.load comp (Rect.unit (s := S1904x128) ![68 * (2 * j.val), 0] S64x128.size (grow ⟨2 * j.val, by omega⟩)).toLoadRect (View.loadsAt_vmem h_S64x128)) fun x =>
  .op (.load comp (Rect.unit (s := S1904x128) ![68 * (2 * j.val + 1), 0] S64x128.size (grow ⟨2 * j.val + 1, by omega⟩)).toLoadRect (View.loadsAt_vmem h_S64x128)) fun y =>
  .op (.load ob (Rect.unit (s := S2x32x3584) ![s.val, 0, 256 * j.val] S1x32x256.size (orow s j)).toLoadRect (View.loadsAt_vmem h_S1x32x256)) fun _ =>
  .op (.store ob (Rect.unit (s := S2x32x3584) ![s.val, 0, 256 * j.val] S1x32x256.size (orow s j)) (combined pv cfv j x y) Finset.univ (View.stores_vmem h_S1x32x256 (hob.storeExact_slice rfl _ (ofit s j)) (fun _ => rfl)) (.inl rfl)) fun _ => K

/-- A gathered block combined into slot `s` of the output buffer. -/
def combine (s : Fin 2) (K : P F) : P F :=
  .op (.load p (Rect.unit (s := S128x256) ![0, 0] S128x256.size inb_S128x256_S128x256_0_0).toLoadRect (View.loadsAt_vmem h_S128x256)) fun pv =>
  .op (.load cf (Rect.unit (s := S128x128) ![0, 0] S128x128.size inb_S128x128_S128x128_0_0).toLoadRect (View.loadsAt_vmem h_S128x128)) fun cfv =>
  seqAll (combineStep comp ob hob s pv cfv) K

/-! ## The output copies -/

/-- Block `i`'s rows of the result. -/
def oOff (i : BitVec 32) : Fin 2 → Nat := ![(Scalar.muli i 32#32).toNat, 0]

theorem oOff_eq (i : BitVec 32) (hi : i.toNat < 48) : oOff i = ![32 * i.toNat, 0] := by
  have h : (Scalar.muli i 32#32).toNat = 32 * i.toNat := by
    simp only [Scalar.muli, IntOp.muli, BitVec.toNat_mul, BitVec.toNat_ofNat]; omega
  unfold oOff; rw [h]

theorem blk_inb : ∀ n : Fin 48, ∀ a, (![32 * n.val, 0] : Fin 2 → Nat) a + S32x3584.size a ≤ S1536x3584.size a := by decide
theorem blk_words : ∀ n : Fin 48, (Rect.unit (s := S1536x3584) ![32 * n.val, 0] S32x3584.size (blk_inb n)).WholeWords (EltTy.packing .bf16) := by decide
theorem oOff_inb (i : BitVec 32) (hi : i.toNat < 48) : ∀ a, oOff i a + S32x3584.size a ≤ S1536x3584.size a := by
  rw [oOff_eq i hi]; exact blk_inb ⟨_, hi⟩

theorem oOff_words (i : BitVec 32) (hi : i.toNat < 48) : (Rect.unit (s := S1536x3584) (oOff i) S32x3584.size (oOff_inb i hi)).WholeWords (EltTy.packing .bf16) := by
  have h := blk_words ⟨_, hi⟩
  have e := oOff_eq i hi
  revert h; generalize oOff_inb i hi = h1; generalize blk_inb ⟨_, hi⟩ = h2
  revert h1 h2; rw [e]; exact fun _ _ h => h

theorem slot_inb : ∀ s : Fin 2, ∀ a, (![s.val, 0, 0] : Fin 3 → Nat) a + S1x32x3584.size a ≤ S2x32x3584.size a := by decide
theorem slot_words : ∀ s : Fin 2, (Rect.unit (s := S2x32x3584) ![s.val, 0, 0] S1x32x3584.size (slot_inb s)).WholeWords (EltTy.packing .bf16) := by decide
theorem sem_inb : ∀ s : Fin 2, ∀ a, (![s.val] : Fin 1 → Nat) a + S1.size a ≤ S2.size a := by decide

variable (out : Memref sig .tc .hbm S1536x3584 .bf16) (hout : out.IsWhole) (sems : DmaSems sig S2)

/-- Block `i` of the result. -/
def outDst (i : BitVec 32) (hi : i.toNat < 48) : Memref sig .tc .hbm S32x3584 .bf16 :=
  out.slice (Rect.unit (s := S1536x3584) (oOff i) S32x3584.size (oOff_inb i hi)) (fun _ => rfl)
/-- Slot `s` of the output buffer. -/
def outSrc (s : Fin 2) : Memref sig .tc .vmem S32x3584 .bf16 :=
  (ob.slice (Rect.unit (s := S2x32x3584) ![s.val, 0, 0] S1x32x3584.size (slot_inb s)) (fun _ => rfl)).squeeze S32x3584 squeezes_S1x32x3584_S32x3584
/-- Slot `s`'s semaphore. -/
def outSem (s : Fin 2) : DmaSems sig S_ := (sems.slice (Rect.unit (s := S2) ![s.val] S1.size (sem_inb s))).squeeze S_ squeezes_S1_S_

/-- Slot `s`'s copy to block `i` waited for. -/
def outWait (s : Fin 2) (i : BitVec 32) (hi : i.toNat < 48) (K : P F) : P F :=
  .op (.waitDma2 (outSem sems s).sem (outSrc ob s) (outDst out i hi) ((hob.wordExact_slice rfl _ (slot_words s)).reshape _ _) (hout.wordExact_slice rfl _ (oOff_words i hi))) fun _ => K
/-- Slot `s`'s copy to block `i` started. -/
def outStart (s : Fin 2) (i : BitVec 32) (hi : i.toNat < 48) (K : P F) : P F :=
  .op (.enqueueDma (outSrc ob s) (.here (outDst out i hi)) (.dma (outSem sems s).sem) ((hob.wordExact_slice rfl _ (slot_words s)).reshape _ _) (hout.wordExact_slice rfl _ (oOff_words i hi)) ⟨Or.inl rfl, trivial⟩) fun _ => K
end

/-! ## The copies of tiles -/

section
variable (words : Memref sig .tc .hbm S2272x28x128 .i32) (codes : Memref sig .tc .vmem S2272x28x128 .i32)
  (tab : Memref sig .tc .smem S8x1536 .i32) (tsems : DmaSems sig S48)

/-- Eight quads' words from the quad at `o`. -/
def tileMem {sp : Space} (m : Memref sig .tc sp S2272x28x128 .i32) (o : Fin 3 → Nat) (h : ∀ a, o a + S8x28x128.size a ≤ S2272x28x128.size a) : Memref sig .tc sp S8x28x128 .i32 :=
  m.slice (Rect.unit (s := S2272x28x128) o S8x28x128.size h) (fun _ => rfl)

/-- A block's semaphore. -/
def tSem (o : Fin 1 → Nat) (h : ∀ a, o a + S1.size a ≤ S48.size a) : DmaSems sig S_ := (tsems.slice (Rect.unit (s := S48) o S1.size h)).squeeze S_ squeezes_S1_S_

/-- A word of the table read. -/
def readWord (o : Fin 2 → Nat) (h : ∀ a, o a + S1x1.size a ≤ S8x1536.size a) (K : BitVec 32 → P F) : P F :=
  smemLoadElt tab (Rect.unit (s := S8x1536) o S1x1.size h) (View.loads_smem_one rfl numel1_S1x1) (Shape.Idx.first (numel1_S1x1.symm ▸ Nat.one_pos)) fun v => K v

/-- The table's word at `o` names a tile; its copy is started on the semaphore at `so`. -/
def tileStep (o : Fin 2 → Nat) (h : ∀ a, o a + S1x1.size a ≤ S8x1536.size a) (T : BitVec 32 → Prop) (dec : ∀ v, Decidable (T v))
    (hT : ∀ v, T v → ∀ a, k0_off4 v a + S8x28x128.size a ≤ S2272x28x128.size a) (so : Fin 1 → Nat) (hs : ∀ a, so a + S1.size a ≤ S48.size a) : P F :=
  readWord tab o h fun v =>
  .op (.assume (T v) (dec v)) fun h =>
  .op (.enqueueDma (tileMem words (k0_off4 v) (hT v h.down)) (.here (tileMem codes (k0_off4 v) (hT v h.down))) (.dma (tSem tsems so hs).sem) (View.wordExact_bits rfl) (View.wordExact_bits rfl) ⟨Or.inl rfl, trivial⟩) fun _ => .ret ⟨⟩

theorem tile0_inb : ∀ a, (![0, 0, 0] : Fin 3 → Nat) a + S8x28x128.size a ≤ S2272x28x128.size a := by decide

/-- One copy of a tile waited for, on the semaphore at `so`. -/
def tileWait (so : Fin 1 → Nat) (hs : ∀ a, so a + S1.size a ≤ S48.size a) : P F :=
  .op (.waitDma2 (tSem tsems so hs).sem (tileMem words ![0, 0, 0] tile0_inb) (tileMem codes ![0, 0, 0] tile0_inb) (View.wordExact_bits rfl) (View.wordExact_bits rfl)) fun _ => .ret ⟨⟩

/-- Where one place of the kernel reads a block's count and its tiles, what it assumes of them, and its semaphore. -/
structure Iss where
  coff : Fin 2 → Nat
  cinb : ∀ a, coff a + S1x1.size a ≤ S8x1536.size a
  C : BitVec 32 → Prop
  cdec : ∀ v, Decidable (C v)
  ok1 : ∀ v, C v → (k0_t2_loop v).OK
  off1 : ∀ v, Fin (k0_t2_loop v).trips → Fin 2 → Nat
  inb1 : ∀ v, C v → ∀ j a, off1 v j a + S1x1.size a ≤ S8x1536.size a
  ok2 : ∀ v, C v → (k0_t3_loop v).OK
  off2 : ∀ v, Fin (k0_t3_loop v).trips → Fin 2 → Nat
  inb2 : ∀ v, C v → ∀ j a, off2 v j a + S1x1.size a ≤ S8x1536.size a
  T1 : BitVec 32 → Prop
  tdec1 : ∀ v, Decidable (T1 v)
  tinb1 : ∀ v, T1 v → ∀ a, k0_off4 v a + S8x28x128.size a ≤ S2272x28x128.size a
  T2 : BitVec 32 → Prop
  tdec2 : ∀ v, Decidable (T2 v)
  tinb2 : ∀ v, T2 v → ∀ a, k0_off4 v a + S8x28x128.size a ≤ S2272x28x128.size a
  soff : Fin 1 → Nat
  sinb : ∀ a, soff a + S1.size a ≤ S48.size a

/-- Where one place of the kernel reads the count of a block whose tiles it waits for, and its semaphore. -/
structure Lnd where
  coff : Fin 2 → Nat
  cinb : ∀ a, coff a + S1x1.size a ≤ S8x1536.size a
  C : BitVec 32 → Prop
  cdec : ∀ v, Decidable (C v)
  ok1 : ∀ v, C v → (k0_t2_loop v).OK
  ok2 : ∀ v, C v → (k0_t3_loop v).OK
  soff : Fin 1 → Nat
  sinb : ∀ a, soff a + S1.size a ≤ S48.size a

/-- The copies of a block's tiles started. -/
def issue (I : Iss) (K : P F) : P F :=
  readWord tab I.coff I.cinb fun v =>
  .op (.assume (I.C v) (I.cdec v)) fun h =>
  .bind (Scf.Loop.for (k0_t2_loop v) (I.ok1 v h.down) ⟨⟩ fun j _ => tileStep words codes tab tsems (I.off1 v j) (I.inb1 v h.down j) I.T1 I.tdec1 I.tinb1 I.soff I.sinb) fun _ =>
  .bind (Scf.Loop.for (k0_t3_loop v) (I.ok2 v h.down) ⟨⟩ fun j _ => tileStep words codes tab tsems (I.off2 v j) (I.inb2 v h.down j) I.T2 I.tdec2 I.tinb2 I.soff I.sinb) fun _ => K

/-- The copies of a block's tiles waited for. -/
def land (L : Lnd) (K : P F) : P F :=
  readWord tab L.coff L.cinb fun v =>
  .op (.assume (L.C v) (L.cdec v)) fun h =>
  .bind (Scf.Loop.for (k0_t2_loop v) (L.ok1 v h.down) ⟨⟩ fun _ _ => tileWait words codes tsems L.soff L.sinb) fun _ =>
  .bind (Scf.Loop.for (k0_t3_loop v) (L.ok2 v h.down) ⟨⟩ fun _ _ => tileWait words codes tsems L.soff L.sinb) fun _ => K

/-- The same where a place may have nothing to start or to wait for. -/
def issueO : Option Iss → P F → P F
  | none, K => K
  | some I, K => issue words codes tab tsems I K
def landO : Option Lnd → P F → P F
  | none, K => K
  | some L, K => land words codes tab tsems L K
end

/-- The place in trip `k` of the first loop. -/
def iss0 (k : Fin k0_t1_loop.trips) : Iss where
  coff := k0_off1 k
  cinb := k0_off1_inb k
  C := k0_chk1 k
  cdec := k0_chk1.dec k
  ok1 v hv := k0_t2_ok k v hv
  off1 v j := k0_off2 k v j
  inb1 v hv j := k0_off2_inb k v hv j
  ok2 v hv := k0_t3_ok k v hv
  off2 v j := k0_off5 k v j
  inb2 v hv j := k0_off5_inb k v hv j
  T1 := k0_chk2
  tdec1 := k0_chk2.dec
  tinb1 v hv := k0_off4_inb v hv
  T2 := k0_chk3
  tdec2 := k0_chk3.dec
  tinb2 v hv := k0_off7_inb v hv
  soff := k0_off3 k
  sinb := k0_off3_inb k

/-- The place of slot 0 in trip `k` of the main loop. -/
def iss1 (k : Fin k0_t6_loop.trips) (h : k0_cond1 k = 1#1) : Iss where
  coff := k0_off200 k
  cinb := k0_off200_inb k h
  C := k0_chk197 k
  cdec := k0_chk197.dec k
  ok1 v hv := k0_t7_ok k v hv h
  off1 v j := k0_off201 k v j
  inb1 v hv j := k0_off201_inb k v hv j h
  ok2 v hv := k0_t8_ok k v hv h
  off2 v j := k0_off204 k v j
  inb2 v hv j := k0_off204_inb k v hv j h
  T1 := k0_chk198 k
  tdec1 := k0_chk198.dec k
  tinb1 v hv := k0_off203_inb k v hv h
  T2 := k0_chk199 k
  tdec2 := k0_chk199.dec k
  tinb2 v hv := k0_off206_inb k v hv h
  soff := k0_off202 k
  sinb := k0_off202_inb k h

/-- The place of slot 1 in trip `k` of the main loop. -/
def iss2 (k : Fin k0_t6_loop.trips) (h : k0_cond4 k = 1#1) : Iss where
  coff := k0_off597 k
  cinb := k0_off597_inb k h
  C := k0_chk393 k
  cdec := k0_chk393.dec k
  ok1 v hv := k0_t11_ok k v hv h
  off1 v j := k0_off598 k v j
  inb1 v hv j := k0_off598_inb k v hv j h
  ok2 v hv := k0_t12_ok k v hv h
  off2 v j := k0_off601 k v j
  inb2 v hv j := k0_off601_inb k v hv j h
  T1 := k0_chk394 k
  tdec1 := k0_chk394.dec k
  tinb1 v hv := k0_off600_inb k v hv h
  T2 := k0_chk395 k
  tdec2 := k0_chk395.dec k
  tinb2 v hv := k0_off603_inb k v hv h
  soff := k0_off599 k
  sinb := k0_off599_inb k h

theorem lnd0_inb : ∀ a, (![3, 0] : Fin 2 → Nat) a + S1x1.size a ≤ S8x1536.size a := by decide
theorem lnd0_sinb : ∀ a, (![0] : Fin 1 → Nat) a + S1.size a ≤ S48.size a := by decide

/-- The wait for the first block's tiles. -/
def lnd0 : Lnd where
  coff := ![3, 0]
  cinb := lnd0_inb
  C := k0_chk4
  cdec := k0_chk4.dec
  ok1 v hv := k0_t4_ok v hv
  ok2 v hv := k0_t5_ok v hv
  soff := ![0]
  sinb := lnd0_sinb

/-- The wait of slot 0 in trip `k`. -/
def lnd1 (k : Fin k0_t6_loop.trips) (h : k0_cond2 k = 1#1) : Lnd where
  coff := k0_off207 k
  cinb := k0_off207_inb k h
  C := k0_chk200 k
  cdec := k0_chk200.dec k
  ok1 v hv := k0_t9_ok k v hv h
  ok2 v hv := k0_t10_ok k v hv h
  soff := k0_off208 k
  sinb := k0_off208_inb k h

/-- The wait of slot 1 in trip `k`. -/
def lnd2 (k : Fin k0_t6_loop.trips) (h : k0_cond5 k = 1#1) : Lnd where
  coff := k0_off604 k
  cinb := k0_off604_inb k h
  C := k0_chk396 k
  cdec := k0_chk396.dec k
  ok1 v hv := k0_t13_ok k v hv h
  ok2 v hv := k0_t14_ok k v hv h
  soff := k0_off605 k
  sinb := k0_off605_inb k h

/-- What slot `s` starts in trip `k`. -/
def issAt (s : Fin 2) (k : Fin k0_t6_loop.trips) : Option Iss :=
  if s = 0 then (if h : k0_cond1 k = 1#1 then some (iss1 k h) else none) else (if h : k0_cond4 k = 1#1 then some (iss2 k h) else none)
/-- What slot `s` waits for in trip `k`. -/
def lndAt (s : Fin 2) (k : Fin k0_t6_loop.trips) : Option Lnd :=
  if s = 0 then (if h : k0_cond2 k = 1#1 then some (lnd1 k h) else none) else (if h : k0_cond5 k = 1#1 then some (lnd2 k h) else none)

/-! ## The loop -/

/-- The block of slot `s` in trip `k`. -/
def blk (s : Fin 2) (k : Nat) : BitVec 32 :=
  Scalar.addi (Scalar.muli 2#32 (Scalar.addi 0#32 (Scalar.muli (Scf.iv 0#32 1#32 k) 1#32))) (BitVec.ofNat 32 s.val)
/-- The block gathered while it is combined. -/
def nxt (s : Fin 2) (k : Nat) : BitVec 32 := Scalar.minsi (Scalar.addi (blk s k) 1#32) 47#32

theorem blk_val : ∀ (s : Fin 2) (k : Fin 24), (blk s k.val).toNat = 2 * k.val + s.val := by decide +kernel
theorem nxt_val : ∀ (s : Fin 2) (k : Fin 24), (nxt s k.val).toNat = min (2 * k.val + s.val + 1) 47 := by decide +kernel
theorem trips_eq : k0_t6_loop.trips = 24 := by decide +kernel
theorem blk_lt (s : Fin 2) (k : Fin k0_t6_loop.trips) : (blk s k.val).toNat < 48 := by
  have hk : k.val < 24 := lt_of_lt_of_eq k.isLt trips_eq
  have h : (blk s k.val).toNat = 2 * k.val + s.val := blk_val s ⟨k.val, hk⟩
  have := s.isLt; omega
theorem nxt_lt (s : Fin 2) (k : Fin k0_t6_loop.trips) : (nxt s k.val).toNat < 48 := by
  have hk : k.val < 24 := lt_of_lt_of_eq k.isLt trips_eq
  have h : (nxt s k.val).toNat = min (2 * k.val + s.val + 1) 47 := nxt_val s ⟨k.val, hk⟩
  omega

section
variable (codes : Memref sig .tc .vmem S2272x28x128 .i32) (srm : Memref sig .tc .vmem S9088x128 .f32)
  (pw : Memref sig .tc .vmem S1536x128 .f32) (tab : Memref sig .tc .smem S8x1536 .i32) (out : Memref sig .tc .hbm S1536x3584 .bf16) (hout : out.IsWhole)
  (compa compb : Memref sig .tc .vmem S1904x128 .i32) (pa : Memref sig .tc .vmem S128x256 .fp8e4m3)
  (pb : Memref sig .tc .vmem S128x256 .fp8e4m3) (hpb : pb.IsWhole)
  (sg cfa cfb : Memref sig .tc .vmem S128x128 .f32) (ob : Memref sig .tc .vmem S2x32x3584 .bf16) (hob : ob.IsWhole) (sems : DmaSems sig S2)

/-- Half a trip after its wait: the next block gathered, this one combined and its copy started. -/
def rest (s : Fin 2) (k : Fin k0_t6_loop.trips) (K : P F) : P F :=
  gather codes srm pw tab compb pb hpb sg cfb (nxt s k.val) (nxt_lt s k) fun _ =>
  combine compa pa cfa ob hob s <|
  outStart ob hob out hout sems s (blk s k.val) (blk_lt s k) K

/-- Half a trip without its tiles: the slot's last copy waited for (from the second trip on), then the rest. -/
def half0 (s : Fin 2) (k : Fin k0_t6_loop.trips) (K : P F) : P F :=
  if k.val = 0 then rest codes srm pw tab out hout compa compb pa pb hpb sg cfa cfb ob hob sems s k K
  else outWait ob hob out hout sems s (blk s k.val) (blk_lt s k) <| rest codes srm pw tab out hout compa compb pa pb hpb sg cfa cfb ob hob sems s k K

variable (words : Memref sig .tc .hbm S2272x28x128 .i32) (tsems : DmaSems sig S48)

/-- Half a trip: the tiles of the block eight ahead started, those of the next block waited for, then the rest. -/
def half (s : Fin 2) (k : Fin k0_t6_loop.trips) (K : P F) : P F :=
  issueO words codes tab tsems (issAt s k) <| landO words codes tab tsems (lndAt s k) <|
  half0 codes srm pw tab out hout compa compb pa pb hpb sg cfa cfb ob hob sems s k K
end

end Cert.HandBits
-- ==== Proof.BitsOps.lean ====
/- Rules for the kernel's steps: a load and a store by what a memref reads, and programs run one after another. -/
module

public import proofs.«01_k».proof.Proof.BitsSteps
public import Idealize.ShloMosaic.Lib.Pipeline.FrameBody
public import Idealize.ShloMosaic.Lib.Transfers
public import Idealize.ShloMosaic.Lib.Tactic
public import Idealize.ShloMosaic.Lib.Pointwise.Index

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a program of core `c`. -/
abbrev W (c : Dev nD) (p : P F) (Q : PUnit.{1} → sProp 𝕄) : sProp 𝕄 := wp frame (wpE (defs₀ (F := F)) Variants.none (c : Thread nD τ) none) Set.univ p Q

/-- What a program of the kernel's core ends with. -/
abbrev Post (F : FTy → Type) [FloatOps F] := PUnit.{1} → sProp (MT nD τ sig Unit (Elt F) ℕ (Pipeline.UD sig nD τ) ℕ)

variable (c : Dev nD) {Q : Post F}

/-- The elements `S` of a memref's buffer held whole at contents read through the memref as some `X` with `Φ X`. -/
def On {sp : Space} {s : Shape} {e : EltTy} (m : Memref sig .tc sp s e) (S : Finset (Idx (m.view.loc (c : Thread nD τ)))) (Φ : (s.Idx → Elt F e) → Prop) : sProp 𝕄 :=
  iprop(∃ f, ⌜Φ (m.view.read (Elt F) f)⌝ ∗ (m.view.loc (c : Thread nD τ) ↦[S]{fullShare} f))

/-- All of a memref held. -/
abbrev Hd {sp : Space} {s : Shape} {e : EltTy} (m : Memref sig .tc sp s e) (Φ : (s.Idx → Elt F e) → Prop) : sProp 𝕄 :=
  On c m m.view.set Φ

theorem on_mono {sp : Space} {s : Shape} {e : EltTy} {m : Memref sig .tc sp s e} {S : Finset (Idx (m.view.loc (c : Thread nD τ)))} {Φ Ψ : (s.Idx → Elt F e) → Prop}
    (h : ∀ X, Φ X → Ψ X) : On c m S Φ ⊢ On (F := F) c m S Ψ := by
  unfold On; iintro ⟨%f, %hf, H⟩; iexists f; isplitr
  · ipureintro; exact h _ hf
  · iexact H

/-- `X'` is `X` with `w` stored through `r`. -/
structure Stored {s : Shape} {e : EltTy} (r : Rect s) (w : r.shape.Idx → Elt F e) (X X' : s.Idx → Elt F e) : Prop where
  on : ∀ x, X' (r.emb x) = w x
  off : ∀ y, y ∉ r.set → X' y = X y

/-- A load of elements held. -/
theorem ld {cs : CoreSpace} {s : Shape} {e : EltTy} {m : Memref sig .tc cs s e} {r : LoadRect s} {hl : m.view.LoadsAt r}
    {k : (r.shape.Idx → Elt F e) → P F} {S : Finset (Idx (m.view.loc (c : Thread nD τ)))} {Φ : (s.Idx → Elt F e) → Prop} (hS : m.view.setOn r.set ⊆ S) :
    On c m S Φ ⊢ iprop((∀ X, ⌜Φ X⌝ -∗ On c m S (fun Y => Y = X ∧ Φ Y) -∗ W c (k fun x => X (r.idx x)) Q) -∗ W c (.op (.load m r hl) k) Q) := by
  unfold On
  iintro ⟨%f, %hf, H⟩ Hk
  iapply (wp_load Variants.none (c : Thread nD τ) none Set.univ hS) $$ H
  iintro H
  iapply Hk $$ %(m.view.read (Elt F) f) %hf
  iexists f; isplitr
  · ipureintro; exact ⟨rfl, hf⟩
  · iexact H

/-- A load of elements held at named contents. -/
theorem ldx {cs : CoreSpace} {s : Shape} {e : EltTy} {m : Memref sig .tc cs s e} {r : LoadRect s} {hl : m.view.LoadsAt r}
    {k : (r.shape.Idx → Elt F e) → P F} {X : s.Idx → Elt F e} :
    Hd c m (· = X) ⊢ iprop((Hd c m (· = X) -∗ W c (k fun x => X (r.idx x)) Q) -∗ W c (.op (.load m r hl) k) Q) := by
  unfold Hd On
  iintro ⟨%f, %hf, H⟩ Hk
  iapply (wp_load Variants.none (c : Thread nD τ) none Set.univ (m.view.setOn_subset_set _)) $$ H
  iintro H
  subst hf
  iapply Hk
  iexists f; isplitr
  · ipureintro; rfl
  · iexact H

/-- A load whose answer is not used. -/
theorem ldskip {cs : CoreSpace} {s : Shape} {e : EltTy} {m : Memref sig .tc cs s e} {r : LoadRect s} {hl : m.view.LoadsAt r}
    {K : P F} {S : Finset (Idx (m.view.loc (c : Thread nD τ)))} {Φ : (s.Idx → Elt F e) → Prop} (hS : m.view.setOn r.set ⊆ S) :
    On c m S Φ ⊢ iprop((On c m S Φ -∗ W c K Q) -∗ W c (.op (.load m r hl) fun _ => K) Q) := by
  unfold On
  iintro ⟨%f, %hf, H⟩ Hk
  iapply (wp_load Variants.none (c : Thread nD τ) none Set.univ hS) $$ H
  iintro H
  iapply Hk
  iexists f; isplitr
  · ipureintro; exact hf
  · iexact H

/-- A store into elements held. -/
theorem st {cs : CoreSpace} {s : Shape} {e : EltTy} {m : Memref sig .tc cs s e} {r : Rect s} {w : r.shape.Idx → Elt F e} {hx : (m.access r).Stores Finset.univ}
    {hm : (Finset.univ : Finset r.shape.Idx) = Finset.univ ∨ ∀ a, r.stride a = 1}
    {K : P F} {S : Finset (Idx (m.view.loc (c : Thread nD τ)))} {Φ Ψ : (s.Idx → Elt F e) → Prop} (hS : m.view.setOn r.set ⊆ S)
    (h : ∀ X X', Φ X → Stored r w X X' → Ψ X') :
    On c m S Φ ⊢ iprop((On c m S Ψ -∗ W c K Q) -∗ W c (.op (.store m r w Finset.univ hx hm) fun _ => K) Q) := by
  unfold On
  iintro ⟨%f, %hf, H⟩ Hk
  iapply (wp_store Variants.none (c : Thread nD τ) none Set.univ (m := m) (r := r) (S := S) (f := f) (by rwa [View.setOn_univ, View.set_slice])) $$ H
  iintro H
  iapply Hk
  iexists ((m.access r).write (Elt F) f w Finset.univ); isplitr
  · ipureintro
    refine h _ _ hf ⟨fun x => View.read_slice_write_emb r f w (Finset.mem_univ x), fun y hy => View.read_slice_write_of_not_mem r f w (Finset.univ) ?_⟩
    rwa [Rect.map_emb_univ]
  · iexact H

/-- `f 0`, …, `f (n - 1)` in turn, by an invariant. -/
theorem wp_seqFrom {n : Nat} (f : Fin n → P F → P F) (I : ℕ → sProp 𝕄)
    (hstep : ∀ (i : Fin n) (K : P F), I i.val ⊢ iprop((I (i.val + 1) -∗ W c K Q) -∗ W c (f i K) Q)) (K : P F) :
    ∀ (k s : Nat) (h : s + k ≤ n), I s ⊢ iprop((I (s + k) -∗ W c K Q) -∗ W c (seqFrom f K k s h) Q)
  | 0, s, h => by
    iintro HI HK; unfold seqFrom; iapply HK; iexact HI
  | k + 1, s, h => by
    have h1 : s < n := by omega
    have h2 : s + 1 + k ≤ n := by omega
    iintro HI HK
    unfold seqFrom
    iapply (hstep ⟨s, h1⟩ _) $$ HI
    iintro HI
    iapply (wp_seqFrom f I hstep K k (s + 1) h2) $$ HI
    rw [show s + 1 + k = s + (k + 1) by omega]
    iexact HK

theorem wp_seqAll {n : Nat} (f : Fin n → P F → P F) (I : ℕ → sProp 𝕄)
    (hstep : ∀ (i : Fin n) (K : P F), I i.val ⊢ iprop((I (i.val + 1) -∗ W c K Q) -∗ W c (f i K) Q)) (K : P F) :
    I 0 ⊢ iprop((I n -∗ W c K Q) -∗ W c (seqAll f K) Q) := by
  have h := wp_seqFrom c f I hstep K n 0 (by omega)
  have e : I (0 + n) = I n := congrArg I (Nat.zero_add n)
  rw [e] at h
  exact h

end Cert.HandBits
-- ==== Proof.BitsData.lean ====
/- What a block holds once it is gathered and once it is combined, by the kernel's operands. -/
module

public import proofs.«01_k».proof.Proof.BitsSteps
public import Idealize.ShloMosaic.Lib.Pointwise.Index

@[expose] public section

noncomputable section

namespace Cert.HandBits

open Cert.Kernel Cert.Kernel.Gen
open Idealize.ShloMosaic Idealize.SL.Sem

/-- The kernel's operands: the words of the quads, the scales of the rows, the positions and weights, the table. -/
structure In (F : FTy → Type) where
  codes : S2272x28x128.Idx → Elt F .i32
  srm : S9088x128.Idx → Elt F .f32
  pw : S1536x128.Idx → Elt F .f32
  tab : S8x1536.Idx → Elt F .i32

variable {F : FTy → Type} [FloatOps F] (d : In F)

/-- Token `t` of block `b`. -/
def tok (b : Fin 48) (t : Fin 32) : Fin 1536 := ⟨b.val * 32 + t.val, by omega⟩

/-- The table's word `(r, t)` of block `b`. -/
def In.word (b : Fin 48) (r : Fin 8) (t : Fin 32) : BitVec 32 := d.tab (ix2 r (tok b t))
/-- The quad named in slot `c` of block `b`. -/
def In.quad (b : Fin 48) (c : Fin 64) : BitVec 32 := d.word b ⟨c.val / 32, by omega⟩ ⟨c.val % 32, by omega⟩
/-- The row named by slot `k` of token `t`. -/
def In.row (b : Fin 48) (k : Fin 4) (t : Fin 32) : BitVec 32 := d.word b ⟨4 + k.val, by omega⟩ t

/-- How many tiles are copied for block `b`. -/
def In.cnt (b : Fin 48) : Nat := (d.word b 3 0).toNat
/-- The `j`-th of them. -/
def In.tl (b : Fin 48) (j : Nat) : Fin 284 := Fin.ofNat 284 (d.word b 2 (Fin.ofNat 32 j)).toNat
/-- The words of tile `T`. -/
def In.tileX (T : Fin 284) : S8x28x128.Idx → Elt F .i32 := fun x => d.codes (ix3 ⟨8 * T.val + (x 0).val, by have : (x 0).val < 8 := (x 0).isLt; omega⟩ (x 1) (x 2))

/-- The table names quads and rows that exist; each block has at most 32 tiles, which exist; no tile is copied twice;
    every quad of a block lies in a tile copied for it or for an earlier block. -/
structure In.Good : Prop where
  quad : ∀ b c, (d.quad b c).toNat < 2272
  row : ∀ b k t, (d.row b k t).toNat < 9088
  cnt : ∀ b, d.cnt b ≤ 32
  tile : ∀ b (j : Fin 32), j.val < d.cnt b → (d.word b 2 j).toNat < 284
  once : ∀ b b' (j j' : Fin 32), j.val < d.cnt b → j'.val < d.cnt b' → d.word b 2 j = d.word b' 2 j' → b = b' ∧ j = j'
  held : ∀ b c, ∃ b' : Fin 48, ∃ j : Fin 32, b' ≤ b ∧ j.val < d.cnt b' ∧ (d.quad b c).toNat / 8 = (d.word b' 2 j).toNat

/-- Slot `c`'s word of column group `g`, lane `l`. -/
def In.comp (b : Fin 48) (c : Fin 64) (g : Fin 28) (l : Fin 128) : Elt F .i32 := d.codes (ix3 (Fin.ofNat 2272 (d.quad b c).toNat) g l)
/-- The scales of slot `k` of token `t`. -/
def In.sg (b : Fin 48) (k : Fin 4) (t : Fin 32) (l : Fin 128) : Elt F .f32 := d.srm (ix2 (Fin.ofNat 9088 (d.row b k t).toNat) l)
/-- The positions and weights of a block. -/
def In.pwb (b : Fin 48) : Vec F S32x128 .f32 := fun x => d.pw (ix2 (tok b (x 0)) (x 1))
/-- The one-hot row of slot `k` of token `t`. -/
def In.p (b : Fin 48) (k : Fin 4) (t : Fin 32) (l : Fin 256) : Elt F .fp8e4m3 := oneHot k (d.pwb b) k0_pay70 (ix2 t l)
/-- The coefficients of slot `k` of token `t`. -/
def In.cf (b : Fin 48) (k : Fin 4) (t : Fin 32) (l : Fin 128) : Elt F .f32 := coefs k (d.pwb b) (fun x => d.sg b k (x 0) (x 1)) (ix2 t l)

/-- All one-hot rows of a block. -/
def In.pV (b : Fin 48) : Vec F S128x256 .fp8e4m3 := fun y => d.p b ⟨(y 0).val / 32, Nat.div_lt_of_lt_mul (y 0).isLt⟩ ⟨(y 0).val % 32, Nat.mod_lt _ (by decide)⟩ (y 1)
/-- All coefficients of a block. -/
def In.cfV (b : Fin 48) : Vec F S128x128 .f32 := fun y => d.cf b ⟨(y 0).val / 32, Nat.div_lt_of_lt_mul (y 0).isLt⟩ ⟨(y 0).val % 32, Nat.mod_lt _ (by decide)⟩ (y 1)
/-- A column group's words of all slots. -/
def In.grp (b : Fin 48) (g : Fin 28) : Vec F S64x128 .i32 := fun y => d.comp b (y 0) g (y 1)
/-- The block's result in column `256 j + l` of token `t`. -/
def In.out (b : Fin 48) (j : Fin 14) (t : Fin 32) (l : Fin 256) : Elt F .bf16 :=
  combined (d.pV b) (d.cfV b) j (d.grp b ⟨2 * j.val, by omega⟩) (d.grp b ⟨2 * j.val + 1, by omega⟩) (ix3 0 t l)

/-- Slots `< n` gathered. -/
def CompAt (b : Fin 48) (n : Nat) (X : S1904x128.Idx → Elt F .i32) : Prop :=
  ∀ (c : Fin 64) (g : Fin 28) (l : Fin 128), c.val < n → X (ix2 ⟨68 * g.val + c.val, by omega⟩ l) = d.comp b c g l
/-- The first `n` scale rows gathered. -/
def SgAt (b : Fin 48) (n : Nat) (X : S128x128.Idx → Elt F .f32) : Prop :=
  ∀ (k : Fin 4) (t : Fin 32) (l : Fin 128), 32 * k.val + t.val < n → X (ix2 ⟨32 * k.val + t.val, by omega⟩ l) = d.sg b k t l
/-- The one-hot rows of slots `< n` written. -/
def PAt (b : Fin 48) (n : Nat) (X : S128x256.Idx → Elt F .fp8e4m3) : Prop :=
  ∀ (k : Fin 4) (t : Fin 32) (l : Fin 256), k.val < n → X (ix2 ⟨32 * k.val + t.val, by omega⟩ l) = d.p b k t l
/-- The coefficients of slots `< n` written. -/
def CfAt (b : Fin 48) (n : Nat) (X : S128x128.Idx → Elt F .f32) : Prop :=
  ∀ (k : Fin 4) (t : Fin 32) (l : Fin 128), k.val < n → X (ix2 ⟨32 * k.val + t.val, by omega⟩ l) = d.cf b k t l
/-- The first `n` pairs of column groups written to slot `s` of the output buffer. -/
def ObAt (b : Fin 48) (s : Fin 2) (n : Nat) (X : S2x32x3584.Idx → Elt F .bf16) : Prop :=
  ∀ (j : Fin 14) (t : Fin 32) (l : Fin 256), j.val < n → X (ix3 s t ⟨256 * j.val + l.val, by omega⟩) = d.out b j t l
/-- A block of the result. -/
def OutAt (b : Fin 48) (X : S32x3584.Idx → Elt F .bf16) : Prop :=
  ∀ (j : Fin 14) (t : Fin 32) (l : Fin 256), X (ix2 t ⟨256 * j.val + l.val, by omega⟩) = d.out b j t l

variable {d}

theorem PAt.eq {b : Fin 48} {X : S128x256.Idx → Elt F .fp8e4m3} (h : PAt d b 4 X) : X = d.pV b := by
  funext y
  have h0 : (y 0).val < 128 := (y 0).isLt
  have := h ⟨(y 0).val / 32, Nat.div_lt_of_lt_mul h0⟩ ⟨(y 0).val % 32, Nat.mod_lt _ (by decide)⟩ (y 1) (Nat.div_lt_of_lt_mul h0)
  rw [show In.pV d b y = _ from this.symm]
  refine congrArg X ((eq_ix2 y).trans ?_)
  refine congrArg (fun a => ix2 a (y 1)) (Fin.ext ?_)
  exact (Nat.div_add_mod _ _).symm

theorem CfAt.eq {b : Fin 48} {X : S128x128.Idx → Elt F .f32} (h : CfAt d b 4 X) : X = d.cfV b := by
  funext y
  have h0 : (y 0).val < 128 := (y 0).isLt
  have := h ⟨(y 0).val / 32, Nat.div_lt_of_lt_mul h0⟩ ⟨(y 0).val % 32, Nat.mod_lt _ (by decide)⟩ (y 1) (Nat.div_lt_of_lt_mul h0)
  rw [show In.cfV d b y = _ from this.symm]
  refine congrArg X ((eq_ix2 y).trans ?_)
  refine congrArg (fun a => ix2 a (y 1)) (Fin.ext ?_)
  exact (Nat.div_add_mod _ _).symm

end Cert.HandBits
-- ==== Proof.BitsShapeCond.lean ====
/- What each trip of the loop starts and waits for. -/
module

public import proofs.«01_k».proof.Proof.BitsSteps

@[expose] public section

noncomputable section

namespace Cert.HandBits

open Cert.Kernel Cert.Kernel.Gen
open Idealize.ShloMosaic Idealize.SL.Sem

variable {F : FTy → Type} [FloatOps F]

theorem cond1_iff : ∀ k : Fin k0_t6_loop.trips, k0_cond1 k = 1#1 ↔ k.val < 20 := by decide +kernel
theorem cond2_iff : ∀ k : Fin k0_t6_loop.trips, k0_cond2 k = 1#1 := by decide +kernel
theorem cond3_iff : ∀ k : Fin k0_t6_loop.trips, k0_cond3 k = 1#1 ↔ k.val ≠ 0 := by decide +kernel
theorem cond4_iff : ∀ k : Fin k0_t6_loop.trips, k0_cond4 k = 1#1 ↔ k.val < 20 := by decide +kernel
theorem cond5_iff : ∀ k : Fin k0_t6_loop.trips, k0_cond5 k = 1#1 ↔ k.val < 23 := by decide +kernel
theorem cond6_iff : ∀ k : Fin k0_t6_loop.trips, k0_cond6 k = 1#1 ↔ k.val ≠ 0 := by decide +kernel

theorem issAt_0 (k : Fin k0_t6_loop.trips) (h : k0_cond1 k = 1#1) : issAt 0 k = some (iss1 k h) := dif_pos h
theorem issAt_1 (k : Fin k0_t6_loop.trips) (h : k0_cond4 k = 1#1) : issAt 1 k = some (iss2 k h) := dif_pos h
theorem issAt_0' (k : Fin k0_t6_loop.trips) (h : ¬ k0_cond1 k = 1#1) : issAt 0 k = none := dif_neg h
theorem issAt_1' (k : Fin k0_t6_loop.trips) (h : ¬ k0_cond4 k = 1#1) : issAt 1 k = none := dif_neg h
theorem lndAt_0 (k : Fin k0_t6_loop.trips) (h : k0_cond2 k = 1#1) : lndAt 0 k = some (lnd1 k h) := dif_pos h
theorem lndAt_1 (k : Fin k0_t6_loop.trips) (h : k0_cond5 k = 1#1) : lndAt 1 k = some (lnd2 k h) := dif_pos h
theorem lndAt_1' (k : Fin k0_t6_loop.trips) (h : ¬ k0_cond5 k = 1#1) : lndAt 1 k = none := dif_neg h

end Cert.HandBits
-- ==== Proof.BitsPlaces.lean ====
/- Where each place of the kernel that starts or awaits copies of tiles reads the table, and which semaphore it uses. -/
module

public import proofs.«01_k».proof.Proof.BitsShapeCond

@[expose] public section

noncomputable section

namespace Cert.HandBits

open Cert.Kernel Cert.Kernel.Gen
open Idealize.ShloMosaic Idealize.SL.Sem

/-- Block number `n`, the last one from there on. -/
def bn (n : ℕ) : Fin 48 := ⟨min n 47, by omega⟩

/-- The place starts the tiles of block `b`. -/
structure Iss.For (I : Iss) (b : Fin 48) : Prop where
  coff : I.coff = ![3, 32 * b.val]
  C : ∀ v : BitVec 32, v.toNat ≤ 32 → I.C v
  off1 : ∀ v : BitVec 32, v.toNat ≤ 32 → ∀ j, I.off1 v j = ![2, 32 * b.val + j.val]
  T1 : ∀ v : BitVec 32, v.toNat < 284 → I.T1 v
  soff : I.soff = ![b.val]

/-- The place awaits the tiles of block `b`. -/
structure Lnd.For (L : Lnd) (b : Fin 48) : Prop where
  coff : L.coff = ![3, 32 * b.val]
  C : ∀ v : BitVec 32, v.toNat ≤ 32 → L.C v
  soff : L.soff = ![b.val]

/-! ## The counted loops: as many trips as the count, then none -/

theorem trips2_fin : ∀ n : Fin 33, (k0_t2_loop (BitVec.ofNat 32 n.val)).OK ∧ (k0_t2_loop (BitVec.ofNat 32 n.val)).trips = n.val := by decide +kernel
theorem trips3_fin : ∀ n : Fin 33, (k0_t3_loop (BitVec.ofNat 32 n.val)).OK ∧ (k0_t3_loop (BitVec.ofNat 32 n.val)).trips = 0 := by decide +kernel
theorem trips2 (v : BitVec 32) (h : v.toNat ≤ 32) : (k0_t2_loop v).OK ∧ (k0_t2_loop v).trips = v.toNat := by
  have := trips2_fin ⟨v.toNat, by omega⟩
  rwa [show BitVec.ofNat 32 (⟨v.toNat, by omega⟩ : Fin 33).val = v from BitVec.eq_of_toNat_eq (by simp)] at this
theorem trips3 (v : BitVec 32) (h : v.toNat ≤ 32) : (k0_t3_loop v).OK ∧ (k0_t3_loop v).trips = 0 := by
  have := trips3_fin ⟨v.toNat, by omega⟩
  rwa [show BitVec.ofNat 32 (⟨v.toNat, by omega⟩ : Fin 33).val = v from BitVec.eq_of_toNat_eq (by simp)] at this

/-- A word below 32 read at a count's or a tile's place is in the table. -/
theorem place_inb {o : Fin 2 → Nat} {r b j : Nat} (hr : r < 8) (hb : b < 48) (hj : j < 32) (h : o = ![r, 32 * b + j]) : ∀ a, o a + S1x1.size a ≤ S8x1536.size a := by
  subst h
  intro a; fin_cases a
  · show r + 1 ≤ 8; omega
  · show 32 * b + j + 1 ≤ 1536; omega

/-! ## A tile's offset -/

theorem off4_fin : ∀ n : Fin 284, k0_off4 (BitVec.ofNat 32 n.val) = ![8 * n.val, 0, 0] ∧ 8 ∣ (k0_mult1 (BitVec.ofNat 32 n.val)).toNat := by decide +kernel
theorem off4_eq (v : BitVec 32) (h : v.toNat < 284) : k0_off4 v = ![8 * v.toNat, 0, 0] ∧ 8 ∣ (k0_mult1 v).toNat := by
  have := off4_fin ⟨v.toNat, h⟩
  rwa [show BitVec.ofNat 32 (⟨v.toNat, h⟩ : Fin 284).val = v from BitVec.eq_of_toNat_eq (by simp)] at this
theorem off4_inb (v : BitVec 32) (h : v.toNat < 284) : ∀ a, k0_off4 v a + S8x28x128.size a ≤ S2272x28x128.size a := by
  rw [(off4_eq v h).1]
  intro a; fin_cases a
  · show 8 * v.toNat + 8 ≤ 2272; omega
  · show 0 + 28 ≤ 28; omega
  · show 0 + 128 ≤ 128; omega

/-! ## The places -/

theorem trips2_top : (k0_t2_loop 32#32).trips = 32 := (trips2 32#32 (by decide)).2

theorem iss0_off : ∀ k : Fin k0_t1_loop.trips, k0_off1 k = ![3, 32 * k.val] ∧ k0_off3 k = ![k.val] ∧ ∀ j, k0_off2 k 32#32 j = ![2, 32 * k.val + j.val] := by decide +kernel
theorem iss1_off : ∀ k : Fin k0_t6_loop.trips, k0_off200 k = ![3, 32 * (2 * k.val + 8)] ∧ k0_off202 k = ![2 * k.val + 8] ∧ ∀ j, k0_off201 k 32#32 j = ![2, 32 * (2 * k.val + 8) + j.val] := by decide +kernel
theorem iss2_off : ∀ k : Fin k0_t6_loop.trips, k0_off597 k = ![3, 32 * (2 * k.val + 9)] ∧ k0_off599 k = ![2 * k.val + 9] ∧ ∀ j, k0_off598 k 32#32 j = ![2, 32 * (2 * k.val + 9) + j.val] := by decide +kernel
theorem lnd1_off : ∀ k : Fin k0_t6_loop.trips, k0_off207 k = ![3, 32 * (2 * k.val + 1)] ∧ k0_off208 k = ![2 * k.val + 1] := by decide +kernel
theorem lnd2_off : ∀ k : Fin k0_t6_loop.trips, k.val < 23 → k0_off604 k = ![3, 32 * (2 * k.val + 2)] ∧ k0_off605 k = ![2 * k.val + 2] := by decide +kernel

theorem iss0_off1 (k : Fin k0_t1_loop.trips) (b : Fin 48) (hb : b.val = k.val) (v : BitVec 32) (hv : v.toNat ≤ 32) (j : Fin (k0_t2_loop v).trips) :
    k0_off2 k v j = ![2, 32 * b.val + j.val] := by
  have hj : j.val < 32 := lt_of_lt_of_le (lt_of_lt_of_eq j.isLt (trips2 v hv).2) hv
  have h := (iss0_off k).2.2 ⟨j.val, lt_of_lt_of_eq hj trips2_top.symm⟩
  rw [hb]
  unfold k0_off2 Scf.iv at h ⊢
  dsimp only at h ⊢
  exact h

theorem iss0_chk (k : Fin k0_t1_loop.trips) (b : Fin 48) (hb : b.val = k.val) (v : BitVec 32) (hv : v.toNat ≤ 32) : k0_chk1 k v := by
  unfold k0_chk1
  refine ⟨?_, ?_, ?_, ?_⟩
  · exact (trips2 v hv).1
  · intro j
    have hj : j.val < 32 := lt_of_lt_of_le (lt_of_lt_of_eq j.isLt (trips2 v hv).2) hv
    exact place_inb (by decide) b.isLt hj (iss0_off1 k b hb v hv j)
  · exact (trips3 v hv).1
  · intro j
    exact absurd (lt_of_lt_of_eq j.isLt (trips3 v hv).2) (Nat.not_lt_zero _)

theorem iss0_for (k : Fin k0_t1_loop.trips) (b : Fin 48) (hb : b.val = k.val) : (iss0 k).For b where
  coff := by rw [hb]; exact (iss0_off k).1
  C := iss0_chk k b hb
  off1 := iss0_off1 k b hb
  T1 := fun v hv => ⟨(off4_eq v hv).2, off4_inb v hv⟩
  soff := by rw [hb]; exact (iss0_off k).2.1

theorem iss1_off1 (k : Fin k0_t6_loop.trips) (b : Fin 48) (hb : b.val = 2 * k.val + 8) (v : BitVec 32) (hv : v.toNat ≤ 32) (j : Fin (k0_t7_loop v).trips) :
    k0_off201 k v j = ![2, 32 * b.val + j.val] := by
  have hj : j.val < 32 := lt_of_lt_of_le (lt_of_lt_of_eq j.isLt (trips2 v hv).2) hv
  have h := (iss1_off k).2.2 ⟨j.val, lt_of_lt_of_eq hj trips2_top.symm⟩
  rw [hb]
  unfold k0_off201 Scf.iv at h ⊢
  dsimp only at h ⊢
  exact h

theorem iss1_chk (k : Fin k0_t6_loop.trips) (b : Fin 48) (hb : b.val = 2 * k.val + 8) (v : BitVec 32) (hv : v.toNat ≤ 32) : k0_chk197 k v := by
  unfold k0_chk197
  refine ⟨?_, ?_, ?_, ?_⟩
  · intro _; exact (trips2 v hv).1
  · intro j _
    have hj : j.val < 32 := lt_of_lt_of_le (lt_of_lt_of_eq j.isLt (trips2 v hv).2) hv
    exact place_inb (by decide) b.isLt hj (iss1_off1 k b hb v hv j)
  · intro _; exact (trips3 v hv).1
  · intro j
    exact absurd (lt_of_lt_of_eq j.isLt (trips3 v hv).2) (Nat.not_lt_zero _)

theorem iss1_for (k : Fin k0_t6_loop.trips) (h : k0_cond1 k = 1#1) (b : Fin 48) (hb : b.val = 2 * k.val + 8) : (iss1 k h).For b where
  coff := by rw [hb]; exact (iss1_off k).1
  C := iss1_chk k b hb
  off1 := iss1_off1 k b hb
  T1 := fun v hv => ⟨fun _ => (off4_eq v hv).2, fun _ => off4_inb v hv⟩
  soff := by rw [hb]; exact (iss1_off k).2.1

theorem iss2_off1 (k : Fin k0_t6_loop.trips) (b : Fin 48) (hb : b.val = 2 * k.val + 9) (v : BitVec 32) (hv : v.toNat ≤ 32) (j : Fin (k0_t11_loop v).trips) :
    k0_off598 k v j = ![2, 32 * b.val + j.val] := by
  have hj : j.val < 32 := lt_of_lt_of_le (lt_of_lt_of_eq j.isLt (trips2 v hv).2) hv
  have h := (iss2_off k).2.2 ⟨j.val, lt_of_lt_of_eq hj trips2_top.symm⟩
  rw [hb]
  unfold k0_off598 Scf.iv at h ⊢
  dsimp only at h ⊢
  exact h

theorem iss2_chk (k : Fin k0_t6_loop.trips) (b : Fin 48) (hb : b.val = 2 * k.val + 9) (v : BitVec 32) (hv : v.toNat ≤ 32) : k0_chk393 k v := by
  unfold k0_chk393
  refine ⟨?_, ?_, ?_, ?_⟩
  · intro _; exact (trips2 v hv).1
  · intro j _
    have hj : j.val < 32 := lt_of_lt_of_le (lt_of_lt_of_eq j.isLt (trips2 v hv).2) hv
    exact place_inb (by decide) b.isLt hj (iss2_off1 k b hb v hv j)
  · intro _; exact (trips3 v hv).1
  · intro j
    exact absurd (lt_of_lt_of_eq j.isLt (trips3 v hv).2) (Nat.not_lt_zero _)

theorem iss2_for (k : Fin k0_t6_loop.trips) (h : k0_cond4 k = 1#1) (b : Fin 48) (hb : b.val = 2 * k.val + 9) : (iss2 k h).For b where
  coff := by rw [hb]; exact (iss2_off k).1
  C := iss2_chk k b hb
  off1 := iss2_off1 k b hb
  T1 := fun v hv => ⟨fun _ => (off4_eq v hv).2, fun _ => off4_inb v hv⟩
  soff := by rw [hb]; exact (iss2_off k).2.1

theorem lnd0_for : lnd0.For 0 := ⟨rfl, fun v hv => ⟨(trips2 v hv).1, (trips3 v hv).1⟩, rfl⟩
theorem lnd1_for (k : Fin k0_t6_loop.trips) (h : k0_cond2 k = 1#1) (b : Fin 48) (hb : b.val = 2 * k.val + 1) : (lnd1 k h).For b :=
  ⟨by rw [hb]; exact (lnd1_off k).1, fun v hv => ⟨fun _ => (trips2 v hv).1, fun _ => (trips3 v hv).1⟩, by rw [hb]; exact (lnd1_off k).2⟩
theorem lnd2_for (k : Fin k0_t6_loop.trips) (h : k0_cond5 k = 1#1) (b : Fin 48) (hb : b.val = 2 * k.val + 2) : (lnd2 k h).For b := by
  have hk : k.val < 23 := (cond5_iff k).1 h
  exact ⟨by rw [hb]; exact (lnd2_off k hk).1, fun v hv => ⟨fun _ => (trips2 v hv).1, fun _ => (trips3 v hv).1⟩, by rw [hb]; exact (lnd2_off k hk).2⟩

/-- Slot `s` of trip `k` starts the tiles of the block eight ahead, as long as there is one, -/
theorem issAt_for (s : Fin 2) (k : Fin k0_t6_loop.trips) :
    (2 * k.val + s.val + 8 < 48 ∧ ∃ I, issAt s k = some I ∧ I.For (bn (2 * k.val + s.val + 8))) ∨ (48 ≤ 2 * k.val + s.val + 8 ∧ issAt s k = none) := by
  have hk : k.val < 24 := lt_of_lt_of_eq k.isLt trips_eq
  fin_cases s
  · by_cases h : k.val < 20
    · exact .inl ⟨by show 2 * k.val + 0 + 8 < 48; omega, _, issAt_0 k ((cond1_iff k).2 h), iss1_for k _ _ (by show min (2 * k.val + 0 + 8) 47 = _; omega)⟩
    · exact .inr ⟨by show 48 ≤ 2 * k.val + 0 + 8; omega, issAt_0' k fun h' => h ((cond1_iff k).1 h')⟩
  · by_cases h : k.val < 20
    · exact .inl ⟨by show 2 * k.val + 1 + 8 < 48; omega, _, issAt_1 k ((cond4_iff k).2 h), iss2_for k _ _ (by show min (2 * k.val + 1 + 8) 47 = _; omega)⟩
    · exact .inr ⟨by show 48 ≤ 2 * k.val + 1 + 8; omega, issAt_1' k fun h' => h ((cond4_iff k).1 h')⟩

/-- and awaits those of the next block, as long as there is one. -/
theorem lndAt_for (s : Fin 2) (k : Fin k0_t6_loop.trips) :
    (2 * k.val + s.val + 1 < 48 ∧ ∃ L, lndAt s k = some L ∧ L.For (bn (2 * k.val + s.val + 1))) ∨ (48 ≤ 2 * k.val + s.val + 1 ∧ lndAt s k = none) := by
  have hk : k.val < 24 := lt_of_lt_of_eq k.isLt trips_eq
  fin_cases s
  · exact .inl ⟨by show 2 * k.val + 0 + 1 < 48; omega, _, lndAt_0 k (cond2_iff k), lnd1_for k _ _ (by show min (2 * k.val + 0 + 1) 47 = _; omega)⟩
  · by_cases h : k.val < 23
    · exact .inl ⟨by show 2 * k.val + 1 + 1 < 48; omega, _, lndAt_1 k ((cond5_iff k).2 h), lnd2_for k _ _ (by show min (2 * k.val + 1 + 1) 47 = _; omega)⟩
    · exact .inr ⟨by show 48 ≤ 2 * k.val + 1 + 1; omega, lndAt_1' k fun h' => h ((cond5_iff k).1 h')⟩

end Cert.HandBits
-- ==== Proof.BitsTiles.lean ====
/- The copies of tiles: a block's tiles pending, under way, and here; a copy started, a block's copies awaited. -/
module

public import proofs.«01_k».proof.Proof.BitsOps
public import proofs.«01_k».proof.Proof.BitsData
public import proofs.«01_k».proof.Proof.BitsPlaces
public import Idealize.ShloMosaic.Lib.Pipeline.Value
public import Idealize.ShloMosaic.Lib.Batch
public import Idealize.SL.BI.BigOpNat

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} (d : In F)

/-- The counters the copies are tracked by. -/
abbrev EC : UEmb Counters 𝕄 := countersEmb (U := Pipeline.UD sig nD τ)

/-- The core owes nothing. -/
def Idle : sProp 𝕄 := iprop(∃ Wt, owes (c : Thread nD τ) 0 Wt)

/-- A program that has returned. -/
theorem ret_intro : Q ⟨⟩ ⊢ W c (.ret ⟨⟩) Q := by
  show Q ⟨⟩ ⊢ iprop(|={Set.univ}[frame]=> Q ⟨⟩)
  iintro H; imodintro; iexact H

theorem bindW {p : P F} {k : PUnit.{1} → P F} : W c (p.bind k) Q = W c p (fun a => W c (k a) Q) := wp_bind _ _ _ _ _ _

/-- A counted loop, by an invariant. -/
theorem wp_loop (L : Scf.Loop 32) (ok : L.OK) (body : Fin L.trips → PUnit.{1} → P F) (Iv : ℕ → sProp 𝕄)
    (h : ∀ j : Fin L.trips, Iv j.val ⊢ W c (body j ⟨⟩) (fun _ => Iv (j.val + 1))) (K : P F) :
    Iv 0 ⊢ iprop((Iv L.trips -∗ W c K Q) -∗ W c (.bind (Scf.Loop.for L ok ⟨⟩ body) fun _ => K) Q) := by
  rw [bindW]
  iintro HI HK
  iapply (Scf.wp_for (frame (nD := nD)) (wpE (defs₀ (F := F)) Variants.none (c : Thread nD τ) none) Set.univ L.lb L.ub L.st ok ⟨⟩ body
    (fun k _ => Iv k) (fun k _ => h k))
  isplitl [HI]; · iexact HI
  iintro %_ HI
  iapply HK
  iexact HI

/-- A word of the table read. -/
theorem wp_readWord {tab : Memref sig .tc .smem S8x1536 .i32} (b : Fin 48) (r : Fin 8) (t : Fin 32) (o : Fin 2 → Nat) (h : ∀ a, o a + S1x1.size a ≤ S8x1536.size a)
    (ho : o = ![r.val, 32 * b.val + t.val]) {K : BitVec 32 → P F} :
    Hd c tab (· = d.tab) ⊢ iprop((Hd c tab (· = d.tab) -∗ W c (K (d.word b r t)) Q) -∗ W c (readWord tab o h K) Q) := by
  subst ho
  unfold Hd On readWord
  iintro ⟨%f, %hf, H⟩ Hk
  have e : ∀ x : S1x1.Idx, (tab.access (Rect.unit (s := S8x1536) ![r.val, 32 * b.val + t.val] S1x1.size h)).read (Elt F) f x = d.word b r t := by
    intro x
    show tab.view.read (Elt F) f ((Rect.unit (s := S8x1536) ![r.val, 32 * b.val + t.val] S1x1.size h).emb x) = _
    rw [hf]
    refine congrArg d.tab (Shape.idx_ext₂ ?_ ?_)
    · have : (x 0).val < 1 := (x 0).isLt
      show r.val + 1 * (x 0).val = r.val
      omega
    · have : (x 1).val < 1 := (x 1).isLt
      show 32 * b.val + t.val + 1 * (x 1).val = b.val * 32 + t.val
      omega
  iapply (wp_smemLoadElt Variants.none (c : Thread nD τ) none Set.univ (m := tab) (r := Rect.unit (s := S8x1536) ![r.val, 32 * b.val + t.val] S1x1.size h)
    (S := tab.view.set) (f := f) (View.set_slice_subset _ _)) $$ H
  iintro H
  rw [e]
  iapply Hk
  iexists f; isplitr
  · ipureintro; exact hf
  · iexact H

/-! ## Tiles -/

theorem tile_inb (T : Fin 284) : ∀ a, (![8 * T.val, 0, 0] : Fin 3 → Nat) a + S8x28x128.size a ≤ S2272x28x128.size a := by
  intro a; fin_cases a
  · show 8 * T.val + 8 ≤ 2272; omega
  · show 0 + 28 ≤ 28; omega
  · show 0 + 128 ≤ 128; omega

/-- Tile `T` of an array of all quads' words. -/
def tileOf {sp : Space} (m : Memref sig .tc sp S2272x28x128 .i32) (T : Fin 284) : Memref sig .tc sp S8x28x128 .i32 := tileMem m ![8 * T.val, 0, 0] (tile_inb T)

theorem tileMem_eq {sp : Space} (m : Memref sig .tc sp S2272x28x128 .i32) (o : Fin 3 → Nat) (h) (T : Fin 284) (e : o = ![8 * T.val, 0, 0]) : tileMem m o h = tileOf m T := by
  subst e; rfl

theorem tsem_inb (b : Fin 48) : ∀ a, (![b.val] : Fin 1 → Nat) a + S1.size a ≤ S48.size a := by
  intro a; fin_cases a
  show b.val + 1 ≤ 48; omega

section
variable (words : Memref sig .tc .hbm S2272x28x128 .i32) (codes : Memref sig .tc .vmem S2272x28x128 .i32) (tab : Memref sig .tc .smem S8x1536 .i32) (tsems : DmaSems sig S48)

/-- Block `b`'s semaphore. -/
def tsem (b : Fin 48) : SemLoc sig := SemLoc.dma (tSem tsems ![b.val] (tsem_inb b)).sem
/-- What one copy credits it. -/
def tcredit : ℕ := (tileOf codes 0).view.dmaCredit
/-- A tile not copied yet. -/
def FreeT (T : Fin 284) : sProp 𝕄 := iprop(Hd c (tileOf words T) (· = d.tileX T) ∗ Hd c (tileOf codes T) (fun _ => True))
/-- A tile copied. -/
def HereT (T : Fin 284) : sProp 𝕄 := iprop(Hd c (tileOf words T) (· = d.tileX T) ∗ Hd c (tileOf codes T) (· = d.tileX T))
/-- Block `b`'s tiles not copied yet, -/
def Pend (b : Fin 48) : sProp 𝕄 := iprop(bigSep (Finset.univ : Finset (Fin (d.cnt b))) (fun j => FreeT c d words codes (d.tl b j.val)) ∗ semVal ((c : Thread nD τ), tsem tsems b) 0)
/-- with `j` copies under way of which `u` units are consumed, -/
def FlyJ (b : Fin 48) (j u : ℕ) : sProp 𝕄 :=
  Transfers.Batch EC (c : Thread nD τ) (tsem tsems b) () (tcredit codes) (fun t : Fin (d.cnt b) => HereT c d words codes (d.tl b t.val)) j u
/-- all under way, -/
def Fly (b : Fin 48) : sProp 𝕄 := FlyJ c d words codes tsems b (d.cnt b) 0
/-- copied. -/
def Here (b : Fin 48) : sProp 𝕄 := iprop(bigSep (Finset.univ : Finset (Fin (d.cnt b))) (fun j => HereT c d words codes (d.tl b j.val)) ∗ semVal ((c : Thread nD τ), tsem tsems b) 0)
/-- The tiles of blocks below `n` copied. -/
def Landed (n : ℕ) : sProp 𝕄 := bigSep (Finset.Ico 0 n) fun b => Here c d words codes tsems (bn b)
/-- Those of blocks from `n` under way, from `m` not copied yet. -/
def Ahead (n m : ℕ) : sProp 𝕄 := iprop(bigSep (Finset.Ico n m) (fun b => Fly c d words codes tsems (bn b)) ∗ bigSep (Finset.Ico m 48) (fun b => Pend c d words codes tsems (bn b)))

instance hereT_storable (T : Fin 284) : BI.Storable (upEmb : UEmb _ 𝕄) (HereT c d words codes T) := by
  unfold HereT Hd On; infer_instance
end

section
variable {words : Memref sig .tc .hbm S2272x28x128 .i32} {codes : Memref sig .tc .vmem S2272x28x128 .i32} {tab : Memref sig .tc .smem S8x1536 .i32} {tsems : DmaSems sig S48} {d}

/-- One copy started. -/
theorem wp_tileStep (hd : d.Good) (b : Fin 48) (j : Fin 32) (hj : j.val < d.cnt b) (o : Fin 2 → Nat) (h) (T : BitVec 32 → Prop) (dec) (hT) (so : Fin 1 → Nat) (hs)
    (ho : o = ![2, 32 * b.val + j.val]) (hv : ∀ v : BitVec 32, v.toNat < 284 → T v) (hso : so = ![b.val]) :
    iprop(Hd c tab (· = d.tab) ∗ FreeT c d words codes (d.tl b j.val) ∗ FlyJ c d words codes tsems b j.val 0)
      ⊢ W c (tileStep words codes tab tsems o h T dec hT so hs) (fun _ => iprop(Hd c tab (· = d.tab) ∗ FlyJ c d words codes tsems b (j.val + 1) 0)) := by
  subst hso
  have hlt := hd.tile b j hj
  have hK : T (d.word b 2 j) := hv _ hlt
  have hTl : (d.tl b j.val).val = (d.word b 2 j).toNat := by
    show (d.word b 2 (Fin.ofNat 32 j.val)).toNat % 284 = _
    rw [show Fin.ofNat 32 j.val = j from Fin.ext (Nat.mod_eq_of_lt j.isLt)]
    omega
  have ho4 : k0_off4 (d.word b 2 j) = ![8 * (d.tl b j.val).val, 0, 0] := by rw [hTl]; exact (off4_eq _ hlt).1
  have ew := tileMem_eq words _ (hT _ hK) _ ho4
  have ec := tileMem_eq codes _ (hT _ hK) _ ho4
  iintro ⟨Ht, Hf, Hb⟩
  unfold tileStep
  iapply (wp_readWord c d b 2 j o h ho) $$ Ht
  iintro Ht
  iapply (wp_assume Variants.none (c : Thread nD τ) none Set.univ hK)
  unfold FreeT
  rw [← ew, ← ec]
  unfold Hd On
  icases Hf with ⟨⟨%fs, %hfs, Hs⟩, ⟨%fd, -, Hx⟩⟩
  unfold FlyJ
  iapply (Transfers.wp_dmaBatch EC Variants.none (c : Thread nD τ) none (src := tileMem words (k0_off4 (d.word b 2 j)) (hT _ hK)) (dst := tileMem codes (k0_off4 (d.word b 2 j)) (hT _ hK))
    (via := .same) (fs := fs) (fd := fd) (q := fullShare) (D := fun t : Fin (d.cnt b) => HereT c d words codes (d.tl b t.val)) (j := j.val) (u := 0) () (tcredit codes) rfl (Finset.Subset.refl _) hj (Nat.zero_le _) ?_) $$ [Hs Hx Hb]
  · show _ ⊢ HereT c d words codes (d.tl b j.val)
    unfold HereT
    rw [← ew, ← ec]
    unfold Hd On
    iintro ⟨Hx, Hs⟩
    isplitl [Hs]
    · iexists fs; isplitr
      · ipureintro; exact hfs
      · iexact Hs
    · iexists _; isplitr [Hx]
      swap
      · iexact Hx
      · ipureintro
        exact (View.read_write_univ _ _).trans hfs
  · isplitl [Hs]; · iexact Hs
    isplitl [Hx]; · iexact Hx
    iexact Hb
  iintro Hb
  iapply (ret_intro c)
  isplitl [Ht]; · iexact Ht
  iexact Hb

/-- A block's copies started. -/
theorem wp_issue (hd : d.Good) (b : Fin 48) (I : Iss) (hI : I.For b) (K : P F) :
    iprop(Hd c tab (· = d.tab) ∗ Pend c d words codes tsems b)
      ⊢ iprop((iprop(Hd c tab (· = d.tab) ∗ Fly c d words codes tsems b) -∗ W c K Q) -∗ W c (issue words codes tab tsems I K) Q) := by
  have hv : (d.word b 3 0).toNat ≤ 32 := hd.cnt b
  have hK := hI.C _ hv
  have htr := (trips2 _ hv).2
  iintro ⟨Ht, Hp⟩ Hk
  unfold issue
  iapply (wp_readWord c d b 3 0 I.coff I.cinb (hI.coff.trans (by rfl))) $$ Ht
  iintro Ht
  unfold Pend
  icases Hp with ⟨Hp, Hv⟩
  imod (Transfers.batch_alloc' EC (c := (c : Thread nD τ)) (sm := tsem tsems b) () (tcredit codes) (fun t : Fin (d.cnt b) => HereT c d words codes (d.tl b t.val)) (E := Set.univ)) $$ Hv with Hb
  iapply (wp_assume Variants.none (c : Thread nD τ) none Set.univ hK)
  iapply (wp_loop c _ _ _ (fun j => iprop(bigSep (Transfers.pending (n := d.cnt b) j) (fun t => FreeT c d words codes (d.tl b t.val)) ∗ Hd c tab (· = d.tab) ∗ FlyJ c d words codes tsems b j 0)) ?_ _) $$ [Ht Hp Hb]
  · intro j
    have hj : j.val < d.cnt b := lt_of_lt_of_eq j.isLt htr
    have hj32 : j.val < 32 := lt_of_lt_of_le hj hv
    rw [Transfers.pending_succ hj, bigSep_insert (Transfers.not_mem_pending_succ hj)]
    have hstep := wp_tileStep (words := words) (codes := codes) (tab := tab) (tsems := tsems) c hd b ⟨j.val, hj32⟩ hj _ (I.inb1 _ hK j) I.T1 I.tdec1 I.tinb1 I.soff I.sinb (hI.off1 _ hv j) hI.T1 hI.soff
    show iprop(iprop(FreeT c d words codes (d.tl b j.val) ∗ bigSep (Transfers.pending (n := d.cnt b) (j.val + 1)) (fun t => FreeT c d words codes (d.tl b t.val))) ∗ Hd c tab (· = d.tab) ∗ FlyJ c d words codes tsems b j.val 0) ⊢ _
    refine BIBase.Entails.trans ?_ (wp_frame_l _ _ _)
    iintro ⟨⟨Hf, Hr⟩, Ht, Hb⟩
    isplitl [Hr]; · iexact Hr
    iapply hstep
    isplitl [Ht]; · iexact Ht
    isplitl [Hf]; · iexact Hf
    iexact Hb
  · isplitl [Hp]; · rw [Transfers.pending_zero]; iexact Hp
    isplitl [Ht]; · iexact Ht
    unfold FlyJ; iexact Hb
  iintro ⟨-, Ht, Hb⟩
  iapply (wp_loop c _ _ _ (fun _ => iprop(Hd c tab (· = d.tab) ∗ Fly c d words codes tsems b)) (fun j => absurd (lt_of_lt_of_eq j.isLt (trips3 _ hv).2) (Nat.not_lt_zero _)) _) $$ [Ht Hb]
  · isplitl [Ht]; · iexact Ht
    unfold Fly; rw [show d.cnt b = (k0_t2_loop (d.word b 3 0)).trips from htr.symm]; iexact Hb
  iexact Hk

theorem tcredit_pos : 0 < tcredit codes := View.dmaCredit_pos _ (by decide)

/-- One copy awaited. -/
theorem wp_tileWait (b : Fin 48) (u : ℕ) (hu : u < d.cnt b) (so : Fin 1 → Nat) (hs) (hso : so = ![b.val]) :
    iprop(FlyJ c d words codes tsems b (d.cnt b) (tcredit codes * u) ∗ Idle c)
      ⊢ W c (tileWait words codes tsems so hs) (fun _ => iprop(FlyJ c d words codes tsems b (d.cnt b) (tcredit codes * (u + 1)) ∗ Idle c)) := by
  subst hso
  have hle : tcredit codes * u + 1 * tcredit codes ≤ tcredit codes * d.cnt b := by
    rw [Nat.one_mul, ← Nat.mul_succ]; exact Nat.mul_le_mul_left _ hu
  unfold tileWait Idle FlyJ
  iintro ⟨Hb, %Wt, Ho⟩
  iapply (Transfers.wp_waitBatchMul EC Variants.none (c : Thread nD τ) none (sem := (tSem tsems ![b.val] (tsem_inb b)).sem)
    (srcw := tileMem words ![0, 0, 0] tile0_inb) (dstw := tileMem codes ![0, 0, 0] tile0_inb) () 1 (N := tcredit codes) (Nat.one_mul _).symm hle) $$ [Hb Ho]
  · isplitl [Hb]; · iexact Hb
    iexact Ho
  iintro ⟨Hb, Ho⟩
  iapply (ret_intro c)
  isplitl [Hb]
  · rw [Nat.mul_succ, ← Nat.one_mul (tcredit codes), Nat.mul_comm, Nat.mul_one, Nat.one_mul]; iexact Hb
  iexists _; iexact Ho

/-- A block's copies awaited. -/
theorem wp_land (hd : d.Good) (b : Fin 48) (L : Lnd) (hL : L.For b) (K : P F) :
    iprop(Hd c tab (· = d.tab) ∗ Fly c d words codes tsems b ∗ Idle c)
      ⊢ iprop((iprop(Hd c tab (· = d.tab) ∗ Here c d words codes tsems b ∗ Idle c) -∗ W c K Q) -∗ W c (land words codes tab tsems L K) Q) := by
  have hv : (d.word b 3 0).toNat ≤ 32 := hd.cnt b
  have hK := hL.C _ hv
  have htr := (trips2 _ hv).2
  iintro ⟨Ht, Hb, Hi⟩ Hk
  unfold land
  iapply (wp_readWord c d b 3 0 L.coff L.cinb (hL.coff.trans (by rfl))) $$ Ht
  iintro Ht
  iapply (wp_assume Variants.none (c : Thread nD τ) none Set.univ hK)
  iapply (wp_loop c _ _ _ (fun u => iprop(FlyJ c d words codes tsems b (d.cnt b) (tcredit codes * u) ∗ Idle c))
    (fun j => wp_tileWait c b j.val (lt_of_lt_of_eq j.isLt htr) L.soff L.sinb hL.soff) _) $$ [Hb Hi]
  · isplitl [Hb]; · unfold Fly; rw [Nat.mul_zero]; iexact Hb
    iexact Hi
  rw [htr]
  iintro ⟨Hb, Hi⟩
  iapply (wp_loop c _ _ _ (fun _ => iprop(FlyJ c d words codes tsems b (d.cnt b) (tcredit codes * d.cnt b) ∗ Idle c))
    (fun j => absurd (lt_of_lt_of_eq j.isLt (trips3 _ hv).2) (Nat.not_lt_zero _)) _) $$ [Hb Hi]
  · isplitl [Hb]; · iexact Hb
    iexact Hi
  iintro ⟨Hb, Hi⟩
  unfold FlyJ
  imod (Transfers.batch_collect' EC (c := (c : Thread nD τ)) (tcredit_pos (codes := codes))) $$ Hb with ⟨HD, Hv⟩
  iapply Hk
  isplitl [Ht]; · iexact Ht
  isplitl [HD Hv]
  · unfold Here
    isplitl [HD] <;> iassumption
  iexact Hi

theorem landed_succ (n : ℕ) : Landed c d words codes tsems (n + 1) = iprop(Here c d words codes tsems (bn n) ∗ Landed c d words codes tsems n) := by
  unfold Landed
  rw [bigSep_Ico_succ_top (Nat.zero_le n)]

/-- A tile of a block whose tiles are here, lent. -/
theorem landed_take (n : ℕ) (b : Fin 48) (hb : b.val < n) (j : Fin (d.cnt b)) :
    Landed c d words codes tsems n ⊢ iprop(Hd c (tileOf codes (d.tl b j.val)) (· = d.tileX (d.tl b j.val))
      ∗ (Hd c (tileOf codes (d.tl b j.val)) (· = d.tileX (d.tl b j.val)) -∗ Landed c d words codes tsems n)) := by
  have hbn : bn b.val = b := Fin.ext (by show min b.val 47 = b.val; omega)
  have e1 : Landed c d words codes tsems n = iprop(Here c d words codes tsems b ∗ bigSep ((Finset.Ico 0 n).erase b.val) fun b => Here c d words codes tsems (bn b)) := by
    unfold Landed
    rw [BI.bigSep_erase (i := b.val) (Finset.mem_Ico.mpr ⟨Nat.zero_le _, hb⟩), hbn]
    rfl
  have e2 : Here c d words codes tsems b = iprop(iprop(HereT c d words codes (d.tl b j.val) ∗ bigSep (Finset.univ.erase j) (fun j => HereT c d words codes (d.tl b j.val))) ∗ semVal ((c : Thread nD τ), tsem tsems b) 0) := by
    unfold Here
    rw [BI.bigSep_erase (i := j) (Finset.mem_univ j)]
    rfl
  rw [e1, e2]
  unfold HereT
  iintro ⟨⟨⟨⟨Hw, Hc⟩, Hr⟩, Hv⟩, Hl⟩
  isplitl [Hc]; · iexact Hc
  iintro Hc
  isplitr [Hl]
  · isplitr [Hv]
    · isplitr [Hr]
      · isplitl [Hw] <;> iassumption
      · iexact Hr
    · iexact Hv
  · iexact Hl

/-! ## The window of blocks under way -/

theorem wp_issueNext (hd : d.Good) {n m : ℕ} (hn : n ≤ m) (hm : m < 48) (I : Iss) (hI : I.For (bn m)) (K : P F) :
    iprop(Hd c tab (· = d.tab) ∗ Ahead c d words codes tsems n m)
      ⊢ iprop((iprop(Hd c tab (· = d.tab) ∗ Ahead c d words codes tsems n (m + 1)) -∗ W c K Q) -∗ W c (issue words codes tab tsems I K) Q) := by
  unfold Ahead
  rw [bigSep_Ico_succ_bot hm, bigSep_Ico_succ_top hn]
  iintro ⟨Ht, Hf, Hp, Hr⟩ Hk
  iapply (wp_issue c hd (bn m) I hI K) $$ [Ht Hp]
  · isplitl [Ht] <;> iassumption
  iintro ⟨Ht, Hb⟩
  iapply Hk
  isplitl [Ht]; · iexact Ht
  isplitr [Hr]
  · isplitl [Hb] <;> iassumption
  · iexact Hr

theorem wp_landNext (hd : d.Good) {n m : ℕ} (hn : n < m) (L : Lnd) (hL : L.For (bn n)) (K : P F) :
    iprop(Hd c tab (· = d.tab) ∗ Landed c d words codes tsems n ∗ Ahead c d words codes tsems n m ∗ Idle c)
      ⊢ iprop((iprop(Hd c tab (· = d.tab) ∗ Landed c d words codes tsems (n + 1) ∗ Ahead c d words codes tsems (n + 1) m ∗ Idle c) -∗ W c K Q)
        -∗ W c (land words codes tab tsems L K) Q) := by
  unfold Ahead
  rw [bigSep_Ico_succ_bot hn, landed_succ]
  iintro ⟨Ht, Hl, ⟨⟨Hb, Hf⟩, Hp⟩, Hi⟩ Hk
  iapply (wp_land c hd (bn n) L hL K) $$ [Ht Hb Hi]
  · isplitl [Ht]; · iexact Ht
    isplitl [Hb] <;> iassumption
  iintro ⟨Ht, Hh, Hi⟩
  iapply Hk
  isplitl [Ht]; · iexact Ht
  isplitl [Hh Hl]
  · isplitl [Hh] <;> iassumption
  isplitl [Hf Hp]
  · isplitl [Hf] <;> iassumption
  iexact Hi

/-- Slot `s` of trip `k` starts what there is to start -/
theorem wp_issueO (hd : d.Good) (s : Fin 2) (k : Fin k0_t6_loop.trips) (n : ℕ) (hn : n ≤ min (2 * k.val + s.val + 8) 48) (K : P F) :
    iprop(Hd c tab (· = d.tab) ∗ Ahead c d words codes tsems n (min (2 * k.val + s.val + 8) 48))
      ⊢ iprop((iprop(Hd c tab (· = d.tab) ∗ Ahead c d words codes tsems n (min (2 * k.val + s.val + 9) 48)) -∗ W c K Q) -∗ W c (issueO words codes tab tsems (issAt s k) K) Q) := by
  rcases issAt_for s k with ⟨h, I, e, hI⟩ | ⟨h, e⟩
  · rw [e, show min (2 * k.val + s.val + 9) 48 = min (2 * k.val + s.val + 8) 48 + 1 by omega]
    have hm : min (2 * k.val + s.val + 8) 48 < 48 := by omega
    rw [show 2 * k.val + s.val + 8 = min (2 * k.val + s.val + 8) 48 by omega] at hI
    exact wp_issueNext c hd hn hm I hI K
  · rw [e, show min (2 * k.val + s.val + 9) 48 = min (2 * k.val + s.val + 8) 48 by omega]
    unfold issueO
    iintro H Hk
    iapply Hk
    iexact H

/-- and awaits what there is to await. -/
theorem wp_landO (hd : d.Good) (s : Fin 2) (k : Fin k0_t6_loop.trips) (K : P F) :
    iprop(Hd c tab (· = d.tab) ∗ Landed c d words codes tsems (min (2 * k.val + s.val + 1) 48) ∗ Ahead c d words codes tsems (min (2 * k.val + s.val + 1) 48) (min (2 * k.val + s.val + 9) 48) ∗ Idle c)
      ⊢ iprop((iprop(Hd c tab (· = d.tab) ∗ Landed c d words codes tsems (min (2 * k.val + s.val + 2) 48) ∗ Ahead c d words codes tsems (min (2 * k.val + s.val + 2) 48) (min (2 * k.val + s.val + 9) 48) ∗ Idle c) -∗ W c K Q)
        -∗ W c (landO words codes tab tsems (lndAt s k) K) Q) := by
  rcases lndAt_for s k with ⟨h, L, e, hL⟩ | ⟨h, e⟩
  · rw [e, show min (2 * k.val + s.val + 2) 48 = min (2 * k.val + s.val + 1) 48 + 1 by omega]
    rw [show 2 * k.val + s.val + 1 = min (2 * k.val + s.val + 1) 48 by omega] at hL
    exact wp_landNext c hd (by omega) L hL K
  · rw [e, show min (2 * k.val + s.val + 2) 48 = min (2 * k.val + s.val + 1) 48 by omega]
    unfold landO
    iintro H Hk
    iapply Hk
    iexact H

end

end Cert.HandBits
-- ==== Proof.BitsGather.lean ====
/- A block gathered: from the operands' memrefs to what `Data` says the scratch buffers hold. -/
module

public import proofs.«01_k».proof.Proof.BitsTiles

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} {d : In F}

theorem not_mem_rect {s : Shape} {r : Rect s} {y : s.Idx} (h : ∀ x, r.emb x ≠ y) : y ∉ r.set := by
  rw [← Rect.map_emb_univ, Finset.mem_map]
  rintro ⟨x, -, e⟩; exact h x e

/-- A word of the table read. -/
theorem ldWord {tab : Memref sig .tc .smem S8x1536 .i32} (i : BitVec 32) (hi : i.toNat < 48) (r : Fin 8) (t : Fin 32) {hw} {x : S1x1.Idx} {K : BitVec 32 → P F} :
    Hd c tab (· = d.tab) ⊢ iprop((Hd c tab (· = d.tab) -∗ W c (K (d.word ⟨i.toNat, hi⟩ r t)) Q)
      -∗ W c (smemLoadElt tab (Rect.unit (s := S8x1536) (mOff i r t) S1x1.size (mOff_inb i hi r t)) hw x K) Q) := by
  unfold Hd On
  iintro ⟨%f, %hf, H⟩ Hk
  have e : (tab.access (Rect.unit (s := S8x1536) (mOff i r t) S1x1.size (mOff_inb i hi r t))).read (Elt F) f x = d.word ⟨i.toNat, hi⟩ r t := by
    show tab.view.read (Elt F) f ((Rect.unit (s := S8x1536) (mOff i r t) S1x1.size (mOff_inb i hi r t)).emb x) = _
    rw [hf]
    refine congrArg d.tab (Shape.idx_ext₂ ?_ ?_)
    · have : (x 0).val < 1 := (x 0).isLt
      show r.val + 1 * (x 0).val = r.val
      omega
    · have : (x 1).val < 1 := (x 1).isLt
      show (Scalar.indexCast (Scalar.addi (Scalar.muli i 32#32) (BitVec.ofNat 32 t.val))).toNat + 1 * (x 1).val = i.toNat * 32 + t.val
      rw [word_eq i hi]; omega
  iapply (wp_smemLoadElt Variants.none (c : Thread nD τ) none Set.univ (m := tab) (r := Rect.unit (s := S8x1536) (mOff i r t) S1x1.size (mOff_inb i hi r t))
    (S := tab.view.set) (f := f) (View.set_slice_subset _ _)) $$ H
  iintro H
  rw [e]
  iapply Hk
  iexists f; isplitr
  · ipureintro; exact hf
  · iexact H

theorem pay1_apply (x : Vec F S1x28x128 .i32) (y : S28x128.Idx) : k0_pay1 x y = x (ix3 0 (y 0) (y 1)) := by
  unfold k0_pay1
  rw [shapeCast_self]
  refine (shapeCast_dropUnit_apply ![28, 128] x _ y).trans (congrArg x (funext fun a => ?_))
  fin_cases a <;> rfl

section
variable {codes : Memref sig .tc .vmem S2272x28x128 .i32} {srm : Memref sig .tc .vmem S9088x128 .f32}
  {pw : Memref sig .tc .vmem S1536x128 .f32} {tab : Memref sig .tc .smem S8x1536 .i32}
  {comp : Memref sig .tc .vmem S1904x128 .i32} {p : Memref sig .tc .vmem S128x256 .fp8e4m3} {hp : p.IsWhole}
  {sg cf : Memref sig .tc .vmem S128x128 .f32} {words : Memref sig .tc .hbm S2272x28x128 .i32} {tsems : DmaSems sig S48} (i : BitVec 32) (hi : i.toNat < 48)

/-- A tile held at its words, as elements of the array of all quads' words. -/
theorem tile_in (T : Fin 284) : Hd c (tileOf codes T) (· = d.tileX T)
    ⊢ On c codes (tileOf codes T).view.set (fun X => ∀ (q : Fin 8) (g : Fin 28) (l : Fin 128), X (ix3 ⟨8 * T.val + q.val, by omega⟩ g l) = d.codes (ix3 ⟨8 * T.val + q.val, by omega⟩ g l)) := by
  unfold Hd On
  iintro ⟨%f, %hf, H⟩
  iexists f; isplitr
  · ipureintro
    intro q g l
    have := congrFun hf (ix3 q g l)
    refine Eq.trans ?_ this
    show codes.view.read (Elt F) f _ = codes.view.read (Elt F) f _
    refine congrArg _ (funext fun a => Fin.ext ?_)
    fin_cases a
    · show 8 * T.val + q.val = 8 * T.val + 1 * q.val; omega
    · show g.val = 0 + 1 * g.val; omega
    · show l.val = 0 + 1 * l.val; omega
  · iexact H

/-- The other way. -/
theorem tile_out (T : Fin 284) : On c codes (tileOf codes T).view.set (fun X => ∀ (q : Fin 8) (g : Fin 28) (l : Fin 128), X (ix3 ⟨8 * T.val + q.val, by omega⟩ g l) = d.codes (ix3 ⟨8 * T.val + q.val, by omega⟩ g l))
    ⊢ Hd c (tileOf codes T) (· = d.tileX T) := by
  unfold Hd On
  iintro ⟨%f, %hf, H⟩
  iexists f; isplitr
  · ipureintro
    funext x
    refine Eq.trans ?_ (hf (x 0) (x 1) (x 2))
    show codes.view.read (Elt F) f _ = codes.view.read (Elt F) f _
    refine congrArg _ (funext fun a => Fin.ext ?_)
    fin_cases a
    · show 8 * T.val + 1 * (x 0).val = 8 * T.val + (x 0).val; omega
    · show 0 + 1 * (x 1).val = (x 1).val; omega
    · show 0 + 1 * (x 2).val = (x 2).val; omega
  · iexact H

/-- A quad lies in its tile. -/
theorem quad_sub (T : Fin 284) (v : BitVec 32) (hv : v.toNat / 8 = T.val) (h : ∀ a, k0_off8 v a + S1x28x128.size a ≤ S2272x28x128.size a) :
    codes.view.setOn (Rect.unit (s := S2272x28x128) (k0_off8 v) S1x28x128.size h).set ⊆ (tileOf codes T).view.set := by
  have e : (tileOf codes T).view.set = (Rect.unit (s := S2272x28x128) ![8 * T.val, 0, 0] S8x28x128.size (tile_inb T)).set.map codes.view.emb := View.set_slice _ _
  rw [e]
  refine Finset.map_subset_map.mpr fun y hy => ?_
  rw [← Rect.map_emb_univ, Finset.mem_map] at hy ⊢
  obtain ⟨x, -, rfl⟩ := hy
  have h0 : (x 0).val < 1 := (x 0).isLt
  refine ⟨ix3 ⟨v.toNat % 8, Nat.mod_lt _ (by decide)⟩ (x 1) (x 2), Finset.mem_univ _, funext fun a => Fin.ext ?_⟩
  fin_cases a
  · show 8 * T.val + 1 * (v.toNat % 8) = v.toNat + 1 * (x 0).val
    omega
  · rfl
  · rfl

theorem tl_val (hd : d.Good) (b : Fin 48) (j : Fin 32) (hj : j.val < d.cnt b) : (d.tl b j.val).val = (d.word b 2 j).toNat := by
  have hlt := hd.tile b j hj
  show (d.word b 2 (Fin.ofNat 32 j.val)).toNat % 284 = _
  rw [show Fin.ofNat 32 j.val = j from Fin.ext (Nat.mod_eq_of_lt j.isLt)]
  omega

/-- A load of elements held, whatever they satisfy kept. -/
theorem ldk {cs : CoreSpace} {s : Shape} {e : EltTy} {m : Memref sig .tc cs s e} {r : LoadRect s} {hl : m.view.LoadsAt r}
    {k : (r.shape.Idx → Elt F e) → P F} {S : Finset (Idx (m.view.loc (c : Thread nD τ)))} {Φ : (s.Idx → Elt F e) → Prop} (hS : m.view.setOn r.set ⊆ S) :
    On c m S Φ ⊢ iprop((∀ X, ⌜Φ X⌝ -∗ On c m S Φ -∗ W c (k fun x => X (r.idx x)) Q) -∗ W c (.op (.load m r hl) k) Q) := by
  unfold On
  iintro ⟨%f, %hf, H⟩ Hk
  iapply (wp_load Variants.none (c : Thread nD τ) none Set.univ hS) $$ H
  iintro H
  iapply Hk $$ %(m.view.read (Elt F) f) %hf
  iexists f; isplitr
  · ipureintro; exact hf
  · iexact H

/-- The same of the quads' words. -/
theorem ldq {codes : Memref sig .tc .vmem S2272x28x128 .i32} {r : LoadRect S2272x28x128} {hl : codes.view.LoadsAt r}
    {k : (r.shape.Idx → Elt F .i32) → P F} {S : Finset (Idx (codes.view.loc (c : Thread nD τ)))} {Φ : (S2272x28x128.Idx → Elt F .i32) → Prop} (hS : codes.view.setOn r.set ⊆ S) :
    On c codes S Φ ⊢ iprop((∀ X, ⌜Φ X⌝ -∗ On c codes S Φ -∗ W c (k fun x => X (r.idx x)) Q) -∗ W c (.op (.load codes r hl) k) Q) := ldk c hS

set_option maxHeartbeats 4000000 in
/-- Slot `n` gathered after the slots below it. -/
theorem wp_quadStep (hd : d.Good) (nl : ℕ) (hn : i.toNat < nl) (n : Fin 64) (K : P F) :
    iprop(Landed c d words codes tsems nl ∗ Hd c tab (· = d.tab) ∗ Hd c comp (CompAt d ⟨i.toNat, hi⟩ n.val))
      ⊢ iprop((iprop(Landed c d words codes tsems nl ∗ Hd c tab (· = d.tab) ∗ Hd c comp (CompAt d ⟨i.toNat, hi⟩ (n.val + 1))) -∗ W c K Q)
        -∗ W c (quadStep codes tab comp i hi n K) Q) := by
  iintro ⟨Hc, Ht, Hx⟩ Hk
  unfold quadStep
  iapply (ldWord c (d := d) i hi _ _) $$ Ht
  iintro Ht
  have hq := hd.quad ⟨i.toNat, hi⟩ n
  have hk : k0_chk5 (d.quad ⟨i.toNat, hi⟩ n) := by
    intro a; fin_cases a
    · show (d.quad ⟨i.toNat, hi⟩ n).toNat + 1 ≤ 2272
      omega
    · show 0 + 28 ≤ 28; omega
    · show 0 + 128 ≤ 128; omega
  iapply (wp_assume Variants.none (c : Thread nD τ) none Set.univ hk)
  obtain ⟨b', j, hb', hj, hT⟩ := hd.held ⟨i.toNat, hi⟩ n
  obtain ⟨T, hTe⟩ : ∃ T, T = d.tl b' j.val := ⟨_, rfl⟩
  have hTv : (d.quad ⟨i.toNat, hi⟩ n).toNat / 8 = T.val := hTe ▸ hT.trans (tl_val hd b' j hj).symm
  have hl : Landed c d words codes tsems nl ⊢ iprop(Hd c (tileOf codes T) (· = d.tileX T) ∗ (Hd c (tileOf codes T) (· = d.tileX T) -∗ Landed c d words codes tsems nl)) := by
    subst hTe; exact landed_take c nl b' (lt_of_le_of_lt (Fin.le_def.mp hb') hn) ⟨j.val, hj⟩
  icases hl $$ Hc with ⟨Hc, Hback⟩
  icases (tile_in c T) $$ Hc with Hc
  iapply (ldq c (codes := codes) (r := (Rect.unit (s := S2272x28x128) (k0_off8 (d.quad ⟨i.toNat, hi⟩ n)) S1x28x128.size (k0_off8_inb _ hk)).toLoadRect) (S := (tileOf codes T).view.set)
    (quad_sub T _ hTv _)) $$ Hc
  iintro %Xc %hXc Hc
  icases (tile_out c T) $$ Hc with Hc
  icases Hback $$ Hc with Hc
  iapply (ldskip c (View.setOn_subset_set _ _)) $$ Hx
  iintro Hx
  iapply (st c (Ψ := CompAt d ⟨i.toNat, hi⟩ (n.val + 1)) (View.setOn_subset_set _ _) ?_) $$ Hx
  · intro X X' hX hS c' g l hc
    rcases Nat.lt_or_eq_of_le (Nat.lt_succ_iff.mp hc) with h | h
    · rw [← hX c' g l h]
      refine hS.off _ (not_mem_rect fun x e => ?_)
      have e0 : n.val + 68 * (x 0).val = 68 * g.val + c'.val := congrArg (fun y : S1904x128.Idx => (y 0).val) e
      have := n.isLt
      omega
    · have hc' : c' = n := Fin.ext h
      subst hc'
      have := hS.on (ix2 g l)
      rw [pay1_apply] at this
      rw [show (ix2 ⟨68 * g.val + c'.val, by omega⟩ l : S1904x128.Idx) = (⟨quadRows c', spos_68_1⟩ : Rect S1904x128).emb (ix2 g l) from
        Shape.idx_ext₂ (by show 68 * g.val + c'.val = c'.val + 68 * g.val; omega) (by show l.val = 0 + 1 * l.val; omega), this]
      have hlt := hXc ⟨(d.quad ⟨i.toNat, hi⟩ c').toNat % 8, Nat.mod_lt _ (by decide)⟩ g l
      refine Eq.trans ?_ (hlt.trans ?_)
      · refine congrArg Xc (funext fun a => Fin.ext ?_)
        fin_cases a
        · show (d.quad ⟨i.toNat, hi⟩ c').toNat + 1 * 0 = 8 * T.val + (d.quad ⟨i.toNat, hi⟩ c').toNat % 8
          omega
        · show 0 + 1 * g.val = g.val; omega
        · show 0 + 1 * l.val = l.val; omega
      refine congrArg d.codes (funext fun a => Fin.ext ?_)
      fin_cases a
      · show 8 * T.val + (d.quad ⟨i.toNat, hi⟩ c').toNat % 8 = (d.quad ⟨i.toNat, hi⟩ c').toNat % 2272
        omega
      · rfl
      · rfl
  iintro Hx
  iapply Hk
  isplitl [Hc]; · iexact Hc
  isplitl [Ht] <;> iassumption

theorem row_inj {k t k' t' : Nat} (ht : t < 32) (ht' : t' < 32) (h : 32 * k + t = 32 * k' + t') : k = k' ∧ t = t' := by omega

/-- A scale row gathered after the rows before it. -/
theorem wp_scaleStep (hd : d.Good) (k : Fin 4) (n : Fin 32) (K : P F) :
    iprop(Hd c srm (· = d.srm) ∗ Hd c tab (· = d.tab) ∗ Hd c sg (SgAt d ⟨i.toNat, hi⟩ (32 * k.val + n.val)))
      ⊢ iprop((iprop(Hd c srm (· = d.srm) ∗ Hd c tab (· = d.tab) ∗ Hd c sg (SgAt d ⟨i.toNat, hi⟩ (32 * k.val + (n.val + 1)))) -∗ W c K Q)
        -∗ W c (scaleStep srm tab sg i hi k n K) Q) := by
  iintro ⟨Hc, Ht, Hx⟩ Hk
  unfold scaleStep
  iapply (ldWord c (d := d) i hi _ _) $$ Ht
  iintro Ht
  have hq := hd.row ⟨i.toNat, hi⟩ k n
  have hk : k0_chk69 (d.row ⟨i.toNat, hi⟩ k n) := by
    intro a; fin_cases a
    · show (d.row ⟨i.toNat, hi⟩ k n).toNat + 1 ≤ 9088
      omega
    · show 0 + 128 ≤ 128; omega
  iapply (wp_assume Variants.none (c : Thread nD τ) none Set.univ hk)
  iapply (ldx c) $$ Hc
  iintro Hc
  iapply (ldskip c (View.setOn_subset_set _ _)) $$ Hx
  iintro Hx
  iapply (st c (Ψ := SgAt d ⟨i.toNat, hi⟩ (32 * k.val + (n.val + 1))) (View.setOn_subset_set _ _) ?_) $$ Hx
  · intro X X' hX hS k' t l hc
    have hn := n.isLt
    have ht := t.isLt
    rcases Nat.lt_or_eq_of_le (show 32 * k'.val + t.val ≤ 32 * k.val + n.val by omega) with h | h
    · rw [← hX k' t l h]
      refine hS.off _ (not_mem_rect fun x e => ?_)
      have e0 : 32 * k.val + n.val + 1 * (x 0).val = 32 * k'.val + t.val := congrArg (fun y : S128x128.Idx => (y 0).val) e
      omega
    · obtain ⟨h1, h2⟩ := row_inj ht hn h
      obtain rfl : k' = k := Fin.ext h1
      obtain rfl : t = n := Fin.ext h2
      have := hS.on (ix2 0 l)
      unfold k0_pay71 at this
      rw [shapeCast_self] at this
      rw [show (ix2 ⟨32 * k'.val + t.val, by omega⟩ l : S128x128.Idx) = (Rect.unit (s := S128x128) ![32 * k'.val + t.val, 0] S1x128.size (row_inb ⟨32 * k'.val + t.val, by omega⟩)).emb (ix2 0 l) from
        Shape.idx_ext₂ (by show 32 * k'.val + t.val = 32 * k'.val + t.val + 1 * 0; omega) (by show l.val = 0 + 1 * l.val; omega), this]
      refine congrArg d.srm (Shape.idx_ext₂ ?_ ?_)
      · show (d.row ⟨i.toNat, hi⟩ k' t).toNat + 1 * 0 = (d.row ⟨i.toNat, hi⟩ k' t).toNat % 9088
        omega
      · show 0 + 1 * l.val = l.val; omega
  iintro Hx
  iapply Hk
  isplitl [Hc]; · iexact Hc
  isplitl [Ht] <;> iassumption

theorem smodd {k t : Nat} (ht : t < 32) : (32 * k + t) / 32 = k ∧ (32 * k + t) % 32 = t := by omega

/-- Slot `k` of a block after the slots below it. -/
theorem wp_slotStep (hd : d.Good) (k : Fin 4) (K : P F) :
    iprop(Hd c srm (· = d.srm) ∗ Hd c tab (· = d.tab) ∗ Hd c sg (SgAt d ⟨i.toNat, hi⟩ (32 * k.val)) ∗ Hd c p (PAt d ⟨i.toNat, hi⟩ k.val)
        ∗ Hd c cf (CfAt d ⟨i.toNat, hi⟩ k.val))
      ⊢ iprop((iprop(Hd c srm (· = d.srm) ∗ Hd c tab (· = d.tab) ∗ Hd c sg (SgAt d ⟨i.toNat, hi⟩ (32 * (k.val + 1))) ∗ Hd c p (PAt d ⟨i.toNat, hi⟩ (k.val + 1))
          ∗ Hd c cf (CfAt d ⟨i.toNat, hi⟩ (k.val + 1))) -∗ W c K Q)
        -∗ W c (slotStep srm tab p hp sg cf i hi (d.pwb ⟨i.toNat, hi⟩) k0_pay70 k K) Q) := by
  iintro ⟨Hc, Ht, Hs, Hp, Hf⟩ Hk
  unfold slotStep
  iapply (wp_seqAll c (scaleStep srm tab sg i hi k)
    (fun n => iprop(Hd c srm (· = d.srm) ∗ Hd c tab (· = d.tab) ∗ Hd c sg (SgAt d ⟨i.toNat, hi⟩ (32 * k.val + n)))) (wp_scaleStep c i hi hd k)) $$ [Hc Ht Hs]
  · isplitl [Hc]; · iexact Hc
    isplitl [Ht] <;> iassumption
  iintro ⟨Hc, Ht, Hs⟩
  iapply (ldskip c (View.setOn_subset_set _ _)) $$ Hp
  iintro Hp
  iapply (st c (Ψ := PAt d ⟨i.toNat, hi⟩ (k.val + 1)) (View.setOn_subset_set _ _) ?_) $$ Hp
  · intro X X' hX hS k' t l hc
    have ht := t.isLt
    rcases Nat.lt_or_eq_of_le (Nat.lt_succ_iff.mp hc) with h | h
    · rw [← hX k' t l h]
      refine hS.off _ (not_mem_rect fun x e => ?_)
      have e0 : 32 * k.val + 1 * (x 0).val = 32 * k'.val + t.val := congrArg (fun y : S128x256.Idx => (y 0).val) e
      omega
    · obtain rfl : k' = k := Fin.ext h
      have := hS.on (ix2 t l)
      rw [show (ix2 ⟨32 * k'.val + t.val, by omega⟩ l : S128x256.Idx) = (Rect.unit (s := S128x256) ![32 * k'.val, 0] S32x256.size (prow k')).emb (ix2 t l) from
        Shape.idx_ext₂ (by show 32 * k'.val + t.val = 32 * k'.val + 1 * t.val; omega) (by show l.val = 0 + 1 * l.val; omega), this]
      rfl
  iintro Hp
  iapply (ld c (View.setOn_subset_set _ _)) $$ Hs
  iintro %X %hX Hs
  have e : (fun x => X ((Rect.unit (s := S128x128) ![32 * k.val, 0] S32x128.size (crow k)).toLoadRect.idx x)) = fun x => d.sg ⟨i.toNat, hi⟩ k (x 0) (x 1) := by
    funext x
    have h0 : (x 0).val < 32 := (x 0).isLt
    rw [← hX k (x 0) (x 1) (by omega)]
    refine congrArg X (Shape.idx_ext₂ ?_ ?_)
    · show 32 * k.val + 1 * (x 0).val = 32 * k.val + (x 0).val; omega
    · show 0 + 1 * (x 1).val = (x 1).val; omega
  rw [e]
  iapply (ldskip c (View.setOn_subset_set _ _)) $$ Hf
  iintro Hf
  iapply (st c (Ψ := CfAt d ⟨i.toNat, hi⟩ (k.val + 1)) (View.setOn_subset_set _ _) ?_) $$ Hf
  · intro X X' hX hS k' t l hc
    have ht := t.isLt
    rcases Nat.lt_or_eq_of_le (Nat.lt_succ_iff.mp hc) with h | h
    · rw [← hX k' t l h]
      refine hS.off _ (not_mem_rect fun x e => ?_)
      have e0 : 32 * k.val + 1 * (x 0).val = 32 * k'.val + t.val := congrArg (fun y : S128x128.Idx => (y 0).val) e
      omega
    · obtain rfl : k' = k := Fin.ext h
      have := hS.on (ix2 t l)
      rw [show (ix2 ⟨32 * k'.val + t.val, by omega⟩ l : S128x128.Idx) = (Rect.unit (s := S128x128) ![32 * k'.val, 0] S32x128.size (crow k')).emb (ix2 t l) from
        Shape.idx_ext₂ (by show 32 * k'.val + t.val = 32 * k'.val + 1 * t.val; omega) (by show l.val = 0 + 1 * l.val; omega), this]
      rfl
  iintro Hf
  iapply Hk
  isplitl [Hc]; · iexact Hc
  isplitl [Ht]; · iexact Ht
  isplitl [Hs]
  · iapply (on_mono c (fun Y hY => hY.2)) $$ Hs
  isplitl [Hp] <;> iassumption

/-- A block gathered, whatever the scratch buffers held before. -/
theorem wp_gather (hd : d.Good) (nl : ℕ) (hn : i.toNat < nl) (K : Vec F S32x128 .f32 → P F) :
    iprop(Landed c d words codes tsems nl ∗ Hd c srm (· = d.srm) ∗ Hd c pw (· = d.pw) ∗ Hd c tab (· = d.tab)
        ∗ Hd c comp (fun _ => True) ∗ Hd c sg (fun _ => True) ∗ Hd c p (fun _ => True) ∗ Hd c cf (fun _ => True))
      ⊢ iprop((iprop(Landed c d words codes tsems nl ∗ Hd c srm (· = d.srm) ∗ Hd c pw (· = d.pw) ∗ Hd c tab (· = d.tab)
          ∗ Hd c comp (CompAt d ⟨i.toNat, hi⟩ 64) ∗ Hd c sg (fun _ => True) ∗ Hd c p (· = d.pV ⟨i.toNat, hi⟩) ∗ Hd c cf (· = d.cfV ⟨i.toNat, hi⟩))
            -∗ W c (K (d.pwb ⟨i.toNat, hi⟩)) Q)
        -∗ W c (gather codes srm pw tab comp p hp sg cf i hi K) Q) := by
  iintro ⟨Hc, Hr, Hw, Ht, Hx, Hs, Hp, Hf⟩ Hk
  unfold gather
  ihave Hx : Hd c comp (CompAt d ⟨i.toNat, hi⟩ 0) $$ [Hx]
  · iapply (on_mono c (fun Y _ c' g l h => absurd h (Nat.not_lt_zero _))) $$ Hx
  iapply (wp_seqAll c (quadStep codes tab comp i hi)
    (fun n => iprop(Landed c d words codes tsems nl ∗ Hd c tab (· = d.tab) ∗ Hd c comp (CompAt d ⟨i.toNat, hi⟩ n))) (wp_quadStep c i hi hd nl hn)) $$ [Hc Ht Hx]
  · isplitl [Hc]; · iexact Hc
    isplitl [Ht] <;> iassumption
  iintro ⟨Hc, Ht, Hx⟩
  iapply (ldx c) $$ Hw
  iintro Hw
  have e : (fun x => d.pw ((Rect.unit (s := S1536x128) (tOff i) S32x128.size (tOff_inb i hi)).toLoadRect.idx x)) = d.pwb ⟨i.toNat, hi⟩ := by
    funext x
    refine congrArg d.pw (Shape.idx_ext₂ ?_ ?_)
    · show (Scalar.indexCast (Scalar.muli i 32#32)).toNat + 1 * (x 0).val = i.toNat * 32 + (x 0).val
      rw [tword_eq i hi]; omega
    · show 0 + 1 * (x 1).val = (x 1).val; omega
  rw [e]
  ihave Hs : Hd c sg (SgAt d ⟨i.toNat, hi⟩ (32 * 0)) $$ [Hs]
  · iapply (on_mono c (fun Y _ c' g l h => absurd h (Nat.not_lt_zero _))) $$ Hs
  ihave Hp : Hd c p (PAt d ⟨i.toNat, hi⟩ 0) $$ [Hp]
  · iapply (on_mono c (fun Y _ c' g l h => absurd h (Nat.not_lt_zero _))) $$ Hp
  ihave Hf : Hd c cf (CfAt d ⟨i.toNat, hi⟩ 0) $$ [Hf]
  · iapply (on_mono c (fun Y _ c' g l h => absurd h (Nat.not_lt_zero _))) $$ Hf
  iapply (wp_seqAll c (slotStep srm tab p hp sg cf i hi (d.pwb ⟨i.toNat, hi⟩) k0_pay70)
    (fun n => iprop(Hd c srm (· = d.srm) ∗ Hd c tab (· = d.tab) ∗ Hd c sg (SgAt d ⟨i.toNat, hi⟩ (32 * n)) ∗ Hd c p (PAt d ⟨i.toNat, hi⟩ n)
        ∗ Hd c cf (CfAt d ⟨i.toNat, hi⟩ n))) (wp_slotStep c i hi hd)) $$ [Hr Ht Hs Hp Hf]
  · isplitl [Hr]; · iexact Hr
    isplitl [Ht]; · iexact Ht
    isplitl [Hs]; · iexact Hs
    isplitl [Hp] <;> iassumption
  iintro ⟨Hr, Ht, Hs, Hp, Hf⟩
  iapply Hk
  isplitl [Hc]; · iexact Hc
  isplitl [Hr]; · iexact Hr
  isplitl [Hw]; · iexact Hw
  isplitl [Ht]; · iexact Ht
  isplitl [Hx]; · iexact Hx
  isplitl [Hs]
  · iapply (on_mono c (fun _ _ => trivial)) $$ Hs
  isplitl [Hp]
  · iapply (on_mono c (fun _ h => h.eq)) $$ Hp
  · iapply (on_mono c (fun _ h => h.eq)) $$ Hf

end

end Cert.HandBits
-- ==== Proof.BitsCombine.lean ====
/- A gathered block combined into a slot of the output buffer, and the slot's copy to the result started and waited for. -/
module

public import proofs.«01_k».proof.Proof.BitsGather

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} {d : In F}

/-- Slot `s`'s elements of the output buffer. -/
def slotSet (ob : Memref sig .tc .vmem S2x32x3584 .bf16) (s : Fin 2) : Finset ob.view.ty.Idx := (outSrc ob s).view.set

theorem group_sub (ob : Memref sig .tc .vmem S2x32x3584 .bf16) (s : Fin 2) (j : Fin 14) :
    ob.view.setOn (Rect.unit (s := S2x32x3584) ![s.val, 0, 256 * j.val] S1x32x256.size (orow s j)).set ⊆ slotSet ob s := by
  have h : slotSet ob s = (Rect.unit (s := S2x32x3584) ![s.val, 0, 0] S1x32x3584.size (slot_inb s)).set.map ob.view.emb :=
    (View.set_reshape _ _).trans (View.set_slice _ _)
  rw [h]
  refine Finset.map_subset_map.mpr fun y hy => ?_
  rw [← Rect.map_emb_univ, Finset.mem_map] at hy ⊢
  obtain ⟨x, -, rfl⟩ := hy
  have h1 : (x 1).val < 32 := (x 1).isLt
  have h2 : (x 2).val < 256 := (x 2).isLt
  have hj := j.isLt
  refine ⟨ix3 (x 0) ⟨(x 1).val, h1⟩ ⟨256 * j.val + (x 2).val, by omega⟩, Finset.mem_univ _, funext fun a => Fin.ext ?_⟩
  fin_cases a
  · rfl
  · rfl
  · show 0 + 1 * (256 * j.val + (x 2).val) = 256 * j.val + 1 * (x 2).val
    omega

theorem grp_eq {b : Fin 48} (g : Fin 28) {X : S1904x128.Idx → Elt F .i32} (h : CompAt d b 64 X) :
    (fun x => X ((Rect.unit (s := S1904x128) ![68 * g.val, 0] S64x128.size (grow g)).toLoadRect.idx x)) = d.grp b g := by
  funext x
  have h0 : (x 0).val < 64 := (x 0).isLt
  have hg := g.isLt
  rw [show d.grp b g x = _ from (h (x 0) g (x 1) h0).symm]
  refine congrArg X (Shape.idx_ext₂ ?_ ?_)
  · show 68 * g.val + 1 * (x 0).val = 68 * g.val + (x 0).val; omega
  · show 0 + 1 * (x 1).val = (x 1).val; omega

section
variable {comp : Memref sig .tc .vmem S1904x128 .i32} {p : Memref sig .tc .vmem S128x256 .fp8e4m3}
  {cf : Memref sig .tc .vmem S128x128 .f32} {ob : Memref sig .tc .vmem S2x32x3584 .bf16} {hob : ob.IsWhole} (b : Fin 48) (s : Fin 2)

theorem wp_combineStep (j : Fin 14) (K : P F) :
    iprop(Hd c comp (CompAt d b 64) ∗ On c ob (slotSet ob s) (ObAt d b s j.val))
      ⊢ iprop((iprop(Hd c comp (CompAt d b 64) ∗ On c ob (slotSet ob s) (ObAt d b s (j.val + 1))) -∗ W c K Q)
        -∗ W c (combineStep comp ob hob s (d.pV b) (d.cfV b) j K) Q) := by
  iintro ⟨Hc, Ho⟩ Hk
  unfold combineStep
  iapply (ld c (View.setOn_subset_set _ _)) $$ Hc
  iintro %X %hX Hc
  rw [grp_eq ⟨2 * j.val, by omega⟩ hX]
  iapply (ld c (View.setOn_subset_set _ _)) $$ Hc
  iintro %Y %hY Hc
  rw [grp_eq ⟨2 * j.val + 1, by omega⟩ hY.2]
  iapply (ldskip c (group_sub ob s j)) $$ Ho
  iintro Ho
  iapply (st c (Ψ := ObAt d b s (j.val + 1)) (group_sub ob s j) ?_) $$ Ho
  · intro X X' hX hS j' t l hj
    have ht := t.isLt
    have hl := l.isLt
    rcases Nat.lt_or_eq_of_le (Nat.lt_succ_iff.mp hj) with h | h
    · rw [← hX j' t l h]
      refine hS.off _ (not_mem_rect fun x e => ?_)
      have e0 : 256 * j.val + 1 * (x 2).val = 256 * j'.val + l.val := congrArg (fun y : S2x32x3584.Idx => (y 2).val) e
      omega
    · obtain rfl : j' = j := Fin.ext h
      have := hS.on (ix3 0 t l)
      rw [show (ix3 s t ⟨256 * j'.val + l.val, by omega⟩ : S2x32x3584.Idx) = (Rect.unit (s := S2x32x3584) ![s.val, 0, 256 * j'.val] S1x32x256.size (orow s j')).emb (ix3 0 t l) from
        funext fun a => Fin.ext (by
          fin_cases a
          · rfl
          · show t.val = 0 + 1 * t.val; omega
          · show 256 * j'.val + l.val = 256 * j'.val + 1 * l.val; omega), this]
      rfl
  iintro Ho
  iapply Hk
  isplitl [Hc]
  · iapply (on_mono c (fun Y hY => hY.2.2)) $$ Hc
  · iexact Ho

/-- A gathered block combined. -/
theorem wp_combine (K : P F) :
    iprop(Hd c comp (CompAt d b 64) ∗ Hd c p (· = d.pV b) ∗ Hd c cf (· = d.cfV b) ∗ On c ob (slotSet ob s) (fun _ => True))
      ⊢ iprop((iprop(Hd c comp (fun _ => True) ∗ Hd c p (fun _ => True) ∗ Hd c cf (fun _ => True) ∗ On c ob (slotSet ob s) (ObAt d b s 14)) -∗ W c K Q)
        -∗ W c (combine comp p cf ob hob s K) Q) := by
  iintro ⟨Hc, Hp, Hf, Ho⟩ Hk
  unfold combine
  iapply (ldx c) $$ Hp
  iintro Hp
  iapply (ldx c) $$ Hf
  iintro Hf
  have ep : (fun x => d.pV b ((Rect.unit (s := S128x256) ![0, 0] S128x256.size inb_S128x256_S128x256_0_0).toLoadRect.idx x)) = d.pV b := by
    funext x
    refine congrArg (d.pV b) (Shape.idx_ext₂ ?_ ?_)
    · show 0 + 1 * (x 0).val = (x 0).val; omega
    · show 0 + 1 * (x 1).val = (x 1).val; omega
  have ef : (fun x => d.cfV b ((Rect.unit (s := S128x128) ![0, 0] S128x128.size inb_S128x128_S128x128_0_0).toLoadRect.idx x)) = d.cfV b := by
    funext x
    refine congrArg (d.cfV b) (Shape.idx_ext₂ ?_ ?_)
    · show 0 + 1 * (x 0).val = (x 0).val; omega
    · show 0 + 1 * (x 1).val = (x 1).val; omega
  rw [ep, ef]
  ihave Ho : On c ob (slotSet ob s) (ObAt d b s 0) $$ [Ho]
  · iapply (on_mono c (fun Y _ j t l h => absurd h (Nat.not_lt_zero _))) $$ Ho
  iapply (wp_seqAll c (combineStep comp ob hob s (d.pV b) (d.cfV b))
    (fun n => iprop(Hd c comp (CompAt d b 64) ∗ On c ob (slotSet ob s) (ObAt d b s n))) (wp_combineStep c b s)) $$ [Hc Ho]
  · isplitl [Hc] <;> iassumption
  iintro ⟨Hc, Ho⟩
  iapply Hk
  isplitl [Hc]; · iapply (on_mono c (fun _ _ => trivial)) $$ Hc
  isplitl [Hp]; · iapply (on_mono c (fun _ _ => trivial)) $$ Hp
  isplitl [Hf]; · iapply (on_mono c (fun _ _ => trivial)) $$ Hf
  iexact Ho

end

/-! ## The copies -/

/-- Block `b` of the result. -/
def dstB (out : Memref sig .tc .hbm S1536x3584 .bf16) (b : Fin 48) : Memref sig .tc .hbm S32x3584 .bf16 :=
  out.slice (Rect.unit (s := S1536x3584) ![32 * b.val, 0] S32x3584.size (blk_inb b)) (fun _ => rfl)

theorem outDst_eq (out : Memref sig .tc .hbm S1536x3584 .bf16) (i : BitVec 32) (hi : i.toNat < 48) : outDst out i hi = dstB out ⟨i.toNat, hi⟩ := by
  have key : ∀ (o : Fin 2 → Nat) (h : ∀ a, o a + S32x3584.size a ≤ S1536x3584.size a) (_ : o = ![32 * i.toNat, 0]),
      out.slice (Rect.unit (s := S1536x3584) o S32x3584.size h) (fun _ => rfl) = dstB out ⟨i.toNat, hi⟩ := by
    rintro o h rfl; rfl
  exact key _ _ (oOff_eq i hi)

/-- What one copy credits its semaphore. -/
def credit (out : Memref sig .tc .hbm S1536x3584 .bf16) : ℕ := (dstB out 0).view.dmaCredit

variable (d) in
/-- Slot `s`'s copy to block `b` under way: it delivers the block of the result and gives the slot back. -/
def Fl (out : Memref sig .tc .hbm S1536x3584 .bf16) (ob : Memref sig .tc .vmem S2x32x3584 .bf16) (sems : DmaSems sig S2) (s : Fin 2) (b : Fin 48) : sProp 𝕄 :=
  Transfers.Flight EC (c : Thread nD τ) (.dma (outSem sems s).sem) () (credit out) iprop(Hd c (dstB out b) (OutAt d b) ∗ On c ob (slotSet ob s) (fun _ => True))

section
variable {out : Memref sig .tc .hbm S1536x3584 .bf16} {hout : out.IsWhole} {ob : Memref sig .tc .vmem S2x32x3584 .bf16} {hob : ob.IsWhole}
  {sems : DmaSems sig S2} (s : Fin 2)

theorem read_slot (f : Buf (Elt F) (ob.view.loc (c : Thread nD τ))) (t : Fin 32) (n : Fin 3584) :
    (outSrc ob s).view.read (Elt F) f (ix2 t n) = ob.view.read (Elt F) f (ix3 s t n) := by
  have e : Shape.reshapeEquiv (s := S1x32x3584) (s' := S32x3584) (squeezes_S1x32x3584_S32x3584.numel_eq) (ix2 t n) = ix3 0 t n := by
    apply Shape.reshapeEquiv_eq_of_rowMajor
    rw [Shape.rowMajor_val_three, Shape.rowMajor_val_two]
    show (0 * 32 + t.val) * 3584 + n.val = t.val * 3584 + n.val
    omega
  show ob.view.read (Elt F) f ((Rect.unit (s := S2x32x3584) ![s.val, 0, 0] S1x32x3584.size (slot_inb s)).emb (Shape.reshapeEquiv _ (ix2 t n))) = _
  rw [e]
  refine congrArg (ob.view.read (Elt F) f) (funext fun a => Fin.ext ?_)
  fin_cases a
  · rfl
  · show 0 + 1 * t.val = t.val; omega
  · show 0 + 1 * n.val = n.val; omega

theorem wp_outStart (i : BitVec 32) (hi : i.toNat < 48) (K : P F) :
    iprop(On c ob (slotSet ob s) (ObAt d ⟨i.toNat, hi⟩ s 14) ∗ Hd c (dstB out ⟨i.toNat, hi⟩) (fun _ => True) ∗ semVal ((c : Thread nD τ), SemLoc.dma (outSem sems s).sem) 0)
      ⊢ iprop((Fl c d out ob sems s ⟨i.toNat, hi⟩ -∗ W c K Q) -∗ W c (outStart ob hob out hout sems s i hi K) Q) := by
  rw [← outDst_eq]
  unfold On Hd On
  iintro ⟨⟨%fs, %hs, Hs⟩, ⟨%fd, %hd, Hd⟩, Hv⟩ Hk
  unfold outStart
  iapply (Transfers.wp_dmaLocal EC Variants.none (c : Thread nD τ) none (src := outSrc ob s) (dst := outDst out i hi) (via := .same) (fs := fs) (fd := fd)
    () (credit out) rfl (View.dmaCredit_pos _ (by decide)) (Finset.Subset.refl _)) $$ [Hs Hd Hv]
  · isplitl [Hs]; · iexact Hs
    isplitl [Hd] <;> iassumption
  iintro Hf
  iapply Hk
  unfold Fl
  iapply (Transfers.Flight_mono EC (c : Thread nD τ) ?_) $$ Hf
  rw [← outDst_eq]
  iintro ⟨Hd, Hs⟩
  unfold Hd On
  isplitl [Hd]
  · iexists _; isplitr [Hd]
    · ipureintro
      intro j t l
      rw [View.read_write_univ]
      exact (read_slot c s fs t _).trans (hs j t l j.isLt)
    · iexact Hd
  · iexists fs; isplitr
    · ipureintro; trivial
    · iexact Hs

theorem wp_outWait (b : Fin 48) (i : BitVec 32) (hi : i.toNat < 48) (Wt : Waits sig Unit) (K : P F) :
    iprop(Fl c d out ob sems s b ∗ owes (c : Thread nD τ) 0 Wt)
      ⊢ iprop((iprop(Hd c (dstB out b) (OutAt d b) ∗ On c ob (slotSet ob s) (fun _ => True) ∗ semVal ((c : Thread nD τ), SemLoc.dma (outSem sems s).sem) 0
            ∗ ∃ Wt', owes (c : Thread nD τ) 0 Wt') -∗ W c K Q)
        -∗ W c (outWait ob hob out hout sems s i hi K) Q) := by
  iintro H Hk
  unfold outWait Fl
  iapply (Transfers.wp_waitLocal EC Variants.none (c : Thread nD τ) none (sem := (outSem sems s).sem) (srcw := outSrc ob s) (dstw := outDst out i hi)
    (hsrc := (hob.wordExact_slice rfl _ (slot_words s)).reshape _ _) (hdst := hout.wordExact_slice rfl _ (oOff_words i hi)) () (N := credit out) rfl) $$ H
  iintro ⟨⟨Hd, Hs⟩, Hv, Ho⟩
  iapply Hk
  isplitl [Hd]; · iexact Hd
  isplitl [Hs]; · iexact Hs
  isplitl [Hv]; · iexact Hv
  iexists _; iexact Ho

end

end Cert.HandBits
-- ==== Proof.BitsShape0.lean ====
/- The printed loop body is its two halves in the first trip. -/
module

public import proofs.«01_k».proof.Proof.BitsShapeCond

@[expose] public section

noncomputable section

namespace Cert.HandBits

open Cert.Kernel Cert.Kernel.Gen
open Idealize.ShloMosaic Idealize.SL.Sem

variable {F : FTy → Type} [FloatOps F]

set_option maxRecDepth 1000000 in
set_option maxHeartbeats 40000000 in
/-- A trip of the loop is its two halves, in the first trip. -/
theorem body_eq0 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : k.val = 0) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : k0_cond1 k = 1#1 := (cond1_iff k).2 (by omega)
  have h4 : k0_cond4 k = 1#1 := (cond4_iff k).2 (by omega)
  have h3 : ¬ k0_cond3 k = 1#1 := fun h => absurd hk ((cond3_iff k).1 h)
  have h6 : ¬ k0_cond6 k = 1#1 := fun h => absurd hk ((cond6_iff k).1 h)
  have h5 : k0_cond5 k = 1#1 := (cond5_iff k).2 (by omega)
  rw [issAt_0 k h1, issAt_1 k h4, lndAt_1 k h5, if_pos hk, if_pos hk]
  simp only [k0_t6_body, k0_part149, k0_part150, k0_part1, k0_part75, dif_pos h1, dif_pos h2, dif_neg h3, dif_pos h4, dif_pos h5, dif_neg h6, bind_assoc]
  exact rfl

end Cert.HandBits
-- ==== Proof.BitsShape1.lean ====
/- The printed loop body is its two halves while tiles are started. -/
module

public import proofs.«01_k».proof.Proof.BitsShapeCond

@[expose] public section

noncomputable section

namespace Cert.HandBits

open Cert.Kernel Cert.Kernel.Gen
open Idealize.ShloMosaic Idealize.SL.Sem

variable {F : FTy → Type} [FloatOps F]

set_option maxRecDepth 1000000 in
set_option maxHeartbeats 40000000 in
/-- A trip of the loop is its two halves, while tiles are started. -/
theorem body_eq1 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : k.val < 20) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : k0_cond1 k = 1#1 := (cond1_iff k).2 (by omega)
  have h4 : k0_cond4 k = 1#1 := (cond4_iff k).2 (by omega)
  have h3 : k0_cond3 k = 1#1 := (cond3_iff k).2 (by omega)
  have h6 : k0_cond6 k = 1#1 := (cond6_iff k).2 (by omega)
  have h5 : k0_cond5 k = 1#1 := (cond5_iff k).2 (by omega)
  rw [issAt_0 k h1, issAt_1 k h4, lndAt_1 k h5, if_neg (show ¬ k.val = 0 by omega), if_neg (show ¬ k.val = 0 by omega)]
  simp only [k0_t6_body, k0_part149, k0_part150, k0_part1, k0_part75, dif_pos h1, dif_pos h2, dif_pos h3, dif_pos h4, dif_pos h5, dif_pos h6, bind_assoc]
  exact rfl

end Cert.HandBits
-- ==== Proof.BitsShape2.lean ====
/- The printed loop body is its two halves once all tiles are started. -/
module

public import proofs.«01_k».proof.Proof.BitsShapeCond

@[expose] public section

noncomputable section

namespace Cert.HandBits

open Cert.Kernel Cert.Kernel.Gen
open Idealize.ShloMosaic Idealize.SL.Sem

variable {F : FTy → Type} [FloatOps F]

set_option maxRecDepth 1000000 in
set_option maxHeartbeats 40000000 in
/-- A trip of the loop is its two halves, once all tiles are started. -/
theorem body_eq2 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : ¬ k.val < 20) (hk2 : k.val < 23) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : ¬ k0_cond1 k = 1#1 := fun h => absurd ((cond1_iff k).1 h) (by omega)
  have h4 : ¬ k0_cond4 k = 1#1 := fun h => absurd ((cond4_iff k).1 h) (by omega)
  have h3 : k0_cond3 k = 1#1 := (cond3_iff k).2 (by omega)
  have h6 : k0_cond6 k = 1#1 := (cond6_iff k).2 (by omega)
  have h5 : k0_cond5 k = 1#1 := (cond5_iff k).2 (by omega)
  rw [issAt_0' k h1, issAt_1' k h4, lndAt_1 k h5, if_neg (show ¬ k.val = 0 by omega), if_neg (show ¬ k.val = 0 by omega)]
  simp only [k0_t6_body, k0_part149, k0_part150, k0_part1, k0_part75, dif_neg h1, dif_pos h2, dif_pos h3, dif_neg h4, dif_pos h5, dif_pos h6, bind_assoc]
  exact rfl

end Cert.HandBits
-- ==== Proof.BitsShape3.lean ====
/- The printed loop body is its two halves in the last trip. -/
module

public import proofs.«01_k».proof.Proof.BitsShapeCond

@[expose] public section

noncomputable section

namespace Cert.HandBits

open Cert.Kernel Cert.Kernel.Gen
open Idealize.ShloMosaic Idealize.SL.Sem

variable {F : FTy → Type} [FloatOps F]

set_option maxRecDepth 1000000 in
set_option maxHeartbeats 40000000 in
/-- A trip of the loop is its two halves, in the last trip. -/
theorem body_eq3 (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2) (c0 c1 : BitVec 32) (k : Fin k0_t6_loop.trips) (u : Unit) (hk : ¬ k.val = 0) (hk1 : ¬ k.val < 20) (hk2 : ¬ k.val < 23) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  have h2 : k0_cond2 k = 1#1 := cond2_iff k
  unfold half half0
  rw [lndAt_0 k h2]
  have h1 : ¬ k0_cond1 k = 1#1 := fun h => absurd ((cond1_iff k).1 h) (by omega)
  have h4 : ¬ k0_cond4 k = 1#1 := fun h => absurd ((cond4_iff k).1 h) (by omega)
  have h3 : k0_cond3 k = 1#1 := (cond3_iff k).2 (by omega)
  have h6 : k0_cond6 k = 1#1 := (cond6_iff k).2 (by omega)
  have h5 : ¬ k0_cond5 k = 1#1 := fun h => absurd ((cond5_iff k).1 h) (by omega)
  rw [issAt_0' k h1, issAt_1' k h4, lndAt_1' k h5, if_neg (show ¬ k.val = 0 by omega), if_neg (show ¬ k.val = 0 by omega)]
  simp only [k0_t6_body, k0_part149, k0_part150, k0_part1, k0_part75, dif_neg h1, dif_pos h2, dif_pos h3, dif_neg h4, dif_neg h5, dif_pos h6, bind_assoc]
  exact rfl

end Cert.HandBits
-- ==== Proof.BitsShape.lean ====
/- The printed loop body and kernel are the short programs. -/
module

public import proofs.«01_k».proof.Proof.BitsShape0
public import proofs.«01_k».proof.Proof.BitsShape1
public import proofs.«01_k».proof.Proof.BitsShape2
public import proofs.«01_k».proof.Proof.BitsShape3

@[expose] public section

noncomputable section

namespace Cert.HandBits

open Cert.Kernel Cert.Kernel.Gen
open Idealize.ShloMosaic Idealize.SL.Sem

variable {F : FTy → Type} [FloatOps F]

section
variable (arg0 : Memref sig .tc .hbm S2272x28x128 .i32) (harg0 : arg0.IsWhole) (arg1 : Memref sig .tc .vmem S9088x128 .f32) (harg1 : arg1.IsWhole) (arg2 : Memref sig .tc .vmem S1536x128 .f32) (harg2 : arg2.IsWhole) (arg3 : Memref sig .tc .smem S8x1536 .i32) (harg3 : arg3.IsWhole) (arg4 : Memref sig .tc .hbm S1536x3584 .bf16) (harg4 : arg4.IsWhole) (arg5 : Memref sig .tc .vmem S2272x28x128 .i32) (harg5 : arg5.IsWhole) (arg6 : Memref sig .tc .vmem S1904x128 .i32) (harg6 : arg6.IsWhole) (arg7 : Memref sig .tc .vmem S1904x128 .i32) (harg7 : arg7.IsWhole) (arg8 : Memref sig .tc .vmem S128x256 .fp8e4m3) (harg8 : arg8.IsWhole) (arg9 : Memref sig .tc .vmem S128x256 .fp8e4m3) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S2x32x3584 .bf16) (harg13 : arg13.IsWhole) (arg14 : DmaSems sig S48) (arg15 : DmaSems sig S2)

/-- A trip of the loop is its two halves. -/
theorem body_eq (c0 c1 : BitVec 32) (k : Fin k0_t6_loop.trips) (u : Unit) :
    k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
      = half arg5 arg1 arg2 arg3 arg4 harg4 arg6 arg7 arg8 arg9 harg9 arg10 arg11 arg12 arg13 harg13 arg15 arg0 arg14 0 k
          (half arg5 arg1 arg2 arg3 arg4 harg4 arg7 arg6 arg9 arg8 harg8 arg10 arg12 arg11 arg13 harg13 arg15 arg0 arg14 1 k (.ret ⟨⟩)) := by
  by_cases hk : k.val = 0
  · exact body_eq0 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk
  by_cases hk1 : k.val < 20
  · exact body_eq1 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1
  by_cases hk2 : k.val < 23
  · exact body_eq2 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1 hk2
  · exact body_eq3 arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u hk hk1 hk2

/-- The two halves of trip `k`, then `K`. -/
def trip (k : Fin k0_t6_loop.trips) (K : P F) : P F :=
  half arg5 arg1 arg2 arg3 arg4 harg4 arg6 arg7 arg8 arg9 harg9 arg10 arg11 arg12 arg13 harg13 arg15 arg0 arg14 0 k
    (half arg5 arg1 arg2 arg3 arg4 harg4 arg7 arg6 arg9 arg8 harg8 arg10 arg12 arg11 arg13 harg13 arg15 arg0 arg14 1 k K)

set_option maxRecDepth 1000000 in
set_option maxHeartbeats 40000000 in
/-- The kernel: the tiles of the first eight blocks started, those of the first waited for, it gathered, the loop, the
    last two copies waited for. -/
theorem kernel_eq :
    cc0_unpermute_combine (F := F) arg0 harg0 arg1 harg1 arg2 harg2 arg3 harg3 arg4 harg4 arg5 harg5 arg6 harg6 arg7 harg7 arg8 harg8 arg9 harg9 arg10 harg10 arg11 harg11 arg12 harg12 arg13 harg13 arg14 arg15
      = .bind (Scf.Loop.for k0_t1_loop k0_t1_ok ⟨⟩ fun k _ => issue arg0 arg5 arg3 arg14 (iss0 k) (.ret ⟨⟩)) fun _ =>
          land arg0 arg5 arg3 arg14 lnd0 <|
          gather arg5 arg1 arg2 arg3 arg6 arg8 harg8 arg10 arg11 0#32 (by decide) fun _ =>
          .bind (Scf.Loop.for k0_t6_loop k0_t6_ok ⟨⟩ fun k _ => trip (F := F) arg0 arg1 arg2 arg3 arg4 harg4 arg5 arg6 arg7 arg8 harg8 arg9 harg9 arg10 arg11 arg12 arg13 harg13 arg14 arg15 k (.ret ⟨⟩)) fun _ =>
          outWait arg13 harg13 arg4 harg4 arg15 0 46#32 (by decide) <| outWait arg13 harg13 arg4 harg4 arg15 1 47#32 (by decide) (.ret ⟨⟩) := by
  have e : ∀ c0 c1, k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 = fun k _ => trip (F := F) arg0 arg1 arg2 arg3 arg4 harg4 arg5 arg6 arg7 arg8 harg8 arg9 harg9 arg10 arg11 arg12 arg13 harg13 arg14 arg15 k (.ret ⟨⟩) :=
    fun c0 c1 => funext fun k => funext fun u => body_eq arg0 harg0 arg1 harg1 arg2 harg2 arg3 harg3 arg4 harg4 arg5 harg5 arg6 harg6 arg7 harg7 arg8 harg8 arg9 harg9 arg10 harg10 arg11 harg11 arg12 harg12 arg13 harg13 arg14 arg15 c0 c1 k u
  have e0 : cc0_unpermute_combine (F := F) arg0 harg0 arg1 harg1 arg2 harg2 arg3 harg3 arg4 harg4 arg5 harg5 arg6 harg6 arg7 harg7 arg8 harg8 arg9 harg9 arg10 harg10 arg11 harg11 arg12 harg12 arg13 harg13 arg14 arg15
      = .bind (Scf.Loop.for k0_t1_loop k0_t1_ok ⟨⟩ fun k _ => issue arg0 arg5 arg3 arg14 (iss0 k) (.ret ⟨⟩)) fun _ =>
          land arg0 arg5 arg3 arg14 lnd0 <|
          gather arg5 arg1 arg2 arg3 arg6 arg8 harg8 arg10 arg11 0#32 (by decide) fun _ =>
          .bind (Scf.Loop.for k0_t6_loop k0_t6_ok ⟨⟩ (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 0#32 1#32)) fun _ =>
          outWait arg13 harg13 arg4 harg4 arg15 0 46#32 (by decide) <| outWait arg13 harg13 arg4 harg4 arg15 1 47#32 (by decide) (.ret ⟨⟩) := by
    simp only [cc0_unpermute_combine, k0_part198, k0_part152, bind_assoc]
    unfold issue land readWord iss0 lnd0 tileStep readWord
    dsimp only
    exact rfl
  exact e0.trans (by simp only [e])
end

end Cert.HandBits
-- ==== Proof.BitsRun.lean ====
/- The kernel run: half a trip, the loop, the last two copies. -/
module

public import proofs.«01_k».proof.Proof.BitsCombine
public import proofs.«01_k».proof.Proof.BitsShape
public import Idealize.SL.BI.BigOpNat

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {Q : Post F} (d : In F)

theorem bn_blk (s : Fin 2) (k : Fin k0_t6_loop.trips) : (⟨(blk s k.val).toNat, blk_lt s k⟩ : Fin 48) = bn (2 * k.val + s.val) := by
  have hk : k.val < 24 := lt_of_lt_of_eq k.isLt trips_eq
  have h : (blk s k.val).toNat = 2 * k.val + s.val := blk_val s ⟨k.val, hk⟩
  have := s.isLt
  exact Fin.ext (by show (blk s k.val).toNat = min _ 47; omega)

theorem bn_nxt (s : Fin 2) (k : Fin k0_t6_loop.trips) : (⟨(nxt s k.val).toNat, nxt_lt s k⟩ : Fin 48) = bn (2 * k.val + s.val + 1) := by
  have hk : k.val < 24 := lt_of_lt_of_eq k.isLt trips_eq
  exact Fin.ext (nxt_val s ⟨k.val, hk⟩)

section
variable (codes : Memref sig .tc .vmem S2272x28x128 .i32) (srm : Memref sig .tc .vmem S9088x128 .f32)
  (pw : Memref sig .tc .vmem S1536x128 .f32) (tab : Memref sig .tc .smem S8x1536 .i32) (sg : Memref sig .tc .vmem S128x128 .f32)
  (comp : Memref sig .tc .vmem S1904x128 .i32) (p : Memref sig .tc .vmem S128x256 .fp8e4m3) (cf : Memref sig .tc .vmem S128x128 .f32)
  (out : Memref sig .tc .hbm S1536x3584 .bf16) (ob : Memref sig .tc .vmem S2x32x3584 .bf16) (sems : DmaSems sig S2)
  (words : Memref sig .tc .hbm S2272x28x128 .i32) (tsems : DmaSems sig S48)

/-- The operands held, of the quads' words the tiles of the blocks below `nl`, and the scale rows' scratch. -/
def Ops (nl : ℕ) : sProp 𝕄 :=
  iprop(Landed c d words codes tsems nl ∗ Hd c srm (· = d.srm) ∗ Hd c pw (· = d.pw) ∗ Hd c tab (· = d.tab) ∗ Hd c sg (fun _ => True))
/-- Block `b` gathered. -/
def Gath (b : Fin 48) : sProp 𝕄 := iprop(Hd c comp (CompAt d b 64) ∗ Hd c p (· = d.pV b) ∗ Hd c cf (· = d.cfV b))
/-- The gather's buffers held at any contents. -/
def Free : sProp 𝕄 := iprop(Hd c comp (fun _ => True) ∗ Hd c p (fun _ => True) ∗ Hd c cf (fun _ => True))
/-- Slot `s` of the output buffer not in use. -/
def Slot (s : Fin 2) : sProp 𝕄 := iprop(On c ob (slotSet ob s) (fun _ => True) ∗ semVal ((c : Thread nD τ), SemLoc.dma (outSem sems s).sem) 0)
/-- Slot `s` before trip `k`: not in use at first, then its last copy under way. -/
def SlotSt (s : Fin 2) : ℕ → sProp 𝕄
  | 0 => Slot c ob sems s
  | k + 1 => Fl c d out ob sems s (bn (2 * k + s.val))
/-- Blocks from `n` on not yet written. -/
def Todo (n : ℕ) : sProp 𝕄 := bigSep (Finset.Ico n 48) fun b => Hd c (dstB out (bn b)) (fun _ => True)
/-- Blocks below `n` written. -/
def Done (n : ℕ) : sProp 𝕄 := bigSep (Finset.Ico 0 n) fun b => Hd c (dstB out (bn b)) (OutAt d (bn b))
end

section
variable {codes : Memref sig .tc .vmem S2272x28x128 .i32} {srm : Memref sig .tc .vmem S9088x128 .f32}
  {pw : Memref sig .tc .vmem S1536x128 .f32} {tab : Memref sig .tc .smem S8x1536 .i32} {out : Memref sig .tc .hbm S1536x3584 .bf16} {hout : out.IsWhole}
  {compa compb : Memref sig .tc .vmem S1904x128 .i32} {pa pb : Memref sig .tc .vmem S128x256 .fp8e4m3} {hpa : pa.IsWhole} {hpb : pb.IsWhole}
  {sg cfa cfb : Memref sig .tc .vmem S128x128 .f32} {ob : Memref sig .tc .vmem S2x32x3584 .bf16} {hob : ob.IsWhole} {sems : DmaSems sig S2}
  {words : Memref sig .tc .hbm S2272x28x128 .i32} {tsems : DmaSems sig S48} {d}

/-- A block gathered. -/
theorem wp_gath (hd : d.Good) (nl : ℕ) (i : BitVec 32) (hi : i.toNat < 48) (hn : i.toNat < nl) (K : P F) :
    iprop(Ops c d codes srm pw tab sg words tsems nl ∗ Free c compa pa cfa)
      ⊢ iprop((iprop(Ops c d codes srm pw tab sg words tsems nl ∗ Gath c d compa pa cfa ⟨i.toNat, hi⟩) -∗ W c K Q)
        -∗ W c (gather codes srm pw tab compa pa hpa sg cfa i hi fun _ => K) Q) := by
  unfold Ops Free Gath
  iintro ⟨⟨Hc, Hr, Hw, Ht, Hs⟩, Hx, Hp, Hf⟩ Hk
  iapply (wp_gather c i hi hd nl hn _) $$ [Hc Hr Hw Ht Hs Hx Hp Hf]
  · isplitl [Hc]; · iexact Hc
    isplitl [Hr]; · iexact Hr
    isplitl [Hw]; · iexact Hw
    isplitl [Ht]; · iexact Ht
    isplitl [Hx]; · iexact Hx
    isplitl [Hs]; · iexact Hs
    isplitl [Hp] <;> iassumption
  iintro ⟨Hc, Hr, Hw, Ht, Hx, Hs, Hp, Hf⟩
  iapply Hk
  isplitl [Hc Hr Hw Ht Hs]
  · isplitl [Hc]; · iexact Hc
    isplitl [Hr]; · iexact Hr
    isplitl [Hw]; · iexact Hw
    isplitl [Ht] <;> iassumption
  isplitl [Hx]; · iexact Hx
  isplitl [Hp] <;> iassumption

theorem todo_succ {n : ℕ} (h : n < 48) : Todo (F := F) c out n = iprop(Hd c (dstB out (bn n)) (fun _ => True) ∗ Todo c out (n + 1)) :=
  bigSep_Ico_succ_bot h _

theorem done_succ (n : ℕ) : Done c d out (n + 1) = iprop(Hd c (dstB out (bn n)) (OutAt d (bn n)) ∗ Done c d out n) := by
  unfold Done
  rw [bigSep_Ico_succ_top (Nat.zero_le n)]

theorem slotSt_succ (s : Fin 2) (k : ℕ) : SlotSt c d out ob sems s (k + 1) = Fl c d out ob sems s (bn (2 * k + s.val)) := rfl

/-- Half a trip after its wait. -/
theorem wp_rest (hd : d.Good) (nl : ℕ) (s : Fin 2) (k : Fin k0_t6_loop.trips) (hl : min (2 * k.val + s.val + 1) 47 < nl) (K : P F) :
    iprop(Ops c d codes srm pw tab sg words tsems nl ∗ Gath c d compa pa cfa (bn (2 * k.val + s.val)) ∗ Free c compb pb cfb ∗ Slot c ob sems s ∗ Todo c out (2 * k.val + s.val))
      ⊢ iprop((iprop(Ops c d codes srm pw tab sg words tsems nl ∗ Free c compa pa cfa ∗ Gath c d compb pb cfb (bn (2 * k.val + s.val + 1))
            ∗ SlotSt c d out ob sems s (k.val + 1) ∗ Todo c out (2 * k.val + s.val + 1)) -∗ W c K Q)
        -∗ W c (rest codes srm pw tab out hout compa compb pa pb hpb sg cfa cfb ob hob sems s k K) Q) := by
  have hk : k.val < 24 := lt_of_lt_of_eq k.isLt trips_eq
  have hs := s.isLt
  have hn : 2 * k.val + s.val < 48 := by omega
  rw [todo_succ c hn, slotSt_succ]
  iintro ⟨Ho, Hg, Hf, Hs, Ht, Hts⟩ Hk
  unfold rest
  iapply (wp_gath c hd nl (nxt s k.val) (nxt_lt s k) (by rw [show (nxt s k.val).toNat = min (2 * k.val + s.val + 1) 47 from nxt_val s ⟨k.val, hk⟩]; exact hl) _) $$ [Ho Hf]
  · isplitl [Ho] <;> iassumption
  rw [bn_nxt]
  iintro ⟨Ho, Hgb⟩
  unfold Gath Slot
  icases Hg with ⟨Hc, Hp, Hcf⟩
  icases Hs with ⟨Hob, Hv⟩
  iapply (wp_combine c (bn (2 * k.val + s.val)) s _) $$ [Hc Hp Hcf Hob]
  · isplitl [Hc]; · iexact Hc
    isplitl [Hp]; · iexact Hp
    isplitl [Hcf] <;> iassumption
  iintro ⟨Hc, Hp, Hcf, Hob⟩
  rw [← bn_blk]
  iapply (wp_outStart c s (blk s k.val) (blk_lt s k) K) $$ [Hob Ht Hv]
  · isplitl [Hob]; · iexact Hob
    isplitl [Ht] <;> iassumption
  rw [bn_blk]
  iintro Hfl
  iapply Hk
  isplitl [Ho]; · iexact Ho
  isplitl [Hc Hp Hcf]
  · unfold Free
    isplitl [Hc]; · iexact Hc
    isplitl [Hp] <;> iassumption
  isplitl [Hgb]; · iexact Hgb
  isplitl [Hfl]; · iexact Hfl
  iexact Hts

/-- Half a trip once the next block's tiles are here. -/
theorem wp_half0 (hd : d.Good) (nl : ℕ) (s : Fin 2) (k : Fin k0_t6_loop.trips) (hl : min (2 * k.val + s.val + 1) 47 < nl) (K : P F) :
    iprop(Ops c d codes srm pw tab sg words tsems nl ∗ Gath c d compa pa cfa (bn (2 * k.val + s.val)) ∗ Free c compb pb cfb ∗ SlotSt c d out ob sems s k.val
        ∗ Todo c out (2 * k.val + s.val) ∗ Done c d out (2 * k.val + s.val - 2) ∗ Idle c)
      ⊢ iprop((iprop(Ops c d codes srm pw tab sg words tsems nl ∗ Free c compa pa cfa ∗ Gath c d compb pb cfb (bn (2 * k.val + s.val + 1))
            ∗ SlotSt c d out ob sems s (k.val + 1) ∗ Todo c out (2 * k.val + s.val + 1) ∗ Done c d out (2 * k.val + s.val + 1 - 2) ∗ Idle c) -∗ W c K Q)
        -∗ W c (half0 codes srm pw tab out hout compa compb pa pb hpb sg cfa cfb ob hob sems s k K) Q) := by
  have hs := s.isLt
  unfold half0
  by_cases h0 : k.val = 0
  · rw [if_pos h0]
    have e1 : 2 * k.val + s.val - 2 = 0 := by omega
    have e2 : 2 * k.val + s.val + 1 - 2 = 0 := by omega
    have e3 : SlotSt c d out ob sems s k.val = Slot c ob sems s := by rw [h0]; rfl
    rw [e1, e2, e3]
    iintro ⟨Ho, Hg, Hf, Hs, Ht, Hd, Hi⟩ Hk
    iapply (wp_rest c hd nl s k hl K) $$ [Ho Hg Hf Hs Ht]
    · isplitl [Ho]; · iexact Ho
      isplitl [Hg]; · iexact Hg
      isplitl [Hf]; · iexact Hf
      isplitl [Hs] <;> iassumption
    iintro ⟨Ho, Hf, Hg, Hs, Ht⟩
    iapply Hk
    isplitl [Ho]; · iexact Ho
    isplitl [Hf]; · iexact Hf
    isplitl [Hg]; · iexact Hg
    isplitl [Hs]; · iexact Hs
    isplitl [Ht]; · iexact Ht
    isplitl [Hd] <;> iassumption
  · rw [if_neg h0]
    have e1 : 2 * k.val + s.val + 1 - 2 = 2 * k.val + s.val - 2 + 1 := by omega
    have e3 : SlotSt c d out ob sems s k.val = Fl c d out ob sems s (bn (2 * k.val + s.val - 2)) := by
      obtain ⟨j, hj⟩ := Nat.exists_eq_succ_of_ne_zero h0
      rw [hj, show 2 * j.succ + s.val - 2 = 2 * j + s.val by omega]; rfl
    rw [e1, e3, done_succ]
    unfold Idle
    iintro ⟨Ho, Hg, Hf, Hs, Ht, Hd, %Wt, Hi⟩ Hk
    iapply (wp_outWait c s _ (blk s k.val) (blk_lt s k) Wt _) $$ [Hs Hi]
    · isplitl [Hs] <;> iassumption
    iintro ⟨Hb, Hob, Hv, Hi⟩
    iapply (wp_rest c hd nl s k hl K) $$ [Ho Hg Hf Hob Hv Ht]
    · isplitl [Ho]; · iexact Ho
      isplitl [Hg]; · iexact Hg
      isplitl [Hf]; · iexact Hf
      isplitl [Hob Hv]
      · unfold Slot; isplitl [Hob] <;> iassumption
      iexact Ht
    iintro ⟨Ho, Hf, Hg, Hs, Ht⟩
    iapply Hk
    isplitl [Ho]; · iexact Ho
    isplitl [Hf]; · iexact Hf
    isplitl [Hg]; · iexact Hg
    isplitl [Hs]; · iexact Hs
    isplitl [Ht]; · iexact Ht
    isplitl [Hb Hd]
    · isplitl [Hb] <;> iassumption
    iexact Hi

/-- Half a trip. -/
theorem wp_half (hd : d.Good) (s : Fin 2) (k : Fin k0_t6_loop.trips) (K : P F) :
    iprop(Ops c d codes srm pw tab sg words tsems (min (2 * k.val + s.val + 1) 48) ∗ Ahead c d words codes tsems (min (2 * k.val + s.val + 1) 48) (min (2 * k.val + s.val + 8) 48)
        ∗ Gath c d compa pa cfa (bn (2 * k.val + s.val)) ∗ Free c compb pb cfb ∗ SlotSt c d out ob sems s k.val
        ∗ Todo c out (2 * k.val + s.val) ∗ Done c d out (2 * k.val + s.val - 2) ∗ Idle c)
      ⊢ iprop((iprop(Ops c d codes srm pw tab sg words tsems (min (2 * k.val + s.val + 2) 48) ∗ Ahead c d words codes tsems (min (2 * k.val + s.val + 2) 48) (min (2 * k.val + s.val + 9) 48)
            ∗ Free c compa pa cfa ∗ Gath c d compb pb cfb (bn (2 * k.val + s.val + 1))
            ∗ SlotSt c d out ob sems s (k.val + 1) ∗ Todo c out (2 * k.val + s.val + 1) ∗ Done c d out (2 * k.val + s.val + 1 - 2) ∗ Idle c) -∗ W c K Q)
        -∗ W c (half codes srm pw tab out hout compa compb pa pb hpb sg cfa cfb ob hob sems words tsems s k K) Q) := by
  have hk : k.val < 24 := lt_of_lt_of_eq k.isLt trips_eq
  have hs := s.isLt
  unfold half
  iintro ⟨Ho, Ha, Hg, Hf, Hs, Ht, Hd, Hi⟩ Hk
  unfold Ops
  icases Ho with ⟨Hc, Hr, Hw, Htab, Hsg⟩
  iapply (wp_issueO c hd s k (min (2 * k.val + s.val + 1) 48) (by omega) _) $$ [Htab Ha]
  · isplitl [Htab]; · iexact Htab
    iexact Ha
  iintro ⟨Htab, Ha⟩
  iapply (wp_landO c hd s k _) $$ [Htab Hc Ha Hi]
  · isplitl [Htab]; · iexact Htab
    isplitl [Hc]; · iexact Hc
    isplitl [Ha]; · iexact Ha
    iexact Hi
  iintro ⟨Htab, Hc, Ha, Hi⟩
  iapply (wp_half0 c hd (min (2 * k.val + s.val + 2) 48) s k (by omega) K) $$ [Hc Hr Hw Htab Hsg Hg Hf Hs Ht Hd Hi]
  · unfold Ops
    isplitl [Hc Hr Hw Htab Hsg]
    · isplitl [Hc]; · iexact Hc
      isplitl [Hr]; · iexact Hr
      isplitl [Hw]; · iexact Hw
      isplitl [Htab]; · iexact Htab
      iexact Hsg
    isplitl [Hg]; · iexact Hg
    isplitl [Hf]; · iexact Hf
    isplitl [Hs]; · iexact Hs
    isplitl [Ht]; · iexact Ht
    isplitl [Hd]; · iexact Hd
    iexact Hi
  unfold Ops
  iintro ⟨Ho, Hf, Hg, Hs, Ht, Hd, Hi⟩
  iapply Hk
  isplitl [Ho]; · iexact Ho
  isplitl [Ha]; · iexact Ha
  isplitl [Hf]; · iexact Hf
  isplitl [Hg]; · iexact Hg
  isplitl [Hs]; · iexact Hs
  isplitl [Ht]; · iexact Ht
  isplitl [Hd]; · iexact Hd
  iexact Hi

end

section
variable (arg0 : Memref sig .tc .hbm S2272x28x128 .i32) (harg0 : arg0.IsWhole) (arg1 : Memref sig .tc .vmem S9088x128 .f32) (harg1 : arg1.IsWhole)
  (arg2 : Memref sig .tc .vmem S1536x128 .f32) (harg2 : arg2.IsWhole) (arg3 : Memref sig .tc .smem S8x1536 .i32) (harg3 : arg3.IsWhole)
  (arg4 : Memref sig .tc .hbm S1536x3584 .bf16) (harg4 : arg4.IsWhole) (arg5 : Memref sig .tc .vmem S2272x28x128 .i32) (harg5 : arg5.IsWhole)
  (arg6 : Memref sig .tc .vmem S1904x128 .i32) (harg6 : arg6.IsWhole) (arg7 : Memref sig .tc .vmem S1904x128 .i32) (harg7 : arg7.IsWhole)
  (arg8 : Memref sig .tc .vmem S128x256 .fp8e4m3) (harg8 : arg8.IsWhole) (arg9 : Memref sig .tc .vmem S128x256 .fp8e4m3) (harg9 : arg9.IsWhole)
  (arg10 : Memref sig .tc .vmem S128x128 .f32) (harg10 : arg10.IsWhole) (arg11 : Memref sig .tc .vmem S128x128 .f32) (harg11 : arg11.IsWhole)
  (arg12 : Memref sig .tc .vmem S128x128 .f32) (harg12 : arg12.IsWhole) (arg13 : Memref sig .tc .vmem S2x32x3584 .bf16) (harg13 : arg13.IsWhole)
  (arg14 : DmaSems sig S48) (arg15 : DmaSems sig S2) {d}

variable (d) in
/-- The loop's state before trip `k`. -/
def Inv (k : ℕ) : sProp 𝕄 :=
  iprop(Ops c d arg5 arg1 arg2 arg3 arg10 arg0 arg14 (min (2 * k + 1) 48) ∗ Ahead c d arg0 arg5 arg14 (min (2 * k + 1) 48) (min (2 * k + 8) 48)
    ∗ Gath c d arg6 arg8 arg11 (bn (2 * k)) ∗ Free c arg7 arg9 arg12 ∗ SlotSt c d arg4 arg13 arg15 0 k ∗ SlotSt c d arg4 arg13 arg15 1 k
    ∗ Todo c arg4 (2 * k) ∗ Done c d arg4 (2 * k - 2) ∗ Idle c)

theorem wp_trip (hd : d.Good) (k : Fin k0_t6_loop.trips) (K : P F) :
    Inv c d arg0 arg1 arg2 arg3 arg4 arg5 arg6 arg7 arg8 arg9 arg10 arg11 arg12 arg13 arg14 arg15 k.val
      ⊢ iprop((Inv c d arg0 arg1 arg2 arg3 arg4 arg5 arg6 arg7 arg8 arg9 arg10 arg11 arg12 arg13 arg14 arg15 (k.val + 1) -∗ W c K Q)
        -∗ W c (trip arg0 arg1 arg2 arg3 arg4 harg4 arg5 arg6 arg7 arg8 harg8 arg9 harg9 arg10 arg11 arg12 arg13 harg13 arg14 arg15 k K) Q) := by
  unfold Inv trip
  iintro ⟨Ho, Ha, Hg, Hf, Hs, Hs1, Ht, Hd, Hi⟩ Hk
  iapply (wp_half c hd 0 k _) $$ [Ho Ha Hg Hf Hs Ht Hd Hi]
  · isplitl [Ho]; · iexact Ho
    isplitl [Ha]; · iexact Ha
    isplitl [Hg]; · iexact Hg
    isplitl [Hf]; · iexact Hf
    isplitl [Hs]; · iexact Hs
    isplitl [Ht]; · iexact Ht
    isplitl [Hd]; · iexact Hd
    iexact Hi
  iintro ⟨Ho, Ha, Hf, Hg, Hs, Ht, Hd, Hi⟩
  iapply (wp_half c hd 1 k _) $$ [Ho Ha Hg Hf Hs1 Ht Hd Hi]
  · isplitl [Ho]; · iexact Ho
    isplitl [Ha]; · iexact Ha
    isplitl [Hg]; · iexact Hg
    isplitl [Hf]; · iexact Hf
    isplitl [Hs1]; · iexact Hs1
    isplitl [Ht]; · iexact Ht
    isplitl [Hd]; · iexact Hd
    iexact Hi
  iintro ⟨Ho, Ha, Hf, Hg, Hs1, Ht, Hd, Hi⟩
  iapply Hk
  isplitl [Ho]; · iexact Ho
  isplitl [Ha]; · iexact Ha
  isplitl [Hg]; · iexact Hg
  isplitl [Hf]; · iexact Hf
  isplitl [Hs]; · iexact Hs
  isplitl [Hs1]; · iexact Hs1
  isplitl [Ht]; · iexact Ht
  isplitl [Hd]; · iexact Hd
  iexact Hi

theorem wp_tripE (hd : d.Good) (k : Fin k0_t6_loop.trips) :
    Inv c d arg0 arg1 arg2 arg3 arg4 arg5 arg6 arg7 arg8 arg9 arg10 arg11 arg12 arg13 arg14 arg15 k.val
      ⊢ W c (trip arg0 arg1 arg2 arg3 arg4 harg4 arg5 arg6 arg7 arg8 harg8 arg9 harg9 arg10 arg11 arg12 arg13 harg13 arg14 arg15 k (.ret ⟨⟩))
        (fun _ => Inv c d arg0 arg1 arg2 arg3 arg4 arg5 arg6 arg7 arg8 arg9 arg10 arg11 arg12 arg13 arg14 arg15 (k.val + 1)) := by
  iintro H
  iapply (wp_trip c arg0 arg1 arg2 arg3 arg4 harg4 arg5 arg6 arg7 arg8 harg8 arg9 harg9 arg10 arg11 arg12 arg13 harg13 arg14 arg15 hd k (.ret ⟨⟩)) $$ H
  iintro H
  iapply (ret_intro c)
  iexact H

theorem done_zero {R : sProp 𝕄} : R ⊢ iprop(Done c d arg4 0 ∗ R) := by
  have h : Done c d arg4 0 = iprop(emp) := by unfold Done; rw [Finset.Ico_self]; rfl
  rw [h]; exact BI.emp_sep.2

theorem slotSt_zero {s : Fin 2} : Slot c arg13 arg15 s ⊢ SlotSt c d arg4 arg13 arg15 s 0 := Entails.refl _

theorem done_two : iprop(Hd c (dstB arg4 (bn 47)) (OutAt d (bn 47)) ∗ Hd c (dstB arg4 (bn 46)) (OutAt d (bn 46)) ∗ Done c d arg4 46) ⊢ Done c d arg4 48 := by
  rw [show Done c d arg4 48 = _ from done_succ c 47, show Done c d arg4 47 = _ from done_succ c 46]

theorem gath_free {b : Fin 48} : Gath c d arg6 arg8 arg11 b ⊢ Free c arg6 arg8 arg11 := by
  unfold Gath Free
  iintro ⟨Hc, Hp, Hf⟩
  isplitl [Hc]; · iapply (on_mono c (fun _ _ => trivial)) $$ Hc
  isplitl [Hp]; · iapply (on_mono c (fun _ _ => trivial)) $$ Hp
  iapply (on_mono c (fun _ _ => trivial)) $$ Hf

theorem todo_end : Todo (F := F) c arg4 48 = iprop(emp) := by
  unfold Todo; rw [Finset.Ico_self]; rfl

/-- A trip of the first loop. -/
theorem wp_first (hd : d.Good) (k : Fin k0_t1_loop.trips) :
    iprop(Hd c arg3 (· = d.tab) ∗ Ahead c d arg0 arg5 arg14 0 k.val)
      ⊢ W c (issue arg0 arg5 arg3 arg14 (iss0 k) (.ret ⟨⟩)) (fun _ => iprop(Hd c arg3 (· = d.tab) ∗ Ahead c d arg0 arg5 arg14 0 (k.val + 1))) := by
  have hk : k.val < 8 := lt_of_lt_of_eq k.isLt (by decide)
  iintro H
  iapply (wp_issueNext c hd (Nat.zero_le _) (by omega) (iss0 k) (iss0_for k _ (by show min k.val 47 = k.val; omega)) (.ret ⟨⟩)) $$ H
  iintro H
  iapply (ret_intro c)
  iexact H

/-- The kernel run. -/
theorem wp_kernel (hd : d.Good) :
    iprop(Ops c d arg5 arg1 arg2 arg3 arg10 arg0 arg14 0 ∗ Ahead c d arg0 arg5 arg14 0 0 ∗ Free c arg6 arg8 arg11 ∗ Free c arg7 arg9 arg12 ∗ Slot c arg13 arg15 0 ∗ Slot c arg13 arg15 1 ∗ Todo c arg4 0 ∗ Idle c)
      ⊢ W c (cc0_unpermute_combine arg0 harg0 arg1 harg1 arg2 harg2 arg3 harg3 arg4 harg4 arg5 harg5 arg6 harg6 arg7 harg7 arg8 harg8 arg9 harg9 arg10 harg10 arg11 harg11 arg12 harg12 arg13 harg13 arg14 arg15)
        (fun _ => iprop(Ops c d arg5 arg1 arg2 arg3 arg10 arg0 arg14 48 ∗ Free c arg6 arg8 arg11 ∗ Free c arg7 arg9 arg12 ∗ Slot c arg13 arg15 0 ∗ Slot c arg13 arg15 1 ∗ Done c d arg4 48 ∗ Idle c)) := by
  rw [kernel_eq]
  iintro ⟨Ho, Ha, Hf, Hf1, Hs, Hs1, Ht, Hi⟩
  unfold Ops
  icases Ho with ⟨Hc, Hr, Hw, Htab, Hsg⟩
  iapply (wp_loop c k0_t1_loop k0_t1_ok (fun k _ => issue arg0 arg5 arg3 arg14 (iss0 k) (.ret ⟨⟩)) (fun k => iprop(Hd c arg3 (· = d.tab) ∗ Ahead c d arg0 arg5 arg14 0 k))
    (fun k => wp_first c arg0 arg3 arg5 arg14 hd k) _) $$ [Htab Ha]
  · isplitl [Htab]; · iexact Htab
    iexact Ha
  rw [show k0_t1_loop.trips = 8 by decide]
  iintro ⟨Htab, Ha⟩
  iapply (wp_landNext c hd (show 0 < 8 by decide) lnd0 lnd0_for _) $$ [Htab Hc Ha Hi]
  · isplitl [Htab]; · iexact Htab
    isplitl [Hc]; · iexact Hc
    isplitl [Ha]; · iexact Ha
    iexact Hi
  iintro ⟨Htab, Hc, Ha, Hi⟩
  iapply (wp_gath c hd 1 0#32 (show (0#32).toNat < 48 from by decide) (by decide) _) $$ [Hc Hr Hw Htab Hsg Hf]
  · unfold Ops
    isplitr [Hf]
    · isplitl [Hc]; · iexact Hc
      isplitl [Hr]; · iexact Hr
      isplitl [Hw]; · iexact Hw
      isplitl [Htab]; · iexact Htab
      iexact Hsg
    iexact Hf
  iintro ⟨Ho, Hg⟩
  iapply (wp_loop c k0_t6_loop k0_t6_ok (fun k _ => trip arg0 arg1 arg2 arg3 arg4 harg4 arg5 arg6 arg7 arg8 harg8 arg9 harg9 arg10 arg11 arg12 arg13 harg13 arg14 arg15 k (.ret ⟨⟩)) (fun k => Inv c d arg0 arg1 arg2 arg3 arg4 arg5 arg6 arg7 arg8 arg9 arg10 arg11 arg12 arg13 arg14 arg15 k)
    (fun k => wp_tripE c arg0 arg1 arg2 arg3 arg4 harg4 arg5 arg6 arg7 arg8 harg8 arg9 harg9 arg10 arg11 arg12 arg13 harg13 arg14 arg15 hd k) _) $$ [Ho Ha Hg Hf1 Hs Hs1 Ht Hi]
  · unfold Inv
    isplitl [Ho]; · iexact Ho
    isplitl [Ha]; · iexact Ha
    isplitl [Hg]; · iexact Hg
    isplitl [Hf1]; · iexact Hf1
    isplitl [Hs]; · iapply (slotSt_zero c) $$ Hs
    isplitl [Hs1]; · iapply (slotSt_zero c) $$ Hs1
    isplitl [Ht]; · iexact Ht
    iapply (done_zero c) $$ Hi
  rw [show k0_t6_loop.trips = 23 + 1 from trips_eq]
  unfold Inv
  rw [slotSt_succ, slotSt_succ, todo_end]
  unfold Idle
  iintro ⟨Ho, -, Hg, Hf, Hs, Hs1, -, Hd, %Wt, Hi⟩
  iapply (wp_outWait c 0 _ 46#32 (show (46#32).toNat < 48 from by decide) Wt _) $$ [Hs Hi]
  · isplitl [Hs]; · iexact Hs
    iexact Hi
  iintro ⟨Hb, Hob, Hv, %Wt', Hi⟩
  iapply (wp_outWait c 1 _ 47#32 (show (47#32).toNat < 48 from by decide) Wt' _) $$ [Hs1 Hi]
  · isplitl [Hs1]; · iexact Hs1
    iexact Hi
  iintro ⟨Hb1, Hob1, Hv1, Hi⟩
  iapply (ret_intro c)
  isplitl [Ho]; · unfold Ops; iexact Ho
  isplitl [Hg]; · iapply (gath_free c) $$ Hg
  isplitl [Hf]; · iexact Hf
  isplitl [Hob Hv]
  · unfold Slot; isplitl [Hob] <;> iassumption
  isplitl [Hob1 Hv1]
  · unfold Slot; isplitl [Hob1] <;> iassumption
  isplitl [Hb Hb1 Hd]
  · iapply (done_two c)
    isplitl [Hb1]; · iexact Hb1
    isplitl [Hb] <;> iassumption
  iexact Hi
end

end Cert.HandBits
-- ==== Proof.BitsLaunch.lean ====
/- The launch: from the buffers as the program holds them to the kernel run's operands and back. -/
module

public import proofs.«01_k».proof.Proof.BitsRun
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Ring

@[expose] public section

noncomputable section

namespace Cert.HandBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The result array. -/
abbrev mOut : Memref sig .tc .hbm S1536x3584 .bf16 := Memref.whole main_v3
/-- The output buffer. -/
abbrev mOb : Memref sig .tc .vmem S2x32x3584 .bf16 := Memref.whole cc0_scratch8
/-- All quads' words, as the program keeps them, -/
abbrev mWords : Memref sig .tc .hbm S2272x28x128 .i32 := Memref.whole main_v2
/-- and those copied. -/
abbrev mCodes : Memref sig .tc .vmem S2272x28x128 .i32 := Memref.whole cc0_scratch0

/-! ## Blocks of the result, slots of the output buffer -/

/-- The elements of block `b`. -/
def outSet (b : Fin 48) : Finset (Idx (mOut.view.loc (c : Thread nD τ))) := (dstB mOut b).view.set

theorem mem_outSet {b : Fin 48} {y : S1536x3584.Idx} : (y : Idx (mOut.view.loc (c : Thread nD τ))) ∈ outSet c b ↔ (y 0).val / 32 = b.val := by
  unfold outSet
  constructor
  · intro h
    obtain ⟨x, -, hx⟩ := Finset.mem_map.mp h
    have h0 : (y 0).val = 32 * b.val + 1 * (x 0).val := by rw [← hx]; rfl
    have := (x 0).isLt
    have : (x 0).val < 32 := this
    omega
  · intro h
    refine Finset.mem_map.mpr ⟨ix2 ⟨(y 0).val % 32, Nat.mod_lt _ (by decide)⟩ (y 1), Finset.mem_univ _, ?_⟩
    refine Shape.idx_ext₂ ?_ ?_
    · show 32 * b.val + 1 * ((y 0).val % 32) = (y 0).val; omega
    · show 0 + 1 * (y 1).val = (y 1).val; omega

theorem outSet_disjoint (b b' : Fin 48) (h : b ≠ b') : Disjoint (outSet c b) (outSet c b') :=
  Finset.disjoint_left.mpr fun _ h1 h2 => h (Fin.ext (((mem_outSet c).mp h1).symm.trans ((mem_outSet c).mp h2)))

theorem outSet_cover : Finset.univ.biUnion (outSet c) = Finset.univ :=
  Finset.eq_univ_of_forall fun y => Finset.mem_biUnion.mpr
    ⟨⟨((y : S1536x3584.Idx) 0).val / 32, Nat.div_lt_of_lt_mul ((y : S1536x3584.Idx) 0).isLt⟩, Finset.mem_univ _, (mem_outSet c).mpr rfl⟩

/-- The elements of slot `s`. -/
def obSet (s : Fin 2) : Finset (Idx (mOb.view.loc (c : Thread nD τ))) := slotSet mOb s

theorem mem_obSet {s : Fin 2} {y : S2x32x3584.Idx} : (y : Idx (mOb.view.loc (c : Thread nD τ))) ∈ obSet c s ↔ (y 0).val = s.val := by
  have e : obSet c s = (Rect.unit (s := S2x32x3584) ![s.val, 0, 0] S1x32x3584.size (slot_inb s)).set.map mOb.view.emb :=
    (View.set_reshape _ _).trans (View.set_slice _ _)
  rw [e]
  constructor
  · intro h
    obtain ⟨x, hx, hy⟩ := Finset.mem_map.mp h
    rw [← Rect.map_emb_univ, Finset.mem_map] at hx
    obtain ⟨z, -, hz⟩ := hx
    have h0 : (y 0).val = s.val + 1 * (z 0).val := by rw [← hy, ← hz]; rfl
    have : (z 0).val < 1 := (z 0).isLt
    omega
  · intro h
    refine Finset.mem_map.mpr ⟨y, ?_, rfl⟩
    rw [← Rect.map_emb_univ, Finset.mem_map]
    refine ⟨ix3 0 (y 1) (y 2), Finset.mem_univ _, ?_⟩
    funext a
    refine Fin.ext ?_
    fin_cases a
    · show s.val + 1 * 0 = (y 0).val; omega
    · show 0 + 1 * (y 1).val = (y 1).val; omega
    · show 0 + 1 * (y 2).val = (y 2).val; omega

theorem obSet_disjoint (b b' : Fin 2) (h : b ≠ b') : Disjoint (obSet c b) (obSet c b') :=
  Finset.disjoint_left.mpr fun _ h1 h2 => h (Fin.ext (((mem_obSet c).mp h1).symm.trans ((mem_obSet c).mp h2)))

theorem obSet_cover : Finset.univ.biUnion (obSet c) = Finset.univ :=
  Finset.eq_univ_of_forall fun y => Finset.mem_biUnion.mpr ⟨(y : S2x32x3584.Idx) 0, Finset.mem_univ _, (mem_obSet c).mpr rfl⟩

/-! ## Tiles -/

/-- The elements of tile `T` of the words. -/
def wSet (T : Fin 284) : Finset (Idx (mWords.view.loc (c : Thread nD τ))) := (tileOf mWords T).view.set

theorem mem_wSet {T : Fin 284} {y : S2272x28x128.Idx} : (y : Idx (mWords.view.loc (c : Thread nD τ))) ∈ wSet c T ↔ (y 0).val / 8 = T.val := by
  have e : wSet c T = (Rect.unit (s := S2272x28x128) ![8 * T.val, 0, 0] S8x28x128.size (tile_inb T)).set.map mWords.view.emb := View.set_slice _ _
  rw [e]
  constructor
  · intro h
    obtain ⟨x, hx, hy⟩ := Finset.mem_map.mp h
    rw [← Rect.map_emb_univ, Finset.mem_map] at hx
    obtain ⟨z, -, hz⟩ := hx
    have h0 : (y 0).val = 8 * T.val + 1 * (z 0).val := by rw [← hy, ← hz]; rfl
    have : (z 0).val < 8 := (z 0).isLt
    omega
  · intro h
    refine Finset.mem_map.mpr ⟨y, ?_, rfl⟩
    rw [← Rect.map_emb_univ, Finset.mem_map]
    refine ⟨ix3 ⟨(y 0).val % 8, Nat.mod_lt _ (by decide)⟩ (y 1) (y 2), Finset.mem_univ _, ?_⟩
    funext a
    refine Fin.ext ?_
    fin_cases a
    · show 8 * T.val + 1 * ((y 0).val % 8) = (y 0).val; omega
    · show 0 + 1 * (y 1).val = (y 1).val; omega
    · show 0 + 1 * (y 2).val = (y 2).val; omega

theorem wSet_disjoint (b b' : Fin 284) (h : b ≠ b') : Disjoint (wSet c b) (wSet c b') :=
  Finset.disjoint_left.mpr fun _ h1 h2 => h (Fin.ext (((mem_wSet c).mp h1).symm.trans ((mem_wSet c).mp h2)))

theorem wSet_cover : Finset.univ.biUnion (wSet c) = Finset.univ :=
  Finset.eq_univ_of_forall fun y => Finset.mem_biUnion.mpr
    ⟨⟨((y : S2272x28x128.Idx) 0).val / 8, Nat.div_lt_of_lt_mul ((y : S2272x28x128.Idx) 0).isLt⟩, Finset.mem_univ _, (mem_wSet c).mpr rfl⟩

/-- The elements of tile `T` of the copies. -/
def cSet (T : Fin 284) : Finset (Idx (mCodes.view.loc (c : Thread nD τ))) := (tileOf mCodes T).view.set

theorem mem_cSet {T : Fin 284} {y : S2272x28x128.Idx} : (y : Idx (mCodes.view.loc (c : Thread nD τ))) ∈ cSet c T ↔ (y 0).val / 8 = T.val := by
  have e : cSet c T = (Rect.unit (s := S2272x28x128) ![8 * T.val, 0, 0] S8x28x128.size (tile_inb T)).set.map mCodes.view.emb := View.set_slice _ _
  rw [e]
  constructor
  · intro h
    obtain ⟨x, hx, hy⟩ := Finset.mem_map.mp h
    rw [← Rect.map_emb_univ, Finset.mem_map] at hx
    obtain ⟨z, -, hz⟩ := hx
    have h0 : (y 0).val = 8 * T.val + 1 * (z 0).val := by rw [← hy, ← hz]; rfl
    have : (z 0).val < 8 := (z 0).isLt
    omega
  · intro h
    refine Finset.mem_map.mpr ⟨y, ?_, rfl⟩
    rw [← Rect.map_emb_univ, Finset.mem_map]
    refine ⟨ix3 ⟨(y 0).val % 8, Nat.mod_lt _ (by decide)⟩ (y 1) (y 2), Finset.mem_univ _, ?_⟩
    funext a
    refine Fin.ext ?_
    fin_cases a
    · show 8 * T.val + 1 * ((y 0).val % 8) = (y 0).val; omega
    · show 0 + 1 * (y 1).val = (y 1).val; omega
    · show 0 + 1 * (y 2).val = (y 2).val; omega

theorem cSet_disjoint (b b' : Fin 284) (h : b ≠ b') : Disjoint (cSet c b) (cSet c b') :=
  Finset.disjoint_left.mpr fun _ h1 h2 => h (Fin.ext (((mem_cSet c).mp h1).symm.trans ((mem_cSet c).mp h2)))

theorem cSet_cover : Finset.univ.biUnion (cSet c) = Finset.univ :=
  Finset.eq_univ_of_forall fun y => Finset.mem_biUnion.mpr
    ⟨⟨((y : S2272x28x128.Idx) 0).val / 8, Nat.div_lt_of_lt_mul ((y : S2272x28x128.Idx) 0).isLt⟩, Finset.mem_univ _, (mem_cSet c).mpr rfl⟩

/-! ## Whole buffers -/

theorem whole_hd (b : Ref sig .tc) : iprop(∃ f : Buf (Elt F) ((c : Thread nD τ).loc b), ((c : Thread nD τ).loc b) ↦{fullShare} f) ⊢ Hd (F := F) c (Memref.whole b) (fun _ => True) := by
  unfold Hd On
  rw [show (Memref.whole b).view.set = Finset.univ from View.set_whole b]
  iintro ⟨%f, H⟩
  iexists f
  isplitr
  · ipureintro; trivial
  · iexact H

theorem hd_whole (b : Ref sig .tc) (Φ) : Hd (F := F) c (Memref.whole b) Φ ⊢ iprop(∃ f : Buf (Elt F) ((c : Thread nD τ).loc b), ((c : Thread nD τ).loc b) ↦{fullShare} f) := by
  unfold Hd On
  rw [show (Memref.whole b).view.set = Finset.univ from View.set_whole b]
  iintro ⟨%f, -, H⟩
  iexists f
  iexact H

theorem two_split (Φ : Fin 2 → sProp 𝕄) : bigSep Finset.univ Φ = iprop(Φ 0 ∗ Φ 1) := bigSep_univ_eq_bigSepL [0, 1] (by decide) (by decide) Φ

/-- The output buffer is its two slots, -/
theorem ob_split : iprop(∃ f : Buf (Elt F) ((c : Thread nD τ).loc cc0_scratch8), ((c : Thread nD τ).loc cc0_scratch8) ↦{fullShare} f)
    ⊢ iprop(On (F := F) c mOb (slotSet mOb 0) (fun _ => True) ∗ On c mOb (slotSet mOb 1) (fun _ => True)) := by
  have h : ∀ f : Buf (Elt F) ((c : Thread nD τ).loc cc0_scratch8), (((c : Thread nD τ).loc cc0_scratch8) ↦{fullShare} f : sProp 𝕄)
      = iprop((mOb.view.loc (c : Thread nD τ) ↦[obSet c 0]{fullShare} f) ∗ (mOb.view.loc (c : Thread nD τ) ↦[obSet c 1]{fullShare} f)) :=
    fun f => (Ring.pointsTo_blocks (ℓ := mOb.view.loc (c : Thread nD τ)) (obSet c) (obSet_disjoint c) (obSet_cover c) f).trans (two_split _)
  simp only [h]
  unfold On
  iintro ⟨%f, H, H'⟩
  isplitl [H]
  · iexists f; isplitr
    · ipureintro; trivial
    · iexact H
  · iexists f; isplitr
    · ipureintro; trivial
    · iexact H'

/-- and its two slots are the output buffer. -/
theorem ob_join : iprop(On (F := F) c mOb (slotSet mOb 0) (fun _ => True) ∗ On c mOb (slotSet mOb 1) (fun _ => True))
    ⊢ iprop(∃ f : Buf (Elt F) ((c : Thread nD τ).loc cc0_scratch8), ((c : Thread nD τ).loc cc0_scratch8) ↦{fullShare} f) := by
  unfold On
  iintro ⟨⟨%f, -, H⟩, ⟨%g, -, H'⟩⟩
  iapply (Ring.pointsTo_blocks_join_exists (ℓ := mOb.view.loc (c : Thread nD τ)) (obSet c) (obSet_disjoint c) (obSet_cover c) f)
  rw [two_split]
  isplitl [H]
  · iexists f; iexact H
  · iexists g; iexact H'

/-! ## The result -/

variable (d : In F)

/-- The result, entry by entry. -/
def In.res (y : S1536x3584.Idx) : Elt F .bf16 :=
  d.out ⟨(y 0).val / 32, Nat.div_lt_of_lt_mul (y 0).isLt⟩ ⟨(y 1).val / 256, Nat.div_lt_of_lt_mul (y 1).isLt⟩ ⟨(y 0).val % 32, Nat.mod_lt _ (by decide)⟩ ⟨(y 1).val % 256, Nat.mod_lt _ (by decide)⟩

theorem bn_val (b : Fin 48) : bn b.val = b := Fin.ext (by show min b.val 47 = b.val; omega)

theorem ico_univ (Φ : ℕ → sProp 𝕄) : bigSep (Finset.Ico 0 48) Φ = bigSep (Finset.univ : Finset (Fin 48)) fun b => Φ b.val := by
  have h : Finset.Ico 0 48 = (Finset.univ : Finset (Fin 48)).map ⟨Fin.val, Fin.val_injective⟩ := by decide
  rw [h, bigSep_map]
  rfl

theorem todo_split (f : Buf (Elt F) ((c : Thread nD τ).loc main_v3)) : (((c : Thread nD τ).loc main_v3) ↦{fullShare} f : sProp 𝕄) ⊢ Todo c mOut 0 := by
  unfold Todo
  rw [ico_univ]
  refine (Entails.of_eq (Ring.pointsTo_blocks (ℓ := mOut.view.loc (c : Thread nD τ)) (outSet c) (outSet_disjoint c) (outSet_cover c) f)).trans ?_
  refine bigSep_mono fun b _ => ?_
  rw [bn_val]
  unfold Hd On
  show _ ⊢ (_ : sProp 𝕄)
  iintro H
  iexists f
  isplitr
  · ipureintro; trivial
  · iexact H

theorem done_join : Done c d mOut 48 ⊢ (((c : Thread nD τ).loc main_v3) ↦{fullShare} (d.res : Buf (Elt F) ((c : Thread nD τ).loc main_v3)) : sProp 𝕄) := by
  unfold Done
  rw [ico_univ]
  refine BIBase.Entails.trans ?_ (Entails.of_eq (Ring.pointsTo_blocks (ℓ := mOut.view.loc (c : Thread nD τ)) (outSet c) (outSet_disjoint c) (outSet_cover c) d.res).symm)
  refine bigSep_mono fun b _ => ?_
  rw [bn_val]
  unfold Hd On
  show _ ⊢ (_ : sProp 𝕄)
  iintro ⟨%f, %hf, H⟩
  rw [← pointsTo_congr (f := f) (g := (d.res : Buf (Elt F) (mOut.view.loc (c : Thread nD τ)))) (I := outSet c b) ?_]
  · iexact H
  intro y hy
  have hb := (mem_outSet c (y := y)).mp hy
  have h1 : ((y : S1536x3584.Idx) 1).val < 3584 := ((y : S1536x3584.Idx) 1).isLt
  have := hf ⟨((y : S1536x3584.Idx) 1).val / 256, Nat.div_lt_of_lt_mul h1⟩ ⟨((y : S1536x3584.Idx) 0).val % 32, Nat.mod_lt _ (by decide)⟩ ⟨((y : S1536x3584.Idx) 1).val % 256, Nat.mod_lt _ (by decide)⟩
  refine Eq.trans ?_ (this.trans ?_)
  · show f y = f _
    refine congrArg f (Shape.idx_ext₂ ?_ ?_)
    · show (y 0).val = 32 * b.val + 1 * ((y 0).val % 32); omega
    · show (y 1).val = 0 + 1 * (256 * ((y 1).val / 256) + (y 1).val % 256); omega
  · show _ = d.out _ _ _ _
    congr 1
    exact Fin.ext hb.symm

/-! ## The tiles, those that are copied and the others -/

/-- The words are their tiles, -/
theorem words_split : (((c : Thread nD τ).loc main_v2) ↦{fullShare} (d.codes : Buf (Elt F) ((c : Thread nD τ).loc main_v2)) : sProp 𝕄)
    ⊢ bigSep (Finset.univ : Finset (Fin 284)) fun T => Hd c (tileOf mWords T) (· = d.tileX T) := by
  refine (Entails.of_eq (Ring.pointsTo_blocks (ℓ := mWords.view.loc (c : Thread nD τ)) (wSet c) (wSet_disjoint c) (wSet_cover c) d.codes)).trans ?_
  refine bigSep_mono fun T _ => ?_
  unfold Hd On
  show _ ⊢ (_ : sProp 𝕄)
  iintro H
  iexists (d.codes : Buf (Elt F) (mWords.view.loc (c : Thread nD τ)))
  isplitr
  · ipureintro
    funext x
    show d.codes _ = d.codes _
    refine congrArg d.codes (funext fun a => Fin.ext ?_)
    fin_cases a
    · show 8 * T.val + 1 * (x 0).val = 8 * T.val + (x 0).val; omega
    · show 0 + 1 * (x 1).val = (x 1).val; omega
    · show 0 + 1 * (x 2).val = (x 2).val; omega
  · iexact H

/-- and their tiles are the words. -/
theorem words_join : (bigSep (Finset.univ : Finset (Fin 284)) fun T => Hd c (tileOf mWords T) (· = d.tileX T))
    ⊢ (((c : Thread nD τ).loc main_v2) ↦{fullShare} (d.codes : Buf (Elt F) ((c : Thread nD τ).loc main_v2)) : sProp 𝕄) := by
  refine BIBase.Entails.trans ?_ (Entails.of_eq (Ring.pointsTo_blocks (ℓ := mWords.view.loc (c : Thread nD τ)) (wSet c) (wSet_disjoint c) (wSet_cover c) d.codes).symm)
  refine bigSep_mono fun T _ => ?_
  unfold Hd On
  show _ ⊢ (_ : sProp 𝕄)
  iintro ⟨%f, %hf, H⟩
  rw [← pointsTo_congr (f := f) (g := (d.codes : Buf (Elt F) (mWords.view.loc (c : Thread nD τ)))) (I := wSet c T) ?_]
  · iexact H
  intro y hy
  have hb := (mem_wSet c (y := y)).mp hy
  have := congrFun hf (ix3 ⟨((y : S2272x28x128.Idx) 0).val % 8, Nat.mod_lt _ (by decide)⟩ ((y : S2272x28x128.Idx) 1) ((y : S2272x28x128.Idx) 2))
  refine Eq.trans ?_ (this.trans ?_)
  · show f y = f _
    refine congrArg f (funext fun a => Fin.ext ?_)
    fin_cases a
    · show (y 0).val = 8 * T.val + 1 * ((y 0).val % 8); omega
    · show (y 1).val = 0 + 1 * (y 1).val; omega
    · show (y 2).val = 0 + 1 * (y 2).val; omega
  · show d.codes _ = d.codes y
    refine congrArg d.codes (funext fun a => Fin.ext ?_)
    fin_cases a
    · show 8 * T.val + (y 0).val % 8 = (y 0).val; omega
    · rfl
    · rfl

/-- The copies likewise, -/
theorem codes_split : iprop(∃ f : Buf (Elt F) ((c : Thread nD τ).loc cc0_scratch0), ((c : Thread nD τ).loc cc0_scratch0) ↦{fullShare} f)
    ⊢ bigSep (Finset.univ : Finset (Fin 284)) fun T => Hd (F := F) c (tileOf mCodes T) (fun _ => True) := by
  iintro ⟨%f, H⟩
  have h : (((c : Thread nD τ).loc cc0_scratch0) ↦{fullShare} f : sProp 𝕄) ⊢ bigSep (Finset.univ : Finset (Fin 284)) fun T => Hd (F := F) c (tileOf mCodes T) (fun _ => True) := by
    refine (Entails.of_eq (Ring.pointsTo_blocks (ℓ := mCodes.view.loc (c : Thread nD τ)) (cSet c) (cSet_disjoint c) (cSet_cover c) f)).trans ?_
    refine bigSep_mono fun T _ => ?_
    unfold Hd On
    show _ ⊢ (_ : sProp 𝕄)
    iintro H
    iexists f
    isplitr
    · ipureintro; trivial
    · iexact H
  iapply h $$ H

/-- and back. -/
theorem codes_join : (bigSep (Finset.univ : Finset (Fin 284)) fun T => Hd (F := F) c (tileOf mCodes T) (fun _ => True))
    ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := mCodes.view.loc (c : Thread nD τ)) (cSet c) (cSet_disjoint c) (cSet_cover c) ((fun _ => (0#32 : BitVec 32)) : S2272x28x128.Idx → BitVec 32))
  refine bigSep_mono fun T _ => ?_
  unfold Hd On
  show _ ⊢ (_ : sProp 𝕄)
  iintro ⟨%f, -, H⟩
  iexists f
  iexact H

/-- The tiles that are copied. -/
def used : Finset (Fin 284) := Finset.univ.biUnion fun b : Fin 48 => Finset.univ.image fun j : Fin (d.cnt b) => d.tl b j.val

variable {d} in
theorem tl_once (hd : d.Good) {b b' : Fin 48} (j : Fin (d.cnt b)) (j' : Fin (d.cnt b')) (e : d.tl b j.val = d.tl b' j'.val) : b = b' ∧ j.val = j'.val := by
  have a := tl_val hd b ⟨j.val, lt_of_lt_of_le j.isLt (hd.cnt b)⟩ j.isLt
  have a' := tl_val hd b' ⟨j'.val, lt_of_lt_of_le j'.isLt (hd.cnt b')⟩ j'.isLt
  obtain ⟨x, y⟩ := hd.once b b' ⟨j.val, lt_of_lt_of_le j.isLt (hd.cnt b)⟩ ⟨j'.val, lt_of_lt_of_le j'.isLt (hd.cnt b')⟩ j.isLt j'.isLt
    (BitVec.eq_of_toNat_eq (a.symm.trans ((congrArg Fin.val e).trans a')))
  exact ⟨x, congrArg Fin.val y⟩

variable {d} in
theorem used_eq (hd : d.Good) (Φ : Fin 284 → sProp 𝕄) :
    bigSep (used d) Φ = bigSep (Finset.univ : Finset (Fin 48)) fun b => bigSep (Finset.univ : Finset (Fin (d.cnt b))) fun j => Φ (d.tl b j.val) := by
  unfold used
  rw [bigSep_biUnion_eq]
  · exact bigSep_congr fun b _ => bigSep_image_of_injOn (fun j _ j' _ e => Fin.ext (tl_once hd j j' e).2) Φ
  · intro b _ b' _ h
    refine Finset.disjoint_left.mpr fun T h1 h2 => h ?_
    obtain ⟨j, -, hj⟩ := Finset.mem_image.mp h1
    obtain ⟨j', -, hj'⟩ := Finset.mem_image.mp h2
    exact (tl_once hd j j' (hj.trans hj'.symm)).1

/-- Some tiles and all the others. -/
theorem tiles_sdiff {s t : Finset (Fin 284)} (h : t ⊆ s) {Φ : Fin 284 → sProp 𝕄} : bigSep s Φ = iprop(bigSep t Φ ∗ bigSep (s \ t) Φ) :=
  bigSep_sdiff_split h

/-- The blocks' semaphores, each at zero. -/
def TSems : sProp 𝕄 := bigSep (Finset.univ : Finset (Fin 48)) fun b => semVal ((c : Thread nD τ), tsem cc0_scratch9 b) 0
/-- The tiles that are not copied. -/
def Others : sProp 𝕄 := bigSep (Finset.univ \ used d) (FreeT c d mWords mCodes)

variable {d} in
/-- Words and copies at the start: the tiles that are not copied, and every block's tiles not copied yet. -/
theorem tiles_in (hd : d.Good) : iprop((((c : Thread nD τ).loc main_v2) ↦{fullShare} (d.codes : Buf (Elt F) ((c : Thread nD τ).loc main_v2)))
      ∗ (∃ f : Buf (Elt F) ((c : Thread nD τ).loc cc0_scratch0), ((c : Thread nD τ).loc cc0_scratch0) ↦{fullShare} f) ∗ TSems c)
    ⊢ iprop(Others c d ∗ Ahead c d mWords mCodes cc0_scratch9 0 0) := by
  have h : iprop((bigSep (Finset.univ : Finset (Fin 284)) fun T => Hd c (tileOf mWords T) (· = d.tileX T)) ∗ (bigSep (Finset.univ : Finset (Fin 284)) fun T => Hd (F := F) c (tileOf mCodes T) (fun _ => True)))
      ⊢ iprop((bigSep (Finset.univ : Finset (Fin 48)) fun b => bigSep (Finset.univ : Finset (Fin (d.cnt b))) fun j => FreeT c d mWords mCodes (d.tl b j.val)) ∗ Others c d) := by
    unfold Others
    rw [← used_eq hd (FreeT c d mWords mCodes), ← tiles_sdiff (Finset.subset_univ (used d)), ← bigSep_sep']
    exact BIBase.Entails.rfl
  iintro ⟨Hw, Hc, Hs⟩
  ihave Hw := (words_split c d) $$ Hw
  ihave Hc := (codes_split c) $$ Hc
  icases h $$ [Hw Hc] with ⟨Hp, Ho⟩
  · isplitl [Hw]; · iexact Hw
    iexact Hc
  isplitl [Ho]; · iexact Ho
  unfold Ahead TSems
  rw [Finset.Ico_self, bigSep_empty, ico_univ]
  simp only [bn_val]
  unfold Pend
  rw [bigSep_sep']
  isplitr
  · iempintro
  isplitl [Hp]; · iexact Hp
  iexact Hs

theorem here_free (T : Fin 284) : HereT c d mWords mCodes T ⊢ FreeT c d mWords mCodes T := by
  unfold HereT FreeT
  iintro ⟨H, H'⟩
  isplitl [H]; · iexact H
  iapply (on_mono c (fun _ _ => trivial)) $$ H'

variable {d} in
/-- And at the end, with every block's tiles copied. -/
theorem tiles_out (hd : d.Good) : iprop(Others c d ∗ Landed c d mWords mCodes cc0_scratch9 48)
    ⊢ iprop((((c : Thread nD τ).loc main_v2) ↦{fullShare} (d.codes : Buf (Elt F) ((c : Thread nD τ).loc main_v2)))
      ∗ (∃ f : Buf (Elt F) ((c : Thread nD τ).loc cc0_scratch0), ((c : Thread nD τ).loc cc0_scratch0) ↦{fullShare} f) ∗ TSems c) := by
  have h : iprop((bigSep (Finset.univ : Finset (Fin 48)) fun b => bigSep (Finset.univ : Finset (Fin (d.cnt b))) fun j => FreeT c d mWords mCodes (d.tl b j.val)) ∗ Others c d)
      ⊢ iprop((bigSep (Finset.univ : Finset (Fin 284)) fun T => Hd c (tileOf mWords T) (· = d.tileX T)) ∗ (bigSep (Finset.univ : Finset (Fin 284)) fun T => Hd (F := F) c (tileOf mCodes T) (fun _ => True))) := by
    unfold Others
    rw [← used_eq hd (FreeT c d mWords mCodes), ← tiles_sdiff (Finset.subset_univ (used d)), ← bigSep_sep']
    exact BIBase.Entails.rfl
  have h' : (bigSep (Finset.univ : Finset (Fin 48)) fun b => bigSep (Finset.univ : Finset (Fin (d.cnt b))) fun j => HereT c d mWords mCodes (d.tl b j.val))
      ⊢ (bigSep (Finset.univ : Finset (Fin 48)) fun b => bigSep (Finset.univ : Finset (Fin (d.cnt b))) fun j => FreeT c d mWords mCodes (d.tl b j.val)) :=
    bigSep_mono fun b _ => bigSep_mono fun j _ => here_free c d _
  unfold Landed TSems
  rw [ico_univ]
  simp only [bn_val]
  unfold Here
  rw [bigSep_sep']
  iintro ⟨Ho, Hp, Hs⟩
  ihave Hp := h' $$ Hp
  icases h $$ [Hp Ho] with ⟨Hw, Hc⟩
  · isplitl [Hp]; · iexact Hp
    iexact Ho
  isplitl [Hw]; · iapply (words_join c d) $$ Hw
  isplitl [Hc]; · iapply (codes_join c) $$ Hc
  iexact Hs

/-! ## The run -/

variable (m : (ℓ : Loc nD τ sig) → Buf (Elt F) ℓ) (ρ : Dev nD → PrngReg)

/-- The unscoped buffer the body writes itself. -/
def R0 : Finset (Ref sig .tc) := {main_v3}
/-- The unscoped buffer it reads itself. -/
def H0 : Finset (Ref sig .tc) := {main_v2}

theorem H0_sub : H0 ⊆ Pipeline.restRefs sig spec0 := by decide
theorem R0_sub : R0 ⊆ Pipeline.restRefs sig spec0 \ H0 := by decide

theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The body's semaphores: one per block, then the two of the output buffer. -/
abbrev osem0 : Fin 50 → SemLoc sig := fun j => SemLoc.dma ⟨3 + j.val, by show 3 + j.val < 53; omega⟩
theorem ownSemFacts0 : Pipeline.OwnSemFacts spec0 osem0 := by decide
theorem tsem_eq : ∀ b : Fin 48, tsem cc0_scratch9 b = osem0 ⟨b.val, by omega⟩ := by decide
theorem ownSems00_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma 51) 0 ∗ semVal ((c : Thread nD τ), SemLoc.dma 52) 0 ∗ TSems c) := by
  have h : (Finset.univ : Finset (Fin 50)) = insert 48 (insert 49 ((Finset.univ : Finset (Fin 48)).map ⟨fun b => (⟨b.val, by omega⟩ : Fin 50), fun b b' e => Fin.ext (by have h := congrArg Fin.val e; exact h)⟩)) := by decide
  unfold Pipeline.ownSems0 TSems
  rw [h, bigSep_insert (by decide), bigSep_insert (by decide), bigSep_map]
  have e : (bigSep (Finset.univ : Finset (Fin 48)) fun b => (semVal ((c : Thread nD τ), tsem cc0_scratch9 b) 0 : sProp 𝕄))
      = bigSep (Finset.univ : Finset (Fin 48)) fun b => semVal ((c : Thread nD τ), osem0 ⟨b.val, by omega⟩) 0 := bigSep_congr fun b _ => by rw [tsem_eq]
  rw [e]
  rfl

/-- The operands as the region finds them. -/
def ops (c : Dev nD) : In F where
  codes := V m c main_v2
  srm := iblk m c 0 t0_0
  pw := iblk m c 1 t0_0
  tab := iblk m c 2 t0_0

/-- The buffers at the end: the result written. -/
def G (c : Dev nD) (b : Ref sig .tc) : Buf (Elt F) ((c : Thread nD τ).loc b) :=
  if h : b = main_v3 then h ▸ ((ops m c).res : Buf (Elt F) ((c : Thread nD τ).loc main_v3)) else V m c b

theorem G_out : G m c main_v3 = (ops m c).res := dif_pos rfl

theorem routed_eq (W : (b : Ref sig .tc) → Buf (Elt F) ((c : Thread nD τ).loc b)) :
    (Pipeline.routed R0 c W : sProp 𝕄) = (((c : Thread nD τ).loc main_v3) ↦{fullShare} W main_v3) := by
  unfold Pipeline.routed R0; rw [bigSep_singleton]

theorem phi_eq (W : (c : Dev nD) → (b : Ref sig .tc) → Buf (Elt F) ((c : Thread nD τ).loc b)) :
    (Pipeline.ΦDRG osem0 spec0 H0 R0 (V m) W c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f)
            ∗ (∃ f : Buf (Elt F) ((c : Thread nD τ).loc cc0_scratch4), ((c : Thread nD τ).loc cc0_scratch4) ↦{fullShare} f)
            ∗ (∃ f : Buf (Elt F) ((c : Thread nD τ).loc cc0_scratch5), ((c : Thread nD τ).loc cc0_scratch5) ↦{fullShare} f)
            ∗ (∃ f : Buf (Elt F) ((c : Thread nD τ).loc cc0_scratch6), ((c : Thread nD τ).loc cc0_scratch6) ↦{fullShare} f)
            ∗ (∃ f : Buf (Elt F) ((c : Thread nD τ).loc cc0_scratch7), ((c : Thread nD τ).loc cc0_scratch7) ↦{fullShare} f)
            ∗ (∃ f : Buf (Elt F) ((c : Thread nD τ).loc cc0_scratch8), ((c : Thread nD τ).loc cc0_scratch8) ↦{fullShare} f))
          ∗ (∃ r, prngReg c r)
          ∗ iprop(semVal ((c : Thread nD τ), SemLoc.dma 51) 0 ∗ semVal ((c : Thread nD τ), SemLoc.dma 52) 0 ∗ TSems c)
          ∗ (((c : Thread nD τ).loc main_v2) ↦{fullShare} V m c main_v2) ∗ (((c : Thread nD τ).loc main_v3) ↦{fullShare} W c main_v3)) := by
  rw [Pipeline.ΦDRG_eq, scopedRest0_eq, ownSems00_eq, routed_eq]
  unfold H0
  rw [bigSep_singleton]

/-- The proof data of the one region. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRG osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Pipeline.Dat.blockOf iblk; rw [A_eq]; try rfl) t d).trans
    (by unfold Pipeline.Dat.fetched Pipeline.Dat.blockOf iblk; rw [A_eq]; try rfl)
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Pipeline.Dat.blockOf iblk; rw [A_eq]; try rfl) t d).trans
    (by unfold Pipeline.Dat.fetched Pipeline.Dat.blockOf iblk; rw [A_eq]; try rfl)
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Pipeline.Dat.blockOf iblk; rw [A_eq]; try rfl) t d).trans
    (by unfold Pipeline.Dat.fetched Pipeline.Dat.blockOf iblk; rw [A_eq]; try rfl)
theorem held_idle (t : Fin (cfg0.N + 1)) : (dats m 0 c).owesAt () t ⊢ Idle (F := F) c := by
  unfold Pipeline.Dat.owesAt Pipeline.owesWithin Idle
  rw [show (dats m 0 c).owed t = 0 from rfl]
  iintro ⟨%W, -, H⟩
  iexists W
  iexact H

theorem idle_held (t : Fin (cfg0.N + 1)) : Idle (F := F) c ⊢ (dats m 0 c).owesAt () t := by
  unfold Pipeline.Dat.owesAt Pipeline.owesWithin Idle
  rw [show (dats m 0 c).owed t = 0 from rfl]
  iintro ⟨%W, H⟩
  iexists W
  isplitr
  · ipureintro; exact fun _ _ => Or.inl trivial
  · iexact H

theorem owns_hd {sp : Space} {s : Shape} {e : EltTy} (M : Memref sig .tc sp s e) (X : s.Idx → Elt F e) :
    owns (Val := Elt F) (c : Thread nD τ) M fullShare X = Hd c M (· = X) := rfl

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- What the kernel leaves alone. -/
def Rest : sProp 𝕄 := iprop((∃ r, prngReg c r) ∗ Others c (ops m c))

variable {m} in
theorem enter (hg : ∀ c, (ops m c).Good) (t : Fin cfg0.N) : bodyPre c m t ⊢ iprop(Rest c m ∗ Ops c (ops m c) mCodes (st0_0 t) (st0_1 t) (st0_2 t) (Memref.whole cc0_scratch5) mWords cc0_scratch9 0 ∗ Ahead c (ops m c) mWords mCodes cc0_scratch9 0 0
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Todo c mOut 0 ∗ Idle c) := by
  obtain rfl := fin_N0 t
  unfold bodyPre
  rw [show (dats m 0 c).Φ t0_0.castSucc = Pipeline.ΦDRG osem0 spec0 H0 R0 (V m) (V m) c from rfl, phi_eq]
  simp only [before0, before1, before2, owns_hd]
  unfold Ops Free Slot Rest Landed
  rw [Finset.Ico_self, bigSep_empty]
  iintro ⟨⟨⟨H0, H1, H2, H3, H4, H5, H6, H7, H8⟩, Hp, ⟨Hs0, Hs1, Hts⟩, Hv, Ho⟩, Hi, ⟨%d0, Hw0⟩, ⟨%d1, Hw1⟩, ⟨%d2, Hw2⟩⟩
  icases (tiles_in c (hg c)) $$ [Hv H0 Hts] with ⟨Hr, Ha⟩
  · isplitl [Hv]; · iexact Hv
    isplitl [H0]; · iexact H0
    iexact Hts
  isplitl [Hp Hr]
  · isplitl [Hp]; · iexact Hp
    iexact Hr
  isplitl [Hw0 Hw1 Hw2 H5]
  · isplitr; · iempintro
    isplitl [Hw0]; · iexact Hw0
    isplitl [Hw1]; · iexact Hw1
    isplitl [Hw2]; · iexact Hw2
    iapply (whole_hd c cc0_scratch5) $$ H5
  isplitl [Ha]; · iexact Ha
  isplitl [H1 H3 H6]
  · isplitl [H1]; · iapply (whole_hd c cc0_scratch1) $$ H1
    isplitl [H3]; · iapply (whole_hd c cc0_scratch3) $$ H3
    iapply (whole_hd c cc0_scratch6) $$ H6
  isplitl [H2 H4 H7]
  · isplitl [H2]; · iapply (whole_hd c cc0_scratch2) $$ H2
    isplitl [H4]; · iapply (whole_hd c cc0_scratch4) $$ H4
    iapply (whole_hd c cc0_scratch7) $$ H7
  ihave ⟨Ha, Hb⟩ := (ob_split c) $$ H8
  isplitl [Ha Hs0]; · isplitl [Ha]; · iexact Ha
                      iexact Hs0
  isplitl [Hb Hs1]; · isplitl [Hb]; · iexact Hb
                      iexact Hs1
  isplitl [Ho]; · iapply (todo_split c) $$ Ho
  iapply (held_idle c m t0_0.castSucc) $$ Hi

variable {m} in
theorem leave (hg : ∀ c, (ops m c).Good) (t : Fin cfg0.N) : iprop(Rest c m ∗ Ops c (ops m c) mCodes (st0_0 t) (st0_1 t) (st0_2 t) (Memref.whole cc0_scratch5) mWords cc0_scratch9 48
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Done c (ops m c) mOut 48 ∗ Idle c) ⊢ bodyPost c m t := by
  obtain rfl := fin_N0 t
  unfold bodyPost
  rw [show (dats m 0 c).Φ t0_0.succ = Pipeline.ΦDRG osem0 spec0 H0 R0 (V m) (G m) c from rfl, phi_eq, G_out]
  simp only [after0, after1, after2, owns_hd]
  unfold Ops Free Slot Rest
  iintro ⟨⟨Hp, Hr⟩, ⟨Hl, Hw0, Hw1, Hw2, H5⟩, ⟨H1, H3, H6⟩, ⟨H2, H4, H7⟩, ⟨Ha, Hs0⟩, ⟨Hb, Hs1⟩, Ho, Hi⟩
  icases (tiles_out c (hg c)) $$ [Hr Hl] with ⟨Hv, H0, Hts⟩
  · isplitl [Hr]; · iexact Hr
    iexact Hl
  isplitl [Hp H0 H1 H2 H3 H4 H5 H6 H7 Ha Hb Hs0 Hs1 Hts Hv Ho]
  · isplitl [H0 H1 H2 H3 H4 H5 H6 H7 Ha Hb]
    · isplitl [H0]; · iexact H0
      isplitl [H1]; · iapply (hd_whole c cc0_scratch1 _) $$ H1
      isplitl [H2]; · iapply (hd_whole c cc0_scratch2 _) $$ H2
      isplitl [H3]; · iapply (hd_whole c cc0_scratch3 _) $$ H3
      isplitl [H4]; · iapply (hd_whole c cc0_scratch4 _) $$ H4
      isplitl [H5]; · iapply (hd_whole c cc0_scratch5 _) $$ H5
      isplitl [H6]; · iapply (hd_whole c cc0_scratch6 _) $$ H6
      isplitl [H7]; · iapply (hd_whole c cc0_scratch7 _) $$ H7
      iapply (ob_join c)
      isplitl [Ha]; · iexact Ha
      iexact Hb
    isplitl [Hp]; · iexact Hp
    isplitl [Hs0 Hs1 Hts]
    · isplitl [Hs0]; · iexact Hs0
      isplitl [Hs1]; · iexact Hs1
      iexact Hts
    isplitl [Hv]; · iexact Hv
    iapply (done_join c) $$ Ho
  isplitl [Hi]; · iapply (idle_held c m t0_0.succ) $$ Hi
  isplitl [Hw0]; · iexact Hw0
  isplitl [Hw1]; · iexact Hw1
  iexact Hw2

theorem wrap {p : Prog (TpuEff nD τ sig (Elt F) Λ₀ .tc) PUnit} {A B R X Y : sProp 𝕄} (e : X ⊢ iprop(R ∗ A)) (h : A ⊢ W c p (fun _ => B)) (l : iprop(R ∗ B) ⊢ Y) :
    X ⊢ W c p (fun _ => Y) := by
  refine e.trans (BIBase.Entails.trans ?_ (wp_mono _ _ _ fun _ => l))
  refine BIBase.Entails.trans ?_ (wp_frame_l _ _ _)
  iintro ⟨Hp, H⟩
  isplitl [Hp]; · iexact Hp
  iapply h $$ H

variable {m} in
theorem kernel_at (hg : ∀ c, (ops m c).Good) (t : Fin cfg0.N) :
    iprop(Ops c (ops m c) mCodes (st0_0 t) (st0_1 t) (st0_2 t) (Memref.whole cc0_scratch5) mWords cc0_scratch9 0 ∗ Ahead c (ops m c) mWords mCodes cc0_scratch9 0 0
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Todo c mOut 0 ∗ Idle c)
    ⊢ W c (bodyAt0 t) (fun _ => iprop(Ops c (ops m c) mCodes (st0_0 t) (st0_1 t) (st0_2 t) (Memref.whole cc0_scratch5) mWords cc0_scratch9 48
    ∗ Free c (Memref.whole cc0_scratch1) (Memref.whole cc0_scratch3) (Memref.whole cc0_scratch6)
    ∗ Free c (Memref.whole cc0_scratch2) (Memref.whole cc0_scratch4) (Memref.whole cc0_scratch7)
    ∗ Slot c mOb cc0_scratch10 0 ∗ Slot c mOb cc0_scratch10 1 ∗ Done c (ops m c) mOut 48 ∗ Idle c)) := by
  have h := wp_kernel c mWords (Memref.isWhole_whole _) (st0_0 t) (hstage0_0 0) (st0_1 t) (hstage0_1 0) (st0_2 t) (hstage0_2 0) mOut (Memref.isWhole_whole _) mCodes (Memref.isWhole_whole _)
    (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) mOb (Memref.isWhole_whole _) cc0_scratch9 cc0_scratch10 (hg c)
  set_option maxRecDepth 1000000 in exact h

variable {m} in
theorem sound_body (hg : ∀ c, (ops m c).Good) (t : Fin cfg0.N) :
    bodyPre c m t ⊢ wp frame (wpE (defs₀ (F := F)) Variants.none c none) Set.univ (bodyAt0 t) (fun _ => bodyPost c m t) :=
  wrap c (enter c hg t) (kernel_at c hg t) (leave c hg t)

theorem defs₀_row (t : Fin cfg0.N) : defs₀ (F := F) .tc cfg0.body (cfg0.bodyArgs t (cfg0.slots t)) = bodyAt0 t := by
  unfold defs₀; rw [Defs.onTc_tc]

variable {m} in
theorem body_obligation (hg : ∀ c, (ops m c).Good) : Pipeline.BodyObligation (dats (F := F) m 0 c) (defs₀ (F := F)) Variants.none () Set.univ := fun t => by
  rw [bigSep_W0, bigSep_W0, defs₀_row]
  exact triple_restated (sound_body c hg t) rfl .rfl fun _ => .rfl

variable {m} in
set_option backward.isDefEq.respectTransparency.types false in
theorem run_main (hg : ∀ c, (ops m c).Good) : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation c hg).loose) (hshare := fun c => (dats m 0 c).share_full fun _ => rfl)
    (howed := fun _ _ => rfl) (V := V m) (hmain := hmain' m) (hA := A_eq m) (G := G m)
    (hin := fun _ => .rfl) (hout := fun _ => .rfl)

variable {m} in
/-- The run: the result as stated, the arguments unchanged, every counter at zero. -/
theorem run (hg : ∀ c, (ops m c).Good) : θ_run defs (onTc (τ := τ) (main (F := F))) ⟨m, fun _ => 0, ρ⟩ (fun r => (∀ c : Dev nD,
      r.2.mem ((c.tc : Thread nD τ).loc main_v3) = (ops m c).res
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.2 c main_v3 (by decide)).trans (G_out c m),
      ((h.1.1 c).2 main_arg0 (Finset.mem_sdiff.mpr ⟨Pipeline.mem_restRefs_of main_arg0 (by decide) (by decide), by decide⟩)).trans (V_main_arg0 m c),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).1 2).trans (((dats m 0 c).arrAt_in 2 rfl _).trans ((A_eq m c 2).trans (V_main_arg3 m c)))⟩, h.2⟩) (run_main ρ hg)

end Cert.HandBits
-- ==== Proof.BitsGood.lean ====
/- The kernel's operands in terms of the program's arguments, and when its table is good. -/
module

public import proofs.«01_k».proof.Proof.BitsLaunch
public import proofs.«01_k».proof.Proof.Fit
public import Idealize.ShloMosaic.Lib.Pointwise.Index

@[expose] public section

noncomputable section

namespace Cert.HandBits

open Cert.Kernel Cert.Kernel.Gen
open Idealize.ShloMosaic Idealize.ShloMosaic.TcCoe Idealize.SL.Sem

variable {F : FTy → Type} [FloatOps F]

theorem tok_first (b : Fin 48) (j : Fin 32) (h) : (⟨(tok b j).val / 32 * 32, h⟩ : Fin 1536) = tok b 0 :=
  Fin.ext (by show (b.val * 32 + j.val) / 32 * 32 = b.val * 32 + 0; omega)

/-- A block's count, as the table has it. -/
theorem cnt_eq (d : In F) (b : Fin 48) (h) : (d.tab (ix2 3 (⟨b.val * 32, h⟩ : Fin 1536))).toNat = d.cnt b := by
  have e : (⟨b.val * 32, h⟩ : Fin 1536) = tok b 0 := Fin.ext (by show b.val * 32 = b.val * 32 + 0; omega)
  rw [e]
  rfl

theorem cnt_at (d : In F) (x : Fin 1536) (h) (h') : (d.tab (ix2 3 (⟨x.val / 32 * 32, h⟩ : Fin 1536))).toNat = d.cnt ⟨x.val / 32, h'⟩ :=
  cnt_eq d ⟨x.val / 32, h'⟩ h

section Table
variable {d : In F} (h : Fit.Table d.tab)
include h

theorem good_quad (b : Fin 48) (c : Fin 64) : (d.quad b c).toNat < 2272 := h.quad b c
theorem good_cnt (b : Fin 48) : d.cnt b ≤ 32 := by
  rw [← cnt_eq d b (by omega)]
  exact h.cnt b
theorem good_tile (b : Fin 48) (j : Fin 32) (hj : j.val < d.cnt b) : (d.word b 2 j).toNat < 284 := by
  rw [← cnt_eq d b (by omega)] at hj
  exact h.tile b j hj
theorem good_once (b b' : Fin 48) (j j' : Fin 32) (hj : j.val < d.cnt b) (hj' : j'.val < d.cnt b') (e : d.word b 2 j = d.word b' 2 j') : b = b' ∧ j = j' := by
  have a : (tok b j).val % 32 < (d.tab (ix2 3 (⟨(tok b j).val / 32 * 32, by have := (tok b j).isLt; omega⟩ : Fin 1536))).toNat := by
    rw [tok_first]
    have e1 : (tok b j).val % 32 = j.val := by show (b.val * 32 + j.val) % 32 = j.val; omega
    rw [e1]
    exact hj
  have a' : (tok b' j').val % 32 < (d.tab (ix2 3 (⟨(tok b' j').val / 32 * 32, by have := (tok b' j').isLt; omega⟩ : Fin 1536))).toNat := by
    rw [tok_first]
    have e1 : (tok b' j').val % 32 = j'.val := by show (b'.val * 32 + j'.val) % 32 = j'.val; omega
    rw [e1]
    exact hj'
  have e' : b.val * 32 + j.val = b'.val * 32 + j'.val := congrArg Fin.val (h.once (tok b j) (tok b' j') a a' e)
  exact ⟨Fin.ext (by omega), Fin.ext (by omega)⟩
theorem good_held (b : Fin 48) (c : Fin 64) : ∃ (b' : Fin 48) (j : Fin 32), b' ≤ b ∧ j.val < d.cnt b' ∧ (d.quad b c).toNat / 8 = (d.word b' 2 j).toNat := by
  obtain ⟨x, hx, hu, e⟩ := h.held b c
  rw [cnt_at d x _ (by omega)] at hu
  refine ⟨⟨x.val / 32, by omega⟩, ⟨x.val % 32, by omega⟩, Fin.le_def.mpr (by show x.val / 32 ≤ b.val; omega), hu, ?_⟩
  have ex : tok ⟨x.val / 32, by omega⟩ ⟨x.val % 32, by omega⟩ = x := Fin.ext (by show x.val / 32 * 32 + x.val % 32 = x.val; omega)
  unfold In.word
  rw [ex]
  exact e

/-- A table that is as the precondition says is good. -/
theorem good_of : d.Good where
  quad := good_quad h
  row b k t := h.row k _
  cnt := good_cnt h
  tile := good_tile h
  once := good_once h
  held := good_held h

end Table

section Ops

variable (m : (ℓ : Loc nD τ sig) → Buf (Elt F) ℓ) (c : Dev nD)

/-- The kernel's table is the last argument. -/
theorem ops_tab : (ops m c).tab = m ((c.tc : Thread nD τ).loc main_arg3) := by
  show iblk m c 2 t0_0 = _
  unfold iblk
  rw [show V m c (Pipeline.arrRef spec0 2) = V m c main_arg3 from rfl, V_main_arg3]
  funext y
  refine congrArg (m ((c.tc : Thread nD τ).loc main_arg3)) (funext fun a => ?_)
  fin_cases a <;> exact Fin.ext ((Nat.zero_add _).trans (Nat.one_mul _))
theorem ops_pw : (ops m c).pw = m ((c.tc : Thread nD τ).loc main_arg2) := by
  show iblk m c 1 t0_0 = _
  unfold iblk
  rw [show V m c (Pipeline.arrRef spec0 1) = V m c main_arg2 from rfl, V_main_arg2]
  funext y
  refine congrArg (m ((c.tc : Thread nD τ).loc main_arg2)) (funext fun a => ?_)
  fin_cases a <;> exact Fin.ext ((Nat.zero_add _).trans (Nat.one_mul _))
theorem ops_srm : (ops m c).srm = m ((c.tc : Thread nD τ).loc main_arg1) := by
  show iblk m c 0 t0_0 = _
  unfold iblk
  rw [show V m c (Pipeline.arrRef spec0 0) = V m c main_arg1 from rfl, V_main_arg1]
  funext y
  refine congrArg (m ((c.tc : Thread nD τ).loc main_arg1)) (funext fun a => ?_)
  fin_cases a <;> exact Fin.ext ((Nat.zero_add _).trans (Nat.one_mul _))

end Ops

end Cert.HandBits
-- ==== Proof.Number.lean ====
/- Small whole numbers as extended reals, and the result that both programs compute. -/
module

public import Idealize.ShloMosaic.Lib.Pointwise

@[expose] public section

noncomputable section

namespace Cert.Number

open Idealize.ShloMosaic Idealize.SL.Sem

/-- A lane number read as a float is the number. -/
theorem lane_f32 (n : Fin 256) : FloatOps.sitofp (F := Ideal) .f32 (BitVec.ofNat 32 n.val) = ((n.val : ℝ) : EReal) := by
  show (((BitVec.ofNat 32 n.val).toInt : ℝ) : EReal) = _
  have h : (BitVec.ofNat 32 n.val).toInt = (n.val : Int) := by
    have := n.isLt
    rw [BitVec.toInt_eq_toNat_cond, BitVec.toNat_ofNat, Nat.mod_eq_of_lt (by omega), if_pos (by omega)]
  rw [h, Int.cast_natCast]

/-- Lane numbers that are equal as floats are equal. -/
theorem lane_inj {n k : Fin 256} (h : ((n.val : ℝ) : EReal) = ((k.val : ℝ) : EReal)) : n = k :=
  Fin.ext (Nat.cast_injective (EReal.coe_injective h))

section

variable (a0 : IVec ⟨2, ![9088, 3584]⟩ 8) (a1 : FVec Ideal ⟨2, ![9088, 128]⟩ .f32) (a2 : FVec Ideal ⟨2, ![1536, 128]⟩ .f32) (a3 : IVec ⟨2, ![8, 1536]⟩ 32)

/-- The row in slot `k` of token `t`. -/
def row (t : Fin 1536) (k : Fin 4) : Fin 9088 := Fin.ofNat 9088 (a3 (ix2 ⟨4 + k.val, by omega⟩ t)).toNat
/-- The value in that row, column `y`. -/
def value (t : Fin 1536) (k : Fin 4) (y : Fin 3584) : EReal := FloatOps.ofBits (F := Ideal) .fp8e4m3 (a0 (ix2 (row a3 t k) y))
/-- The row's scale of column group `g` times the slot's weight. -/
def coef (t : Fin 1536) (k : Fin 4) (g : Fin 28) : EReal := a1 (ix2 (row a3 t k) ⟨g.val, by omega⟩) * a2 (ix2 t ⟨4 + k.val, by omega⟩)
/-- Token `t`'s result in column `y`: its four slots' values times their coefficients, summed. -/
def total (t : Fin 1536) (y : Fin 3584) : EReal := ∑ k : Fin 4, value a0 a3 t k y * coef a1 a2 a3 t k ⟨y.val / 128, by omega⟩

end

end Cert.Number
-- ==== Proof.Placed.lean ====
/- The precondition of the value claim, read element by element. -/
module

public import proofs.«01_k».proof.Proof.Fit
public import proofs.«01_k».proof.Proof.Gen.Pre_rows_placed
public import Idealize.ShloMosaic.Lib.Pointwise
public import Idealize.ShloMosaic.Lib.WordArith
public import Idealize.ShloMosaic.Lib.Routing.OpsOrder
public import proofs.«01_k».proof.Proof.Number

@[expose] public section

noncomputable section

namespace Cert.Placed

open Idealize.ShloMosaic Idealize.SL.Sem

variable {F : FTy → Type} [FloatOps F]

open Cert.Pre_rows_placed Cert.Fit

variable (a0 : IVec S9088x3584 8) (a1 : FVec F S9088x128 .f32) (a2 : FVec F S1536x128 .f32) (a3 : IVec S8x1536 32)

/-- Its first six parts are those on the table. -/
theorem placed_table (h1 : (Pre_rows_placed.fn (F := F) a0 a1 a2 a3).1 = fun _ => 1#1) (h2 : (Pre_rows_placed.fn (F := F) a0 a1 a2 a3).2.1 = fun _ => 1#1) (h3 : (Pre_rows_placed.fn (F := F) a0 a1 a2 a3).2.2.1 = fun _ => 1#1) (h4 : (Pre_rows_placed.fn (F := F) a0 a1 a2 a3).2.2.2.1 = fun _ => 1#1) (h5 : (Pre_rows_placed.fn (F := F) a0 a1 a2 a3).2.2.2.2.1 = fun _ => 1#1) (h6 : (Pre_rows_placed.fn (F := F) a0 a1 a2 a3).2.2.2.2.2.1 = fun _ => 1#1) : Table a3 := by
  refine table_of (fun b s => ?_) (fun k t => ?_) (fun b => ?_) (fun b j => ?_) (fun x y => ?_) (fun b s => ?_)
  · have := congrFun h1 (ix2 b s)
    dsimp only [Pre_rows_placed.fn, Pre_rows_placed.fn_part1, Pre_rows_placed.fn_part2, Pre_rows_placed.fn_part3, Pre_rows_placed.fn_part4, Pre_rows_placed.fn_part5] at this
    pointwise at this
    exact this
  · have := congrFun h2 (ix2 k t)
    dsimp only [Pre_rows_placed.fn, Pre_rows_placed.fn_part1, Pre_rows_placed.fn_part2, Pre_rows_placed.fn_part3, Pre_rows_placed.fn_part4, Pre_rows_placed.fn_part5] at this
    pointwise at this
    exact this
  · have := congrFun h3 (ix2 b 0)
    dsimp only [Pre_rows_placed.fn, Pre_rows_placed.fn_part1, Pre_rows_placed.fn_part2, Pre_rows_placed.fn_part3, Pre_rows_placed.fn_part4, Pre_rows_placed.fn_part5] at this
    pointwise at this
    exact this
  · have := congrFun h4 (ix2 b j)
    dsimp only [Pre_rows_placed.fn, Pre_rows_placed.fn_part1, Pre_rows_placed.fn_part2, Pre_rows_placed.fn_part3, Pre_rows_placed.fn_part4, Pre_rows_placed.fn_part5] at this
    pointwise at this
    exact this
  · have := congrFun h5 (ix2 x y)
    dsimp only [Pre_rows_placed.fn, Pre_rows_placed.fn_part1, Pre_rows_placed.fn_part2, Pre_rows_placed.fn_part3, Pre_rows_placed.fn_part4, Pre_rows_placed.fn_part5] at this
    pointwise at this
    exact this
  · have := congrFun h6 (ix2 b s)
    dsimp only [Pre_rows_placed.fn, Pre_rows_placed.fn_part1, Pre_rows_placed.fn_part2, Pre_rows_placed.fn_part3, Pre_rows_placed.fn_part4, Pre_rows_placed.fn_part5] at this
    pointwise at this
    exact this

end Cert.Placed

namespace Cert.Placed

open Idealize.ShloMosaic Idealize.SL.Sem
open Cert.Pre_rows_placed Cert.Fit

variable (a0 : IVec S9088x3584 8) (a1 : FVec Ideal S9088x128 .f32) (a2 : FVec Ideal S1536x128 .f32) (a3 : IVec S8x1536 32)

/-- Where some lane of a token's holds: the lane's quad and position make up the row `y`, and the lane is the number `w`. -/
theorem lane_of {f : Fin 256 → BitVec 32} {y : BitVec 32} {w : Ideal .f32} [∀ q : Fin 256, Decidable (w = FloatOps.sitofp (F := Ideal) .f32 (BitVec.ofNat 32 q.val))]
    (h : Finset.fold IntOp.ori (0#1) (fun q : Fin 256 => IntOp.andi (IntOp.cmpi .eq (IntOp.addi (IntOp.muli (f q) 4#32) (BitVec.ofNat 32 (q.val % 4))) y)
      (BitVec.ofBool (decide (w = FloatOps.sitofp (F := Ideal) .f32 (BitVec.ofNat 32 q.val))))) Finset.univ = 1#1) (hf : ∀ q, (f q).toNat < 2272) :
    ∃ q : Fin 256, 4 * (f q).toNat + q.val % 4 = y.toNat ∧ w = ((q.val : ℝ) : EReal) := by
  obtain ⟨q, -, hq⟩ := (Routing.fold_ori _ _).1 h
  refine ⟨q, ?_⟩
  simp only [IntOp.cmpi, IntOp.addi, IntOp.muli, WordArith.andi_ofBool, WordArith.ofBool_eq_one_iff, Bool.and_eq_true, decide_eq_true_eq, beq_iff_eq] at hq
  have h1 := hf q
  refine ⟨?_, hq.2.trans (Number.lane_f32 q)⟩
  rw [← hq.1, BitVec.toNat_add, BitVec.toNat_mul, BitVec.toNat_ofNat, BitVec.toNat_ofNat]
  omega

/-- The lane that slot `k` of a token names holds the slot's row. -/
theorem placed_lane (ht : Table a3) (h : (Pre_rows_placed.fn (F := Ideal) a0 a1 a2 a3).2.2.2.2.2.2 = fun _ => 1#1) (t : Fin 1536) (k : Fin 4) :
    ∃ q : Fin 256, 4 * (a3 (ix2 ⟨q.val / 4 / 32, by omega⟩ ⟨t.val / 32 * 32 + q.val / 4 % 32, by omega⟩)).toNat + q.val % 4 = (a3 (ix2 ⟨4 + k.val, by omega⟩ t)).toNat
      ∧ a2 (ix2 t ⟨k.val, by omega⟩) = ((q.val : ℝ) : EReal) := by
  have := congrFun h (ix2 t k)
  dsimp only [Pre_rows_placed.fn, Pre_rows_placed.fn_part1, Pre_rows_placed.fn_part2, Pre_rows_placed.fn_part3, Pre_rows_placed.fn_part4, Pre_rows_placed.fn_part5] at this
  pointwise at this
  exact lane_of (f := fun q => a3 (ix2 ⟨q.val / 4 / 32, by omega⟩ ⟨t.val / 32 * 32 + q.val / 4 % 32, by omega⟩)) this
    fun q => ht.quad ⟨t.val / 32, by omega⟩ ⟨q.val / 4, by omega⟩

end Cert.Placed
-- ==== Proof.RefValue.lean ====
/- The reference's result over the extended reals, element by element. -/
module

public import proofs.«01_k».proof.Proof.Gen.ReferenceIdeal.Value
public import Idealize.ShloMosaic.Lib.Pointwise
public import Idealize.ShloMosaic.Lib.StableHlo.ReadAt
public import Idealize.ShloMosaic.Lib.Routing.Ops
public import proofs.«01_k».proof.Proof.Number

@[expose] public section

noncomputable section

namespace Cert.Ref

open Cert.ReferenceIdeal Cert.ReferenceIdeal.Gen Cert.ReferenceIdeal.Value
open Idealize.ShloMosaic Idealize.ShloMosaic.TcCoe Idealize.SL.Sem

/-- The weighted sum of four rows. -/
theorem pay1_apply (x0 : Vec Ideal S6144x3584 .fp8e4m3) (x1 : Vec Ideal S1536x4x28x1 .f32) (t : Fin 1536) (y : Fin 3584) :
    k0_pay1 x0 x1 (ix2 t y) = ∑ k : Fin 4, x0 (ix2 ⟨t.val * 4 + k.val, by omega⟩ y) * x1 (ix4 t k ⟨y.val / 128, by omega⟩ 0) := by
  pointwise [k0_pay1]

theorem r0_0_idx (y : S6144x3584.Idx) : r0_0.idx y = y := by
  funext a
  fin_cases a <;> exact Fin.ext ((Nat.zero_add _).trans (Nat.one_mul _))

theorem r0_1_idx (y : S1536x4x28x1.Idx) : r0_1.idx y = y := by
  funext a
  fin_cases a <;> exact Fin.ext ((Nat.zero_add _).trans (Nat.one_mul _))

theorem r0_2_idx (y : S1536x3584.Idx) : r0_2.idx y = y := by
  funext a
  fin_cases a <;> exact Fin.ext ((Nat.zero_add _).trans (Nat.one_mul _))

/-- What the body stores, whole. -/
theorem out_apply {F : FTy → Type} [FloatOps F] (x0 : Vec F S6144x3584 .fp8e4m3) (x1 : Vec F S1536x4x28x1 .f32) (y : S1536x3584.Idx) : out0_2 x0 x1 y = k0_pay1 x0 x1 y := by
  unfold out0_2
  rw [show View.ld x0 r0_0 = x0 from funext fun i => congrArg x0 (r0_0_idx i), show View.ld x1 r0_1 = x1 from funext fun i => congrArg x1 (r0_1_idx i),
    canon2_eq, piece2_0, r0_2_idx]

/-- The coefficients from the taken scales and the weights. -/
def coefs (w : FVec Ideal S6144x28 .f32) (p : FVec Ideal S1536x128 .f32) : FVec Ideal S1536x4x28x1 .f32 :=
  broadcastInDim S1536x4x28x1 ![0, 1, 2] bcast_S1536x4x28_S1536x4x28x1_0_1_2
    (mulf (F := Ideal) (φ := .f32) (shapeCast S1536x4x28 w shapeCasts_S6144x28_S1536x4x28)
      (broadcastInDim S1536x4x28 ![0, 1, 2] bcast_S1536x4x1_S1536x4x28_0_1_2 (shapeCast S1536x4x1
        (extractStridedSlice S1536x4 ![0, 4] p slices_S1536x128_S1536x4_0_4) shapeCasts_S1536x4_S1536x4x1)))

theorem coefs_apply (w : FVec Ideal S6144x28 .f32) (p : FVec Ideal S1536x128 .f32) (t : Fin 1536) (k : Fin 4) (g : Fin 28) :
    coefs w p (ix4 t k g 0) = w (ix2 ⟨t.val * 4 + k.val, by omega⟩ g) * p (ix2 t ⟨4 + k.val, by omega⟩) := by
  pointwise [coefs]

section

variable (m : (ℓ : Loc nD τ sig) → Buf (Elt Ideal) ℓ) (c : Dev nD)

theorem iblk_0 : iblk m c 0 t0_0 = V m c main_v4 := by
  unfold iblk
  rw [show V m c (Pipeline.arrRef spec0 0) = V m c main_v4 from rfl]
  funext y
  refine congrArg (V m c main_v4) (funext fun a => ?_)
  fin_cases a <;> exact Fin.ext ((Nat.zero_add _).trans (Nat.one_mul _))

theorem iblk_1 : iblk m c 1 t0_0 = V m c main_v12 := by
  unfold iblk
  rw [show V m c (Pipeline.arrRef spec0 1) = V m c main_v12 from rfl]
  funext y
  refine congrArg (V m c main_v12) (funext fun a => ?_)
  fin_cases a <;> exact Fin.ext ((Nat.zero_add _).trans (Nat.one_mul _))

/-- The whole result is one block, written once. -/
theorem arr_apply (y : S1536x3584.Idx) : (dats m 0 c).arrAt 2 cfg0.N y = k0_pay1 (F := Ideal) (V m c main_v4) (V m c main_v12) y := by
  have h := congrFun (blocks2 m c t0_0 (flush0_2 t0_0)) y
  rw [flushed2, iblk_0, iblk_1] at h
  refine (Eq.trans ?_ h).trans ?_
  · refine congrArg ((dats m 0 c).arrAt 2 cfg0.N) (funext fun a => ?_)
    fin_cases a <;> exact Fin.ext ((Nat.zero_add _).trans (Nat.one_mul _)).symm
  · refine Eq.trans ?_ (out_apply (F := Ideal) (V m c main_v4) (V m c main_v12) y)
    rfl

/-- The row numbers, slot by slot. -/
theorem v2_apply (t : Fin 1536) (k : Fin 4) : V m c main_v2 (ix1 ⟨t.val * 4 + k.val, by omega⟩)
    = m ((c.tc : Thread nD τ).loc main_arg3) (ix2 ⟨4 + k.val, by omega⟩ t) := by
  unfold V
  after_reads_at

/-- The values' rows are taken. -/
theorem v4_eq : (V m c main_v4 : FVec Ideal S6144x3584 .fp8e4m3) = Host.gather gather_S9088x3584_S6144x1_S6144x3584_1_0_n_n_0_1_13584
    (bitcastToFloat (F := Ideal) .fp8e4m3 (m ((c.tc : Thread nD τ).loc main_arg0))) (broadcastInDim S6144x1 ![0] bcast_S6144_S6144x1_0 (V m c main_v2)) := by
  unfold V
  after_reads_simp
  simp only [StableHlo.TRef.toBuf, StableHlo.TRef.ofBuf, cast_cast, cast_eq]

/-- The scales' rows are taken. -/
theorem v6_eq : (V m c main_v6 : FVec Ideal S6144x28 .f32) = Host.gather gather_S9088x28_S6144x1_S6144x28_1_0_n_n_0_1_128
    (extractStridedSlice S9088x28 ![0, 0] (m ((c.tc : Thread nD τ).loc main_arg1)) slices_S9088x128_S9088x28_0_0) (broadcastInDim S6144x1 ![0] bcast_S6144_S6144x1_0 (V m c main_v2)) := by
  unfold V
  after_reads_simp
  simp only [StableHlo.TRef.toBuf, StableHlo.TRef.ofBuf, cast_cast, cast_eq]

/-- The coefficients are the taken scales times the weights. -/
theorem v12_eq : V m c main_v12 = coefs (V m c main_v6) (m ((c.tc : Thread nD τ).loc main_arg2)) := by
  unfold V coefs
  after_reads_simp
  try simp only [StableHlo.TRef.toBuf, StableHlo.TRef.ofBuf, cast_cast, cast_eq]
  rfl

variable (hr : ∀ (k : Fin 4) (t : Fin 1536), (m ((c.tc : Thread nD τ).loc main_arg3) (ix2 ⟨4 + k.val, by omega⟩ t) : BitVec 32).toNat < 9088)
include hr

/-- The start indices name the slots' rows. -/
theorem start_apply (t : Fin 1536) (k : Fin 4) : (broadcastInDim S6144x1 ![0] bcast_S6144_S6144x1_0 (V m c main_v2 : IVec S6144 32)) (ix2 ⟨t.val * 4 + k.val, by omega⟩ (0 : Fin 1))
    = BitVec.ofNat 32 (Number.row (m ((c.tc : Thread nD τ).loc main_arg3)) t k).val := by
  have e1 : ∀ w : IVec S6144 32, (broadcastInDim S6144x1 ![0] bcast_S6144_S6144x1_0 w) (ix2 ⟨t.val * 4 + k.val, by omega⟩ (0 : Fin 1)) = w (ix1 ⟨t.val * 4 + k.val, by omega⟩) := fun w => by pointwise
  refine (e1 _).trans ((v2_apply m c t k).trans ?_)
  have e2 : ∀ x : BitVec 32, x.toNat < 9088 → x = BitVec.ofNat 32 (x.toNat % 9088) := fun x h => by
    rw [Nat.mod_eq_of_lt h, BitVec.ofNat_toNat, BitVec.setWidth_eq]
  exact e2 _ (hr k t)

/-- The taken values. -/
theorem v4_apply (t : Fin 1536) (k : Fin 4) (y : Fin 3584) : (V m c main_v4 : Vec Ideal S6144x3584 .fp8e4m3) (ix2 ⟨t.val * 4 + k.val, by omega⟩ y)
    = Number.value (m ((c.tc : Thread nD τ).loc main_arg0)) (m ((c.tc : Thread nD τ).loc main_arg3)) t k y := by
  rw [v4_eq]
  exact Routing.gather_row gather_S9088x3584_S6144x1_S6144x3584_1_0_n_n_0_1_13584 rfl rfl rfl rfl rfl _ _ _ _ _ (start_apply m c hr t k) (by decide)

/-- The coefficients. -/
theorem v12_apply (t : Fin 1536) (k : Fin 4) (g : Fin 28) : (V m c main_v12 : Vec Ideal S1536x4x28x1 .f32) (ix4 t k g 0)
    = Number.coef (m ((c.tc : Thread nD τ).loc main_arg1)) (m ((c.tc : Thread nD τ).loc main_arg2)) (m ((c.tc : Thread nD τ).loc main_arg3)) t k g := by
  rw [v12_eq]
  refine (coefs_apply _ _ t k g).trans ?_
  unfold Number.coef
  refine congrArg₂ (fun a b : EReal => a * b) ?_ rfl
  rw [v6_eq]
  refine (Routing.gather_row gather_S9088x28_S6144x1_S6144x28_1_0_n_n_0_1_128 rfl rfl rfl rfl rfl _ _ _ _ _ (start_apply m c hr t k) (by decide)).trans ?_
  pointwise

/-- The reference's result. -/
theorem res_apply (t : Fin 1536) (y : Fin 3584) : (dats m 0 c).arrAt 2 cfg0.N (ix2 t y)
    = Number.total (m ((c.tc : Thread nD τ).loc main_arg0)) (m ((c.tc : Thread nD τ).loc main_arg1)) (m ((c.tc : Thread nD τ).loc main_arg2)) (m ((c.tc : Thread nD τ).loc main_arg3)) t y := by
  refine (arr_apply m c _).trans ((pay1_apply _ _ t y).trans ?_)
  unfold Number.total
  exact Finset.sum_congr rfl fun k _ => congrArg₂ (fun a b : EReal => a * b) (v4_apply m c hr t k y) (v12_apply m c hr t k _)

end

end Cert.Ref
-- ==== Proof.Block.lean ====
/- A block's result over the extended reals, element by element: the four picked values times their coefficients, summed. -/
module

public import proofs.«01_k».proof.Proof.Data
public import Idealize.ShloMosaic.Lib.Pointwise
public import proofs.«01_k».proof.Proof.Number

@[expose] public section

noncomputable section

namespace Cert.Hand

open Cert.KernelIdeal Cert.KernelIdeal.Gen
open Idealize.ShloMosaic Idealize.SL.Sem

/-- One slot's part of a block's result in a column of group `g`: the row of values `pv` picks, times the slot's coefficient. -/
def term (pv : Vec Ideal S128x256 .fp8e4m3) (cfv : Vec Ideal S128x128 .f32) (x : Vec Ideal S64x128 .i32) (g : Fin 28) (l : Fin 128) (r : Fin 128) : EReal :=
  (∑ q : Fin 256, pv (ix2 r q) * rowsOf x (ix2 q l)) * cfv (ix2 r ⟨g.val, by omega⟩)

/-- One column group of a block's result, first of a pair. -/
theorem sum4_fst (pv : Vec Ideal S128x256 .fp8e4m3) (cfv : Vec Ideal S128x128 .f32) (x y : Vec Ideal S64x128 .i32) (g : Fin 28) (t : Fin 32) (l : Fin 128) :
    sum4 (picked pv x y) cfv 0 g (ix2 t l) = ∑ k : Fin 4, term pv cfv x g l ⟨32 * k.val + t.val, by omega⟩ := by
  pointwise [sum4, picked, prod]
  rw [Fin.sum_univ_four, show (⟨32 * (0 : Fin 4).val + t.val, by omega⟩ : Fin 128) = ⟨t.val, by omega⟩ from Fin.ext (Nat.zero_add _)]
  rfl

/-- One column group of a block's result, second of a pair. -/
theorem sum4_snd (pv : Vec Ideal S128x256 .fp8e4m3) (cfv : Vec Ideal S128x128 .f32) (x y : Vec Ideal S64x128 .i32) (g : Fin 28) (t : Fin 32) (l : Fin 128) :
    sum4 (picked pv x y) cfv 1 g (ix2 t l) = ∑ k : Fin 4, term pv cfv y g l ⟨32 * k.val + t.val, by omega⟩ := by
  pointwise [sum4, picked, prod]
  rw [Fin.sum_univ_four, show (⟨32 * (0 : Fin 4).val + t.val, by omega⟩ : Fin 128) = ⟨t.val, by omega⟩ from Fin.ext (Nat.zero_add _)]
  rfl

/-- A pair of column groups side by side. -/
theorem combined_apply (pv : Vec Ideal S128x256 .fp8e4m3) (cfv : Vec Ideal S128x128 .f32) (j : Fin 14) (x y : Vec Ideal S64x128 .i32) (t : Fin 32) (l : Fin 256) :
    combined pv cfv j x y (ix3 0 t l) = if h : l.val < 128 then sum4 (picked pv x y) cfv 0 ⟨2 * j.val, by omega⟩ (ix2 t ⟨l.val, h⟩)
      else sum4 (picked pv x y) cfv 1 ⟨2 * j.val + 1, by omega⟩ (ix2 t ⟨l.val - 128, by omega⟩) := by
  pointwise [combined]

/-- A one-hot row: one in the lane that the token names, zero elsewhere. -/
theorem oneHot_apply (k : Fin 4) (pwb : Vec Ideal S32x128 .f32) (t : Fin 32) (l : Fin 256) :
    oneHot k pwb k0_pay70 (ix2 t l) = if pwb (ix2 t ⟨k.val, by omega⟩) = ((l.val : ℝ) : EReal) then (1 : EReal) else 0 := by
  pointwise [oneHot, k0_pay70]
  rw [Number.lane_f32]

/-- A coefficient: the scale times the weight. -/
theorem coefs_apply (k : Fin 4) (pwb s : Vec Ideal S32x128 .f32) (t : Fin 32) (l : Fin 128) :
    coefs k pwb s (ix2 t l) = s (ix2 t l) * pwb (ix2 t ⟨4 + k.val, by omega⟩) := by
  pointwise [coefs]

end Cert.Hand
-- ==== Proof.Bytes.lean ====
/- The bytes of the kernel's code words: each word holds four rows' bytes of a column, and reading the words as rows of bytes gives those rows back. -/
module

public import proofs.«01_k».proof.Proof.Good
public import Idealize.ShloMosaic.Lib.Pointwise
public import Idealize.ShloMosaic.Lib.StableHlo.ReadAt
public import Idealize.ShloMosaic.Lib.BitcastConvert

@[expose] public section

noncomputable section

namespace Cert.Hand

open Cert.KernelIdeal Cert.KernelIdeal.Gen
open Idealize.ShloMosaic Idealize.ShloMosaic.TcCoe Idealize.SL.Sem

variable {F : FTy → Type} [FloatOps F]

/-- Words read as bytes along the rows: row `q` is byte `q % 4` of row `q / 4`. -/
theorem bytes_getLsbD (x : IVec S64x128 32) (q : Fin 256) (l : Fin 128) (i : Nat) (hi : i < 8) :
    (bitcast S256x128 8 x bitcasts_S64x128_w32_S256x128_w8 (ix2 q l)).getLsbD i
      = (x (ix2 ⟨q.val / 4, by omega⟩ l)).getLsbD (q.val % 4 * 8 + i) := by
  have hrow : S256x128.row (ix2 q l) = q.val := by simp [Shape.row, Shape.rowAx]
  rw [bitcast_getLsbD x _ _ i hi (by decide)]
  have e1 : (S256x128.row (ix2 q l) * 8 + i) / 32 = q.val / 4 := by rw [hrow]; omega
  have e2 : (S256x128.row (ix2 q l) * 8 + i) % 32 = q.val % 4 * 8 + i := by rw [hrow]; omega
  rw [Shape.Bitcasts.srcIdx_congr _ _ e1 _ (fun a ha => by
    have : a = 0 := Fin.ext (by have := a.isLt; change a.val + 2 = 2 at ha; show a.val = 0; omega)
    subst this; show q.val / 4 < 64; omega), e2]
  congr 2
  funext c
  match c with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

/-- A row of values of the words is the row's bytes, read as floats. -/
theorem rowsOf_apply (x : Vec F S64x128 .i32) (q : Fin 256) (l : Fin 128) (v : BitVec 8)
    (hv : ∀ i, i < 8 → (x (ix2 ⟨q.val / 4, by omega⟩ l) : BitVec 32).getLsbD (q.val % 4 * 8 + i) = v.getLsbD i) :
    rowsOf x (ix2 q l) = FloatOps.ofBits .fp8e4m3 v := by
  show FloatOps.ofBits .fp8e4m3 (bitcast S256x128 8 x bitcasts_S64x128_w32_S256x128_w8 (ix2 q l)) = _
  refine congrArg _ (BitVec.eq_of_getLsbD_eq fun i hi => ?_)
  exact (bytes_getLsbD x q l i hi).trans (hv i hi)

section Ops

variable (m : (ℓ : Loc nD τ sig) → Buf (Elt F) ℓ) (c : Dev nD)

/-- The kernel's code words are what the host's operations leave. -/
theorem ops_codes : (ops m c).codes = V m c main_v2 := rfl

/-- Byte `j` of word `(n, g, l)` is the byte in row `4 n + j`, column `128 g + l`. -/
theorem codes_getLsbD (n : Fin 2272) (g : Fin 28) (l : Fin 128) (j : Fin 4) (i : Nat) (hi : i < 8) :
    ((ops m c).codes (ix3 n g l) : BitVec 32).getLsbD (j.val * 8 + i)
      = (m ((c.tc : Thread nD τ).loc main_arg0) (ix2 ⟨n.val * 4 + j.val, by omega⟩ ⟨g.val * 128 + l.val, by omega⟩) : BitVec 8).getLsbD i := by
  rw [ops_codes]
  unfold V
  after_reads_simp
  have e : splits_S2272x28x128_w32_S2272x28x128x4_w8.snoc (ix3 n g l) ⟨(j.val * 8 + i) / 8, splits_S2272x28x128_w32_S2272x28x128x4_w8.div_lt (by omega)⟩ = ix4 n g l j := by
    funext a
    match a with
    | ⟨0, _⟩ => exact Fin.ext (Shape.SplitsWords.snoc_apply_val_of_lt _ _ _ ⟨0, by decide⟩ (by decide))
    | ⟨1, _⟩ => exact Fin.ext (Shape.SplitsWords.snoc_apply_val_of_lt _ _ _ ⟨1, by decide⟩ (by decide))
    | ⟨2, _⟩ => exact Fin.ext (Shape.SplitsWords.snoc_apply_val_of_lt _ _ _ ⟨2, by decide⟩ (by decide))
    | ⟨3, _⟩ => exact (Shape.SplitsWords.snoc_axis _ _ _).trans (Fin.ext (by show (j.val * 8 + i) / 8 = j.val; omega))
  rw [Host.bitcastConvertWiden_getLsbD _ _ _ _ _ _ (by omega), e, show (j.val * 8 + i) % 8 = i by omega]
  clean_types
  pointwise

end Ops

end Cert.Hand
-- ==== Proof.Value.lean ====
/- The kernel's result over the extended reals, element by element. -/
module

public import proofs.«01_k».proof.Proof.Block
public import proofs.«01_k».proof.Proof.Bytes

@[expose] public section

noncomputable section

namespace Cert.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

theorem pV_apply (d : In Ideal) (b : Fin 48) (k : Fin 4) (t : Fin 32) (q : Fin 256) : d.pV b (ix2 ⟨32 * k.val + t.val, by omega⟩ q) = d.p b k t q := by
  show d.p b ⟨(32 * k.val + t.val) / 32, _⟩ ⟨(32 * k.val + t.val) % 32, _⟩ q = _
  rw [show (⟨(32 * k.val + t.val) / 32, by omega⟩ : Fin 4) = k from Fin.ext (by show (32 * k.val + t.val) / 32 = k.val; omega),
    show (⟨(32 * k.val + t.val) % 32, by omega⟩ : Fin 32) = t from Fin.ext (by show (32 * k.val + t.val) % 32 = t.val; omega)]

theorem cfV_apply (d : In Ideal) (b : Fin 48) (k : Fin 4) (t : Fin 32) (l : Fin 128) : d.cfV b (ix2 ⟨32 * k.val + t.val, by omega⟩ l) = d.cf b k t l := by
  show d.cf b ⟨(32 * k.val + t.val) / 32, _⟩ ⟨(32 * k.val + t.val) % 32, _⟩ l = _
  rw [show (⟨(32 * k.val + t.val) / 32, by omega⟩ : Fin 4) = k from Fin.ext (by show (32 * k.val + t.val) / 32 = k.val; omega),
    show (⟨(32 * k.val + t.val) % 32, by omega⟩ : Fin 32) = t from Fin.ext (by show (32 * k.val + t.val) % 32 = t.val; omega)]

/-- Every token's slot names a lane that holds the slot's row. -/
def Lanes (d : In Ideal) : Prop := ∀ (b : Fin 48) (t : Fin 32) (k : Fin 4), ∃ q : Fin 256,
  4 * (d.quad b ⟨q.val / 4, by omega⟩).toNat + q.val % 4 = (d.row b k t).toNat ∧ d.pw (ix2 (tok b t) ⟨k.val, by omega⟩) = ((q.val : ℝ) : EReal)

/-- The byte row that a lane of a block holds. -/
theorem rows_apply (hg : (ops m c).Good) (b : Fin 48) (g : Fin 28) (q : Fin 256) (l : Fin 128) (r : Fin 9088)
    (hr : 4 * ((ops m c).quad b ⟨q.val / 4, by omega⟩).toNat + q.val % 4 = r.val) :
    rowsOf ((ops m c).grp b g) (ix2 q l) = FloatOps.ofBits (F := Ideal) .fp8e4m3 (m ((c.tc : Thread nD τ).loc main_arg0) (ix2 r ⟨g.val * 128 + l.val, by omega⟩)) := by
  refine rowsOf_apply _ q l _ fun i hi => ?_
  have hq := hg.quad b ⟨q.val / 4, by omega⟩
  refine (codes_getLsbD m c (Fin.ofNat 2272 ((ops m c).quad b ⟨q.val / 4, by omega⟩).toNat) g l ⟨q.val % 4, by omega⟩ i hi).trans ?_
  have e : (⟨(Fin.ofNat 2272 ((ops m c).quad b ⟨q.val / 4, by omega⟩).toNat).val * 4 + q.val % 4, by omega⟩ : Fin 9088) = r := Fin.ext (by
    show ((ops m c).quad b ⟨q.val / 4, by omega⟩).toNat % 2272 * 4 + q.val % 4 = r.val
    rw [Nat.mod_eq_of_lt hq]; omega)
  exact congrArg (fun r : Fin 9088 => (m ((c.tc : Thread nD τ).loc main_arg0) (ix2 r ⟨g.val * 128 + l.val, by omega⟩)).getLsbD i) e

/-- One slot's part is its row's value times its coefficient. -/
theorem term_apply (hg : (ops m c).Good) (hl : Lanes (ops m c)) (b : Fin 48) (k : Fin 4) (t : Fin 32) (g : Fin 28) (l : Fin 128) :
    term ((ops m c).pV b) ((ops m c).cfV b) ((ops m c).grp b g) g l ⟨32 * k.val + t.val, by omega⟩
      = Number.value (m ((c.tc : Thread nD τ).loc main_arg0)) (m ((c.tc : Thread nD τ).loc main_arg3)) (tok b t) k ⟨g.val * 128 + l.val, by omega⟩
        * Number.coef (m ((c.tc : Thread nD τ).loc main_arg1)) (m ((c.tc : Thread nD τ).loc main_arg2)) (m ((c.tc : Thread nD τ).loc main_arg3)) (tok b t) k g := by
  obtain ⟨q, hq, hw⟩ := hl b t k
  have hrow : (ops m c).row b k t = m ((c.tc : Thread nD τ).loc main_arg3) (ix2 ⟨4 + k.val, by omega⟩ (tok b t)) := by
    show (ops m c).tab _ = _
    rw [ops_tab]
  have hlt := hg.row b k t
  unfold term
  refine congrArg₂ (fun a b : EReal => a * b) ?_ ?_
  · rw [Finset.sum_eq_single q]
    · rw [pV_apply, show (ops m c).p b k t q = (1 : EReal) from (oneHot_apply k _ t q).trans (if_pos hw),
        rows_apply m c hg b g q l (Number.row (m ((c.tc : Thread nD τ).loc main_arg3)) (tok b t) k) ?_]
      · exact one_mul _
      · rw [hq, hrow]
        rw [hrow] at hlt
        exact (Nat.mod_eq_of_lt hlt).symm
    · intro q' _ hne
      rw [pV_apply, show (ops m c).p b k t q' = (0 : EReal) from (oneHot_apply k _ t q').trans (if_neg fun h => hne (Number.lane_inj (h.symm.trans hw)))]
      exact zero_mul _
    · exact fun h => absurd (Finset.mem_univ _) h
  · rw [cfV_apply]
    refine (coefs_apply k _ _ t _).trans ?_
    unfold Number.coef
    refine congrArg₂ (fun a b : EReal => a * b) ?_ ?_
    · show (ops m c).srm (ix2 (Fin.ofNat 9088 ((ops m c).row b k t).toNat) _) = _
      rw [ops_srm, hrow]
      rfl
    · show (ops m c).pw (ix2 (tok b t) _) = _
      rw [ops_pw]
      rfl

/-- The kernel's result. -/
theorem res_apply (hg : (ops m c).Good) (hl : Lanes (ops m c)) (t : Fin 1536) (y : Fin 3584) : (ops m c).res (ix2 t y)
    = Number.total (m ((c.tc : Thread nD τ).loc main_arg0)) (m ((c.tc : Thread nD τ).loc main_arg1)) (m ((c.tc : Thread nD τ).loc main_arg2)) (m ((c.tc : Thread nD τ).loc main_arg3)) t y := by
  have ht : tok ⟨t.val / 32, by omega⟩ ⟨t.val % 32, by omega⟩ = t := Fin.ext (by show t.val / 32 * 32 + t.val % 32 = t.val; omega)
  show combined ((ops m c).pV ⟨t.val / 32, _⟩) ((ops m c).cfV ⟨t.val / 32, _⟩) ⟨y.val / 256, _⟩ ((ops m c).grp ⟨t.val / 32, _⟩ ⟨2 * (y.val / 256), _⟩)
    ((ops m c).grp ⟨t.val / 32, _⟩ ⟨2 * (y.val / 256) + 1, _⟩) (ix3 0 ⟨t.val % 32, _⟩ ⟨y.val % 256, _⟩) = _
  rw [combined_apply]
  unfold Number.total
  split
  · next h =>
    rw [sum4_fst]
    refine Finset.sum_congr rfl fun k _ => ?_
    rw [term_apply m c hg hl, ht]
    refine congrArg₂ (fun a b : EReal => a * b) (congrArg _ (Fin.ext ?_)) (congrArg _ (Fin.ext ?_))
    · show 2 * (y.val / 256) * 128 + y.val % 256 = y.val
      omega
    · show 2 * (y.val / 256) = y.val / 128
      change y.val % 256 < 128 at h
      omega
  · next h =>
    rw [sum4_snd]
    refine Finset.sum_congr rfl fun k _ => ?_
    rw [term_apply m c hg hl, ht]
    change ¬ y.val % 256 < 128 at h
    refine congrArg₂ (fun a b : EReal => a * b) (congrArg _ (Fin.ext ?_)) (congrArg _ (Fin.ext ?_))
    · show (2 * (y.val / 256) + 1) * 128 + (y.val % 256 - 128) = y.val
      omega
    · show 2 * (y.val / 256) + 1 = y.val / 128
      omega

end Cert.Hand
-- ==== Proof.lean ====
/- The claims of the certificate, assembled. -/
module

public import proofs.«01_k».proof.Proof.Gen.ReferenceIdeal.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_table_fits
public import proofs.«01_k».proof.Proof.Fit
public import proofs.«01_k».proof.Proof.Gen.Pre_rows_placed
public import proofs.«01_k».proof.Proof.Good
public import proofs.«01_k».proof.Proof.BitsGood
public import proofs.«01_k».proof.Proof.Placed
public import proofs.«01_k».proof.Proof.RefValue
public import proofs.«01_k».proof.Proof.Value

@[expose] public section

noncomputable section

namespace Cert.Proof

open Idealize.ShloMosaic Idealize.ShloMosaic.TcCoe Idealize.SL.Sem

/-- The printed kernel keeps its arguments and leaves every semaphore at zero. -/
theorem quiescent_bits : Cert.quiescent_Kernel := fun m g h =>
  (θ_run _ _ _).mono (fun _ r => ⟨fun c => (r.1 c).2, r.2⟩) (HandBits.run (m := m) g fun c => HandBits.good_of
    (by rw [HandBits.ops_tab]; exact Fit.fit_table _ _ _ _ (h c).1 (h c).2.1 (h c).2.2.1 (h c).2.2.2.1 (h c).2.2.2.2.1 (h c).2.2.2.2.2))

/-- So does the kernel over the extended reals. -/
theorem quiescent_ideal : Cert.quiescent_KernelIdeal := fun m g h =>
  (θ_run _ _ _).mono (fun _ r => ⟨fun c => (r.1 c).2, r.2⟩) (Hand.run (m := m) g fun c => Hand.good_of
    (by rw [Hand.ops_tab]; exact Fit.fit_table _ _ _ _ (h c).1 (h c).2.1 (h c).2.2.1 (h c).2.2.2.1 (h c).2.2.2.2.1 (h c).2.2.2.2.2))

/-- The same where moreover the rows are placed. -/
theorem quiescent_ideal_placed : Cert.quiescent_KernelIdeal_pre_rows_placed := fun m g h =>
  (θ_run _ _ _).mono (fun _ r => ⟨fun c => (r.1 c).2, r.2⟩) (Hand.run (m := m) g fun c => Hand.good_of
    (by rw [Hand.ops_tab]; exact Placed.placed_table _ _ _ _ (h c).1 (h c).2.1 (h c).2.2.1 (h c).2.2.2.1 (h c).2.2.2.2.1 (h c).2.2.2.2.2.1))

/-- Where the rows are placed, kernel and reference leave the same result: of each token, its four rows' values times their coefficients, summed. -/
theorem algebraic : Cert.algebraic_KernelIdeal_ReferenceIdeal_pre_rows_placed := fun m g m' g' h hm => by
  have hgood : ∀ c, (Hand.ops m c).Good := fun c => Hand.good_of
    (by rw [Hand.ops_tab]; exact Placed.placed_table _ _ _ _ (h c).1 (h c).2.1 (h c).2.2.1 (h c).2.2.2.1 (h c).2.2.2.2.1 (h c).2.2.2.2.2.1)
  have hlanes : ∀ c, Hand.Lanes (Hand.ops m c) := fun c b t k => by
    obtain ⟨q, hq, hw⟩ := Placed.placed_lane _ _ _ _ (Placed.placed_table _ _ _ _ (h c).1 (h c).2.1 (h c).2.2.1 (h c).2.2.2.1 (h c).2.2.2.2.1 (h c).2.2.2.2.2.1) (h c).2.2.2.2.2.2 (Hand.tok b t) k
    have hrow : (Hand.ops m c).row b k t = m ((c.tc : Thread Cert.KernelIdeal.nD Cert.KernelIdeal.τ).loc Cert.KernelIdeal.main_arg3) (ix2 ⟨4 + k.val, by omega⟩ (Hand.tok b t)) := by
      show (Hand.ops m c).tab _ = _
      rw [Hand.ops_tab]
    have hquad : (Hand.ops m c).quad b ⟨q.val / 4, by omega⟩ = m ((c.tc : Thread Cert.KernelIdeal.nD Cert.KernelIdeal.τ).loc Cert.KernelIdeal.main_arg3)
        (ix2 ⟨q.val / 4 / 32, by omega⟩ ⟨(Hand.tok b t).val / 32 * 32 + q.val / 4 % 32, by omega⟩) := by
      show (Hand.ops m c).tab (ix2 ⟨q.val / 4 / 32, _⟩ (Hand.tok b ⟨q.val / 4 % 32, _⟩)) = _
      rw [Hand.ops_tab]
      refine congrArg (fun x => m ((c.tc : Thread Cert.KernelIdeal.nD Cert.KernelIdeal.τ).loc Cert.KernelIdeal.main_arg3) (ix2 ⟨q.val / 4 / 32, by omega⟩ x)) (Fin.ext ?_)
      show b.val * 32 + q.val / 4 % 32 = (b.val * 32 + t.val) / 32 * 32 + q.val / 4 % 32
      omega
    refine ⟨q, ?_, ?_⟩
    · rw [hquad, hrow]
      exact hq
    · rw [Hand.ops_pw]
      exact hw
  refine ⟨fun c => (Hand.ops m c).res, (θ_run _ _ _).mono (fun _ r => r.1) (Hand.run (m := m) g hgood),
    (θ_run _ _ _).mono (fun _ r c => ⟨(r c).1.trans ?_, (r c).2⟩) (Cert.ReferenceIdeal.Value.run_blocks m' g')⟩
  have hr : ∀ (k : Fin 4) (t : Fin 1536), (m' ((c.tc : Thread Cert.ReferenceIdeal.nD Cert.ReferenceIdeal.τ).loc Cert.ReferenceIdeal.main_arg3) (ix2 ⟨4 + k.val, by omega⟩ t) : BitVec 32).toNat < 9088 := fun k t => by
    rw [(hm c).2.2.2]
    exact (Placed.placed_table _ _ _ _ (h c).1 (h c).2.1 (h c).2.2.1 (h c).2.2.2.1 (h c).2.2.2.2.1 (h c).2.2.2.2.2.1).row k t
  have key : ∀ (t : Fin 1536) (y : Fin 3584), (ReferenceIdeal.Gen.dats m' 0 c).arrAt 2 ReferenceIdeal.cfg0.N (ix2 t y) = (Hand.ops m c).res (ix2 t y) := fun t y => by
    refine (Ref.res_apply m' c hr t y).trans (Eq.trans ?_ (Hand.res_apply m c (hgood c) (hlanes c) t y).symm)
    rw [(hm c).1, (hm c).2.1, (hm c).2.2.1, (hm c).2.2.2]
  funext x
  have hx : x = ix2 (x 0) (x 1) := funext fun a => by fin_cases a <;> rfl
  rw [hx]
  exact key _ _

theorem claim : Cert.Claim := ⟨Cert.Kernel.Gen.facts, Cert.KernelIdeal.Gen.facts, Cert.ReferenceIdeal.Gen.facts, Cert.Pre_table_fits.Gen.facts, Cert.Pre_rows_placed.Gen.facts,
  quiescent_bits, quiescent_ideal, quiescent_ideal_placed, fun m g _ => Cert.ReferenceIdeal.Gen.frame m g, fun m g _ => Cert.ReferenceIdeal.Gen.frame m g, trivial, algebraic⟩

end Cert.Proof
